-- ==== Defs.lean ====
def Pre_Kernel [hPre_pre : Cert.Pre_pre.Facts] (m : (ℓ : Loc Cert.Kernel.nD Cert.Kernel.τ Cert.Kernel.sig) → Buf (Elt Bits) ℓ) : Prop :=
  ∀ c : Dev Cert.Kernel.nD,
    (Cert.Pre_pre.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_pre : Cert.Pre_pre.Facts] (m : (ℓ : Loc Cert.KernelIdeal.nD Cert.KernelIdeal.τ Cert.KernelIdeal.sig) → Buf (Elt Ideal) ℓ) : Prop :=
  ∀ c : Dev Cert.KernelIdeal.nD,
    (Cert.Pre_pre.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_Dense (m : (ℓ : Loc Cert.Dense.nD Cert.Dense.τ Cert.Dense.sig) → Buf (Elt Bits) ℓ) : Prop :=
  True

def Pre_DenseIdeal (m : (ℓ : Loc Cert.DenseIdeal.nD Cert.DenseIdeal.τ Cert.DenseIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Sparse [hPre_sparse_pre : Cert.Pre_sparse_pre.Facts] (m : (ℓ : Loc Cert.Sparse.nD Cert.Sparse.τ Cert.Sparse.sig) → Buf (Elt Bits) ℓ) : Prop :=
  ∀ c : Dev Cert.Sparse.nD,
    (Cert.Pre_sparse_pre.fn (F := Bits) (m ((c.tc : Thread Cert.Sparse.nD Cert.Sparse.τ).loc Cert.Sparse.main_arg0)) (m ((c.tc : Thread Cert.Sparse.nD Cert.Sparse.τ).loc Cert.Sparse.main_arg1)) (m ((c.tc : Thread Cert.Sparse.nD Cert.Sparse.τ).loc Cert.Sparse.main_arg2)) (m ((c.tc : Thread Cert.Sparse.nD Cert.Sparse.τ).loc Cert.Sparse.main_arg3))) = (fun _ => 1#1)

def Pre_SparseIdeal [hPre_sparse_pre : Cert.Pre_sparse_pre.Facts] (m : (ℓ : Loc Cert.SparseIdeal.nD Cert.SparseIdeal.τ Cert.SparseIdeal.sig) → Buf (Elt Ideal) ℓ) : Prop :=
  ∀ c : Dev Cert.SparseIdeal.nD,
    (Cert.Pre_sparse_pre.fn (F := Ideal) (m ((c.tc : Thread Cert.SparseIdeal.nD Cert.SparseIdeal.τ).loc Cert.SparseIdeal.main_arg0)) (m ((c.tc : Thread Cert.SparseIdeal.nD Cert.SparseIdeal.τ).loc Cert.SparseIdeal.main_arg1)) (m ((c.tc : Thread Cert.SparseIdeal.nD Cert.SparseIdeal.τ).loc Cert.SparseIdeal.main_arg2)) (m ((c.tc : Thread Cert.SparseIdeal.nD Cert.SparseIdeal.τ).loc Cert.SparseIdeal.main_arg3))) = (fun _ => 1#1)

def Pre_SumsIdeal [hPre_sparse_pre : Cert.Pre_sparse_pre.Facts] (m : (ℓ : Loc Cert.SumsIdeal.nD Cert.SumsIdeal.τ Cert.SumsIdeal.sig) → Buf (Elt Ideal) ℓ) : Prop :=
  ∀ c : Dev Cert.SumsIdeal.nD,
    (Cert.Pre_sparse_pre.fn (F := Ideal) (m ((c.tc : Thread Cert.SumsIdeal.nD Cert.SumsIdeal.τ).loc Cert.SumsIdeal.main_arg0)) (m ((c.tc : Thread Cert.SumsIdeal.nD Cert.SumsIdeal.τ).loc Cert.SumsIdeal.main_arg1)) (m ((c.tc : Thread Cert.SumsIdeal.nD Cert.SumsIdeal.τ).loc Cert.SumsIdeal.main_arg2)) (m ((c.tc : Thread Cert.SumsIdeal.nD Cert.SumsIdeal.τ).loc Cert.SumsIdeal.main_arg3))) = (fun _ => 1#1)

def quiescent_Kernel [hKernel : Cert.Kernel.Facts] [hPre_pre : Cert.Pre_pre.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] [hPre_pre : Cert.Pre_pre.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_Dense [hDense : Cert.Dense.Facts] : Prop :=
  ∀ (m : (ℓ : Loc Cert.Dense.nD Cert.Dense.τ Cert.Dense.sig) → Buf (Elt Bits) ℓ) (g : Dev Cert.Dense.nD → PrngReg), Pre_Dense m →
    θ_run (Cert.Dense.defs (F := Bits)) (onTc (τ := Cert.Dense.τ) (Cert.Dense.main (F := Bits))) ⟨m, fun _ => 0, g⟩ (fun r => (∀ c : Dev Cert.Dense.nD,
      r.2.mem ((c.tc : Thread Cert.Dense.nD Cert.Dense.τ).loc Cert.Dense.main_arg0) = m ((c.tc : Thread Cert.Dense.nD Cert.Dense.τ).loc Cert.Dense.main_arg0)
      ∧ r.2.mem ((c.tc : Thread Cert.Dense.nD Cert.Dense.τ).loc Cert.Dense.main_arg1) = m ((c.tc : Thread Cert.Dense.nD Cert.Dense.τ).loc Cert.Dense.main_arg1)
      ∧ r.2.mem ((c.tc : Thread Cert.Dense.nD Cert.Dense.τ).loc Cert.Dense.main_arg2) = m ((c.tc : Thread Cert.Dense.nD Cert.Dense.τ).loc Cert.Dense.main_arg2)
      ∧ r.2.mem ((c.tc : Thread Cert.Dense.nD Cert.Dense.τ).loc Cert.Dense.main_arg3) = m ((c.tc : Thread Cert.Dense.nD Cert.Dense.τ).loc Cert.Dense.main_arg3))
      ∧ r.2.sem = fun _ => 0)

def quiescent_DenseIdeal [hDenseIdeal : Cert.DenseIdeal.Facts] : Prop :=
  ∀ (m : (ℓ : Loc Cert.DenseIdeal.nD Cert.DenseIdeal.τ Cert.DenseIdeal.sig) → Buf (Elt Ideal) ℓ) (g : Dev Cert.DenseIdeal.nD → PrngReg), Pre_DenseIdeal m →
    θ_run (Cert.DenseIdeal.defs (F := Ideal)) (onTc (τ := Cert.DenseIdeal.τ) (Cert.DenseIdeal.main (F := Ideal))) ⟨m, fun _ => 0, g⟩ (fun r => (∀ c : Dev Cert.DenseIdeal.nD,
      r.2.mem ((c.tc : Thread Cert.DenseIdeal.nD Cert.DenseIdeal.τ).loc Cert.DenseIdeal.main_arg0) = m ((c.tc : Thread Cert.DenseIdeal.nD Cert.DenseIdeal.τ).loc Cert.DenseIdeal.main_arg0)
      ∧ r.2.mem ((c.tc : Thread Cert.DenseIdeal.nD Cert.DenseIdeal.τ).loc Cert.DenseIdeal.main_arg1) = m ((c.tc : Thread Cert.DenseIdeal.nD Cert.DenseIdeal.τ).loc Cert.DenseIdeal.main_arg1)
      ∧ r.2.mem ((c.tc : Thread Cert.DenseIdeal.nD Cert.DenseIdeal.τ).loc Cert.DenseIdeal.main_arg2) = m ((c.tc : Thread Cert.DenseIdeal.nD Cert.DenseIdeal.τ).loc Cert.DenseIdeal.main_arg2)
      ∧ r.2.mem ((c.tc : Thread Cert.DenseIdeal.nD Cert.DenseIdeal.τ).loc Cert.DenseIdeal.main_arg3) = m ((c.tc : Thread Cert.DenseIdeal.nD Cert.DenseIdeal.τ).loc Cert.DenseIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Sparse [hSparse : Cert.Sparse.Facts] [hPre_sparse_pre : Cert.Pre_sparse_pre.Facts] : Prop :=
  ∀ (m : (ℓ : Loc Cert.Sparse.nD Cert.Sparse.τ Cert.Sparse.sig) → Buf (Elt Bits) ℓ) (g : Dev Cert.Sparse.nD → PrngReg), Pre_Sparse m →
    θ_run (Cert.Sparse.defs (F := Bits)) (onTc (τ := Cert.Sparse.τ) (Cert.Sparse.main (F := Bits))) ⟨m, fun _ => 0, g⟩ (fun r => (∀ c : Dev Cert.Sparse.nD,
      r.2.mem ((c.tc : Thread Cert.Sparse.nD Cert.Sparse.τ).loc Cert.Sparse.main_arg0) = m ((c.tc : Thread Cert.Sparse.nD Cert.Sparse.τ).loc Cert.Sparse.main_arg0)
      ∧ r.2.mem ((c.tc : Thread Cert.Sparse.nD Cert.Sparse.τ).loc Cert.Sparse.main_arg1) = m ((c.tc : Thread Cert.Sparse.nD Cert.Sparse.τ).loc Cert.Sparse.main_arg1)
      ∧ r.2.mem ((c.tc : Thread Cert.Sparse.nD Cert.Sparse.τ).loc Cert.Sparse.main_arg2) = m ((c.tc : Thread Cert.Sparse.nD Cert.Sparse.τ).loc Cert.Sparse.main_arg2)
      ∧ r.2.mem ((c.tc : Thread Cert.Sparse.nD Cert.Sparse.τ).loc Cert.Sparse.main_arg3) = m ((c.tc : Thread Cert.Sparse.nD Cert.Sparse.τ).loc Cert.Sparse.main_arg3))
      ∧ r.2.sem = fun _ => 0)

def quiescent_SparseIdeal [hSparseIdeal : Cert.SparseIdeal.Facts] [hPre_sparse_pre : Cert.Pre_sparse_pre.Facts] : Prop :=
  ∀ (m : (ℓ : Loc Cert.SparseIdeal.nD Cert.SparseIdeal.τ Cert.SparseIdeal.sig) → Buf (Elt Ideal) ℓ) (g : Dev Cert.SparseIdeal.nD → PrngReg), Pre_SparseIdeal m →
    θ_run (Cert.SparseIdeal.defs (F := Ideal)) (onTc (τ := Cert.SparseIdeal.τ) (Cert.SparseIdeal.main (F := Ideal))) ⟨m, fun _ => 0, g⟩ (fun r => (∀ c : Dev Cert.SparseIdeal.nD,
      r.2.mem ((c.tc : Thread Cert.SparseIdeal.nD Cert.SparseIdeal.τ).loc Cert.SparseIdeal.main_arg0) = m ((c.tc : Thread Cert.SparseIdeal.nD Cert.SparseIdeal.τ).loc Cert.SparseIdeal.main_arg0)
      ∧ r.2.mem ((c.tc : Thread Cert.SparseIdeal.nD Cert.SparseIdeal.τ).loc Cert.SparseIdeal.main_arg1) = m ((c.tc : Thread Cert.SparseIdeal.nD Cert.SparseIdeal.τ).loc Cert.SparseIdeal.main_arg1)
      ∧ r.2.mem ((c.tc : Thread Cert.SparseIdeal.nD Cert.SparseIdeal.τ).loc Cert.SparseIdeal.main_arg2) = m ((c.tc : Thread Cert.SparseIdeal.nD Cert.SparseIdeal.τ).loc Cert.SparseIdeal.main_arg2)
      ∧ r.2.mem ((c.tc : Thread Cert.SparseIdeal.nD Cert.SparseIdeal.τ).loc Cert.SparseIdeal.main_arg3) = m ((c.tc : Thread Cert.SparseIdeal.nD Cert.SparseIdeal.τ).loc Cert.SparseIdeal.main_arg3))
      ∧ r.2.sem = fun _ => 0)

def quiescent_SumsIdeal [hSumsIdeal : Cert.SumsIdeal.Facts] [hPre_sparse_pre : Cert.Pre_sparse_pre.Facts] : Prop :=
  ∀ (m : (ℓ : Loc Cert.SumsIdeal.nD Cert.SumsIdeal.τ Cert.SumsIdeal.sig) → Buf (Elt Ideal) ℓ) (g : Dev Cert.SumsIdeal.nD → PrngReg), Pre_SumsIdeal m →
    θ_run (Cert.SumsIdeal.defs (F := Ideal)) (onTc (τ := Cert.SumsIdeal.τ) (Cert.SumsIdeal.main (F := Ideal))) ⟨m, fun _ => 0, g⟩ (fun r => (∀ c : Dev Cert.SumsIdeal.nD,
      r.2.mem ((c.tc : Thread Cert.SumsIdeal.nD Cert.SumsIdeal.τ).loc Cert.SumsIdeal.main_arg0) = m ((c.tc : Thread Cert.SumsIdeal.nD Cert.SumsIdeal.τ).loc Cert.SumsIdeal.main_arg0)
      ∧ r.2.mem ((c.tc : Thread Cert.SumsIdeal.nD Cert.SumsIdeal.τ).loc Cert.SumsIdeal.main_arg1) = m ((c.tc : Thread Cert.SumsIdeal.nD Cert.SumsIdeal.τ).loc Cert.SumsIdeal.main_arg1)
      ∧ r.2.mem ((c.tc : Thread Cert.SumsIdeal.nD Cert.SumsIdeal.τ).loc Cert.SumsIdeal.main_arg2) = m ((c.tc : Thread Cert.SumsIdeal.nD Cert.SumsIdeal.τ).loc Cert.SumsIdeal.main_arg2)
      ∧ r.2.mem ((c.tc : Thread Cert.SumsIdeal.nD Cert.SumsIdeal.τ).loc Cert.SumsIdeal.main_arg3) = m ((c.tc : Thread Cert.SumsIdeal.nD Cert.SumsIdeal.τ).loc Cert.SumsIdeal.main_arg3))
      ∧ r.2.sem = fun _ => 0)

def preserves_Kernel_KernelIdeal : Prop :=
  True

def preserves_Dense_DenseIdeal : Prop :=
  True

def algebraic_DenseIdeal_ReferenceIdeal [hDenseIdeal : Cert.DenseIdeal.Facts] [hReferenceIdeal : Cert.ReferenceIdeal.Facts] : Prop :=
  ∀ (m : (ℓ : Loc Cert.DenseIdeal.nD Cert.DenseIdeal.τ Cert.DenseIdeal.sig) → Buf (Elt Ideal) ℓ) (g : Dev Cert.DenseIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_DenseIdeal m →
    (∀ c : Dev Cert.DenseIdeal.nD,
      m' ((c.tc : Thread Cert.ReferenceIdeal.nD Cert.ReferenceIdeal.τ).loc Cert.ReferenceIdeal.main_arg0) = m ((c.tc : Thread Cert.DenseIdeal.nD Cert.DenseIdeal.τ).loc Cert.DenseIdeal.main_arg0)
      ∧ m' ((c.tc : Thread Cert.ReferenceIdeal.nD Cert.ReferenceIdeal.τ).loc Cert.ReferenceIdeal.main_arg1) = m ((c.tc : Thread Cert.DenseIdeal.nD Cert.DenseIdeal.τ).loc Cert.DenseIdeal.main_arg1)
      ∧ m' ((c.tc : Thread Cert.ReferenceIdeal.nD Cert.ReferenceIdeal.τ).loc Cert.ReferenceIdeal.main_arg2) = m ((c.tc : Thread Cert.DenseIdeal.nD Cert.DenseIdeal.τ).loc Cert.DenseIdeal.main_arg2)
      ∧ m' ((c.tc : Thread Cert.ReferenceIdeal.nD Cert.ReferenceIdeal.τ).loc Cert.ReferenceIdeal.main_arg3) = m ((c.tc : Thread Cert.DenseIdeal.nD Cert.DenseIdeal.τ).loc Cert.DenseIdeal.main_arg3)) →
    ∃ (v0 : (c : Dev Cert.DenseIdeal.nD) → Buf (Elt Ideal) ((c.tc : Thread Cert.DenseIdeal.nD Cert.DenseIdeal.τ).loc Cert.DenseIdeal.main_v5)),
      θ_run (Cert.DenseIdeal.defs (F := Ideal)) (onTc (τ := Cert.DenseIdeal.τ) (Cert.DenseIdeal.main (F := Ideal))) ⟨m, fun _ => 0, g⟩ (fun r => ∀ c : Dev Cert.DenseIdeal.nD,
          r.2.mem ((c.tc : Thread Cert.DenseIdeal.nD Cert.DenseIdeal.τ).loc Cert.DenseIdeal.main_v5) = v0 c
          ∧ r.2.mem ((c.tc : Thread Cert.DenseIdeal.nD Cert.DenseIdeal.τ).loc Cert.DenseIdeal.main_arg0) = m ((c.tc : Thread Cert.DenseIdeal.nD Cert.DenseIdeal.τ).loc Cert.DenseIdeal.main_arg0)
          ∧ r.2.mem ((c.tc : Thread Cert.DenseIdeal.nD Cert.DenseIdeal.τ).loc Cert.DenseIdeal.main_arg1) = m ((c.tc : Thread Cert.DenseIdeal.nD Cert.DenseIdeal.τ).loc Cert.DenseIdeal.main_arg1)
          ∧ r.2.mem ((c.tc : Thread Cert.DenseIdeal.nD Cert.DenseIdeal.τ).loc Cert.DenseIdeal.main_arg2) = m ((c.tc : Thread Cert.DenseIdeal.nD Cert.DenseIdeal.τ).loc Cert.DenseIdeal.main_arg2)
          ∧ r.2.mem ((c.tc : Thread Cert.DenseIdeal.nD Cert.DenseIdeal.τ).loc Cert.DenseIdeal.main_arg3) = m ((c.tc : Thread Cert.DenseIdeal.nD Cert.DenseIdeal.τ).loc Cert.DenseIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v83) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Sparse_SparseIdeal : Prop :=
  True

def algebraic_SparseIdeal_SumsIdeal [hSparseIdeal : Cert.SparseIdeal.Facts] [hSumsIdeal : Cert.SumsIdeal.Facts] [hPre_sparse_pre : Cert.Pre_sparse_pre.Facts] : Prop :=
  ∀ (m : (ℓ : Loc Cert.SparseIdeal.nD Cert.SparseIdeal.τ Cert.SparseIdeal.sig) → Buf (Elt Ideal) ℓ) (g : Dev Cert.SparseIdeal.nD → PrngReg)
    (m' : (ℓ : Loc Cert.SumsIdeal.nD Cert.SumsIdeal.τ Cert.SumsIdeal.sig) → Buf (Elt Ideal) ℓ) (g' : Dev Cert.SumsIdeal.nD → PrngReg), Pre_SparseIdeal m →
    (∀ c : Dev Cert.SparseIdeal.nD,
      m' ((c.tc : Thread Cert.SumsIdeal.nD Cert.SumsIdeal.τ).loc Cert.SumsIdeal.main_arg0) = m ((c.tc : Thread Cert.SparseIdeal.nD Cert.SparseIdeal.τ).loc Cert.SparseIdeal.main_arg0)
      ∧ m' ((c.tc : Thread Cert.SumsIdeal.nD Cert.SumsIdeal.τ).loc Cert.SumsIdeal.main_arg1) = m ((c.tc : Thread Cert.SparseIdeal.nD Cert.SparseIdeal.τ).loc Cert.SparseIdeal.main_arg1)
      ∧ m' ((c.tc : Thread Cert.SumsIdeal.nD Cert.SumsIdeal.τ).loc Cert.SumsIdeal.main_arg2) = m ((c.tc : Thread Cert.SparseIdeal.nD Cert.SparseIdeal.τ).loc Cert.SparseIdeal.main_arg2)
      ∧ m' ((c.tc : Thread Cert.SumsIdeal.nD Cert.SumsIdeal.τ).loc Cert.SumsIdeal.main_arg3) = m ((c.tc : Thread Cert.SparseIdeal.nD Cert.SparseIdeal.τ).loc Cert.SparseIdeal.main_arg3)) →
    ∃ (v0 : (c : Dev Cert.SparseIdeal.nD) → Buf (Elt Ideal) ((c.tc : Thread Cert.SparseIdeal.nD Cert.SparseIdeal.τ).loc Cert.SparseIdeal.main_v11)),
      θ_run (Cert.SparseIdeal.defs (F := Ideal)) (onTc (τ := Cert.SparseIdeal.τ) (Cert.SparseIdeal.main (F := Ideal))) ⟨m, fun _ => 0, g⟩ (fun r => ∀ c : Dev Cert.SparseIdeal.nD,
          r.2.mem ((c.tc : Thread Cert.SparseIdeal.nD Cert.SparseIdeal.τ).loc Cert.SparseIdeal.main_v11) = v0 c
          ∧ r.2.mem ((c.tc : Thread Cert.SparseIdeal.nD Cert.SparseIdeal.τ).loc Cert.SparseIdeal.main_arg0) = m ((c.tc : Thread Cert.SparseIdeal.nD Cert.SparseIdeal.τ).loc Cert.SparseIdeal.main_arg0)
          ∧ r.2.mem ((c.tc : Thread Cert.SparseIdeal.nD Cert.SparseIdeal.τ).loc Cert.SparseIdeal.main_arg1) = m ((c.tc : Thread Cert.SparseIdeal.nD Cert.SparseIdeal.τ).loc Cert.SparseIdeal.main_arg1)
          ∧ r.2.mem ((c.tc : Thread Cert.SparseIdeal.nD Cert.SparseIdeal.τ).loc Cert.SparseIdeal.main_arg2) = m ((c.tc : Thread Cert.SparseIdeal.nD Cert.SparseIdeal.τ).loc Cert.SparseIdeal.main_arg2)
          ∧ r.2.mem ((c.tc : Thread Cert.SparseIdeal.nD Cert.SparseIdeal.τ).loc Cert.SparseIdeal.main_arg3) = m ((c.tc : Thread Cert.SparseIdeal.nD Cert.SparseIdeal.τ).loc Cert.SparseIdeal.main_arg3))
      ∧ θ_run (Cert.SumsIdeal.defs (F := Ideal)) (onTc (τ := Cert.SumsIdeal.τ) (Cert.SumsIdeal.main (F := Ideal))) ⟨m', fun _ => 0, g'⟩ (fun r => ∀ c : Dev Cert.SumsIdeal.nD,
          r.2.mem ((c.tc : Thread Cert.SumsIdeal.nD Cert.SumsIdeal.τ).loc Cert.SumsIdeal.main_v29) = v0 c
          ∧ r.2.mem ((c.tc : Thread Cert.SumsIdeal.nD Cert.SumsIdeal.τ).loc Cert.SumsIdeal.main_arg0) = m' ((c.tc : Thread Cert.SumsIdeal.nD Cert.SumsIdeal.τ).loc Cert.SumsIdeal.main_arg0)
          ∧ r.2.mem ((c.tc : Thread Cert.SumsIdeal.nD Cert.SumsIdeal.τ).loc Cert.SumsIdeal.main_arg1) = m' ((c.tc : Thread Cert.SumsIdeal.nD Cert.SumsIdeal.τ).loc Cert.SumsIdeal.main_arg1)
          ∧ r.2.mem ((c.tc : Thread Cert.SumsIdeal.nD Cert.SumsIdeal.τ).loc Cert.SumsIdeal.main_arg2) = m' ((c.tc : Thread Cert.SumsIdeal.nD Cert.SumsIdeal.τ).loc Cert.SumsIdeal.main_arg2)
          ∧ r.2.mem ((c.tc : Thread Cert.SumsIdeal.nD Cert.SumsIdeal.τ).loc Cert.SumsIdeal.main_arg3) = m' ((c.tc : Thread Cert.SumsIdeal.nD Cert.SumsIdeal.τ).loc Cert.SumsIdeal.main_arg3))

def Claim : Prop :=
  ∃ (hKernel : Cert.Kernel.Facts) (hKernelIdeal : Cert.KernelIdeal.Facts) (hDense : Cert.Dense.Facts) (hDenseIdeal : Cert.DenseIdeal.Facts) (hReferenceIdeal : Cert.ReferenceIdeal.Facts) (hSparse : Cert.Sparse.Facts) (hSparseIdeal : Cert.SparseIdeal.Facts) (hSumsIdeal : Cert.SumsIdeal.Facts) (hPre_pre : Cert.Pre_pre.Facts) (hPre_sparse_pre : Cert.Pre_sparse_pre.Facts),
    quiescent_Kernel (hKernel := hKernel) (hPre_pre := hPre_pre)
    ∧ quiescent_KernelIdeal (hKernelIdeal := hKernelIdeal) (hPre_pre := hPre_pre)
    ∧ quiescent_Dense (hDense := hDense)
    ∧ quiescent_DenseIdeal (hDenseIdeal := hDenseIdeal)
    ∧ quiescent_ReferenceIdeal (hReferenceIdeal := hReferenceIdeal)
    ∧ quiescent_Sparse (hSparse := hSparse) (hPre_sparse_pre := hPre_sparse_pre)
    ∧ quiescent_SparseIdeal (hSparseIdeal := hSparseIdeal) (hPre_sparse_pre := hPre_sparse_pre)
    ∧ quiescent_SumsIdeal (hSumsIdeal := hSumsIdeal) (hPre_sparse_pre := hPre_sparse_pre)
    ∧ preserves_Kernel_KernelIdeal
    ∧ preserves_Dense_DenseIdeal
    ∧ algebraic_DenseIdeal_ReferenceIdeal (hDenseIdeal := hDenseIdeal) (hReferenceIdeal := hReferenceIdeal)
    ∧ preserves_Sparse_SparseIdeal
    ∧ algebraic_SparseIdeal_SumsIdeal (hSparseIdeal := hSparseIdeal) (hSumsIdeal := hSumsIdeal) (hPre_sparse_pre := hPre_sparse_pre)
-- ==== Pre_pre.lean ====
abbrev S5x384x1536 : Shape := ⟨3, ![5, 384, 1536]⟩
abbrev S768x8960 : Shape := ⟨2, ![768, 8960]⟩
abbrev S8960x16 : Shape := ⟨2, ![8960, 16]⟩
abbrev S8961 : Shape := ⟨1, ![8961]⟩
abbrev S61931 : Shape := ⟨1, ![61931]⟩
abbrev S_ : Shape := ⟨0, ![]⟩
abbrev S8960 : Shape := ⟨1, ![8960]⟩

class Facts : Prop where
  bcast_S_S8961 : S_.BroadcastsInDim S8961 (![] : Fin 0 → Fin S8961.rank)
  reducesTo_S8961_S_d0 : S8961.ReducesTo [0] S_
  h_S_ : 0 < S_.numel
  slices_S8961_S8960_0 : S8961.Slices ![0] S8960
  slices_S8961_S8960_1 : S8961.Slices ![1] S8960
  reducesTo_S8960_S_d0 : S8960.ReducesTo [0] S_
  bcast_S_S61931 : S_.BroadcastsInDim S61931 (![] : Fin 0 → Fin S61931.rank)
  reducesTo_S61931_S_d0 : S61931.ReducesTo [0] S_

variable [Facts]

def fn_part1 {F : FTy → Type} [FloatOps F] (main_arg4 : IVec S61931 32) (main_v15 : IVec S_ 1) (main_c_6 : IVec S_ 32) : IVec S_ 1 :=
  let main_v16 : IVec S61931 32 := broadcastInDim S61931 ![] bcast_S_S61931 main_c_6
  let main_v17 : IVec S61931 1 := cmpi .slt main_arg4 main_v16
  let main_c_7 : IVec S_ 1 := constantI S_ 1 1#1
  let main_v18 : IVec S_ 1 := (fun x v => Host.reduce IntOp.andi x v reducesTo_S61931_S_d0 h_S_) main_v17 main_c_7
  let main_v19 : IVec S_ 1 := andi main_v15 main_v18
  main_v19

def fn {F : FTy → Type} [FloatOps F] (main_arg0 : IVec S5x384x1536 16) (main_arg1 : IVec S768x8960 8) (main_arg2 : IVec S8960x16 16) (main_arg3 : IVec S8961 32) (main_arg4 : IVec S61931 32) (main_arg5 : IVec S61931 16) : IVec S_ 1 :=
  let main_c : IVec S_ 32 := constantI S_ 32 0#32
  let main_v0 : IVec S8961 32 := broadcastInDim S8961 ![] bcast_S_S8961 main_c
  let main_v1 : IVec S8961 1 := cmpi .sge main_arg3 main_v0
  let main_c_0 : IVec S_ 1 := constantI S_ 1 1#1
  let main_v2 : IVec S_ 1 := (fun x v => Host.reduce IntOp.andi x v reducesTo_S8961_S_d0 h_S_) main_v1 main_c_0
  let main_c_1 : IVec S_ 32 := constantI S_ 32 61931#32
  let main_v3 : IVec S8961 32 := broadcastInDim S8961 ![] bcast_S_S8961 main_c_1
  let main_v4 : IVec S8961 1 := cmpi .sle main_arg3 main_v3
  let main_c_2 : IVec S_ 1 := constantI S_ 1 1#1
  let main_v5 : IVec S_ 1 := (fun x v => Host.reduce IntOp.andi x v reducesTo_S8961_S_d0 h_S_) main_v4 main_c_2
  let main_v6 : IVec S_ 1 := andi main_v2 main_v5
  let main_v7 : IVec S8960 32 := (extractStridedSlice S8960 ![0] · slices_S8961_S8960_0) main_arg3
  let main_v8 : IVec S8960 32 := (extractStridedSlice S8960 ![1] · slices_S8961_S8960_1) main_arg3
  let main_v9 : IVec S8960 1 := cmpi .sle main_v7 main_v8
  let main_c_3 : IVec S_ 1 := constantI S_ 1 1#1
  let main_v10 : IVec S_ 1 := (fun x v => Host.reduce IntOp.andi x v reducesTo_S8960_S_d0 h_S_) main_v9 main_c_3
  let main_v11 : IVec S_ 1 := andi main_v6 main_v10
  let main_c_4 : IVec S_ 32 := constantI S_ 32 0#32
  let main_v12 : IVec S61931 32 := broadcastInDim S61931 ![] bcast_S_S61931 main_c_4
  let main_v13 : IVec S61931 1 := cmpi .sge main_arg4 main_v12
  let main_c_5 : IVec S_ 1 := constantI S_ 1 1#1
  let main_v14 : IVec S_ 1 := (fun x v => Host.reduce IntOp.andi x v reducesTo_S61931_S_d0 h_S_) main_v13 main_c_5
  let main_v15 : IVec S_ 1 := andi main_v11 main_v14
  let main_c_6 : IVec S_ 32 := constantI S_ 32 1536#32
  fn_part1 (F := F) main_arg4 main_v15 main_c_6
-- ==== Pre_sparse_pre.lean ====
abbrev S5x384x1536 : Shape := ⟨3, ![5, 384, 1536]⟩
abbrev S8961 : Shape := ⟨1, ![8961]⟩
abbrev S61931 : Shape := ⟨1, ![61931]⟩
abbrev S_ : Shape := ⟨0, ![]⟩
abbrev S8960 : Shape := ⟨1, ![8960]⟩

class Facts : Prop where
  bcast_S_S8961 : S_.BroadcastsInDim S8961 (![] : Fin 0 → Fin S8961.rank)
  reducesTo_S8961_S_d0 : S8961.ReducesTo [0] S_
  h_S_ : 0 < S_.numel
  slices_S8961_S8960_0 : S8961.Slices ![0] S8960
  slices_S8961_S8960_1 : S8961.Slices ![1] S8960
  reducesTo_S8960_S_d0 : S8960.ReducesTo [0] S_
  bcast_S_S61931 : S_.BroadcastsInDim S61931 (![] : Fin 0 → Fin S61931.rank)
  reducesTo_S61931_S_d0 : S61931.ReducesTo [0] S_

variable [Facts]

def fn_part1 {F : FTy → Type} [FloatOps F] (main_arg2 : IVec S61931 32) (main_v15 : IVec S_ 1) (main_c_6 : IVec S_ 32) : IVec S_ 1 :=
  let main_v16 : IVec S61931 32 := broadcastInDim S61931 ![] bcast_S_S61931 main_c_6
  let main_v17 : IVec S61931 1 := cmpi .slt main_arg2 main_v16
  let main_c_7 : IVec S_ 1 := constantI S_ 1 1#1
  let main_v18 : IVec S_ 1 := (fun x v => Host.reduce IntOp.andi x v reducesTo_S61931_S_d0 h_S_) main_v17 main_c_7
  let main_v19 : IVec S_ 1 := andi main_v15 main_v18
  main_v19

def fn {F : FTy → Type} [FloatOps F] (main_arg0 : IVec S5x384x1536 16) (main_arg1 : IVec S8961 32) (main_arg2 : IVec S61931 32) (main_arg3 : IVec S61931 16) : IVec S_ 1 :=
  let main_c : IVec S_ 32 := constantI S_ 32 0#32
  let main_v0 : IVec S8961 32 := broadcastInDim S8961 ![] bcast_S_S8961 main_c
  let main_v1 : IVec S8961 1 := cmpi .sge main_arg1 main_v0
  let main_c_0 : IVec S_ 1 := constantI S_ 1 1#1
  let main_v2 : IVec S_ 1 := (fun x v => Host.reduce IntOp.andi x v reducesTo_S8961_S_d0 h_S_) main_v1 main_c_0
  let main_c_1 : IVec S_ 32 := constantI S_ 32 61931#32
  let main_v3 : IVec S8961 32 := broadcastInDim S8961 ![] bcast_S_S8961 main_c_1
  let main_v4 : IVec S8961 1 := cmpi .sle main_arg1 main_v3
  let main_c_2 : IVec S_ 1 := constantI S_ 1 1#1
  let main_v5 : IVec S_ 1 := (fun x v => Host.reduce IntOp.andi x v reducesTo_S8961_S_d0 h_S_) main_v4 main_c_2
  let main_v6 : IVec S_ 1 := andi main_v2 main_v5
  let main_v7 : IVec S8960 32 := (extractStridedSlice S8960 ![0] · slices_S8961_S8960_0) main_arg1
  let main_v8 : IVec S8960 32 := (extractStridedSlice S8960 ![1] · slices_S8961_S8960_1) main_arg1
  let main_v9 : IVec S8960 1 := cmpi .sle main_v7 main_v8
  let main_c_3 : IVec S_ 1 := constantI S_ 1 1#1
  let main_v10 : IVec S_ 1 := (fun x v => Host.reduce IntOp.andi x v reducesTo_S8960_S_d0 h_S_) main_v9 main_c_3
  let main_v11 : IVec S_ 1 := andi main_v6 main_v10
  let main_c_4 : IVec S_ 32 := constantI S_ 32 0#32
  let main_v12 : IVec S61931 32 := broadcastInDim S61931 ![] bcast_S_S61931 main_c_4
  let main_v13 : IVec S61931 1 := cmpi .sge main_arg2 main_v12
  let main_c_5 : IVec S_ 1 := constantI S_ 1 1#1
  let main_v14 : IVec S_ 1 := (fun x v => Host.reduce IntOp.andi x v reducesTo_S61931_S_d0 h_S_) main_v13 main_c_5
  let main_v15 : IVec S_ 1 := andi main_v11 main_v14
  let main_c_6 : IVec S_ 32 := constantI S_ 32 1536#32
  fn_part1 (F := F) main_arg2 main_v15 main_c_6
-- ==== Kernel.lean ====
abbrev S5x384x1536 : Shape := ⟨3, ![5, 384, 1536]⟩
abbrev S768x8960 : Shape := ⟨2, ![768, 8960]⟩
abbrev S8960x16 : Shape := ⟨2, ![8960, 16]⟩
abbrev S8961 : Shape := ⟨1, ![8961]⟩
abbrev S61931 : Shape := ⟨1, ![61931]⟩
abbrev S1920x1536 : Shape := ⟨2, ![1920, 1536]⟩
abbrev S_ : Shape := ⟨0, ![]⟩
abbrev S65024 : Shape := ⟨1, ![65024]⟩
abbrev S254x32x8 : Shape := ⟨3, ![254, 32, 8]⟩
abbrev S254x8x32 : Shape := ⟨3, ![254, 8, 32]⟩
abbrev S2032x32 : Shape := ⟨2, ![2032, 32]⟩
abbrev S16x8960 : Shape := ⟨2, ![16, 8960]⟩
abbrev S8x2x8960 : Shape := ⟨3, ![8, 2, 8960]⟩
abbrev S8x8960x2 : Shape := ⟨3, ![8, 8960, 2]⟩
abbrev S8x8960 : Shape := ⟨2, ![8, 8960]⟩
abbrev S8960 : Shape := ⟨1, ![8960]⟩
abbrev S280x32 : Shape := ⟨2, ![280, 32]⟩
abbrev S32 : Shape := ⟨1, ![32]⟩
abbrev S1x32 : Shape := ⟨2, ![1, 32]⟩
abbrev S280 : Shape := ⟨1, ![280]⟩
abbrev S1920x8960 : Shape := ⟨2, ![1920, 8960]⟩
abbrev S768x256 : Shape := ⟨2, ![768, 256]⟩
abbrev S8x256 : Shape := ⟨2, ![8, 256]⟩
abbrev S1920x256 : Shape := ⟨2, ![1920, 256]⟩
abbrev S12288x128 : Shape := ⟨2, ![12288, 128]⟩
abbrev S1536x256 : Shape := ⟨2, ![1536, 256]⟩
abbrev S8704x128 : Shape := ⟨2, ![8704, 128]⟩
abbrev S8224x128 : Shape := ⟨2, ![8224, 128]⟩
abbrev S1 : Shape := ⟨1, ![1]⟩
abbrev S128x128 : Shape := ⟨2, ![128, 128]⟩
abbrev S8x32 : Shape := ⟨2, ![8, 32]⟩
abbrev S8x1 : Shape := ⟨2, ![8, 1]⟩
abbrev S8x128 : Shape := ⟨2, ![8, 128]⟩
abbrev S32x128 : Shape := ⟨2, ![32, 128]⟩
abbrev S8x128x1 : Shape := ⟨3, ![8, 128, 1]⟩
abbrev S61932 : Shape := ⟨1, ![61932]⟩
abbrev S16x128 : Shape := ⟨2, ![16, 128]⟩
abbrev S480x1536 : Shape := ⟨2, ![480, 1536]⟩
abbrev S480x256 : Shape := ⟨2, ![480, 256]⟩
abbrev S1x128 : Shape := ⟨2, ![1, 128]⟩
abbrev S1x1 : Shape := ⟨2, ![1, 1]⟩

abbrev nBuf : Space → Nat
  | .hbm => 43
  | .vmem => 14
  | .smem => 3
  | _ => 0

abbrev bufTy : (tb : Table) → Fin (tcTables nBuf tb) → BufTy
  | .hbm, ⟨0, _⟩ => ⟨S5x384x1536, .i16⟩
  | .hbm, ⟨1, _⟩ => ⟨S768x8960, .i8⟩
  | .hbm, ⟨2, _⟩ => ⟨S8960x16, .i16⟩
  | .hbm, ⟨3, _⟩ => ⟨S8961, .i32⟩
  | .hbm, ⟨4, _⟩ => ⟨S61931, .i32⟩
  | .hbm, ⟨5, _⟩ => ⟨S61931, .i16⟩
  | .hbm, ⟨6, _⟩ => ⟨S1920x1536, .i16⟩
  | .hbm, ⟨7, _⟩ => ⟨S_, .i32⟩
  | .hbm, ⟨8, _⟩ => ⟨S61931, .i32⟩
  | .hbm, ⟨9, _⟩ => ⟨S61931, .i32⟩
  | .hbm, ⟨10, _⟩ => ⟨S_, .i32⟩
  | .hbm, ⟨11, _⟩ => ⟨S_, .i32⟩
  | .hbm, ⟨12, _⟩ => ⟨S65024, .i32⟩
  | .hbm, ⟨13, _⟩ => ⟨S61931, .i32⟩
  | .hbm, ⟨14, _⟩ => ⟨S_, .i32⟩
  | .hbm, ⟨15, _⟩ => ⟨S61931, .i32⟩
  | .hbm, ⟨16, _⟩ => ⟨S61931, .i32⟩
  | .hbm, ⟨17, _⟩ => ⟨S_, .i32⟩
  | .hbm, ⟨18, _⟩ => ⟨S_, .i32⟩
  | .hbm, ⟨19, _⟩ => ⟨S65024, .i32⟩
  | .hbm, ⟨20, _⟩ => ⟨S254x32x8, .i32⟩
  | .hbm, ⟨21, _⟩ => ⟨S254x8x32, .i32⟩
  | .hbm, ⟨22, _⟩ => ⟨S2032x32, .i32⟩
  | .hbm, ⟨23, _⟩ => ⟨S16x8960, .i16⟩
  | .hbm, ⟨24, _⟩ => ⟨S8x2x8960, .i16⟩
  | .hbm, ⟨25, _⟩ => ⟨S8x8960x2, .i16⟩
  | .hbm, ⟨26, _⟩ => ⟨S8x8960, .i32⟩
  | .hbm, ⟨27, _⟩ => ⟨S8960, .i32⟩
  | .hbm, ⟨28, _⟩ => ⟨S8960, .i32⟩
  | .hbm, ⟨29, _⟩ => ⟨S8960, .i32⟩
  | .hbm, ⟨30, _⟩ => ⟨S_, .i32⟩
  | .hbm, ⟨31, _⟩ => ⟨S8960, .i32⟩
  | .hbm, ⟨32, _⟩ => ⟨S8960, .i1⟩
  | .hbm, ⟨33, _⟩ => ⟨S280x32, .i1⟩
  | .hbm, ⟨34, _⟩ => ⟨S280x32, .i32⟩
  | .hbm, ⟨35, _⟩ => ⟨S32, .i32⟩
  | .hbm, ⟨36, _⟩ => ⟨S1x32, .i32⟩
  | .hbm, ⟨37, _⟩ => ⟨S280x32, .i32⟩
  | .hbm, ⟨38, _⟩ => ⟨S280x32, .i32⟩
  | .hbm, ⟨39, _⟩ => ⟨S_, .i32⟩
  | .hbm, ⟨40, _⟩ => ⟨S280, .i32⟩
  | .hbm, ⟨41, _⟩ => ⟨S1920x8960, .bf16⟩
  | .hbm, ⟨42, _⟩ => ⟨S1920x8960, .f32⟩
  | .local _ .vmem, ⟨0, _⟩ => ⟨S1920x1536, .i16⟩
  | .local _ .vmem, ⟨1, _⟩ => ⟨S2032x32, .i32⟩
  | .local _ .vmem, ⟨2, _⟩ => ⟨S768x256, .i8⟩
  | .local _ .vmem, ⟨3, _⟩ => ⟨S768x256, .i8⟩
  | .local _ .vmem, ⟨4, _⟩ => ⟨S8x256, .i32⟩
  | .local _ .vmem, ⟨5, _⟩ => ⟨S8x256, .i32⟩
  | .local _ .vmem, ⟨6, _⟩ => ⟨S1920x256, .bf16⟩
  | .local _ .vmem, ⟨7, _⟩ => ⟨S1920x256, .bf16⟩
  | .local _ .vmem, ⟨8, _⟩ => ⟨S1920x256, .f32⟩
  | .local _ .vmem, ⟨9, _⟩ => ⟨S1920x256, .f32⟩
  | .local _ .vmem, ⟨10, _⟩ => ⟨S12288x128, .i32⟩
  | .local _ .vmem, ⟨11, _⟩ => ⟨S1536x256, .i32⟩
  | .local _ .vmem, ⟨12, _⟩ => ⟨S8704x128, .f32⟩
  | .local _ .vmem, ⟨13, _⟩ => ⟨S8224x128, .i32⟩
  | .local _ .smem, ⟨0, _⟩ => ⟨S8961, .i32⟩
  | .local _ .smem, ⟨1, _⟩ => ⟨S280, .i32⟩
  | .local _ .smem, ⟨2, _⟩ => ⟨S65024, .i32⟩
  | _, _ => ⟨S5x384x1536, .i16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_call0_v0 : Ref sig .tc := ⟨.hbm, 11, rfl⟩
abbrev main_v3 : Ref sig .tc := ⟨.hbm, 12, rfl⟩
abbrev main_v4 : Ref sig .tc := ⟨.hbm, 13, rfl⟩
abbrev main_c_1 : Ref sig .tc := ⟨.hbm, 14, rfl⟩
abbrev main_v5 : Ref sig .tc := ⟨.hbm, 15, rfl⟩
abbrev main_v6 : Ref sig .tc := ⟨.hbm, 16, rfl⟩
abbrev main_c_2 : Ref sig .tc := ⟨.hbm, 17, rfl⟩
abbrev main_call1_v0 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_c_3 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_c_4 : Ref sig .tc := ⟨.hbm, 39, rfl⟩
abbrev main_v26 : Ref sig .tc := ⟨.hbm, 40, rfl⟩
abbrev main_v27_0 : Ref sig .tc := ⟨.hbm, 41, rfl⟩
abbrev main_v27_1 : Ref sig .tc := ⟨.hbm, 42, rfl⟩
abbrev cc0_stg3_0 : Ref sig .tc := ⟨.vmem, 0, rfl⟩
abbrev cc0_stg4_0 : Ref sig .tc := ⟨.vmem, 1, rfl⟩
abbrev cc0_stg5_0 : Ref sig .tc := ⟨.vmem, 2, rfl⟩
abbrev cc0_stg5_1 : Ref sig .tc := ⟨.vmem, 3, rfl⟩
abbrev cc0_stg6_0 : Ref sig .tc := ⟨.vmem, 4, rfl⟩
abbrev cc0_stg6_1 : Ref sig .tc := ⟨.vmem, 5, rfl⟩
abbrev cc0_stg7_0 : Ref sig .tc := ⟨.vmem, 6, rfl⟩
abbrev cc0_stg7_1 : Ref sig .tc := ⟨.vmem, 7, rfl⟩
abbrev cc0_stg8_0 : Ref sig .tc := ⟨.vmem, 8, rfl⟩
abbrev cc0_stg8_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem5_1 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![36], ![false]⟩

def k0_off1 (i : grid0.Coords) : Fin 1 → Nat :=
  let arg0 : BitVec 32 := BitVec.ofNat 32 (i 0).val
  let c34_i32 : BitVec 32 := 34#32
  let v0 : BitVec 32 := Scalar.minsi arg0 c34_i32
  let c256_i32 : BitVec 32 := 256#32
  let v4 : BitVec 32 := Scalar.muli v0 c256_i32
  let v5 : Index := Scalar.indexCast v4
  ![v5.toNat]
def k0_off2 (i : grid0.Coords) : Fin 1 → Nat :=
  let arg0 : BitVec 32 := BitVec.ofNat 32 (i 0).val
  let c1_i32 : BitVec 32 := 1#32
  let v1 : BitVec 32 := Scalar.addi arg0 c1_i32
  let c34_i32_0 : BitVec 32 := 34#32
  let v2 : BitVec 32 := Scalar.minsi v1 c34_i32_0
  let c256_i32_2 : BitVec 32 := 256#32
  let v8 : BitVec 32 := Scalar.muli v2 c256_i32_2
  let v9 : Index := Scalar.indexCast v8
  ![v9.toNat]
def k0_cond1 (i : grid0.Coords) : BitVec 1 :=
  let arg0 : BitVec 32 := BitVec.ofNat 32 (i 0).val
  let c0_i32 : BitVec 32 := 0#32
  let v18 : BitVec 1 := Scalar.cmpi .eq arg0 c0_i32
  let v19 : BitVec 32 := Scalar.extui v18
  let c0_i32_8 : BitVec 32 := 0#32
  let v20 : BitVec 1 := Scalar.cmpi .ne v19 c0_i32_8
  v20

@[reducible] def k0_t1_loop : Scf.Loop 32 :=
  let c0_i32_22 : BitVec 32 := 0#32
  let c12_i32_23 : BitVec 32 := 12#32
  let v39 : BitVec 32 := Scalar.addi c0_i32_22 c12_i32_23
  let c1_i32_24 : BitVec 32 := 1#32
  ⟨c0_i32_22, v39, c1_i32_24⟩
def k0_mult1 (k0_t1 : Fin k0_t1_loop.trips) : BitVec 32 :=
  let c0_i32_22 : BitVec 32 := 0#32
  let c1_i32_24 : BitVec 32 := 1#32
  let arg14 : BitVec 32 := Scf.iv c0_i32_22 c1_i32_24 k0_t1
  let c128_i32 : BitVec 32 := 128#32
  let v41 : BitVec 32 := Scalar.muli arg14 c128_i32
  v41
def k0_off3 (k0_t1 : Fin k0_t1_loop.trips) : Fin 2 → Nat :=
  let c0 : Index := 0#32
  let c0_i32_22 : BitVec 32 := 0#32
  let c1_i32_24 : BitVec 32 := 1#32
  let arg14 : BitVec 32 := Scf.iv c0_i32_22 c1_i32_24 k0_t1
  let c128_i32 : BitVec 32 := 128#32
  let v41 : BitVec 32 := Scalar.muli arg14 c128_i32
  let v42 : BitVec 32 := v41
  let v43 : Index := Scalar.indexCast v42
  ![0, v43.toNat]
def k0_off4 (k0_t1 : Fin k0_t1_loop.trips) : Fin 2 → Nat :=
  let c128 : Index := 128#32
  let c0_i32_22 : BitVec 32 := 0#32
  let c1_i32_24 : BitVec 32 := 1#32
  let arg14 : BitVec 32 := Scf.iv c0_i32_22 c1_i32_24 k0_t1
  let c128_i32 : BitVec 32 := 128#32
  let v41 : BitVec 32 := Scalar.muli arg14 c128_i32
  let v42 : BitVec 32 := v41
  let v51 : Index := Scalar.indexCast v42
  ![128, v51.toNat]
def k0_off5 (k0_t1 : Fin k0_t1_loop.trips) (c0_i32_32 : BitVec 32) : Fin 2 → Nat :=
  let c0_i32_22 : BitVec 32 := 0#32
  let c1_i32_24 : BitVec 32 := 1#32
  let arg14 : BitVec 32 := Scf.iv c0_i32_22 c1_i32_24 k0_t1
  let c128_i32 : BitVec 32 := 128#32
  let v41 : BitVec 32 := Scalar.muli arg14 c128_i32
  let v42 : BitVec 32 := v41
  let c8_i32_31 : BitVec 32 := 8#32
  let v59 : BitVec 32 := Scalar.muli v42 c8_i32_31
  let v60 : BitVec 32 := Scalar.addi v59 c0_i32_32
  let v61 : Index := Scalar.indexCast v60
  let c0_33 : Index := 0#32
  ![v61.toNat, 0]
def k0_off6 (k0_t1 : Fin k0_t1_loop.trips) : Fin 2 → Nat :=
  let c256 : Index := 256#32
  let c0_i32_22 : BitVec 32 := 0#32
  let c1_i32_24 : BitVec 32 := 1#32
  let arg14 : BitVec 32 := Scf.iv c0_i32_22 c1_i32_24 k0_t1
  let c128_i32 : BitVec 32 := 128#32
  let v41 : BitVec 32 := Scalar.muli arg14 c128_i32
  let v42 : BitVec 32 := v41
  let v65 : Index := Scalar.indexCast v42
  ![256, v65.toNat]
def k0_off7 (k0_t1 : Fin k0_t1_loop.trips) : Fin 2 → Nat :=
  let c384 : Index := 384#32
  let c0_i32_22 : BitVec 32 := 0#32
  let c1_i32_24 : BitVec 32 := 1#32
  let arg14 : BitVec 32 := Scf.iv c0_i32_22 c1_i32_24 k0_t1
  let c128_i32 : BitVec 32 := 128#32
  let v41 : BitVec 32 := Scalar.muli arg14 c128_i32
  let v42 : BitVec 32 := v41
  let v73 : Index := Scalar.indexCast v42
  ![384, v73.toNat]
def k0_off8 (k0_t1 : Fin k0_t1_loop.trips) : Fin 2 → Nat :=
  let c512 : Index := 512#32
  let c0_i32_22 : BitVec 32 := 0#32
  let c1_i32_24 : BitVec 32 := 1#32
  let arg14 : BitVec 32 := Scf.iv c0_i32_22 c1_i32_24 k0_t1
  let c128_i32 : BitVec 32 := 128#32
  let v41 : BitVec 32 := Scalar.muli arg14 c128_i32
  let v42 : BitVec 32 := v41
  let v87 : Index := Scalar.indexCast v42
  ![512, v87.toNat]
def k0_off9 (k0_t1 : Fin k0_t1_loop.trips) : Fin 2 → Nat :=
  let c640 : Index := 640#32
  let c0_i32_22 : BitVec 32 := 0#32
  let c1_i32_24 : BitVec 32 := 1#32
  let arg14 : BitVec 32 := Scf.iv c0_i32_22 c1_i32_24 k0_t1
  let c128_i32 : BitVec 32 := 128#32
  let v41 : BitVec 32 := Scalar.muli arg14 c128_i32
  let v42 : BitVec 32 := v41
  let v95 : Index := Scalar.indexCast v42
  ![640, v95.toNat]
def k0_off10 (k0_t1 : Fin k0_t1_loop.trips) : Fin 2 → Nat :=
  let c768 : Index := 768#32
  let c0_i32_22 : BitVec 32 := 0#32
  let c1_i32_24 : BitVec 32 := 1#32
  let arg14 : BitVec 32 := Scf.iv c0_i32_22 c1_i32_24 k0_t1
  let c128_i32 : BitVec 32 := 128#32
  let v41 : BitVec 32 := Scalar.muli arg14 c128_i32
  let v42 : BitVec 32 := v41
  let v109 : Index := Scalar.indexCast v42
  ![768, v109.toNat]
def k0_off11 (k0_t1 : Fin k0_t1_loop.trips) : Fin 2 → Nat :=
  let c896 : Index := 896#32
  let c0_i32_22 : BitVec 32 := 0#32
  let c1_i32_24 : BitVec 32 := 1#32
  let arg14 : BitVec 32 := Scf.iv c0_i32_22 c1_i32_24 k0_t1
  let c128_i32 : BitVec 32 := 128#32
  let v41 : BitVec 32 := Scalar.muli arg14 c128_i32
  let v42 : BitVec 32 := v41
  let v117 : Index := Scalar.indexCast v42
  ![896, v117.toNat]
def k0_off12 (k0_t1 : Fin k0_t1_loop.trips) : Fin 2 → Nat :=
  let c1024 : Index := 1024#32
  let c0_i32_22 : BitVec 32 := 0#32
  let c1_i32_24 : BitVec 32 := 1#32
  let arg14 : BitVec 32 := Scf.iv c0_i32_22 c1_i32_24 k0_t1
  let c128_i32 : BitVec 32 := 128#32
  let v41 : BitVec 32 := Scalar.muli arg14 c128_i32
  let v42 : BitVec 32 := v41
  let v131 : Index := Scalar.indexCast v42
  ![1024, v131.toNat]
def k0_off13 (k0_t1 : Fin k0_t1_loop.trips) : Fin 2 → Nat :=
  let c1152 : Index := 1152#32
  let c0_i32_22 : BitVec 32 := 0#32
  let c1_i32_24 : BitVec 32 := 1#32
  let arg14 : BitVec 32 := Scf.iv c0_i32_22 c1_i32_24 k0_t1
  let c128_i32 : BitVec 32 := 128#32
  let v41 : BitVec 32 := Scalar.muli arg14 c128_i32
  let v42 : BitVec 32 := v41
  let v139 : Index := Scalar.indexCast v42
  ![1152, v139.toNat]
def k0_off14 (k0_t1 : Fin k0_t1_loop.trips) : Fin 2 → Nat :=
  let c1280 : Index := 1280#32
  let c0_i32_22 : BitVec 32 := 0#32
  let c1_i32_24 : BitVec 32 := 1#32
  let arg14 : BitVec 32 := Scf.iv c0_i32_22 c1_i32_24 k0_t1
  let c128_i32 : BitVec 32 := 128#32
  let v41 : BitVec 32 := Scalar.muli arg14 c128_i32
  let v42 : BitVec 32 := v41
  let v153 : Index := Scalar.indexCast v42
  ![1280, v153.toNat]
def k0_off15 (k0_t1 : Fin k0_t1_loop.trips) : Fin 2 → Nat :=
  let c1408 : Index := 1408#32
  let c0_i32_22 : BitVec 32 := 0#32
  let c1_i32_24 : BitVec 32 := 1#32
  let arg14 : BitVec 32 := Scf.iv c0_i32_22 c1_i32_24 k0_t1
  let c128_i32 : BitVec 32 := 128#32
  let v41 : BitVec 32 := Scalar.muli arg14 c128_i32
  let v42 : BitVec 32 := v41
  let v161 : Index := Scalar.indexCast v42
  ![1408, v161.toNat]
def k0_off16 (k0_t1 : Fin k0_t1_loop.trips) : Fin 2 → Nat :=
  let c1536 : Index := 1536#32
  let c0_i32_22 : BitVec 32 := 0#32
  let c1_i32_24 : BitVec 32 := 1#32
  let arg14 : BitVec 32 := Scf.iv c0_i32_22 c1_i32_24 k0_t1
  let c128_i32 : BitVec 32 := 128#32
  let v41 : BitVec 32 := Scalar.muli arg14 c128_i32
  let v42 : BitVec 32 := v41
  let v175 : Index := Scalar.indexCast v42
  ![1536, v175.toNat]
def k0_off17 (k0_t1 : Fin k0_t1_loop.trips) : Fin 2 → Nat :=
  let c1664 : Index := 1664#32
  let c0_i32_22 : BitVec 32 := 0#32
  let c1_i32_24 : BitVec 32 := 1#32
  let arg14 : BitVec 32 := Scf.iv c0_i32_22 c1_i32_24 k0_t1
  let c128_i32 : BitVec 32 := 128#32
  let v41 : BitVec 32 := Scalar.muli arg14 c128_i32
  let v42 : BitVec 32 := v41
  let v183 : Index := Scalar.indexCast v42
  ![1664, v183.toNat]
def k0_off18 (k0_t1 : Fin k0_t1_loop.trips) : Fin 2 → Nat :=
  let c1792 : Index := 1792#32
  let c0_i32_22 : BitVec 32 := 0#32
  let c1_i32_24 : BitVec 32 := 1#32
  let arg14 : BitVec 32 := Scf.iv c0_i32_22 c1_i32_24 k0_t1
  let c128_i32 : BitVec 32 := 128#32
  let v41 : BitVec 32 := Scalar.muli arg14 c128_i32
  let v42 : BitVec 32 := v41
  let v197 : Index := Scalar.indexCast v42
  ![1792, v197.toNat]
@[reducible] def k0_t2_loop : Scf.Loop 32 :=
  let c0_i32_26 : BitVec 32 := 0#32
  let c4_i32 : BitVec 32 := 4#32
  let v40 : BitVec 32 := Scalar.addi c0_i32_26 c4_i32
  let c1_i32_27 : BitVec 32 := 1#32
  ⟨c0_i32_26, v40, c1_i32_27⟩
@[reducible] def k0_t3_loop : Scf.Loop 32 :=
  let c0_i32_29 : BitVec 32 := 0#32
  let c3_i32_30 : BitVec 32 := 3#32
  let v43 : BitVec 32 := Scalar.addi c0_i32_29 c3_i32_30
  let c1_i32_31 : BitVec 32 := 1#32
  ⟨c0_i32_29, v43, c1_i32_31⟩
def k0_mult2 (v6 : BitVec 32) (k0_t2 : Fin k0_t2_loop.trips) (k0_t3 : Fin k0_t3_loop.trips) : BitVec 32 :=
  let c8_i32 : BitVec 32 := 8#32
  let v7 : BitVec 32 := Scalar.shrui v6 c8_i32
  let c0_i32_26 : BitVec 32 := 0#32
  let c1_i32_27 : BitVec 32 := 1#32
  let arg14 : BitVec 32 := Scf.iv c0_i32_26 c1_i32_27 k0_t2
  let c3_i32 : BitVec 32 := 3#32
  let v41 : BitVec 32 := Scalar.muli arg14 c3_i32
  let v42 : BitVec 32 := Scalar.addi v7 v41
  let c0_i32_29 : BitVec 32 := 0#32
  let c1_i32_31 : BitVec 32 := 1#32
  let arg15 : BitVec 32 := Scf.iv c0_i32_29 c1_i32_31 k0_t3
  let v44 : BitVec 32 := Scalar.addi v42 arg15
  let c8_i32_33 : BitVec 32 := 8#32
  let v45 : BitVec 32 := Scalar.muli v44 c8_i32_33
  v45

def k0_off19 (v6 : BitVec 32) (k0_t2 : Fin k0_t2_loop.trips) (k0_t3 : Fin k0_t3_loop.trips) : Fin 2 → Nat :=
  let c8_i32 : BitVec 32 := 8#32
  let v7 : BitVec 32 := Scalar.shrui v6 c8_i32
  let c0_i32_26 : BitVec 32 := 0#32
  let c1_i32_27 : BitVec 32 := 1#32
  let arg14 : BitVec 32 := Scf.iv c0_i32_26 c1_i32_27 k0_t2
  let c3_i32 : BitVec 32 := 3#32
  let v41 : BitVec 32 := Scalar.muli arg14 c3_i32
  let v42 : BitVec 32 := Scalar.addi v7 v41
  let c0_i32_29 : BitVec 32 := 0#32
  let c1_i32_31 : BitVec 32 := 1#32
  let arg15 : BitVec 32 := Scf.iv c0_i32_29 c1_i32_31 k0_t3
  let v44 : BitVec 32 := Scalar.addi v42 arg15
  let c8_i32_33 : BitVec 32 := 8#32
  let v45 : BitVec 32 := Scalar.muli v44 c8_i32_33
  let v46 : BitVec 32 := v45
  let v47 : Index := Scalar.indexCast v46
  let c0 : Index := 0#32
  ![v47.toNat, 0]
def k0_mult3 (v6 : BitVec 32) (k0_t2 : Fin k0_t2_loop.trips) (k0_t3 : Fin k0_t3_loop.trips) : BitVec 32 :=
  let c8_i32 : BitVec 32 := 8#32
  let v7 : BitVec 32 := Scalar.shrui v6 c8_i32
  let c0_i32_26 : BitVec 32 := 0#32
  let c1_i32_27 : BitVec 32 := 1#32
  let arg14 : BitVec 32 := Scf.iv c0_i32_26 c1_i32_27 k0_t2
  let c3_i32 : BitVec 32 := 3#32
  let v41 : BitVec 32 := Scalar.muli arg14 c3_i32
  let v42 : BitVec 32 := Scalar.addi v7 v41
  let c0_i32_29 : BitVec 32 := 0#32
  let c1_i32_31 : BitVec 32 := 1#32
  let arg15 : BitVec 32 := Scf.iv c0_i32_29 c1_i32_31 k0_t3
  let v44 : BitVec 32 := Scalar.addi v42 arg15
  let c32_i32 : BitVec 32 := 32#32
  let v50 : BitVec 32 := Scalar.remsi v44 c32_i32
  let c256_i32_34 : BitVec 32 := 256#32
  let v51 : BitVec 32 := Scalar.muli v50 c256_i32_34
  v51
def k0_mult4 (v6 : BitVec 32) (k0_t2 : Fin k0_t2_loop.trips) (k0_t3 : Fin k0_t3_loop.trips) : BitVec 32 :=
  let c8192_i32 : BitVec 32 := 8192#32
  let c8_i32 : BitVec 32 := 8#32
  let v7 : BitVec 32 := Scalar.shrui v6 c8_i32
  let c0_i32_26 : BitVec 32 := 0#32
  let c1_i32_27 : BitVec 32 := 1#32
  let arg14 : BitVec 32 := Scf.iv c0_i32_26 c1_i32_27 k0_t2
  let c3_i32 : BitVec 32 := 3#32
  let v41 : BitVec 32 := Scalar.muli arg14 c3_i32
  let v42 : BitVec 32 := Scalar.addi v7 v41
  let c0_i32_29 : BitVec 32 := 0#32
  let c1_i32_31 : BitVec 32 := 1#32
  let arg15 : BitVec 32 := Scf.iv c0_i32_29 c1_i32_31 k0_t3
  let v44 : BitVec 32 := Scalar.addi v42 arg15
  let c32_i32 : BitVec 32 := 32#32
  let v50 : BitVec 32 := Scalar.remsi v44 c32_i32
  let c0_i32_35 : BitVec 32 := 0#32
  let v53 : BitVec 1 := Scalar.cmpi .eq v50 c0_i32_35
  let c0_i32_36 : BitVec 32 := 0#32
  let c16_i32 : BitVec 32 := 16#32
  let v54 : BitVec 32 := Scalar.select v53 c0_i32_36 c16_i32
  let v55 : BitVec 32 := Scalar.addi c8192_i32 v54
  v55
def k0_off20 (v6 : BitVec 32) (k0_t2 : Fin k0_t2_loop.trips) (k0_t3 : Fin k0_t3_loop.trips) (c0_i32_37 : BitVec 32) : Fin 2 → Nat :=
  let c8_i32 : BitVec 32 := 8#32
  let v7 : BitVec 32 := Scalar.shrui v6 c8_i32
  let c0_i32_26 : BitVec 32 := 0#32
  let c1_i32_27 : BitVec 32 := 1#32
  let arg14 : BitVec 32 := Scf.iv c0_i32_26 c1_i32_27 k0_t2
  let c3_i32 : BitVec 32 := 3#32
  let v41 : BitVec 32 := Scalar.muli arg14 c3_i32
  let v42 : BitVec 32 := Scalar.addi v7 v41
  let c0_i32_29 : BitVec 32 := 0#32
  let c1_i32_31 : BitVec 32 := 1#32
  let arg15 : BitVec 32 := Scf.iv c0_i32_29 c1_i32_31 k0_t3
  let v44 : BitVec 32 := Scalar.addi v42 arg15
  let c32_i32 : BitVec 32 := 32#32
  let v50 : BitVec 32 := Scalar.remsi v44 c32_i32
  let c256_i32_34 : BitVec 32 := 256#32
  let v51 : BitVec 32 := Scalar.muli v50 c256_i32_34
  let v52 : BitVec 32 := v51
  let v60 : BitVec 32 := Scalar.addi v52 c0_i32_37
  let v61 : Index := Scalar.indexCast v60
  let c0_38 : Index := 0#32
  ![v61.toNat, 0]
def k0_off21 (v6 : BitVec 32) (k0_t2 : Fin k0_t2_loop.trips) (k0_t3 : Fin k0_t3_loop.trips) (c0_i32_39 : BitVec 32) : Fin 2 → Nat :=
  let c8192_i32 : BitVec 32 := 8192#32
  let c8_i32 : BitVec 32 := 8#32
  let v7 : BitVec 32 := Scalar.shrui v6 c8_i32
  let c0_i32_26 : BitVec 32 := 0#32
  let c1_i32_27 : BitVec 32 := 1#32
  let arg14 : BitVec 32 := Scf.iv c0_i32_26 c1_i32_27 k0_t2
  let c3_i32 : BitVec 32 := 3#32
  let v41 : BitVec 32 := Scalar.muli arg14 c3_i32
  let v42 : BitVec 32 := Scalar.addi v7 v41
  let c0_i32_29 : BitVec 32 := 0#32
  let c1_i32_31 : BitVec 32 := 1#32
  let arg15 : BitVec 32 := Scf.iv c0_i32_29 c1_i32_31 k0_t3
  let v44 : BitVec 32 := Scalar.addi v42 arg15
  let c32_i32 : BitVec 32 := 32#32
  let v50 : BitVec 32 := Scalar.remsi v44 c32_i32
  let c0_i32_35 : BitVec 32 := 0#32
  let v53 : BitVec 1 := Scalar.cmpi .eq v50 c0_i32_35
  let c0_i32_36 : BitVec 32 := 0#32
  let c16_i32 : BitVec 32 := 16#32
  let v54 : BitVec 32 := Scalar.select v53 c0_i32_36 c16_i32
  let v55 : BitVec 32 := Scalar.addi c8192_i32 v54
  let v56 : BitVec 32 := v55
  let v65 : BitVec 32 := Scalar.addi v56 c0_i32_39
  let v66 : Index := Scalar.indexCast v65
  let c0_40 : Index := 0#32
  ![v66.toNat, 0]

def k0_chk1 (i : grid0.Coords) (v6 : BitVec 32) : Prop :=
  (∀ (k0_t2 : Fin k0_t2_loop.trips) (k0_t3 : Fin k0_t3_loop.trips), ∀ (k0_h1 : k0_cond1 i = 1#1), 8 ∣ (k0_mult2 v6 k0_t2 k0_t3).toNat) ∧
  (∀ (k0_t2 : Fin k0_t2_loop.trips) (k0_t3 : Fin k0_t3_loop.trips), ∀ (k0_h1 : k0_cond1 i = 1#1), ∀ a, (k0_off19 v6 k0_t2 k0_t3) a + S8x32.size a ≤ S2032x32.size a) ∧
  (∀ (k0_t2 : Fin k0_t2_loop.trips) (k0_t3 : Fin k0_t3_loop.trips), ∀ (k0_h1 : k0_cond1 i = 1#1), 256 ∣ (k0_mult3 v6 k0_t2 k0_t3).toNat) ∧
  (∀ (k0_t2 : Fin k0_t2_loop.trips) (k0_t3 : Fin k0_t3_loop.trips), ∀ (k0_h1 : k0_cond1 i = 1#1), 16 ∣ (k0_mult4 v6 k0_t2 k0_t3).toNat) ∧
  (∀ (k0_t2 : Fin k0_t2_loop.trips) (k0_t3 : Fin k0_t3_loop.trips), ∀ (k0_h1 : k0_cond1 i = 1#1), ∀ (r : Fin 32), ∀ a, (k0_off20 v6 k0_t2 k0_t3 (BitVec.ofNat 32 (8 * r.val))) a + S8x128.size a ≤ S8224x128.size a) ∧
  (∀ (k0_t2 : Fin k0_t2_loop.trips) (k0_t3 : Fin k0_t3_loop.trips), ∀ (k0_h1 : k0_cond1 i = 1#1), ∀ (r : Fin 2), ∀ a, (k0_off21 v6 k0_t2 k0_t3 (BitVec.ofNat 32 (8 * r.val))) a + S8x128.size a ≤ S8224x128.size a)
theorem k0_mult2_dvd : ∀ (i : grid0.Coords) (v6 : BitVec 32) (k0_hw1 : k0_chk1 i v6) (k0_t2 : Fin k0_t2_loop.trips) (k0_t3 : Fin k0_t3_loop.trips), ∀ (k0_h1 : k0_cond1 i = 1#1), 8 ∣ (k0_mult2 v6 k0_t2 k0_t3).toNat := fun i v6 k0_hw1 k0_t2 k0_t3 k0_h1 => k0_hw1.1 k0_t2 k0_t3 k0_h1
theorem k0_off19_inb : ∀ (i : grid0.Coords) (v6 : BitVec 32) (k0_hw1 : k0_chk1 i v6) (k0_t2 : Fin k0_t2_loop.trips) (k0_t3 : Fin k0_t3_loop.trips), ∀ (k0_h1 : k0_cond1 i = 1#1), ∀ a, (k0_off19 v6 k0_t2 k0_t3) a + S8x32.size a ≤ S2032x32.size a := fun i v6 k0_hw1 k0_t2 k0_t3 k0_h1 => k0_hw1.2.1 k0_t2 k0_t3 k0_h1
theorem k0_mult3_dvd : ∀ (i : grid0.Coords) (v6 : BitVec 32) (k0_hw1 : k0_chk1 i v6) (k0_t2 : Fin k0_t2_loop.trips) (k0_t3 : Fin k0_t3_loop.trips), ∀ (k0_h1 : k0_cond1 i = 1#1), 256 ∣ (k0_mult3 v6 k0_t2 k0_t3).toNat := fun i v6 k0_hw1 k0_t2 k0_t3 k0_h1 => k0_hw1.2.2.1 k0_t2 k0_t3 k0_h1
theorem k0_mult4_dvd : ∀ (i : grid0.Coords) (v6 : BitVec 32) (k0_hw1 : k0_chk1 i v6) (k0_t2 : Fin k0_t2_loop.trips) (k0_t3 : Fin k0_t3_loop.trips), ∀ (k0_h1 : k0_cond1 i = 1#1), 16 ∣ (k0_mult4 v6 k0_t2 k0_t3).toNat := fun i v6 k0_hw1 k0_t2 k0_t3 k0_h1 => k0_hw1.2.2.2.1 k0_t2 k0_t3 k0_h1
theorem k0_off20_inb : ∀ (i : grid0.Coords) (v6 : BitVec 32) (k0_hw1 : k0_chk1 i v6) (k0_t2 : Fin k0_t2_loop.trips) (k0_t3 : Fin k0_t3_loop.trips), ∀ (k0_h1 : k0_cond1 i = 1#1), ∀ (r : Fin 32), ∀ a, (k0_off20 v6 k0_t2 k0_t3 (BitVec.ofNat 32 (8 * r.val))) a + S8x128.size a ≤ S8224x128.size a := fun i v6 k0_hw1 k0_t2 k0_t3 k0_h1 r => k0_hw1.2.2.2.2.1 k0_t2 k0_t3 k0_h1 r
theorem k0_off21_inb : ∀ (i : grid0.Coords) (v6 : BitVec 32) (k0_hw1 : k0_chk1 i v6) (k0_t2 : Fin k0_t2_loop.trips) (k0_t3 : Fin k0_t3_loop.trips), ∀ (k0_h1 : k0_cond1 i = 1#1), ∀ (r : Fin 2), ∀ a, (k0_off21 v6 k0_t2 k0_t3 (BitVec.ofNat 32 (8 * r.val))) a + S8x128.size a ≤ S8224x128.size a := fun i v6 k0_hw1 k0_t2 k0_t3 k0_h1 r => k0_hw1.2.2.2.2.2 k0_t2 k0_t3 k0_h1 r

def k0_cond2 (i : grid0.Coords) : BitVec 1 :=
  let arg0 : BitVec 32 := BitVec.ofNat 32 (i 0).val
  let c0_i32_9 : BitVec 32 := 0#32
  let v21 : BitVec 1 := Scalar.cmpi .eq arg0 c0_i32_9
  let v22 : BitVec 32 := Scalar.extui v21
  let c0_i32_10 : BitVec 32 := 0#32
  let v23 : BitVec 1 := Scalar.cmpi .ne v22 c0_i32_10
  v23

@[reducible] def k0_t4_loop : Scf.Loop 32 :=
  let c0_i32_22 : BitVec 32 := 0#32
  let c4_i32 : BitVec 32 := 4#32
  let v39 : BitVec 32 := Scalar.addi c0_i32_22 c4_i32
  let c1_i32_23 : BitVec 32 := 1#32
  ⟨c0_i32_22, v39, c1_i32_23⟩
@[reducible] def k0_t5_loop : Scf.Loop 32 :=
  let c0_i32_25 : BitVec 32 := 0#32
  let c3_i32_26 : BitVec 32 := 3#32
  let v42 : BitVec 32 := Scalar.addi c0_i32_25 c3_i32_26
  let c1_i32_27 : BitVec 32 := 1#32
  ⟨c0_i32_25, v42, c1_i32_27⟩
def k0_mult5 (v10 : BitVec 32) (k0_t4 : Fin k0_t4_loop.trips) (k0_t5 : Fin k0_t5_loop.trips) : BitVec 32 :=
  let c8_i32_3 : BitVec 32 := 8#32
  let v11 : BitVec 32 := Scalar.shrui v10 c8_i32_3
  let c0_i32_22 : BitVec 32 := 0#32
  let c1_i32_23 : BitVec 32 := 1#32
  let arg14 : BitVec 32 := Scf.iv c0_i32_22 c1_i32_23 k0_t4
  let c3_i32 : BitVec 32 := 3#32
  let v40 : BitVec 32 := Scalar.muli arg14 c3_i32
  let v41 : BitVec 32 := Scalar.addi v11 v40
  let c0_i32_25 : BitVec 32 := 0#32
  let c1_i32_27 : BitVec 32 := 1#32
  let arg15 : BitVec 32 := Scf.iv c0_i32_25 c1_i32_27 k0_t5
  let v62 : BitVec 32 := Scalar.addi v41 arg15
  let c8_i32_43 : BitVec 32 := 8#32
  let v63 : BitVec 32 := Scalar.muli v62 c8_i32_43
  v63

def k0_off22 (v10 : BitVec 32) (k0_t4 : Fin k0_t4_loop.trips) (k0_t5 : Fin k0_t5_loop.trips) : Fin 2 → Nat :=
  let c8_i32_3 : BitVec 32 := 8#32
  let v11 : BitVec 32 := Scalar.shrui v10 c8_i32_3
  let c0_i32_22 : BitVec 32 := 0#32
  let c1_i32_23 : BitVec 32 := 1#32
  let arg14 : BitVec 32 := Scf.iv c0_i32_22 c1_i32_23 k0_t4
  let c3_i32 : BitVec 32 := 3#32
  let v40 : BitVec 32 := Scalar.muli arg14 c3_i32
  let v41 : BitVec 32 := Scalar.addi v11 v40
  let c0_i32_25 : BitVec 32 := 0#32
  let c1_i32_27 : BitVec 32 := 1#32
  let arg15 : BitVec 32 := Scf.iv c0_i32_25 c1_i32_27 k0_t5
  let v62 : BitVec 32 := Scalar.addi v41 arg15
  let c8_i32_43 : BitVec 32 := 8#32
  let v63 : BitVec 32 := Scalar.muli v62 c8_i32_43
  let v64 : BitVec 32 := v63
  let v65 : Index := Scalar.indexCast v64
  let c0_44 : Index := 0#32
  ![v65.toNat, 0]
def k0_mult6 (v10 : BitVec 32) (k0_t4 : Fin k0_t4_loop.trips) (k0_t5 : Fin k0_t5_loop.trips) : BitVec 32 :=
  let c8_i32_3 : BitVec 32 := 8#32
  let v11 : BitVec 32 := Scalar.shrui v10 c8_i32_3
  let c0_i32_22 : BitVec 32 := 0#32
  let c1_i32_23 : BitVec 32 := 1#32
  let arg14 : BitVec 32 := Scf.iv c0_i32_22 c1_i32_23 k0_t4
  let c3_i32 : BitVec 32 := 3#32
  let v40 : BitVec 32 := Scalar.muli arg14 c3_i32
  let v41 : BitVec 32 := Scalar.addi v11 v40
  let c0_i32_25 : BitVec 32 := 0#32
  let c1_i32_27 : BitVec 32 := 1#32
  let arg15 : BitVec 32 := Scf.iv c0_i32_25 c1_i32_27 k0_t5
  let v62 : BitVec 32 := Scalar.addi v41 arg15
  let c32_i32 : BitVec 32 := 32#32
  let v68 : BitVec 32 := Scalar.remsi v62 c32_i32
  let c256_i32_45 : BitVec 32 := 256#32
  let v69 : BitVec 32 := Scalar.muli v68 c256_i32_45
  v69
def k0_mult7 (v10 : BitVec 32) (k0_t4 : Fin k0_t4_loop.trips) (k0_t5 : Fin k0_t5_loop.trips) : BitVec 32 :=
  let c8192_i32 : BitVec 32 := 8192#32
  let c8_i32_3 : BitVec 32 := 8#32
  let v11 : BitVec 32 := Scalar.shrui v10 c8_i32_3
  let c0_i32_22 : BitVec 32 := 0#32
  let c1_i32_23 : BitVec 32 := 1#32
  let arg14 : BitVec 32 := Scf.iv c0_i32_22 c1_i32_23 k0_t4
  let c3_i32 : BitVec 32 := 3#32
  let v40 : BitVec 32 := Scalar.muli arg14 c3_i32
  let v41 : BitVec 32 := Scalar.addi v11 v40
  let c0_i32_25 : BitVec 32 := 0#32
  let c1_i32_27 : BitVec 32 := 1#32
  let arg15 : BitVec 32 := Scf.iv c0_i32_25 c1_i32_27 k0_t5
  let v62 : BitVec 32 := Scalar.addi v41 arg15
  let c32_i32 : BitVec 32 := 32#32
  let v68 : BitVec 32 := Scalar.remsi v62 c32_i32
  let c0_i32_46 : BitVec 32 := 0#32
  let v71 : BitVec 1 := Scalar.cmpi .eq v68 c0_i32_46
  let c0_i32_47 : BitVec 32 := 0#32
  let c16_i32 : BitVec 32 := 16#32
  let v72 : BitVec 32 := Scalar.select v71 c0_i32_47 c16_i32
  let v73 : BitVec 32 := Scalar.addi c8192_i32 v72
  v73
def k0_off23 (v10 : BitVec 32) (k0_t4 : Fin k0_t4_loop.trips) (k0_t5 : Fin k0_t5_loop.trips) (c0_i32_48 : BitVec 32) : Fin 2 → Nat :=
  let c8_i32_3 : BitVec 32 := 8#32
  let v11 : BitVec 32 := Scalar.shrui v10 c8_i32_3
  let c0_i32_22 : BitVec 32 := 0#32
  let c1_i32_23 : BitVec 32 := 1#32
  let arg14 : BitVec 32 := Scf.iv c0_i32_22 c1_i32_23 k0_t4
  let c3_i32 : BitVec 32 := 3#32
  let v40 : BitVec 32 := Scalar.muli arg14 c3_i32
  let v41 : BitVec 32 := Scalar.addi v11 v40
  let c0_i32_25 : BitVec 32 := 0#32
  let c1_i32_27 : BitVec 32 := 1#32
  let arg15 : BitVec 32 := Scf.iv c0_i32_25 c1_i32_27 k0_t5
  let v62 : BitVec 32 := Scalar.addi v41 arg15
  let c32_i32 : BitVec 32 := 32#32
  let v68 : BitVec 32 := Scalar.remsi v62 c32_i32
  let c256_i32_45 : BitVec 32 := 256#32
  let v69 : BitVec 32 := Scalar.muli v68 c256_i32_45
  let v70 : BitVec 32 := v69
  let v78 : BitVec 32 := Scalar.addi v70 c0_i32_48
  let v79 : Index := Scalar.indexCast v78
  let c0_49 : Index := 0#32
  ![v79.toNat, 0]
def k0_off24 (v10 : BitVec 32) (k0_t4 : Fin k0_t4_loop.trips) (k0_t5 : Fin k0_t5_loop.trips) (c0_i32_50 : BitVec 32) : Fin 2 → Nat :=
  let c8192_i32 : BitVec 32 := 8192#32
  let c8_i32_3 : BitVec 32 := 8#32
  let v11 : BitVec 32 := Scalar.shrui v10 c8_i32_3
  let c0_i32_22 : BitVec 32 := 0#32
  let c1_i32_23 : BitVec 32 := 1#32
  let arg14 : BitVec 32 := Scf.iv c0_i32_22 c1_i32_23 k0_t4
  let c3_i32 : BitVec 32 := 3#32
  let v40 : BitVec 32 := Scalar.muli arg14 c3_i32
  let v41 : BitVec 32 := Scalar.addi v11 v40
  let c0_i32_25 : BitVec 32 := 0#32
  let c1_i32_27 : BitVec 32 := 1#32
  let arg15 : BitVec 32 := Scf.iv c0_i32_25 c1_i32_27 k0_t5
  let v62 : BitVec 32 := Scalar.addi v41 arg15
  let c32_i32 : BitVec 32 := 32#32
  let v68 : BitVec 32 := Scalar.remsi v62 c32_i32
  let c0_i32_46 : BitVec 32 := 0#32
  let v71 : BitVec 1 := Scalar.cmpi .eq v68 c0_i32_46
  let c0_i32_47 : BitVec 32 := 0#32
  let c16_i32 : BitVec 32 := 16#32
  let v72 : BitVec 32 := Scalar.select v71 c0_i32_47 c16_i32
  let v73 : BitVec 32 := Scalar.addi c8192_i32 v72
  let v74 : BitVec 32 := v73
  let v83 : BitVec 32 := Scalar.addi v74 c0_i32_50
  let v84 : Index := Scalar.indexCast v83
  let c0_51 : Index := 0#32
  ![v84.toNat, 0]
def k0_mult8 (k0_t4 : Fin k0_t4_loop.trips) : BitVec 32 :=
  let c0_i32_22 : BitVec 32 := 0#32
  let c1_i32_23 : BitVec 32 := 1#32
  let arg14 : BitVec 32 := Scf.iv c0_i32_22 c1_i32_23 k0_t4
  let c192_i32 : BitVec 32 := 192#32
  let v43 : BitVec 32 := Scalar.muli arg14 c192_i32
  v43
def k0_mult9 (i : grid0.Coords) (k0_t4 : Fin k0_t4_loop.trips) : BitVec 32 :=
  let arg0 : BitVec 32 := BitVec.ofNat 32 (i 0).val
  let c1_i32_1 : BitVec 32 := 1#32
  let v3 : BitVec 32 := Scalar.andi arg0 c1_i32_1
  let c768_i32 : BitVec 32 := 768#32
  let v12 : BitVec 32 := Scalar.muli v3 c768_i32
  let c0_i32_22 : BitVec 32 := 0#32
  let c1_i32_23 : BitVec 32 := 1#32
  let arg14 : BitVec 32 := Scf.iv c0_i32_22 c1_i32_23 k0_t4
  let c192_i32 : BitVec 32 := 192#32
  let v43 : BitVec 32 := Scalar.muli arg14 c192_i32
  let v44 : BitVec 32 := v43
  let v45 : BitVec 32 := Scalar.addi v12 v44
  v45
@[reducible] def k0_t6_loop : Scf.Loop 32 :=
  let c0_i32_30 : BitVec 32 := 0#32
  let c6_i32 : BitVec 32 := 6#32
  let v49 : BitVec 32 := Scalar.addi c0_i32_30 c6_i32
  let c1_i32_31 : BitVec 32 := 1#32
  ⟨c0_i32_30, v49, c1_i32_31⟩
def k0_off25 (k0_t4 : Fin k0_t4_loop.trips) (k0_t6 : Fin k0_t6_loop.trips) : Fin 2 → Nat :=
  let c0_i32_22 : BitVec 32 := 0#32
  let c1_i32_23 : BitVec 32 := 1#32
  let arg14 : BitVec 32 := Scf.iv c0_i32_22 c1_i32_23 k0_t4
  let c192_i32 : BitVec 32 := 192#32
  let v43 : BitVec 32 := Scalar.muli arg14 c192_i32
  let v44 : BitVec 32 := v43
  let c0_i32_30 : BitVec 32 := 0#32
  let c1_i32_31 : BitVec 32 := 1#32
  let arg15 : BitVec 32 := Scf.iv c0_i32_30 c1_i32_31 k0_t6
  let c32_i32 : BitVec 32 := 32#32
  let v62 : BitVec 32 := Scalar.muli arg15 c32_i32
  let v63 : BitVec 32 := Scalar.addi v44 v62
  let v64 : Index := Scalar.indexCast v63
  let c0_43 : Index := 0#32
  ![v64.toNat, 0]
def k0_off26 (i : grid0.Coords) (k0_t4 : Fin k0_t4_loop.trips) (k0_t6 : Fin k0_t6_loop.trips) (c0_i32_49 : BitVec 32) : Fin 2 → Nat :=
  let arg0 : BitVec 32 := BitVec.ofNat 32 (i 0).val
  let c1_i32_1 : BitVec 32 := 1#32
  let v3 : BitVec 32 := Scalar.andi arg0 c1_i32_1
  let c768_i32 : BitVec 32 := 768#32
  let v12 : BitVec 32 := Scalar.muli v3 c768_i32
  let c0_i32_22 : BitVec 32 := 0#32
  let c1_i32_23 : BitVec 32 := 1#32
  let arg14 : BitVec 32 := Scf.iv c0_i32_22 c1_i32_23 k0_t4
  let c192_i32 : BitVec 32 := 192#32
  let v43 : BitVec 32 := Scalar.muli arg14 c192_i32
  let v44 : BitVec 32 := v43
  let v45 : BitVec 32 := Scalar.addi v12 v44
  let v46 : BitVec 32 := v45
  let c0_i32_30 : BitVec 32 := 0#32
  let c1_i32_31 : BitVec 32 := 1#32
  let arg15 : BitVec 32 := Scf.iv c0_i32_30 c1_i32_31 k0_t6
  let c32_i32_48 : BitVec 32 := 32#32
  let v95 : BitVec 32 := Scalar.muli arg15 c32_i32_48
  let v96 : BitVec 32 := Scalar.addi v46 v95
  let v97 : BitVec 32 := Scalar.addi v96 c0_i32_49
  let v98 : Index := Scalar.indexCast v97
  let c0_50 : Index := 0#32
  ![v98.toNat, 0]
@[reducible] def k0_t7_loop : Scf.Loop 32 :=
  let c0_i32_34 : BitVec 32 := 0#32
  let c6_i32_35 : BitVec 32 := 6#32
  let v52 : BitVec 32 := Scalar.addi c0_i32_34 c6_i32_35
  let c1_i32_36 : BitVec 32 := 1#32
  ⟨c0_i32_34, v52, c1_i32_36⟩
def k0_off27 (k0_t4 : Fin k0_t4_loop.trips) (k0_t7 : Fin k0_t7_loop.trips) : Fin 2 → Nat :=
  let c0_i32_22 : BitVec 32 := 0#32
  let c1_i32_23 : BitVec 32 := 1#32
  let arg14 : BitVec 32 := Scf.iv c0_i32_22 c1_i32_23 k0_t4
  let c192_i32 : BitVec 32 := 192#32
  let v43 : BitVec 32 := Scalar.muli arg14 c192_i32
  let v44 : BitVec 32 := v43
  let c0_i32_34 : BitVec 32 := 0#32
  let c1_i32_36 : BitVec 32 := 1#32
  let arg15 : BitVec 32 := Scf.iv c0_i32_34 c1_i32_36 k0_t7
  let c32_i32 : BitVec 32 := 32#32
  let v62 : BitVec 32 := Scalar.muli arg15 c32_i32
  let v63 : BitVec 32 := Scalar.addi v44 v62
  let v64 : Index := Scalar.indexCast v63
  let c128_43 : Index := 128#32
  ![v64.toNat, 128]
def k0_off28 (i : grid0.Coords) (k0_t4 : Fin k0_t4_loop.trips) (k0_t7 : Fin k0_t7_loop.trips) (c0_i32_49 : BitVec 32) : Fin 2 → Nat :=
  let arg0 : BitVec 32 := BitVec.ofNat 32 (i 0).val
  let c1_i32_1 : BitVec 32 := 1#32
  let v3 : BitVec 32 := Scalar.andi arg0 c1_i32_1
  let c768_i32 : BitVec 32 := 768#32
  let v12 : BitVec 32 := Scalar.muli v3 c768_i32
  let c0_i32_22 : BitVec 32 := 0#32
  let c1_i32_23 : BitVec 32 := 1#32
  let arg14 : BitVec 32 := Scf.iv c0_i32_22 c1_i32_23 k0_t4
  let c192_i32 : BitVec 32 := 192#32
  let v43 : BitVec 32 := Scalar.muli arg14 c192_i32
  let v44 : BitVec 32 := v43
  let v45 : BitVec 32 := Scalar.addi v12 v44
  let v46 : BitVec 32 := v45
  let c0_i32_34 : BitVec 32 := 0#32
  let c1_i32_36 : BitVec 32 := 1#32
  let arg15 : BitVec 32 := Scf.iv c0_i32_34 c1_i32_36 k0_t7
  let c32_i32_48 : BitVec 32 := 32#32
  let v95 : BitVec 32 := Scalar.muli arg15 c32_i32_48
  let v96 : BitVec 32 := Scalar.addi v46 v95
  let v97 : BitVec 32 := Scalar.addi v96 c0_i32_49
  let v98 : Index := Scalar.indexCast v97
  let c128_50 : Index := 128#32
  ![v98.toNat, 128]
def k0_off29 (i : grid0.Coords) (k0_t4 : Fin k0_t4_loop.trips) : Fin 1 → Nat :=
  let arg0 : BitVec 32 := BitVec.ofNat 32 (i 0).val
  let c34_i32 : BitVec 32 := 34#32
  let v0 : BitVec 32 := Scalar.minsi arg0 c34_i32
  let c256_i32_38 : BitVec 32 := 256#32
  let v53 : BitVec 32 := Scalar.muli v0 c256_i32_38
  let c0_i32_22 : BitVec 32 := 0#32
  let c1_i32_23 : BitVec 32 := 1#32
  let arg14 : BitVec 32 := Scf.iv c0_i32_22 c1_i32_23 k0_t4
  let c64_i32 : BitVec 32 := 64#32
  let v54 : BitVec 32 := Scalar.muli arg14 c64_i32
  let v55 : BitVec 32 := Scalar.addi v53 v54
  let v58 : Index := Scalar.indexCast v55
  ![v58.toNat]
@[reducible] def k0_t8_loop : Scf.Loop 32 :=
  let c0_i32_39 : BitVec 32 := 0#32
  let c64_i32_40 : BitVec 32 := 64#32
  let v60 : BitVec 32 := Scalar.addi c0_i32_39 c64_i32_40
  let c1_i32_41 : BitVec 32 := 1#32
  ⟨c0_i32_39, v60, c1_i32_41⟩
def k0_off30 (i : grid0.Coords) (k0_t4 : Fin k0_t4_loop.trips) (k0_t8 : Fin k0_t8_loop.trips) : Fin 1 → Nat :=
  let arg0 : BitVec 32 := BitVec.ofNat 32 (i 0).val
  let c34_i32 : BitVec 32 := 34#32
  let v0 : BitVec 32 := Scalar.minsi arg0 c34_i32
  let c256_i32_38 : BitVec 32 := 256#32
  let v53 : BitVec 32 := Scalar.muli v0 c256_i32_38
  let c0_i32_22 : BitVec 32 := 0#32
  let c1_i32_23 : BitVec 32 := 1#32
  let arg14 : BitVec 32 := Scf.iv c0_i32_22 c1_i32_23 k0_t4
  let c64_i32 : BitVec 32 := 64#32
  let v54 : BitVec 32 := Scalar.muli arg14 c64_i32
  let v55 : BitVec 32 := Scalar.addi v53 v54
  let c0_i32_39 : BitVec 32 := 0#32
  let c1_i32_41 : BitVec 32 := 1#32
  let arg15 : BitVec 32 := Scf.iv c0_i32_39 c1_i32_41 k0_t8
  let v62 : BitVec 32 := Scalar.addi v55 arg15
  let c1_i32_43 : BitVec 32 := 1#32
  let v63 : BitVec 32 := Scalar.addi v62 c1_i32_43
  let v64 : Index := Scalar.indexCast v63
  ![v64.toNat]
def k0_off31 (arg16 : BitVec 32) : Fin 1 → Nat :=
  let v70 : Index := Scalar.indexCast arg16
  ![v70.toNat]

def k0_mult10 (v71 : BitVec 32) : BitVec 32 :=
  v71

def k0_off32 (arg16 : BitVec 32) : Fin 2 → Nat :=
  let c8191_i32 : BitVec 32 := 8191#32
  let v68 : BitVec 32 := Scalar.andi arg16 c8191_i32
  let c0_i32_45 : BitVec 32 := 0#32
  let v73 : BitVec 32 := Scalar.addi v68 c0_i32_45
  let v74 : Index := Scalar.indexCast v73
  let c0_46 : Index := 0#32
  ![v74.toNat, 0]
def k0_off33 (v71 : BitVec 32) : Fin 2 → Nat :=
  let v72 : BitVec 32 := v71
  let v81 : Index := Scalar.indexCast v72
  let c0_49 : Index := 0#32
  ![v81.toNat, 0]

def k0_chk4 (i : grid0.Coords) (v71 : BitVec 32) : Prop :=
  (∀ (k0_h2 : k0_cond2 i = 1#1), 8 ∣ (k0_mult10 v71).toNat) ∧
  (∀ (k0_h2 : k0_cond2 i = 1#1), ∀ a, (k0_off33 v71) a + S8x128.size a ≤ S12288x128.size a)
theorem k0_mult10_dvd : ∀ (i : grid0.Coords) (v71 : BitVec 32) (k0_hw4 : k0_chk4 i v71), ∀ (k0_h2 : k0_cond2 i = 1#1), 8 ∣ (k0_mult10 v71).toNat := fun i v71 k0_hw4 k0_h2 => k0_hw4.1 k0_h2
theorem k0_off33_inb : ∀ (i : grid0.Coords) (v71 : BitVec 32) (k0_hw4 : k0_chk4 i v71), ∀ (k0_h2 : k0_cond2 i = 1#1), ∀ a, (k0_off33 v71) a + S8x128.size a ≤ S12288x128.size a := fun i v71 k0_hw4 k0_h2 => k0_hw4.2 k0_h2

def k0_off34 (arg16 : BitVec 32) : Fin 1 → Nat :=
  let v88 : Index := Scalar.indexCast arg16
  ![v88.toNat]
def k0_mult11 (v89 : BitVec 32) : BitVec 32 :=
  v89

def k0_off35 (arg16 : BitVec 32) : Fin 2 → Nat :=
  let c8191_i32 : BitVec 32 := 8191#32
  let v68 : BitVec 32 := Scalar.andi arg16 c8191_i32
  let c1_i32_51 : BitVec 32 := 1#32
  let v91 : BitVec 32 := Scalar.addi v68 c1_i32_51
  let v92 : Index := Scalar.indexCast v91
  let c0_52 : Index := 0#32
  ![v92.toNat, 0]
def k0_off36 (v89 : BitVec 32) : Fin 2 → Nat :=
  let v90 : BitVec 32 := v89
  let v99 : Index := Scalar.indexCast v90
  let c0_55 : Index := 0#32
  ![v99.toNat, 0]

def k0_chk5 (i : grid0.Coords) (v89 : BitVec 32) : Prop :=
  (∀ (k0_h2 : k0_cond2 i = 1#1), 8 ∣ (k0_mult11 v89).toNat) ∧
  (∀ (k0_h2 : k0_cond2 i = 1#1), ∀ a, (k0_off36 v89) a + S8x128.size a ≤ S12288x128.size a)
theorem k0_mult11_dvd : ∀ (i : grid0.Coords) (v89 : BitVec 32) (k0_hw5 : k0_chk5 i v89), ∀ (k0_h2 : k0_cond2 i = 1#1), 8 ∣ (k0_mult11 v89).toNat := fun i v89 k0_hw5 k0_h2 => k0_hw5.1 k0_h2
theorem k0_off36_inb : ∀ (i : grid0.Coords) (v89 : BitVec 32) (k0_hw5 : k0_chk5 i v89), ∀ (k0_h2 : k0_cond2 i = 1#1), ∀ a, (k0_off36 v89) a + S8x128.size a ≤ S12288x128.size a := fun i v89 k0_hw5 k0_h2 => k0_hw5.2 k0_h2

def k0_off37 (arg16 : BitVec 32) : Fin 1 → Nat :=
  let v107 : Index := Scalar.indexCast arg16
  ![v107.toNat]
def k0_mult12 (v108 : BitVec 32) : BitVec 32 :=
  v108

def k0_off38 (arg16 : BitVec 32) : Fin 2 → Nat :=
  let c8191_i32 : BitVec 32 := 8191#32
  let v68 : BitVec 32 := Scalar.andi arg16 c8191_i32
  let c2_i32_56 : BitVec 32 := 2#32
  let v110 : BitVec 32 := Scalar.addi v68 c2_i32_56
  let v111 : Index := Scalar.indexCast v110
  let c0_57 : Index := 0#32
  ![v111.toNat, 0]
def k0_off39 (v108 : BitVec 32) : Fin 2 → Nat :=
  let v109 : BitVec 32 := v108
  let v118 : Index := Scalar.indexCast v109
  let c0_60 : Index := 0#32
  ![v118.toNat, 0]

def k0_chk6 (i : grid0.Coords) (v108 : BitVec 32) : Prop :=
  (∀ (k0_h2 : k0_cond2 i = 1#1), 8 ∣ (k0_mult12 v108).toNat) ∧
  (∀ (k0_h2 : k0_cond2 i = 1#1), ∀ a, (k0_off39 v108) a + S8x128.size a ≤ S12288x128.size a)
theorem k0_mult12_dvd : ∀ (i : grid0.Coords) (v108 : BitVec 32) (k0_hw6 : k0_chk6 i v108), ∀ (k0_h2 : k0_cond2 i = 1#1), 8 ∣ (k0_mult12 v108).toNat := fun i v108 k0_hw6 k0_h2 => k0_hw6.1 k0_h2
theorem k0_off39_inb : ∀ (i : grid0.Coords) (v108 : BitVec 32) (k0_hw6 : k0_chk6 i v108), ∀ (k0_h2 : k0_cond2 i = 1#1), ∀ a, (k0_off39 v108) a + S8x128.size a ≤ S12288x128.size a := fun i v108 k0_hw6 k0_h2 => k0_hw6.2 k0_h2

def k0_off40 (arg16 : BitVec 32) : Fin 1 → Nat :=
  let v126 : Index := Scalar.indexCast arg16
  ![v126.toNat]
def k0_mult13 (v127 : BitVec 32) : BitVec 32 :=
  v127

def k0_off41 (arg16 : BitVec 32) : Fin 2 → Nat :=
  let c8191_i32 : BitVec 32 := 8191#32
  let v68 : BitVec 32 := Scalar.andi arg16 c8191_i32
  let c3_i32_62 : BitVec 32 := 3#32
  let v129 : BitVec 32 := Scalar.addi v68 c3_i32_62
  let v130 : Index := Scalar.indexCast v129
  let c0_63 : Index := 0#32
  ![v130.toNat, 0]
def k0_off42 (v127 : BitVec 32) : Fin 2 → Nat :=
  let v128 : BitVec 32 := v127
  let v137 : Index := Scalar.indexCast v128
  let c0_66 : Index := 0#32
  ![v137.toNat, 0]

def k0_chk7 (i : grid0.Coords) (v127 : BitVec 32) : Prop :=
  (∀ (k0_h2 : k0_cond2 i = 1#1), 8 ∣ (k0_mult13 v127).toNat) ∧
  (∀ (k0_h2 : k0_cond2 i = 1#1), ∀ a, (k0_off42 v127) a + S8x128.size a ≤ S12288x128.size a)
theorem k0_mult13_dvd : ∀ (i : grid0.Coords) (v127 : BitVec 32) (k0_hw7 : k0_chk7 i v127), ∀ (k0_h2 : k0_cond2 i = 1#1), 8 ∣ (k0_mult13 v127).toNat := fun i v127 k0_hw7 k0_h2 => k0_hw7.1 k0_h2
theorem k0_off42_inb : ∀ (i : grid0.Coords) (v127 : BitVec 32) (k0_hw7 : k0_chk7 i v127), ∀ (k0_h2 : k0_cond2 i = 1#1), ∀ a, (k0_off42 v127) a + S8x128.size a ≤ S12288x128.size a := fun i v127 k0_hw7 k0_h2 => k0_hw7.2 k0_h2

def k0_off43 (arg16 : BitVec 32) : Fin 1 → Nat :=
  let v145 : Index := Scalar.indexCast arg16
  ![v145.toNat]
def k0_mult14 (v146 : BitVec 32) : BitVec 32 :=
  v146

def k0_off44 (arg16 : BitVec 32) : Fin 2 → Nat :=
  let c8191_i32 : BitVec 32 := 8191#32
  let v68 : BitVec 32 := Scalar.andi arg16 c8191_i32
  let c4_i32_68 : BitVec 32 := 4#32
  let v148 : BitVec 32 := Scalar.addi v68 c4_i32_68
  let v149 : Index := Scalar.indexCast v148
  let c0_69 : Index := 0#32
  ![v149.toNat, 0]
def k0_off45 (v146 : BitVec 32) : Fin 2 → Nat :=
  let v147 : BitVec 32 := v146
  let v156 : Index := Scalar.indexCast v147
  let c0_72 : Index := 0#32
  ![v156.toNat, 0]

def k0_chk8 (i : grid0.Coords) (v146 : BitVec 32) : Prop :=
  (∀ (k0_h2 : k0_cond2 i = 1#1), 8 ∣ (k0_mult14 v146).toNat) ∧
  (∀ (k0_h2 : k0_cond2 i = 1#1), ∀ a, (k0_off45 v146) a + S8x128.size a ≤ S12288x128.size a)
theorem k0_mult14_dvd : ∀ (i : grid0.Coords) (v146 : BitVec 32) (k0_hw8 : k0_chk8 i v146), ∀ (k0_h2 : k0_cond2 i = 1#1), 8 ∣ (k0_mult14 v146).toNat := fun i v146 k0_hw8 k0_h2 => k0_hw8.1 k0_h2
theorem k0_off45_inb : ∀ (i : grid0.Coords) (v146 : BitVec 32) (k0_hw8 : k0_chk8 i v146), ∀ (k0_h2 : k0_cond2 i = 1#1), ∀ a, (k0_off45 v146) a + S8x128.size a ≤ S12288x128.size a := fun i v146 k0_hw8 k0_h2 => k0_hw8.2 k0_h2

def k0_off46 (arg16 : BitVec 32) : Fin 1 → Nat :=
  let v164 : Index := Scalar.indexCast arg16
  ![v164.toNat]
def k0_mult15 (v165 : BitVec 32) : BitVec 32 :=
  v165

def k0_off47 (arg16 : BitVec 32) : Fin 2 → Nat :=
  let c8191_i32 : BitVec 32 := 8191#32
  let v68 : BitVec 32 := Scalar.andi arg16 c8191_i32
  let c5_i32_73 : BitVec 32 := 5#32
  let v167 : BitVec 32 := Scalar.addi v68 c5_i32_73
  let v168 : Index := Scalar.indexCast v167
  let c0_74 : Index := 0#32
  ![v168.toNat, 0]
def k0_off48 (v165 : BitVec 32) : Fin 2 → Nat :=
  let v166 : BitVec 32 := v165
  let v175 : Index := Scalar.indexCast v166
  let c0_77 : Index := 0#32
  ![v175.toNat, 0]

def k0_chk9 (i : grid0.Coords) (v165 : BitVec 32) : Prop :=
  (∀ (k0_h2 : k0_cond2 i = 1#1), 8 ∣ (k0_mult15 v165).toNat) ∧
  (∀ (k0_h2 : k0_cond2 i = 1#1), ∀ a, (k0_off48 v165) a + S8x128.size a ≤ S12288x128.size a)
theorem k0_mult15_dvd : ∀ (i : grid0.Coords) (v165 : BitVec 32) (k0_hw9 : k0_chk9 i v165), ∀ (k0_h2 : k0_cond2 i = 1#1), 8 ∣ (k0_mult15 v165).toNat := fun i v165 k0_hw9 k0_h2 => k0_hw9.1 k0_h2
theorem k0_off48_inb : ∀ (i : grid0.Coords) (v165 : BitVec 32) (k0_hw9 : k0_chk9 i v165), ∀ (k0_h2 : k0_cond2 i = 1#1), ∀ a, (k0_off48 v165) a + S8x128.size a ≤ S12288x128.size a := fun i v165 k0_hw9 k0_h2 => k0_hw9.2 k0_h2

def k0_off49 (arg16 : BitVec 32) : Fin 1 → Nat :=
  let v183 : Index := Scalar.indexCast arg16
  ![v183.toNat]
def k0_mult16 (v184 : BitVec 32) : BitVec 32 :=
  v184

def k0_off50 (arg16 : BitVec 32) : Fin 2 → Nat :=
  let c8191_i32 : BitVec 32 := 8191#32
  let v68 : BitVec 32 := Scalar.andi arg16 c8191_i32
  let c6_i32_79 : BitVec 32 := 6#32
  let v186 : BitVec 32 := Scalar.addi v68 c6_i32_79
  let v187 : Index := Scalar.indexCast v186
  let c0_80 : Index := 0#32
  ![v187.toNat, 0]
def k0_off51 (v184 : BitVec 32) : Fin 2 → Nat :=
  let v185 : BitVec 32 := v184
  let v194 : Index := Scalar.indexCast v185
  let c0_83 : Index := 0#32
  ![v194.toNat, 0]

def k0_chk10 (i : grid0.Coords) (v184 : BitVec 32) : Prop :=
  (∀ (k0_h2 : k0_cond2 i = 1#1), 8 ∣ (k0_mult16 v184).toNat) ∧
  (∀ (k0_h2 : k0_cond2 i = 1#1), ∀ a, (k0_off51 v184) a + S8x128.size a ≤ S12288x128.size a)
theorem k0_mult16_dvd : ∀ (i : grid0.Coords) (v184 : BitVec 32) (k0_hw10 : k0_chk10 i v184), ∀ (k0_h2 : k0_cond2 i = 1#1), 8 ∣ (k0_mult16 v184).toNat := fun i v184 k0_hw10 k0_h2 => k0_hw10.1 k0_h2
theorem k0_off51_inb : ∀ (i : grid0.Coords) (v184 : BitVec 32) (k0_hw10 : k0_chk10 i v184), ∀ (k0_h2 : k0_cond2 i = 1#1), ∀ a, (k0_off51 v184) a + S8x128.size a ≤ S12288x128.size a := fun i v184 k0_hw10 k0_h2 => k0_hw10.2 k0_h2

def k0_off52 (arg16 : BitVec 32) : Fin 1 → Nat :=
  let v202 : Index := Scalar.indexCast arg16
  ![v202.toNat]
def k0_mult17 (v203 : BitVec 32) : BitVec 32 :=
  v203

def k0_off53 (arg16 : BitVec 32) : Fin 2 → Nat :=
  let c8191_i32 : BitVec 32 := 8191#32
  let v68 : BitVec 32 := Scalar.andi arg16 c8191_i32
  let c7_i32_84 : BitVec 32 := 7#32
  let v205 : BitVec 32 := Scalar.addi v68 c7_i32_84
  let v206 : Index := Scalar.indexCast v205
  let c0_85 : Index := 0#32
  ![v206.toNat, 0]
def k0_off54 (v203 : BitVec 32) : Fin 2 → Nat :=
  let v204 : BitVec 32 := v203
  let v213 : Index := Scalar.indexCast v204
  let c0_88 : Index := 0#32
  ![v213.toNat, 0]

def k0_chk11 (i : grid0.Coords) (v203 : BitVec 32) : Prop :=
  (∀ (k0_h2 : k0_cond2 i = 1#1), 8 ∣ (k0_mult17 v203).toNat) ∧
  (∀ (k0_h2 : k0_cond2 i = 1#1), ∀ a, (k0_off54 v203) a + S8x128.size a ≤ S12288x128.size a)
theorem k0_mult17_dvd : ∀ (i : grid0.Coords) (v203 : BitVec 32) (k0_hw11 : k0_chk11 i v203), ∀ (k0_h2 : k0_cond2 i = 1#1), 8 ∣ (k0_mult17 v203).toNat := fun i v203 k0_hw11 k0_h2 => k0_hw11.1 k0_h2
theorem k0_off54_inb : ∀ (i : grid0.Coords) (v203 : BitVec 32) (k0_hw11 : k0_chk11 i v203), ∀ (k0_h2 : k0_cond2 i = 1#1), ∀ a, (k0_off54 v203) a + S8x128.size a ≤ S12288x128.size a := fun i v203 k0_hw11 k0_h2 => k0_hw11.2 k0_h2

def k0_off55 (arg16 : BitVec 32) : Fin 1 → Nat :=
  let v221 : Index := Scalar.indexCast arg16
  ![v221.toNat]
def k0_mult18 (v222 : BitVec 32) : BitVec 32 :=
  v222

def k0_off56 (arg16 : BitVec 32) : Fin 2 → Nat :=
  let c8191_i32 : BitVec 32 := 8191#32
  let v68 : BitVec 32 := Scalar.andi arg16 c8191_i32
  let c8_i32_90 : BitVec 32 := 8#32
  let v224 : BitVec 32 := Scalar.addi v68 c8_i32_90
  let v225 : Index := Scalar.indexCast v224
  let c0_91 : Index := 0#32
  ![v225.toNat, 0]
def k0_off57 (v222 : BitVec 32) : Fin 2 → Nat :=
  let v223 : BitVec 32 := v222
  let v232 : Index := Scalar.indexCast v223
  let c0_94 : Index := 0#32
  ![v232.toNat, 0]

def k0_chk12 (i : grid0.Coords) (v222 : BitVec 32) : Prop :=
  (∀ (k0_h2 : k0_cond2 i = 1#1), 8 ∣ (k0_mult18 v222).toNat) ∧
  (∀ (k0_h2 : k0_cond2 i = 1#1), ∀ a, (k0_off57 v222) a + S8x128.size a ≤ S12288x128.size a)
theorem k0_mult18_dvd : ∀ (i : grid0.Coords) (v222 : BitVec 32) (k0_hw12 : k0_chk12 i v222), ∀ (k0_h2 : k0_cond2 i = 1#1), 8 ∣ (k0_mult18 v222).toNat := fun i v222 k0_hw12 k0_h2 => k0_hw12.1 k0_h2
theorem k0_off57_inb : ∀ (i : grid0.Coords) (v222 : BitVec 32) (k0_hw12 : k0_chk12 i v222), ∀ (k0_h2 : k0_cond2 i = 1#1), ∀ a, (k0_off57 v222) a + S8x128.size a ≤ S12288x128.size a := fun i v222 k0_hw12 k0_h2 => k0_hw12.2 k0_h2

def k0_off58 (arg16 : BitVec 32) : Fin 1 → Nat :=
  let v240 : Index := Scalar.indexCast arg16
  ![v240.toNat]
def k0_mult19 (v241 : BitVec 32) : BitVec 32 :=
  v241

def k0_off59 (arg16 : BitVec 32) : Fin 2 → Nat :=
  let c8191_i32 : BitVec 32 := 8191#32
  let v68 : BitVec 32 := Scalar.andi arg16 c8191_i32
  let c9_i32_95 : BitVec 32 := 9#32
  let v243 : BitVec 32 := Scalar.addi v68 c9_i32_95
  let v244 : Index := Scalar.indexCast v243
  let c0_96 : Index := 0#32
  ![v244.toNat, 0]
def k0_off60 (v241 : BitVec 32) : Fin 2 → Nat :=
  let v242 : BitVec 32 := v241
  let v251 : Index := Scalar.indexCast v242
  let c0_99 : Index := 0#32
  ![v251.toNat, 0]

def k0_chk13 (i : grid0.Coords) (v241 : BitVec 32) : Prop :=
  (∀ (k0_h2 : k0_cond2 i = 1#1), 8 ∣ (k0_mult19 v241).toNat) ∧
  (∀ (k0_h2 : k0_cond2 i = 1#1), ∀ a, (k0_off60 v241) a + S8x128.size a ≤ S12288x128.size a)
theorem k0_mult19_dvd : ∀ (i : grid0.Coords) (v241 : BitVec 32) (k0_hw13 : k0_chk13 i v241), ∀ (k0_h2 : k0_cond2 i = 1#1), 8 ∣ (k0_mult19 v241).toNat := fun i v241 k0_hw13 k0_h2 => k0_hw13.1 k0_h2
theorem k0_off60_inb : ∀ (i : grid0.Coords) (v241 : BitVec 32) (k0_hw13 : k0_chk13 i v241), ∀ (k0_h2 : k0_cond2 i = 1#1), ∀ a, (k0_off60 v241) a + S8x128.size a ≤ S12288x128.size a := fun i v241 k0_hw13 k0_h2 => k0_hw13.2 k0_h2

def k0_off61 (arg16 : BitVec 32) : Fin 1 → Nat :=
  let v259 : Index := Scalar.indexCast arg16
  ![v259.toNat]
def k0_mult20 (v260 : BitVec 32) : BitVec 32 :=
  v260

def k0_off62 (arg16 : BitVec 32) : Fin 2 → Nat :=
  let c8191_i32 : BitVec 32 := 8191#32
  let v68 : BitVec 32 := Scalar.andi arg16 c8191_i32
  let c10_i32_100 : BitVec 32 := 10#32
  let v262 : BitVec 32 := Scalar.addi v68 c10_i32_100
  let v263 : Index := Scalar.indexCast v262
  let c0_101 : Index := 0#32
  ![v263.toNat, 0]
def k0_off63 (v260 : BitVec 32) : Fin 2 → Nat :=
  let v261 : BitVec 32 := v260
  let v270 : Index := Scalar.indexCast v261
  let c0_104 : Index := 0#32
  ![v270.toNat, 0]

def k0_chk14 (i : grid0.Coords) (v260 : BitVec 32) : Prop :=
  (∀ (k0_h2 : k0_cond2 i = 1#1), 8 ∣ (k0_mult20 v260).toNat) ∧
  (∀ (k0_h2 : k0_cond2 i = 1#1), ∀ a, (k0_off63 v260) a + S8x128.size a ≤ S12288x128.size a)
theorem k0_mult20_dvd : ∀ (i : grid0.Coords) (v260 : BitVec 32) (k0_hw14 : k0_chk14 i v260), ∀ (k0_h2 : k0_cond2 i = 1#1), 8 ∣ (k0_mult20 v260).toNat := fun i v260 k0_hw14 k0_h2 => k0_hw14.1 k0_h2
theorem k0_off63_inb : ∀ (i : grid0.Coords) (v260 : BitVec 32) (k0_hw14 : k0_chk14 i v260), ∀ (k0_h2 : k0_cond2 i = 1#1), ∀ a, (k0_off63 v260) a + S8x128.size a ≤ S12288x128.size a := fun i v260 k0_hw14 k0_h2 => k0_hw14.2 k0_h2

def k0_off64 (arg16 : BitVec 32) : Fin 1 → Nat :=
  let v278 : Index := Scalar.indexCast arg16
  ![v278.toNat]
def k0_mult21 (v279 : BitVec 32) : BitVec 32 :=
  v279

def k0_off65 (arg16 : BitVec 32) : Fin 2 → Nat :=
  let c8191_i32 : BitVec 32 := 8191#32
  let v68 : BitVec 32 := Scalar.andi arg16 c8191_i32
  let c11_i32_105 : BitVec 32 := 11#32
  let v281 : BitVec 32 := Scalar.addi v68 c11_i32_105
  let v282 : Index := Scalar.indexCast v281
  let c0_106 : Index := 0#32
  ![v282.toNat, 0]

def k0_chk3 (i : grid0.Coords) (arg16 : BitVec 32) : Prop :=
  (∀ (k0_h2 : k0_cond2 i = 1#1), ∀ a, (k0_off31 arg16) a + S1.size a ≤ S61932.size a) ∧
  (∀ (k0_h2 : k0_cond2 i = 1#1), ∀ a, S8x128.size a = 0 ∨ (k0_off32 arg16) a + (![0, 1] : Fin 2 → Nat) a * (S8x128.size a - 1) < S8224x128.size a) ∧
  (∀ (k0_h2 : k0_cond2 i = 1#1), ∀ a, (k0_off34 arg16) a + S1.size a ≤ S61932.size a) ∧
  (∀ (k0_h2 : k0_cond2 i = 1#1), ∀ a, S8x128.size a = 0 ∨ (k0_off35 arg16) a + (![0, 1] : Fin 2 → Nat) a * (S8x128.size a - 1) < S8224x128.size a) ∧
  (∀ (k0_h2 : k0_cond2 i = 1#1), ∀ a, (k0_off37 arg16) a + S1.size a ≤ S61932.size a) ∧
  (∀ (k0_h2 : k0_cond2 i = 1#1), ∀ a, S8x128.size a = 0 ∨ (k0_off38 arg16) a + (![0, 1] : Fin 2 → Nat) a * (S8x128.size a - 1) < S8224x128.size a) ∧
  (∀ (k0_h2 : k0_cond2 i = 1#1), ∀ a, (k0_off40 arg16) a + S1.size a ≤ S61932.size a) ∧
  (∀ (k0_h2 : k0_cond2 i = 1#1), ∀ a, S8x128.size a = 0 ∨ (k0_off41 arg16) a + (![0, 1] : Fin 2 → Nat) a * (S8x128.size a - 1) < S8224x128.size a) ∧
  (∀ (k0_h2 : k0_cond2 i = 1#1), ∀ a, (k0_off43 arg16) a + S1.size a ≤ S61932.size a) ∧
  (∀ (k0_h2 : k0_cond2 i = 1#1), ∀ a, S8x128.size a = 0 ∨ (k0_off44 arg16) a + (![0, 1] : Fin 2 → Nat) a * (S8x128.size a - 1) < S8224x128.size a) ∧
  (∀ (k0_h2 : k0_cond2 i = 1#1), ∀ a, (k0_off46 arg16) a + S1.size a ≤ S61932.size a) ∧
  (∀ (k0_h2 : k0_cond2 i = 1#1), ∀ a, S8x128.size a = 0 ∨ (k0_off47 arg16) a + (![0, 1] : Fin 2 → Nat) a * (S8x128.size a - 1) < S8224x128.size a) ∧
  (∀ (k0_h2 : k0_cond2 i = 1#1), ∀ a, (k0_off49 arg16) a + S1.size a ≤ S61932.size a) ∧
  (∀ (k0_h2 : k0_cond2 i = 1#1), ∀ a, S8x128.size a = 0 ∨ (k0_off50 arg16) a + (![0, 1] : Fin 2 → Nat) a * (S8x128.size a - 1) < S8224x128.size a) ∧
  (∀ (k0_h2 : k0_cond2 i = 1#1), ∀ a, (k0_off52 arg16) a + S1.size a ≤ S61932.size a) ∧
  (∀ (k0_h2 : k0_cond2 i = 1#1), ∀ a, S8x128.size a = 0 ∨ (k0_off53 arg16) a + (![0, 1] : Fin 2 → Nat) a * (S8x128.size a - 1) < S8224x128.size a) ∧
  (∀ (k0_h2 : k0_cond2 i = 1#1), ∀ a, (k0_off55 arg16) a + S1.size a ≤ S61932.size a) ∧
  (∀ (k0_h2 : k0_cond2 i = 1#1), ∀ a, S8x128.size a = 0 ∨ (k0_off56 arg16) a + (![0, 1] : Fin 2 → Nat) a * (S8x128.size a - 1) < S8224x128.size a) ∧
  (∀ (k0_h2 : k0_cond2 i = 1#1), ∀ a, (k0_off58 arg16) a + S1.size a ≤ S61932.size a) ∧
  (∀ (k0_h2 : k0_cond2 i = 1#1), ∀ a, S8x128.size a = 0 ∨ (k0_off59 arg16) a + (![0, 1] : Fin 2 → Nat) a * (S8x128.size a - 1) < S8224x128.size a) ∧
  (∀ (k0_h2 : k0_cond2 i = 1#1), ∀ a, (k0_off61 arg16) a + S1.size a ≤ S61932.size a) ∧
  (∀ (k0_h2 : k0_cond2 i = 1#1), ∀ a, S8x128.size a = 0 ∨ (k0_off62 arg16) a + (![0, 1] : Fin 2 → Nat) a * (S8x128.size a - 1) < S8224x128.size a) ∧
  (∀ (k0_h2 : k0_cond2 i = 1#1), ∀ a, (k0_off64 arg16) a + S1.size a ≤ S61932.size a) ∧
  (∀ (k0_h2 : k0_cond2 i = 1#1), ∀ a, S8x128.size a = 0 ∨ (k0_off65 arg16) a + (![0, 1] : Fin 2 → Nat) a * (S8x128.size a - 1) < S8224x128.size a)
theorem k0_off31_inb : ∀ (i : grid0.Coords) (arg16 : BitVec 32) (k0_hw3 : k0_chk3 i arg16), ∀ (k0_h2 : k0_cond2 i = 1#1), ∀ a, (k0_off31 arg16) a + S1.size a ≤ S61932.size a := fun i arg16 k0_hw3 k0_h2 => k0_hw3.1 k0_h2
theorem k0_off32_inb : ∀ (i : grid0.Coords) (arg16 : BitVec 32) (k0_hw3 : k0_chk3 i arg16), ∀ (k0_h2 : k0_cond2 i = 1#1), ∀ a, S8x128.size a = 0 ∨ (k0_off32 arg16) a + (![0, 1] : Fin 2 → Nat) a * (S8x128.size a - 1) < S8224x128.size a := fun i arg16 k0_hw3 k0_h2 => k0_hw3.2.1 k0_h2
theorem k0_off34_inb : ∀ (i : grid0.Coords) (arg16 : BitVec 32) (k0_hw3 : k0_chk3 i arg16), ∀ (k0_h2 : k0_cond2 i = 1#1), ∀ a, (k0_off34 arg16) a + S1.size a ≤ S61932.size a := fun i arg16 k0_hw3 k0_h2 => k0_hw3.2.2.1 k0_h2
theorem k0_off35_inb : ∀ (i : grid0.Coords) (arg16 : BitVec 32) (k0_hw3 : k0_chk3 i arg16), ∀ (k0_h2 : k0_cond2 i = 1#1), ∀ a, S8x128.size a = 0 ∨ (k0_off35 arg16) a + (![0, 1] : Fin 2 → Nat) a * (S8x128.size a - 1) < S8224x128.size a := fun i arg16 k0_hw3 k0_h2 => k0_hw3.2.2.2.1 k0_h2
theorem k0_off37_inb : ∀ (i : grid0.Coords) (arg16 : BitVec 32) (k0_hw3 : k0_chk3 i arg16), ∀ (k0_h2 : k0_cond2 i = 1#1), ∀ a, (k0_off37 arg16) a + S1.size a ≤ S61932.size a := fun i arg16 k0_hw3 k0_h2 => k0_hw3.2.2.2.2.1 k0_h2
theorem k0_off38_inb : ∀ (i : grid0.Coords) (arg16 : BitVec 32) (k0_hw3 : k0_chk3 i arg16), ∀ (k0_h2 : k0_cond2 i = 1#1), ∀ a, S8x128.size a = 0 ∨ (k0_off38 arg16) a + (![0, 1] : Fin 2 → Nat) a * (S8x128.size a - 1) < S8224x128.size a := fun i arg16 k0_hw3 k0_h2 => k0_hw3.2.2.2.2.2.1 k0_h2
theorem k0_off40_inb : ∀ (i : grid0.Coords) (arg16 : BitVec 32) (k0_hw3 : k0_chk3 i arg16), ∀ (k0_h2 : k0_cond2 i = 1#1), ∀ a, (k0_off40 arg16) a + S1.size a ≤ S61932.size a := fun i arg16 k0_hw3 k0_h2 => k0_hw3.2.2.2.2.2.2.1 k0_h2
theorem k0_off41_inb : ∀ (i : grid0.Coords) (arg16 : BitVec 32) (k0_hw3 : k0_chk3 i arg16), ∀ (k0_h2 : k0_cond2 i = 1#1), ∀ a, S8x128.size a = 0 ∨ (k0_off41 arg16) a + (![0, 1] : Fin 2 → Nat) a * (S8x128.size a - 1) < S8224x128.size a := fun i arg16 k0_hw3 k0_h2 => k0_hw3.2.2.2.2.2.2.2.1 k0_h2
theorem k0_off43_inb : ∀ (i : grid0.Coords) (arg16 : BitVec 32) (k0_hw3 : k0_chk3 i arg16), ∀ (k0_h2 : k0_cond2 i = 1#1), ∀ a, (k0_off43 arg16) a + S1.size a ≤ S61932.size a := fun i arg16 k0_hw3 k0_h2 => k0_hw3.2.2.2.2.2.2.2.2.1 k0_h2
theorem k0_off44_inb : ∀ (i : grid0.Coords) (arg16 : BitVec 32) (k0_hw3 : k0_chk3 i arg16), ∀ (k0_h2 : k0_cond2 i = 1#1), ∀ a, S8x128.size a = 0 ∨ (k0_off44 arg16) a + (![0, 1] : Fin 2 → Nat) a * (S8x128.size a - 1) < S8224x128.size a := fun i arg16 k0_hw3 k0_h2 => k0_hw3.2.2.2.2.2.2.2.2.2.1 k0_h2
theorem k0_off46_inb : ∀ (i : grid0.Coords) (arg16 : BitVec 32) (k0_hw3 : k0_chk3 i arg16), ∀ (k0_h2 : k0_cond2 i = 1#1), ∀ a, (k0_off46 arg16) a + S1.size a ≤ S61932.size a := fun i arg16 k0_hw3 k0_h2 => k0_hw3.2.2.2.2.2.2.2.2.2.2.1 k0_h2
theorem k0_off47_inb : ∀ (i : grid0.Coords) (arg16 : BitVec 32) (k0_hw3 : k0_chk3 i arg16), ∀ (k0_h2 : k0_cond2 i = 1#1), ∀ a, S8x128.size a = 0 ∨ (k0_off47 arg16) a + (![0, 1] : Fin 2 → Nat) a * (S8x128.size a - 1) < S8224x128.size a := fun i arg16 k0_hw3 k0_h2 => k0_hw3.2.2.2.2.2.2.2.2.2.2.2.1 k0_h2
theorem k0_off49_inb : ∀ (i : grid0.Coords) (arg16 : BitVec 32) (k0_hw3 : k0_chk3 i arg16), ∀ (k0_h2 : k0_cond2 i = 1#1), ∀ a, (k0_off49 arg16) a + S1.size a ≤ S61932.size a := fun i arg16 k0_hw3 k0_h2 => k0_hw3.2.2.2.2.2.2.2.2.2.2.2.2.1 k0_h2
theorem k0_off50_inb : ∀ (i : grid0.Coords) (arg16 : BitVec 32) (k0_hw3 : k0_chk3 i arg16), ∀ (k0_h2 : k0_cond2 i = 1#1), ∀ a, S8x128.size a = 0 ∨ (k0_off50 arg16) a + (![0, 1] : Fin 2 → Nat) a * (S8x128.size a - 1) < S8224x128.size a := fun i arg16 k0_hw3 k0_h2 => k0_hw3.2.2.2.2.2.2.2.2.2.2.2.2.2.1 k0_h2
theorem k0_off52_inb : ∀ (i : grid0.Coords) (arg16 : BitVec 32) (k0_hw3 : k0_chk3 i arg16), ∀ (k0_h2 : k0_cond2 i = 1#1), ∀ a, (k0_off52 arg16) a + S1.size a ≤ S61932.size a := fun i arg16 k0_hw3 k0_h2 => k0_hw3.2.2.2.2.2.2.2.2.2.2.2.2.2.2.1 k0_h2
theorem k0_off53_inb : ∀ (i : grid0.Coords) (arg16 : BitVec 32) (k0_hw3 : k0_chk3 i arg16), ∀ (k0_h2 : k0_cond2 i = 1#1), ∀ a, S8x128.size a = 0 ∨ (k0_off53 arg16) a + (![0, 1] : Fin 2 → Nat) a * (S8x128.size a - 1) < S8224x128.size a := fun i arg16 k0_hw3 k0_h2 => k0_hw3.2.2.2.2.2.2.2.2.2.2.2.2.2.2.2.1 k0_h2
theorem k0_off55_inb : ∀ (i : grid0.Coords) (arg16 : BitVec 32) (k0_hw3 : k0_chk3 i arg16), ∀ (k0_h2 : k0_cond2 i = 1#1), ∀ a, (k0_off55 arg16) a + S1.size a ≤ S61932.size a := fun i arg16 k0_hw3 k0_h2 => k0_hw3.2.2.2.2.2.2.2.2.2.2.2.2.2.2.2.2.1 k0_h2
theorem k0_off56_inb : ∀ (i : grid0.Coords) (arg16 : BitVec 32) (k0_hw3 : k0_chk3 i arg16), ∀ (k0_h2 : k0_cond2 i = 1#1), ∀ a, S8x128.size a = 0 ∨ (k0_off56 arg16) a + (![0, 1] : Fin 2 → Nat) a * (S8x128.size a - 1) < S8224x128.size a := fun i arg16 k0_hw3 k0_h2 => k0_hw3.2.2.2.2.2.2.2.2.2.2.2.2.2.2.2.2.2.1 k0_h2
theorem k0_off58_inb : ∀ (i : grid0.Coords) (arg16 : BitVec 32) (k0_hw3 : k0_chk3 i arg16), ∀ (k0_h2 : k0_cond2 i = 1#1), ∀ a, (k0_off58 arg16) a + S1.size a ≤ S61932.size a := fun i arg16 k0_hw3 k0_h2 => k0_hw3.2.2.2.2.2.2.2.2.2.2.2.2.2.2.2.2.2.2.1 k0_h2
theorem k0_off59_inb : ∀ (i : grid0.Coords) (arg16 : BitVec 32) (k0_hw3 : k0_chk3 i arg16), ∀ (k0_h2 : k0_cond2 i = 1#1), ∀ a, S8x128.size a = 0 ∨ (k0_off59 arg16) a + (![0, 1] : Fin 2 → Nat) a * (S8x128.size a - 1) < S8224x128.size a := fun i arg16 k0_hw3 k0_h2 => k0_hw3.2.2.2.2.2.2.2.2.2.2.2.2.2.2.2.2.2.2.2.1 k0_h2
theorem k0_off61_inb : ∀ (i : grid0.Coords) (arg16 : BitVec 32) (k0_hw3 : k0_chk3 i arg16), ∀ (k0_h2 : k0_cond2 i = 1#1), ∀ a, (k0_off61 arg16) a + S1.size a ≤ S61932.size a := fun i arg16 k0_hw3 k0_h2 => k0_hw3.2.2.2.2.2.2.2.2.2.2.2.2.2.2.2.2.2.2.2.2.1 k0_h2
theorem k0_off62_inb : ∀ (i : grid0.Coords) (arg16 : BitVec 32) (k0_hw3 : k0_chk3 i arg16), ∀ (k0_h2 : k0_cond2 i = 1#1), ∀ a, S8x128.size a = 0 ∨ (k0_off62 arg16) a + (![0, 1] : Fin 2 → Nat) a * (S8x128.size a - 1) < S8224x128.size a := fun i arg16 k0_hw3 k0_h2 => k0_hw3.2.2.2.2.2.2.2.2.2.2.2.2.2.2.2.2.2.2.2.2.2.1 k0_h2
theorem k0_off64_inb : ∀ (i : grid0.Coords) (arg16 : BitVec 32) (k0_hw3 : k0_chk3 i arg16), ∀ (k0_h2 : k0_cond2 i = 1#1), ∀ a, (k0_off64 arg16) a + S1.size a ≤ S61932.size a := fun i arg16 k0_hw3 k0_h2 => k0_hw3.2.2.2.2.2.2.2.2.2.2.2.2.2.2.2.2.2.2.2.2.2.2.1 k0_h2
theorem k0_off65_inb : ∀ (i : grid0.Coords) (arg16 : BitVec 32) (k0_hw3 : k0_chk3 i arg16), ∀ (k0_h2 : k0_cond2 i = 1#1), ∀ a, S8x128.size a = 0 ∨ (k0_off65 arg16) a + (![0, 1] : Fin 2 → Nat) a * (S8x128.size a - 1) < S8224x128.size a := fun i arg16 k0_hw3 k0_h2 => k0_hw3.2.2.2.2.2.2.2.2.2.2.2.2.2.2.2.2.2.2.2.2.2.2.2 k0_h2

def k0_off66 (v279 : BitVec 32) : Fin 2 → Nat :=
  let v280 : BitVec 32 := v279
  let v289 : Index := Scalar.indexCast v280
  let c0_109 : Index := 0#32
  ![v289.toNat, 0]

def k0_chk15 (i : grid0.Coords) (v279 : BitVec 32) : Prop :=
  (∀ (k0_h2 : k0_cond2 i = 1#1), 8 ∣ (k0_mult21 v279).toNat) ∧
  (∀ (k0_h2 : k0_cond2 i = 1#1), ∀ a, (k0_off66 v279) a + S8x128.size a ≤ S12288x128.size a)
theorem k0_mult21_dvd : ∀ (i : grid0.Coords) (v279 : BitVec 32) (k0_hw15 : k0_chk15 i v279), ∀ (k0_h2 : k0_cond2 i = 1#1), 8 ∣ (k0_mult21 v279).toNat := fun i v279 k0_hw15 k0_h2 => k0_hw15.1 k0_h2
theorem k0_off66_inb : ∀ (i : grid0.Coords) (v279 : BitVec 32) (k0_hw15 : k0_chk15 i v279), ∀ (k0_h2 : k0_cond2 i = 1#1), ∀ a, (k0_off66 v279) a + S8x128.size a ≤ S12288x128.size a := fun i v279 k0_hw15 k0_h2 => k0_hw15.2 k0_h2

def k0_off67 (i : grid0.Coords) (k0_t4 : Fin k0_t4_loop.trips) (k0_t8 : Fin k0_t8_loop.trips) : Fin 2 → Nat :=
  let arg0 : BitVec 32 := BitVec.ofNat 32 (i 0).val
  let c1_i32_1 : BitVec 32 := 1#32
  let v3 : BitVec 32 := Scalar.andi arg0 c1_i32_1
  let c4352_i32 : BitVec 32 := 4352#32
  let v15 : BitVec 32 := Scalar.muli v3 c4352_i32
  let c0_i32_22 : BitVec 32 := 0#32
  let c1_i32_23 : BitVec 32 := 1#32
  let arg14 : BitVec 32 := Scf.iv c0_i32_22 c1_i32_23 k0_t4
  let c1088_i32 : BitVec 32 := 1088#32
  let v56 : BitVec 32 := Scalar.muli arg14 c1088_i32
  let v57 : BitVec 32 := Scalar.addi v15 v56
  let c0_i32_39 : BitVec 32 := 0#32
  let c1_i32_41 : BitVec 32 := 1#32
  let arg15 : BitVec 32 := Scf.iv c0_i32_39 c1_i32_41 k0_t8
  let c17_i32 : BitVec 32 := 17#32
  let v296 : BitVec 32 := Scalar.muli arg15 c17_i32
  let v297 : BitVec 32 := Scalar.addi v57 v296
  let v298 : Index := Scalar.indexCast v297
  let c0_110 : Index := 0#32
  ![v298.toNat, 0]
def k0_cond3 (i : grid0.Coords) : BitVec 1 :=
  let arg0 : BitVec 32 := BitVec.ofNat 32 (i 0).val
  let c0_i32_11 : BitVec 32 := 0#32
  let v24 : BitVec 1 := Scalar.cmpi .sgt arg0 c0_i32_11
  let v25 : BitVec 32 := Scalar.extui v24
  let c0_i32_12 : BitVec 32 := 0#32
  let v26 : BitVec 1 := Scalar.cmpi .ne v25 c0_i32_12
  v26

@[reducible] def k0_t9_loop : Scf.Loop 32 :=
  let c0_i32_22 : BitVec 32 := 0#32
  let c4_i32 : BitVec 32 := 4#32
  let v39 : BitVec 32 := Scalar.addi c0_i32_22 c4_i32
  let c1_i32_23 : BitVec 32 := 1#32
  ⟨c0_i32_22, v39, c1_i32_23⟩
def k0_off68 (i : grid0.Coords) (k0_t9 : Fin k0_t9_loop.trips) (c0_i32_27 : BitVec 32) (c0_i32_26 : BitVec 32) : Fin 2 → Nat :=
  let c1_i32_6 : BitVec 32 := 1#32
  let arg0 : BitVec 32 := BitVec.ofNat 32 (i 0).val
  let c1_i32_1 : BitVec 32 := 1#32
  let v3 : BitVec 32 := Scalar.andi arg0 c1_i32_1
  let v16 : BitVec 32 := Scalar.subi c1_i32_6 v3
  let c4352_i32_7 : BitVec 32 := 4352#32
  let v17 : BitVec 32 := Scalar.muli v16 c4352_i32_7
  let v43 : BitVec 32 := Scalar.addi v17 c0_i32_27
  let c0_i32_22 : BitVec 32 := 0#32
  let c1_i32_23 : BitVec 32 := 1#32
  let arg14 : BitVec 32 := Scf.iv c0_i32_22 c1_i32_23 k0_t9
  let c4_i32_25 : BitVec 32 := 4#32
  let v40 : BitVec 32 := Scalar.muli arg14 c4_i32_25
  let v41 : BitVec 32 := Scalar.addi v40 c0_i32_26
  let c14_i32 : BitVec 32 := 14#32
  let v42 : BitVec 32 := Scalar.minsi v41 c14_i32
  let v44 : BitVec 32 := Scalar.addi v43 v42
  let v45 : Index := Scalar.indexCast v44
  let c0 : Index := 0#32
  ![v45.toNat, 0]
def k0_mult22 (k0_t9 : Fin k0_t9_loop.trips) : BitVec 32 :=
  let c0_i32_22 : BitVec 32 := 0#32
  let c1_i32_23 : BitVec 32 := 1#32
  let arg14 : BitVec 32 := Scf.iv c0_i32_22 c1_i32_23 k0_t9
  let c4_i32_25 : BitVec 32 := 4#32
  let v40 : BitVec 32 := Scalar.muli arg14 c4_i32_25
  let c0_i32_26 : BitVec 32 := 0#32
  let v41 : BitVec 32 := Scalar.addi v40 c0_i32_26
  let c14_i32 : BitVec 32 := 14#32
  let v42 : BitVec 32 := Scalar.minsi v41 c14_i32
  let c128_i32 : BitVec 32 := 128#32
  let v48 : BitVec 32 := Scalar.muli v42 c128_i32
  v48
def k0_off69 (k0_t9 : Fin k0_t9_loop.trips) (c0_i32_26 : BitVec 32) : Fin 2 → Nat :=
  let c0_i32_22 : BitVec 32 := 0#32
  let c1_i32_23 : BitVec 32 := 1#32
  let arg14 : BitVec 32 := Scf.iv c0_i32_22 c1_i32_23 k0_t9
  let c4_i32_25 : BitVec 32 := 4#32
  let v40 : BitVec 32 := Scalar.muli arg14 c4_i32_25
  let v41 : BitVec 32 := Scalar.addi v40 c0_i32_26
  let c14_i32 : BitVec 32 := 14#32
  let v42 : BitVec 32 := Scalar.minsi v41 c14_i32
  let c128_i32 : BitVec 32 := 128#32
  let v48 : BitVec 32 := Scalar.muli v42 c128_i32
  let v49 : BitVec 32 := v48
  let v50 : Index := Scalar.indexCast v49
  let c0_28 : Index := 0#32
  ![v50.toNat, 0]
def k0_mult23 (k0_t9 : Fin k0_t9_loop.trips) : BitVec 32 :=
  let c0_i32_22 : BitVec 32 := 0#32
  let c1_i32_23 : BitVec 32 := 1#32
  let arg14 : BitVec 32 := Scf.iv c0_i32_22 c1_i32_23 k0_t9
  let c4_i32_25 : BitVec 32 := 4#32
  let v40 : BitVec 32 := Scalar.muli arg14 c4_i32_25
  let c0_i32_26 : BitVec 32 := 0#32
  let v41 : BitVec 32 := Scalar.addi v40 c0_i32_26
  let c14_i32 : BitVec 32 := 14#32
  let v42 : BitVec 32 := Scalar.minsi v41 c14_i32
  let c128_i32_30 : BitVec 32 := 128#32
  let v57 : BitVec 32 := Scalar.muli v42 c128_i32_30
  v57
def k0_off70 (k0_t9 : Fin k0_t9_loop.trips) (c0_i32_26 : BitVec 32) : Fin 2 → Nat :=
  let c0_i32_22 : BitVec 32 := 0#32
  let c1_i32_23 : BitVec 32 := 1#32
  let arg14 : BitVec 32 := Scf.iv c0_i32_22 c1_i32_23 k0_t9
  let c4_i32_25 : BitVec 32 := 4#32
  let v40 : BitVec 32 := Scalar.muli arg14 c4_i32_25
  let v41 : BitVec 32 := Scalar.addi v40 c0_i32_26
  let c14_i32 : BitVec 32 := 14#32
  let v42 : BitVec 32 := Scalar.minsi v41 c14_i32
  let c128_i32_30 : BitVec 32 := 128#32
  let v57 : BitVec 32 := Scalar.muli v42 c128_i32_30
  let v58 : BitVec 32 := v57
  let v59 : Index := Scalar.indexCast v58
  let c128 : Index := 128#32
  ![v59.toNat, 128]
def k0_mult24 (k0_t9 : Fin k0_t9_loop.trips) : BitVec 32 :=
  let c0_i32_22 : BitVec 32 := 0#32
  let c1_i32_23 : BitVec 32 := 1#32
  let arg14 : BitVec 32 := Scf.iv c0_i32_22 c1_i32_23 k0_t9
  let c4_i32_31 : BitVec 32 := 4#32
  let v61 : BitVec 32 := Scalar.muli arg14 c4_i32_31
  let c1_i32_32 : BitVec 32 := 1#32
  let v62 : BitVec 32 := Scalar.addi v61 c1_i32_32
  let c14_i32_33 : BitVec 32 := 14#32
  let v63 : BitVec 32 := Scalar.minsi v62 c14_i32_33
  let c128_i32_36 : BitVec 32 := 128#32
  let v69 : BitVec 32 := Scalar.muli v63 c128_i32_36
  v69
def k0_mult25 (k0_t9 : Fin k0_t9_loop.trips) : BitVec 32 :=
  let c0_i32_22 : BitVec 32 := 0#32
  let c1_i32_23 : BitVec 32 := 1#32
  let arg14 : BitVec 32 := Scf.iv c0_i32_22 c1_i32_23 k0_t9
  let c4_i32_31 : BitVec 32 := 4#32
  let v61 : BitVec 32 := Scalar.muli arg14 c4_i32_31
  let c1_i32_32 : BitVec 32 := 1#32
  let v62 : BitVec 32 := Scalar.addi v61 c1_i32_32
  let c14_i32_33 : BitVec 32 := 14#32
  let v63 : BitVec 32 := Scalar.minsi v62 c14_i32_33
  let c128_i32_40 : BitVec 32 := 128#32
  let v78 : BitVec 32 := Scalar.muli v63 c128_i32_40
  v78
def k0_mult26 (k0_t9 : Fin k0_t9_loop.trips) : BitVec 32 :=
  let c0_i32_22 : BitVec 32 := 0#32
  let c1_i32_23 : BitVec 32 := 1#32
  let arg14 : BitVec 32 := Scf.iv c0_i32_22 c1_i32_23 k0_t9
  let c4_i32_42 : BitVec 32 := 4#32
  let v82 : BitVec 32 := Scalar.muli arg14 c4_i32_42
  let c2_i32 : BitVec 32 := 2#32
  let v83 : BitVec 32 := Scalar.addi v82 c2_i32
  let c14_i32_43 : BitVec 32 := 14#32
  let v84 : BitVec 32 := Scalar.minsi v83 c14_i32_43
  let c128_i32_46 : BitVec 32 := 128#32
  let v90 : BitVec 32 := Scalar.muli v84 c128_i32_46
  v90
def k0_mult27 (k0_t9 : Fin k0_t9_loop.trips) : BitVec 32 :=
  let c0_i32_22 : BitVec 32 := 0#32
  let c1_i32_23 : BitVec 32 := 1#32
  let arg14 : BitVec 32 := Scf.iv c0_i32_22 c1_i32_23 k0_t9
  let c4_i32_42 : BitVec 32 := 4#32
  let v82 : BitVec 32 := Scalar.muli arg14 c4_i32_42
  let c2_i32 : BitVec 32 := 2#32
  let v83 : BitVec 32 := Scalar.addi v82 c2_i32
  let c14_i32_43 : BitVec 32 := 14#32
  let v84 : BitVec 32 := Scalar.minsi v83 c14_i32_43
  let c128_i32_50 : BitVec 32 := 128#32
  let v99 : BitVec 32 := Scalar.muli v84 c128_i32_50
  v99
def k0_mult28 (k0_t9 : Fin k0_t9_loop.trips) : BitVec 32 :=
  let c0_i32_22 : BitVec 32 := 0#32
  let c1_i32_23 : BitVec 32 := 1#32
  let arg14 : BitVec 32 := Scf.iv c0_i32_22 c1_i32_23 k0_t9
  let c4_i32_52 : BitVec 32 := 4#32
  let v103 : BitVec 32 := Scalar.muli arg14 c4_i32_52
  let c3_i32 : BitVec 32 := 3#32
  let v104 : BitVec 32 := Scalar.addi v103 c3_i32
  let c14_i32_53 : BitVec 32 := 14#32
  let v105 : BitVec 32 := Scalar.minsi v104 c14_i32_53
  let c128_i32_56 : BitVec 32 := 128#32
  let v111 : BitVec 32 := Scalar.muli v105 c128_i32_56
  v111
def k0_mult29 (k0_t9 : Fin k0_t9_loop.trips) : BitVec 32 :=
  let c0_i32_22 : BitVec 32 := 0#32
  let c1_i32_23 : BitVec 32 := 1#32
  let arg14 : BitVec 32 := Scf.iv c0_i32_22 c1_i32_23 k0_t9
  let c4_i32_52 : BitVec 32 := 4#32
  let v103 : BitVec 32 := Scalar.muli arg14 c4_i32_52
  let c3_i32 : BitVec 32 := 3#32
  let v104 : BitVec 32 := Scalar.addi v103 c3_i32
  let c14_i32_53 : BitVec 32 := 14#32
  let v105 : BitVec 32 := Scalar.minsi v104 c14_i32_53
  let c128_i32_60 : BitVec 32 := 128#32
  let v120 : BitVec 32 := Scalar.muli v105 c128_i32_60
  v120
def k0_mult30 (k0_t9 : Fin k0_t9_loop.trips) : BitVec 32 :=
  let c0_i32_22 : BitVec 32 := 0#32
  let c1_i32_23 : BitVec 32 := 1#32
  let arg14 : BitVec 32 := Scf.iv c0_i32_22 c1_i32_23 k0_t9
  let c480_i32 : BitVec 32 := 480#32
  let v124 : BitVec 32 := Scalar.muli arg14 c480_i32
  v124
def k0_mult31 (i : grid0.Coords) : BitVec 32 :=
  let c1_i32_4 : BitVec 32 := 1#32
  let arg0 : BitVec 32 := BitVec.ofNat 32 (i 0).val
  let c1_i32_1 : BitVec 32 := 1#32
  let v3 : BitVec 32 := Scalar.andi arg0 c1_i32_1
  let v13 : BitVec 32 := Scalar.subi c1_i32_4 v3
  let c768_i32_5 : BitVec 32 := 768#32
  let v14 : BitVec 32 := Scalar.muli v13 c768_i32_5
  v14
def k0_off71 (i : grid0.Coords) : Fin 2 → Nat :=
  let c1_i32_4 : BitVec 32 := 1#32
  let arg0 : BitVec 32 := BitVec.ofNat 32 (i 0).val
  let c1_i32_1 : BitVec 32 := 1#32
  let v3 : BitVec 32 := Scalar.andi arg0 c1_i32_1
  let v13 : BitVec 32 := Scalar.subi c1_i32_4 v3
  let c768_i32_5 : BitVec 32 := 768#32
  let v14 : BitVec 32 := Scalar.muli v13 c768_i32_5
  let v126 : BitVec 32 := v14
  let v127 : Index := Scalar.indexCast v126
  let c0_62 : Index := 0#32
  ![v127.toNat, 0]
def k0_off72 (k0_t9 : Fin k0_t9_loop.trips) : Fin 2 → Nat :=
  let c0_i32_22 : BitVec 32 := 0#32
  let c1_i32_23 : BitVec 32 := 1#32
  let arg14 : BitVec 32 := Scf.iv c0_i32_22 c1_i32_23 k0_t9
  let c480_i32 : BitVec 32 := 480#32
  let v124 : BitVec 32 := Scalar.muli arg14 c480_i32
  let v125 : BitVec 32 := v124
  let v130 : Index := Scalar.indexCast v125
  let c0_63 : Index := 0#32
  ![v130.toNat, 0]
def k0_off73 (k0_t9 : Fin k0_t9_loop.trips) : Fin 2 → Nat :=
  let c0_i32_22 : BitVec 32 := 0#32
  let c1_i32_23 : BitVec 32 := 1#32
  let arg14 : BitVec 32 := Scf.iv c0_i32_22 c1_i32_23 k0_t9
  let c480_i32 : BitVec 32 := 480#32
  let v124 : BitVec 32 := Scalar.muli arg14 c480_i32
  let v125 : BitVec 32 := v124
  let v135 : Index := Scalar.indexCast v125
  let c0_64 : Index := 0#32
  ![v135.toNat, 0]
@[reducible] def k0_t10_loop : Scf.Loop 32 :=
  let c0_i32_67 : BitVec 32 := 0#32
  let c3_i32_68 : BitVec 32 := 3#32
  let v144 : BitVec 32 := Scalar.addi c0_i32_67 c3_i32_68
  let c1_i32_69 : BitVec 32 := 1#32
  ⟨c0_i32_67, v144, c1_i32_69⟩
def k0_mult32 (v10 : BitVec 32) (k0_t9 : Fin k0_t9_loop.trips) (k0_t10 : Fin k0_t10_loop.trips) : BitVec 32 :=
  let c8_i32_3 : BitVec 32 := 8#32
  let v11 : BitVec 32 := Scalar.shrui v10 c8_i32_3
  let c0_i32_22 : BitVec 32 := 0#32
  let c1_i32_23 : BitVec 32 := 1#32
  let arg14 : BitVec 32 := Scf.iv c0_i32_22 c1_i32_23 k0_t9
  let c3_i32_66 : BitVec 32 := 3#32
  let v142 : BitVec 32 := Scalar.muli arg14 c3_i32_66
  let v143 : BitVec 32 := Scalar.addi v11 v142
  let c0_i32_67 : BitVec 32 := 0#32
  let c1_i32_69 : BitVec 32 := 1#32
  let arg15 : BitVec 32 := Scf.iv c0_i32_67 c1_i32_69 k0_t10
  let v164 : BitVec 32 := Scalar.addi v143 arg15
  let c8_i32_87 : BitVec 32 := 8#32
  let v165 : BitVec 32 := Scalar.muli v164 c8_i32_87
  v165
def k0_off74 (v10 : BitVec 32) (k0_t9 : Fin k0_t9_loop.trips) (k0_t10 : Fin k0_t10_loop.trips) : Fin 2 → Nat :=
  let c8_i32_3 : BitVec 32 := 8#32
  let v11 : BitVec 32 := Scalar.shrui v10 c8_i32_3
  let c0_i32_22 : BitVec 32 := 0#32
  let c1_i32_23 : BitVec 32 := 1#32
  let arg14 : BitVec 32 := Scf.iv c0_i32_22 c1_i32_23 k0_t9
  let c3_i32_66 : BitVec 32 := 3#32
  let v142 : BitVec 32 := Scalar.muli arg14 c3_i32_66
  let v143 : BitVec 32 := Scalar.addi v11 v142
  let c0_i32_67 : BitVec 32 := 0#32
  let c1_i32_69 : BitVec 32 := 1#32
  let arg15 : BitVec 32 := Scf.iv c0_i32_67 c1_i32_69 k0_t10
  let v164 : BitVec 32 := Scalar.addi v143 arg15
  let c8_i32_87 : BitVec 32 := 8#32
  let v165 : BitVec 32 := Scalar.muli v164 c8_i32_87
  let v166 : BitVec 32 := v165
  let v167 : Index := Scalar.indexCast v166
  let c0_88 : Index := 0#32
  ![v167.toNat, 0]
def k0_mult33 (v10 : BitVec 32) (k0_t9 : Fin k0_t9_loop.trips) (k0_t10 : Fin k0_t10_loop.trips) : BitVec 32 :=
  let c8_i32_3 : BitVec 32 := 8#32
  let v11 : BitVec 32 := Scalar.shrui v10 c8_i32_3
  let c0_i32_22 : BitVec 32 := 0#32
  let c1_i32_23 : BitVec 32 := 1#32
  let arg14 : BitVec 32 := Scf.iv c0_i32_22 c1_i32_23 k0_t9
  let c3_i32_66 : BitVec 32 := 3#32
  let v142 : BitVec 32 := Scalar.muli arg14 c3_i32_66
  let v143 : BitVec 32 := Scalar.addi v11 v142
  let c0_i32_67 : BitVec 32 := 0#32
  let c1_i32_69 : BitVec 32 := 1#32
  let arg15 : BitVec 32 := Scf.iv c0_i32_67 c1_i32_69 k0_t10
  let v164 : BitVec 32 := Scalar.addi v143 arg15
  let c32_i32 : BitVec 32 := 32#32
  let v170 : BitVec 32 := Scalar.remsi v164 c32_i32
  let c256_i32_89 : BitVec 32 := 256#32
  let v171 : BitVec 32 := Scalar.muli v170 c256_i32_89
  v171
def k0_mult34 (v10 : BitVec 32) (k0_t9 : Fin k0_t9_loop.trips) (k0_t10 : Fin k0_t10_loop.trips) : BitVec 32 :=
  let c8192_i32 : BitVec 32 := 8192#32
  let c8_i32_3 : BitVec 32 := 8#32
  let v11 : BitVec 32 := Scalar.shrui v10 c8_i32_3
  let c0_i32_22 : BitVec 32 := 0#32
  let c1_i32_23 : BitVec 32 := 1#32
  let arg14 : BitVec 32 := Scf.iv c0_i32_22 c1_i32_23 k0_t9
  let c3_i32_66 : BitVec 32 := 3#32
  let v142 : BitVec 32 := Scalar.muli arg14 c3_i32_66
  let v143 : BitVec 32 := Scalar.addi v11 v142
  let c0_i32_67 : BitVec 32 := 0#32
  let c1_i32_69 : BitVec 32 := 1#32
  let arg15 : BitVec 32 := Scf.iv c0_i32_67 c1_i32_69 k0_t10
  let v164 : BitVec 32 := Scalar.addi v143 arg15
  let c32_i32 : BitVec 32 := 32#32
  let v170 : BitVec 32 := Scalar.remsi v164 c32_i32
  let c0_i32_90 : BitVec 32 := 0#32
  let v173 : BitVec 1 := Scalar.cmpi .eq v170 c0_i32_90
  let c0_i32_91 : BitVec 32 := 0#32
  let c16_i32 : BitVec 32 := 16#32
  let v174 : BitVec 32 := Scalar.select v173 c0_i32_91 c16_i32
  let v175 : BitVec 32 := Scalar.addi c8192_i32 v174
  v175
def k0_off75 (v10 : BitVec 32) (k0_t9 : Fin k0_t9_loop.trips) (k0_t10 : Fin k0_t10_loop.trips) (c0_i32_92 : BitVec 32) : Fin 2 → Nat :=
  let c8_i32_3 : BitVec 32 := 8#32
  let v11 : BitVec 32 := Scalar.shrui v10 c8_i32_3
  let c0_i32_22 : BitVec 32 := 0#32
  let c1_i32_23 : BitVec 32 := 1#32
  let arg14 : BitVec 32 := Scf.iv c0_i32_22 c1_i32_23 k0_t9
  let c3_i32_66 : BitVec 32 := 3#32
  let v142 : BitVec 32 := Scalar.muli arg14 c3_i32_66
  let v143 : BitVec 32 := Scalar.addi v11 v142
  let c0_i32_67 : BitVec 32 := 0#32
  let c1_i32_69 : BitVec 32 := 1#32
  let arg15 : BitVec 32 := Scf.iv c0_i32_67 c1_i32_69 k0_t10
  let v164 : BitVec 32 := Scalar.addi v143 arg15
  let c32_i32 : BitVec 32 := 32#32
  let v170 : BitVec 32 := Scalar.remsi v164 c32_i32
  let c256_i32_89 : BitVec 32 := 256#32
  let v171 : BitVec 32 := Scalar.muli v170 c256_i32_89
  let v172 : BitVec 32 := v171
  let v180 : BitVec 32 := Scalar.addi v172 c0_i32_92
  let v181 : Index := Scalar.indexCast v180
  let c0_93 : Index := 0#32
  ![v181.toNat, 0]
def k0_off76 (v10 : BitVec 32) (k0_t9 : Fin k0_t9_loop.trips) (k0_t10 : Fin k0_t10_loop.trips) (c0_i32_94 : BitVec 32) : Fin 2 → Nat :=
  let c8192_i32 : BitVec 32 := 8192#32
  let c8_i32_3 : BitVec 32 := 8#32
  let v11 : BitVec 32 := Scalar.shrui v10 c8_i32_3
  let c0_i32_22 : BitVec 32 := 0#32
  let c1_i32_23 : BitVec 32 := 1#32
  let arg14 : BitVec 32 := Scf.iv c0_i32_22 c1_i32_23 k0_t9
  let c3_i32_66 : BitVec 32 := 3#32
  let v142 : BitVec 32 := Scalar.muli arg14 c3_i32_66
  let v143 : BitVec 32 := Scalar.addi v11 v142
  let c0_i32_67 : BitVec 32 := 0#32
  let c1_i32_69 : BitVec 32 := 1#32
  let arg15 : BitVec 32 := Scf.iv c0_i32_67 c1_i32_69 k0_t10
  let v164 : BitVec 32 := Scalar.addi v143 arg15
  let c32_i32 : BitVec 32 := 32#32
  let v170 : BitVec 32 := Scalar.remsi v164 c32_i32
  let c0_i32_90 : BitVec 32 := 0#32
  let v173 : BitVec 1 := Scalar.cmpi .eq v170 c0_i32_90
  let c0_i32_91 : BitVec 32 := 0#32
  let c16_i32 : BitVec 32 := 16#32
  let v174 : BitVec 32 := Scalar.select v173 c0_i32_91 c16_i32
  let v175 : BitVec 32 := Scalar.addi c8192_i32 v174
  let v176 : BitVec 32 := v175
  let v185 : BitVec 32 := Scalar.addi v176 c0_i32_94
  let v186 : Index := Scalar.indexCast v185
  let c0_95 : Index := 0#32
  ![v186.toNat, 0]

def k0_chk2 (i : grid0.Coords) (v10 : BitVec 32) : Prop :=
  (∀ (k0_t4 : Fin k0_t4_loop.trips) (k0_t5 : Fin k0_t5_loop.trips), ∀ (k0_h2 : k0_cond2 i = 1#1), 8 ∣ (k0_mult5 v10 k0_t4 k0_t5).toNat) ∧
  (∀ (k0_t4 : Fin k0_t4_loop.trips) (k0_t5 : Fin k0_t5_loop.trips), ∀ (k0_h2 : k0_cond2 i = 1#1), ∀ a, (k0_off22 v10 k0_t4 k0_t5) a + S8x32.size a ≤ S2032x32.size a) ∧
  (∀ (k0_t4 : Fin k0_t4_loop.trips) (k0_t5 : Fin k0_t5_loop.trips), ∀ (k0_h2 : k0_cond2 i = 1#1), 256 ∣ (k0_mult6 v10 k0_t4 k0_t5).toNat) ∧
  (∀ (k0_t4 : Fin k0_t4_loop.trips) (k0_t5 : Fin k0_t5_loop.trips), ∀ (k0_h2 : k0_cond2 i = 1#1), 16 ∣ (k0_mult7 v10 k0_t4 k0_t5).toNat) ∧
  (∀ (k0_t4 : Fin k0_t4_loop.trips) (k0_t5 : Fin k0_t5_loop.trips), ∀ (k0_h2 : k0_cond2 i = 1#1), ∀ (r : Fin 32), ∀ a, (k0_off23 v10 k0_t4 k0_t5 (BitVec.ofNat 32 (8 * r.val))) a + S8x128.size a ≤ S8224x128.size a) ∧
  (∀ (k0_t4 : Fin k0_t4_loop.trips) (k0_t5 : Fin k0_t5_loop.trips), ∀ (k0_h2 : k0_cond2 i = 1#1), ∀ (r : Fin 2), ∀ a, (k0_off24 v10 k0_t4 k0_t5 (BitVec.ofNat 32 (8 * r.val))) a + S8x128.size a ≤ S8224x128.size a) ∧
  (∀ (k0_t9 : Fin k0_t9_loop.trips) (k0_t10 : Fin k0_t10_loop.trips), ∀ (k0_h3 : k0_cond3 i = 1#1), 8 ∣ (k0_mult32 v10 k0_t9 k0_t10).toNat) ∧
  (∀ (k0_t9 : Fin k0_t9_loop.trips) (k0_t10 : Fin k0_t10_loop.trips), ∀ (k0_h3 : k0_cond3 i = 1#1), ∀ a, (k0_off74 v10 k0_t9 k0_t10) a + S8x32.size a ≤ S2032x32.size a) ∧
  (∀ (k0_t9 : Fin k0_t9_loop.trips) (k0_t10 : Fin k0_t10_loop.trips), ∀ (k0_h3 : k0_cond3 i = 1#1), 256 ∣ (k0_mult33 v10 k0_t9 k0_t10).toNat) ∧
  (∀ (k0_t9 : Fin k0_t9_loop.trips) (k0_t10 : Fin k0_t10_loop.trips), ∀ (k0_h3 : k0_cond3 i = 1#1), 16 ∣ (k0_mult34 v10 k0_t9 k0_t10).toNat) ∧
  (∀ (k0_t9 : Fin k0_t9_loop.trips) (k0_t10 : Fin k0_t10_loop.trips), ∀ (k0_h3 : k0_cond3 i = 1#1), ∀ (r : Fin 32), ∀ a, (k0_off75 v10 k0_t9 k0_t10 (BitVec.ofNat 32 (8 * r.val))) a + S8x128.size a ≤ S8224x128.size a) ∧
  (∀ (k0_t9 : Fin k0_t9_loop.trips) (k0_t10 : Fin k0_t10_loop.trips), ∀ (k0_h3 : k0_cond3 i = 1#1), ∀ (r : Fin 2), ∀ a, (k0_off76 v10 k0_t9 k0_t10 (BitVec.ofNat 32 (8 * r.val))) a + S8x128.size a ≤ S8224x128.size a)
theorem k0_mult5_dvd : ∀ (i : grid0.Coords) (v10 : BitVec 32) (k0_hw2 : k0_chk2 i v10) (k0_t4 : Fin k0_t4_loop.trips) (k0_t5 : Fin k0_t5_loop.trips), ∀ (k0_h2 : k0_cond2 i = 1#1), 8 ∣ (k0_mult5 v10 k0_t4 k0_t5).toNat := fun i v10 k0_hw2 k0_t4 k0_t5 k0_h2 => k0_hw2.1 k0_t4 k0_t5 k0_h2
theorem k0_off22_inb : ∀ (i : grid0.Coords) (v10 : BitVec 32) (k0_hw2 : k0_chk2 i v10) (k0_t4 : Fin k0_t4_loop.trips) (k0_t5 : Fin k0_t5_loop.trips), ∀ (k0_h2 : k0_cond2 i = 1#1), ∀ a, (k0_off22 v10 k0_t4 k0_t5) a + S8x32.size a ≤ S2032x32.size a := fun i v10 k0_hw2 k0_t4 k0_t5 k0_h2 => k0_hw2.2.1 k0_t4 k0_t5 k0_h2
theorem k0_mult6_dvd : ∀ (i : grid0.Coords) (v10 : BitVec 32) (k0_hw2 : k0_chk2 i v10) (k0_t4 : Fin k0_t4_loop.trips) (k0_t5 : Fin k0_t5_loop.trips), ∀ (k0_h2 : k0_cond2 i = 1#1), 256 ∣ (k0_mult6 v10 k0_t4 k0_t5).toNat := fun i v10 k0_hw2 k0_t4 k0_t5 k0_h2 => k0_hw2.2.2.1 k0_t4 k0_t5 k0_h2
theorem k0_mult7_dvd : ∀ (i : grid0.Coords) (v10 : BitVec 32) (k0_hw2 : k0_chk2 i v10) (k0_t4 : Fin k0_t4_loop.trips) (k0_t5 : Fin k0_t5_loop.trips), ∀ (k0_h2 : k0_cond2 i = 1#1), 16 ∣ (k0_mult7 v10 k0_t4 k0_t5).toNat := fun i v10 k0_hw2 k0_t4 k0_t5 k0_h2 => k0_hw2.2.2.2.1 k0_t4 k0_t5 k0_h2
theorem k0_off23_inb : ∀ (i : grid0.Coords) (v10 : BitVec 32) (k0_hw2 : k0_chk2 i v10) (k0_t4 : Fin k0_t4_loop.trips) (k0_t5 : Fin k0_t5_loop.trips), ∀ (k0_h2 : k0_cond2 i = 1#1), ∀ (r : Fin 32), ∀ a, (k0_off23 v10 k0_t4 k0_t5 (BitVec.ofNat 32 (8 * r.val))) a + S8x128.size a ≤ S8224x128.size a := fun i v10 k0_hw2 k0_t4 k0_t5 k0_h2 r => k0_hw2.2.2.2.2.1 k0_t4 k0_t5 k0_h2 r
theorem k0_off24_inb : ∀ (i : grid0.Coords) (v10 : BitVec 32) (k0_hw2 : k0_chk2 i v10) (k0_t4 : Fin k0_t4_loop.trips) (k0_t5 : Fin k0_t5_loop.trips), ∀ (k0_h2 : k0_cond2 i = 1#1), ∀ (r : Fin 2), ∀ a, (k0_off24 v10 k0_t4 k0_t5 (BitVec.ofNat 32 (8 * r.val))) a + S8x128.size a ≤ S8224x128.size a := fun i v10 k0_hw2 k0_t4 k0_t5 k0_h2 r => k0_hw2.2.2.2.2.2.1 k0_t4 k0_t5 k0_h2 r
theorem k0_mult32_dvd : ∀ (i : grid0.Coords) (v10 : BitVec 32) (k0_hw2 : k0_chk2 i v10) (k0_t9 : Fin k0_t9_loop.trips) (k0_t10 : Fin k0_t10_loop.trips), ∀ (k0_h3 : k0_cond3 i = 1#1), 8 ∣ (k0_mult32 v10 k0_t9 k0_t10).toNat := fun i v10 k0_hw2 k0_t9 k0_t10 k0_h3 => k0_hw2.2.2.2.2.2.2.1 k0_t9 k0_t10 k0_h3
theorem k0_off74_inb : ∀ (i : grid0.Coords) (v10 : BitVec 32) (k0_hw2 : k0_chk2 i v10) (k0_t9 : Fin k0_t9_loop.trips) (k0_t10 : Fin k0_t10_loop.trips), ∀ (k0_h3 : k0_cond3 i = 1#1), ∀ a, (k0_off74 v10 k0_t9 k0_t10) a + S8x32.size a ≤ S2032x32.size a := fun i v10 k0_hw2 k0_t9 k0_t10 k0_h3 => k0_hw2.2.2.2.2.2.2.2.1 k0_t9 k0_t10 k0_h3
theorem k0_mult33_dvd : ∀ (i : grid0.Coords) (v10 : BitVec 32) (k0_hw2 : k0_chk2 i v10) (k0_t9 : Fin k0_t9_loop.trips) (k0_t10 : Fin k0_t10_loop.trips), ∀ (k0_h3 : k0_cond3 i = 1#1), 256 ∣ (k0_mult33 v10 k0_t9 k0_t10).toNat := fun i v10 k0_hw2 k0_t9 k0_t10 k0_h3 => k0_hw2.2.2.2.2.2.2.2.2.1 k0_t9 k0_t10 k0_h3
theorem k0_mult34_dvd : ∀ (i : grid0.Coords) (v10 : BitVec 32) (k0_hw2 : k0_chk2 i v10) (k0_t9 : Fin k0_t9_loop.trips) (k0_t10 : Fin k0_t10_loop.trips), ∀ (k0_h3 : k0_cond3 i = 1#1), 16 ∣ (k0_mult34 v10 k0_t9 k0_t10).toNat := fun i v10 k0_hw2 k0_t9 k0_t10 k0_h3 => k0_hw2.2.2.2.2.2.2.2.2.2.1 k0_t9 k0_t10 k0_h3
theorem k0_off75_inb : ∀ (i : grid0.Coords) (v10 : BitVec 32) (k0_hw2 : k0_chk2 i v10) (k0_t9 : Fin k0_t9_loop.trips) (k0_t10 : Fin k0_t10_loop.trips), ∀ (k0_h3 : k0_cond3 i = 1#1), ∀ (r : Fin 32), ∀ a, (k0_off75 v10 k0_t9 k0_t10 (BitVec.ofNat 32 (8 * r.val))) a + S8x128.size a ≤ S8224x128.size a := fun i v10 k0_hw2 k0_t9 k0_t10 k0_h3 r => k0_hw2.2.2.2.2.2.2.2.2.2.2.1 k0_t9 k0_t10 k0_h3 r
theorem k0_off76_inb : ∀ (i : grid0.Coords) (v10 : BitVec 32) (k0_hw2 : k0_chk2 i v10) (k0_t9 : Fin k0_t9_loop.trips) (k0_t10 : Fin k0_t10_loop.trips), ∀ (k0_h3 : k0_cond3 i = 1#1), ∀ (r : Fin 2), ∀ a, (k0_off76 v10 k0_t9 k0_t10 (BitVec.ofNat 32 (8 * r.val))) a + S8x128.size a ≤ S8224x128.size a := fun i v10 k0_hw2 k0_t9 k0_t10 k0_h3 r => k0_hw2.2.2.2.2.2.2.2.2.2.2.2 k0_t9 k0_t10 k0_h3 r

def k0_mult35 (k0_t9 : Fin k0_t9_loop.trips) : BitVec 32 :=
  let c0_i32_22 : BitVec 32 := 0#32
  let c1_i32_23 : BitVec 32 := 1#32
  let arg14 : BitVec 32 := Scf.iv c0_i32_22 c1_i32_23 k0_t9
  let c192_i32 : BitVec 32 := 192#32
  let v145 : BitVec 32 := Scalar.muli arg14 c192_i32
  v145
def k0_mult36 (i : grid0.Coords) (k0_t9 : Fin k0_t9_loop.trips) : BitVec 32 :=
  let arg0 : BitVec 32 := BitVec.ofNat 32 (i 0).val
  let c1_i32_1 : BitVec 32 := 1#32
  let v3 : BitVec 32 := Scalar.andi arg0 c1_i32_1
  let c768_i32 : BitVec 32 := 768#32
  let v12 : BitVec 32 := Scalar.muli v3 c768_i32
  let c0_i32_22 : BitVec 32 := 0#32
  let c1_i32_23 : BitVec 32 := 1#32
  let arg14 : BitVec 32 := Scf.iv c0_i32_22 c1_i32_23 k0_t9
  let c192_i32 : BitVec 32 := 192#32
  let v145 : BitVec 32 := Scalar.muli arg14 c192_i32
  let v146 : BitVec 32 := v145
  let v147 : BitVec 32 := Scalar.addi v12 v146
  v147
@[reducible] def k0_t11_loop : Scf.Loop 32 :=
  let c0_i32_73 : BitVec 32 := 0#32
  let c6_i32 : BitVec 32 := 6#32
  let v151 : BitVec 32 := Scalar.addi c0_i32_73 c6_i32
  let c1_i32_74 : BitVec 32 := 1#32
  ⟨c0_i32_73, v151, c1_i32_74⟩
def k0_off77 (k0_t9 : Fin k0_t9_loop.trips) (k0_t11 : Fin k0_t11_loop.trips) : Fin 2 → Nat :=
  let c0_i32_22 : BitVec 32 := 0#32
  let c1_i32_23 : BitVec 32 := 1#32
  let arg14 : BitVec 32 := Scf.iv c0_i32_22 c1_i32_23 k0_t9
  let c192_i32 : BitVec 32 := 192#32
  let v145 : BitVec 32 := Scalar.muli arg14 c192_i32
  let v146 : BitVec 32 := v145
  let c0_i32_73 : BitVec 32 := 0#32
  let c1_i32_74 : BitVec 32 := 1#32
  let arg15 : BitVec 32 := Scf.iv c0_i32_73 c1_i32_74 k0_t11
  let c32_i32 : BitVec 32 := 32#32
  let v164 : BitVec 32 := Scalar.muli arg15 c32_i32
  let v165 : BitVec 32 := Scalar.addi v146 v164
  let v166 : Index := Scalar.indexCast v165
  let c0_87 : Index := 0#32
  ![v166.toNat, 0]
def k0_off78 (i : grid0.Coords) (k0_t9 : Fin k0_t9_loop.trips) (k0_t11 : Fin k0_t11_loop.trips) (c0_i32_93 : BitVec 32) : Fin 2 → Nat :=
  let arg0 : BitVec 32 := BitVec.ofNat 32 (i 0).val
  let c1_i32_1 : BitVec 32 := 1#32
  let v3 : BitVec 32 := Scalar.andi arg0 c1_i32_1
  let c768_i32 : BitVec 32 := 768#32
  let v12 : BitVec 32 := Scalar.muli v3 c768_i32
  let c0_i32_22 : BitVec 32 := 0#32
  let c1_i32_23 : BitVec 32 := 1#32
  let arg14 : BitVec 32 := Scf.iv c0_i32_22 c1_i32_23 k0_t9
  let c192_i32 : BitVec 32 := 192#32
  let v145 : BitVec 32 := Scalar.muli arg14 c192_i32
  let v146 : BitVec 32 := v145
  let v147 : BitVec 32 := Scalar.addi v12 v146
  let v148 : BitVec 32 := v147
  let c0_i32_73 : BitVec 32 := 0#32
  let c1_i32_74 : BitVec 32 := 1#32
  let arg15 : BitVec 32 := Scf.iv c0_i32_73 c1_i32_74 k0_t11
  let c32_i32_92 : BitVec 32 := 32#32
  let v197 : BitVec 32 := Scalar.muli arg15 c32_i32_92
  let v198 : BitVec 32 := Scalar.addi v148 v197
  let v199 : BitVec 32 := Scalar.addi v198 c0_i32_93
  let v200 : Index := Scalar.indexCast v199
  let c0_94 : Index := 0#32
  ![v200.toNat, 0]
@[reducible] def k0_t12_loop : Scf.Loop 32 :=
  let c0_i32_78 : BitVec 32 := 0#32
  let c6_i32_79 : BitVec 32 := 6#32
  let v154 : BitVec 32 := Scalar.addi c0_i32_78 c6_i32_79
  let c1_i32_80 : BitVec 32 := 1#32
  ⟨c0_i32_78, v154, c1_i32_80⟩
def k0_off79 (k0_t9 : Fin k0_t9_loop.trips) (k0_t12 : Fin k0_t12_loop.trips) : Fin 2 → Nat :=
  let c0_i32_22 : BitVec 32 := 0#32
  let c1_i32_23 : BitVec 32 := 1#32
  let arg14 : BitVec 32 := Scf.iv c0_i32_22 c1_i32_23 k0_t9
  let c192_i32 : BitVec 32 := 192#32
  let v145 : BitVec 32 := Scalar.muli arg14 c192_i32
  let v146 : BitVec 32 := v145
  let c0_i32_78 : BitVec 32 := 0#32
  let c1_i32_80 : BitVec 32 := 1#32
  let arg15 : BitVec 32 := Scf.iv c0_i32_78 c1_i32_80 k0_t12
  let c32_i32 : BitVec 32 := 32#32
  let v164 : BitVec 32 := Scalar.muli arg15 c32_i32
  let v165 : BitVec 32 := Scalar.addi v146 v164
  let v166 : Index := Scalar.indexCast v165
  let c128_87 : Index := 128#32
  ![v166.toNat, 128]
def k0_off80 (i : grid0.Coords) (k0_t9 : Fin k0_t9_loop.trips) (k0_t12 : Fin k0_t12_loop.trips) (c0_i32_93 : BitVec 32) : Fin 2 → Nat :=
  let arg0 : BitVec 32 := BitVec.ofNat 32 (i 0).val
  let c1_i32_1 : BitVec 32 := 1#32
  let v3 : BitVec 32 := Scalar.andi arg0 c1_i32_1
  let c768_i32 : BitVec 32 := 768#32
  let v12 : BitVec 32 := Scalar.muli v3 c768_i32
  let c0_i32_22 : BitVec 32 := 0#32
  let c1_i32_23 : BitVec 32 := 1#32
  let arg14 : BitVec 32 := Scf.iv c0_i32_22 c1_i32_23 k0_t9
  let c192_i32 : BitVec 32 := 192#32
  let v145 : BitVec 32 := Scalar.muli arg14 c192_i32
  let v146 : BitVec 32 := v145
  let v147 : BitVec 32 := Scalar.addi v12 v146
  let v148 : BitVec 32 := v147
  let c0_i32_78 : BitVec 32 := 0#32
  let c1_i32_80 : BitVec 32 := 1#32
  let arg15 : BitVec 32 := Scf.iv c0_i32_78 c1_i32_80 k0_t12
  let c32_i32_92 : BitVec 32 := 32#32
  let v197 : BitVec 32 := Scalar.muli arg15 c32_i32_92
  let v198 : BitVec 32 := Scalar.addi v148 v197
  let v199 : BitVec 32 := Scalar.addi v198 c0_i32_93
  let v200 : Index := Scalar.indexCast v199
  let c128_94 : Index := 128#32
  ![v200.toNat, 128]
def k0_off81 (i : grid0.Coords) (k0_t9 : Fin k0_t9_loop.trips) : Fin 1 → Nat :=
  let arg0 : BitVec 32 := BitVec.ofNat 32 (i 0).val
  let c34_i32 : BitVec 32 := 34#32
  let v0 : BitVec 32 := Scalar.minsi arg0 c34_i32
  let c256_i32_82 : BitVec 32 := 256#32
  let v155 : BitVec 32 := Scalar.muli v0 c256_i32_82
  let c0_i32_22 : BitVec 32 := 0#32
  let c1_i32_23 : BitVec 32 := 1#32
  let arg14 : BitVec 32 := Scf.iv c0_i32_22 c1_i32_23 k0_t9
  let c64_i32 : BitVec 32 := 64#32
  let v156 : BitVec 32 := Scalar.muli arg14 c64_i32
  let v157 : BitVec 32 := Scalar.addi v155 v156
  let v160 : Index := Scalar.indexCast v157
  ![v160.toNat]
@[reducible] def k0_t13_loop : Scf.Loop 32 :=
  let c0_i32_83 : BitVec 32 := 0#32
  let c64_i32_84 : BitVec 32 := 64#32
  let v162 : BitVec 32 := Scalar.addi c0_i32_83 c64_i32_84
  let c1_i32_85 : BitVec 32 := 1#32
  ⟨c0_i32_83, v162, c1_i32_85⟩
def k0_off82 (i : grid0.Coords) (k0_t9 : Fin k0_t9_loop.trips) (k0_t13 : Fin k0_t13_loop.trips) : Fin 1 → Nat :=
  let arg0 : BitVec 32 := BitVec.ofNat 32 (i 0).val
  let c34_i32 : BitVec 32 := 34#32
  let v0 : BitVec 32 := Scalar.minsi arg0 c34_i32
  let c256_i32_82 : BitVec 32 := 256#32
  let v155 : BitVec 32 := Scalar.muli v0 c256_i32_82
  let c0_i32_22 : BitVec 32 := 0#32
  let c1_i32_23 : BitVec 32 := 1#32
  let arg14 : BitVec 32 := Scf.iv c0_i32_22 c1_i32_23 k0_t9
  let c64_i32 : BitVec 32 := 64#32
  let v156 : BitVec 32 := Scalar.muli arg14 c64_i32
  let v157 : BitVec 32 := Scalar.addi v155 v156
  let c0_i32_83 : BitVec 32 := 0#32
  let c1_i32_85 : BitVec 32 := 1#32
  let arg15 : BitVec 32 := Scf.iv c0_i32_83 c1_i32_85 k0_t13
  let v164 : BitVec 32 := Scalar.addi v157 arg15
  let c1_i32_87 : BitVec 32 := 1#32
  let v165 : BitVec 32 := Scalar.addi v164 c1_i32_87
  let v166 : Index := Scalar.indexCast v165
  ![v166.toNat]
def k0_off83 (arg16 : BitVec 32) : Fin 1 → Nat :=
  let v172 : Index := Scalar.indexCast arg16
  ![v172.toNat]

def k0_mult37 (v173 : BitVec 32) : BitVec 32 :=
  v173

def k0_off84 (arg16 : BitVec 32) : Fin 2 → Nat :=
  let c8191_i32 : BitVec 32 := 8191#32
  let v170 : BitVec 32 := Scalar.andi arg16 c8191_i32
  let c0_i32_89 : BitVec 32 := 0#32
  let v175 : BitVec 32 := Scalar.addi v170 c0_i32_89
  let v176 : Index := Scalar.indexCast v175
  let c0_90 : Index := 0#32
  ![v176.toNat, 0]
def k0_off85 (v173 : BitVec 32) : Fin 2 → Nat :=
  let v174 : BitVec 32 := v173
  let v183 : Index := Scalar.indexCast v174
  let c0_93 : Index := 0#32
  ![v183.toNat, 0]

def k0_chk17 (i : grid0.Coords) (v173 : BitVec 32) : Prop :=
  (∀ (k0_h3 : k0_cond3 i = 1#1), 8 ∣ (k0_mult37 v173).toNat) ∧
  (∀ (k0_h3 : k0_cond3 i = 1#1), ∀ a, (k0_off85 v173) a + S8x128.size a ≤ S12288x128.size a)
theorem k0_mult37_dvd : ∀ (i : grid0.Coords) (v173 : BitVec 32) (k0_hw17 : k0_chk17 i v173), ∀ (k0_h3 : k0_cond3 i = 1#1), 8 ∣ (k0_mult37 v173).toNat := fun i v173 k0_hw17 k0_h3 => k0_hw17.1 k0_h3
theorem k0_off85_inb : ∀ (i : grid0.Coords) (v173 : BitVec 32) (k0_hw17 : k0_chk17 i v173), ∀ (k0_h3 : k0_cond3 i = 1#1), ∀ a, (k0_off85 v173) a + S8x128.size a ≤ S12288x128.size a := fun i v173 k0_hw17 k0_h3 => k0_hw17.2 k0_h3

def k0_off86 (arg16 : BitVec 32) : Fin 1 → Nat :=
  let v190 : Index := Scalar.indexCast arg16
  ![v190.toNat]
def k0_mult38 (v191 : BitVec 32) : BitVec 32 :=
  v191

def k0_off87 (arg16 : BitVec 32) : Fin 2 → Nat :=
  let c8191_i32 : BitVec 32 := 8191#32
  let v170 : BitVec 32 := Scalar.andi arg16 c8191_i32
  let c1_i32_95 : BitVec 32 := 1#32
  let v193 : BitVec 32 := Scalar.addi v170 c1_i32_95
  let v194 : Index := Scalar.indexCast v193
  let c0_96 : Index := 0#32
  ![v194.toNat, 0]
def k0_off88 (v191 : BitVec 32) : Fin 2 → Nat :=
  let v192 : BitVec 32 := v191
  let v201 : Index := Scalar.indexCast v192
  let c0_99 : Index := 0#32
  ![v201.toNat, 0]

def k0_chk18 (i : grid0.Coords) (v191 : BitVec 32) : Prop :=
  (∀ (k0_h3 : k0_cond3 i = 1#1), 8 ∣ (k0_mult38 v191).toNat) ∧
  (∀ (k0_h3 : k0_cond3 i = 1#1), ∀ a, (k0_off88 v191) a + S8x128.size a ≤ S12288x128.size a)
theorem k0_mult38_dvd : ∀ (i : grid0.Coords) (v191 : BitVec 32) (k0_hw18 : k0_chk18 i v191), ∀ (k0_h3 : k0_cond3 i = 1#1), 8 ∣ (k0_mult38 v191).toNat := fun i v191 k0_hw18 k0_h3 => k0_hw18.1 k0_h3
theorem k0_off88_inb : ∀ (i : grid0.Coords) (v191 : BitVec 32) (k0_hw18 : k0_chk18 i v191), ∀ (k0_h3 : k0_cond3 i = 1#1), ∀ a, (k0_off88 v191) a + S8x128.size a ≤ S12288x128.size a := fun i v191 k0_hw18 k0_h3 => k0_hw18.2 k0_h3

def k0_off89 (arg16 : BitVec 32) : Fin 1 → Nat :=
  let v209 : Index := Scalar.indexCast arg16
  ![v209.toNat]
def k0_mult39 (v210 : BitVec 32) : BitVec 32 :=
  v210

def k0_off90 (arg16 : BitVec 32) : Fin 2 → Nat :=
  let c8191_i32 : BitVec 32 := 8191#32
  let v170 : BitVec 32 := Scalar.andi arg16 c8191_i32
  let c2_i32_101 : BitVec 32 := 2#32
  let v212 : BitVec 32 := Scalar.addi v170 c2_i32_101
  let v213 : Index := Scalar.indexCast v212
  let c0_102 : Index := 0#32
  ![v213.toNat, 0]
def k0_off91 (v210 : BitVec 32) : Fin 2 → Nat :=
  let v211 : BitVec 32 := v210
  let v220 : Index := Scalar.indexCast v211
  let c0_105 : Index := 0#32
  ![v220.toNat, 0]

def k0_chk19 (i : grid0.Coords) (v210 : BitVec 32) : Prop :=
  (∀ (k0_h3 : k0_cond3 i = 1#1), 8 ∣ (k0_mult39 v210).toNat) ∧
  (∀ (k0_h3 : k0_cond3 i = 1#1), ∀ a, (k0_off91 v210) a + S8x128.size a ≤ S12288x128.size a)
theorem k0_mult39_dvd : ∀ (i : grid0.Coords) (v210 : BitVec 32) (k0_hw19 : k0_chk19 i v210), ∀ (k0_h3 : k0_cond3 i = 1#1), 8 ∣ (k0_mult39 v210).toNat := fun i v210 k0_hw19 k0_h3 => k0_hw19.1 k0_h3
theorem k0_off91_inb : ∀ (i : grid0.Coords) (v210 : BitVec 32) (k0_hw19 : k0_chk19 i v210), ∀ (k0_h3 : k0_cond3 i = 1#1), ∀ a, (k0_off91 v210) a + S8x128.size a ≤ S12288x128.size a := fun i v210 k0_hw19 k0_h3 => k0_hw19.2 k0_h3

def k0_off92 (arg16 : BitVec 32) : Fin 1 → Nat :=
  let v228 : Index := Scalar.indexCast arg16
  ![v228.toNat]
def k0_mult40 (v229 : BitVec 32) : BitVec 32 :=
  v229

def k0_off93 (arg16 : BitVec 32) : Fin 2 → Nat :=
  let c8191_i32 : BitVec 32 := 8191#32
  let v170 : BitVec 32 := Scalar.andi arg16 c8191_i32
  let c3_i32_107 : BitVec 32 := 3#32
  let v231 : BitVec 32 := Scalar.addi v170 c3_i32_107
  let v232 : Index := Scalar.indexCast v231
  let c0_108 : Index := 0#32
  ![v232.toNat, 0]
def k0_off94 (v229 : BitVec 32) : Fin 2 → Nat :=
  let v230 : BitVec 32 := v229
  let v239 : Index := Scalar.indexCast v230
  let c0_111 : Index := 0#32
  ![v239.toNat, 0]

def k0_chk20 (i : grid0.Coords) (v229 : BitVec 32) : Prop :=
  (∀ (k0_h3 : k0_cond3 i = 1#1), 8 ∣ (k0_mult40 v229).toNat) ∧
  (∀ (k0_h3 : k0_cond3 i = 1#1), ∀ a, (k0_off94 v229) a + S8x128.size a ≤ S12288x128.size a)
theorem k0_mult40_dvd : ∀ (i : grid0.Coords) (v229 : BitVec 32) (k0_hw20 : k0_chk20 i v229), ∀ (k0_h3 : k0_cond3 i = 1#1), 8 ∣ (k0_mult40 v229).toNat := fun i v229 k0_hw20 k0_h3 => k0_hw20.1 k0_h3
theorem k0_off94_inb : ∀ (i : grid0.Coords) (v229 : BitVec 32) (k0_hw20 : k0_chk20 i v229), ∀ (k0_h3 : k0_cond3 i = 1#1), ∀ a, (k0_off94 v229) a + S8x128.size a ≤ S12288x128.size a := fun i v229 k0_hw20 k0_h3 => k0_hw20.2 k0_h3

def k0_off95 (arg16 : BitVec 32) : Fin 1 → Nat :=
  let v247 : Index := Scalar.indexCast arg16
  ![v247.toNat]
def k0_mult41 (v248 : BitVec 32) : BitVec 32 :=
  v248

def k0_off96 (arg16 : BitVec 32) : Fin 2 → Nat :=
  let c8191_i32 : BitVec 32 := 8191#32
  let v170 : BitVec 32 := Scalar.andi arg16 c8191_i32
  let c4_i32_113 : BitVec 32 := 4#32
  let v250 : BitVec 32 := Scalar.addi v170 c4_i32_113
  let v251 : Index := Scalar.indexCast v250
  let c0_114 : Index := 0#32
  ![v251.toNat, 0]
def k0_off97 (v248 : BitVec 32) : Fin 2 → Nat :=
  let v249 : BitVec 32 := v248
  let v258 : Index := Scalar.indexCast v249
  let c0_117 : Index := 0#32
  ![v258.toNat, 0]

def k0_chk21 (i : grid0.Coords) (v248 : BitVec 32) : Prop :=
  (∀ (k0_h3 : k0_cond3 i = 1#1), 8 ∣ (k0_mult41 v248).toNat) ∧
  (∀ (k0_h3 : k0_cond3 i = 1#1), ∀ a, (k0_off97 v248) a + S8x128.size a ≤ S12288x128.size a)
theorem k0_mult41_dvd : ∀ (i : grid0.Coords) (v248 : BitVec 32) (k0_hw21 : k0_chk21 i v248), ∀ (k0_h3 : k0_cond3 i = 1#1), 8 ∣ (k0_mult41 v248).toNat := fun i v248 k0_hw21 k0_h3 => k0_hw21.1 k0_h3
theorem k0_off97_inb : ∀ (i : grid0.Coords) (v248 : BitVec 32) (k0_hw21 : k0_chk21 i v248), ∀ (k0_h3 : k0_cond3 i = 1#1), ∀ a, (k0_off97 v248) a + S8x128.size a ≤ S12288x128.size a := fun i v248 k0_hw21 k0_h3 => k0_hw21.2 k0_h3

def k0_off98 (arg16 : BitVec 32) : Fin 1 → Nat :=
  let v266 : Index := Scalar.indexCast arg16
  ![v266.toNat]
def k0_mult42 (v267 : BitVec 32) : BitVec 32 :=
  v267

def k0_off99 (arg16 : BitVec 32) : Fin 2 → Nat :=
  let c8191_i32 : BitVec 32 := 8191#32
  let v170 : BitVec 32 := Scalar.andi arg16 c8191_i32
  let c5_i32_118 : BitVec 32 := 5#32
  let v269 : BitVec 32 := Scalar.addi v170 c5_i32_118
  let v270 : Index := Scalar.indexCast v269
  let c0_119 : Index := 0#32
  ![v270.toNat, 0]
def k0_off100 (v267 : BitVec 32) : Fin 2 → Nat :=
  let v268 : BitVec 32 := v267
  let v277 : Index := Scalar.indexCast v268
  let c0_122 : Index := 0#32
  ![v277.toNat, 0]

def k0_chk22 (i : grid0.Coords) (v267 : BitVec 32) : Prop :=
  (∀ (k0_h3 : k0_cond3 i = 1#1), 8 ∣ (k0_mult42 v267).toNat) ∧
  (∀ (k0_h3 : k0_cond3 i = 1#1), ∀ a, (k0_off100 v267) a + S8x128.size a ≤ S12288x128.size a)
theorem k0_mult42_dvd : ∀ (i : grid0.Coords) (v267 : BitVec 32) (k0_hw22 : k0_chk22 i v267), ∀ (k0_h3 : k0_cond3 i = 1#1), 8 ∣ (k0_mult42 v267).toNat := fun i v267 k0_hw22 k0_h3 => k0_hw22.1 k0_h3
theorem k0_off100_inb : ∀ (i : grid0.Coords) (v267 : BitVec 32) (k0_hw22 : k0_chk22 i v267), ∀ (k0_h3 : k0_cond3 i = 1#1), ∀ a, (k0_off100 v267) a + S8x128.size a ≤ S12288x128.size a := fun i v267 k0_hw22 k0_h3 => k0_hw22.2 k0_h3

def k0_off101 (arg16 : BitVec 32) : Fin 1 → Nat :=
  let v285 : Index := Scalar.indexCast arg16
  ![v285.toNat]
def k0_mult43 (v286 : BitVec 32) : BitVec 32 :=
  v286

def k0_off102 (arg16 : BitVec 32) : Fin 2 → Nat :=
  let c8191_i32 : BitVec 32 := 8191#32
  let v170 : BitVec 32 := Scalar.andi arg16 c8191_i32
  let c6_i32_124 : BitVec 32 := 6#32
  let v288 : BitVec 32 := Scalar.addi v170 c6_i32_124
  let v289 : Index := Scalar.indexCast v288
  let c0_125 : Index := 0#32
  ![v289.toNat, 0]
def k0_off103 (v286 : BitVec 32) : Fin 2 → Nat :=
  let v287 : BitVec 32 := v286
  let v296 : Index := Scalar.indexCast v287
  let c0_128 : Index := 0#32
  ![v296.toNat, 0]

def k0_chk23 (i : grid0.Coords) (v286 : BitVec 32) : Prop :=
  (∀ (k0_h3 : k0_cond3 i = 1#1), 8 ∣ (k0_mult43 v286).toNat) ∧
  (∀ (k0_h3 : k0_cond3 i = 1#1), ∀ a, (k0_off103 v286) a + S8x128.size a ≤ S12288x128.size a)
theorem k0_mult43_dvd : ∀ (i : grid0.Coords) (v286 : BitVec 32) (k0_hw23 : k0_chk23 i v286), ∀ (k0_h3 : k0_cond3 i = 1#1), 8 ∣ (k0_mult43 v286).toNat := fun i v286 k0_hw23 k0_h3 => k0_hw23.1 k0_h3
theorem k0_off103_inb : ∀ (i : grid0.Coords) (v286 : BitVec 32) (k0_hw23 : k0_chk23 i v286), ∀ (k0_h3 : k0_cond3 i = 1#1), ∀ a, (k0_off103 v286) a + S8x128.size a ≤ S12288x128.size a := fun i v286 k0_hw23 k0_h3 => k0_hw23.2 k0_h3

def k0_off104 (arg16 : BitVec 32) : Fin 1 → Nat :=
  let v304 : Index := Scalar.indexCast arg16
  ![v304.toNat]
def k0_mult44 (v305 : BitVec 32) : BitVec 32 :=
  v305

def k0_off105 (arg16 : BitVec 32) : Fin 2 → Nat :=
  let c8191_i32 : BitVec 32 := 8191#32
  let v170 : BitVec 32 := Scalar.andi arg16 c8191_i32
  let c7_i32_129 : BitVec 32 := 7#32
  let v307 : BitVec 32 := Scalar.addi v170 c7_i32_129
  let v308 : Index := Scalar.indexCast v307
  let c0_130 : Index := 0#32
  ![v308.toNat, 0]
def k0_off106 (v305 : BitVec 32) : Fin 2 → Nat :=
  let v306 : BitVec 32 := v305
  let v315 : Index := Scalar.indexCast v306
  let c0_133 : Index := 0#32
  ![v315.toNat, 0]

def k0_chk24 (i : grid0.Coords) (v305 : BitVec 32) : Prop :=
  (∀ (k0_h3 : k0_cond3 i = 1#1), 8 ∣ (k0_mult44 v305).toNat) ∧
  (∀ (k0_h3 : k0_cond3 i = 1#1), ∀ a, (k0_off106 v305) a + S8x128.size a ≤ S12288x128.size a)
theorem k0_mult44_dvd : ∀ (i : grid0.Coords) (v305 : BitVec 32) (k0_hw24 : k0_chk24 i v305), ∀ (k0_h3 : k0_cond3 i = 1#1), 8 ∣ (k0_mult44 v305).toNat := fun i v305 k0_hw24 k0_h3 => k0_hw24.1 k0_h3
theorem k0_off106_inb : ∀ (i : grid0.Coords) (v305 : BitVec 32) (k0_hw24 : k0_chk24 i v305), ∀ (k0_h3 : k0_cond3 i = 1#1), ∀ a, (k0_off106 v305) a + S8x128.size a ≤ S12288x128.size a := fun i v305 k0_hw24 k0_h3 => k0_hw24.2 k0_h3

def k0_off107 (arg16 : BitVec 32) : Fin 1 → Nat :=
  let v323 : Index := Scalar.indexCast arg16
  ![v323.toNat]
def k0_mult45 (v324 : BitVec 32) : BitVec 32 :=
  v324

def k0_off108 (arg16 : BitVec 32) : Fin 2 → Nat :=
  let c8191_i32 : BitVec 32 := 8191#32
  let v170 : BitVec 32 := Scalar.andi arg16 c8191_i32
  let c8_i32_135 : BitVec 32 := 8#32
  let v326 : BitVec 32 := Scalar.addi v170 c8_i32_135
  let v327 : Index := Scalar.indexCast v326
  let c0_136 : Index := 0#32
  ![v327.toNat, 0]
def k0_off109 (v324 : BitVec 32) : Fin 2 → Nat :=
  let v325 : BitVec 32 := v324
  let v334 : Index := Scalar.indexCast v325
  let c0_139 : Index := 0#32
  ![v334.toNat, 0]

def k0_chk25 (i : grid0.Coords) (v324 : BitVec 32) : Prop :=
  (∀ (k0_h3 : k0_cond3 i = 1#1), 8 ∣ (k0_mult45 v324).toNat) ∧
  (∀ (k0_h3 : k0_cond3 i = 1#1), ∀ a, (k0_off109 v324) a + S8x128.size a ≤ S12288x128.size a)
theorem k0_mult45_dvd : ∀ (i : grid0.Coords) (v324 : BitVec 32) (k0_hw25 : k0_chk25 i v324), ∀ (k0_h3 : k0_cond3 i = 1#1), 8 ∣ (k0_mult45 v324).toNat := fun i v324 k0_hw25 k0_h3 => k0_hw25.1 k0_h3
theorem k0_off109_inb : ∀ (i : grid0.Coords) (v324 : BitVec 32) (k0_hw25 : k0_chk25 i v324), ∀ (k0_h3 : k0_cond3 i = 1#1), ∀ a, (k0_off109 v324) a + S8x128.size a ≤ S12288x128.size a := fun i v324 k0_hw25 k0_h3 => k0_hw25.2 k0_h3

def k0_off110 (arg16 : BitVec 32) : Fin 1 → Nat :=
  let v342 : Index := Scalar.indexCast arg16
  ![v342.toNat]
def k0_mult46 (v343 : BitVec 32) : BitVec 32 :=
  v343

def k0_off111 (arg16 : BitVec 32) : Fin 2 → Nat :=
  let c8191_i32 : BitVec 32 := 8191#32
  let v170 : BitVec 32 := Scalar.andi arg16 c8191_i32
  let c9_i32_140 : BitVec 32 := 9#32
  let v345 : BitVec 32 := Scalar.addi v170 c9_i32_140
  let v346 : Index := Scalar.indexCast v345
  let c0_141 : Index := 0#32
  ![v346.toNat, 0]
def k0_off112 (v343 : BitVec 32) : Fin 2 → Nat :=
  let v344 : BitVec 32 := v343
  let v353 : Index := Scalar.indexCast v344
  let c0_144 : Index := 0#32
  ![v353.toNat, 0]

def k0_chk26 (i : grid0.Coords) (v343 : BitVec 32) : Prop :=
  (∀ (k0_h3 : k0_cond3 i = 1#1), 8 ∣ (k0_mult46 v343).toNat) ∧
  (∀ (k0_h3 : k0_cond3 i = 1#1), ∀ a, (k0_off112 v343) a + S8x128.size a ≤ S12288x128.size a)
theorem k0_mult46_dvd : ∀ (i : grid0.Coords) (v343 : BitVec 32) (k0_hw26 : k0_chk26 i v343), ∀ (k0_h3 : k0_cond3 i = 1#1), 8 ∣ (k0_mult46 v343).toNat := fun i v343 k0_hw26 k0_h3 => k0_hw26.1 k0_h3
theorem k0_off112_inb : ∀ (i : grid0.Coords) (v343 : BitVec 32) (k0_hw26 : k0_chk26 i v343), ∀ (k0_h3 : k0_cond3 i = 1#1), ∀ a, (k0_off112 v343) a + S8x128.size a ≤ S12288x128.size a := fun i v343 k0_hw26 k0_h3 => k0_hw26.2 k0_h3

def k0_off113 (arg16 : BitVec 32) : Fin 1 → Nat :=
  let v361 : Index := Scalar.indexCast arg16
  ![v361.toNat]
def k0_mult47 (v362 : BitVec 32) : BitVec 32 :=
  v362

def k0_off114 (arg16 : BitVec 32) : Fin 2 → Nat :=
  let c8191_i32 : BitVec 32 := 8191#32
  let v170 : BitVec 32 := Scalar.andi arg16 c8191_i32
  let c10_i32_145 : BitVec 32 := 10#32
  let v364 : BitVec 32 := Scalar.addi v170 c10_i32_145
  let v365 : Index := Scalar.indexCast v364
  let c0_146 : Index := 0#32
  ![v365.toNat, 0]
def k0_off115 (v362 : BitVec 32) : Fin 2 → Nat :=
  let v363 : BitVec 32 := v362
  let v372 : Index := Scalar.indexCast v363
  let c0_149 : Index := 0#32
  ![v372.toNat, 0]

def k0_chk27 (i : grid0.Coords) (v362 : BitVec 32) : Prop :=
  (∀ (k0_h3 : k0_cond3 i = 1#1), 8 ∣ (k0_mult47 v362).toNat) ∧
  (∀ (k0_h3 : k0_cond3 i = 1#1), ∀ a, (k0_off115 v362) a + S8x128.size a ≤ S12288x128.size a)
theorem k0_mult47_dvd : ∀ (i : grid0.Coords) (v362 : BitVec 32) (k0_hw27 : k0_chk27 i v362), ∀ (k0_h3 : k0_cond3 i = 1#1), 8 ∣ (k0_mult47 v362).toNat := fun i v362 k0_hw27 k0_h3 => k0_hw27.1 k0_h3
theorem k0_off115_inb : ∀ (i : grid0.Coords) (v362 : BitVec 32) (k0_hw27 : k0_chk27 i v362), ∀ (k0_h3 : k0_cond3 i = 1#1), ∀ a, (k0_off115 v362) a + S8x128.size a ≤ S12288x128.size a := fun i v362 k0_hw27 k0_h3 => k0_hw27.2 k0_h3

def k0_off116 (arg16 : BitVec 32) : Fin 1 → Nat :=
  let v380 : Index := Scalar.indexCast arg16
  ![v380.toNat]
def k0_mult48 (v381 : BitVec 32) : BitVec 32 :=
  v381

def k0_off117 (arg16 : BitVec 32) : Fin 2 → Nat :=
  let c8191_i32 : BitVec 32 := 8191#32
  let v170 : BitVec 32 := Scalar.andi arg16 c8191_i32
  let c11_i32_150 : BitVec 32 := 11#32
  let v383 : BitVec 32 := Scalar.addi v170 c11_i32_150
  let v384 : Index := Scalar.indexCast v383
  let c0_151 : Index := 0#32
  ![v384.toNat, 0]

def k0_chk16 (i : grid0.Coords) (arg16 : BitVec 32) : Prop :=
  (∀ (k0_h3 : k0_cond3 i = 1#1), ∀ a, (k0_off83 arg16) a + S1.size a ≤ S61932.size a) ∧
  (∀ (k0_h3 : k0_cond3 i = 1#1), ∀ a, S8x128.size a = 0 ∨ (k0_off84 arg16) a + (![0, 1] : Fin 2 → Nat) a * (S8x128.size a - 1) < S8224x128.size a) ∧
  (∀ (k0_h3 : k0_cond3 i = 1#1), ∀ a, (k0_off86 arg16) a + S1.size a ≤ S61932.size a) ∧
  (∀ (k0_h3 : k0_cond3 i = 1#1), ∀ a, S8x128.size a = 0 ∨ (k0_off87 arg16) a + (![0, 1] : Fin 2 → Nat) a * (S8x128.size a - 1) < S8224x128.size a) ∧
  (∀ (k0_h3 : k0_cond3 i = 1#1), ∀ a, (k0_off89 arg16) a + S1.size a ≤ S61932.size a) ∧
  (∀ (k0_h3 : k0_cond3 i = 1#1), ∀ a, S8x128.size a = 0 ∨ (k0_off90 arg16) a + (![0, 1] : Fin 2 → Nat) a * (S8x128.size a - 1) < S8224x128.size a) ∧
  (∀ (k0_h3 : k0_cond3 i = 1#1), ∀ a, (k0_off92 arg16) a + S1.size a ≤ S61932.size a) ∧
  (∀ (k0_h3 : k0_cond3 i = 1#1), ∀ a, S8x128.size a = 0 ∨ (k0_off93 arg16) a + (![0, 1] : Fin 2 → Nat) a * (S8x128.size a - 1) < S8224x128.size a) ∧
  (∀ (k0_h3 : k0_cond3 i = 1#1), ∀ a, (k0_off95 arg16) a + S1.size a ≤ S61932.size a) ∧
  (∀ (k0_h3 : k0_cond3 i = 1#1), ∀ a, S8x128.size a = 0 ∨ (k0_off96 arg16) a + (![0, 1] : Fin 2 → Nat) a * (S8x128.size a - 1) < S8224x128.size a) ∧
  (∀ (k0_h3 : k0_cond3 i = 1#1), ∀ a, (k0_off98 arg16) a + S1.size a ≤ S61932.size a) ∧
  (∀ (k0_h3 : k0_cond3 i = 1#1), ∀ a, S8x128.size a = 0 ∨ (k0_off99 arg16) a + (![0, 1] : Fin 2 → Nat) a * (S8x128.size a - 1) < S8224x128.size a) ∧
  (∀ (k0_h3 : k0_cond3 i = 1#1), ∀ a, (k0_off101 arg16) a + S1.size a ≤ S61932.size a) ∧
  (∀ (k0_h3 : k0_cond3 i = 1#1), ∀ a, S8x128.size a = 0 ∨ (k0_off102 arg16) a + (![0, 1] : Fin 2 → Nat) a * (S8x128.size a - 1) < S8224x128.size a) ∧
  (∀ (k0_h3 : k0_cond3 i = 1#1), ∀ a, (k0_off104 arg16) a + S1.size a ≤ S61932.size a) ∧
  (∀ (k0_h3 : k0_cond3 i = 1#1), ∀ a, S8x128.size a = 0 ∨ (k0_off105 arg16) a + (![0, 1] : Fin 2 → Nat) a * (S8x128.size a - 1) < S8224x128.size a) ∧
  (∀ (k0_h3 : k0_cond3 i = 1#1), ∀ a, (k0_off107 arg16) a + S1.size a ≤ S61932.size a) ∧
  (∀ (k0_h3 : k0_cond3 i = 1#1), ∀ a, S8x128.size a = 0 ∨ (k0_off108 arg16) a + (![0, 1] : Fin 2 → Nat) a * (S8x128.size a - 1) < S8224x128.size a) ∧
  (∀ (k0_h3 : k0_cond3 i = 1#1), ∀ a, (k0_off110 arg16) a + S1.size a ≤ S61932.size a) ∧
  (∀ (k0_h3 : k0_cond3 i = 1#1), ∀ a, S8x128.size a = 0 ∨ (k0_off111 arg16) a + (![0, 1] : Fin 2 → Nat) a * (S8x128.size a - 1) < S8224x128.size a) ∧
  (∀ (k0_h3 : k0_cond3 i = 1#1), ∀ a, (k0_off113 arg16) a + S1.size a ≤ S61932.size a) ∧
  (∀ (k0_h3 : k0_cond3 i = 1#1), ∀ a, S8x128.size a = 0 ∨ (k0_off114 arg16) a + (![0, 1] : Fin 2 → Nat) a * (S8x128.size a - 1) < S8224x128.size a) ∧
  (∀ (k0_h3 : k0_cond3 i = 1#1), ∀ a, (k0_off116 arg16) a + S1.size a ≤ S61932.size a) ∧
  (∀ (k0_h3 : k0_cond3 i = 1#1), ∀ a, S8x128.size a = 0 ∨ (k0_off117 arg16) a + (![0, 1] : Fin 2 → Nat) a * (S8x128.size a - 1) < S8224x128.size a)
theorem k0_off83_inb : ∀ (i : grid0.Coords) (arg16 : BitVec 32) (k0_hw16 : k0_chk16 i arg16), ∀ (k0_h3 : k0_cond3 i = 1#1), ∀ a, (k0_off83 arg16) a + S1.size a ≤ S61932.size a := fun i arg16 k0_hw16 k0_h3 => k0_hw16.1 k0_h3
theorem k0_off84_inb : ∀ (i : grid0.Coords) (arg16 : BitVec 32) (k0_hw16 : k0_chk16 i arg16), ∀ (k0_h3 : k0_cond3 i = 1#1), ∀ a, S8x128.size a = 0 ∨ (k0_off84 arg16) a + (![0, 1] : Fin 2 → Nat) a * (S8x128.size a - 1) < S8224x128.size a := fun i arg16 k0_hw16 k0_h3 => k0_hw16.2.1 k0_h3
theorem k0_off86_inb : ∀ (i : grid0.Coords) (arg16 : BitVec 32) (k0_hw16 : k0_chk16 i arg16), ∀ (k0_h3 : k0_cond3 i = 1#1), ∀ a, (k0_off86 arg16) a + S1.size a ≤ S61932.size a := fun i arg16 k0_hw16 k0_h3 => k0_hw16.2.2.1 k0_h3
theorem k0_off87_inb : ∀ (i : grid0.Coords) (arg16 : BitVec 32) (k0_hw16 : k0_chk16 i arg16), ∀ (k0_h3 : k0_cond3 i = 1#1), ∀ a, S8x128.size a = 0 ∨ (k0_off87 arg16) a + (![0, 1] : Fin 2 → Nat) a * (S8x128.size a - 1) < S8224x128.size a := fun i arg16 k0_hw16 k0_h3 => k0_hw16.2.2.2.1 k0_h3
theorem k0_off89_inb : ∀ (i : grid0.Coords) (arg16 : BitVec 32) (k0_hw16 : k0_chk16 i arg16), ∀ (k0_h3 : k0_cond3 i = 1#1), ∀ a, (k0_off89 arg16) a + S1.size a ≤ S61932.size a := fun i arg16 k0_hw16 k0_h3 => k0_hw16.2.2.2.2.1 k0_h3
theorem k0_off90_inb : ∀ (i : grid0.Coords) (arg16 : BitVec 32) (k0_hw16 : k0_chk16 i arg16), ∀ (k0_h3 : k0_cond3 i = 1#1), ∀ a, S8x128.size a = 0 ∨ (k0_off90 arg16) a + (![0, 1] : Fin 2 → Nat) a * (S8x128.size a - 1) < S8224x128.size a := fun i arg16 k0_hw16 k0_h3 => k0_hw16.2.2.2.2.2.1 k0_h3
theorem k0_off92_inb : ∀ (i : grid0.Coords) (arg16 : BitVec 32) (k0_hw16 : k0_chk16 i arg16), ∀ (k0_h3 : k0_cond3 i = 1#1), ∀ a, (k0_off92 arg16) a + S1.size a ≤ S61932.size a := fun i arg16 k0_hw16 k0_h3 => k0_hw16.2.2.2.2.2.2.1 k0_h3
theorem k0_off93_inb : ∀ (i : grid0.Coords) (arg16 : BitVec 32) (k0_hw16 : k0_chk16 i arg16), ∀ (k0_h3 : k0_cond3 i = 1#1), ∀ a, S8x128.size a = 0 ∨ (k0_off93 arg16) a + (![0, 1] : Fin 2 → Nat) a * (S8x128.size a - 1) < S8224x128.size a := fun i arg16 k0_hw16 k0_h3 => k0_hw16.2.2.2.2.2.2.2.1 k0_h3
theorem k0_off95_inb : ∀ (i : grid0.Coords) (arg16 : BitVec 32) (k0_hw16 : k0_chk16 i arg16), ∀ (k0_h3 : k0_cond3 i = 1#1), ∀ a, (k0_off95 arg16) a + S1.size a ≤ S61932.size a := fun i arg16 k0_hw16 k0_h3 => k0_hw16.2.2.2.2.2.2.2.2.1 k0_h3
theorem k0_off96_inb : ∀ (i : grid0.Coords) (arg16 : BitVec 32) (k0_hw16 : k0_chk16 i arg16), ∀ (k0_h3 : k0_cond3 i = 1#1), ∀ a, S8x128.size a = 0 ∨ (k0_off96 arg16) a + (![0, 1] : Fin 2 → Nat) a * (S8x128.size a - 1) < S8224x128.size a := fun i arg16 k0_hw16 k0_h3 => k0_hw16.2.2.2.2.2.2.2.2.2.1 k0_h3
theorem k0_off98_inb : ∀ (i : grid0.Coords) (arg16 : BitVec 32) (k0_hw16 : k0_chk16 i arg16), ∀ (k0_h3 : k0_cond3 i = 1#1), ∀ a, (k0_off98 arg16) a + S1.size a ≤ S61932.size a := fun i arg16 k0_hw16 k0_h3 => k0_hw16.2.2.2.2.2.2.2.2.2.2.1 k0_h3
theorem k0_off99_inb : ∀ (i : grid0.Coords) (arg16 : BitVec 32) (k0_hw16 : k0_chk16 i arg16), ∀ (k0_h3 : k0_cond3 i = 1#1), ∀ a, S8x128.size a = 0 ∨ (k0_off99 arg16) a + (![0, 1] : Fin 2 → Nat) a * (S8x128.size a - 1) < S8224x128.size a := fun i arg16 k0_hw16 k0_h3 => k0_hw16.2.2.2.2.2.2.2.2.2.2.2.1 k0_h3
theorem k0_off101_inb : ∀ (i : grid0.Coords) (arg16 : BitVec 32) (k0_hw16 : k0_chk16 i arg16), ∀ (k0_h3 : k0_cond3 i = 1#1), ∀ a, (k0_off101 arg16) a + S1.size a ≤ S61932.size a := fun i arg16 k0_hw16 k0_h3 => k0_hw16.2.2.2.2.2.2.2.2.2.2.2.2.1 k0_h3
theorem k0_off102_inb : ∀ (i : grid0.Coords) (arg16 : BitVec 32) (k0_hw16 : k0_chk16 i arg16), ∀ (k0_h3 : k0_cond3 i = 1#1), ∀ a, S8x128.size a = 0 ∨ (k0_off102 arg16) a + (![0, 1] : Fin 2 → Nat) a * (S8x128.size a - 1) < S8224x128.size a := fun i arg16 k0_hw16 k0_h3 => k0_hw16.2.2.2.2.2.2.2.2.2.2.2.2.2.1 k0_h3
theorem k0_off104_inb : ∀ (i : grid0.Coords) (arg16 : BitVec 32) (k0_hw16 : k0_chk16 i arg16), ∀ (k0_h3 : k0_cond3 i = 1#1), ∀ a, (k0_off104 arg16) a + S1.size a ≤ S61932.size a := fun i arg16 k0_hw16 k0_h3 => k0_hw16.2.2.2.2.2.2.2.2.2.2.2.2.2.2.1 k0_h3
theorem k0_off105_inb : ∀ (i : grid0.Coords) (arg16 : BitVec 32) (k0_hw16 : k0_chk16 i arg16), ∀ (k0_h3 : k0_cond3 i = 1#1), ∀ a, S8x128.size a = 0 ∨ (k0_off105 arg16) a + (![0, 1] : Fin 2 → Nat) a * (S8x128.size a - 1) < S8224x128.size a := fun i arg16 k0_hw16 k0_h3 => k0_hw16.2.2.2.2.2.2.2.2.2.2.2.2.2.2.2.1 k0_h3
theorem k0_off107_inb : ∀ (i : grid0.Coords) (arg16 : BitVec 32) (k0_hw16 : k0_chk16 i arg16), ∀ (k0_h3 : k0_cond3 i = 1#1), ∀ a, (k0_off107 arg16) a + S1.size a ≤ S61932.size a := fun i arg16 k0_hw16 k0_h3 => k0_hw16.2.2.2.2.2.2.2.2.2.2.2.2.2.2.2.2.1 k0_h3
theorem k0_off108_inb : ∀ (i : grid0.Coords) (arg16 : BitVec 32) (k0_hw16 : k0_chk16 i arg16), ∀ (k0_h3 : k0_cond3 i = 1#1), ∀ a, S8x128.size a = 0 ∨ (k0_off108 arg16) a + (![0, 1] : Fin 2 → Nat) a * (S8x128.size a - 1) < S8224x128.size a := fun i arg16 k0_hw16 k0_h3 => k0_hw16.2.2.2.2.2.2.2.2.2.2.2.2.2.2.2.2.2.1 k0_h3
theorem k0_off110_inb : ∀ (i : grid0.Coords) (arg16 : BitVec 32) (k0_hw16 : k0_chk16 i arg16), ∀ (k0_h3 : k0_cond3 i = 1#1), ∀ a, (k0_off110 arg16) a + S1.size a ≤ S61932.size a := fun i arg16 k0_hw16 k0_h3 => k0_hw16.2.2.2.2.2.2.2.2.2.2.2.2.2.2.2.2.2.2.1 k0_h3
theorem k0_off111_inb : ∀ (i : grid0.Coords) (arg16 : BitVec 32) (k0_hw16 : k0_chk16 i arg16), ∀ (k0_h3 : k0_cond3 i = 1#1), ∀ a, S8x128.size a = 0 ∨ (k0_off111 arg16) a + (![0, 1] : Fin 2 → Nat) a * (S8x128.size a - 1) < S8224x128.size a := fun i arg16 k0_hw16 k0_h3 => k0_hw16.2.2.2.2.2.2.2.2.2.2.2.2.2.2.2.2.2.2.2.1 k0_h3
theorem k0_off113_inb : ∀ (i : grid0.Coords) (arg16 : BitVec 32) (k0_hw16 : k0_chk16 i arg16), ∀ (k0_h3 : k0_cond3 i = 1#1), ∀ a, (k0_off113 arg16) a + S1.size a ≤ S61932.size a := fun i arg16 k0_hw16 k0_h3 => k0_hw16.2.2.2.2.2.2.2.2.2.2.2.2.2.2.2.2.2.2.2.2.1 k0_h3
theorem k0_off114_inb : ∀ (i : grid0.Coords) (arg16 : BitVec 32) (k0_hw16 : k0_chk16 i arg16), ∀ (k0_h3 : k0_cond3 i = 1#1), ∀ a, S8x128.size a = 0 ∨ (k0_off114 arg16) a + (![0, 1] : Fin 2 → Nat) a * (S8x128.size a - 1) < S8224x128.size a := fun i arg16 k0_hw16 k0_h3 => k0_hw16.2.2.2.2.2.2.2.2.2.2.2.2.2.2.2.2.2.2.2.2.2.1 k0_h3
theorem k0_off116_inb : ∀ (i : grid0.Coords) (arg16 : BitVec 32) (k0_hw16 : k0_chk16 i arg16), ∀ (k0_h3 : k0_cond3 i = 1#1), ∀ a, (k0_off116 arg16) a + S1.size a ≤ S61932.size a := fun i arg16 k0_hw16 k0_h3 => k0_hw16.2.2.2.2.2.2.2.2.2.2.2.2.2.2.2.2.2.2.2.2.2.2.1 k0_h3
theorem k0_off117_inb : ∀ (i : grid0.Coords) (arg16 : BitVec 32) (k0_hw16 : k0_chk16 i arg16), ∀ (k0_h3 : k0_cond3 i = 1#1), ∀ a, S8x128.size a = 0 ∨ (k0_off117 arg16) a + (![0, 1] : Fin 2 → Nat) a * (S8x128.size a - 1) < S8224x128.size a := fun i arg16 k0_hw16 k0_h3 => k0_hw16.2.2.2.2.2.2.2.2.2.2.2.2.2.2.2.2.2.2.2.2.2.2.2 k0_h3

def k0_off118 (v381 : BitVec 32) : Fin 2 → Nat :=
  let v382 : BitVec 32 := v381
  let v391 : Index := Scalar.indexCast v382
  let c0_154 : Index := 0#32
  ![v391.toNat, 0]

def k0_chk28 (i : grid0.Coords) (v381 : BitVec 32) : Prop :=
  (∀ (k0_h3 : k0_cond3 i = 1#1), 8 ∣ (k0_mult48 v381).toNat) ∧
  (∀ (k0_h3 : k0_cond3 i = 1#1), ∀ a, (k0_off118 v381) a + S8x128.size a ≤ S12288x128.size a)
theorem k0_mult48_dvd : ∀ (i : grid0.Coords) (v381 : BitVec 32) (k0_hw28 : k0_chk28 i v381), ∀ (k0_h3 : k0_cond3 i = 1#1), 8 ∣ (k0_mult48 v381).toNat := fun i v381 k0_hw28 k0_h3 => k0_hw28.1 k0_h3
theorem k0_off118_inb : ∀ (i : grid0.Coords) (v381 : BitVec 32) (k0_hw28 : k0_chk28 i v381), ∀ (k0_h3 : k0_cond3 i = 1#1), ∀ a, (k0_off118 v381) a + S8x128.size a ≤ S12288x128.size a := fun i v381 k0_hw28 k0_h3 => k0_hw28.2 k0_h3

def k0_off119 (i : grid0.Coords) (k0_t9 : Fin k0_t9_loop.trips) (k0_t13 : Fin k0_t13_loop.trips) : Fin 2 → Nat :=
  let arg0 : BitVec 32 := BitVec.ofNat 32 (i 0).val
  let c1_i32_1 : BitVec 32 := 1#32
  let v3 : BitVec 32 := Scalar.andi arg0 c1_i32_1
  let c4352_i32 : BitVec 32 := 4352#32
  let v15 : BitVec 32 := Scalar.muli v3 c4352_i32
  let c0_i32_22 : BitVec 32 := 0#32
  let c1_i32_23 : BitVec 32 := 1#32
  let arg14 : BitVec 32 := Scf.iv c0_i32_22 c1_i32_23 k0_t9
  let c1088_i32 : BitVec 32 := 1088#32
  let v158 : BitVec 32 := Scalar.muli arg14 c1088_i32
  let v159 : BitVec 32 := Scalar.addi v15 v158
  let c0_i32_83 : BitVec 32 := 0#32
  let c1_i32_85 : BitVec 32 := 1#32
  let arg15 : BitVec 32 := Scf.iv c0_i32_83 c1_i32_85 k0_t13
  let c17_i32 : BitVec 32 := 17#32
  let v398 : BitVec 32 := Scalar.muli arg15 c17_i32
  let v399 : BitVec 32 := Scalar.addi v159 v398
  let v400 : Index := Scalar.indexCast v399
  let c0_155 : Index := 0#32
  ![v400.toNat, 0]
def k0_off120 (i : grid0.Coords) : Fin 1 → Nat :=
  let arg0 : BitVec 32 := BitVec.ofNat 32 (i 0).val
  let c34_i32 : BitVec 32 := 34#32
  let v0 : BitVec 32 := Scalar.minsi arg0 c34_i32
  let c256_i32_13 : BitVec 32 := 256#32
  let v27 : BitVec 32 := Scalar.muli v0 c256_i32_13
  let c256_i32_14 : BitVec 32 := 256#32
  let v28 : BitVec 32 := Scalar.addi v27 c256_i32_14
  let v29 : Index := Scalar.indexCast v28
  ![v29.toNat]
@[reducible] def k0_t14_loop : Scf.Loop 32 :=
  let c0_i32_17 : BitVec 32 := 0#32
  let c8_i32_18 : BitVec 32 := 8#32
  let v35 : BitVec 32 := Scalar.addi c0_i32_17 c8_i32_18
  let c1_i32_19 : BitVec 32 := 1#32
  ⟨c0_i32_17, v35, c1_i32_19⟩
def k0_off121 (i : grid0.Coords) (k0_t14 : Fin k0_t14_loop.trips) : Fin 1 → Nat :=
  let arg0 : BitVec 32 := BitVec.ofNat 32 (i 0).val
  let c34_i32 : BitVec 32 := 34#32
  let v0 : BitVec 32 := Scalar.minsi arg0 c34_i32
  let c8_i32_22 : BitVec 32 := 8#32
  let v39 : BitVec 32 := Scalar.muli v0 c8_i32_22
  let c0_i32_17 : BitVec 32 := 0#32
  let c1_i32_19 : BitVec 32 := 1#32
  let arg14 : BitVec 32 := Scf.iv c0_i32_17 c1_i32_19 k0_t14
  let v40 : BitVec 32 := Scalar.addi v39 arg14
  let v41 : Index := Scalar.indexCast v40
  ![v41.toNat]
def k0_off122 (i : grid0.Coords) (k0_t14 : Fin k0_t14_loop.trips) (arg15 : BitVec 32) : Fin 1 → Nat :=
  let arg0 : BitVec 32 := BitVec.ofNat 32 (i 0).val
  let c34_i32 : BitVec 32 := 34#32
  let v0 : BitVec 32 := Scalar.minsi arg0 c34_i32
  let c256_i32_24 : BitVec 32 := 256#32
  let v49 : BitVec 32 := Scalar.muli v0 c256_i32_24
  let c0_i32_17 : BitVec 32 := 0#32
  let c1_i32_19 : BitVec 32 := 1#32
  let arg14 : BitVec 32 := Scf.iv c0_i32_17 c1_i32_19 k0_t14
  let c32_i32 : BitVec 32 := 32#32
  let v47 : BitVec 32 := Scalar.muli arg14 c32_i32
  let c31_i32 : BitVec 32 := 31#32
  let v45 : BitVec 32 := Scalar.ctlz arg15
  let v46 : BitVec 32 := Scalar.subi c31_i32 v45
  let v48 : BitVec 32 := Scalar.addi v47 v46
  let v50 : BitVec 32 := Scalar.addi v49 v48
  let v51 : Index := Scalar.indexCast v50
  ![v51.toNat]

def k0_off123 (i : grid0.Coords) (k0_t14 : Fin k0_t14_loop.trips) (arg15 : BitVec 32) : Fin 1 → Nat :=
  let arg0 : BitVec 32 := BitVec.ofNat 32 (i 0).val
  let c34_i32 : BitVec 32 := 34#32
  let v0 : BitVec 32 := Scalar.minsi arg0 c34_i32
  let c256_i32_24 : BitVec 32 := 256#32
  let v49 : BitVec 32 := Scalar.muli v0 c256_i32_24
  let c0_i32_17 : BitVec 32 := 0#32
  let c1_i32_19 : BitVec 32 := 1#32
  let arg14 : BitVec 32 := Scf.iv c0_i32_17 c1_i32_19 k0_t14
  let c32_i32 : BitVec 32 := 32#32
  let v47 : BitVec 32 := Scalar.muli arg14 c32_i32
  let c31_i32 : BitVec 32 := 31#32
  let v45 : BitVec 32 := Scalar.ctlz arg15
  let v46 : BitVec 32 := Scalar.subi c31_i32 v45
  let v48 : BitVec 32 := Scalar.addi v47 v46
  let v50 : BitVec 32 := Scalar.addi v49 v48
  let c1_i32_26 : BitVec 32 := 1#32
  let v54 : BitVec 32 := Scalar.addi v50 c1_i32_26
  let v55 : Index := Scalar.indexCast v54
  ![v55.toNat]

def k0_chk29 (i : grid0.Coords) (k0_t14 : Fin k0_t14_loop.trips) (arg15 : BitVec 32) : Prop :=
  (∀ a, (k0_off122 i k0_t14 arg15) a + S1.size a ≤ S8961.size a) ∧
  (∀ a, (k0_off123 i k0_t14 arg15) a + S1.size a ≤ S8961.size a)
theorem k0_off122_inb : ∀ (i : grid0.Coords) (k0_t14 : Fin k0_t14_loop.trips) (arg15 : BitVec 32) (k0_hw29 : k0_chk29 i k0_t14 arg15), ∀ a, (k0_off122 i k0_t14 arg15) a + S1.size a ≤ S8961.size a := fun i k0_t14 arg15 k0_hw29 => k0_hw29.1
theorem k0_off123_inb : ∀ (i : grid0.Coords) (k0_t14 : Fin k0_t14_loop.trips) (arg15 : BitVec 32) (k0_hw29 : k0_chk29 i k0_t14 arg15), ∀ a, (k0_off123 i k0_t14 arg15) a + S1.size a ≤ S8961.size a := fun i k0_t14 arg15 k0_hw29 => k0_hw29.2

@[reducible] def k0_t15_loop (v52 : BitVec 32) (v56 : BitVec 32) : Scf.Loop 32 :=
  let c12_i32_25 : BitVec 32 := 12#32
  let v53 : BitVec 32 := Scalar.addi v52 c12_i32_25
  let v57 : BitVec 32 := Scalar.subi v56 v53
  let c1_i32_28 : BitVec 32 := 1#32
  let v59 : BitVec 32 := Scalar.divsi v57 c1_i32_28
  let v60 : BitVec 32 := Scalar.muli v59 c1_i32_28
  let v61 : BitVec 32 := Scalar.addi v53 v60
  let c1_i32_29 : BitVec 32 := 1#32
  ⟨v53, v61, c1_i32_29⟩

def k0_off124 (v52 : BitVec 32) (v56 : BitVec 32) (k0_t15 : Fin (k0_t15_loop v52 v56).trips) : Fin 2 → Nat :=
  let c12_i32_25 : BitVec 32 := 12#32
  let v53 : BitVec 32 := Scalar.addi v52 c12_i32_25
  let c1_i32_29 : BitVec 32 := 1#32
  let arg16 : BitVec 32 := Scf.iv v53 c1_i32_29 k0_t15
  let c8191_i32 : BitVec 32 := 8191#32
  let v64 : BitVec 32 := Scalar.andi arg16 c8191_i32
  let v65 : Index := Scalar.indexCast v64
  let c0 : Index := 0#32
  ![v65.toNat, 0]
def k0_off125 (v52 : BitVec 32) (v56 : BitVec 32) (k0_t15 : Fin (k0_t15_loop v52 v56).trips) : Fin 1 → Nat :=
  let c12_i32_25 : BitVec 32 := 12#32
  let v53 : BitVec 32 := Scalar.addi v52 c12_i32_25
  let c1_i32_29 : BitVec 32 := 1#32
  let arg16 : BitVec 32 := Scf.iv v53 c1_i32_29 k0_t15
  let v73 : Index := Scalar.indexCast arg16
  ![v73.toNat]
def k0_mult49 (v74 : BitVec 32) : BitVec 32 :=
  v74

def k0_off126 (v74 : BitVec 32) : Fin 2 → Nat :=
  let v75 : BitVec 32 := v74
  let v76 : Index := Scalar.indexCast v75
  let c0_32 : Index := 0#32
  ![v76.toNat, 0]

def k0_chk31 (v74 : BitVec 32) : Prop :=
  (8 ∣ (k0_mult49 v74).toNat) ∧
  (∀ a, (k0_off126 v74) a + S8x128.size a ≤ S12288x128.size a)
theorem k0_mult49_dvd : ∀ (v74 : BitVec 32) (k0_hw31 : k0_chk31 v74), 8 ∣ (k0_mult49 v74).toNat := fun v74 k0_hw31 => k0_hw31.1
theorem k0_off126_inb : ∀ (v74 : BitVec 32) (k0_hw31 : k0_chk31 v74), ∀ a, (k0_off126 v74) a + S8x128.size a ≤ S12288x128.size a := fun v74 k0_hw31 => k0_hw31.2

def k0_off127 (i : grid0.Coords) (k0_t14 : Fin k0_t14_loop.trips) (arg15 : BitVec 32) : Fin 2 → Nat :=
  let arg0 : BitVec 32 := BitVec.ofNat 32 (i 0).val
  let c1_i32_1 : BitVec 32 := 1#32
  let v3 : BitVec 32 := Scalar.andi arg0 c1_i32_1
  let c4352_i32 : BitVec 32 := 4352#32
  let v15 : BitVec 32 := Scalar.muli v3 c4352_i32
  let c0_i32_17 : BitVec 32 := 0#32
  let c1_i32_19 : BitVec 32 := 1#32
  let arg14 : BitVec 32 := Scf.iv c0_i32_17 c1_i32_19 k0_t14
  let c32_i32 : BitVec 32 := 32#32
  let v47 : BitVec 32 := Scalar.muli arg14 c32_i32
  let c31_i32 : BitVec 32 := 31#32
  let v45 : BitVec 32 := Scalar.ctlz arg15
  let v46 : BitVec 32 := Scalar.subi c31_i32 v45
  let v48 : BitVec 32 := Scalar.addi v47 v46
  let c17_i32 : BitVec 32 := 17#32
  let v71 : BitVec 32 := Scalar.muli v48 c17_i32
  let v72 : BitVec 32 := Scalar.addi v15 v71
  let v80 : Index := Scalar.indexCast v72
  let c0_33 : Index := 0#32
  ![v80.toNat, 0]
@[reducible] def k0_t16_loop (v52 : BitVec 32) (v56 : BitVec 32) : Scf.Loop 32 :=
  let c12_i32_25 : BitVec 32 := 12#32
  let v53 : BitVec 32 := Scalar.addi v52 c12_i32_25
  let v57 : BitVec 32 := Scalar.subi v56 v53
  let c1_i32_28 : BitVec 32 := 1#32
  let v59 : BitVec 32 := Scalar.divsi v57 c1_i32_28
  let v60 : BitVec 32 := Scalar.muli v59 c1_i32_28
  let v61 : BitVec 32 := Scalar.addi v53 v60
  let v58 : BitVec 32 := Scalar.addi v53 v57
  let c1_i32_30 : BitVec 32 := 1#32
  ⟨v61, v58, c1_i32_30⟩
def k0_off128 (v52 : BitVec 32) (v56 : BitVec 32) (k0_t16 : Fin (k0_t16_loop v52 v56).trips) : Fin 2 → Nat :=
  let c12_i32_25 : BitVec 32 := 12#32
  let v53 : BitVec 32 := Scalar.addi v52 c12_i32_25
  let v57 : BitVec 32 := Scalar.subi v56 v53
  let c1_i32_28 : BitVec 32 := 1#32
  let v59 : BitVec 32 := Scalar.divsi v57 c1_i32_28
  let v60 : BitVec 32 := Scalar.muli v59 c1_i32_28
  let v61 : BitVec 32 := Scalar.addi v53 v60
  let c1_i32_30 : BitVec 32 := 1#32
  let arg16 : BitVec 32 := Scf.iv v61 c1_i32_30 k0_t16
  let c8191_i32 : BitVec 32 := 8191#32
  let v64 : BitVec 32 := Scalar.andi arg16 c8191_i32
  let v65 : Index := Scalar.indexCast v64
  let c0 : Index := 0#32
  ![v65.toNat, 0]
def k0_off129 (v52 : BitVec 32) (v56 : BitVec 32) (k0_t16 : Fin (k0_t16_loop v52 v56).trips) : Fin 1 → Nat :=
  let c12_i32_25 : BitVec 32 := 12#32
  let v53 : BitVec 32 := Scalar.addi v52 c12_i32_25
  let v57 : BitVec 32 := Scalar.subi v56 v53
  let c1_i32_28 : BitVec 32 := 1#32
  let v59 : BitVec 32 := Scalar.divsi v57 c1_i32_28
  let v60 : BitVec 32 := Scalar.muli v59 c1_i32_28
  let v61 : BitVec 32 := Scalar.addi v53 v60
  let c1_i32_30 : BitVec 32 := 1#32
  let arg16 : BitVec 32 := Scf.iv v61 c1_i32_30 k0_t16
  let v73 : Index := Scalar.indexCast arg16
  ![v73.toNat]
def k0_mult50 (v74 : BitVec 32) : BitVec 32 :=
  v74

def k0_off130 (v74 : BitVec 32) : Fin 2 → Nat :=
  let v75 : BitVec 32 := v74
  let v76 : Index := Scalar.indexCast v75
  let c0_32 : Index := 0#32
  ![v76.toNat, 0]

def k0_chk32 (v74 : BitVec 32) : Prop :=
  (8 ∣ (k0_mult50 v74).toNat) ∧
  (∀ a, (k0_off130 v74) a + S8x128.size a ≤ S12288x128.size a)
theorem k0_mult50_dvd : ∀ (v74 : BitVec 32) (k0_hw32 : k0_chk32 v74), 8 ∣ (k0_mult50 v74).toNat := fun v74 k0_hw32 => k0_hw32.1
theorem k0_off130_inb : ∀ (v74 : BitVec 32) (k0_hw32 : k0_chk32 v74), ∀ a, (k0_off130 v74) a + S8x128.size a ≤ S12288x128.size a := fun v74 k0_hw32 => k0_hw32.2

def k0_off131 (i : grid0.Coords) (k0_t14 : Fin k0_t14_loop.trips) (arg15 : BitVec 32) : Fin 2 → Nat :=
  let arg0 : BitVec 32 := BitVec.ofNat 32 (i 0).val
  let c1_i32_1 : BitVec 32 := 1#32
  let v3 : BitVec 32 := Scalar.andi arg0 c1_i32_1
  let c4352_i32 : BitVec 32 := 4352#32
  let v15 : BitVec 32 := Scalar.muli v3 c4352_i32
  let c0_i32_17 : BitVec 32 := 0#32
  let c1_i32_19 : BitVec 32 := 1#32
  let arg14 : BitVec 32 := Scf.iv c0_i32_17 c1_i32_19 k0_t14
  let c32_i32 : BitVec 32 := 32#32
  let v47 : BitVec 32 := Scalar.muli arg14 c32_i32
  let c31_i32 : BitVec 32 := 31#32
  let v45 : BitVec 32 := Scalar.ctlz arg15
  let v46 : BitVec 32 := Scalar.subi c31_i32 v45
  let v48 : BitVec 32 := Scalar.addi v47 v46
  let c17_i32 : BitVec 32 := 17#32
  let v71 : BitVec 32 := Scalar.muli v48 c17_i32
  let v72 : BitVec 32 := Scalar.addi v15 v71
  let v80 : Index := Scalar.indexCast v72
  let c0_33 : Index := 0#32
  ![v80.toNat, 0]

def k0_chk30 (i : grid0.Coords) (k0_t14 : Fin k0_t14_loop.trips) (arg15 : BitVec 32) (v52 : BitVec 32) (v56 : BitVec 32) : Prop :=
  ((k0_t15_loop v52 v56).OK) ∧
  (∀ k0_t15 : Fin (k0_t15_loop v52 v56).trips, ∀ a, (k0_off124 v52 v56 k0_t15) a + S1x128.size a ≤ S8224x128.size a) ∧
  (∀ k0_t15 : Fin (k0_t15_loop v52 v56).trips, ∀ a, (k0_off125 v52 v56 k0_t15) a + S1.size a ≤ S65024.size a) ∧
  (∀ k0_t15 : Fin (k0_t15_loop v52 v56).trips, ∀ a, (k0_off127 i k0_t14 arg15) a + S16x128.size a ≤ S8704x128.size a) ∧
  ((k0_t16_loop v52 v56).OK) ∧
  (∀ k0_t16 : Fin (k0_t16_loop v52 v56).trips, ∀ a, (k0_off128 v52 v56 k0_t16) a + S1x128.size a ≤ S8224x128.size a) ∧
  (∀ k0_t16 : Fin (k0_t16_loop v52 v56).trips, ∀ a, (k0_off129 v52 v56 k0_t16) a + S1.size a ≤ S65024.size a) ∧
  (∀ k0_t16 : Fin (k0_t16_loop v52 v56).trips, ∀ a, (k0_off131 i k0_t14 arg15) a + S16x128.size a ≤ S8704x128.size a)
theorem k0_t15_ok : ∀ (i : grid0.Coords) (k0_t14 : Fin k0_t14_loop.trips) (arg15 : BitVec 32) (v52 : BitVec 32) (v56 : BitVec 32) (k0_hw30 : k0_chk30 i k0_t14 arg15 v52 v56), (k0_t15_loop v52 v56).OK := fun i k0_t14 arg15 v52 v56 k0_hw30 => k0_hw30.1
theorem k0_off124_inb : ∀ (i : grid0.Coords) (k0_t14 : Fin k0_t14_loop.trips) (arg15 : BitVec 32) (v52 : BitVec 32) (v56 : BitVec 32) (k0_hw30 : k0_chk30 i k0_t14 arg15 v52 v56) (k0_t15 : Fin (k0_t15_loop v52 v56).trips), ∀ a, (k0_off124 v52 v56 k0_t15) a + S1x128.size a ≤ S8224x128.size a := fun i k0_t14 arg15 v52 v56 k0_hw30 k0_t15 => k0_hw30.2.1 k0_t15
theorem k0_off125_inb : ∀ (i : grid0.Coords) (k0_t14 : Fin k0_t14_loop.trips) (arg15 : BitVec 32) (v52 : BitVec 32) (v56 : BitVec 32) (k0_hw30 : k0_chk30 i k0_t14 arg15 v52 v56) (k0_t15 : Fin (k0_t15_loop v52 v56).trips), ∀ a, (k0_off125 v52 v56 k0_t15) a + S1.size a ≤ S65024.size a := fun i k0_t14 arg15 v52 v56 k0_hw30 k0_t15 => k0_hw30.2.2.1 k0_t15
theorem k0_off127_inb : ∀ (i : grid0.Coords) (k0_t14 : Fin k0_t14_loop.trips) (arg15 : BitVec 32) (v52 : BitVec 32) (v56 : BitVec 32) (k0_hw30 : k0_chk30 i k0_t14 arg15 v52 v56) (k0_t15 : Fin (k0_t15_loop v52 v56).trips), ∀ a, (k0_off127 i k0_t14 arg15) a + S16x128.size a ≤ S8704x128.size a := fun i k0_t14 arg15 v52 v56 k0_hw30 k0_t15 => k0_hw30.2.2.2.1 k0_t15
theorem k0_t16_ok : ∀ (i : grid0.Coords) (k0_t14 : Fin k0_t14_loop.trips) (arg15 : BitVec 32) (v52 : BitVec 32) (v56 : BitVec 32) (k0_hw30 : k0_chk30 i k0_t14 arg15 v52 v56), (k0_t16_loop v52 v56).OK := fun i k0_t14 arg15 v52 v56 k0_hw30 => k0_hw30.2.2.2.2.1
theorem k0_off128_inb : ∀ (i : grid0.Coords) (k0_t14 : Fin k0_t14_loop.trips) (arg15 : BitVec 32) (v52 : BitVec 32) (v56 : BitVec 32) (k0_hw30 : k0_chk30 i k0_t14 arg15 v52 v56) (k0_t16 : Fin (k0_t16_loop v52 v56).trips), ∀ a, (k0_off128 v52 v56 k0_t16) a + S1x128.size a ≤ S8224x128.size a := fun i k0_t14 arg15 v52 v56 k0_hw30 k0_t16 => k0_hw30.2.2.2.2.2.1 k0_t16
theorem k0_off129_inb : ∀ (i : grid0.Coords) (k0_t14 : Fin k0_t14_loop.trips) (arg15 : BitVec 32) (v52 : BitVec 32) (v56 : BitVec 32) (k0_hw30 : k0_chk30 i k0_t14 arg15 v52 v56) (k0_t16 : Fin (k0_t16_loop v52 v56).trips), ∀ a, (k0_off129 v52 v56 k0_t16) a + S1.size a ≤ S65024.size a := fun i k0_t14 arg15 v52 v56 k0_hw30 k0_t16 => k0_hw30.2.2.2.2.2.2.1 k0_t16
theorem k0_off131_inb : ∀ (i : grid0.Coords) (k0_t14 : Fin k0_t14_loop.trips) (arg15 : BitVec 32) (v52 : BitVec 32) (v56 : BitVec 32) (k0_hw30 : k0_chk30 i k0_t14 arg15 v52 v56) (k0_t16 : Fin (k0_t16_loop v52 v56).trips), ∀ a, (k0_off131 i k0_t14 arg15) a + S16x128.size a ≤ S8704x128.size a := fun i k0_t14 arg15 v52 v56 k0_hw30 k0_t16 => k0_hw30.2.2.2.2.2.2.2 k0_t16

@[reducible] def k0_t17_loop : Scf.Loop 32 :=
  let c0_i32_22 : BitVec 32 := 0#32
  let c256_i32_23 : BitVec 32 := 256#32
  let v40 : BitVec 32 := Scalar.addi c0_i32_22 c256_i32_23
  let c1_i32_24 : BitVec 32 := 1#32
  ⟨c0_i32_22, v40, c1_i32_24⟩
def k0_off132 (i : grid0.Coords) (k0_t17 : Fin k0_t17_loop.trips) : Fin 2 → Nat :=
  let arg0 : BitVec 32 := BitVec.ofNat 32 (i 0).val
  let c1_i32_1 : BitVec 32 := 1#32
  let v3 : BitVec 32 := Scalar.andi arg0 c1_i32_1
  let c4352_i32 : BitVec 32 := 4352#32
  let v15 : BitVec 32 := Scalar.muli v3 c4352_i32
  let c0_i32_22 : BitVec 32 := 0#32
  let c1_i32_24 : BitVec 32 := 1#32
  let arg14 : BitVec 32 := Scf.iv c0_i32_22 c1_i32_24 k0_t17
  let c17_i32 : BitVec 32 := 17#32
  let v41 : BitVec 32 := Scalar.muli arg14 c17_i32
  let v42 : BitVec 32 := Scalar.addi v15 v41
  let v44 : Index := Scalar.indexCast v42
  let c0 : Index := 0#32
  ![v44.toNat, 0]
def k0_off133 (i : grid0.Coords) (k0_t17 : Fin k0_t17_loop.trips) : Fin 1 → Nat :=
  let arg0 : BitVec 32 := BitVec.ofNat 32 (i 0).val
  let c34_i32 : BitVec 32 := 34#32
  let v0 : BitVec 32 := Scalar.minsi arg0 c34_i32
  let c256_i32_26 : BitVec 32 := 256#32
  let v48 : BitVec 32 := Scalar.muli v0 c256_i32_26
  let c0_i32_22 : BitVec 32 := 0#32
  let c1_i32_24 : BitVec 32 := 1#32
  let arg14 : BitVec 32 := Scf.iv c0_i32_22 c1_i32_24 k0_t17
  let v49 : BitVec 32 := Scalar.addi v48 arg14
  let v50 : Index := Scalar.indexCast v49
  ![v50.toNat]
def k0_off134 (i : grid0.Coords) (k0_t17 : Fin k0_t17_loop.trips) : Fin 1 → Nat :=
  let arg0 : BitVec 32 := BitVec.ofNat 32 (i 0).val
  let c34_i32 : BitVec 32 := 34#32
  let v0 : BitVec 32 := Scalar.minsi arg0 c34_i32
  let c256_i32_27 : BitVec 32 := 256#32
  let v52 : BitVec 32 := Scalar.muli v0 c256_i32_27
  let c0_i32_22 : BitVec 32 := 0#32
  let c1_i32_24 : BitVec 32 := 1#32
  let arg14 : BitVec 32 := Scf.iv c0_i32_22 c1_i32_24 k0_t17
  let v53 : BitVec 32 := Scalar.addi v52 arg14
  let c1_i32_28 : BitVec 32 := 1#32
  let v54 : BitVec 32 := Scalar.addi v53 c1_i32_28
  let v55 : Index := Scalar.indexCast v54
  ![v55.toNat]
@[reducible] def k0_t18_loop (v51 : BitVec 32) (v56 : BitVec 32) : Scf.Loop 32 :=
  let v57 : BitVec 32 := Scalar.subi v56 v51
  let c1_i32_30 : BitVec 32 := 1#32
  let v59 : BitVec 32 := Scalar.divsi v57 c1_i32_30
  let v60 : BitVec 32 := Scalar.muli v59 c1_i32_30
  let v61 : BitVec 32 := Scalar.addi v51 v60
  let c1_i32_31 : BitVec 32 := 1#32
  ⟨v51, v61, c1_i32_31⟩
def k0_cond4 (v6 : BitVec 32) (v30 : BitVec 32) : BitVec 1 :=
  let c8_i32 : BitVec 32 := 8#32
  let v7 : BitVec 32 := Scalar.shrui v6 c8_i32
  let c12_i32 : BitVec 32 := 12#32
  let v31 : BitVec 32 := Scalar.addi v7 c12_i32
  let c256_i32_15 : BitVec 32 := 256#32
  let v32 : BitVec 32 := Scalar.muli v31 c256_i32_15
  let c12_i32_16 : BitVec 32 := 12#32
  let v33 : BitVec 32 := Scalar.subi v32 c12_i32_16
  let v34 : BitVec 1 := Scalar.cmpi .sle v30 v33
  let v_true : BitVec 1 := 1#1
  let v36 : BitVec 1 := Scalar.xori v34 v_true
  let v37 : BitVec 32 := Scalar.extui v36
  let c0_i32_21 : BitVec 32 := 0#32
  let v38 : BitVec 1 := Scalar.cmpi .ne v37 c0_i32_21
  v38

def k0_off135 (v51 : BitVec 32) (v56 : BitVec 32) (k0_t18 : Fin (k0_t18_loop v51 v56).trips) : Fin 2 → Nat :=
  let c1_i32_31 : BitVec 32 := 1#32
  let arg15 : BitVec 32 := Scf.iv v51 c1_i32_31 k0_t18
  let c8_i32_33 : BitVec 32 := 8#32
  let v62 : BitVec 32 := Scalar.shrui arg15 c8_i32_33
  let c8_i32_34 : BitVec 32 := 8#32
  let v63 : BitVec 32 := Scalar.muli v62 c8_i32_34
  let c7_i32 : BitVec 32 := 7#32
  let v64 : BitVec 32 := Scalar.andi arg15 c7_i32
  let v65 : BitVec 32 := Scalar.addi v63 v64
  let v66 : Index := Scalar.indexCast v65
  let c0_35 : Index := 0#32
  ![v66.toNat, 0]
def k0_off136 (v51 : BitVec 32) (v56 : BitVec 32) (k0_t18 : Fin (k0_t18_loop v51 v56).trips) : Fin 1 → Nat :=
  let c1_i32_31 : BitVec 32 := 1#32
  let arg15 : BitVec 32 := Scf.iv v51 c1_i32_31 k0_t18
  let v82 : Index := Scalar.indexCast arg15
  ![v82.toNat]
def k0_mult51 (v83 : BitVec 32) : BitVec 32 :=
  v83

def k0_off137 (v83 : BitVec 32) : Fin 2 → Nat :=
  let v84 : BitVec 32 := v83
  let v85 : Index := Scalar.indexCast v84
  let c0_39 : Index := 0#32
  ![v85.toNat, 0]

def k0_chk34 (v6 : BitVec 32) (v30 : BitVec 32) (v83 : BitVec 32) : Prop :=
  (∀ (k0_h4 : k0_cond4 v6 v30 = 1#1), 8 ∣ (k0_mult51 v83).toNat) ∧
  (∀ (k0_h4 : k0_cond4 v6 v30 = 1#1), ∀ a, (k0_off137 v83) a + S8x128.size a ≤ S12288x128.size a)
theorem k0_mult51_dvd : ∀ (v6 : BitVec 32) (v30 : BitVec 32) (v83 : BitVec 32) (k0_hw34 : k0_chk34 v6 v30 v83), ∀ (k0_h4 : k0_cond4 v6 v30 = 1#1), 8 ∣ (k0_mult51 v83).toNat := fun v6 v30 v83 k0_hw34 k0_h4 => k0_hw34.1 k0_h4
theorem k0_off137_inb : ∀ (v6 : BitVec 32) (v30 : BitVec 32) (v83 : BitVec 32) (k0_hw34 : k0_chk34 v6 v30 v83), ∀ (k0_h4 : k0_cond4 v6 v30 = 1#1), ∀ a, (k0_off137 v83) a + S8x128.size a ≤ S12288x128.size a := fun v6 v30 v83 k0_hw34 k0_h4 => k0_hw34.2 k0_h4

def k0_off138 (i : grid0.Coords) (k0_t17 : Fin k0_t17_loop.trips) : Fin 2 → Nat :=
  let arg0 : BitVec 32 := BitVec.ofNat 32 (i 0).val
  let c1_i32_1 : BitVec 32 := 1#32
  let v3 : BitVec 32 := Scalar.andi arg0 c1_i32_1
  let c4352_i32 : BitVec 32 := 4352#32
  let v15 : BitVec 32 := Scalar.muli v3 c4352_i32
  let c0_i32_22 : BitVec 32 := 0#32
  let c1_i32_24 : BitVec 32 := 1#32
  let arg14 : BitVec 32 := Scf.iv c0_i32_22 c1_i32_24 k0_t17
  let c17_i32_38 : BitVec 32 := 17#32
  let v80 : BitVec 32 := Scalar.muli arg14 c17_i32_38
  let v81 : BitVec 32 := Scalar.addi v15 v80
  let v89 : Index := Scalar.indexCast v81
  let c0_40 : Index := 0#32
  ![v89.toNat, 0]
@[reducible] def k0_t19_loop (v51 : BitVec 32) (v56 : BitVec 32) : Scf.Loop 32 :=
  let v57 : BitVec 32 := Scalar.subi v56 v51
  let c1_i32_30 : BitVec 32 := 1#32
  let v59 : BitVec 32 := Scalar.divsi v57 c1_i32_30
  let v60 : BitVec 32 := Scalar.muli v59 c1_i32_30
  let v61 : BitVec 32 := Scalar.addi v51 v60
  let v58 : BitVec 32 := Scalar.addi v51 v57
  let c1_i32_32 : BitVec 32 := 1#32
  ⟨v61, v58, c1_i32_32⟩
def k0_off139 (v51 : BitVec 32) (v56 : BitVec 32) (k0_t19 : Fin (k0_t19_loop v51 v56).trips) : Fin 2 → Nat :=
  let v57 : BitVec 32 := Scalar.subi v56 v51
  let c1_i32_30 : BitVec 32 := 1#32
  let v59 : BitVec 32 := Scalar.divsi v57 c1_i32_30
  let v60 : BitVec 32 := Scalar.muli v59 c1_i32_30
  let v61 : BitVec 32 := Scalar.addi v51 v60
  let c1_i32_32 : BitVec 32 := 1#32
  let arg15 : BitVec 32 := Scf.iv v61 c1_i32_32 k0_t19
  let c8_i32_33 : BitVec 32 := 8#32
  let v62 : BitVec 32 := Scalar.shrui arg15 c8_i32_33
  let c8_i32_34 : BitVec 32 := 8#32
  let v63 : BitVec 32 := Scalar.muli v62 c8_i32_34
  let c7_i32 : BitVec 32 := 7#32
  let v64 : BitVec 32 := Scalar.andi arg15 c7_i32
  let v65 : BitVec 32 := Scalar.addi v63 v64
  let v66 : Index := Scalar.indexCast v65
  let c0_35 : Index := 0#32
  ![v66.toNat, 0]
def k0_off140 (v51 : BitVec 32) (v56 : BitVec 32) (k0_t19 : Fin (k0_t19_loop v51 v56).trips) : Fin 1 → Nat :=
  let v57 : BitVec 32 := Scalar.subi v56 v51
  let c1_i32_30 : BitVec 32 := 1#32
  let v59 : BitVec 32 := Scalar.divsi v57 c1_i32_30
  let v60 : BitVec 32 := Scalar.muli v59 c1_i32_30
  let v61 : BitVec 32 := Scalar.addi v51 v60
  let c1_i32_32 : BitVec 32 := 1#32
  let arg15 : BitVec 32 := Scf.iv v61 c1_i32_32 k0_t19
  let v82 : Index := Scalar.indexCast arg15
  ![v82.toNat]

def k0_chk33 (v6 : BitVec 32) (v30 : BitVec 32) (v51 : BitVec 32) (v56 : BitVec 32) : Prop :=
  (∀ (k0_h4 : k0_cond4 v6 v30 = 1#1), (k0_t18_loop v51 v56).OK) ∧
  (∀ k0_t18 : Fin (k0_t18_loop v51 v56).trips, ∀ (k0_h4 : k0_cond4 v6 v30 = 1#1), ∀ a, (k0_off135 v51 v56 k0_t18) a + S1x32.size a ≤ S2032x32.size a) ∧
  (∀ k0_t18 : Fin (k0_t18_loop v51 v56).trips, ∀ (k0_h4 : k0_cond4 v6 v30 = 1#1), ∀ a, (k0_off136 v51 v56 k0_t18) a + S1.size a ≤ S65024.size a) ∧
  (∀ (k0_h4 : k0_cond4 v6 v30 = 1#1), (k0_t19_loop v51 v56).OK) ∧
  (∀ k0_t19 : Fin (k0_t19_loop v51 v56).trips, ∀ (k0_h4 : k0_cond4 v6 v30 = 1#1), ∀ a, (k0_off139 v51 v56 k0_t19) a + S1x32.size a ≤ S2032x32.size a) ∧
  (∀ k0_t19 : Fin (k0_t19_loop v51 v56).trips, ∀ (k0_h4 : k0_cond4 v6 v30 = 1#1), ∀ a, (k0_off140 v51 v56 k0_t19) a + S1.size a ≤ S65024.size a)
theorem k0_t18_ok : ∀ (v6 : BitVec 32) (v30 : BitVec 32) (v51 : BitVec 32) (v56 : BitVec 32) (k0_hw33 : k0_chk33 v6 v30 v51 v56), ∀ (k0_h4 : k0_cond4 v6 v30 = 1#1), (k0_t18_loop v51 v56).OK := fun v6 v30 v51 v56 k0_hw33 k0_h4 => k0_hw33.1 k0_h4
theorem k0_off135_inb : ∀ (v6 : BitVec 32) (v30 : BitVec 32) (v51 : BitVec 32) (v56 : BitVec 32) (k0_hw33 : k0_chk33 v6 v30 v51 v56) (k0_t18 : Fin (k0_t18_loop v51 v56).trips), ∀ (k0_h4 : k0_cond4 v6 v30 = 1#1), ∀ a, (k0_off135 v51 v56 k0_t18) a + S1x32.size a ≤ S2032x32.size a := fun v6 v30 v51 v56 k0_hw33 k0_t18 k0_h4 => k0_hw33.2.1 k0_t18 k0_h4
theorem k0_off136_inb : ∀ (v6 : BitVec 32) (v30 : BitVec 32) (v51 : BitVec 32) (v56 : BitVec 32) (k0_hw33 : k0_chk33 v6 v30 v51 v56) (k0_t18 : Fin (k0_t18_loop v51 v56).trips), ∀ (k0_h4 : k0_cond4 v6 v30 = 1#1), ∀ a, (k0_off136 v51 v56 k0_t18) a + S1.size a ≤ S65024.size a := fun v6 v30 v51 v56 k0_hw33 k0_t18 k0_h4 => k0_hw33.2.2.1 k0_t18 k0_h4
theorem k0_t19_ok : ∀ (v6 : BitVec 32) (v30 : BitVec 32) (v51 : BitVec 32) (v56 : BitVec 32) (k0_hw33 : k0_chk33 v6 v30 v51 v56), ∀ (k0_h4 : k0_cond4 v6 v30 = 1#1), (k0_t19_loop v51 v56).OK := fun v6 v30 v51 v56 k0_hw33 k0_h4 => k0_hw33.2.2.2.1 k0_h4
theorem k0_off139_inb : ∀ (v6 : BitVec 32) (v30 : BitVec 32) (v51 : BitVec 32) (v56 : BitVec 32) (k0_hw33 : k0_chk33 v6 v30 v51 v56) (k0_t19 : Fin (k0_t19_loop v51 v56).trips), ∀ (k0_h4 : k0_cond4 v6 v30 = 1#1), ∀ a, (k0_off139 v51 v56 k0_t19) a + S1x32.size a ≤ S2032x32.size a := fun v6 v30 v51 v56 k0_hw33 k0_t19 k0_h4 => k0_hw33.2.2.2.2.1 k0_t19 k0_h4
theorem k0_off140_inb : ∀ (v6 : BitVec 32) (v30 : BitVec 32) (v51 : BitVec 32) (v56 : BitVec 32) (k0_hw33 : k0_chk33 v6 v30 v51 v56) (k0_t19 : Fin (k0_t19_loop v51 v56).trips), ∀ (k0_h4 : k0_cond4 v6 v30 = 1#1), ∀ a, (k0_off140 v51 v56 k0_t19) a + S1.size a ≤ S65024.size a := fun v6 v30 v51 v56 k0_hw33 k0_t19 k0_h4 => k0_hw33.2.2.2.2.2 k0_t19 k0_h4

def k0_mult52 (v83 : BitVec 32) : BitVec 32 :=
  v83

def k0_off141 (v83 : BitVec 32) : Fin 2 → Nat :=
  let v84 : BitVec 32 := v83
  let v85 : Index := Scalar.indexCast v84
  let c0_39 : Index := 0#32
  ![v85.toNat, 0]

def k0_chk35 (v6 : BitVec 32) (v30 : BitVec 32) (v83 : BitVec 32) : Prop :=
  (∀ (k0_h4 : k0_cond4 v6 v30 = 1#1), 8 ∣ (k0_mult52 v83).toNat) ∧
  (∀ (k0_h4 : k0_cond4 v6 v30 = 1#1), ∀ a, (k0_off141 v83) a + S8x128.size a ≤ S12288x128.size a)
theorem k0_mult52_dvd : ∀ (v6 : BitVec 32) (v30 : BitVec 32) (v83 : BitVec 32) (k0_hw35 : k0_chk35 v6 v30 v83), ∀ (k0_h4 : k0_cond4 v6 v30 = 1#1), 8 ∣ (k0_mult52 v83).toNat := fun v6 v30 v83 k0_hw35 k0_h4 => k0_hw35.1 k0_h4
theorem k0_off141_inb : ∀ (v6 : BitVec 32) (v30 : BitVec 32) (v83 : BitVec 32) (k0_hw35 : k0_chk35 v6 v30 v83), ∀ (k0_h4 : k0_cond4 v6 v30 = 1#1), ∀ a, (k0_off141 v83) a + S8x128.size a ≤ S12288x128.size a := fun v6 v30 v83 k0_hw35 k0_h4 => k0_hw35.2 k0_h4

def k0_off142 (i : grid0.Coords) (k0_t17 : Fin k0_t17_loop.trips) : Fin 2 → Nat :=
  let arg0 : BitVec 32 := BitVec.ofNat 32 (i 0).val
  let c1_i32_1 : BitVec 32 := 1#32
  let v3 : BitVec 32 := Scalar.andi arg0 c1_i32_1
  let c4352_i32 : BitVec 32 := 4352#32
  let v15 : BitVec 32 := Scalar.muli v3 c4352_i32
  let c0_i32_22 : BitVec 32 := 0#32
  let c1_i32_24 : BitVec 32 := 1#32
  let arg14 : BitVec 32 := Scf.iv c0_i32_22 c1_i32_24 k0_t17
  let c17_i32_38 : BitVec 32 := 17#32
  let v80 : BitVec 32 := Scalar.muli arg14 c17_i32_38
  let v81 : BitVec 32 := Scalar.addi v15 v80
  let v89 : Index := Scalar.indexCast v81
  let c0_40 : Index := 0#32
  ![v89.toNat, 0]
def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c34_i32 : BitVec 32 := 34#32
  let v0 : BitVec 32 := Scalar.minsi arg0 c34_i32
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let c34_i32 : BitVec 32 := 34#32
  let v0 : BitVec 32 := Scalar.minsi arg0 c34_i32
  let c0_i32 : BitVec 32 := 0#32
  let c0_i32_0 : BitVec 32 := 0#32
  ![c0_i32.toNat, v0.toNat]

def cc0_transform_7 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

def cc0_transform_8 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

abbrev stage0_0 : Fin 1 → Memref sig .tc .smem S8961 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S280 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .smem S65024 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1920x1536 .i16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2032x32 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S768x256 .i8 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x256 .i32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1920x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1920x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Dense.lean ====
abbrev S5x384x1536 : Shape := ⟨3, ![5, 384, 1536]⟩
abbrev S768x8960 : Shape := ⟨2, ![768, 8960]⟩
abbrev S8960x16 : Shape := ⟨2, ![8960, 16]⟩
abbrev S1920x8960 : Shape := ⟨2, ![1920, 8960]⟩
abbrev S1920x1536 : Shape := ⟨2, ![1920, 1536]⟩
abbrev S16x8960 : Shape := ⟨2, ![16, 8960]⟩
abbrev S8x2x8960 : Shape := ⟨3, ![8, 2, 8960]⟩
abbrev S8x8960x2 : Shape := ⟨3, ![8, 8960, 2]⟩
abbrev S8x8960 : Shape := ⟨2, ![8, 8960]⟩
abbrev S1920x256 : Shape := ⟨2, ![1920, 256]⟩
abbrev S768x256 : Shape := ⟨2, ![768, 256]⟩
abbrev S8x256 : Shape := ⟨2, ![8, 256]⟩
abbrev S1536x256 : Shape := ⟨2, ![1536, 256]⟩
abbrev S8x128 : Shape := ⟨2, ![8, 128]⟩
abbrev S32x128 : Shape := ⟨2, ![32, 128]⟩
abbrev S8x128x1 : Shape := ⟨3, ![8, 128, 1]⟩
abbrev S480x1536 : Shape := ⟨2, ![480, 1536]⟩
abbrev S480x256 : Shape := ⟨2, ![480, 256]⟩

abbrev nBuf : Space → Nat
  | .hbm => 10
  | .vmem => 10
  | .smem => 0
  | _ => 0

abbrev bufTy : (tb : Table) → Fin (tcTables nBuf tb) → BufTy
  | .hbm, ⟨0, _⟩ => ⟨S5x384x1536, .bf16⟩
  | .hbm, ⟨1, _⟩ => ⟨S768x8960, .i8⟩
  | .hbm, ⟨2, _⟩ => ⟨S8960x16, .i16⟩
  | .hbm, ⟨3, _⟩ => ⟨S1920x8960, .f32⟩
  | .hbm, ⟨4, _⟩ => ⟨S1920x1536, .bf16⟩
  | .hbm, ⟨5, _⟩ => ⟨S16x8960, .i16⟩
  | .hbm, ⟨6, _⟩ => ⟨S8x2x8960, .i16⟩
  | .hbm, ⟨7, _⟩ => ⟨S8x8960x2, .i16⟩
  | .hbm, ⟨8, _⟩ => ⟨S8x8960, .i32⟩
  | .hbm, ⟨9, _⟩ => ⟨S1920x8960, .bf16⟩
  | .local _ .vmem, ⟨0, _⟩ => ⟨S1920x1536, .bf16⟩
  | .local _ .vmem, ⟨1, _⟩ => ⟨S1920x256, .f32⟩
  | .local _ .vmem, ⟨2, _⟩ => ⟨S1920x256, .f32⟩
  | .local _ .vmem, ⟨3, _⟩ => ⟨S768x256, .i8⟩
  | .local _ .vmem, ⟨4, _⟩ => ⟨S768x256, .i8⟩
  | .local _ .vmem, ⟨5, _⟩ => ⟨S8x256, .i32⟩
  | .local _ .vmem, ⟨6, _⟩ => ⟨S8x256, .i32⟩
  | .local _ .vmem, ⟨7, _⟩ => ⟨S1920x256, .bf16⟩
  | .local _ .vmem, ⟨8, _⟩ => ⟨S1920x256, .bf16⟩
  | .local _ .vmem, ⟨9, _⟩ => ⟨S1536x256, .i32⟩
  | _, _ => ⟨S5x384x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![36], ![false]⟩

def k0_cond1 (i : grid0.Coords) : BitVec 1 :=
  let arg0 : BitVec 32 := BitVec.ofNat 32 (i 0).val
  let c0_i32 : BitVec 32 := 0#32
  let v4 : BitVec 1 := Scalar.cmpi .eq arg0 c0_i32
  let v5 : BitVec 32 := Scalar.extui v4
  let c0_i32_2 : BitVec 32 := 0#32
  let v6 : BitVec 1 := Scalar.cmpi .ne v5 c0_i32_2
  v6

@[reducible] def k0_t1_loop : Scf.Loop 32 :=
  let c0_i32_5 : BitVec 32 := 0#32
  let c4_i32 : BitVec 32 := 4#32
  let v10 : BitVec 32 := Scalar.addi c0_i32_5 c4_i32
  let c1_i32_6 : BitVec 32 := 1#32
  ⟨c0_i32_5, v10, c1_i32_6⟩
def k0_mult1 (k0_t1 : Fin k0_t1_loop.trips) : BitVec 32 :=
  let c0_i32_5 : BitVec 32 := 0#32
  let c1_i32_6 : BitVec 32 := 1#32
  let arg7 : BitVec 32 := Scf.iv c0_i32_5 c1_i32_6 k0_t1
  let c192_i32 : BitVec 32 := 192#32
  let v11 : BitVec 32 := Scalar.muli arg7 c192_i32
  v11
def k0_mult2 (i : grid0.Coords) (k0_t1 : Fin k0_t1_loop.trips) : BitVec 32 :=
  let arg0 : BitVec 32 := BitVec.ofNat 32 (i 0).val
  let c1_i32 : BitVec 32 := 1#32
  let v0 : BitVec 32 := Scalar.andi arg0 c1_i32
  let c768_i32 : BitVec 32 := 768#32
  let v1 : BitVec 32 := Scalar.muli v0 c768_i32
  let c0_i32_5 : BitVec 32 := 0#32
  let c1_i32_6 : BitVec 32 := 1#32
  let arg7 : BitVec 32 := Scf.iv c0_i32_5 c1_i32_6 k0_t1
  let c192_i32 : BitVec 32 := 192#32
  let v11 : BitVec 32 := Scalar.muli arg7 c192_i32
  let v12 : BitVec 32 := v11
  let v13 : BitVec 32 := Scalar.addi v1 v12
  v13
@[reducible] def k0_t2_loop : Scf.Loop 32 :=
  let c0_i32_9 : BitVec 32 := 0#32
  let c6_i32 : BitVec 32 := 6#32
  let v17 : BitVec 32 := Scalar.addi c0_i32_9 c6_i32
  let c1_i32_10 : BitVec 32 := 1#32
  ⟨c0_i32_9, v17, c1_i32_10⟩
def k0_off1 (k0_t1 : Fin k0_t1_loop.trips) (k0_t2 : Fin k0_t2_loop.trips) : Fin 2 → Nat :=
  let c0_i32_5 : BitVec 32 := 0#32
  let c1_i32_6 : BitVec 32 := 1#32
  let arg7 : BitVec 32 := Scf.iv c0_i32_5 c1_i32_6 k0_t1
  let c192_i32 : BitVec 32 := 192#32
  let v11 : BitVec 32 := Scalar.muli arg7 c192_i32
  let v12 : BitVec 32 := v11
  let c0_i32_9 : BitVec 32 := 0#32
  let c1_i32_10 : BitVec 32 := 1#32
  let arg8 : BitVec 32 := Scf.iv c0_i32_9 c1_i32_10 k0_t2
  let c32_i32 : BitVec 32 := 32#32
  let v21 : BitVec 32 := Scalar.muli arg8 c32_i32
  let v22 : BitVec 32 := Scalar.addi v12 v21
  let v23 : Index := Scalar.indexCast v22
  let c0_17 : Index := 0#32
  ![v23.toNat, 0]
def k0_off2 (i : grid0.Coords) (k0_t1 : Fin k0_t1_loop.trips) (k0_t2 : Fin k0_t2_loop.trips) (c0_i32_23 : BitVec 32) : Fin 2 → Nat :=
  let arg0 : BitVec 32 := BitVec.ofNat 32 (i 0).val
  let c1_i32 : BitVec 32 := 1#32
  let v0 : BitVec 32 := Scalar.andi arg0 c1_i32
  let c768_i32 : BitVec 32 := 768#32
  let v1 : BitVec 32 := Scalar.muli v0 c768_i32
  let c0_i32_5 : BitVec 32 := 0#32
  let c1_i32_6 : BitVec 32 := 1#32
  let arg7 : BitVec 32 := Scf.iv c0_i32_5 c1_i32_6 k0_t1
  let c192_i32 : BitVec 32 := 192#32
  let v11 : BitVec 32 := Scalar.muli arg7 c192_i32
  let v12 : BitVec 32 := v11
  let v13 : BitVec 32 := Scalar.addi v1 v12
  let v14 : BitVec 32 := v13
  let c0_i32_9 : BitVec 32 := 0#32
  let c1_i32_10 : BitVec 32 := 1#32
  let arg8 : BitVec 32 := Scf.iv c0_i32_9 c1_i32_10 k0_t2
  let c32_i32_22 : BitVec 32 := 32#32
  let v54 : BitVec 32 := Scalar.muli arg8 c32_i32_22
  let v55 : BitVec 32 := Scalar.addi v14 v54
  let v56 : BitVec 32 := Scalar.addi v55 c0_i32_23
  let v57 : Index := Scalar.indexCast v56
  let c0_24 : Index := 0#32
  ![v57.toNat, 0]
@[reducible] def k0_t3_loop : Scf.Loop 32 :=
  let c0_i32_13 : BitVec 32 := 0#32
  let c6_i32_14 : BitVec 32 := 6#32
  let v20 : BitVec 32 := Scalar.addi c0_i32_13 c6_i32_14
  let c1_i32_15 : BitVec 32 := 1#32
  ⟨c0_i32_13, v20, c1_i32_15⟩
def k0_off3 (k0_t1 : Fin k0_t1_loop.trips) (k0_t3 : Fin k0_t3_loop.trips) : Fin 2 → Nat :=
  let c0_i32_5 : BitVec 32 := 0#32
  let c1_i32_6 : BitVec 32 := 1#32
  let arg7 : BitVec 32 := Scf.iv c0_i32_5 c1_i32_6 k0_t1
  let c192_i32 : BitVec 32 := 192#32
  let v11 : BitVec 32 := Scalar.muli arg7 c192_i32
  let v12 : BitVec 32 := v11
  let c0_i32_13 : BitVec 32 := 0#32
  let c1_i32_15 : BitVec 32 := 1#32
  let arg8 : BitVec 32 := Scf.iv c0_i32_13 c1_i32_15 k0_t3
  let c32_i32 : BitVec 32 := 32#32
  let v21 : BitVec 32 := Scalar.muli arg8 c32_i32
  let v22 : BitVec 32 := Scalar.addi v12 v21
  let v23 : Index := Scalar.indexCast v22
  let c128_17 : Index := 128#32
  ![v23.toNat, 128]
def k0_off4 (i : grid0.Coords) (k0_t1 : Fin k0_t1_loop.trips) (k0_t3 : Fin k0_t3_loop.trips) (c0_i32_23 : BitVec 32) : Fin 2 → Nat :=
  let arg0 : BitVec 32 := BitVec.ofNat 32 (i 0).val
  let c1_i32 : BitVec 32 := 1#32
  let v0 : BitVec 32 := Scalar.andi arg0 c1_i32
  let c768_i32 : BitVec 32 := 768#32
  let v1 : BitVec 32 := Scalar.muli v0 c768_i32
  let c0_i32_5 : BitVec 32 := 0#32
  let c1_i32_6 : BitVec 32 := 1#32
  let arg7 : BitVec 32 := Scf.iv c0_i32_5 c1_i32_6 k0_t1
  let c192_i32 : BitVec 32 := 192#32
  let v11 : BitVec 32 := Scalar.muli arg7 c192_i32
  let v12 : BitVec 32 := v11
  let v13 : BitVec 32 := Scalar.addi v1 v12
  let v14 : BitVec 32 := v13
  let c0_i32_13 : BitVec 32 := 0#32
  let c1_i32_15 : BitVec 32 := 1#32
  let arg8 : BitVec 32 := Scf.iv c0_i32_13 c1_i32_15 k0_t3
  let c32_i32_22 : BitVec 32 := 32#32
  let v54 : BitVec 32 := Scalar.muli arg8 c32_i32_22
  let v55 : BitVec 32 := Scalar.addi v14 v54
  let v56 : BitVec 32 := Scalar.addi v55 c0_i32_23
  let v57 : Index := Scalar.indexCast v56
  let c128_24 : Index := 128#32
  ![v57.toNat, 128]
def k0_cond2 (i : grid0.Coords) : BitVec 1 :=
  let arg0 : BitVec 32 := BitVec.ofNat 32 (i 0).val
  let c0_i32_3 : BitVec 32 := 0#32
  let v7 : BitVec 1 := Scalar.cmpi .sgt arg0 c0_i32_3
  let v8 : BitVec 32 := Scalar.extui v7
  let c0_i32_4 : BitVec 32 := 0#32
  let v9 : BitVec 1 := Scalar.cmpi .ne v8 c0_i32_4
  v9

@[reducible] def k0_t4_loop : Scf.Loop 32 :=
  let c0_i32_5 : BitVec 32 := 0#32
  let c4_i32 : BitVec 32 := 4#32
  let v10 : BitVec 32 := Scalar.addi c0_i32_5 c4_i32
  let c1_i32_6 : BitVec 32 := 1#32
  ⟨c0_i32_5, v10, c1_i32_6⟩
def k0_mult3 (k0_t4 : Fin k0_t4_loop.trips) : BitVec 32 :=
  let c0_i32_5 : BitVec 32 := 0#32
  let c1_i32_6 : BitVec 32 := 1#32
  let arg7 : BitVec 32 := Scf.iv c0_i32_5 c1_i32_6 k0_t4
  let c480_i32 : BitVec 32 := 480#32
  let v11 : BitVec 32 := Scalar.muli arg7 c480_i32
  v11
def k0_mult4 (i : grid0.Coords) : BitVec 32 :=
  let c1_i32_0 : BitVec 32 := 1#32
  let arg0 : BitVec 32 := BitVec.ofNat 32 (i 0).val
  let c1_i32 : BitVec 32 := 1#32
  let v0 : BitVec 32 := Scalar.andi arg0 c1_i32
  let v2 : BitVec 32 := Scalar.subi c1_i32_0 v0
  let c768_i32_1 : BitVec 32 := 768#32
  let v3 : BitVec 32 := Scalar.muli v2 c768_i32_1
  v3
def k0_off5 (i : grid0.Coords) : Fin 2 → Nat :=
  let c1_i32_0 : BitVec 32 := 1#32
  let arg0 : BitVec 32 := BitVec.ofNat 32 (i 0).val
  let c1_i32 : BitVec 32 := 1#32
  let v0 : BitVec 32 := Scalar.andi arg0 c1_i32
  let v2 : BitVec 32 := Scalar.subi c1_i32_0 v0
  let c768_i32_1 : BitVec 32 := 768#32
  let v3 : BitVec 32 := Scalar.muli v2 c768_i32_1
  let v13 : BitVec 32 := v3
  let v14 : Index := Scalar.indexCast v13
  let c0 : Index := 0#32
  ![v14.toNat, 0]
def k0_off6 (k0_t4 : Fin k0_t4_loop.trips) : Fin 2 → Nat :=
  let c0_i32_5 : BitVec 32 := 0#32
  let c1_i32_6 : BitVec 32 := 1#32
  let arg7 : BitVec 32 := Scf.iv c0_i32_5 c1_i32_6 k0_t4
  let c480_i32 : BitVec 32 := 480#32
  let v11 : BitVec 32 := Scalar.muli arg7 c480_i32
  let v12 : BitVec 32 := v11
  let v17 : Index := Scalar.indexCast v12
  let c0_8 : Index := 0#32
  ![v17.toNat, 0]
def k0_off7 (k0_t4 : Fin k0_t4_loop.trips) : Fin 2 → Nat :=
  let c0_i32_5 : BitVec 32 := 0#32
  let c1_i32_6 : BitVec 32 := 1#32
  let arg7 : BitVec 32 := Scf.iv c0_i32_5 c1_i32_6 k0_t4
  let c480_i32 : BitVec 32 := 480#32
  let v11 : BitVec 32 := Scalar.muli arg7 c480_i32
  let v12 : BitVec 32 := v11
  let v21 : Index := Scalar.indexCast v12
  let c0_9 : Index := 0#32
  ![v21.toNat, 0]
def k0_mult5 (k0_t4 : Fin k0_t4_loop.trips) : BitVec 32 :=
  let c0_i32_5 : BitVec 32 := 0#32
  let c1_i32_6 : BitVec 32 := 1#32
  let arg7 : BitVec 32 := Scf.iv c0_i32_5 c1_i32_6 k0_t4
  let c192_i32 : BitVec 32 := 192#32
  let v27 : BitVec 32 := Scalar.muli arg7 c192_i32
  v27
def k0_mult6 (i : grid0.Coords) (k0_t4 : Fin k0_t4_loop.trips) : BitVec 32 :=
  let arg0 : BitVec 32 := BitVec.ofNat 32 (i 0).val
  let c1_i32 : BitVec 32 := 1#32
  let v0 : BitVec 32 := Scalar.andi arg0 c1_i32
  let c768_i32 : BitVec 32 := 768#32
  let v1 : BitVec 32 := Scalar.muli v0 c768_i32
  let c0_i32_5 : BitVec 32 := 0#32
  let c1_i32_6 : BitVec 32 := 1#32
  let arg7 : BitVec 32 := Scf.iv c0_i32_5 c1_i32_6 k0_t4
  let c192_i32 : BitVec 32 := 192#32
  let v27 : BitVec 32 := Scalar.muli arg7 c192_i32
  let v28 : BitVec 32 := v27
  let v29 : BitVec 32 := Scalar.addi v1 v28
  v29
@[reducible] def k0_t5_loop : Scf.Loop 32 :=
  let c0_i32_13 : BitVec 32 := 0#32
  let c6_i32 : BitVec 32 := 6#32
  let v33 : BitVec 32 := Scalar.addi c0_i32_13 c6_i32
  let c1_i32_14 : BitVec 32 := 1#32
  ⟨c0_i32_13, v33, c1_i32_14⟩
def k0_off8 (k0_t4 : Fin k0_t4_loop.trips) (k0_t5 : Fin k0_t5_loop.trips) : Fin 2 → Nat :=
  let c0_i32_5 : BitVec 32 := 0#32
  let c1_i32_6 : BitVec 32 := 1#32
  let arg7 : BitVec 32 := Scf.iv c0_i32_5 c1_i32_6 k0_t4
  let c192_i32 : BitVec 32 := 192#32
  let v27 : BitVec 32 := Scalar.muli arg7 c192_i32
  let v28 : BitVec 32 := v27
  let c0_i32_13 : BitVec 32 := 0#32
  let c1_i32_14 : BitVec 32 := 1#32
  let arg8 : BitVec 32 := Scf.iv c0_i32_13 c1_i32_14 k0_t5
  let c32_i32 : BitVec 32 := 32#32
  let v37 : BitVec 32 := Scalar.muli arg8 c32_i32
  let v38 : BitVec 32 := Scalar.addi v28 v37
  let v39 : Index := Scalar.indexCast v38
  let c0_21 : Index := 0#32
  ![v39.toNat, 0]
def k0_off9 (i : grid0.Coords) (k0_t4 : Fin k0_t4_loop.trips) (k0_t5 : Fin k0_t5_loop.trips) (c0_i32_27 : BitVec 32) : Fin 2 → Nat :=
  let arg0 : BitVec 32 := BitVec.ofNat 32 (i 0).val
  let c1_i32 : BitVec 32 := 1#32
  let v0 : BitVec 32 := Scalar.andi arg0 c1_i32
  let c768_i32 : BitVec 32 := 768#32
  let v1 : BitVec 32 := Scalar.muli v0 c768_i32
  let c0_i32_5 : BitVec 32 := 0#32
  let c1_i32_6 : BitVec 32 := 1#32
  let arg7 : BitVec 32 := Scf.iv c0_i32_5 c1_i32_6 k0_t4
  let c192_i32 : BitVec 32 := 192#32
  let v27 : BitVec 32 := Scalar.muli arg7 c192_i32
  let v28 : BitVec 32 := v27
  let v29 : BitVec 32 := Scalar.addi v1 v28
  let v30 : BitVec 32 := v29
  let c0_i32_13 : BitVec 32 := 0#32
  let c1_i32_14 : BitVec 32 := 1#32
  let arg8 : BitVec 32 := Scf.iv c0_i32_13 c1_i32_14 k0_t5
  let c32_i32_26 : BitVec 32 := 32#32
  let v70 : BitVec 32 := Scalar.muli arg8 c32_i32_26
  let v71 : BitVec 32 := Scalar.addi v30 v70
  let v72 : BitVec 32 := Scalar.addi v71 c0_i32_27
  let v73 : Index := Scalar.indexCast v72
  let c0_28 : Index := 0#32
  ![v73.toNat, 0]
@[reducible] def k0_t6_loop : Scf.Loop 32 :=
  let c0_i32_17 : BitVec 32 := 0#32
  let c6_i32_18 : BitVec 32 := 6#32
  let v36 : BitVec 32 := Scalar.addi c0_i32_17 c6_i32_18
  let c1_i32_19 : BitVec 32 := 1#32
  ⟨c0_i32_17, v36, c1_i32_19⟩
def k0_off10 (k0_t4 : Fin k0_t4_loop.trips) (k0_t6 : Fin k0_t6_loop.trips) : Fin 2 → Nat :=
  let c0_i32_5 : BitVec 32 := 0#32
  let c1_i32_6 : BitVec 32 := 1#32
  let arg7 : BitVec 32 := Scf.iv c0_i32_5 c1_i32_6 k0_t4
  let c192_i32 : BitVec 32 := 192#32
  let v27 : BitVec 32 := Scalar.muli arg7 c192_i32
  let v28 : BitVec 32 := v27
  let c0_i32_17 : BitVec 32 := 0#32
  let c1_i32_19 : BitVec 32 := 1#32
  let arg8 : BitVec 32 := Scf.iv c0_i32_17 c1_i32_19 k0_t6
  let c32_i32 : BitVec 32 := 32#32
  let v37 : BitVec 32 := Scalar.muli arg8 c32_i32
  let v38 : BitVec 32 := Scalar.addi v28 v37
  let v39 : Index := Scalar.indexCast v38
  let c128_21 : Index := 128#32
  ![v39.toNat, 128]
def k0_off11 (i : grid0.Coords) (k0_t4 : Fin k0_t4_loop.trips) (k0_t6 : Fin k0_t6_loop.trips) (c0_i32_27 : BitVec 32) : Fin 2 → Nat :=
  let arg0 : BitVec 32 := BitVec.ofNat 32 (i 0).val
  let c1_i32 : BitVec 32 := 1#32
  let v0 : BitVec 32 := Scalar.andi arg0 c1_i32
  let c768_i32 : BitVec 32 := 768#32
  let v1 : BitVec 32 := Scalar.muli v0 c768_i32
  let c0_i32_5 : BitVec 32 := 0#32
  let c1_i32_6 : BitVec 32 := 1#32
  let arg7 : BitVec 32 := Scf.iv c0_i32_5 c1_i32_6 k0_t4
  let c192_i32 : BitVec 32 := 192#32
  let v27 : BitVec 32 := Scalar.muli arg7 c192_i32
  let v28 : BitVec 32 := v27
  let v29 : BitVec 32 := Scalar.addi v1 v28
  let v30 : BitVec 32 := v29
  let c0_i32_17 : BitVec 32 := 0#32
  let c1_i32_19 : BitVec 32 := 1#32
  let arg8 : BitVec 32 := Scf.iv c0_i32_17 c1_i32_19 k0_t6
  let c32_i32_26 : BitVec 32 := 32#32
  let v70 : BitVec 32 := Scalar.muli arg8 c32_i32_26
  let v71 : BitVec 32 := Scalar.addi v30 v70
  let v72 : BitVec 32 := Scalar.addi v71 c0_i32_27
  let v73 : Index := Scalar.indexCast v72
  let c128_28 : Index := 128#32
  ![v73.toNat, 128]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

def cc0_transform_2 (i : grid0.Coords) : Fin 2 → Nat :=
  let arg0 : BitVec 32 := BitVec.ofNat 32 (i 0).val
  let c34_i32 : BitVec 32 := 34#32
  let v0 : BitVec 32 := Scalar.minsi arg0 c34_i32
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let c34_i32 : BitVec 32 := 34#32
  let v0 : BitVec 32 := Scalar.minsi arg0 c34_i32
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

abbrev stage0_0 : Fin 1 → Memref sig .tc .vmem S1920x1536 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1920x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S768x256 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x256 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1920x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S5x384x1536 : Shape := ⟨3, ![5, 384, 1536]⟩
abbrev S768x8960 : Shape := ⟨2, ![768, 8960]⟩
abbrev S8960x16 : Shape := ⟨2, ![8960, 16]⟩
abbrev S1920x8960 : Shape := ⟨2, ![1920, 8960]⟩
abbrev S1920x1536 : Shape := ⟨2, ![1920, 1536]⟩
abbrev S_ : Shape := ⟨0, ![]⟩
abbrev S16x8960 : Shape := ⟨2, ![16, 8960]⟩
abbrev S16x1x8960 : Shape := ⟨3, ![16, 1, 8960]⟩
abbrev S1x768x8960 : Shape := ⟨3, ![1, 768, 8960]⟩
abbrev S8x1x8960 : Shape := ⟨3, ![8, 1, 8960]⟩
abbrev S8x768x8960 : Shape := ⟨3, ![8, 768, 8960]⟩
abbrev S4x768x8960 : Shape := ⟨3, ![4, 768, 8960]⟩
abbrev S2x768x8960 : Shape := ⟨3, ![2, 768, 8960]⟩
abbrev S1920x768 : Shape := ⟨2, ![1920, 768]⟩

abbrev nBuf : Space → Nat
  | .hbm => 116
  | .vmem => 0
  | .smem => 0
  | _ => 0

abbrev bufTy : (tb : Table) → Fin (tcTables nBuf tb) → BufTy
  | .hbm, ⟨0, _⟩ => ⟨S5x384x1536, .bf16⟩
  | .hbm, ⟨1, _⟩ => ⟨S768x8960, .i8⟩
  | .hbm, ⟨2, _⟩ => ⟨S8960x16, .i16⟩
  | .hbm, ⟨3, _⟩ => ⟨S1920x8960, .f32⟩
  | .hbm, ⟨4, _⟩ => ⟨S1920x1536, .bf16⟩
  | .hbm, ⟨5, _⟩ => ⟨S8960x16, .bf16⟩
  | .hbm, ⟨6, _⟩ => ⟨S768x8960, .i32⟩
  | .hbm, ⟨7, _⟩ => ⟨S_, .i32⟩
  | .hbm, ⟨8, _⟩ => ⟨S768x8960, .i32⟩
  | .hbm, ⟨9, _⟩ => ⟨S768x8960, .i32⟩
  | .hbm, ⟨10, _⟩ => ⟨S16x8960, .bf16⟩
  | .hbm, ⟨11, _⟩ => ⟨S16x1x8960, .bf16⟩
  | .hbm, ⟨12, _⟩ => ⟨S_, .i32⟩
  | .hbm, ⟨13, _⟩ => ⟨S768x8960, .i32⟩
  | .hbm, ⟨14, _⟩ => ⟨S768x8960, .i32⟩
  | .hbm, ⟨15, _⟩ => ⟨S_, .i32⟩
  | .hbm, ⟨16, _⟩ => ⟨S768x8960, .i32⟩
  | .hbm, ⟨17, _⟩ => ⟨S768x8960, .i1⟩
  | .hbm, ⟨18, _⟩ => ⟨S1x768x8960, .i1⟩
  | .hbm, ⟨19, _⟩ => ⟨S8x1x8960, .bf16⟩
  | .hbm, ⟨20, _⟩ => ⟨S8x1x8960, .bf16⟩
  | .hbm, ⟨21, _⟩ => ⟨S8x768x8960, .i1⟩
  | .hbm, ⟨22, _⟩ => ⟨S8x768x8960, .bf16⟩
  | .hbm, ⟨23, _⟩ => ⟨S8x768x8960, .bf16⟩
  | .hbm, ⟨24, _⟩ => ⟨S8x768x8960, .bf16⟩
  | .hbm, ⟨25, _⟩ => ⟨S_, .i32⟩
  | .hbm, ⟨26, _⟩ => ⟨S768x8960, .i32⟩
  | .hbm, ⟨27, _⟩ => ⟨S768x8960, .i32⟩
  | .hbm, ⟨28, _⟩ => ⟨S_, .i32⟩
  | .hbm, ⟨29, _⟩ => ⟨S768x8960, .i32⟩
  | .hbm, ⟨30, _⟩ => ⟨S768x8960, .i1⟩
  | .hbm, ⟨31, _⟩ => ⟨S1x768x8960, .i1⟩
  | .hbm, ⟨32, _⟩ => ⟨S4x768x8960, .bf16⟩
  | .hbm, ⟨33, _⟩ => ⟨S4x768x8960, .bf16⟩
  | .hbm, ⟨34, _⟩ => ⟨S4x768x8960, .i1⟩
  | .hbm, ⟨35, _⟩ => ⟨S4x768x8960, .bf16⟩
  | .hbm, ⟨36, _⟩ => ⟨S_, .i32⟩
  | .hbm, ⟨37, _⟩ => ⟨S768x8960, .i32⟩
  | .hbm, ⟨38, _⟩ => ⟨S768x8960, .i32⟩
  | .hbm, ⟨39, _⟩ => ⟨S_, .i32⟩
  | .hbm, ⟨40, _⟩ => ⟨S768x8960, .i32⟩
  | .hbm, ⟨41, _⟩ => ⟨S768x8960, .i1⟩
  | .hbm, ⟨42, _⟩ => ⟨S1x768x8960, .i1⟩
  | .hbm, ⟨43, _⟩ => ⟨S2x768x8960, .bf16⟩
  | .hbm, ⟨44, _⟩ => ⟨S2x768x8960, .bf16⟩
  | .hbm, ⟨45, _⟩ => ⟨S2x768x8960, .i1⟩
  | .hbm, ⟨46, _⟩ => ⟨S2x768x8960, .bf16⟩
  | .hbm, ⟨47, _⟩ => ⟨S_, .i32⟩
  | .hbm, ⟨48, _⟩ => ⟨S768x8960, .i32⟩
  | .hbm, ⟨49, _⟩ => ⟨S768x8960, .i32⟩
  | .hbm, ⟨50, _⟩ => ⟨S_, .i32⟩
  | .hbm, ⟨51, _⟩ => ⟨S768x8960, .i32⟩
  | .hbm, ⟨52, _⟩ => ⟨S768x8960, .i1⟩
  | .hbm, ⟨53, _⟩ => ⟨S1x768x8960, .i1⟩
  | .hbm, ⟨54, _⟩ => ⟨S1x768x8960, .bf16⟩
  | .hbm, ⟨55, _⟩ => ⟨S1x768x8960, .bf16⟩
  | .hbm, ⟨56, _⟩ => ⟨S1x768x8960, .bf16⟩
  | .hbm, ⟨57, _⟩ => ⟨S768x8960, .bf16⟩
  | .hbm, ⟨58, _⟩ => ⟨S_, .i32⟩
  | .hbm, ⟨59, _⟩ => ⟨S768x8960, .i32⟩
  | .hbm, ⟨60, _⟩ => ⟨S768x8960, .i32⟩
  | .hbm, ⟨61, _⟩ => ⟨S16x8960, .bf16⟩
  | .hbm, ⟨62, _⟩ => ⟨S16x1x8960, .bf16⟩
  | .hbm, ⟨63, _⟩ => ⟨S_, .i32⟩
  | .hbm, ⟨64, _⟩ => ⟨S768x8960, .i32⟩
  | .hbm, ⟨65, _⟩ => ⟨S768x8960, .i32⟩
  | .hbm, ⟨66, _⟩ => ⟨S_, .i32⟩
  | .hbm, ⟨67, _⟩ => ⟨S768x8960, .i32⟩
  | .hbm, ⟨68, _⟩ => ⟨S768x8960, .i1⟩
  | .hbm, ⟨69, _⟩ => ⟨S1x768x8960, .i1⟩
  | .hbm, ⟨70, _⟩ => ⟨S8x1x8960, .bf16⟩
  | .hbm, ⟨71, _⟩ => ⟨S8x1x8960, .bf16⟩
  | .hbm, ⟨72, _⟩ => ⟨S8x768x8960, .i1⟩
  | .hbm, ⟨73, _⟩ => ⟨S8x768x8960, .bf16⟩
  | .hbm, ⟨74, _⟩ => ⟨S8x768x8960, .bf16⟩
  | .hbm, ⟨75, _⟩ => ⟨S8x768x8960, .bf16⟩
  | .hbm, ⟨76, _⟩ => ⟨S_, .i32⟩
  | .hbm, ⟨77, _⟩ => ⟨S768x8960, .i32⟩
  | .hbm, ⟨78, _⟩ => ⟨S768x8960, .i32⟩
  | .hbm, ⟨79, _⟩ => ⟨S_, .i32⟩
  | .hbm, ⟨80, _⟩ => ⟨S768x8960, .i32⟩
  | .hbm, ⟨81, _⟩ => ⟨S768x8960, .i1⟩
  | .hbm, ⟨82, _⟩ => ⟨S1x768x8960, .i1⟩
  | .hbm, ⟨83, _⟩ => ⟨S4x768x8960, .bf16⟩
  | .hbm, ⟨84, _⟩ => ⟨S4x768x8960, .bf16⟩
  | .hbm, ⟨85, _⟩ => ⟨S4x768x8960, .i1⟩
  | .hbm, ⟨86, _⟩ => ⟨S4x768x8960, .bf16⟩
  | .hbm, ⟨87, _⟩ => ⟨S_, .i32⟩
  | .hbm, ⟨88, _⟩ => ⟨S768x8960, .i32⟩
  | .hbm, ⟨89, _⟩ => ⟨S768x8960, .i32⟩
  | .hbm, ⟨90, _⟩ => ⟨S_, .i32⟩
  | .hbm, ⟨91, _⟩ => ⟨S768x8960, .i32⟩
  | .hbm, ⟨92, _⟩ => ⟨S768x8960, .i1⟩
  | .hbm, ⟨93, _⟩ => ⟨S1x768x8960, .i1⟩
  | .hbm, ⟨94, _⟩ => ⟨S2x768x8960, .bf16⟩
  | .hbm, ⟨95, _⟩ => ⟨S2x768x8960, .bf16⟩
  | .hbm, ⟨96, _⟩ => ⟨S2x768x8960, .i1⟩
  | .hbm, ⟨97, _⟩ => ⟨S2x768x8960, .bf16⟩
  | .hbm, ⟨98, _⟩ => ⟨S_, .i32⟩
  | .hbm, ⟨99, _⟩ => ⟨S768x8960, .i32⟩
  | .hbm, ⟨100, _⟩ => ⟨S768x8960, .i32⟩
  | .hbm, ⟨101, _⟩ => ⟨S_, .i32⟩
  | .hbm, ⟨102, _⟩ => ⟨S768x8960, .i32⟩
  | .hbm, ⟨103, _⟩ => ⟨S768x8960, .i1⟩
  | .hbm, ⟨104, _⟩ => ⟨S1x768x8960, .i1⟩
  | .hbm, ⟨105, _⟩ => ⟨S1x768x8960, .bf16⟩
  | .hbm, ⟨106, _⟩ => ⟨S1x768x8960, .bf16⟩
  | .hbm, ⟨107, _⟩ => ⟨S1x768x8960, .bf16⟩
  | .hbm, ⟨108, _⟩ => ⟨S768x8960, .bf16⟩
  | .hbm, ⟨109, _⟩ => ⟨S1920x768, .bf16⟩
  | .hbm, ⟨110, _⟩ => ⟨S1920x8960, .f32⟩
  | .hbm, ⟨111, _⟩ => ⟨S1920x768, .bf16⟩
  | .hbm, ⟨112, _⟩ => ⟨S1920x8960, .f32⟩
  | .hbm, ⟨113, _⟩ => ⟨S1920x8960, .f32⟩
  | .hbm, ⟨114, _⟩ => ⟨S1920x8960, .f32⟩
  | .hbm, ⟨115, _⟩ => ⟨S1920x8960, .bf16⟩
  | _, _ => ⟨S5x384x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c_0 : Ref sig .tc := ⟨.hbm, 12, rfl⟩
abbrev main_v7 : Ref sig .tc := ⟨.hbm, 13, rfl⟩
abbrev main_v8 : Ref sig .tc := ⟨.hbm, 14, rfl⟩
abbrev main_c_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_v14 : Ref sig .tc := ⟨.hbm, 24, rfl⟩
abbrev main_c_2 : Ref sig .tc := ⟨.hbm, 25, rfl⟩
abbrev main_v15 : Ref sig .tc := ⟨.hbm, 26, rfl⟩
abbrev main_v16 : Ref sig .tc := ⟨.hbm, 27, rfl⟩
abbrev main_c_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_call1_v0 : Ref sig .tc := ⟨.hbm, 34, rfl⟩
abbrev main_v22 : Ref sig .tc := ⟨.hbm, 35, rfl⟩
abbrev main_c_4 : Ref sig .tc := ⟨.hbm, 36, rfl⟩
abbrev main_v23 : Ref sig .tc := ⟨.hbm, 37, rfl⟩
abbrev main_v24 : Ref sig .tc := ⟨.hbm, 38, rfl⟩
abbrev main_c_5 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_call2_v0 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_c_8 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_c_9 : Ref sig .tc := ⟨.hbm, 63, rfl⟩
abbrev main_v44 : Ref sig .tc := ⟨.hbm, 64, rfl⟩
abbrev main_v45 : Ref sig .tc := ⟨.hbm, 65, rfl⟩
abbrev main_c_10 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_call4_v0 : Ref sig .tc := ⟨.hbm, 72, rfl⟩
abbrev main_call4_v1 : Ref sig .tc := ⟨.hbm, 73, rfl⟩
abbrev main_call4_v2 : Ref sig .tc := ⟨.hbm, 74, rfl⟩
abbrev main_v51 : Ref sig .tc := ⟨.hbm, 75, rfl⟩
abbrev main_c_11 : Ref sig .tc := ⟨.hbm, 76, rfl⟩
abbrev main_v52 : Ref sig .tc := ⟨.hbm, 77, rfl⟩
abbrev main_v53 : Ref sig .tc := ⟨.hbm, 78, rfl⟩
abbrev main_c_12 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_call5_v0 : Ref sig .tc := ⟨.hbm, 85, rfl⟩
abbrev main_v59 : Ref sig .tc := ⟨.hbm, 86, rfl⟩
abbrev main_c_13 : Ref sig .tc := ⟨.hbm, 87, rfl⟩
abbrev main_v60 : Ref sig .tc := ⟨.hbm, 88, rfl⟩
abbrev main_v61 : Ref sig .tc := ⟨.hbm, 89, rfl⟩
abbrev main_c_14 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_call6_v0 : Ref sig .tc := ⟨.hbm, 96, rfl⟩
abbrev main_v67 : Ref sig .tc := ⟨.hbm, 97, rfl⟩
abbrev main_c_15 : Ref sig .tc := ⟨.hbm, 98, rfl⟩
abbrev main_v68 : Ref sig .tc := ⟨.hbm, 99, rfl⟩
abbrev main_v69 : Ref sig .tc := ⟨.hbm, 100, rfl⟩
abbrev main_c_16 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩

abbrev nD : Nat := 1
abbrev τ : Topo := Topo.v7x

variable {F : FTy → Type} [FloatOps F]
-- ==== Sparse.lean ====
abbrev S5x384x1536 : Shape := ⟨3, ![5, 384, 1536]⟩
abbrev S8961 : Shape := ⟨1, ![8961]⟩
abbrev S61931 : Shape := ⟨1, ![61931]⟩
abbrev S1920x1536 : Shape := ⟨2, ![1920, 1536]⟩
abbrev S_ : Shape := ⟨0, ![]⟩
abbrev S65024 : Shape := ⟨1, ![65024]⟩
abbrev S254x32x8 : Shape := ⟨3, ![254, 32, 8]⟩
abbrev S254x8x32 : Shape := ⟨3, ![254, 8, 32]⟩
abbrev S2032x32 : Shape := ⟨2, ![2032, 32]⟩
abbrev S1920x8960 : Shape := ⟨2, ![1920, 8960]⟩
abbrev S1920x256 : Shape := ⟨2, ![1920, 256]⟩
abbrev S12288x128 : Shape := ⟨2, ![12288, 128]⟩
abbrev S8704x128 : Shape := ⟨2, ![8704, 128]⟩
abbrev S128x128 : Shape := ⟨2, ![128, 128]⟩
abbrev S1x32 : Shape := ⟨2, ![1, 32]⟩
abbrev S16x128 : Shape := ⟨2, ![16, 128]⟩
abbrev S1 : Shape := ⟨1, ![1]⟩
abbrev S1x1 : Shape := ⟨2, ![1, 1]⟩
abbrev S8x128 : Shape := ⟨2, ![8, 128]⟩

abbrev nBuf : Space → Nat
  | .hbm => 22
  | .vmem => 6
  | .smem => 2
  | _ => 0

abbrev bufTy : (tb : Table) → Fin (tcTables nBuf tb) → BufTy
  | .hbm, ⟨0, _⟩ => ⟨S5x384x1536, .i16⟩
  | .hbm, ⟨1, _⟩ => ⟨S8961, .i32⟩
  | .hbm, ⟨2, _⟩ => ⟨S61931, .i32⟩
  | .hbm, ⟨3, _⟩ => ⟨S61931, .i16⟩
  | .hbm, ⟨4, _⟩ => ⟨S1920x1536, .i16⟩
  | .hbm, ⟨5, _⟩ => ⟨S_, .i32⟩
  | .hbm, ⟨6, _⟩ => ⟨S61931, .i32⟩
  | .hbm, ⟨7, _⟩ => ⟨S61931, .i32⟩
  | .hbm, ⟨8, _⟩ => ⟨S_, .i32⟩
  | .hbm, ⟨9, _⟩ => ⟨S_, .i32⟩
  | .hbm, ⟨10, _⟩ => ⟨S65024, .i32⟩
  | .hbm, ⟨11, _⟩ => ⟨S61931, .i32⟩
  | .hbm, ⟨12, _⟩ => ⟨S_, .i32⟩
  | .hbm, ⟨13, _⟩ => ⟨S61931, .i32⟩
  | .hbm, ⟨14, _⟩ => ⟨S61931, .i32⟩
  | .hbm, ⟨15, _⟩ => ⟨S_, .i32⟩
  | .hbm, ⟨16, _⟩ => ⟨S_, .i32⟩
  | .hbm, ⟨17, _⟩ => ⟨S65024, .i32⟩
  | .hbm, ⟨18, _⟩ => ⟨S254x32x8, .i32⟩
  | .hbm, ⟨19, _⟩ => ⟨S254x8x32, .i32⟩
  | .hbm, ⟨20, _⟩ => ⟨S2032x32, .i32⟩
  | .hbm, ⟨21, _⟩ => ⟨S1920x8960, .f32⟩
  | .local _ .vmem, ⟨0, _⟩ => ⟨S1920x1536, .i16⟩
  | .local _ .vmem, ⟨1, _⟩ => ⟨S2032x32, .i32⟩
  | .local _ .vmem, ⟨2, _⟩ => ⟨S1920x256, .f32⟩
  | .local _ .vmem, ⟨3, _⟩ => ⟨S1920x256, .f32⟩
  | .local _ .vmem, ⟨4, _⟩ => ⟨S12288x128, .i32⟩
  | .local _ .vmem, ⟨5, _⟩ => ⟨S8704x128, .f32⟩
  | .local _ .smem, ⟨0, _⟩ => ⟨S8961, .i32⟩
  | .local _ .smem, ⟨1, _⟩ => ⟨S65024, .i32⟩
  | _, _ => ⟨S5x384x1536, .i16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_call0_v0 : Ref sig .tc := ⟨.hbm, 9, rfl⟩
abbrev main_v3 : Ref sig .tc := ⟨.hbm, 10, rfl⟩
abbrev main_v4 : Ref sig .tc := ⟨.hbm, 11, rfl⟩
abbrev main_c_1 : Ref sig .tc := ⟨.hbm, 12, rfl⟩
abbrev main_v5 : Ref sig .tc := ⟨.hbm, 13, rfl⟩
abbrev main_v6 : Ref sig .tc := ⟨.hbm, 14, rfl⟩
abbrev main_c_2 : Ref sig .tc := ⟨.hbm, 15, rfl⟩
abbrev main_call1_v0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev cc0_stg2_0 : Ref sig .tc := ⟨.vmem, 0, rfl⟩
abbrev cc0_stg3_0 : Ref sig .tc := ⟨.vmem, 1, rfl⟩
abbrev cc0_stg4_0 : Ref sig .tc := ⟨.vmem, 2, rfl⟩
abbrev cc0_stg4_1 : Ref sig .tc := ⟨.vmem, 3, rfl⟩
abbrev cc0_scratch0 : Ref sig .tc := ⟨.vmem, 4, rfl⟩
abbrev cc0_scratch1 : Ref sig .tc := ⟨.vmem, 5, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5

abbrev nD : Nat := 1
abbrev τ : Topo := Topo.v7x

variable {F : FTy → Type} [FloatOps F]

abbrev grid0 : Pipeline.Grid := ⟨1, ![36], ![false]⟩

def k0_cond1 (i : grid0.Coords) : BitVec 1 :=
  let arg0 : BitVec 32 := BitVec.ofNat 32 (i 0).val
  let c0_i32 : BitVec 32 := 0#32
  let v5 : BitVec 1 := Scalar.cmpi .eq arg0 c0_i32
  let v6 : BitVec 32 := Scalar.extui v5
  let c0_i32_2 : BitVec 32 := 0#32
  let v7 : BitVec 1 := Scalar.cmpi .ne v6 c0_i32_2
  v7

@[reducible] def k0_t1_loop : Scf.Loop 32 :=
  let c0_i32_8 : BitVec 32 := 0#32
  let c12_i32 : BitVec 32 := 12#32
  let v13 : BitVec 32 := Scalar.addi c0_i32_8 c12_i32
  let c1_i32_9 : BitVec 32 := 1#32
  ⟨c0_i32_8, v13, c1_i32_9⟩
def k0_mult1 (k0_t1 : Fin k0_t1_loop.trips) : BitVec 32 :=
  let c0_i32_8 : BitVec 32 := 0#32
  let c1_i32_9 : BitVec 32 := 1#32
  let arg8 : BitVec 32 := Scf.iv c0_i32_8 c1_i32_9 k0_t1
  let c128_i32 : BitVec 32 := 128#32
  let v14 : BitVec 32 := Scalar.muli arg8 c128_i32
  v14
def k0_off1 (k0_t1 : Fin k0_t1_loop.trips) : Fin 2 → Nat :=
  let c0 : Index := 0#32
  let c0_i32_8 : BitVec 32 := 0#32
  let c1_i32_9 : BitVec 32 := 1#32
  let arg8 : BitVec 32 := Scf.iv c0_i32_8 c1_i32_9 k0_t1
  let c128_i32 : BitVec 32 := 128#32
  let v14 : BitVec 32 := Scalar.muli arg8 c128_i32
  let v15 : BitVec 32 := v14
  let v16 : Index := Scalar.indexCast v15
  ![0, v16.toNat]
def k0_off2 (k0_t1 : Fin k0_t1_loop.trips) : Fin 2 → Nat :=
  let c128 : Index := 128#32
  let c0_i32_8 : BitVec 32 := 0#32
  let c1_i32_9 : BitVec 32 := 1#32
  let arg8 : BitVec 32 := Scf.iv c0_i32_8 c1_i32_9 k0_t1
  let c128_i32 : BitVec 32 := 128#32
  let v14 : BitVec 32 := Scalar.muli arg8 c128_i32
  let v15 : BitVec 32 := v14
  let v24 : Index := Scalar.indexCast v15
  ![128, v24.toNat]
def k0_off3 (k0_t1 : Fin k0_t1_loop.trips) (c0_i32_13 : BitVec 32) : Fin 2 → Nat :=
  let c0_i32_8 : BitVec 32 := 0#32
  let c1_i32_9 : BitVec 32 := 1#32
  let arg8 : BitVec 32 := Scf.iv c0_i32_8 c1_i32_9 k0_t1
  let c128_i32 : BitVec 32 := 128#32
  let v14 : BitVec 32 := Scalar.muli arg8 c128_i32
  let v15 : BitVec 32 := v14
  let c8_i32 : BitVec 32 := 8#32
  let v32 : BitVec 32 := Scalar.muli v15 c8_i32
  let v33 : BitVec 32 := Scalar.addi v32 c0_i32_13
  let v34 : Index := Scalar.indexCast v33
  let c0_14 : Index := 0#32
  ![v34.toNat, 0]
def k0_off4 (k0_t1 : Fin k0_t1_loop.trips) : Fin 2 → Nat :=
  let c256 : Index := 256#32
  let c0_i32_8 : BitVec 32 := 0#32
  let c1_i32_9 : BitVec 32 := 1#32
  let arg8 : BitVec 32 := Scf.iv c0_i32_8 c1_i32_9 k0_t1
  let c128_i32 : BitVec 32 := 128#32
  let v14 : BitVec 32 := Scalar.muli arg8 c128_i32
  let v15 : BitVec 32 := v14
  let v38 : Index := Scalar.indexCast v15
  ![256, v38.toNat]
def k0_off5 (k0_t1 : Fin k0_t1_loop.trips) : Fin 2 → Nat :=
  let c384 : Index := 384#32
  let c0_i32_8 : BitVec 32 := 0#32
  let c1_i32_9 : BitVec 32 := 1#32
  let arg8 : BitVec 32 := Scf.iv c0_i32_8 c1_i32_9 k0_t1
  let c128_i32 : BitVec 32 := 128#32
  let v14 : BitVec 32 := Scalar.muli arg8 c128_i32
  let v15 : BitVec 32 := v14
  let v46 : Index := Scalar.indexCast v15
  ![384, v46.toNat]
def k0_off6 (k0_t1 : Fin k0_t1_loop.trips) : Fin 2 → Nat :=
  let c512 : Index := 512#32
  let c0_i32_8 : BitVec 32 := 0#32
  let c1_i32_9 : BitVec 32 := 1#32
  let arg8 : BitVec 32 := Scf.iv c0_i32_8 c1_i32_9 k0_t1
  let c128_i32 : BitVec 32 := 128#32
  let v14 : BitVec 32 := Scalar.muli arg8 c128_i32
  let v15 : BitVec 32 := v14
  let v60 : Index := Scalar.indexCast v15
  ![512, v60.toNat]
def k0_off7 (k0_t1 : Fin k0_t1_loop.trips) : Fin 2 → Nat :=
  let c640 : Index := 640#32
  let c0_i32_8 : BitVec 32 := 0#32
  let c1_i32_9 : BitVec 32 := 1#32
  let arg8 : BitVec 32 := Scf.iv c0_i32_8 c1_i32_9 k0_t1
  let c128_i32 : BitVec 32 := 128#32
  let v14 : BitVec 32 := Scalar.muli arg8 c128_i32
  let v15 : BitVec 32 := v14
  let v68 : Index := Scalar.indexCast v15
  ![640, v68.toNat]
def k0_off8 (k0_t1 : Fin k0_t1_loop.trips) : Fin 2 → Nat :=
  let c768 : Index := 768#32
  let c0_i32_8 : BitVec 32 := 0#32
  let c1_i32_9 : BitVec 32 := 1#32
  let arg8 : BitVec 32 := Scf.iv c0_i32_8 c1_i32_9 k0_t1
  let c128_i32 : BitVec 32 := 128#32
  let v14 : BitVec 32 := Scalar.muli arg8 c128_i32
  let v15 : BitVec 32 := v14
  let v82 : Index := Scalar.indexCast v15
  ![768, v82.toNat]
def k0_off9 (k0_t1 : Fin k0_t1_loop.trips) : Fin 2 → Nat :=
  let c896 : Index := 896#32
  let c0_i32_8 : BitVec 32 := 0#32
  let c1_i32_9 : BitVec 32 := 1#32
  let arg8 : BitVec 32 := Scf.iv c0_i32_8 c1_i32_9 k0_t1
  let c128_i32 : BitVec 32 := 128#32
  let v14 : BitVec 32 := Scalar.muli arg8 c128_i32
  let v15 : BitVec 32 := v14
  let v90 : Index := Scalar.indexCast v15
  ![896, v90.toNat]
def k0_off10 (k0_t1 : Fin k0_t1_loop.trips) : Fin 2 → Nat :=
  let c1024 : Index := 1024#32
  let c0_i32_8 : BitVec 32 := 0#32
  let c1_i32_9 : BitVec 32 := 1#32
  let arg8 : BitVec 32 := Scf.iv c0_i32_8 c1_i32_9 k0_t1
  let c128_i32 : BitVec 32 := 128#32
  let v14 : BitVec 32 := Scalar.muli arg8 c128_i32
  let v15 : BitVec 32 := v14
  let v104 : Index := Scalar.indexCast v15
  ![1024, v104.toNat]
def k0_off11 (k0_t1 : Fin k0_t1_loop.trips) : Fin 2 → Nat :=
  let c1152 : Index := 1152#32
  let c0_i32_8 : BitVec 32 := 0#32
  let c1_i32_9 : BitVec 32 := 1#32
  let arg8 : BitVec 32 := Scf.iv c0_i32_8 c1_i32_9 k0_t1
  let c128_i32 : BitVec 32 := 128#32
  let v14 : BitVec 32 := Scalar.muli arg8 c128_i32
  let v15 : BitVec 32 := v14
  let v112 : Index := Scalar.indexCast v15
  ![1152, v112.toNat]
def k0_off12 (k0_t1 : Fin k0_t1_loop.trips) : Fin 2 → Nat :=
  let c1280 : Index := 1280#32
  let c0_i32_8 : BitVec 32 := 0#32
  let c1_i32_9 : BitVec 32 := 1#32
  let arg8 : BitVec 32 := Scf.iv c0_i32_8 c1_i32_9 k0_t1
  let c128_i32 : BitVec 32 := 128#32
  let v14 : BitVec 32 := Scalar.muli arg8 c128_i32
  let v15 : BitVec 32 := v14
  let v126 : Index := Scalar.indexCast v15
  ![1280, v126.toNat]
def k0_off13 (k0_t1 : Fin k0_t1_loop.trips) : Fin 2 → Nat :=
  let c1408 : Index := 1408#32
  let c0_i32_8 : BitVec 32 := 0#32
  let c1_i32_9 : BitVec 32 := 1#32
  let arg8 : BitVec 32 := Scf.iv c0_i32_8 c1_i32_9 k0_t1
  let c128_i32 : BitVec 32 := 128#32
  let v14 : BitVec 32 := Scalar.muli arg8 c128_i32
  let v15 : BitVec 32 := v14
  let v134 : Index := Scalar.indexCast v15
  ![1408, v134.toNat]
def k0_off14 (k0_t1 : Fin k0_t1_loop.trips) : Fin 2 → Nat :=
  let c1536 : Index := 1536#32
  let c0_i32_8 : BitVec 32 := 0#32
  let c1_i32_9 : BitVec 32 := 1#32
  let arg8 : BitVec 32 := Scf.iv c0_i32_8 c1_i32_9 k0_t1
  let c128_i32 : BitVec 32 := 128#32
  let v14 : BitVec 32 := Scalar.muli arg8 c128_i32
  let v15 : BitVec 32 := v14
  let v148 : Index := Scalar.indexCast v15
  ![1536, v148.toNat]
def k0_off15 (k0_t1 : Fin k0_t1_loop.trips) : Fin 2 → Nat :=
  let c1664 : Index := 1664#32
  let c0_i32_8 : BitVec 32 := 0#32
  let c1_i32_9 : BitVec 32 := 1#32
  let arg8 : BitVec 32 := Scf.iv c0_i32_8 c1_i32_9 k0_t1
  let c128_i32 : BitVec 32 := 128#32
  let v14 : BitVec 32 := Scalar.muli arg8 c128_i32
  let v15 : BitVec 32 := v14
  let v156 : Index := Scalar.indexCast v15
  ![1664, v156.toNat]
def k0_off16 (k0_t1 : Fin k0_t1_loop.trips) : Fin 2 → Nat :=
  let c1792 : Index := 1792#32
  let c0_i32_8 : BitVec 32 := 0#32
  let c1_i32_9 : BitVec 32 := 1#32
  let arg8 : BitVec 32 := Scf.iv c0_i32_8 c1_i32_9 k0_t1
  let c128_i32 : BitVec 32 := 128#32
  let v14 : BitVec 32 := Scalar.muli arg8 c128_i32
  let v15 : BitVec 32 := v14
  let v170 : Index := Scalar.indexCast v15
  ![1792, v170.toNat]
def k0_cond2 (i : grid0.Coords) : BitVec 1 :=
  let arg0 : BitVec 32 := BitVec.ofNat 32 (i 0).val
  let c0_i32_3 : BitVec 32 := 0#32
  let v8 : BitVec 1 := Scalar.cmpi .sgt arg0 c0_i32_3
  let v9 : BitVec 32 := Scalar.extui v8
  let c0_i32_4 : BitVec 32 := 0#32
  let v10 : BitVec 1 := Scalar.cmpi .ne v9 c0_i32_4
  v10

@[reducible] def k0_t2_loop : Scf.Loop 32 :=
  let c0_i32_8 : BitVec 32 := 0#32
  let c4_i32 : BitVec 32 := 4#32
  let v13 : BitVec 32 := Scalar.addi c0_i32_8 c4_i32
  let c1_i32_9 : BitVec 32 := 1#32
  ⟨c0_i32_8, v13, c1_i32_9⟩
def k0_off17 (i : grid0.Coords) (k0_t2 : Fin k0_t2_loop.trips) (c0_i32_13 : BitVec 32) (c0_i32_12 : BitVec 32) : Fin 2 → Nat :=
  let c1_i32_0 : BitVec 32 := 1#32
  let arg0 : BitVec 32 := BitVec.ofNat 32 (i 0).val
  let c1_i32 : BitVec 32 := 1#32
  let v1 : BitVec 32 := Scalar.andi arg0 c1_i32
  let v3 : BitVec 32 := Scalar.subi c1_i32_0 v1
  let c4352_i32_1 : BitVec 32 := 4352#32
  let v4 : BitVec 32 := Scalar.muli v3 c4352_i32_1
  let v17 : BitVec 32 := Scalar.addi v4 c0_i32_13
  let c0_i32_8 : BitVec 32 := 0#32
  let c1_i32_9 : BitVec 32 := 1#32
  let arg8 : BitVec 32 := Scf.iv c0_i32_8 c1_i32_9 k0_t2
  let c4_i32_11 : BitVec 32 := 4#32
  let v14 : BitVec 32 := Scalar.muli arg8 c4_i32_11
  let v15 : BitVec 32 := Scalar.addi v14 c0_i32_12
  let c14_i32 : BitVec 32 := 14#32
  let v16 : BitVec 32 := Scalar.minsi v15 c14_i32
  let v18 : BitVec 32 := Scalar.addi v17 v16
  let v19 : Index := Scalar.indexCast v18
  let c0 : Index := 0#32
  ![v19.toNat, 0]
def k0_mult2 (k0_t2 : Fin k0_t2_loop.trips) : BitVec 32 :=
  let c0_i32_8 : BitVec 32 := 0#32
  let c1_i32_9 : BitVec 32 := 1#32
  let arg8 : BitVec 32 := Scf.iv c0_i32_8 c1_i32_9 k0_t2
  let c4_i32_11 : BitVec 32 := 4#32
  let v14 : BitVec 32 := Scalar.muli arg8 c4_i32_11
  let c0_i32_12 : BitVec 32 := 0#32
  let v15 : BitVec 32 := Scalar.addi v14 c0_i32_12
  let c14_i32 : BitVec 32 := 14#32
  let v16 : BitVec 32 := Scalar.minsi v15 c14_i32
  let c128_i32 : BitVec 32 := 128#32
  let v22 : BitVec 32 := Scalar.muli v16 c128_i32
  v22
def k0_off18 (k0_t2 : Fin k0_t2_loop.trips) (c0_i32_12 : BitVec 32) : Fin 2 → Nat :=
  let c0_i32_8 : BitVec 32 := 0#32
  let c1_i32_9 : BitVec 32 := 1#32
  let arg8 : BitVec 32 := Scf.iv c0_i32_8 c1_i32_9 k0_t2
  let c4_i32_11 : BitVec 32 := 4#32
  let v14 : BitVec 32 := Scalar.muli arg8 c4_i32_11
  let v15 : BitVec 32 := Scalar.addi v14 c0_i32_12
  let c14_i32 : BitVec 32 := 14#32
  let v16 : BitVec 32 := Scalar.minsi v15 c14_i32
  let c128_i32 : BitVec 32 := 128#32
  let v22 : BitVec 32 := Scalar.muli v16 c128_i32
  let v23 : BitVec 32 := v22
  let v24 : Index := Scalar.indexCast v23
  let c0_14 : Index := 0#32
  ![v24.toNat, 0]
def k0_mult3 (k0_t2 : Fin k0_t2_loop.trips) : BitVec 32 :=
  let c0_i32_8 : BitVec 32 := 0#32
  let c1_i32_9 : BitVec 32 := 1#32
  let arg8 : BitVec 32 := Scf.iv c0_i32_8 c1_i32_9 k0_t2
  let c4_i32_11 : BitVec 32 := 4#32
  let v14 : BitVec 32 := Scalar.muli arg8 c4_i32_11
  let c0_i32_12 : BitVec 32 := 0#32
  let v15 : BitVec 32 := Scalar.addi v14 c0_i32_12
  let c14_i32 : BitVec 32 := 14#32
  let v16 : BitVec 32 := Scalar.minsi v15 c14_i32
  let c128_i32_16 : BitVec 32 := 128#32
  let v31 : BitVec 32 := Scalar.muli v16 c128_i32_16
  v31
def k0_off19 (k0_t2 : Fin k0_t2_loop.trips) (c0_i32_12 : BitVec 32) : Fin 2 → Nat :=
  let c0_i32_8 : BitVec 32 := 0#32
  let c1_i32_9 : BitVec 32 := 1#32
  let arg8 : BitVec 32 := Scf.iv c0_i32_8 c1_i32_9 k0_t2
  let c4_i32_11 : BitVec 32 := 4#32
  let v14 : BitVec 32 := Scalar.muli arg8 c4_i32_11
  let v15 : BitVec 32 := Scalar.addi v14 c0_i32_12
  let c14_i32 : BitVec 32 := 14#32
  let v16 : BitVec 32 := Scalar.minsi v15 c14_i32
  let c128_i32_16 : BitVec 32 := 128#32
  let v31 : BitVec 32 := Scalar.muli v16 c128_i32_16
  let v32 : BitVec 32 := v31
  let v33 : Index := Scalar.indexCast v32
  let c128 : Index := 128#32
  ![v33.toNat, 128]
def k0_mult4 (k0_t2 : Fin k0_t2_loop.trips) : BitVec 32 :=
  let c0_i32_8 : BitVec 32 := 0#32
  let c1_i32_9 : BitVec 32 := 1#32
  let arg8 : BitVec 32 := Scf.iv c0_i32_8 c1_i32_9 k0_t2
  let c4_i32_17 : BitVec 32 := 4#32
  let v35 : BitVec 32 := Scalar.muli arg8 c4_i32_17
  let c1_i32_18 : BitVec 32 := 1#32
  let v36 : BitVec 32 := Scalar.addi v35 c1_i32_18
  let c14_i32_19 : BitVec 32 := 14#32
  let v37 : BitVec 32 := Scalar.minsi v36 c14_i32_19
  let c128_i32_22 : BitVec 32 := 128#32
  let v43 : BitVec 32 := Scalar.muli v37 c128_i32_22
  v43
def k0_mult5 (k0_t2 : Fin k0_t2_loop.trips) : BitVec 32 :=
  let c0_i32_8 : BitVec 32 := 0#32
  let c1_i32_9 : BitVec 32 := 1#32
  let arg8 : BitVec 32 := Scf.iv c0_i32_8 c1_i32_9 k0_t2
  let c4_i32_17 : BitVec 32 := 4#32
  let v35 : BitVec 32 := Scalar.muli arg8 c4_i32_17
  let c1_i32_18 : BitVec 32 := 1#32
  let v36 : BitVec 32 := Scalar.addi v35 c1_i32_18
  let c14_i32_19 : BitVec 32 := 14#32
  let v37 : BitVec 32 := Scalar.minsi v36 c14_i32_19
  let c128_i32_26 : BitVec 32 := 128#32
  let v52 : BitVec 32 := Scalar.muli v37 c128_i32_26
  v52
def k0_mult6 (k0_t2 : Fin k0_t2_loop.trips) : BitVec 32 :=
  let c0_i32_8 : BitVec 32 := 0#32
  let c1_i32_9 : BitVec 32 := 1#32
  let arg8 : BitVec 32 := Scf.iv c0_i32_8 c1_i32_9 k0_t2
  let c4_i32_28 : BitVec 32 := 4#32
  let v56 : BitVec 32 := Scalar.muli arg8 c4_i32_28
  let c2_i32 : BitVec 32 := 2#32
  let v57 : BitVec 32 := Scalar.addi v56 c2_i32
  let c14_i32_29 : BitVec 32 := 14#32
  let v58 : BitVec 32 := Scalar.minsi v57 c14_i32_29
  let c128_i32_32 : BitVec 32 := 128#32
  let v64 : BitVec 32 := Scalar.muli v58 c128_i32_32
  v64
def k0_mult7 (k0_t2 : Fin k0_t2_loop.trips) : BitVec 32 :=
  let c0_i32_8 : BitVec 32 := 0#32
  let c1_i32_9 : BitVec 32 := 1#32
  let arg8 : BitVec 32 := Scf.iv c0_i32_8 c1_i32_9 k0_t2
  let c4_i32_28 : BitVec 32 := 4#32
  let v56 : BitVec 32 := Scalar.muli arg8 c4_i32_28
  let c2_i32 : BitVec 32 := 2#32
  let v57 : BitVec 32 := Scalar.addi v56 c2_i32
  let c14_i32_29 : BitVec 32 := 14#32
  let v58 : BitVec 32 := Scalar.minsi v57 c14_i32_29
  let c128_i32_36 : BitVec 32 := 128#32
  let v73 : BitVec 32 := Scalar.muli v58 c128_i32_36
  v73
def k0_mult8 (k0_t2 : Fin k0_t2_loop.trips) : BitVec 32 :=
  let c0_i32_8 : BitVec 32 := 0#32
  let c1_i32_9 : BitVec 32 := 1#32
  let arg8 : BitVec 32 := Scf.iv c0_i32_8 c1_i32_9 k0_t2
  let c4_i32_38 : BitVec 32 := 4#32
  let v77 : BitVec 32 := Scalar.muli arg8 c4_i32_38
  let c3_i32 : BitVec 32 := 3#32
  let v78 : BitVec 32 := Scalar.addi v77 c3_i32
  let c14_i32_39 : BitVec 32 := 14#32
  let v79 : BitVec 32 := Scalar.minsi v78 c14_i32_39
  let c128_i32_42 : BitVec 32 := 128#32
  let v85 : BitVec 32 := Scalar.muli v79 c128_i32_42
  v85
def k0_mult9 (k0_t2 : Fin k0_t2_loop.trips) : BitVec 32 :=
  let c0_i32_8 : BitVec 32 := 0#32
  let c1_i32_9 : BitVec 32 := 1#32
  let arg8 : BitVec 32 := Scf.iv c0_i32_8 c1_i32_9 k0_t2
  let c4_i32_38 : BitVec 32 := 4#32
  let v77 : BitVec 32 := Scalar.muli arg8 c4_i32_38
  let c3_i32 : BitVec 32 := 3#32
  let v78 : BitVec 32 := Scalar.addi v77 c3_i32
  let c14_i32_39 : BitVec 32 := 14#32
  let v79 : BitVec 32 := Scalar.minsi v78 c14_i32_39
  let c128_i32_46 : BitVec 32 := 128#32
  let v94 : BitVec 32 := Scalar.muli v79 c128_i32_46
  v94
@[reducible] def k0_t3_loop : Scf.Loop 32 :=
  let c0_i32_5 : BitVec 32 := 0#32
  let c256_i32 : BitVec 32 := 256#32
  let v12 : BitVec 32 := Scalar.addi c0_i32_5 c256_i32
  let c1_i32_6 : BitVec 32 := 1#32
  ⟨c0_i32_5, v12, c1_i32_6⟩
def k0_off20 (i : grid0.Coords) (k0_t3 : Fin k0_t3_loop.trips) : Fin 2 → Nat :=
  let arg0 : BitVec 32 := BitVec.ofNat 32 (i 0).val
  let c1_i32 : BitVec 32 := 1#32
  let v1 : BitVec 32 := Scalar.andi arg0 c1_i32
  let c4352_i32 : BitVec 32 := 4352#32
  let v2 : BitVec 32 := Scalar.muli v1 c4352_i32
  let c0_i32_5 : BitVec 32 := 0#32
  let c1_i32_6 : BitVec 32 := 1#32
  let arg8 : BitVec 32 := Scf.iv c0_i32_5 c1_i32_6 k0_t3
  let c17_i32 : BitVec 32 := 17#32
  let v13 : BitVec 32 := Scalar.muli arg8 c17_i32
  let v14 : BitVec 32 := Scalar.addi v2 v13
  let v16 : Index := Scalar.indexCast v14
  let c0 : Index := 0#32
  ![v16.toNat, 0]
def k0_off21 (i : grid0.Coords) (k0_t3 : Fin k0_t3_loop.trips) : Fin 1 → Nat :=
  let arg0 : BitVec 32 := BitVec.ofNat 32 (i 0).val
  let c34_i32 : BitVec 32 := 34#32
  let v0 : BitVec 32 := Scalar.minsi arg0 c34_i32
  let c256_i32_8 : BitVec 32 := 256#32
  let v20 : BitVec 32 := Scalar.muli v0 c256_i32_8
  let c0_i32_5 : BitVec 32 := 0#32
  let c1_i32_6 : BitVec 32 := 1#32
  let arg8 : BitVec 32 := Scf.iv c0_i32_5 c1_i32_6 k0_t3
  let v21 : BitVec 32 := Scalar.addi v20 arg8
  let v22 : Index := Scalar.indexCast v21
  ![v22.toNat]
def k0_off22 (i : grid0.Coords) (k0_t3 : Fin k0_t3_loop.trips) : Fin 1 → Nat :=
  let arg0 : BitVec 32 := BitVec.ofNat 32 (i 0).val
  let c34_i32 : BitVec 32 := 34#32
  let v0 : BitVec 32 := Scalar.minsi arg0 c34_i32
  let c256_i32_9 : BitVec 32 := 256#32
  let v24 : BitVec 32 := Scalar.muli v0 c256_i32_9
  let c0_i32_5 : BitVec 32 := 0#32
  let c1_i32_6 : BitVec 32 := 1#32
  let arg8 : BitVec 32 := Scf.iv c0_i32_5 c1_i32_6 k0_t3
  let v25 : BitVec 32 := Scalar.addi v24 arg8
  let c1_i32_10 : BitVec 32 := 1#32
  let v26 : BitVec 32 := Scalar.addi v25 c1_i32_10
  let v27 : Index := Scalar.indexCast v26
  ![v27.toNat]
@[reducible] def k0_t4_loop (v23 : BitVec 32) (v28 : BitVec 32) : Scf.Loop 32 :=
  let v29 : BitVec 32 := Scalar.subi v28 v23
  let c1_i32_12 : BitVec 32 := 1#32
  let v31 : BitVec 32 := Scalar.divsi v29 c1_i32_12
  let v32 : BitVec 32 := Scalar.muli v31 c1_i32_12
  let v33 : BitVec 32 := Scalar.addi v23 v32
  let c1_i32_13 : BitVec 32 := 1#32
  ⟨v23, v33, c1_i32_13⟩

def k0_off23 (v23 : BitVec 32) (v28 : BitVec 32) (k0_t4 : Fin (k0_t4_loop v23 v28).trips) : Fin 2 → Nat :=
  let c1_i32_13 : BitVec 32 := 1#32
  let arg9 : BitVec 32 := Scf.iv v23 c1_i32_13 k0_t4
  let c8_i32 : BitVec 32 := 8#32
  let v34 : BitVec 32 := Scalar.shrui arg9 c8_i32
  let c8_i32_15 : BitVec 32 := 8#32
  let v35 : BitVec 32 := Scalar.muli v34 c8_i32_15
  let c7_i32 : BitVec 32 := 7#32
  let v36 : BitVec 32 := Scalar.andi arg9 c7_i32
  let v37 : BitVec 32 := Scalar.addi v35 v36
  let v38 : Index := Scalar.indexCast v37
  let c0_16 : Index := 0#32
  ![v38.toNat, 0]
def k0_off24 (v23 : BitVec 32) (v28 : BitVec 32) (k0_t4 : Fin (k0_t4_loop v23 v28).trips) : Fin 1 → Nat :=
  let c1_i32_13 : BitVec 32 := 1#32
  let arg9 : BitVec 32 := Scf.iv v23 c1_i32_13 k0_t4
  let v54 : Index := Scalar.indexCast arg9
  ![v54.toNat]
def k0_mult10 (v55 : BitVec 32) : BitVec 32 :=
  v55

def k0_off25 (v55 : BitVec 32) : Fin 2 → Nat :=
  let v56 : BitVec 32 := v55
  let v57 : Index := Scalar.indexCast v56
  let c0_20 : Index := 0#32
  ![v57.toNat, 0]

def k0_chk2 (v55 : BitVec 32) : Prop :=
  (8 ∣ (k0_mult10 v55).toNat) ∧
  (∀ a, (k0_off25 v55) a + S8x128.size a ≤ S12288x128.size a)
theorem k0_mult10_dvd : ∀ (v55 : BitVec 32) (k0_hw2 : k0_chk2 v55), 8 ∣ (k0_mult10 v55).toNat := fun v55 k0_hw2 => k0_hw2.1
theorem k0_off25_inb : ∀ (v55 : BitVec 32) (k0_hw2 : k0_chk2 v55), ∀ a, (k0_off25 v55) a + S8x128.size a ≤ S12288x128.size a := fun v55 k0_hw2 => k0_hw2.2

def k0_off26 (i : grid0.Coords) (k0_t3 : Fin k0_t3_loop.trips) : Fin 2 → Nat :=
  let arg0 : BitVec 32 := BitVec.ofNat 32 (i 0).val
  let c1_i32 : BitVec 32 := 1#32
  let v1 : BitVec 32 := Scalar.andi arg0 c1_i32
  let c4352_i32 : BitVec 32 := 4352#32
  let v2 : BitVec 32 := Scalar.muli v1 c4352_i32
  let c0_i32_5 : BitVec 32 := 0#32
  let c1_i32_6 : BitVec 32 := 1#32
  let arg8 : BitVec 32 := Scf.iv c0_i32_5 c1_i32_6 k0_t3
  let c17_i32_19 : BitVec 32 := 17#32
  let v52 : BitVec 32 := Scalar.muli arg8 c17_i32_19
  let v53 : BitVec 32 := Scalar.addi v2 v52
  let v61 : Index := Scalar.indexCast v53
  let c0_21 : Index := 0#32
  ![v61.toNat, 0]
@[reducible] def k0_t5_loop (v23 : BitVec 32) (v28 : BitVec 32) : Scf.Loop 32 :=
  let v29 : BitVec 32 := Scalar.subi v28 v23
  let c1_i32_12 : BitVec 32 := 1#32
  let v31 : BitVec 32 := Scalar.divsi v29 c1_i32_12
  let v32 : BitVec 32 := Scalar.muli v31 c1_i32_12
  let v33 : BitVec 32 := Scalar.addi v23 v32
  let v30 : BitVec 32 := Scalar.addi v23 v29
  let c1_i32_14 : BitVec 32 := 1#32
  ⟨v33, v30, c1_i32_14⟩
def k0_off27 (v23 : BitVec 32) (v28 : BitVec 32) (k0_t5 : Fin (k0_t5_loop v23 v28).trips) : Fin 2 → Nat :=
  let v29 : BitVec 32 := Scalar.subi v28 v23
  let c1_i32_12 : BitVec 32 := 1#32
  let v31 : BitVec 32 := Scalar.divsi v29 c1_i32_12
  let v32 : BitVec 32 := Scalar.muli v31 c1_i32_12
  let v33 : BitVec 32 := Scalar.addi v23 v32
  let c1_i32_14 : BitVec 32 := 1#32
  let arg9 : BitVec 32 := Scf.iv v33 c1_i32_14 k0_t5
  let c8_i32 : BitVec 32 := 8#32
  let v34 : BitVec 32 := Scalar.shrui arg9 c8_i32
  let c8_i32_15 : BitVec 32 := 8#32
  let v35 : BitVec 32 := Scalar.muli v34 c8_i32_15
  let c7_i32 : BitVec 32 := 7#32
  let v36 : BitVec 32 := Scalar.andi arg9 c7_i32
  let v37 : BitVec 32 := Scalar.addi v35 v36
  let v38 : Index := Scalar.indexCast v37
  let c0_16 : Index := 0#32
  ![v38.toNat, 0]
def k0_off28 (v23 : BitVec 32) (v28 : BitVec 32) (k0_t5 : Fin (k0_t5_loop v23 v28).trips) : Fin 1 → Nat :=
  let v29 : BitVec 32 := Scalar.subi v28 v23
  let c1_i32_12 : BitVec 32 := 1#32
  let v31 : BitVec 32 := Scalar.divsi v29 c1_i32_12
  let v32 : BitVec 32 := Scalar.muli v31 c1_i32_12
  let v33 : BitVec 32 := Scalar.addi v23 v32
  let c1_i32_14 : BitVec 32 := 1#32
  let arg9 : BitVec 32 := Scf.iv v33 c1_i32_14 k0_t5
  let v54 : Index := Scalar.indexCast arg9
  ![v54.toNat]

def k0_chk1 (v23 : BitVec 32) (v28 : BitVec 32) : Prop :=
  ((k0_t4_loop v23 v28).OK) ∧
  (∀ k0_t4 : Fin (k0_t4_loop v23 v28).trips, ∀ a, (k0_off23 v23 v28 k0_t4) a + S1x32.size a ≤ S2032x32.size a) ∧
  (∀ k0_t4 : Fin (k0_t4_loop v23 v28).trips, ∀ a, (k0_off24 v23 v28 k0_t4) a + S1.size a ≤ S65024.size a) ∧
  ((k0_t5_loop v23 v28).OK) ∧
  (∀ k0_t5 : Fin (k0_t5_loop v23 v28).trips, ∀ a, (k0_off27 v23 v28 k0_t5) a + S1x32.size a ≤ S2032x32.size a) ∧
  (∀ k0_t5 : Fin (k0_t5_loop v23 v28).trips, ∀ a, (k0_off28 v23 v28 k0_t5) a + S1.size a ≤ S65024.size a)
theorem k0_t4_ok : ∀ (v23 : BitVec 32) (v28 : BitVec 32) (k0_hw1 : k0_chk1 v23 v28), (k0_t4_loop v23 v28).OK := fun v23 v28 k0_hw1 => k0_hw1.1
theorem k0_off23_inb : ∀ (v23 : BitVec 32) (v28 : BitVec 32) (k0_hw1 : k0_chk1 v23 v28) (k0_t4 : Fin (k0_t4_loop v23 v28).trips), ∀ a, (k0_off23 v23 v28 k0_t4) a + S1x32.size a ≤ S2032x32.size a := fun v23 v28 k0_hw1 k0_t4 => k0_hw1.2.1 k0_t4
theorem k0_off24_inb : ∀ (v23 : BitVec 32) (v28 : BitVec 32) (k0_hw1 : k0_chk1 v23 v28) (k0_t4 : Fin (k0_t4_loop v23 v28).trips), ∀ a, (k0_off24 v23 v28 k0_t4) a + S1.size a ≤ S65024.size a := fun v23 v28 k0_hw1 k0_t4 => k0_hw1.2.2.1 k0_t4
theorem k0_t5_ok : ∀ (v23 : BitVec 32) (v28 : BitVec 32) (k0_hw1 : k0_chk1 v23 v28), (k0_t5_loop v23 v28).OK := fun v23 v28 k0_hw1 => k0_hw1.2.2.2.1
theorem k0_off27_inb : ∀ (v23 : BitVec 32) (v28 : BitVec 32) (k0_hw1 : k0_chk1 v23 v28) (k0_t5 : Fin (k0_t5_loop v23 v28).trips), ∀ a, (k0_off27 v23 v28 k0_t5) a + S1x32.size a ≤ S2032x32.size a := fun v23 v28 k0_hw1 k0_t5 => k0_hw1.2.2.2.2.1 k0_t5
theorem k0_off28_inb : ∀ (v23 : BitVec 32) (v28 : BitVec 32) (k0_hw1 : k0_chk1 v23 v28) (k0_t5 : Fin (k0_t5_loop v23 v28).trips), ∀ a, (k0_off28 v23 v28 k0_t5) a + S1.size a ≤ S65024.size a := fun v23 v28 k0_hw1 k0_t5 => k0_hw1.2.2.2.2.2 k0_t5

def k0_mult11 (v55 : BitVec 32) : BitVec 32 :=
  v55

def k0_off29 (v55 : BitVec 32) : Fin 2 → Nat :=
  let v56 : BitVec 32 := v55
  let v57 : Index := Scalar.indexCast v56
  let c0_20 : Index := 0#32
  ![v57.toNat, 0]

def k0_chk3 (v55 : BitVec 32) : Prop :=
  (8 ∣ (k0_mult11 v55).toNat) ∧
  (∀ a, (k0_off29 v55) a + S8x128.size a ≤ S12288x128.size a)
theorem k0_mult11_dvd : ∀ (v55 : BitVec 32) (k0_hw3 : k0_chk3 v55), 8 ∣ (k0_mult11 v55).toNat := fun v55 k0_hw3 => k0_hw3.1
theorem k0_off29_inb : ∀ (v55 : BitVec 32) (k0_hw3 : k0_chk3 v55), ∀ a, (k0_off29 v55) a + S8x128.size a ≤ S12288x128.size a := fun v55 k0_hw3 => k0_hw3.2

def k0_off30 (i : grid0.Coords) (k0_t3 : Fin k0_t3_loop.trips) : Fin 2 → Nat :=
  let arg0 : BitVec 32 := BitVec.ofNat 32 (i 0).val
  let c1_i32 : BitVec 32 := 1#32
  let v1 : BitVec 32 := Scalar.andi arg0 c1_i32
  let c4352_i32 : BitVec 32 := 4352#32
  let v2 : BitVec 32 := Scalar.muli v1 c4352_i32
  let c0_i32_5 : BitVec 32 := 0#32
  let c1_i32_6 : BitVec 32 := 1#32
  let arg8 : BitVec 32 := Scf.iv c0_i32_5 c1_i32_6 k0_t3
  let c17_i32_19 : BitVec 32 := 17#32
  let v52 : BitVec 32 := Scalar.muli arg8 c17_i32_19
  let v53 : BitVec 32 := Scalar.addi v2 v52
  let v61 : Index := Scalar.indexCast v53
  let c0_21 : Index := 0#32
  ![v61.toNat, 0]
def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

abbrev stage0_0 : Fin 1 → Memref sig .tc .smem S8961 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S65024 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1920x1536 .i16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2032x32 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1920x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== SumsIdeal.lean ====
abbrev S5x384x1536 : Shape := ⟨3, ![5, 384, 1536]⟩
abbrev S8961 : Shape := ⟨1, ![8961]⟩
abbrev S61931 : Shape := ⟨1, ![61931]⟩
abbrev S1920x1536 : Shape := ⟨2, ![1920, 1536]⟩
abbrev S61931x1 : Shape := ⟨2, ![61931, 1]⟩
abbrev S8960 : Shape := ⟨1, ![8960]⟩
abbrev S1x8960 : Shape := ⟨2, ![1, 8960]⟩
abbrev S61931x8960 : Shape := ⟨2, ![61931, 8960]⟩
abbrev S_ : Shape := ⟨0, ![]⟩
abbrev S1920x61931 : Shape := ⟨2, ![1920, 61931]⟩
abbrev S1x61931 : Shape := ⟨2, ![1, 61931]⟩
abbrev S1920x8960 : Shape := ⟨2, ![1920, 8960]⟩

abbrev nBuf : Space → Nat
  | .hbm => 36
  | .vmem => 0
  | .smem => 0
  | _ => 0

abbrev bufTy : (tb : Table) → Fin (tcTables nBuf tb) → BufTy
  | .hbm, ⟨0, _⟩ => ⟨S5x384x1536, .i16⟩
  | .hbm, ⟨1, _⟩ => ⟨S8961, .i32⟩
  | .hbm, ⟨2, _⟩ => ⟨S61931, .i32⟩
  | .hbm, ⟨3, _⟩ => ⟨S61931, .i16⟩
  | .hbm, ⟨4, _⟩ => ⟨S5x384x1536, .bf16⟩
  | .hbm, ⟨5, _⟩ => ⟨S1920x1536, .bf16⟩
  | .hbm, ⟨6, _⟩ => ⟨S61931, .bf16⟩
  | .hbm, ⟨7, _⟩ => ⟨S61931, .i32⟩
  | .hbm, ⟨8, _⟩ => ⟨S61931x1, .i32⟩
  | .hbm, ⟨9, _⟩ => ⟨S8960, .i32⟩
  | .hbm, ⟨10, _⟩ => ⟨S1x8960, .i32⟩
  | .hbm, ⟨11, _⟩ => ⟨S61931x8960, .i32⟩
  | .hbm, ⟨12, _⟩ => ⟨S61931x8960, .i32⟩
  | .hbm, ⟨13, _⟩ => ⟨S61931x8960, .i1⟩
  | .hbm, ⟨14, _⟩ => ⟨S8960, .i32⟩
  | .hbm, ⟨15, _⟩ => ⟨S1x8960, .i32⟩
  | .hbm, ⟨16, _⟩ => ⟨S61931x8960, .i32⟩
  | .hbm, ⟨17, _⟩ => ⟨S61931x8960, .i32⟩
  | .hbm, ⟨18, _⟩ => ⟨S61931x8960, .i1⟩
  | .hbm, ⟨19, _⟩ => ⟨S61931x8960, .i1⟩
  | .hbm, ⟨20, _⟩ => ⟨S_, .i32⟩
  | .hbm, ⟨21, _⟩ => ⟨S61931, .i32⟩
  | .hbm, ⟨22, _⟩ => ⟨S61931, .i1⟩
  | .hbm, ⟨23, _⟩ => ⟨S_, .i32⟩
  | .hbm, ⟨24, _⟩ => ⟨S61931, .i32⟩
  | .hbm, ⟨25, _⟩ => ⟨S61931, .i32⟩
  | .hbm, ⟨26, _⟩ => ⟨S61931, .i32⟩
  | .hbm, ⟨27, _⟩ => ⟨S61931x1, .i32⟩
  | .hbm, ⟨28, _⟩ => ⟨S1920x61931, .bf16⟩
  | .hbm, ⟨29, _⟩ => ⟨S1920x61931, .f32⟩
  | .hbm, ⟨30, _⟩ => ⟨S61931, .f32⟩
  | .hbm, ⟨31, _⟩ => ⟨S1x61931, .f32⟩
  | .hbm, ⟨32, _⟩ => ⟨S1920x61931, .f32⟩
  | .hbm, ⟨33, _⟩ => ⟨S1920x61931, .f32⟩
  | .hbm, ⟨34, _⟩ => ⟨S61931x8960, .f32⟩
  | .hbm, ⟨35, _⟩ => ⟨S1920x8960, .f32⟩
  | _, _ => ⟨S5x384x1536, .i16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_c : Ref sig .tc := ⟨.hbm, 20, rfl⟩
abbrev main_v16 : Ref sig .tc := ⟨.hbm, 21, rfl⟩
abbrev main_v17 : Ref sig .tc := ⟨.hbm, 22, rfl⟩
abbrev main_c_0 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩

abbrev nD : Nat := 1
abbrev τ : Topo := Topo.v7x

variable {F : FTy → Type} [FloatOps F]
-- ==== Proof.D.Common.lean ====
/-
  Shared by the proofs about `Dense`: the proof's resource algebra, the kernel body's six buffers as one resource
  over a record of contents, and a small program logic over it (`W`): a run of a piece of the body from given contents ends
  in a value and contents satisfying a stated pure relation. One rule per operation of the body (a load of each buffer, a
  store to each written buffer, a loop by an invariant, sequencing).
-/
module

public import proofs.«01_k».proof.Dense
public import Idealize.ShloMosaic.Lib.Pipeline.Sound
public import Idealize.ShloMosaic.Lib.Tactic
public import proofs.«01_k».proof.Proof.Gen.Dense
public import proofs.«01_k».proof.Proof.Gen.Dense.Skeleton
public import proofs.«01_k».proof.Proof.Gen.Dense.Frame

@[expose] public section

noncomputable section

namespace Cert.Proof.D

open Cert.Dense Cert.Dense.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- No variants: the program calls no label. -/
abbrev 𝒱₀ : Variants := Variants.nat

/-- The kernel body's six buffers. -/
structure Mems where
  a1 : Memref sig .tc .vmem S1920x1536 .bf16
  h1 : a1.IsWhole
  a2 : Memref sig .tc .vmem S1920x256 .f32
  h2 : a2.IsWhole
  a3 : Memref sig .tc .vmem S768x256 .i8
  h3 : a3.IsWhole
  a4 : Memref sig .tc .vmem S8x256 .i32
  h4 : a4.IsWhole
  a5 : Memref sig .tc .vmem S1920x256 .bf16
  h5 : a5.IsWhole
  a6 : Memref sig .tc .vmem S1536x256 .i32
  h6 : a6.IsWhole

/-- The contents of the four buffers the body only reads. -/
@[ext] structure Ins (F : FTy → Type) where
  x1 : S1920x1536.Idx → Elt F .bf16
  x2 : S1920x256.Idx → Elt F .f32
  x3 : S768x256.Idx → Elt F .i8
  x4 : S8x256.Idx → Elt F .i32

/-- The contents of the two buffers the body writes. -/
@[ext] structure St (F : FTy → Type) where
  s5 : S1920x256.Idx → Elt F .bf16
  s6 : S1536x256.Idx → Elt F .i32

/-- The contents with buffer 5 replaced. -/
def St.set5 (s : St F) (f : S1920x256.Idx → Elt F .bf16) : St F := { s with s5 := f }
/-- The contents with buffer 6 replaced. -/
def St.set6 (s : St F) (f : S1536x256.Idx → Elt F .i32) : St F := { s with s6 := f }
@[simp] theorem St.set5_s5 (s : St F) (f : S1920x256.Idx → Elt F .bf16) : (s.set5 f).s5 = f := rfl
@[simp] theorem St.set5_s6 (s : St F) (f : S1920x256.Idx → Elt F .bf16) : (s.set5 f).s6 = s.s6 := rfl
@[simp] theorem St.set6_s5 (s : St F) (f : S1536x256.Idx → Elt F .i32) : (s.set6 f).s5 = s.s5 := rfl
@[simp] theorem St.set6_s6 (s : St F) (f : S1536x256.Idx → Elt F .i32) : (s.set6 f).s6 = f := rfl

/-- All six buffers held whole at the given contents. -/
def R (c : Dev nD) (ms : Mems) (X : Ins F) (s : St F) : sProp 𝕄 :=
  iprop(owns (c : Thread nD τ) ms.a1 fullShare X.x1
    ∗ owns (c : Thread nD τ) ms.a2 fullShare X.x2
    ∗ owns (c : Thread nD τ) ms.a3 fullShare X.x3
    ∗ owns (c : Thread nD τ) ms.a4 fullShare X.x4
    ∗ owns (c : Thread nD τ) ms.a5 fullShare s.s5
    ∗ owns (c : Thread nD τ) ms.a6 fullShare s.s6)

/-- From contents `s` the program runs to a value and contents related by `Q`. -/
def W (c : Dev nD) (ms : Mems) (X : Ins F) (bd : Option ℕ) {α : Type} (p : Prog (TpuEff nD τ sig (Elt F) Λ₀ .tc) α)
    (Q : α → St F → Prop) (s : St F) : Prop :=
  (R c ms X s : sProp 𝕄) ⊢ wp frame (wpE (defs₀ (F := F)) 𝒱₀ (c : Thread nD τ) bd) Set.univ p
    (fun a => iprop(∃ s', ⌜Q a s'⌝ ∗ R c ms X s'))

/-- What a store of `w` through the rectangle `r` makes of contents `f`. -/
def Upd {s : Shape} {α : Type} (r : Rect s) (w : r.shape.Idx → α) (f f' : s.Idx → α) : Prop :=
  (∀ j, f' (r.emb j) = w j) ∧ ∀ i, (∀ j, r.emb j ≠ i) → f' i = f i

section Rules

variable {c : Dev nD} {ms : Mems} {X : Ins F} {bd : Option ℕ} {α β : Type}

theorem W_pure {a : α} {Q : α → St F → Prop} {s : St F} (h : Q a s) : W c ms X bd (pure a) Q s := by
  unfold W
  rw [Prog.pure_eq_ret, wp_ret]
  iintro H
  imodintro
  iexists s
  isplitr
  · ipureintro; exact h
  · iexact H

/-- Sequencing. -/
theorem W_bind {p : Prog (TpuEff nD τ sig (Elt F) Λ₀ .tc) α} {k : α → Prog (TpuEff nD τ sig (Elt F) Λ₀ .tc) β}
    {Q : β → St F → Prop} {s : St F} (h : W c ms X bd p (fun a s' => W c ms X bd (k a) Q s') s) :
    W c ms X bd (p >>= k) Q s := by
  unfold W at h ⊢
  rw [wp_bind]
  refine h.trans (wp_mono _ _ _ fun a => ?_)
  iintro ⟨%s', %h', H⟩
  iapply h'
  iexact H

/-- A stronger relation suffices. -/
theorem W_mono {p : Prog (TpuEff nD τ sig (Elt F) Λ₀ .tc) α} {Q Q' : α → St F → Prop} {s : St F}
    (h : W c ms X bd p Q s) (hQ : ∀ a s', Q a s' → Q' a s') : W c ms X bd p Q' s := by
  unfold W at h ⊢
  refine h.trans (wp_mono _ _ _ fun a => ?_)
  iintro ⟨%s', %h', H⟩
  iexists s'
  isplitr
  · ipureintro; exact hQ _ _ h'
  · iexact H

/-- A counted loop by an invariant of the trip, the carried value and the contents. -/
theorem W_for {w : Nat} {σ : Type} {l : Scf.Loop w} {hok : l.OK} {init : σ}
    {body : Fin l.trips → σ → Prog (TpuEff nD τ sig (Elt F) Λ₀ .tc) σ} {Q : σ → St F → Prop} {s : St F}
    (I : ℕ → σ → St F → Prop) (h0 : I 0 init s)
    (hstep : ∀ (k : Fin l.trips) (acc : σ) (s' : St F), I k.val acc s' → W c ms X bd (body k acc) (I (k.val + 1)) s')
    (hend : ∀ acc s', I l.trips acc s' → Q acc s') : W c ms X bd (Scf.Loop.for l hok init body) Q s := by
  unfold W
  refine BIBase.Entails.trans ?_ (Scf.wp_for frame (wpE (defs₀ (F := F)) 𝒱₀ (c : Thread nD τ) bd) Set.univ l.lb l.ub l.st hok init body
    (fun k acc => iprop(∃ s', ⌜I k acc s'⌝ ∗ R c ms X s')) ?_)
  · iintro H
    isplitl [H]
    · iexists s
      isplitr
      · ipureintro; exact h0
      · iexact H
    · iintro %acc ⟨%s', %h', H⟩
      iexists s'
      isplitr
      · ipureintro; exact hend _ _ h'
      · iexact H
  · intro k acc
    iintro ⟨%s', %h', H⟩
    have h'' := hstep k acc s' h'
    unfold W at h''
    iapply h''
    iexact H

theorem owns_load {cs : CoreSpace} {sh : Shape} {e : EltTy} {m : Memref sig .tc cs sh e} {r : LoadRect sh} {hl : m.view.LoadsAt r}
    {Y : sh.Idx → Elt F e} {K : (r.shape.Idx → Elt F e) → sProp 𝕄} :
    (owns (c : Thread nD τ) m fullShare Y : sProp 𝕄) ⊢ iprop((owns (c : Thread nD τ) m fullShare Y -∗ K (fun j => Y (r.idx j))) -∗
      wp frame (wpE (defs₀ (F := F)) 𝒱₀ (c : Thread nD τ) bd) Set.univ (Prog.lift (.load m r hl)) K) := by
  unfold owns
  iintro ⟨%f, %hf, H⟩ HK
  iapply (wp_load 𝒱₀ (c : Thread nD τ) bd Set.univ (m := m) (r := r) (hl := hl) (View.setOn_subset_set _ _)) $$ H
  iintro H
  rw [wp_ret]
  imodintro
  have e1 : m.view.readAt (Elt F) r f = fun j => Y (r.idx j) := by funext j; rw [View.readAt_apply, hf]
  rw [e1]
  iapply HK
  iexists f
  isplitr
  · ipureintro; exact hf
  · iexact H

theorem owns_store {sh : Shape} {e : EltTy} {m : Memref sig .tc .vmem sh e} {r : Rect sh} {w : r.shape.Idx → Elt F e}
    {hx : (m.access r).Stores Finset.univ} {hm : Finset.univ = Finset.univ ∨ ∀ a, r.stride a = 1}
    {Y : sh.Idx → Elt F e} {K : PUnit → sProp 𝕄} :
    (owns (c : Thread nD τ) m fullShare Y : sProp 𝕄) ⊢ iprop((∀ Y', ⌜Upd r w Y Y'⌝ -∗ owns (c : Thread nD τ) m fullShare Y' -∗ K ⟨⟩) -∗
      wp frame (wpE (defs₀ (F := F)) 𝒱₀ (c : Thread nD τ) bd) Set.univ (Prog.lift (.store m r w Finset.univ hx hm)) K) := by
  unfold owns
  iintro ⟨%f, %hf, H⟩ HK
  iapply (wp_store 𝒱₀ (c : Thread nD τ) bd Set.univ (m := m) (r := r) (w := w) (Mk := Finset.univ) (hx := hx) (hm := hm)
    (S := m.view.set) (by
      rw [show (m.access r).setOn Finset.univ = (Finset.univ.map r.emb).map m.view.emb from (Finset.map_map _ _ _).symm]
      exact Finset.map_subset_map.mpr (Finset.subset_univ _))) $$ H
  iintro H
  rw [wp_ret]
  imodintro
  iapply HK $$ %(m.view.read (Elt F) ((m.access r).write (Elt F) f w Finset.univ))
  · ipureintro
    refine ⟨fun j => ?_, fun i hi => ?_⟩
    · exact View.read_slice_write_emb (v := m.view) r f w (Finset.mem_univ j)
    · rw [← hf]
      refine View.read_slice_write_of_not_mem (v := m.view) r f w Finset.univ fun hmem => ?_
      obtain ⟨j, -, hj⟩ := Finset.mem_map.mp hmem
      exact hi j hj
  · iexists _
    isplitr
    · ipureintro; rfl
    · iexact H

theorem W_load1 {r : LoadRect S1920x1536} {hl : ms.a1.view.LoadsAt r} {Q : (r.shape.Idx → Elt F .bf16) → St F → Prop} {s : St F}
    (h : Q (fun j => X.x1 (r.idx j)) s) : W c ms X bd (Prog.lift (.load ms.a1 r hl)) Q s := by
  unfold W R
  iintro ⟨H1, H2, H3, H4, H5, H6⟩
  iapply (owns_load (bd := bd)) $$ H1
  iintro H1
  iexists s
  isplitr
  · ipureintro; exact h
  · iframe H1 H2 H3 H4 H5 H6

theorem W_load2 {r : LoadRect S1920x256} {hl : ms.a2.view.LoadsAt r} {Q : (r.shape.Idx → Elt F .f32) → St F → Prop} {s : St F}
    (h : Q (fun j => X.x2 (r.idx j)) s) : W c ms X bd (Prog.lift (.load ms.a2 r hl)) Q s := by
  unfold W R
  iintro ⟨H1, H2, H3, H4, H5, H6⟩
  iapply (owns_load (bd := bd)) $$ H2
  iintro H2
  iexists s
  isplitr
  · ipureintro; exact h
  · iframe H1 H2 H3 H4 H5 H6

theorem W_load3 {r : LoadRect S768x256} {hl : ms.a3.view.LoadsAt r} {Q : (r.shape.Idx → Elt F .i8) → St F → Prop} {s : St F}
    (h : Q (fun j => X.x3 (r.idx j)) s) : W c ms X bd (Prog.lift (.load ms.a3 r hl)) Q s := by
  unfold W R
  iintro ⟨H1, H2, H3, H4, H5, H6⟩
  iapply (owns_load (bd := bd)) $$ H3
  iintro H3
  iexists s
  isplitr
  · ipureintro; exact h
  · iframe H1 H2 H3 H4 H5 H6

theorem W_load4 {r : LoadRect S8x256} {hl : ms.a4.view.LoadsAt r} {Q : (r.shape.Idx → Elt F .i32) → St F → Prop} {s : St F}
    (h : Q (fun j => X.x4 (r.idx j)) s) : W c ms X bd (Prog.lift (.load ms.a4 r hl)) Q s := by
  unfold W R
  iintro ⟨H1, H2, H3, H4, H5, H6⟩
  iapply (owns_load (bd := bd)) $$ H4
  iintro H4
  iexists s
  isplitr
  · ipureintro; exact h
  · iframe H1 H2 H3 H4 H5 H6

theorem W_load5 {r : LoadRect S1920x256} {hl : ms.a5.view.LoadsAt r} {Q : (r.shape.Idx → Elt F .bf16) → St F → Prop} {s : St F}
    (h : Q (fun j => s.s5 (r.idx j)) s) : W c ms X bd (Prog.lift (.load ms.a5 r hl)) Q s := by
  unfold W R
  iintro ⟨H1, H2, H3, H4, H5, H6⟩
  iapply (owns_load (bd := bd)) $$ H5
  iintro H5
  iexists s
  isplitr
  · ipureintro; exact h
  · iframe H1 H2 H3 H4 H5 H6

theorem W_load6 {r : LoadRect S1536x256} {hl : ms.a6.view.LoadsAt r} {Q : (r.shape.Idx → Elt F .i32) → St F → Prop} {s : St F}
    (h : Q (fun j => s.s6 (r.idx j)) s) : W c ms X bd (Prog.lift (.load ms.a6 r hl)) Q s := by
  unfold W R
  iintro ⟨H1, H2, H3, H4, H5, H6⟩
  iapply (owns_load (bd := bd)) $$ H6
  iintro H6
  iexists s
  isplitr
  · ipureintro; exact h
  · iframe H1 H2 H3 H4 H5 H6

theorem W_store5 {r : Rect S1920x256} {w : r.shape.Idx → Elt F .bf16} {hx : (ms.a5.access r).Stores Finset.univ}
    {hm : Finset.univ = Finset.univ ∨ ∀ a, r.stride a = 1} {Q : PUnit → St F → Prop} {s : St F}
    (h : ∀ f', Upd r w s.s5 f' → Q ⟨⟩ (s.set5 f')) : W c ms X bd (Prog.lift (.store ms.a5 r w Finset.univ hx hm)) Q s := by
  unfold W R
  iintro ⟨H1, H2, H3, H4, H5, H6⟩
  iapply (owns_store (bd := bd)) $$ H5
  iintro %f' %hf' H5
  iexists { s with s5 := f' }
  isplitr
  · ipureintro; exact h f' hf'
  · iframe H1 H2 H3 H4 H5 H6

theorem W_store6 {r : Rect S1536x256} {w : r.shape.Idx → Elt F .i32} {hx : (ms.a6.access r).Stores Finset.univ}
    {hm : Finset.univ = Finset.univ ∨ ∀ a, r.stride a = 1} {Q : PUnit → St F → Prop} {s : St F}
    (h : ∀ f', Upd r w s.s6 f' → Q ⟨⟩ (s.set6 f')) : W c ms X bd (Prog.lift (.store ms.a6 r w Finset.univ hx hm)) Q s := by
  unfold W R
  iintro ⟨H1, H2, H3, H4, H5, H6⟩
  iapply (owns_store (bd := bd)) $$ H6
  iintro %f' %hf' H6
  iexists { s with s6 := f' }
  isplitr
  · ipureintro; exact h f' hf'
  · iframe H1 H2 H3 H4 H5 H6

end Rules

end Cert.Proof.D
-- ==== Proof.DI.Common.lean ====
/-
  Shared by the proofs about `DenseIdeal`: the proof's resource algebra, the kernel body's six buffers as one resource
  over a record of contents, and a small program logic over it (`W`): a run of a piece of the body from given contents ends
  in a value and contents satisfying a stated pure relation. One rule per operation of the body (a load of each buffer, a
  store to each written buffer, a loop by an invariant, sequencing).
-/
module

public import proofs.«01_k».proof.DenseIdeal
public import Idealize.ShloMosaic.Lib.Pipeline.Sound
public import Idealize.ShloMosaic.Lib.Tactic
public import proofs.«01_k».proof.Proof.Gen.DenseIdeal
public import proofs.«01_k».proof.Proof.Gen.DenseIdeal.Skeleton
public import proofs.«01_k».proof.Proof.Gen.DenseIdeal.Frame

@[expose] public section

noncomputable section

namespace Cert.Proof.DI

open Cert.DenseIdeal Cert.DenseIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- No variants: the program calls no label. -/
abbrev 𝒱₀ : Variants := Variants.nat

/-- The kernel body's six buffers. -/
structure Mems where
  a1 : Memref sig .tc .vmem S1920x1536 .bf16
  h1 : a1.IsWhole
  a2 : Memref sig .tc .vmem S1920x256 .f32
  h2 : a2.IsWhole
  a3 : Memref sig .tc .vmem S768x256 .i8
  h3 : a3.IsWhole
  a4 : Memref sig .tc .vmem S8x256 .i32
  h4 : a4.IsWhole
  a5 : Memref sig .tc .vmem S1920x256 .bf16
  h5 : a5.IsWhole
  a6 : Memref sig .tc .vmem S1536x256 .i32
  h6 : a6.IsWhole

/-- The contents of the four buffers the body only reads. -/
@[ext] structure Ins (F : FTy → Type) where
  x1 : S1920x1536.Idx → Elt F .bf16
  x2 : S1920x256.Idx → Elt F .f32
  x3 : S768x256.Idx → Elt F .i8
  x4 : S8x256.Idx → Elt F .i32

/-- The contents of the two buffers the body writes. -/
@[ext] structure St (F : FTy → Type) where
  s5 : S1920x256.Idx → Elt F .bf16
  s6 : S1536x256.Idx → Elt F .i32

/-- The contents with buffer 5 replaced. -/
def St.set5 (s : St F) (f : S1920x256.Idx → Elt F .bf16) : St F := { s with s5 := f }
/-- The contents with buffer 6 replaced. -/
def St.set6 (s : St F) (f : S1536x256.Idx → Elt F .i32) : St F := { s with s6 := f }
@[simp] theorem St.set5_s5 (s : St F) (f : S1920x256.Idx → Elt F .bf16) : (s.set5 f).s5 = f := rfl
@[simp] theorem St.set5_s6 (s : St F) (f : S1920x256.Idx → Elt F .bf16) : (s.set5 f).s6 = s.s6 := rfl
@[simp] theorem St.set6_s5 (s : St F) (f : S1536x256.Idx → Elt F .i32) : (s.set6 f).s5 = s.s5 := rfl
@[simp] theorem St.set6_s6 (s : St F) (f : S1536x256.Idx → Elt F .i32) : (s.set6 f).s6 = f := rfl

/-- All six buffers held whole at the given contents. -/
def R (c : Dev nD) (ms : Mems) (X : Ins F) (s : St F) : sProp 𝕄 :=
  iprop(owns (c : Thread nD τ) ms.a1 fullShare X.x1
    ∗ owns (c : Thread nD τ) ms.a2 fullShare X.x2
    ∗ owns (c : Thread nD τ) ms.a3 fullShare X.x3
    ∗ owns (c : Thread nD τ) ms.a4 fullShare X.x4
    ∗ owns (c : Thread nD τ) ms.a5 fullShare s.s5
    ∗ owns (c : Thread nD τ) ms.a6 fullShare s.s6)

/-- From contents `s` the program runs to a value and contents related by `Q`. -/
def W (c : Dev nD) (ms : Mems) (X : Ins F) (bd : Option ℕ) {α : Type} (p : Prog (TpuEff nD τ sig (Elt F) Λ₀ .tc) α)
    (Q : α → St F → Prop) (s : St F) : Prop :=
  (R c ms X s : sProp 𝕄) ⊢ wp frame (wpE (defs₀ (F := F)) 𝒱₀ (c : Thread nD τ) bd) Set.univ p
    (fun a => iprop(∃ s', ⌜Q a s'⌝ ∗ R c ms X s'))

/-- What a store of `w` through the rectangle `r` makes of contents `f`. -/
def Upd {s : Shape} {α : Type} (r : Rect s) (w : r.shape.Idx → α) (f f' : s.Idx → α) : Prop :=
  (∀ j, f' (r.emb j) = w j) ∧ ∀ i, (∀ j, r.emb j ≠ i) → f' i = f i

section Rules

variable {c : Dev nD} {ms : Mems} {X : Ins F} {bd : Option ℕ} {α β : Type}

theorem W_pure {a : α} {Q : α → St F → Prop} {s : St F} (h : Q a s) : W c ms X bd (pure a) Q s := by
  unfold W
  rw [Prog.pure_eq_ret, wp_ret]
  iintro H
  imodintro
  iexists s
  isplitr
  · ipureintro; exact h
  · iexact H

/-- Sequencing. -/
theorem W_bind {p : Prog (TpuEff nD τ sig (Elt F) Λ₀ .tc) α} {k : α → Prog (TpuEff nD τ sig (Elt F) Λ₀ .tc) β}
    {Q : β → St F → Prop} {s : St F} (h : W c ms X bd p (fun a s' => W c ms X bd (k a) Q s') s) :
    W c ms X bd (p >>= k) Q s := by
  unfold W at h ⊢
  rw [wp_bind]
  refine h.trans (wp_mono _ _ _ fun a => ?_)
  iintro ⟨%s', %h', H⟩
  iapply h'
  iexact H

/-- A stronger relation suffices. -/
theorem W_mono {p : Prog (TpuEff nD τ sig (Elt F) Λ₀ .tc) α} {Q Q' : α → St F → Prop} {s : St F}
    (h : W c ms X bd p Q s) (hQ : ∀ a s', Q a s' → Q' a s') : W c ms X bd p Q' s := by
  unfold W at h ⊢
  refine h.trans (wp_mono _ _ _ fun a => ?_)
  iintro ⟨%s', %h', H⟩
  iexists s'
  isplitr
  · ipureintro; exact hQ _ _ h'
  · iexact H

/-- A counted loop by an invariant of the trip, the carried value and the contents. -/
theorem W_for {w : Nat} {σ : Type} {l : Scf.Loop w} {hok : l.OK} {init : σ}
    {body : Fin l.trips → σ → Prog (TpuEff nD τ sig (Elt F) Λ₀ .tc) σ} {Q : σ → St F → Prop} {s : St F}
    (I : ℕ → σ → St F → Prop) (h0 : I 0 init s)
    (hstep : ∀ (k : Fin l.trips) (acc : σ) (s' : St F), I k.val acc s' → W c ms X bd (body k acc) (I (k.val + 1)) s')
    (hend : ∀ acc s', I l.trips acc s' → Q acc s') : W c ms X bd (Scf.Loop.for l hok init body) Q s := by
  unfold W
  refine BIBase.Entails.trans ?_ (Scf.wp_for frame (wpE (defs₀ (F := F)) 𝒱₀ (c : Thread nD τ) bd) Set.univ l.lb l.ub l.st hok init body
    (fun k acc => iprop(∃ s', ⌜I k acc s'⌝ ∗ R c ms X s')) ?_)
  · iintro H
    isplitl [H]
    · iexists s
      isplitr
      · ipureintro; exact h0
      · iexact H
    · iintro %acc ⟨%s', %h', H⟩
      iexists s'
      isplitr
      · ipureintro; exact hend _ _ h'
      · iexact H
  · intro k acc
    iintro ⟨%s', %h', H⟩
    have h'' := hstep k acc s' h'
    unfold W at h''
    iapply h''
    iexact H

theorem owns_load {cs : CoreSpace} {sh : Shape} {e : EltTy} {m : Memref sig .tc cs sh e} {r : LoadRect sh} {hl : m.view.LoadsAt r}
    {Y : sh.Idx → Elt F e} {K : (r.shape.Idx → Elt F e) → sProp 𝕄} :
    (owns (c : Thread nD τ) m fullShare Y : sProp 𝕄) ⊢ iprop((owns (c : Thread nD τ) m fullShare Y -∗ K (fun j => Y (r.idx j))) -∗
      wp frame (wpE (defs₀ (F := F)) 𝒱₀ (c : Thread nD τ) bd) Set.univ (Prog.lift (.load m r hl)) K) := by
  unfold owns
  iintro ⟨%f, %hf, H⟩ HK
  iapply (wp_load 𝒱₀ (c : Thread nD τ) bd Set.univ (m := m) (r := r) (hl := hl) (View.setOn_subset_set _ _)) $$ H
  iintro H
  rw [wp_ret]
  imodintro
  have e1 : m.view.readAt (Elt F) r f = fun j => Y (r.idx j) := by funext j; rw [View.readAt_apply, hf]
  rw [e1]
  iapply HK
  iexists f
  isplitr
  · ipureintro; exact hf
  · iexact H

theorem owns_store {sh : Shape} {e : EltTy} {m : Memref sig .tc .vmem sh e} {r : Rect sh} {w : r.shape.Idx → Elt F e}
    {hx : (m.access r).Stores Finset.univ} {hm : Finset.univ = Finset.univ ∨ ∀ a, r.stride a = 1}
    {Y : sh.Idx → Elt F e} {K : PUnit → sProp 𝕄} :
    (owns (c : Thread nD τ) m fullShare Y : sProp 𝕄) ⊢ iprop((∀ Y', ⌜Upd r w Y Y'⌝ -∗ owns (c : Thread nD τ) m fullShare Y' -∗ K ⟨⟩) -∗
      wp frame (wpE (defs₀ (F := F)) 𝒱₀ (c : Thread nD τ) bd) Set.univ (Prog.lift (.store m r w Finset.univ hx hm)) K) := by
  unfold owns
  iintro ⟨%f, %hf, H⟩ HK
  iapply (wp_store 𝒱₀ (c : Thread nD τ) bd Set.univ (m := m) (r := r) (w := w) (Mk := Finset.univ) (hx := hx) (hm := hm)
    (S := m.view.set) (by
      rw [show (m.access r).setOn Finset.univ = (Finset.univ.map r.emb).map m.view.emb from (Finset.map_map _ _ _).symm]
      exact Finset.map_subset_map.mpr (Finset.subset_univ _))) $$ H
  iintro H
  rw [wp_ret]
  imodintro
  iapply HK $$ %(m.view.read (Elt F) ((m.access r).write (Elt F) f w Finset.univ))
  · ipureintro
    refine ⟨fun j => ?_, fun i hi => ?_⟩
    · exact View.read_slice_write_emb (v := m.view) r f w (Finset.mem_univ j)
    · rw [← hf]
      refine View.read_slice_write_of_not_mem (v := m.view) r f w Finset.univ fun hmem => ?_
      obtain ⟨j, -, hj⟩ := Finset.mem_map.mp hmem
      exact hi j hj
  · iexists _
    isplitr
    · ipureintro; rfl
    · iexact H

theorem W_load1 {r : LoadRect S1920x1536} {hl : ms.a1.view.LoadsAt r} {Q : (r.shape.Idx → Elt F .bf16) → St F → Prop} {s : St F}
    (h : Q (fun j => X.x1 (r.idx j)) s) : W c ms X bd (Prog.lift (.load ms.a1 r hl)) Q s := by
  unfold W R
  iintro ⟨H1, H2, H3, H4, H5, H6⟩
  iapply (owns_load (bd := bd)) $$ H1
  iintro H1
  iexists s
  isplitr
  · ipureintro; exact h
  · iframe H1 H2 H3 H4 H5 H6

theorem W_load2 {r : LoadRect S1920x256} {hl : ms.a2.view.LoadsAt r} {Q : (r.shape.Idx → Elt F .f32) → St F → Prop} {s : St F}
    (h : Q (fun j => X.x2 (r.idx j)) s) : W c ms X bd (Prog.lift (.load ms.a2 r hl)) Q s := by
  unfold W R
  iintro ⟨H1, H2, H3, H4, H5, H6⟩
  iapply (owns_load (bd := bd)) $$ H2
  iintro H2
  iexists s
  isplitr
  · ipureintro; exact h
  · iframe H1 H2 H3 H4 H5 H6

theorem W_load3 {r : LoadRect S768x256} {hl : ms.a3.view.LoadsAt r} {Q : (r.shape.Idx → Elt F .i8) → St F → Prop} {s : St F}
    (h : Q (fun j => X.x3 (r.idx j)) s) : W c ms X bd (Prog.lift (.load ms.a3 r hl)) Q s := by
  unfold W R
  iintro ⟨H1, H2, H3, H4, H5, H6⟩
  iapply (owns_load (bd := bd)) $$ H3
  iintro H3
  iexists s
  isplitr
  · ipureintro; exact h
  · iframe H1 H2 H3 H4 H5 H6

theorem W_load4 {r : LoadRect S8x256} {hl : ms.a4.view.LoadsAt r} {Q : (r.shape.Idx → Elt F .i32) → St F → Prop} {s : St F}
    (h : Q (fun j => X.x4 (r.idx j)) s) : W c ms X bd (Prog.lift (.load ms.a4 r hl)) Q s := by
  unfold W R
  iintro ⟨H1, H2, H3, H4, H5, H6⟩
  iapply (owns_load (bd := bd)) $$ H4
  iintro H4
  iexists s
  isplitr
  · ipureintro; exact h
  · iframe H1 H2 H3 H4 H5 H6

theorem W_load5 {r : LoadRect S1920x256} {hl : ms.a5.view.LoadsAt r} {Q : (r.shape.Idx → Elt F .bf16) → St F → Prop} {s : St F}
    (h : Q (fun j => s.s5 (r.idx j)) s) : W c ms X bd (Prog.lift (.load ms.a5 r hl)) Q s := by
  unfold W R
  iintro ⟨H1, H2, H3, H4, H5, H6⟩
  iapply (owns_load (bd := bd)) $$ H5
  iintro H5
  iexists s
  isplitr
  · ipureintro; exact h
  · iframe H1 H2 H3 H4 H5 H6

theorem W_load6 {r : LoadRect S1536x256} {hl : ms.a6.view.LoadsAt r} {Q : (r.shape.Idx → Elt F .i32) → St F → Prop} {s : St F}
    (h : Q (fun j => s.s6 (r.idx j)) s) : W c ms X bd (Prog.lift (.load ms.a6 r hl)) Q s := by
  unfold W R
  iintro ⟨H1, H2, H3, H4, H5, H6⟩
  iapply (owns_load (bd := bd)) $$ H6
  iintro H6
  iexists s
  isplitr
  · ipureintro; exact h
  · iframe H1 H2 H3 H4 H5 H6

theorem W_store5 {r : Rect S1920x256} {w : r.shape.Idx → Elt F .bf16} {hx : (ms.a5.access r).Stores Finset.univ}
    {hm : Finset.univ = Finset.univ ∨ ∀ a, r.stride a = 1} {Q : PUnit → St F → Prop} {s : St F}
    (h : ∀ f', Upd r w s.s5 f' → Q ⟨⟩ (s.set5 f')) : W c ms X bd (Prog.lift (.store ms.a5 r w Finset.univ hx hm)) Q s := by
  unfold W R
  iintro ⟨H1, H2, H3, H4, H5, H6⟩
  iapply (owns_store (bd := bd)) $$ H5
  iintro %f' %hf' H5
  iexists { s with s5 := f' }
  isplitr
  · ipureintro; exact h f' hf'
  · iframe H1 H2 H3 H4 H5 H6

theorem W_store6 {r : Rect S1536x256} {w : r.shape.Idx → Elt F .i32} {hx : (ms.a6.access r).Stores Finset.univ}
    {hm : Finset.univ = Finset.univ ∨ ∀ a, r.stride a = 1} {Q : PUnit → St F → Prop} {s : St F}
    (h : ∀ f', Upd r w s.s6 f' → Q ⟨⟩ (s.set6 f')) : W c ms X bd (Prog.lift (.store ms.a6 r w Finset.univ hx hm)) Q s := by
  unfold W R
  iintro ⟨H1, H2, H3, H4, H5, H6⟩
  iapply (owns_store (bd := bd)) $$ H6
  iintro %f' %hf' H6
  iexists { s with s6 := f' }
  isplitr
  · ipureintro; exact h f' hf'
  · iframe H1 H2 H3 H4 H5 H6

end Rules

end Cert.Proof.DI
-- ==== Proof.DI.Dec.lean ====
/-
  The decode of `DenseIdeal`'s body word by word: the word a code and a column of the table give, and every chain of
  payloads of the body read at one entry.
-/
module

public import proofs.«01_k».proof.Proof.DI.Common
public import Idealize.ShloMosaic.Lib.WordArith.Masks
public import Idealize.ShloMosaic.Lib.ValueIdxCore
public import Idealize.ShloMosaic.Lib.Pipeline.Value

@[expose] public section

noncomputable section

namespace Cert.Proof.DI

open Cert.DenseIdeal Cert.DenseIdeal.Gen
open Idealize.ShloMosaic Idealize.ShloMosaic.ValueIdx

variable {F : FTy → Type} [FloatOps F]

/-- The two sixteen-bit weights, one word, that a code and its column of the table give. -/
def decW (T : Fin 8 → BitVec 32) (c : BitVec 8) : BitVec 32 :=
  IntOp.ori
    (IntOp.andi (IntOp.shrui .vector (T ⟨(IntOp.andi (IntOp.shrsi .vector (BitVec.setWidth 32 c) 1#32) 7#32).toNat % 8, Nat.mod_lt _ (by decide)⟩)
      (IntOp.andi (IntOp.shli .vector (BitVec.setWidth 32 c) 4#32) 16#32)) 65535#32)
    (IntOp.andi (IntOp.shli .vector (T ⟨(IntOp.shrsi .vector (BitVec.setWidth 32 c) 5#32).toNat % 8, Nat.mod_lt _ (by decide)⟩)
      (IntOp.xori (IntOp.andi (BitVec.setWidth 32 c) 16#32) 16#32)) 4294901760#32)

theorem gather_eq (x : S8x128.Idx → BitVec 32) (y : IVec S8x128 32) (j : S8x128.Idx) :
    dynamicGather 0 x y j = x (ix2 ⟨(y j).toNat % 8, Nat.mod_lt _ (by decide)⟩ (j 1)) := by
  show x _ = x _
  refine congrArg x (funext fun b => ?_)
  match b with
  | ⟨0, _⟩ => rfl
  | ⟨1, _⟩ => rfl

theorem slice0 (v : IVec S32x128 32) (h : S32x128.Slices ![0, 0] S8x128) (j : S8x128.Idx) :
    extractStridedSlice S8x128 ![0, 0] v h j = v (ix2 ⟨0 + (j 0).val, by have := idx2_lt0 j; omega⟩ (j 1)) :=
  extractStridedSlice_apply _ _ _ _ _ fun a => by
    match a with
    | ⟨0, _⟩ => rfl
    | ⟨1, _⟩ => exact (Nat.zero_add _).symm

theorem slice8 (v : IVec S32x128 32) (h : S32x128.Slices ![8, 0] S8x128) (j : S8x128.Idx) :
    extractStridedSlice S8x128 ![8, 0] v h j = v (ix2 ⟨8 + (j 0).val, by have := idx2_lt0 j; omega⟩ (j 1)) :=
  extractStridedSlice_apply _ _ _ _ _ fun a => by
    match a with
    | ⟨0, _⟩ => rfl
    | ⟨1, _⟩ => exact (Nat.zero_add _).symm

theorem slice16 (v : IVec S32x128 32) (h : S32x128.Slices ![16, 0] S8x128) (j : S8x128.Idx) :
    extractStridedSlice S8x128 ![16, 0] v h j = v (ix2 ⟨16 + (j 0).val, by have := idx2_lt0 j; omega⟩ (j 1)) :=
  extractStridedSlice_apply _ _ _ _ _ fun a => by
    match a with
    | ⟨0, _⟩ => rfl
    | ⟨1, _⟩ => exact (Nat.zero_add _).symm

theorem slice24 (v : IVec S32x128 32) (h : S32x128.Slices ![24, 0] S8x128) (j : S8x128.Idx) :
    extractStridedSlice S8x128 ![24, 0] v h j = v (ix2 ⟨24 + (j 0).val, by have := idx2_lt0 j; omega⟩ (j 1)) :=
  extractStridedSlice_apply _ _ _ _ _ fun a => by
    match a with
    | ⟨0, _⟩ => rfl
    | ⟨1, _⟩ => exact (Nat.zero_add _).symm

theorem pay_10_0 (v : Vec F S8x128 .i32) (x : Vec F S32x128 .i8) (j : S8x128.Idx) :
    k0_pay11 (k0_pay1 v) x j =
      decW (fun k => v (ix2 k (j 1))) (x (ix2 ⟨0 + (j 0).val, by have := idx2_lt0 j; omega⟩ (j 1))) := by
  simp only [k0_pay1, k0_pay10, k0_pay11, shapeCast_self, shapeCast_shapeCast]
  simp only [Idealize.ShloMosaic.ori, Idealize.ShloMosaic.andi, Idealize.ShloMosaic.shrui, Idealize.ShloMosaic.shli, Idealize.ShloMosaic.xori, Idealize.ShloMosaic.broadcast, gather_eq, Idealize.ShloMosaic.shrsi, Idealize.ShloMosaic.extui, slice0]
  rfl

theorem pay_10_8 (v : Vec F S8x128 .i32) (x : Vec F S32x128 .i8) (j : S8x128.Idx) :
    k0_pay14 (k0_pay1 v) (k0_pay12 x) (k0_pay13 x) j =
      decW (fun k => v (ix2 k (j 1))) (x (ix2 ⟨8 + (j 0).val, by have := idx2_lt0 j; omega⟩ (j 1))) := by
  simp only [k0_pay1, k0_pay10, k0_pay12, k0_pay13, k0_pay14, shapeCast_self, shapeCast_shapeCast]
  simp only [Idealize.ShloMosaic.ori, Idealize.ShloMosaic.andi, Idealize.ShloMosaic.shrui, Idealize.ShloMosaic.shli, Idealize.ShloMosaic.xori, Idealize.ShloMosaic.broadcast, gather_eq, Idealize.ShloMosaic.shrsi, Idealize.ShloMosaic.extui, slice8]
  rfl

theorem pay_10_16 (v : Vec F S8x128 .i32) (x : Vec F S32x128 .i8) (j : S8x128.Idx) :
    k0_pay18 (k0_pay15 (k0_pay10 (F := F) x)) (k0_pay16 (k0_pay1 v) (k0_pay10 (F := F) x)) (k0_pay17 (k0_pay1 v) (k0_pay10 (F := F) x)) j =
      decW (fun k => v (ix2 k (j 1))) (x (ix2 ⟨16 + (j 0).val, by have := idx2_lt0 j; omega⟩ (j 1))) := by
  simp only [k0_pay1, k0_pay10, k0_pay15, k0_pay16, k0_pay17, k0_pay18, shapeCast_self, shapeCast_shapeCast]
  simp only [Idealize.ShloMosaic.ori, Idealize.ShloMosaic.andi, Idealize.ShloMosaic.shrui, Idealize.ShloMosaic.shli, Idealize.ShloMosaic.xori, Idealize.ShloMosaic.broadcast, gather_eq, Idealize.ShloMosaic.shrsi, Idealize.ShloMosaic.extui, slice16]
  rfl

theorem pay_10_24 (v : Vec F S8x128 .i32) (x : Vec F S32x128 .i8) (j : S8x128.Idx) :
    k0_pay2 (k0_pay20 (k0_pay1 v) (k0_pay10 (F := F) x)) (k0_pay21 (k0_pay1 v) (k0_pay10 (F := F) x)) (k0_pay22 (k0_pay10 (F := F) x)) k0_pay23 j =
      decW (fun k => v (ix2 k (j 1))) (x (ix2 ⟨24 + (j 0).val, by have := idx2_lt0 j; omega⟩ (j 1))) := by
  simp only [k0_pay1, k0_pay10, k0_pay19, k0_pay20, k0_pay21, k0_pay22, k0_pay23, k0_pay2, shapeCast_self, shapeCast_shapeCast]
  simp only [Idealize.ShloMosaic.ori, Idealize.ShloMosaic.andi, Idealize.ShloMosaic.shrui, Idealize.ShloMosaic.shli, Idealize.ShloMosaic.xori, Idealize.ShloMosaic.broadcast, gather_eq, Idealize.ShloMosaic.shrsi, Idealize.ShloMosaic.extui, slice24]
  rfl

theorem pay_24_0 (v : Vec F S8x128 .i32) (x : Vec F S32x128 .i8) (j : S8x128.Idx) :
    k0_pay25 (k0_pay3 v) x j =
      decW (fun k => v (ix2 k (j 1))) (x (ix2 ⟨0 + (j 0).val, by have := idx2_lt0 j; omega⟩ (j 1))) := pay_10_0 v x j

theorem pay_24_8 (v : Vec F S8x128 .i32) (x : Vec F S32x128 .i8) (j : S8x128.Idx) :
    k0_pay28 (k0_pay3 v) (k0_pay26 x) (k0_pay27 x) j =
      decW (fun k => v (ix2 k (j 1))) (x (ix2 ⟨8 + (j 0).val, by have := idx2_lt0 j; omega⟩ (j 1))) := pay_10_8 v x j

theorem pay_24_16 (v : Vec F S8x128 .i32) (x : Vec F S32x128 .i8) (j : S8x128.Idx) :
    k0_pay32 (k0_pay29 (k0_pay24 (F := F) x)) (k0_pay30 (k0_pay3 v) (k0_pay24 (F := F) x)) (k0_pay31 (k0_pay3 v) (k0_pay24 (F := F) x)) j =
      decW (fun k => v (ix2 k (j 1))) (x (ix2 ⟨16 + (j 0).val, by have := idx2_lt0 j; omega⟩ (j 1))) := pay_10_16 v x j

theorem pay_24_24 (v : Vec F S8x128 .i32) (x : Vec F S32x128 .i8) (j : S8x128.Idx) :
    k0_pay4 (k0_pay34 (k0_pay3 v) (k0_pay24 (F := F) x)) (k0_pay35 (k0_pay3 v) (k0_pay24 (F := F) x)) (k0_pay36 (k0_pay24 (F := F) x)) k0_pay37 j =
      decW (fun k => v (ix2 k (j 1))) (x (ix2 ⟨24 + (j 0).val, by have := idx2_lt0 j; omega⟩ (j 1))) := pay_10_24 v x j

theorem pay_38_0 (v : Vec F S8x128 .i32) (x : Vec F S32x128 .i8) (j : S8x128.Idx) :
    k0_pay39 (k0_pay6 v) x j =
      decW (fun k => v (ix2 k (j 1))) (x (ix2 ⟨0 + (j 0).val, by have := idx2_lt0 j; omega⟩ (j 1))) := pay_10_0 v x j

theorem pay_38_8 (v : Vec F S8x128 .i32) (x : Vec F S32x128 .i8) (j : S8x128.Idx) :
    k0_pay42 (k0_pay6 v) (k0_pay40 x) (k0_pay41 x) j =
      decW (fun k => v (ix2 k (j 1))) (x (ix2 ⟨8 + (j 0).val, by have := idx2_lt0 j; omega⟩ (j 1))) := pay_10_8 v x j

theorem pay_38_16 (v : Vec F S8x128 .i32) (x : Vec F S32x128 .i8) (j : S8x128.Idx) :
    k0_pay46 (k0_pay43 (k0_pay38 (F := F) x)) (k0_pay44 (k0_pay6 v) (k0_pay38 (F := F) x)) (k0_pay45 (k0_pay6 v) (k0_pay38 (F := F) x)) j =
      decW (fun k => v (ix2 k (j 1))) (x (ix2 ⟨16 + (j 0).val, by have := idx2_lt0 j; omega⟩ (j 1))) := pay_10_16 v x j

theorem pay_38_24 (v : Vec F S8x128 .i32) (x : Vec F S32x128 .i8) (j : S8x128.Idx) :
    k0_pay7 (k0_pay48 (k0_pay6 v) (k0_pay38 (F := F) x)) (k0_pay49 (k0_pay6 v) (k0_pay38 (F := F) x)) (k0_pay50 (k0_pay38 (F := F) x)) k0_pay51 j =
      decW (fun k => v (ix2 k (j 1))) (x (ix2 ⟨24 + (j 0).val, by have := idx2_lt0 j; omega⟩ (j 1))) := pay_10_24 v x j

theorem pay_52_0 (v : Vec F S8x128 .i32) (x : Vec F S32x128 .i8) (j : S8x128.Idx) :
    k0_pay53 (k0_pay8 v) x j =
      decW (fun k => v (ix2 k (j 1))) (x (ix2 ⟨0 + (j 0).val, by have := idx2_lt0 j; omega⟩ (j 1))) := pay_10_0 v x j

theorem pay_52_8 (v : Vec F S8x128 .i32) (x : Vec F S32x128 .i8) (j : S8x128.Idx) :
    k0_pay56 (k0_pay8 v) (k0_pay54 x) (k0_pay55 x) j =
      decW (fun k => v (ix2 k (j 1))) (x (ix2 ⟨8 + (j 0).val, by have := idx2_lt0 j; omega⟩ (j 1))) := pay_10_8 v x j

theorem pay_52_16 (v : Vec F S8x128 .i32) (x : Vec F S32x128 .i8) (j : S8x128.Idx) :
    k0_pay60 (k0_pay57 (k0_pay52 (F := F) x)) (k0_pay58 (k0_pay8 v) (k0_pay52 (F := F) x)) (k0_pay59 (k0_pay8 v) (k0_pay52 (F := F) x)) j =
      decW (fun k => v (ix2 k (j 1))) (x (ix2 ⟨16 + (j 0).val, by have := idx2_lt0 j; omega⟩ (j 1))) := pay_10_16 v x j

theorem pay_52_24 (v : Vec F S8x128 .i32) (x : Vec F S32x128 .i8) (j : S8x128.Idx) :
    k0_pay9 (k0_pay62 (k0_pay8 v) (k0_pay52 (F := F) x)) (k0_pay63 (k0_pay8 v) (k0_pay52 (F := F) x)) (k0_pay64 (k0_pay52 (F := F) x)) k0_pay65 j =
      decW (fun k => v (ix2 k (j 1))) (x (ix2 ⟨24 + (j 0).val, by have := idx2_lt0 j; omega⟩ (j 1))) := pay_10_24 v x j

end Cert.Proof.DI
-- ==== Proof.D.Dec.lean ====
/-
  The decode of `Dense`'s body word by word, from that of `DenseIdeal`'s body, whose payloads are the same.
-/
module

public import proofs.«01_k».proof.Proof.D.Common
public import proofs.«01_k».proof.Proof.DI.Dec
public import Idealize.ShloMosaic.Lib.WordArith.Masks
public import Idealize.ShloMosaic.Lib.ValueIdxCore
public import Idealize.ShloMosaic.Lib.Pipeline.Value

@[expose] public section

noncomputable section

namespace Cert.Proof.D

open Cert.Dense Cert.Dense.Gen
open Idealize.ShloMosaic Idealize.ShloMosaic.ValueIdx

variable {F : FTy → Type} [FloatOps F]

/-- The word of two weights that a code and its column of the table give. -/
abbrev decW (T : Fin 8 → BitVec 32) (c : BitVec 8) : BitVec 32 := DI.decW T c

theorem pay_10_0 (v : Vec F S8x128 .i32) (x : Vec F S32x128 .i8) (j : S8x128.Idx) :
    k0_pay11 (k0_pay1 v) x j =
      decW (fun k => v (ix2 k (j 1))) (x (ix2 ⟨0 + (j 0).val, by have := idx2_lt0 j; omega⟩ (j 1))) := DI.pay_10_0 v x j

theorem pay_10_8 (v : Vec F S8x128 .i32) (x : Vec F S32x128 .i8) (j : S8x128.Idx) :
    k0_pay14 (k0_pay1 v) (k0_pay12 x) (k0_pay13 x) j =
      decW (fun k => v (ix2 k (j 1))) (x (ix2 ⟨8 + (j 0).val, by have := idx2_lt0 j; omega⟩ (j 1))) := DI.pay_10_8 v x j

theorem pay_10_16 (v : Vec F S8x128 .i32) (x : Vec F S32x128 .i8) (j : S8x128.Idx) :
    k0_pay18 (k0_pay15 (k0_pay10 (F := F) x)) (k0_pay16 (k0_pay1 v) (k0_pay10 (F := F) x)) (k0_pay17 (k0_pay1 v) (k0_pay10 (F := F) x)) j =
      decW (fun k => v (ix2 k (j 1))) (x (ix2 ⟨16 + (j 0).val, by have := idx2_lt0 j; omega⟩ (j 1))) := DI.pay_10_16 v x j

theorem pay_10_24 (v : Vec F S8x128 .i32) (x : Vec F S32x128 .i8) (j : S8x128.Idx) :
    k0_pay2 (k0_pay20 (k0_pay1 v) (k0_pay10 (F := F) x)) (k0_pay21 (k0_pay1 v) (k0_pay10 (F := F) x)) (k0_pay22 (k0_pay10 (F := F) x)) k0_pay23 j =
      decW (fun k => v (ix2 k (j 1))) (x (ix2 ⟨24 + (j 0).val, by have := idx2_lt0 j; omega⟩ (j 1))) := DI.pay_10_24 v x j

theorem pay_24_0 (v : Vec F S8x128 .i32) (x : Vec F S32x128 .i8) (j : S8x128.Idx) :
    k0_pay25 (k0_pay3 v) x j =
      decW (fun k => v (ix2 k (j 1))) (x (ix2 ⟨0 + (j 0).val, by have := idx2_lt0 j; omega⟩ (j 1))) := DI.pay_24_0 v x j

theorem pay_24_8 (v : Vec F S8x128 .i32) (x : Vec F S32x128 .i8) (j : S8x128.Idx) :
    k0_pay28 (k0_pay3 v) (k0_pay26 x) (k0_pay27 x) j =
      decW (fun k => v (ix2 k (j 1))) (x (ix2 ⟨8 + (j 0).val, by have := idx2_lt0 j; omega⟩ (j 1))) := DI.pay_24_8 v x j

theorem pay_24_16 (v : Vec F S8x128 .i32) (x : Vec F S32x128 .i8) (j : S8x128.Idx) :
    k0_pay32 (k0_pay29 (k0_pay24 (F := F) x)) (k0_pay30 (k0_pay3 v) (k0_pay24 (F := F) x)) (k0_pay31 (k0_pay3 v) (k0_pay24 (F := F) x)) j =
      decW (fun k => v (ix2 k (j 1))) (x (ix2 ⟨16 + (j 0).val, by have := idx2_lt0 j; omega⟩ (j 1))) := DI.pay_24_16 v x j

theorem pay_24_24 (v : Vec F S8x128 .i32) (x : Vec F S32x128 .i8) (j : S8x128.Idx) :
    k0_pay4 (k0_pay34 (k0_pay3 v) (k0_pay24 (F := F) x)) (k0_pay35 (k0_pay3 v) (k0_pay24 (F := F) x)) (k0_pay36 (k0_pay24 (F := F) x)) k0_pay37 j =
      decW (fun k => v (ix2 k (j 1))) (x (ix2 ⟨24 + (j 0).val, by have := idx2_lt0 j; omega⟩ (j 1))) := DI.pay_24_24 v x j

theorem pay_38_0 (v : Vec F S8x128 .i32) (x : Vec F S32x128 .i8) (j : S8x128.Idx) :
    k0_pay39 (k0_pay6 v) x j =
      decW (fun k => v (ix2 k (j 1))) (x (ix2 ⟨0 + (j 0).val, by have := idx2_lt0 j; omega⟩ (j 1))) := DI.pay_38_0 v x j

theorem pay_38_8 (v : Vec F S8x128 .i32) (x : Vec F S32x128 .i8) (j : S8x128.Idx) :
    k0_pay42 (k0_pay6 v) (k0_pay40 x) (k0_pay41 x) j =
      decW (fun k => v (ix2 k (j 1))) (x (ix2 ⟨8 + (j 0).val, by have := idx2_lt0 j; omega⟩ (j 1))) := DI.pay_38_8 v x j

theorem pay_38_16 (v : Vec F S8x128 .i32) (x : Vec F S32x128 .i8) (j : S8x128.Idx) :
    k0_pay46 (k0_pay43 (k0_pay38 (F := F) x)) (k0_pay44 (k0_pay6 v) (k0_pay38 (F := F) x)) (k0_pay45 (k0_pay6 v) (k0_pay38 (F := F) x)) j =
      decW (fun k => v (ix2 k (j 1))) (x (ix2 ⟨16 + (j 0).val, by have := idx2_lt0 j; omega⟩ (j 1))) := DI.pay_38_16 v x j

theorem pay_38_24 (v : Vec F S8x128 .i32) (x : Vec F S32x128 .i8) (j : S8x128.Idx) :
    k0_pay7 (k0_pay48 (k0_pay6 v) (k0_pay38 (F := F) x)) (k0_pay49 (k0_pay6 v) (k0_pay38 (F := F) x)) (k0_pay50 (k0_pay38 (F := F) x)) k0_pay51 j =
      decW (fun k => v (ix2 k (j 1))) (x (ix2 ⟨24 + (j 0).val, by have := idx2_lt0 j; omega⟩ (j 1))) := DI.pay_38_24 v x j

theorem pay_52_0 (v : Vec F S8x128 .i32) (x : Vec F S32x128 .i8) (j : S8x128.Idx) :
    k0_pay53 (k0_pay8 v) x j =
      decW (fun k => v (ix2 k (j 1))) (x (ix2 ⟨0 + (j 0).val, by have := idx2_lt0 j; omega⟩ (j 1))) := DI.pay_52_0 v x j

theorem pay_52_8 (v : Vec F S8x128 .i32) (x : Vec F S32x128 .i8) (j : S8x128.Idx) :
    k0_pay56 (k0_pay8 v) (k0_pay54 x) (k0_pay55 x) j =
      decW (fun k => v (ix2 k (j 1))) (x (ix2 ⟨8 + (j 0).val, by have := idx2_lt0 j; omega⟩ (j 1))) := DI.pay_52_8 v x j

theorem pay_52_16 (v : Vec F S8x128 .i32) (x : Vec F S32x128 .i8) (j : S8x128.Idx) :
    k0_pay60 (k0_pay57 (k0_pay52 (F := F) x)) (k0_pay58 (k0_pay8 v) (k0_pay52 (F := F) x)) (k0_pay59 (k0_pay8 v) (k0_pay52 (F := F) x)) j =
      decW (fun k => v (ix2 k (j 1))) (x (ix2 ⟨16 + (j 0).val, by have := idx2_lt0 j; omega⟩ (j 1))) := DI.pay_52_16 v x j

theorem pay_52_24 (v : Vec F S8x128 .i32) (x : Vec F S32x128 .i8) (j : S8x128.Idx) :
    k0_pay9 (k0_pay62 (k0_pay8 v) (k0_pay52 (F := F) x)) (k0_pay63 (k0_pay8 v) (k0_pay52 (F := F) x)) (k0_pay64 (k0_pay52 (F := F) x)) k0_pay65 j =
      decW (fun k => v (ix2 k (j 1))) (x (ix2 ⟨24 + (j 0).val, by have := idx2_lt0 j; omega⟩ (j 1))) := DI.pay_52_24 v x j

end Cert.Proof.D
-- ==== Proof.DI.Body.lean ====
/-
  The triples of `DenseIdeal`'s body: what each loop, and the body at a grid point, leaves in the decoded weights and in
  the output block.
-/
module

public import proofs.«01_k».proof.Proof.DI.Dec

@[expose] public section

noncomputable section

namespace Cert.Proof.DI

open Cert.DenseIdeal Cert.DenseIdeal.Gen
open Idealize.ShloMosaic Idealize.ShloMosaic.WordArith Idealize.ShloMosaic.ValueIdx Idealize.SL.Sem

variable {F : FTy → Type} [FloatOps F]

theorem tn_iv (lb : BitVec 32) (k : ℕ) : (Scf.iv lb 1#32 k).toNat = (lb.toNat + k) % 2 ^ 32 := by
  simp [Scf.iv]
theorem tn_addi (a b : BitVec 32) : (Scalar.addi a b).toNat = (a.toNat + b.toNat) % 2 ^ 32 := BitVec.toNat_add a b
theorem tn_muli (a b : BitVec 32) : (Scalar.muli a b).toNat = (a.toNat * b.toNat) % 2 ^ 32 := BitVec.toNat_mul a b
theorem tn_subi (a b : BitVec 32) : (Scalar.subi a b).toNat = (2 ^ 32 - b.toNat + a.toNat) % 2 ^ 32 := BitVec.toNat_sub a b
theorem tn_and1 (x : BitVec 32) : (Scalar.andi x 1#32).toNat = x.toNat % 2 := WordArith.toNat_andi_lowMask x 1#32 1 rfl
theorem grid_lt (i : grid0.Coords) : (i 0).val < 36 := (i 0).isLt
theorem tn_i (i : grid0.Coords) : (BitVec.ofNat 32 (i 0).val).toNat = (i 0).val := by
  have := grid_lt i
  rw [BitVec.toNat_ofNat]; omega

/-- The half of the decoded weights that a grid point fills. -/
def par (i : grid0.Coords) : Fin 2 := ⟨(i 0).val % 2, Nat.mod_lt _ (by decide)⟩
/-- The other half, which it multiplies with. -/
def alt (p : Fin 2) : Fin 2 := ⟨1 - p.val, by omega⟩
/-- A row of one half among the rows of both. -/
def row (p : Fin 2) (r : Fin 768) : Fin 1536 := ⟨p.val * 768 + r.val, by omega⟩

theorem trip4_1 (t : Fin k0_t1_loop.trips) : t.val < 4 := t.isLt
theorem trip6_2 (t : Fin k0_t2_loop.trips) : t.val < 6 := t.isLt
theorem trip6_3 (t : Fin k0_t3_loop.trips) : t.val < 6 := t.isLt
theorem trip4_4 (t : Fin k0_t4_loop.trips) : t.val < 4 := t.isLt
theorem trip6_5 (t : Fin k0_t5_loop.trips) : t.val < 6 := t.isLt
theorem trip6_6 (t : Fin k0_t6_loop.trips) : t.val < 6 := t.isLt

theorem vec2 {a b c : ℕ} (h : a = b) : (![a, c] : Fin 2 → ℕ) = ![b, c] := by rw [h]

/-- A row of the decoded weights from the grid point and the trips of the two loops. -/
theorem tn_rows (i : grid0.Coords) (a b z : ℕ) (ha : a < 4) (hb : b < 6) (hz : z < 32) :
    (Scalar.addi (Scalar.addi (Scalar.addi (Scalar.muli (Scalar.andi (BitVec.ofNat 32 (i 0).val) 1#32) 768#32) (Scalar.muli (Scf.iv 0#32 1#32 a) 192#32))
      (Scalar.muli (Scf.iv 0#32 1#32 b) 32#32)) (BitVec.ofNat 32 z)).toNat = (par i).val * 768 + (192 * a + 32 * b + z) := by
  have hp := (par i).isLt
  have e1 : (Scalar.muli (Scalar.andi (BitVec.ofNat 32 (i 0).val) 1#32) 768#32).toNat = (par i).val * 768 := by
    rw [tn_muli, tn_and1, tn_i]
    show (par i).val * 768 % 2 ^ 32 = _
    omega
  have e2 : (Scalar.muli (Scf.iv 0#32 1#32 a) 192#32).toNat = 192 * a := by
    rw [tn_muli, tn_iv]; simp; omega
  have e3 : (Scalar.muli (Scf.iv 0#32 1#32 b) 32#32).toNat = 32 * b := by
    rw [tn_muli, tn_iv]; simp; omega
  rw [tn_addi, tn_addi, tn_addi, e1, e2, e3, BitVec.toNat_ofNat]
  omega

theorem off5_eq (i : grid0.Coords) : k0_off5 i = ![(alt (par i)).val * 768, 0] := by
  have := grid_lt i
  simp only [k0_off5, Scalar.indexCast]
  refine vec2 ?_
  rw [tn_muli, tn_subi, tn_and1, tn_i]; simp [par, alt]; omega
theorem off6_eq (t : Fin k0_t4_loop.trips) : k0_off6 t = ![480 * t.val, 0] := by
  have := trip4_4 t
  simp only [k0_off6, Scalar.indexCast]
  refine vec2 ?_
  rw [tn_muli, tn_iv]; simp; omega
theorem off7_eq (t : Fin k0_t4_loop.trips) : k0_off7 t = ![480 * t.val, 0] := by
  have := trip4_4 t
  simp only [k0_off7, Scalar.indexCast]
  refine vec2 ?_
  rw [tn_muli, tn_iv]; simp; omega
theorem off1_eq (a : Fin k0_t1_loop.trips) (b : Fin k0_t2_loop.trips) : k0_off1 a b = ![192 * a.val + 32 * b.val, 0] := by
  have := trip4_1 a
  have := trip6_2 b
  simp only [k0_off1, Scalar.indexCast]
  refine vec2 ?_
  simp only [tn_addi, tn_muli, tn_iv, BitVec.toNat_ofNat]; omega
theorem off2_eq (i : grid0.Coords) (a : Fin k0_t1_loop.trips) (b : Fin k0_t2_loop.trips) (z : ℕ) (hz : z < 32) :
    k0_off2 i a b (BitVec.ofNat 32 z) = ![(par i).val * 768 + (192 * a.val + 32 * b.val + z), 0] := by
  have := trip4_1 a
  have := trip6_2 b
  have := grid_lt i
  simp only [k0_off2, Scalar.indexCast]
  refine vec2 ?_
  exact tn_rows i a.val b.val z (by omega) (by omega) hz
theorem off3_eq (a : Fin k0_t1_loop.trips) (b : Fin k0_t3_loop.trips) : k0_off3 a b = ![192 * a.val + 32 * b.val, 128] := by
  have := trip4_1 a
  have := trip6_3 b
  simp only [k0_off3, Scalar.indexCast]
  refine vec2 ?_
  simp only [tn_addi, tn_muli, tn_iv, BitVec.toNat_ofNat]; omega
theorem off4_eq (i : grid0.Coords) (a : Fin k0_t1_loop.trips) (b : Fin k0_t3_loop.trips) (z : ℕ) (hz : z < 32) :
    k0_off4 i a b (BitVec.ofNat 32 z) = ![(par i).val * 768 + (192 * a.val + 32 * b.val + z), 128] := by
  have := trip4_1 a
  have := trip6_3 b
  have := grid_lt i
  simp only [k0_off4, Scalar.indexCast]
  refine vec2 ?_
  exact tn_rows i a.val b.val z (by omega) (by omega) hz
theorem off8_eq (a : Fin k0_t4_loop.trips) (b : Fin k0_t5_loop.trips) : k0_off8 a b = ![192 * a.val + 32 * b.val, 0] := by
  have := trip4_4 a
  have := trip6_5 b
  simp only [k0_off8, Scalar.indexCast]
  refine vec2 ?_
  simp only [tn_addi, tn_muli, tn_iv, BitVec.toNat_ofNat]; omega
theorem off9_eq (i : grid0.Coords) (a : Fin k0_t4_loop.trips) (b : Fin k0_t5_loop.trips) (z : ℕ) (hz : z < 32) :
    k0_off9 i a b (BitVec.ofNat 32 z) = ![(par i).val * 768 + (192 * a.val + 32 * b.val + z), 0] := by
  have := trip4_4 a
  have := trip6_5 b
  have := grid_lt i
  simp only [k0_off9, Scalar.indexCast]
  refine vec2 ?_
  exact tn_rows i a.val b.val z (by omega) (by omega) hz
theorem off10_eq (a : Fin k0_t4_loop.trips) (b : Fin k0_t6_loop.trips) : k0_off10 a b = ![192 * a.val + 32 * b.val, 128] := by
  have := trip4_4 a
  have := trip6_6 b
  simp only [k0_off10, Scalar.indexCast]
  refine vec2 ?_
  simp only [tn_addi, tn_muli, tn_iv, BitVec.toNat_ofNat]; omega
theorem off11_eq (i : grid0.Coords) (a : Fin k0_t4_loop.trips) (b : Fin k0_t6_loop.trips) (z : ℕ) (hz : z < 32) :
    k0_off11 i a b (BitVec.ofNat 32 z) = ![(par i).val * 768 + (192 * a.val + 32 * b.val + z), 128] := by
  have := trip4_4 a
  have := trip6_6 b
  have := grid_lt i
  simp only [k0_off11, Scalar.indexCast]
  refine vec2 ?_
  exact tn_rows i a.val b.val z (by omega) (by omega) hz

/-- The decoded word of one entry. -/
def dec (X : Ins F) (r : Fin 768) (c : Fin 256) : BitVec 32 := decW (fun k => X.x4 (ix2 k c)) (X.x3 (ix2 r c))

/-- One half decoded where `D` says, the rest as in `g`. -/
def Ok (X : Ins F) (p : Fin 2) (D : ℕ → ℕ → Prop) (g f : S1536x256.Idx → BitVec 32) : Prop :=
  (∀ (r : Fin 768) (c : Fin 256), D r.val c.val → f (ix2 (row p r) c) = dec X r c) ∧
    ∀ (r : Fin 768) (c : Fin 256), f (ix2 (row (alt p) r) c) = g (ix2 (row (alt p) r) c)

theorem Ok.mono {X : Ins F} {p : Fin 2} {D D' : ℕ → ℕ → Prop} {g f : S1536x256.Idx → BitVec 32} (h : Ok X p D g f)
    (hD : ∀ r c, r < 768 → c < 256 → D' r c → D r c) : Ok X p D' g f :=
  ⟨fun r c hr => h.1 r c (hD _ _ r.isLt c.isLt hr), h.2⟩

/-- One stored tile of decoded words. -/
theorem ok_store {X : Ins F} {p : Fin 2} {D : ℕ → ℕ → Prop} {g f f' : S1536x256.Idx → BitVec 32} {off : Fin 2 → ℕ}
    {inb : ∀ a, off a + S8x128.size a ≤ S1536x256.size a} {w : S8x128.Idx → BitVec 32} (q h z : ℕ) (hz : z + 8 ≤ 32)
    (hoff : off = ![p.val * 768 + (q + z), h]) (hq : q + 32 ≤ 768) (hh : h + 128 ≤ 256)
    {v : S8x128.Idx → BitVec 32} {x : S32x128.Idx → BitVec 8}
    (hv : ∀ (k : Fin 8) (c : Fin 128), v (ix2 k c) = X.x4 (ix2 k ⟨h + c.val, by omega⟩))
    (hx : ∀ (r : Fin 32) (c : Fin 128), x (ix2 r c) = X.x3 (ix2 ⟨q + r.val, by omega⟩ ⟨h + c.val, by omega⟩))
    (hw : ∀ j : S8x128.Idx, w j = decW (fun k => v (ix2 k (j 1))) (x (ix2 ⟨z + (j 0).val, by have := idx2_lt0 j; omega⟩ (j 1))))
    (hU : Upd (Rect.unit (s := S1536x256) off S8x128.size inb) w f f') (hf : Ok X p D g f) :
    Ok X p (fun r c => D r c ∨ (q + z ≤ r ∧ r < q + z + 8 ∧ h ≤ c ∧ c < h + 128)) g f' := by
  subst hoff
  have e0 : ∀ j : S8x128.Idx, (((Rect.unit (s := S1536x256) ![p.val * 768 + (q + z), h] S8x128.size inb).emb j) 0).val = p.val * 768 + (q + z) + (j 0).val := fun j => by
    rw [Rect.emb_apply]; show _ + 1 * _ = _; rw [one_mul]; rfl
  have e1 : ∀ j : S8x128.Idx, (((Rect.unit (s := S1536x256) ![p.val * 768 + (q + z), h] S8x128.size inb).emb j) 1).val = h + (j 1).val := fun j => by
    rw [Rect.emb_apply]; show _ + 1 * _ = _; rw [one_mul]; rfl
  constructor
  · intro r c hD
    by_cases hin : q + z ≤ r.val ∧ r.val < q + z + 8 ∧ h ≤ c.val ∧ c.val < h + 128
    · obtain ⟨h1, h2, h3, h4⟩ := hin
      have hj := hU.1 (ix2 (n0 := 8) (n1 := 128) ⟨r.val - (q + z), by omega⟩ ⟨c.val - h, by omega⟩)
      have hi : (Rect.unit (s := S1536x256) ![p.val * 768 + (q + z), h] S8x128.size inb).emb (ix2 (n0 := 8) (n1 := 128) ⟨r.val - (q + z), by omega⟩ ⟨c.val - h, by omega⟩) = ix2 (row p r) c := by
        funext a
        match a with
        | ⟨0, _⟩ => exact Fin.ext ((e0 _).trans (by show p.val * 768 + (q + z) + (r.val - (q + z)) = p.val * 768 + r.val; omega))
        | ⟨1, _⟩ => exact Fin.ext ((e1 _).trans (by show h + (c.val - h) = c.val; omega))
      rw [hi] at hj
      rw [hj, hw]
      have hc : (⟨h + (c.val - h), by omega⟩ : Fin 256) = c := Fin.ext (by show h + (c.val - h) = c.val; omega)
      have hr : (⟨q + (z + (r.val - (q + z))), by omega⟩ : Fin 768) = r := Fin.ext (by show q + (z + (r.val - (q + z))) = r.val; omega)
      unfold dec
      refine congrArg₂ decW (funext fun k => ?_) ?_
      · exact (hv k _).trans (by rw [hc])
      · exact (hx _ _).trans (by rw [hc, hr])
    · rw [hU.2 _ fun j hj => hin ?_]
      · exact hf.1 r c (hD.resolve_right hin)
      · have h0 := (e0 j).symm.trans (congrArg (fun i => (i 0).val) hj)
        have h1 := (e1 j).symm.trans (congrArg (fun i => (i 1).val) hj)
        have l0 := idx2_lt0 j
        have l1 := idx2_lt1 j
        have h0' : p.val * 768 + (q + z) + (j 0).val = p.val * 768 + r.val := h0
        have h1' : h + (j 1).val = c.val := h1
        omega
  · intro r c
    rw [hU.2 _ fun j hj => ?_]
    · exact hf.2 r c
    · have h0 := (e0 j).symm.trans (congrArg (fun i => (i 0).val) hj)
      have h0' : p.val * 768 + (q + z) + (j 0).val = (1 - p.val) * 768 + r.val := h0
      have l0 := idx2_lt0 j
      have := p.isLt
      omega

section Dite
variable {c : Dev nD} {ms : Mems} {X : Ins F} {bd : Option ℕ}

/-- A conditional by its two branches. -/
theorem W_dite {α : Type} {p : Prop} {d : Decidable p} {t : p → Prog (TpuEff nD τ sig (Elt F) Λ₀ .tc) α}
    {e : ¬ p → Prog (TpuEff nD τ sig (Elt F) Λ₀ .tc) α} {Q : α → St F → Prop} {s : St F}
    (ht : ∀ h, W c ms X bd (t h) Q s) (he : ∀ h, W c ms X bd (e h) Q s) : W c ms X bd (if h : p then t h else e h) Q s := by
  by_cases h : p
  · rw [dif_pos h]; exact ht h
  · rw [dif_neg h]; exact he h

end Dite

section Body
variable {c : Dev nD} {ms : Mems} {X : Ins F} {bd : Option ℕ}

theorem read_codes {off : Fin 2 → ℕ} {inb : ∀ a, off a + S32x128.size a ≤ S768x256.size a} (q h : ℕ) (hoff : off = ![q, h]) (hq : q + 32 ≤ 768)
    (hh : h + 128 ≤ 256) (r : Fin 32) (c : Fin 128) :
    X.x3 ((Rect.unit (s := S768x256) off S32x128.size inb).toLoadRect.idx (ix2 r c)) = X.x3 (ix2 ⟨q + r.val, by omega⟩ ⟨h + c.val, by omega⟩) := by
  subst hoff
  refine congrArg X.x3 (funext fun a => Fin.ext ?_)
  match a with
  | ⟨0, _⟩ => exact congrArg (q + ·) (Nat.one_mul _)
  | ⟨1, _⟩ => exact congrArg (h + ·) (Nat.one_mul _)

/-- One trip of a decode loop decodes its rows. -/
theorem t2_body_w (i : grid0.Coords) (hc : k0_cond1 i = 1#1) (a : Fin k0_t1_loop.trips) (v12 v14 : BitVec 32) (v : Vec F S8x128 .i32)
    (hv : ∀ (k : Fin 8) (c : Fin 128), v (ix2 k c) = X.x4 (ix2 k ⟨0 + c.val, by omega⟩)) (D : ℕ → ℕ → Prop) (g : S1536x256.Idx → BitVec 32) (g5 : S1920x256.Idx → Elt F .bf16)
    (b : Fin k0_t2_loop.trips) (acc : Unit) (s : St F)
    (hs : Ok X (par i) (fun r c => D r c ∨ (192 * a.val ≤ r ∧ r < 192 * a.val + 32 * b.val ∧ 0 ≤ c ∧ c < 0 + 128)) g s.s6 ∧ s.s5 = g5) :
    W c ms X bd (k0_t2_body (F := F) i ms.a1 ms.h1 ms.a2 ms.h2 ms.a3 ms.h3 ms.a4 ms.h4 ms.a5 ms.h5 ms.a6 ms.h6 hc a v12 v14 v b acc)
      (fun _ s' => Ok X (par i) (fun r c => D r c ∨ (192 * a.val ≤ r ∧ r < 192 * a.val + 32 * (b.val + 1) ∧ 0 ≤ c ∧ c < 0 + 128)) g s'.s6 ∧ s'.s5 = g5) s := by
  have ha := trip4_1 a
  have hb := trip6_2 b
  delta k0_t2_body
  refine W_bind ?_
  rw [k0_part1_eq_skeleton]
  delta k0_part1_skel
  refine W_bind (W_load3 ?_)
  refine W_bind (W_load6 ?_)
  refine W_bind (W_store6 fun f1 h1 => ?_)
  refine W_pure ?_
  refine W_bind ?_
  rw [k0_part2_eq_skeleton]
  delta k0_part2_skel
  refine W_bind (W_load6 ?_)
  refine W_bind (W_store6 fun f2 h2 => ?_)
  refine W_pure ?_
  refine W_bind ?_
  rw [k0_part3_eq_skeleton]
  delta k0_part3_skel
  refine W_bind (W_load6 ?_)
  refine W_bind (W_store6 fun f3 h3 => ?_)
  refine W_pure ?_
  refine W_bind (W_load6 ?_)
  refine W_bind (W_store6 fun f4 h4 => ?_)
  refine W_pure ⟨?_, hs.2⟩
  have hx := read_codes (X := X) (inb := k0_off1_inb i a b hc) _ _ (off1_eq a b) (by omega) (by omega)
  have o1 := ok_store (192 * a.val + 32 * b.val) 0 0 (by omega) (off2_eq i a b 0 (by omega)) (by omega) (by omega) hv hx (fun j => pay_10_0 v _ j) h1 hs.1
  have o2 := ok_store (192 * a.val + 32 * b.val) 0 8 (by omega) (off2_eq i a b 8 (by omega)) (by omega) (by omega) hv hx (fun j => pay_10_8 v _ j) h2 o1
  have o3 := ok_store (192 * a.val + 32 * b.val) 0 16 (by omega) (off2_eq i a b 16 (by omega)) (by omega) (by omega) hv hx (fun j => pay_10_16 v _ j) h3 o2
  have o4 := ok_store (192 * a.val + 32 * b.val) 0 24 (by omega) (off2_eq i a b 24 (by omega)) (by omega) (by omega) hv hx (fun j => pay_10_24 v _ j) h4 o3
  refine o4.mono fun r c _ _ hr => ?_
  rcases hr with hr | ⟨k1, k2, k3, k4⟩
  · exact .inl (.inl (.inl (.inl (.inl hr))))
  · by_cases u0 : r < 192 * a.val + 32 * b.val
    · exact .inl (.inl (.inl (.inl (.inr ⟨k1, u0, k3, k4⟩))))
    by_cases u1 : r < 192 * a.val + 32 * b.val + 8
    · exact .inl (.inl (.inl (.inr (by omega))))
    by_cases u2 : r < 192 * a.val + 32 * b.val + 16
    · exact .inl (.inl (.inr (by omega)))
    by_cases u3 : r < 192 * a.val + 32 * b.val + 24
    · exact .inl (.inr (by omega))
    · exact .inr (by omega)

/-- One trip of a decode loop decodes its rows. -/
theorem t3_body_w (i : grid0.Coords) (hc : k0_cond1 i = 1#1) (a : Fin k0_t1_loop.trips) (v12 v14 : BitVec 32) (v : Vec F S8x128 .i32)
    (hv : ∀ (k : Fin 8) (c : Fin 128), v (ix2 k c) = X.x4 (ix2 k ⟨128 + c.val, by omega⟩)) (D : ℕ → ℕ → Prop) (g : S1536x256.Idx → BitVec 32) (g5 : S1920x256.Idx → Elt F .bf16)
    (b : Fin k0_t3_loop.trips) (acc : Unit) (s : St F)
    (hs : Ok X (par i) (fun r c => D r c ∨ (192 * a.val ≤ r ∧ r < 192 * a.val + 32 * b.val ∧ 128 ≤ c ∧ c < 128 + 128)) g s.s6 ∧ s.s5 = g5) :
    W c ms X bd (k0_t3_body (F := F) i ms.a1 ms.h1 ms.a2 ms.h2 ms.a3 ms.h3 ms.a4 ms.h4 ms.a5 ms.h5 ms.a6 ms.h6 hc a v12 v14 v b acc)
      (fun _ s' => Ok X (par i) (fun r c => D r c ∨ (192 * a.val ≤ r ∧ r < 192 * a.val + 32 * (b.val + 1) ∧ 128 ≤ c ∧ c < 128 + 128)) g s'.s6 ∧ s'.s5 = g5) s := by
  have ha := trip4_1 a
  have hb := trip6_3 b
  delta k0_t3_body
  refine W_bind ?_
  rw [k0_part4_eq_skeleton]
  delta k0_part4_skel
  refine W_bind (W_load3 ?_)
  refine W_bind (W_load6 ?_)
  refine W_bind (W_store6 fun f1 h1 => ?_)
  refine W_pure ?_
  refine W_bind ?_
  rw [k0_part5_eq_skeleton]
  delta k0_part5_skel
  refine W_bind (W_load6 ?_)
  refine W_bind (W_store6 fun f2 h2 => ?_)
  refine W_pure ?_
  refine W_bind ?_
  rw [k0_part6_eq_skeleton]
  delta k0_part6_skel
  refine W_bind (W_load6 ?_)
  refine W_bind (W_store6 fun f3 h3 => ?_)
  refine W_pure ?_
  refine W_bind (W_load6 ?_)
  refine W_bind (W_store6 fun f4 h4 => ?_)
  refine W_pure ⟨?_, hs.2⟩
  have hx := read_codes (X := X) (inb := k0_off3_inb i a b hc) _ _ (off3_eq a b) (by omega) (by omega)
  have o1 := ok_store (192 * a.val + 32 * b.val) 128 0 (by omega) (off4_eq i a b 0 (by omega)) (by omega) (by omega) hv hx (fun j => pay_24_0 v _ j) h1 hs.1
  have o2 := ok_store (192 * a.val + 32 * b.val) 128 8 (by omega) (off4_eq i a b 8 (by omega)) (by omega) (by omega) hv hx (fun j => pay_24_8 v _ j) h2 o1
  have o3 := ok_store (192 * a.val + 32 * b.val) 128 16 (by omega) (off4_eq i a b 16 (by omega)) (by omega) (by omega) hv hx (fun j => pay_24_16 v _ j) h3 o2
  have o4 := ok_store (192 * a.val + 32 * b.val) 128 24 (by omega) (off4_eq i a b 24 (by omega)) (by omega) (by omega) hv hx (fun j => pay_24_24 v _ j) h4 o3
  refine o4.mono fun r c _ _ hr => ?_
  rcases hr with hr | ⟨k1, k2, k3, k4⟩
  · exact .inl (.inl (.inl (.inl (.inl hr))))
  · by_cases u0 : r < 192 * a.val + 32 * b.val
    · exact .inl (.inl (.inl (.inl (.inr ⟨k1, u0, k3, k4⟩))))
    by_cases u1 : r < 192 * a.val + 32 * b.val + 8
    · exact .inl (.inl (.inl (.inr (by omega))))
    by_cases u2 : r < 192 * a.val + 32 * b.val + 16
    · exact .inl (.inl (.inr (by omega)))
    by_cases u3 : r < 192 * a.val + 32 * b.val + 24
    · exact .inl (.inr (by omega))
    · exact .inr (by omega)

/-- One trip of a decode loop decodes its rows. -/
theorem t5_body_w (i : grid0.Coords) (hc : k0_cond2 i = 1#1) (a : Fin k0_t4_loop.trips) (v12 v14 : BitVec 32) (v : Vec F S8x128 .i32)
    (hv : ∀ (k : Fin 8) (c : Fin 128), v (ix2 k c) = X.x4 (ix2 k ⟨0 + c.val, by omega⟩)) (D : ℕ → ℕ → Prop) (g : S1536x256.Idx → BitVec 32) (g5 : S1920x256.Idx → Elt F .bf16)
    (b : Fin k0_t5_loop.trips) (acc : Unit) (s : St F)
    (hs : Ok X (par i) (fun r c => D r c ∨ (192 * a.val ≤ r ∧ r < 192 * a.val + 32 * b.val ∧ 0 ≤ c ∧ c < 0 + 128)) g s.s6 ∧ s.s5 = g5) :
    W c ms X bd (k0_t5_body (F := F) i ms.a1 ms.h1 ms.a2 ms.h2 ms.a3 ms.h3 ms.a4 ms.h4 ms.a5 ms.h5 ms.a6 ms.h6 hc a v12 v14 v b acc)
      (fun _ s' => Ok X (par i) (fun r c => D r c ∨ (192 * a.val ≤ r ∧ r < 192 * a.val + 32 * (b.val + 1) ∧ 0 ≤ c ∧ c < 0 + 128)) g s'.s6 ∧ s'.s5 = g5) s := by
  have ha := trip4_4 a
  have hb := trip6_5 b
  delta k0_t5_body
  refine W_bind ?_
  rw [k0_part7_eq_skeleton]
  delta k0_part7_skel
  refine W_bind (W_load3 ?_)
  refine W_bind (W_load6 ?_)
  refine W_bind (W_store6 fun f1 h1 => ?_)
  refine W_pure ?_
  refine W_bind ?_
  rw [k0_part8_eq_skeleton]
  delta k0_part8_skel
  refine W_bind (W_load6 ?_)
  refine W_bind (W_store6 fun f2 h2 => ?_)
  refine W_pure ?_
  refine W_bind ?_
  rw [k0_part9_eq_skeleton]
  delta k0_part9_skel
  refine W_bind (W_load6 ?_)
  refine W_bind (W_store6 fun f3 h3 => ?_)
  refine W_pure ?_
  refine W_bind (W_load6 ?_)
  refine W_bind (W_store6 fun f4 h4 => ?_)
  refine W_pure ⟨?_, hs.2⟩
  have hx := read_codes (X := X) (inb := k0_off8_inb i a b hc) _ _ (off8_eq a b) (by omega) (by omega)
  have o1 := ok_store (192 * a.val + 32 * b.val) 0 0 (by omega) (off9_eq i a b 0 (by omega)) (by omega) (by omega) hv hx (fun j => pay_38_0 v _ j) h1 hs.1
  have o2 := ok_store (192 * a.val + 32 * b.val) 0 8 (by omega) (off9_eq i a b 8 (by omega)) (by omega) (by omega) hv hx (fun j => pay_38_8 v _ j) h2 o1
  have o3 := ok_store (192 * a.val + 32 * b.val) 0 16 (by omega) (off9_eq i a b 16 (by omega)) (by omega) (by omega) hv hx (fun j => pay_38_16 v _ j) h3 o2
  have o4 := ok_store (192 * a.val + 32 * b.val) 0 24 (by omega) (off9_eq i a b 24 (by omega)) (by omega) (by omega) hv hx (fun j => pay_38_24 v _ j) h4 o3
  refine o4.mono fun r c _ _ hr => ?_
  rcases hr with hr | ⟨k1, k2, k3, k4⟩
  · exact .inl (.inl (.inl (.inl (.inl hr))))
  · by_cases u0 : r < 192 * a.val + 32 * b.val
    · exact .inl (.inl (.inl (.inl (.inr ⟨k1, u0, k3, k4⟩))))
    by_cases u1 : r < 192 * a.val + 32 * b.val + 8
    · exact .inl (.inl (.inl (.inr (by omega))))
    by_cases u2 : r < 192 * a.val + 32 * b.val + 16
    · exact .inl (.inl (.inr (by omega)))
    by_cases u3 : r < 192 * a.val + 32 * b.val + 24
    · exact .inl (.inr (by omega))
    · exact .inr (by omega)

/-- One trip of a decode loop decodes its rows. -/
theorem t6_body_w (i : grid0.Coords) (hc : k0_cond2 i = 1#1) (a : Fin k0_t4_loop.trips) (v12 v14 : BitVec 32) (v : Vec F S8x128 .i32)
    (hv : ∀ (k : Fin 8) (c : Fin 128), v (ix2 k c) = X.x4 (ix2 k ⟨128 + c.val, by omega⟩)) (D : ℕ → ℕ → Prop) (g : S1536x256.Idx → BitVec 32) (g5 : S1920x256.Idx → Elt F .bf16)
    (b : Fin k0_t6_loop.trips) (acc : Unit) (s : St F)
    (hs : Ok X (par i) (fun r c => D r c ∨ (192 * a.val ≤ r ∧ r < 192 * a.val + 32 * b.val ∧ 128 ≤ c ∧ c < 128 + 128)) g s.s6 ∧ s.s5 = g5) :
    W c ms X bd (k0_t6_body (F := F) i ms.a1 ms.h1 ms.a2 ms.h2 ms.a3 ms.h3 ms.a4 ms.h4 ms.a5 ms.h5 ms.a6 ms.h6 hc a v12 v14 v b acc)
      (fun _ s' => Ok X (par i) (fun r c => D r c ∨ (192 * a.val ≤ r ∧ r < 192 * a.val + 32 * (b.val + 1) ∧ 128 ≤ c ∧ c < 128 + 128)) g s'.s6 ∧ s'.s5 = g5) s := by
  have ha := trip4_4 a
  have hb := trip6_6 b
  delta k0_t6_body
  refine W_bind ?_
  rw [k0_part10_eq_skeleton]
  delta k0_part10_skel
  refine W_bind (W_load3 ?_)
  refine W_bind (W_load6 ?_)
  refine W_bind (W_store6 fun f1 h1 => ?_)
  refine W_pure ?_
  refine W_bind ?_
  rw [k0_part11_eq_skeleton]
  delta k0_part11_skel
  refine W_bind (W_load6 ?_)
  refine W_bind (W_store6 fun f2 h2 => ?_)
  refine W_pure ?_
  refine W_bind ?_
  rw [k0_part12_eq_skeleton]
  delta k0_part12_skel
  refine W_bind (W_load6 ?_)
  refine W_bind (W_store6 fun f3 h3 => ?_)
  refine W_pure ?_
  refine W_bind (W_load6 ?_)
  refine W_bind (W_store6 fun f4 h4 => ?_)
  refine W_pure ⟨?_, hs.2⟩
  have hx := read_codes (X := X) (inb := k0_off10_inb i a b hc) _ _ (off10_eq a b) (by omega) (by omega)
  have o1 := ok_store (192 * a.val + 32 * b.val) 128 0 (by omega) (off11_eq i a b 0 (by omega)) (by omega) (by omega) hv hx (fun j => pay_52_0 v _ j) h1 hs.1
  have o2 := ok_store (192 * a.val + 32 * b.val) 128 8 (by omega) (off11_eq i a b 8 (by omega)) (by omega) (by omega) hv hx (fun j => pay_52_8 v _ j) h2 o1
  have o3 := ok_store (192 * a.val + 32 * b.val) 128 16 (by omega) (off11_eq i a b 16 (by omega)) (by omega) (by omega) hv hx (fun j => pay_52_16 v _ j) h3 o2
  have o4 := ok_store (192 * a.val + 32 * b.val) 128 24 (by omega) (off11_eq i a b 24 (by omega)) (by omega) (by omega) hv hx (fun j => pay_52_24 v _ j) h4 o3
  refine o4.mono fun r c _ _ hr => ?_
  rcases hr with hr | ⟨k1, k2, k3, k4⟩
  · exact .inl (.inl (.inl (.inl (.inl hr))))
  · by_cases u0 : r < 192 * a.val + 32 * b.val
    · exact .inl (.inl (.inl (.inl (.inr ⟨k1, u0, k3, k4⟩))))
    by_cases u1 : r < 192 * a.val + 32 * b.val + 8
    · exact .inl (.inl (.inl (.inr (by omega))))
    by_cases u2 : r < 192 * a.val + 32 * b.val + 16
    · exact .inl (.inl (.inr (by omega)))
    by_cases u3 : r < 192 * a.val + 32 * b.val + 24
    · exact .inl (.inr (by omega))
    · exact .inr (by omega)

theorem read_tab {inb : ∀ a, (![0, 0] : Fin 2 → ℕ) a + S8x128.size a ≤ S8x256.size a} (k : Fin 8) (c : Fin 128) :
    X.x4 ((Rect.unit (s := S8x256) ![0, 0] S8x128.size inb).toLoadRect.idx (ix2 k c)) = X.x4 (ix2 k ⟨0 + c.val, by omega⟩) := by
  refine congrArg X.x4 (funext fun a => Fin.ext ?_)
  match a with
  | ⟨0, _⟩ => exact (congrArg (0 + ·) (Nat.one_mul _)).trans (Nat.zero_add _)
  | ⟨1, _⟩ => exact congrArg (0 + ·) (Nat.one_mul _)
theorem read_tab' {inb : ∀ a, (![0, 128] : Fin 2 → ℕ) a + S8x128.size a ≤ S8x256.size a} (k : Fin 8) (c : Fin 128) :
    X.x4 ((Rect.unit (s := S8x256) ![0, 128] S8x128.size inb).toLoadRect.idx (ix2 k c)) = X.x4 (ix2 k ⟨128 + c.val, by omega⟩) := by
  refine congrArg X.x4 (funext fun a => Fin.ext ?_)
  match a with
  | ⟨0, _⟩ => exact (congrArg (0 + ·) (Nat.one_mul _)).trans (Nat.zero_add _)
  | ⟨1, _⟩ => exact congrArg (128 + ·) (Nat.one_mul _)

/-- One half of the decoded weights. -/
def half (p : Fin 2) (g : S1536x256.Idx → BitVec 32) : S768x256.Idx → BitVec 32 := fun j => g (ix2 (row p (j 0)) (j 1))

/-- One chunk of 480 rows of the output block: the product with the decoded half, the given sums added, rounded. -/
def prod (X : Ins F) (wd : S768x256.Idx → BitVec 32) (k : Fin 4) : S480x256.Idx → Elt F .bf16 :=
  k0_pay5 wd (fun j => X.x1 (ix2 ⟨480 * k.val + (j 0).val, by have := idx2_lt0 j; omega⟩ (j 1)))
    (fun j => X.x2 (ix2 ⟨480 * k.val + (j 0).val, by have := idx2_lt0 j; omega⟩ (j 1)))

/-- One trip of the first point's loop decodes 192 rows. -/
theorem t1_body_w (i : grid0.Coords) (v1 : BitVec 32) (hc : k0_cond1 i = 1#1) (g : S1536x256.Idx → BitVec 32)
    (a : Fin k0_t1_loop.trips) (acc : Unit) (s : St F) (hs : Ok X (par i) (fun r _ => r < 192 * a.val) g s.s6) :
    W c ms X bd (k0_t1_body (F := F) i ms.a1 ms.h1 ms.a2 ms.h2 ms.a3 ms.h3 ms.a4 ms.h4 ms.a5 ms.h5 ms.a6 ms.h6 v1 hc a acc)
      (fun _ s' => Ok X (par i) (fun r _ => r < 192 * (a.val + 1)) g s'.s6) s := by
  have ha := trip4_1 a
  have OK0 := hs
  delta k0_t1_body
  refine W_bind (W_load4 ?_)
  refine W_bind (W_for (fun n _ s' => Ok X (par i) (fun r c => r < 192 * a.val ∨ (192 * a.val ≤ r ∧ r < 192 * a.val + 32 * n ∧ 0 ≤ c ∧ c < 0 + 128)) g s'.s6 ∧ s'.s5 = s.s5) ?_ ?_ ?_)
  · exact ⟨OK0.mono fun r c _ _ hr => by omega, rfl⟩
  · intro b acc s' hs'
    exact t2_body_w i hc a _ _ _ (read_tab (inb := inb_S8x256_S8x128_0_0)) (fun r _ => r < 192 * a.val) g _ b acc s' hs'
  intro _ s1 hs1
  refine W_bind (W_load4 ?_)
  refine W_bind (W_for (fun n _ s' => Ok X (par i) (fun r c => (r < 192 * a.val ∨ (192 * a.val ≤ r ∧ r < 192 * a.val + 32 * 6 ∧ 0 ≤ c ∧ c < 0 + 128)) ∨ (192 * a.val ≤ r ∧ r < 192 * a.val + 32 * n ∧ 128 ≤ c ∧ c < 128 + 128)) g s'.s6 ∧ s'.s5 = s.s5) ?_ ?_ ?_)
  · exact ⟨hs1.1.mono fun r c _ _ hr => by rcases hr with hr | hr; exact hr; omega, hs1.2⟩
  · intro b acc s' hs'
    exact t3_body_w i hc a _ _ _ (read_tab' (inb := inb_S8x256_S8x128_0_128)) (fun r c => r < 192 * a.val ∨ (192 * a.val ≤ r ∧ r < 192 * a.val + 32 * 6 ∧ 0 ≤ c ∧ c < 0 + 128)) g _ b acc s' hs'
  intro _ s2 hs2
  refine W_pure (hs2.1.mono fun r c _ hc' hr => ?_)
  show (r < 192 * a.val ∨ (192 * a.val ≤ r ∧ r < 192 * a.val + 32 * 6 ∧ 0 ≤ c ∧ c < 0 + 128)) ∨ (192 * a.val ≤ r ∧ r < 192 * a.val + 32 * 6 ∧ 128 ≤ c ∧ c < 128 + 128)
  omega

/-- What the output block holds after `n` chunks. -/
def Mul (X : Ins F) (wd : S768x256.Idx → BitVec 32) (n : ℕ) (f : S1920x256.Idx → Elt F .bf16) : Prop :=
  ∀ (k : Fin 4), k.val < n → ∀ (r : Fin 480) (c : Fin 256), f (ix2 ⟨480 * k.val + r.val, by omega⟩ c) = prod X wd k (ix2 r c)

/-- One stored chunk. -/
theorem mul_store {X : Ins F} {wd : S768x256.Idx → BitVec 32} {k : Fin 4} {f f' : S1920x256.Idx → Elt F .bf16} {off : Fin 2 → ℕ}
    {inb : ∀ a, off a + S480x256.size a ≤ S1920x256.size a} {w : S480x256.Idx → Elt F .bf16} (hoff : off = ![480 * k.val, 0])
    (hw : w = prod X wd k) (hU : Upd (Rect.unit (s := S1920x256) off S480x256.size inb) w f f') (hf : Mul X wd k.val f) :
    Mul X wd (k.val + 1) f' := by
  subst hoff
  subst hw
  have e0 : ∀ j : S480x256.Idx, (((Rect.unit (s := S1920x256) ![480 * k.val, 0] S480x256.size inb).emb j) 0).val = 480 * k.val + (j 0).val := fun j => by
    rw [Rect.emb_apply]; show _ + 1 * _ = _; rw [one_mul]; rfl
  have e1 : ∀ j : S480x256.Idx, (((Rect.unit (s := S1920x256) ![480 * k.val, 0] S480x256.size inb).emb j) 1).val = (j 1).val := fun j => by
    rw [Rect.emb_apply]; show 0 + 1 * _ = _; rw [one_mul, Nat.zero_add]
  intro m hm r c
  by_cases hmk : m = k
  · subst hmk
    have hj := hU.1 (ix2 (n0 := 480) (n1 := 256) r c)
    have hi : (Rect.unit (s := S1920x256) ![480 * m.val, 0] S480x256.size inb).emb (ix2 (n0 := 480) (n1 := 256) r c) = ix2 ⟨480 * m.val + r.val, by omega⟩ c := by
      funext a
      match a with
      | ⟨0, _⟩ => exact Fin.ext (e0 _)
      | ⟨1, _⟩ => exact Fin.ext (e1 _)
    rw [hi] at hj
    exact hj
  · have hlt : m.val < k.val := by
      have : m.val ≠ k.val := fun h => hmk (Fin.ext h)
      omega
    rw [hU.2 _ fun j hj => ?_]
    · exact hf m hlt r c
    · have h0 := (e0 j).symm.trans (congrArg (fun i => (i 0).val) hj)
      have h0' : 480 * k.val + (j 0).val = 480 * m.val + r.val := h0
      have l0 := idx2_lt0 j
      omega

theorem read_half {p : Fin 2} {D : ℕ → ℕ → Prop} {g f : S1536x256.Idx → BitVec 32} (hf : Ok X p D g f) {off : Fin 2 → ℕ}
    {inb : ∀ a, off a + S768x256.size a ≤ S1536x256.size a} (hoff : off = ![(alt p).val * 768, 0]) :
    (fun j => f ((Rect.unit (s := S1536x256) off S768x256.size inb).toLoadRect.idx j)) = half (alt p) g := by
  subst hoff
  funext j
  refine Eq.trans (congrArg f ?_) (hf.2 (j 0) (j 1))
  funext a
  match a with
  | ⟨0, _⟩ => exact Fin.ext (congrArg (_ + ·) (Nat.one_mul _))
  | ⟨1, _⟩ => exact Fin.ext ((congrArg (0 + ·) (Nat.one_mul _)).trans (Nat.zero_add _))

theorem read_chunk {n : ℕ} {α : Type} (k : Fin 4) (f : (⟨2, ![1920, n]⟩ : Shape).Idx → α) {off : Fin 2 → ℕ}
    {inb : ∀ a, off a + (⟨2, ![480, n]⟩ : Shape).size a ≤ (⟨2, ![1920, n]⟩ : Shape).size a} (hoff : off = ![480 * k.val, 0]) :
    (fun j => f ((Rect.unit (s := (⟨2, ![1920, n]⟩ : Shape)) off (⟨2, ![480, n]⟩ : Shape).size inb).toLoadRect.idx j))
      = fun j : (⟨2, ![480, n]⟩ : Shape).Idx => f (ix2 ⟨480 * k.val + (j 0).val, by have := idx2_lt0 j; omega⟩ (j 1)) := by
  subst hoff
  funext j
  refine congrArg f ?_
  funext a
  match a with
  | ⟨0, _⟩ => exact Fin.ext (congrArg (_ + ·) (Nat.one_mul _))
  | ⟨1, _⟩ => exact Fin.ext ((congrArg (0 + ·) (Nat.one_mul _)).trans (Nat.zero_add _))

/-- One trip of a later point's loop multiplies one chunk by the half decoded before and decodes 192 rows. -/
theorem t4_body_w (i : grid0.Coords) (v1 : BitVec 32) (hc : k0_cond2 i = 1#1) (g : S1536x256.Idx → BitVec 32)
    (a : Fin k0_t4_loop.trips) (acc : Unit) (s : St F) (hs : Ok X (par i) (fun r _ => r < 192 * a.val) g s.s6 ∧ Mul X (half (alt (par i)) g) a.val s.s5) :
    W c ms X bd (k0_t4_body (F := F) i ms.a1 ms.h1 ms.a2 ms.h2 ms.a3 ms.h3 ms.a4 ms.h4 ms.a5 ms.h5 ms.a6 ms.h6 v1 hc a acc)
      (fun _ s' => Ok X (par i) (fun r _ => r < 192 * (a.val + 1)) g s'.s6 ∧ Mul X (half (alt (par i)) g) (a.val + 1) s'.s5) s := by
  have ha := trip4_4 a
  have OK0 := hs.1
  delta k0_t4_body
  refine W_bind (W_load6 ?_)
  refine W_bind (W_load1 ?_)
  refine W_bind (W_load2 ?_)
  refine W_bind (W_load5 ?_)
  refine W_bind (W_store5 fun f5 hU => ?_)
  have hM := mul_store (X := X) (k := ⟨a.val, ha⟩) (wd := half (alt (par i)) g) (off7_eq a) (by
    unfold prod
    rw [← read_half hs.1 (inb := k0_off5_inb i hc) (off5_eq i), ← read_chunk (n := 1536) ⟨a.val, ha⟩ X.x1 (inb := k0_off6_inb i a hc) (off6_eq a), ← read_chunk (n := 256) ⟨a.val, ha⟩ X.x2 (inb := k0_off7_inb i a hc) (off7_eq a)]) hU hs.2
  clear hU
  refine W_bind (W_load4 ?_)
  refine W_bind (W_for (fun n _ s' => Ok X (par i) (fun r c => r < 192 * a.val ∨ (192 * a.val ≤ r ∧ r < 192 * a.val + 32 * n ∧ 0 ≤ c ∧ c < 0 + 128)) g s'.s6 ∧ s'.s5 = f5) ?_ ?_ ?_)
  · exact ⟨OK0.mono fun r c _ _ hr => by omega, rfl⟩
  · intro b acc s' hs'
    exact t5_body_w i hc a _ _ _ (read_tab (inb := inb_S8x256_S8x128_0_0)) (fun r _ => r < 192 * a.val) g _ b acc s' hs'
  intro _ s1 hs1
  refine W_bind (W_load4 ?_)
  refine W_bind (W_for (fun n _ s' => Ok X (par i) (fun r c => (r < 192 * a.val ∨ (192 * a.val ≤ r ∧ r < 192 * a.val + 32 * 6 ∧ 0 ≤ c ∧ c < 0 + 128)) ∨ (192 * a.val ≤ r ∧ r < 192 * a.val + 32 * n ∧ 128 ≤ c ∧ c < 128 + 128)) g s'.s6 ∧ s'.s5 = f5) ?_ ?_ ?_)
  · exact ⟨hs1.1.mono fun r c _ _ hr => by rcases hr with hr | hr; exact hr; omega, hs1.2⟩
  · intro b acc s' hs'
    exact t6_body_w i hc a _ _ _ (read_tab' (inb := inb_S8x256_S8x128_0_128)) (fun r c => r < 192 * a.val ∨ (192 * a.val ≤ r ∧ r < 192 * a.val + 32 * 6 ∧ 0 ≤ c ∧ c < 0 + 128)) g _ b acc s' hs'
  intro _ s2 hs2
  refine W_pure ⟨hs2.1.mono fun r c _ hc' hr => ?_, by rw [hs2.2]; exact hM⟩
  show (r < 192 * a.val ∨ (192 * a.val ≤ r ∧ r < 192 * a.val + 32 * 6 ∧ 0 ≤ c ∧ c < 0 + 128)) ∨ (192 * a.val ≤ r ∧ r < 192 * a.val + 32 * 6 ∧ 128 ≤ c ∧ c < 128 + 128)
  omega

theorem cond1_iff (i : grid0.Coords) : k0_cond1 i = 1#1 ↔ (i 0).val = 0 := by
  have h : ∀ n : Fin 36, Scalar.cmpi .ne (Scalar.extui (Scalar.cmpi .eq (BitVec.ofNat 32 n.val) 0#32) : BitVec 32) 0#32 = 1#1 ↔ n.val = 0 := by decide
  exact h (i 0)
theorem cond2_iff (i : grid0.Coords) : k0_cond2 i = 1#1 ↔ 0 < (i 0).val := by
  have h : ∀ n : Fin 36, Scalar.cmpi .ne (Scalar.extui (Scalar.cmpi .sgt (BitVec.ofNat 32 n.val) 0#32) : BitVec 32) 0#32 = 1#1 ↔ 0 < n.val := by decide
  exact h (i 0)

/-- What the body leaves at a grid point: its half decoded, and after the first point the product with the other half. -/
def Post (X : Ins F) (i : grid0.Coords) (s s' : St F) : Prop :=
  (∀ (r : Fin 768) (c : Fin 256), s'.s6 (ix2 (row (par i) r) c) = dec X r c) ∧
    (0 < (i 0).val → Mul X (half (alt (par i)) s.s6) 4 s'.s5)

/-- The body at a grid point. -/
theorem body_w (i : grid0.Coords) (s : St F) : W c ms X bd (cc0_lut4_linear (F := F) i ms.a1 ms.h1 ms.a2 ms.h2 ms.a3 ms.h3 ms.a4 ms.h4 ms.a5 ms.h5 ms.a6 ms.h6) (fun _ s' => Post X i s s') s := by
  rw [cc0_lut4_linear_eq_skeleton]
  delta cc0_lut4_linear_skel
  extract_lets a0 v0 v1 j1 j2
  have hfin : ∀ s', Post X i s s' → W c ms X bd (j1 ⟨⟩) (fun _ s' => Post X i s s') s' := fun s' h => W_pure h
  by_cases h0 : (i 0).val = 0
  · have h2 : ∀ s', Post X i s s' → W c ms X bd (j2 ⟨⟩) (fun _ s' => Post X i s s') s' := fun s' h => by
      refine W_dite (fun h' => ?_) (fun h' => hfin _ h)
      have := (cond2_iff i).1 h'
      omega
    refine W_dite (fun h => ?_) (fun h => absurd ((cond1_iff i).2 h0) h)
    refine W_bind (W_for (fun n _ s' => Ok X (par i) (fun r _ => r < 192 * n) s.s6 s'.s6) ?_ ?_ ?_)
    · exact ⟨fun r c hr => absurd hr (Nat.not_lt_zero _), fun _ _ => rfl⟩
    · intro k acc s' hs'
      exact t1_body_w i _ h s.s6 k acc s' hs'
    intro _ s' hs'
    refine h2 _ ⟨fun r c => hs'.1 r c ?_, fun h => ?_⟩
    · show r.val < 192 * 4
      omega
    · omega
  · refine W_dite (fun h => absurd ((cond1_iff i).1 h) h0) (fun h => ?_)
    refine W_dite (fun h => ?_) (fun h => absurd ((cond2_iff i).2 (Nat.pos_of_ne_zero h0)) h)
    refine W_bind (W_for (fun n _ s' => Ok X (par i) (fun r _ => r < 192 * n) s.s6 s'.s6 ∧ Mul X (half (alt (par i)) s.s6) n s'.s5) ?_ ?_ ?_)
    · exact ⟨⟨fun r c hr => absurd hr (Nat.not_lt_zero _), fun _ _ => rfl⟩, fun k hk => absurd hk (Nat.not_lt_zero _)⟩
    · intro k acc s' hs'
      exact t4_body_w i _ h s.s6 k acc s' hs'
    intro _ s' hs'
    refine hfin _ ⟨fun r c => hs'.1.1 r c ?_, fun _ => hs'.2⟩
    show r.val < 192 * 4
    omega

end Body

end Cert.Proof.DI
-- ==== Proof.D.Body.lean ====
/-
  The triples of `Dense`'s body: what each loop, and the body at a grid point, leaves in the decoded weights and in
  the output block.
-/
module

public import proofs.«01_k».proof.Proof.D.Dec
public import proofs.«01_k».proof.Proof.DI.Body

@[expose] public section

noncomputable section

namespace Cert.Proof.D

open Cert.Dense Cert.Dense.Gen
open Idealize.ShloMosaic Idealize.ShloMosaic.WordArith Idealize.ShloMosaic.ValueIdx Idealize.SL.Sem

variable {F : FTy → Type} [FloatOps F]

/-- The half of the decoded weights that a grid point fills. -/
def par (i : grid0.Coords) : Fin 2 := ⟨(i 0).val % 2, Nat.mod_lt _ (by decide)⟩
/-- The other half, which it multiplies with. -/
def alt (p : Fin 2) : Fin 2 := ⟨1 - p.val, by omega⟩
/-- A row of one half among the rows of both. -/
def row (p : Fin 2) (r : Fin 768) : Fin 1536 := ⟨p.val * 768 + r.val, by omega⟩
theorem trip4_1 (t : Fin k0_t1_loop.trips) : t.val < 4 := t.isLt
theorem trip6_2 (t : Fin k0_t2_loop.trips) : t.val < 6 := t.isLt
theorem trip6_3 (t : Fin k0_t3_loop.trips) : t.val < 6 := t.isLt
theorem trip4_4 (t : Fin k0_t4_loop.trips) : t.val < 4 := t.isLt
theorem trip6_5 (t : Fin k0_t5_loop.trips) : t.val < 6 := t.isLt
theorem trip6_6 (t : Fin k0_t6_loop.trips) : t.val < 6 := t.isLt
theorem off5_eq (i : grid0.Coords) : k0_off5 i = ![(alt (par i)).val * 768, 0] := DI.off5_eq i
theorem off6_eq (t : Fin k0_t4_loop.trips) : k0_off6 t = ![480 * t.val, 0] := DI.off6_eq t
theorem off7_eq (t : Fin k0_t4_loop.trips) : k0_off7 t = ![480 * t.val, 0] := DI.off7_eq t
theorem off1_eq (a : Fin k0_t1_loop.trips) (b : Fin k0_t2_loop.trips) : k0_off1 a b = ![192 * a.val + 32 * b.val, 0] := DI.off1_eq a b
theorem off2_eq (i : grid0.Coords) (a : Fin k0_t1_loop.trips) (b : Fin k0_t2_loop.trips) (z : ℕ) (hz : z < 32) :
    k0_off2 i a b (BitVec.ofNat 32 z) = ![(par i).val * 768 + (192 * a.val + 32 * b.val + z), 0] := DI.off2_eq i a b z hz
theorem off3_eq (a : Fin k0_t1_loop.trips) (b : Fin k0_t3_loop.trips) : k0_off3 a b = ![192 * a.val + 32 * b.val, 128] := DI.off3_eq a b
theorem off4_eq (i : grid0.Coords) (a : Fin k0_t1_loop.trips) (b : Fin k0_t3_loop.trips) (z : ℕ) (hz : z < 32) :
    k0_off4 i a b (BitVec.ofNat 32 z) = ![(par i).val * 768 + (192 * a.val + 32 * b.val + z), 128] := DI.off4_eq i a b z hz
theorem off8_eq (a : Fin k0_t4_loop.trips) (b : Fin k0_t5_loop.trips) : k0_off8 a b = ![192 * a.val + 32 * b.val, 0] := DI.off8_eq a b
theorem off9_eq (i : grid0.Coords) (a : Fin k0_t4_loop.trips) (b : Fin k0_t5_loop.trips) (z : ℕ) (hz : z < 32) :
    k0_off9 i a b (BitVec.ofNat 32 z) = ![(par i).val * 768 + (192 * a.val + 32 * b.val + z), 0] := DI.off9_eq i a b z hz
theorem off10_eq (a : Fin k0_t4_loop.trips) (b : Fin k0_t6_loop.trips) : k0_off10 a b = ![192 * a.val + 32 * b.val, 128] := DI.off10_eq a b
theorem off11_eq (i : grid0.Coords) (a : Fin k0_t4_loop.trips) (b : Fin k0_t6_loop.trips) (z : ℕ) (hz : z < 32) :
    k0_off11 i a b (BitVec.ofNat 32 z) = ![(par i).val * 768 + (192 * a.val + 32 * b.val + z), 128] := DI.off11_eq i a b z hz

/-- The decoded word of one entry. -/
def dec (X : Ins F) (r : Fin 768) (c : Fin 256) : BitVec 32 := decW (fun k => X.x4 (ix2 k c)) (X.x3 (ix2 r c))

/-- One half decoded where `D` says, the rest as in `g`. -/
def Ok (X : Ins F) (p : Fin 2) (D : ℕ → ℕ → Prop) (g f : S1536x256.Idx → BitVec 32) : Prop :=
  (∀ (r : Fin 768) (c : Fin 256), D r.val c.val → f (ix2 (row p r) c) = dec X r c) ∧
    ∀ (r : Fin 768) (c : Fin 256), f (ix2 (row (alt p) r) c) = g (ix2 (row (alt p) r) c)

theorem Ok.mono {X : Ins F} {p : Fin 2} {D D' : ℕ → ℕ → Prop} {g f : S1536x256.Idx → BitVec 32} (h : Ok X p D g f)
    (hD : ∀ r c, r < 768 → c < 256 → D' r c → D r c) : Ok X p D' g f :=
  ⟨fun r c hr => h.1 r c (hD _ _ r.isLt c.isLt hr), h.2⟩

/-- One stored tile of decoded words. -/
theorem ok_store {X : Ins F} {p : Fin 2} {D : ℕ → ℕ → Prop} {g f f' : S1536x256.Idx → BitVec 32} {off : Fin 2 → ℕ}
    {inb : ∀ a, off a + S8x128.size a ≤ S1536x256.size a} {w : S8x128.Idx → BitVec 32} (q h z : ℕ) (hz : z + 8 ≤ 32)
    (hoff : off = ![p.val * 768 + (q + z), h]) (hq : q + 32 ≤ 768) (hh : h + 128 ≤ 256)
    {v : S8x128.Idx → BitVec 32} {x : S32x128.Idx → BitVec 8}
    (hv : ∀ (k : Fin 8) (c : Fin 128), v (ix2 k c) = X.x4 (ix2 k ⟨h + c.val, by omega⟩))
    (hx : ∀ (r : Fin 32) (c : Fin 128), x (ix2 r c) = X.x3 (ix2 ⟨q + r.val, by omega⟩ ⟨h + c.val, by omega⟩))
    (hw : ∀ j : S8x128.Idx, w j = decW (fun k => v (ix2 k (j 1))) (x (ix2 ⟨z + (j 0).val, by have := idx2_lt0 j; omega⟩ (j 1))))
    (hU : Upd (Rect.unit (s := S1536x256) off S8x128.size inb) w f f') (hf : Ok X p D g f) :
    Ok X p (fun r c => D r c ∨ (q + z ≤ r ∧ r < q + z + 8 ∧ h ≤ c ∧ c < h + 128)) g f' := DI.ok_store (X := ⟨X.x1, X.x2, X.x3, X.x4⟩) q h z hz hoff hq hh hv hx hw hU hf

section Dite
variable {c : Dev nD} {ms : Mems} {X : Ins F} {bd : Option ℕ}

/-- A conditional by its two branches. -/
theorem W_dite {α : Type} {p : Prop} {d : Decidable p} {t : p → Prog (TpuEff nD τ sig (Elt F) Λ₀ .tc) α}
    {e : ¬ p → Prog (TpuEff nD τ sig (Elt F) Λ₀ .tc) α} {Q : α → St F → Prop} {s : St F}
    (ht : ∀ h, W c ms X bd (t h) Q s) (he : ∀ h, W c ms X bd (e h) Q s) : W c ms X bd (if h : p then t h else e h) Q s := by
  by_cases h : p
  · rw [dif_pos h]; exact ht h
  · rw [dif_neg h]; exact he h

end Dite

section Body
variable {c : Dev nD} {ms : Mems} {X : Ins F} {bd : Option ℕ}

theorem read_codes {off : Fin 2 → ℕ} {inb : ∀ a, off a + S32x128.size a ≤ S768x256.size a} (q h : ℕ) (hoff : off = ![q, h]) (hq : q + 32 ≤ 768)
    (hh : h + 128 ≤ 256) (r : Fin 32) (c : Fin 128) :
    X.x3 ((Rect.unit (s := S768x256) off S32x128.size inb).toLoadRect.idx (ix2 r c)) = X.x3 (ix2 ⟨q + r.val, by omega⟩ ⟨h + c.val, by omega⟩) := by
  subst hoff
  refine congrArg X.x3 (funext fun a => Fin.ext ?_)
  match a with
  | ⟨0, _⟩ => exact congrArg (q + ·) (Nat.one_mul _)
  | ⟨1, _⟩ => exact congrArg (h + ·) (Nat.one_mul _)

/-- One trip of a decode loop decodes its rows. -/
theorem t2_body_w (i : grid0.Coords) (hc : k0_cond1 i = 1#1) (a : Fin k0_t1_loop.trips) (v12 v14 : BitVec 32) (v : Vec F S8x128 .i32)
    (hv : ∀ (k : Fin 8) (c : Fin 128), v (ix2 k c) = X.x4 (ix2 k ⟨0 + c.val, by omega⟩)) (D : ℕ → ℕ → Prop) (g : S1536x256.Idx → BitVec 32) (g5 : S1920x256.Idx → Elt F .bf16)
    (b : Fin k0_t2_loop.trips) (acc : Unit) (s : St F)
    (hs : Ok X (par i) (fun r c => D r c ∨ (192 * a.val ≤ r ∧ r < 192 * a.val + 32 * b.val ∧ 0 ≤ c ∧ c < 0 + 128)) g s.s6 ∧ s.s5 = g5) :
    W c ms X bd (k0_t2_body (F := F) i ms.a1 ms.h1 ms.a2 ms.h2 ms.a3 ms.h3 ms.a4 ms.h4 ms.a5 ms.h5 ms.a6 ms.h6 hc a v12 v14 v b acc)
      (fun _ s' => Ok X (par i) (fun r c => D r c ∨ (192 * a.val ≤ r ∧ r < 192 * a.val + 32 * (b.val + 1) ∧ 0 ≤ c ∧ c < 0 + 128)) g s'.s6 ∧ s'.s5 = g5) s := by
  have ha := trip4_1 a
  have hb := trip6_2 b
  delta k0_t2_body
  refine W_bind ?_
  rw [k0_part1_eq_skeleton]
  delta k0_part1_skel
  refine W_bind (W_load3 ?_)
  refine W_bind (W_load6 ?_)
  refine W_bind (W_store6 fun f1 h1 => ?_)
  refine W_pure ?_
  refine W_bind ?_
  rw [k0_part2_eq_skeleton]
  delta k0_part2_skel
  refine W_bind (W_load6 ?_)
  refine W_bind (W_store6 fun f2 h2 => ?_)
  refine W_pure ?_
  refine W_bind ?_
  rw [k0_part3_eq_skeleton]
  delta k0_part3_skel
  refine W_bind (W_load6 ?_)
  refine W_bind (W_store6 fun f3 h3 => ?_)
  refine W_pure ?_
  refine W_bind (W_load6 ?_)
  refine W_bind (W_store6 fun f4 h4 => ?_)
  refine W_pure ⟨?_, hs.2⟩
  have hx := read_codes (X := X) (inb := k0_off1_inb i a b hc) _ _ (off1_eq a b) (by omega) (by omega)
  have o1 := ok_store (192 * a.val + 32 * b.val) 0 0 (by omega) (off2_eq i a b 0 (by omega)) (by omega) (by omega) hv hx (fun j => pay_10_0 v _ j) h1 hs.1
  have o2 := ok_store (192 * a.val + 32 * b.val) 0 8 (by omega) (off2_eq i a b 8 (by omega)) (by omega) (by omega) hv hx (fun j => pay_10_8 v _ j) h2 o1
  have o3 := ok_store (192 * a.val + 32 * b.val) 0 16 (by omega) (off2_eq i a b 16 (by omega)) (by omega) (by omega) hv hx (fun j => pay_10_16 v _ j) h3 o2
  have o4 := ok_store (192 * a.val + 32 * b.val) 0 24 (by omega) (off2_eq i a b 24 (by omega)) (by omega) (by omega) hv hx (fun j => pay_10_24 v _ j) h4 o3
  refine o4.mono fun r c _ _ hr => ?_
  rcases hr with hr | ⟨k1, k2, k3, k4⟩
  · exact .inl (.inl (.inl (.inl (.inl hr))))
  · by_cases u0 : r < 192 * a.val + 32 * b.val
    · exact .inl (.inl (.inl (.inl (.inr ⟨k1, u0, k3, k4⟩))))
    by_cases u1 : r < 192 * a.val + 32 * b.val + 8
    · exact .inl (.inl (.inl (.inr (by omega))))
    by_cases u2 : r < 192 * a.val + 32 * b.val + 16
    · exact .inl (.inl (.inr (by omega)))
    by_cases u3 : r < 192 * a.val + 32 * b.val + 24
    · exact .inl (.inr (by omega))
    · exact .inr (by omega)

/-- One trip of a decode loop decodes its rows. -/
theorem t3_body_w (i : grid0.Coords) (hc : k0_cond1 i = 1#1) (a : Fin k0_t1_loop.trips) (v12 v14 : BitVec 32) (v : Vec F S8x128 .i32)
    (hv : ∀ (k : Fin 8) (c : Fin 128), v (ix2 k c) = X.x4 (ix2 k ⟨128 + c.val, by omega⟩)) (D : ℕ → ℕ → Prop) (g : S1536x256.Idx → BitVec 32) (g5 : S1920x256.Idx → Elt F .bf16)
    (b : Fin k0_t3_loop.trips) (acc : Unit) (s : St F)
    (hs : Ok X (par i) (fun r c => D r c ∨ (192 * a.val ≤ r ∧ r < 192 * a.val + 32 * b.val ∧ 128 ≤ c ∧ c < 128 + 128)) g s.s6 ∧ s.s5 = g5) :
    W c ms X bd (k0_t3_body (F := F) i ms.a1 ms.h1 ms.a2 ms.h2 ms.a3 ms.h3 ms.a4 ms.h4 ms.a5 ms.h5 ms.a6 ms.h6 hc a v12 v14 v b acc)
      (fun _ s' => Ok X (par i) (fun r c => D r c ∨ (192 * a.val ≤ r ∧ r < 192 * a.val + 32 * (b.val + 1) ∧ 128 ≤ c ∧ c < 128 + 128)) g s'.s6 ∧ s'.s5 = g5) s := by
  have ha := trip4_1 a
  have hb := trip6_3 b
  delta k0_t3_body
  refine W_bind ?_
  rw [k0_part4_eq_skeleton]
  delta k0_part4_skel
  refine W_bind (W_load3 ?_)
  refine W_bind (W_load6 ?_)
  refine W_bind (W_store6 fun f1 h1 => ?_)
  refine W_pure ?_
  refine W_bind ?_
  rw [k0_part5_eq_skeleton]
  delta k0_part5_skel
  refine W_bind (W_load6 ?_)
  refine W_bind (W_store6 fun f2 h2 => ?_)
  refine W_pure ?_
  refine W_bind ?_
  rw [k0_part6_eq_skeleton]
  delta k0_part6_skel
  refine W_bind (W_load6 ?_)
  refine W_bind (W_store6 fun f3 h3 => ?_)
  refine W_pure ?_
  refine W_bind (W_load6 ?_)
  refine W_bind (W_store6 fun f4 h4 => ?_)
  refine W_pure ⟨?_, hs.2⟩
  have hx := read_codes (X := X) (inb := k0_off3_inb i a b hc) _ _ (off3_eq a b) (by omega) (by omega)
  have o1 := ok_store (192 * a.val + 32 * b.val) 128 0 (by omega) (off4_eq i a b 0 (by omega)) (by omega) (by omega) hv hx (fun j => pay_24_0 v _ j) h1 hs.1
  have o2 := ok_store (192 * a.val + 32 * b.val) 128 8 (by omega) (off4_eq i a b 8 (by omega)) (by omega) (by omega) hv hx (fun j => pay_24_8 v _ j) h2 o1
  have o3 := ok_store (192 * a.val + 32 * b.val) 128 16 (by omega) (off4_eq i a b 16 (by omega)) (by omega) (by omega) hv hx (fun j => pay_24_16 v _ j) h3 o2
  have o4 := ok_store (192 * a.val + 32 * b.val) 128 24 (by omega) (off4_eq i a b 24 (by omega)) (by omega) (by omega) hv hx (fun j => pay_24_24 v _ j) h4 o3
  refine o4.mono fun r c _ _ hr => ?_
  rcases hr with hr | ⟨k1, k2, k3, k4⟩
  · exact .inl (.inl (.inl (.inl (.inl hr))))
  · by_cases u0 : r < 192 * a.val + 32 * b.val
    · exact .inl (.inl (.inl (.inl (.inr ⟨k1, u0, k3, k4⟩))))
    by_cases u1 : r < 192 * a.val + 32 * b.val + 8
    · exact .inl (.inl (.inl (.inr (by omega))))
    by_cases u2 : r < 192 * a.val + 32 * b.val + 16
    · exact .inl (.inl (.inr (by omega)))
    by_cases u3 : r < 192 * a.val + 32 * b.val + 24
    · exact .inl (.inr (by omega))
    · exact .inr (by omega)

/-- One trip of a decode loop decodes its rows. -/
theorem t5_body_w (i : grid0.Coords) (hc : k0_cond2 i = 1#1) (a : Fin k0_t4_loop.trips) (v12 v14 : BitVec 32) (v : Vec F S8x128 .i32)
    (hv : ∀ (k : Fin 8) (c : Fin 128), v (ix2 k c) = X.x4 (ix2 k ⟨0 + c.val, by omega⟩)) (D : ℕ → ℕ → Prop) (g : S1536x256.Idx → BitVec 32) (g5 : S1920x256.Idx → Elt F .bf16)
    (b : Fin k0_t5_loop.trips) (acc : Unit) (s : St F)
    (hs : Ok X (par i) (fun r c => D r c ∨ (192 * a.val ≤ r ∧ r < 192 * a.val + 32 * b.val ∧ 0 ≤ c ∧ c < 0 + 128)) g s.s6 ∧ s.s5 = g5) :
    W c ms X bd (k0_t5_body (F := F) i ms.a1 ms.h1 ms.a2 ms.h2 ms.a3 ms.h3 ms.a4 ms.h4 ms.a5 ms.h5 ms.a6 ms.h6 hc a v12 v14 v b acc)
      (fun _ s' => Ok X (par i) (fun r c => D r c ∨ (192 * a.val ≤ r ∧ r < 192 * a.val + 32 * (b.val + 1) ∧ 0 ≤ c ∧ c < 0 + 128)) g s'.s6 ∧ s'.s5 = g5) s := by
  have ha := trip4_4 a
  have hb := trip6_5 b
  delta k0_t5_body
  refine W_bind ?_
  rw [k0_part7_eq_skeleton]
  delta k0_part7_skel
  refine W_bind (W_load3 ?_)
  refine W_bind (W_load6 ?_)
  refine W_bind (W_store6 fun f1 h1 => ?_)
  refine W_pure ?_
  refine W_bind ?_
  rw [k0_part8_eq_skeleton]
  delta k0_part8_skel
  refine W_bind (W_load6 ?_)
  refine W_bind (W_store6 fun f2 h2 => ?_)
  refine W_pure ?_
  refine W_bind ?_
  rw [k0_part9_eq_skeleton]
  delta k0_part9_skel
  refine W_bind (W_load6 ?_)
  refine W_bind (W_store6 fun f3 h3 => ?_)
  refine W_pure ?_
  refine W_bind (W_load6 ?_)
  refine W_bind (W_store6 fun f4 h4 => ?_)
  refine W_pure ⟨?_, hs.2⟩
  have hx := read_codes (X := X) (inb := k0_off8_inb i a b hc) _ _ (off8_eq a b) (by omega) (by omega)
  have o1 := ok_store (192 * a.val + 32 * b.val) 0 0 (by omega) (off9_eq i a b 0 (by omega)) (by omega) (by omega) hv hx (fun j => pay_38_0 v _ j) h1 hs.1
  have o2 := ok_store (192 * a.val + 32 * b.val) 0 8 (by omega) (off9_eq i a b 8 (by omega)) (by omega) (by omega) hv hx (fun j => pay_38_8 v _ j) h2 o1
  have o3 := ok_store (192 * a.val + 32 * b.val) 0 16 (by omega) (off9_eq i a b 16 (by omega)) (by omega) (by omega) hv hx (fun j => pay_38_16 v _ j) h3 o2
  have o4 := ok_store (192 * a.val + 32 * b.val) 0 24 (by omega) (off9_eq i a b 24 (by omega)) (by omega) (by omega) hv hx (fun j => pay_38_24 v _ j) h4 o3
  refine o4.mono fun r c _ _ hr => ?_
  rcases hr with hr | ⟨k1, k2, k3, k4⟩
  · exact .inl (.inl (.inl (.inl (.inl hr))))
  · by_cases u0 : r < 192 * a.val + 32 * b.val
    · exact .inl (.inl (.inl (.inl (.inr ⟨k1, u0, k3, k4⟩))))
    by_cases u1 : r < 192 * a.val + 32 * b.val + 8
    · exact .inl (.inl (.inl (.inr (by omega))))
    by_cases u2 : r < 192 * a.val + 32 * b.val + 16
    · exact .inl (.inl (.inr (by omega)))
    by_cases u3 : r < 192 * a.val + 32 * b.val + 24
    · exact .inl (.inr (by omega))
    · exact .inr (by omega)

/-- One trip of a decode loop decodes its rows. -/
theorem t6_body_w (i : grid0.Coords) (hc : k0_cond2 i = 1#1) (a : Fin k0_t4_loop.trips) (v12 v14 : BitVec 32) (v : Vec F S8x128 .i32)
    (hv : ∀ (k : Fin 8) (c : Fin 128), v (ix2 k c) = X.x4 (ix2 k ⟨128 + c.val, by omega⟩)) (D : ℕ → ℕ → Prop) (g : S1536x256.Idx → BitVec 32) (g5 : S1920x256.Idx → Elt F .bf16)
    (b : Fin k0_t6_loop.trips) (acc : Unit) (s : St F)
    (hs : Ok X (par i) (fun r c => D r c ∨ (192 * a.val ≤ r ∧ r < 192 * a.val + 32 * b.val ∧ 128 ≤ c ∧ c < 128 + 128)) g s.s6 ∧ s.s5 = g5) :
    W c ms X bd (k0_t6_body (F := F) i ms.a1 ms.h1 ms.a2 ms.h2 ms.a3 ms.h3 ms.a4 ms.h4 ms.a5 ms.h5 ms.a6 ms.h6 hc a v12 v14 v b acc)
      (fun _ s' => Ok X (par i) (fun r c => D r c ∨ (192 * a.val ≤ r ∧ r < 192 * a.val + 32 * (b.val + 1) ∧ 128 ≤ c ∧ c < 128 + 128)) g s'.s6 ∧ s'.s5 = g5) s := by
  have ha := trip4_4 a
  have hb := trip6_6 b
  delta k0_t6_body
  refine W_bind ?_
  rw [k0_part10_eq_skeleton]
  delta k0_part10_skel
  refine W_bind (W_load3 ?_)
  refine W_bind (W_load6 ?_)
  refine W_bind (W_store6 fun f1 h1 => ?_)
  refine W_pure ?_
  refine W_bind ?_
  rw [k0_part11_eq_skeleton]
  delta k0_part11_skel
  refine W_bind (W_load6 ?_)
  refine W_bind (W_store6 fun f2 h2 => ?_)
  refine W_pure ?_
  refine W_bind ?_
  rw [k0_part12_eq_skeleton]
  delta k0_part12_skel
  refine W_bind (W_load6 ?_)
  refine W_bind (W_store6 fun f3 h3 => ?_)
  refine W_pure ?_
  refine W_bind (W_load6 ?_)
  refine W_bind (W_store6 fun f4 h4 => ?_)
  refine W_pure ⟨?_, hs.2⟩
  have hx := read_codes (X := X) (inb := k0_off10_inb i a b hc) _ _ (off10_eq a b) (by omega) (by omega)
  have o1 := ok_store (192 * a.val + 32 * b.val) 128 0 (by omega) (off11_eq i a b 0 (by omega)) (by omega) (by omega) hv hx (fun j => pay_52_0 v _ j) h1 hs.1
  have o2 := ok_store (192 * a.val + 32 * b.val) 128 8 (by omega) (off11_eq i a b 8 (by omega)) (by omega) (by omega) hv hx (fun j => pay_52_8 v _ j) h2 o1
  have o3 := ok_store (192 * a.val + 32 * b.val) 128 16 (by omega) (off11_eq i a b 16 (by omega)) (by omega) (by omega) hv hx (fun j => pay_52_16 v _ j) h3 o2
  have o4 := ok_store (192 * a.val + 32 * b.val) 128 24 (by omega) (off11_eq i a b 24 (by omega)) (by omega) (by omega) hv hx (fun j => pay_52_24 v _ j) h4 o3
  refine o4.mono fun r c _ _ hr => ?_
  rcases hr with hr | ⟨k1, k2, k3, k4⟩
  · exact .inl (.inl (.inl (.inl (.inl hr))))
  · by_cases u0 : r < 192 * a.val + 32 * b.val
    · exact .inl (.inl (.inl (.inl (.inr ⟨k1, u0, k3, k4⟩))))
    by_cases u1 : r < 192 * a.val + 32 * b.val + 8
    · exact .inl (.inl (.inl (.inr (by omega))))
    by_cases u2 : r < 192 * a.val + 32 * b.val + 16
    · exact .inl (.inl (.inr (by omega)))
    by_cases u3 : r < 192 * a.val + 32 * b.val + 24
    · exact .inl (.inr (by omega))
    · exact .inr (by omega)

theorem read_tab {inb : ∀ a, (![0, 0] : Fin 2 → ℕ) a + S8x128.size a ≤ S8x256.size a} (k : Fin 8) (c : Fin 128) :
    X.x4 ((Rect.unit (s := S8x256) ![0, 0] S8x128.size inb).toLoadRect.idx (ix2 k c)) = X.x4 (ix2 k ⟨0 + c.val, by omega⟩) := by
  refine congrArg X.x4 (funext fun a => Fin.ext ?_)
  match a with
  | ⟨0, _⟩ => exact (congrArg (0 + ·) (Nat.one_mul _)).trans (Nat.zero_add _)
  | ⟨1, _⟩ => exact congrArg (0 + ·) (Nat.one_mul _)
theorem read_tab' {inb : ∀ a, (![0, 128] : Fin 2 → ℕ) a + S8x128.size a ≤ S8x256.size a} (k : Fin 8) (c : Fin 128) :
    X.x4 ((Rect.unit (s := S8x256) ![0, 128] S8x128.size inb).toLoadRect.idx (ix2 k c)) = X.x4 (ix2 k ⟨128 + c.val, by omega⟩) := by
  refine congrArg X.x4 (funext fun a => Fin.ext ?_)
  match a with
  | ⟨0, _⟩ => exact (congrArg (0 + ·) (Nat.one_mul _)).trans (Nat.zero_add _)
  | ⟨1, _⟩ => exact congrArg (128 + ·) (Nat.one_mul _)

/-- One half of the decoded weights. -/
def half (p : Fin 2) (g : S1536x256.Idx → BitVec 32) : S768x256.Idx → BitVec 32 := fun j => g (ix2 (row p (j 0)) (j 1))

/-- One chunk of 480 rows of the output block: the product with the decoded half, the given sums added, rounded. -/
def prod (X : Ins F) (wd : S768x256.Idx → BitVec 32) (k : Fin 4) : S480x256.Idx → Elt F .bf16 :=
  k0_pay5 wd (fun j => X.x1 (ix2 ⟨480 * k.val + (j 0).val, by have := idx2_lt0 j; omega⟩ (j 1)))
    (fun j => X.x2 (ix2 ⟨480 * k.val + (j 0).val, by have := idx2_lt0 j; omega⟩ (j 1)))

/-- One trip of the first point's loop decodes 192 rows. -/
theorem t1_body_w (i : grid0.Coords) (v1 : BitVec 32) (hc : k0_cond1 i = 1#1) (g : S1536x256.Idx → BitVec 32)
    (a : Fin k0_t1_loop.trips) (acc : Unit) (s : St F) (hs : Ok X (par i) (fun r _ => r < 192 * a.val) g s.s6) :
    W c ms X bd (k0_t1_body (F := F) i ms.a1 ms.h1 ms.a2 ms.h2 ms.a3 ms.h3 ms.a4 ms.h4 ms.a5 ms.h5 ms.a6 ms.h6 v1 hc a acc)
      (fun _ s' => Ok X (par i) (fun r _ => r < 192 * (a.val + 1)) g s'.s6) s := by
  have ha := trip4_1 a
  have OK0 := hs
  delta k0_t1_body
  refine W_bind (W_load4 ?_)
  refine W_bind (W_for (fun n _ s' => Ok X (par i) (fun r c => r < 192 * a.val ∨ (192 * a.val ≤ r ∧ r < 192 * a.val + 32 * n ∧ 0 ≤ c ∧ c < 0 + 128)) g s'.s6 ∧ s'.s5 = s.s5) ?_ ?_ ?_)
  · exact ⟨OK0.mono fun r c _ _ hr => by omega, rfl⟩
  · intro b acc s' hs'
    exact t2_body_w i hc a _ _ _ (read_tab (inb := inb_S8x256_S8x128_0_0)) (fun r _ => r < 192 * a.val) g _ b acc s' hs'
  intro _ s1 hs1
  refine W_bind (W_load4 ?_)
  refine W_bind (W_for (fun n _ s' => Ok X (par i) (fun r c => (r < 192 * a.val ∨ (192 * a.val ≤ r ∧ r < 192 * a.val + 32 * 6 ∧ 0 ≤ c ∧ c < 0 + 128)) ∨ (192 * a.val ≤ r ∧ r < 192 * a.val + 32 * n ∧ 128 ≤ c ∧ c < 128 + 128)) g s'.s6 ∧ s'.s5 = s.s5) ?_ ?_ ?_)
  · exact ⟨hs1.1.mono fun r c _ _ hr => by rcases hr with hr | hr; exact hr; omega, hs1.2⟩
  · intro b acc s' hs'
    exact t3_body_w i hc a _ _ _ (read_tab' (inb := inb_S8x256_S8x128_0_128)) (fun r c => r < 192 * a.val ∨ (192 * a.val ≤ r ∧ r < 192 * a.val + 32 * 6 ∧ 0 ≤ c ∧ c < 0 + 128)) g _ b acc s' hs'
  intro _ s2 hs2
  refine W_pure (hs2.1.mono fun r c _ hc' hr => ?_)
  show (r < 192 * a.val ∨ (192 * a.val ≤ r ∧ r < 192 * a.val + 32 * 6 ∧ 0 ≤ c ∧ c < 0 + 128)) ∨ (192 * a.val ≤ r ∧ r < 192 * a.val + 32 * 6 ∧ 128 ≤ c ∧ c < 128 + 128)
  omega

/-- What the output block holds after `n` chunks. -/
def Mul (X : Ins F) (wd : S768x256.Idx → BitVec 32) (n : ℕ) (f : S1920x256.Idx → Elt F .bf16) : Prop :=
  ∀ (k : Fin 4), k.val < n → ∀ (r : Fin 480) (c : Fin 256), f (ix2 ⟨480 * k.val + r.val, by omega⟩ c) = prod X wd k (ix2 r c)

/-- One stored chunk. -/
theorem mul_store {X : Ins F} {wd : S768x256.Idx → BitVec 32} {k : Fin 4} {f f' : S1920x256.Idx → Elt F .bf16} {off : Fin 2 → ℕ}
    {inb : ∀ a, off a + S480x256.size a ≤ S1920x256.size a} {w : S480x256.Idx → Elt F .bf16} (hoff : off = ![480 * k.val, 0])
    (hw : w = prod X wd k) (hU : Upd (Rect.unit (s := S1920x256) off S480x256.size inb) w f f') (hf : Mul X wd k.val f) :
    Mul X wd (k.val + 1) f' := by
  subst hoff
  subst hw
  have e0 : ∀ j : S480x256.Idx, (((Rect.unit (s := S1920x256) ![480 * k.val, 0] S480x256.size inb).emb j) 0).val = 480 * k.val + (j 0).val := fun j => by
    rw [Rect.emb_apply]; show _ + 1 * _ = _; rw [one_mul]; rfl
  have e1 : ∀ j : S480x256.Idx, (((Rect.unit (s := S1920x256) ![480 * k.val, 0] S480x256.size inb).emb j) 1).val = (j 1).val := fun j => by
    rw [Rect.emb_apply]; show 0 + 1 * _ = _; rw [one_mul, Nat.zero_add]
  intro m hm r c
  by_cases hmk : m = k
  · subst hmk
    have hj := hU.1 (ix2 (n0 := 480) (n1 := 256) r c)
    have hi : (Rect.unit (s := S1920x256) ![480 * m.val, 0] S480x256.size inb).emb (ix2 (n0 := 480) (n1 := 256) r c) = ix2 ⟨480 * m.val + r.val, by omega⟩ c := by
      funext a
      match a with
      | ⟨0, _⟩ => exact Fin.ext (e0 _)
      | ⟨1, _⟩ => exact Fin.ext (e1 _)
    rw [hi] at hj
    exact hj
  · have hlt : m.val < k.val := by
      have : m.val ≠ k.val := fun h => hmk (Fin.ext h)
      omega
    rw [hU.2 _ fun j hj => ?_]
    · exact hf m hlt r c
    · have h0 := (e0 j).symm.trans (congrArg (fun i => (i 0).val) hj)
      have h0' : 480 * k.val + (j 0).val = 480 * m.val + r.val := h0
      have l0 := idx2_lt0 j
      omega

theorem read_half {p : Fin 2} {D : ℕ → ℕ → Prop} {g f : S1536x256.Idx → BitVec 32} (hf : Ok X p D g f) {off : Fin 2 → ℕ}
    {inb : ∀ a, off a + S768x256.size a ≤ S1536x256.size a} (hoff : off = ![(alt p).val * 768, 0]) :
    (fun j => f ((Rect.unit (s := S1536x256) off S768x256.size inb).toLoadRect.idx j)) = half (alt p) g := by
  subst hoff
  funext j
  refine Eq.trans (congrArg f ?_) (hf.2 (j 0) (j 1))
  funext a
  match a with
  | ⟨0, _⟩ => exact Fin.ext (congrArg (_ + ·) (Nat.one_mul _))
  | ⟨1, _⟩ => exact Fin.ext ((congrArg (0 + ·) (Nat.one_mul _)).trans (Nat.zero_add _))

theorem read_chunk {n : ℕ} {α : Type} (k : Fin 4) (f : (⟨2, ![1920, n]⟩ : Shape).Idx → α) {off : Fin 2 → ℕ}
    {inb : ∀ a, off a + (⟨2, ![480, n]⟩ : Shape).size a ≤ (⟨2, ![1920, n]⟩ : Shape).size a} (hoff : off = ![480 * k.val, 0]) :
    (fun j => f ((Rect.unit (s := (⟨2, ![1920, n]⟩ : Shape)) off (⟨2, ![480, n]⟩ : Shape).size inb).toLoadRect.idx j))
      = fun j : (⟨2, ![480, n]⟩ : Shape).Idx => f (ix2 ⟨480 * k.val + (j 0).val, by have := idx2_lt0 j; omega⟩ (j 1)) := by
  subst hoff
  funext j
  refine congrArg f ?_
  funext a
  match a with
  | ⟨0, _⟩ => exact Fin.ext (congrArg (_ + ·) (Nat.one_mul _))
  | ⟨1, _⟩ => exact Fin.ext ((congrArg (0 + ·) (Nat.one_mul _)).trans (Nat.zero_add _))

/-- One trip of a later point's loop multiplies one chunk by the half decoded before and decodes 192 rows. -/
theorem t4_body_w (i : grid0.Coords) (v1 : BitVec 32) (hc : k0_cond2 i = 1#1) (g : S1536x256.Idx → BitVec 32)
    (a : Fin k0_t4_loop.trips) (acc : Unit) (s : St F) (hs : Ok X (par i) (fun r _ => r < 192 * a.val) g s.s6 ∧ Mul X (half (alt (par i)) g) a.val s.s5) :
    W c ms X bd (k0_t4_body (F := F) i ms.a1 ms.h1 ms.a2 ms.h2 ms.a3 ms.h3 ms.a4 ms.h4 ms.a5 ms.h5 ms.a6 ms.h6 v1 hc a acc)
      (fun _ s' => Ok X (par i) (fun r _ => r < 192 * (a.val + 1)) g s'.s6 ∧ Mul X (half (alt (par i)) g) (a.val + 1) s'.s5) s := by
  have ha := trip4_4 a
  have OK0 := hs.1
  delta k0_t4_body
  refine W_bind (W_load6 ?_)
  refine W_bind (W_load1 ?_)
  refine W_bind (W_load2 ?_)
  refine W_bind (W_load5 ?_)
  refine W_bind (W_store5 fun f5 hU => ?_)
  have hM := mul_store (X := X) (k := ⟨a.val, ha⟩) (wd := half (alt (par i)) g) (off7_eq a) (by
    unfold prod
    rw [← read_half hs.1 (inb := k0_off5_inb i hc) (off5_eq i), ← read_chunk (n := 1536) ⟨a.val, ha⟩ X.x1 (inb := k0_off6_inb i a hc) (off6_eq a), ← read_chunk (n := 256) ⟨a.val, ha⟩ X.x2 (inb := k0_off7_inb i a hc) (off7_eq a)]) hU hs.2
  clear hU
  refine W_bind (W_load4 ?_)
  refine W_bind (W_for (fun n _ s' => Ok X (par i) (fun r c => r < 192 * a.val ∨ (192 * a.val ≤ r ∧ r < 192 * a.val + 32 * n ∧ 0 ≤ c ∧ c < 0 + 128)) g s'.s6 ∧ s'.s5 = f5) ?_ ?_ ?_)
  · exact ⟨OK0.mono fun r c _ _ hr => by omega, rfl⟩
  · intro b acc s' hs'
    exact t5_body_w i hc a _ _ _ (read_tab (inb := inb_S8x256_S8x128_0_0)) (fun r _ => r < 192 * a.val) g _ b acc s' hs'
  intro _ s1 hs1
  refine W_bind (W_load4 ?_)
  refine W_bind (W_for (fun n _ s' => Ok X (par i) (fun r c => (r < 192 * a.val ∨ (192 * a.val ≤ r ∧ r < 192 * a.val + 32 * 6 ∧ 0 ≤ c ∧ c < 0 + 128)) ∨ (192 * a.val ≤ r ∧ r < 192 * a.val + 32 * n ∧ 128 ≤ c ∧ c < 128 + 128)) g s'.s6 ∧ s'.s5 = f5) ?_ ?_ ?_)
  · exact ⟨hs1.1.mono fun r c _ _ hr => by rcases hr with hr | hr; exact hr; omega, hs1.2⟩
  · intro b acc s' hs'
    exact t6_body_w i hc a _ _ _ (read_tab' (inb := inb_S8x256_S8x128_0_128)) (fun r c => r < 192 * a.val ∨ (192 * a.val ≤ r ∧ r < 192 * a.val + 32 * 6 ∧ 0 ≤ c ∧ c < 0 + 128)) g _ b acc s' hs'
  intro _ s2 hs2
  refine W_pure ⟨hs2.1.mono fun r c _ hc' hr => ?_, by rw [hs2.2]; exact hM⟩
  show (r < 192 * a.val ∨ (192 * a.val ≤ r ∧ r < 192 * a.val + 32 * 6 ∧ 0 ≤ c ∧ c < 0 + 128)) ∨ (192 * a.val ≤ r ∧ r < 192 * a.val + 32 * 6 ∧ 128 ≤ c ∧ c < 128 + 128)
  omega

theorem cond1_iff (i : grid0.Coords) : k0_cond1 i = 1#1 ↔ (i 0).val = 0 := by
  have h : ∀ n : Fin 36, Scalar.cmpi .ne (Scalar.extui (Scalar.cmpi .eq (BitVec.ofNat 32 n.val) 0#32) : BitVec 32) 0#32 = 1#1 ↔ n.val = 0 := by decide
  exact h (i 0)
theorem cond2_iff (i : grid0.Coords) : k0_cond2 i = 1#1 ↔ 0 < (i 0).val := by
  have h : ∀ n : Fin 36, Scalar.cmpi .ne (Scalar.extui (Scalar.cmpi .sgt (BitVec.ofNat 32 n.val) 0#32) : BitVec 32) 0#32 = 1#1 ↔ 0 < n.val := by decide
  exact h (i 0)

/-- What the body leaves at a grid point: its half decoded, and after the first point the product with the other half. -/
def Post (X : Ins F) (i : grid0.Coords) (s s' : St F) : Prop :=
  (∀ (r : Fin 768) (c : Fin 256), s'.s6 (ix2 (row (par i) r) c) = dec X r c) ∧
    (0 < (i 0).val → Mul X (half (alt (par i)) s.s6) 4 s'.s5)

/-- The body at a grid point. -/
theorem body_w (i : grid0.Coords) (s : St F) : W c ms X bd (cc0_lut4_linear (F := F) i ms.a1 ms.h1 ms.a2 ms.h2 ms.a3 ms.h3 ms.a4 ms.h4 ms.a5 ms.h5 ms.a6 ms.h6) (fun _ s' => Post X i s s') s := by
  rw [cc0_lut4_linear_eq_skeleton]
  delta cc0_lut4_linear_skel
  extract_lets a0 v0 v1 j1 j2
  have hfin : ∀ s', Post X i s s' → W c ms X bd (j1 ⟨⟩) (fun _ s' => Post X i s s') s' := fun s' h => W_pure h
  by_cases h0 : (i 0).val = 0
  · have h2 : ∀ s', Post X i s s' → W c ms X bd (j2 ⟨⟩) (fun _ s' => Post X i s s') s' := fun s' h => by
      refine W_dite (fun h' => ?_) (fun h' => hfin _ h)
      have := (cond2_iff i).1 h'
      omega
    refine W_dite (fun h => ?_) (fun h => absurd ((cond1_iff i).2 h0) h)
    refine W_bind (W_for (fun n _ s' => Ok X (par i) (fun r _ => r < 192 * n) s.s6 s'.s6) ?_ ?_ ?_)
    · exact ⟨fun r c hr => absurd hr (Nat.not_lt_zero _), fun _ _ => rfl⟩
    · intro k acc s' hs'
      exact t1_body_w i _ h s.s6 k acc s' hs'
    intro _ s' hs'
    refine h2 _ ⟨fun r c => hs'.1 r c ?_, fun h => ?_⟩
    · show r.val < 192 * 4
      omega
    · omega
  · refine W_dite (fun h => absurd ((cond1_iff i).1 h) h0) (fun h => ?_)
    refine W_dite (fun h => ?_) (fun h => absurd ((cond2_iff i).2 (Nat.pos_of_ne_zero h0)) h)
    refine W_bind (W_for (fun n _ s' => Ok X (par i) (fun r _ => r < 192 * n) s.s6 s'.s6 ∧ Mul X (half (alt (par i)) s.s6) n s'.s5) ?_ ?_ ?_)
    · exact ⟨⟨fun r c hr => absurd hr (Nat.not_lt_zero _), fun _ _ => rfl⟩, fun k hk => absurd hk (Nat.not_lt_zero _)⟩
    · intro k acc s' hs'
      exact t4_body_w i _ h s.s6 k acc s' hs'
    intro _ s' hs'
    refine hfin _ ⟨fun r c => hs'.1.1 r c ?_, fun _ => hs'.2⟩
    show r.val < 192 * 4
    omega

end Body

end Cert.Proof.D
-- ==== Proof.D.Run.lean ====
/-
  The launch of `Dense`: from a triple about the body at each grid point (an invariant of the scratch buffer, a
  relation on what the body leaves in the output window) to the run of @main.
-/
module

public import proofs.«01_k».proof.Proof.D.Body
public import proofs.«01_k».proof.Proof.Gen.Dense.Launch
public import proofs.«01_k».proof.Proof.Gen.Dense.Points
public import Idealize.ShloMosaic.Lib.Pipeline.Frame
public import Idealize.ShloMosaic.Lib.Pipeline.FrameBody
public import Idealize.ShloMosaic.Lib.Pipeline.DatRel

@[expose] public section

noncomputable section

namespace Cert.Proof.D

open Cert.Dense Cert.Dense.Gen
open Idealize.ShloMosaic
open Idealize.ShloMosaic.TcCoe Idealize.ShloMosaic.Tactic
open Idealize.ShloMosaic.Pipeline (Dat RDat BodyObligationRel)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable (m : (ℓ : Loc nD τ sig) → Buf (Elt F) ℓ) (ρ : Dev nD → PrngReg)

local notation "𝕄" => MT nD τ sig Unit (Elt F) ℕ (UR sig nD τ) ℕ

/-- The contents of the unscoped buffers as the region finds them. -/
def V (c : Dev nD) (b : Ref sig .tc) : Buf (Elt F) ((c : Thread nD τ).loc b) :=
  StableHlo.after hostOps0 (fun b => m (c, b)) b

theorem V_def (c : Dev nD) (b : Ref sig .tc) : V m c b = StableHlo.after hostOps0 (fun b => m (c, b)) b := rfl

/-- @main is the host operations, then the region. -/
theorem hmain0 : Pipeline.HMain (Ix := Unit) (Name := ℕ) (U := UR sig nD τ) (Lvl := ℕ) cfgs 0 defs₀ 𝒱₀ m (main (F := F)) (V m) :=
  Cert.Dense.Gen.hmain m 𝒱₀

attribute [irreducible] V

/-- The block of window `w` at point `t`. -/
def iblk (c : Dev nD) (w : Fin 5) (t : Fin cfg0.N) :
    ((cfg0.win w).xblock (cfg0.grid.coords t)).Idx → Elt F (cfg0.win w).elt :=
  ((cfg0.win w).blk t).view.read (Elt F) (V m c (Pipeline.arrRef spec0 w))

/-- What the input windows hold at point `t`. -/
def insAt (c : Dev nD) (t : Fin cfg0.N) : Ins F where
  x1 := iblk m c 0 t
  x2 := iblk m c 1 t
  x3 := iblk m c 2 t
  x4 := iblk m c 3 t

/-- The buffers of the body at point `t`. -/
def memsAt (t : Fin cfg0.N) : Mems where
  a1 := win0_0.stage (cfg0.slots t 0)
  h1 := hstage0_0 ((cfg0.slots t 0).cast nbuf0_0)
  a2 := win0_1.stage (cfg0.slots t 1)
  h2 := hstage0_1 ((cfg0.slots t 1).cast nbuf0_1)
  a3 := win0_2.stage (cfg0.slots t 2)
  h3 := hstage0_2 ((cfg0.slots t 2).cast nbuf0_2)
  a4 := win0_3.stage (cfg0.slots t 3)
  h4 := hstage0_3 ((cfg0.slots t 3).cast nbuf0_3)
  a5 := win0_4.stage (cfg0.slots t 4)
  h5 := hstage0_4 ((cfg0.slots t 4).cast nbuf0_4)
  a6 := Memref.whole cc0_scratch0
  h6 := Memref.isWhole_whole _

/-- The output window. -/
def outs : Fin 5 → Bool := fun w => decide (4 ≤ w.val)

/-- An invariant of the decoded weights before each point, and what is asked of the output at each point. -/
structure Track (F : FTy → Type) where
  inv : ℕ → (S1536x256.Idx → Elt F .i32) → Prop
  y : ℕ → (S1920x256.Idx → Elt F .bf16) → Prop

variable (K : Dev nD → Track F)

/-- The scratch buffer at contents the invariant allows. -/
def scr (c : Dev nD) (t : ℕ) : sProp 𝕄 :=
  iprop(∃ f6, ⌜(K c).inv t f6⌝ ∗ owns (c : Thread nD τ) (Memref.whole cc0_scratch0) fullShare f6)

/-- What the body leaves in each window, the output unnamed. -/
def aft (c : Dev nD) : (w : Fin 5) → (t : Fin cfg0.N) → (cfg0.win w).block.Idx → Elt F (cfg0.win w).elt :=
  fun | 0 => fun t => iblk m c 0 t | 1 => fun t => iblk m c 1 t | 2 => fun t => iblk m c 2 t | 3 => fun t => iblk m c 3 t
      | 4 => fun t => Pipeline.Dat.unnamed (cfg := cfg0) 4 t
      | ⟨_ + 5, h⟩ => absurd h (Nat.not_lt.2 (Nat.le_add_left _ _))

/-- The relation asked of the output. -/
def rel (c : Dev nD) : (w : Fin 5) → (t : Fin cfg0.N) → ((cfg0.win w).block.Idx → Elt F (cfg0.win w).elt) → Prop :=
  fun | 4 => fun t X => (K c).y t.val X | _ => fun _ _ => True

/-- The proof data. -/
def dats (_ : Fin 1) (c : Dev nD) : Dat τ (Elt F) Unit ℕ (UR sig nD τ) ℕ cfg0 c where
  A w := V m c (Pipeline.arrRef spec0 w)
  after := aft m c
  Φ t := iprop(scr K c t.val ∗ ∃ r, prngReg c r)
  q _ := fullShare
  owed _ := 0

/-! An input window holds its block at every point. -/

theorem before0_eq (c : Dev nD) (t : Fin cfg0.N) (d) : (dats m K 0 c).before 0 t d = iblk m c 0 t :=
  ((dats m K 0 c).before_in_eq_fetched 0 rfl (fun _ => rfl) (fun _ _ _ => rfl)
    (fun t => by rw [show (dats m K 0 c).after 0 t = iblk m c 0 t from rfl]; unfold Dat.blockOf iblk; rw [show (dats m K 0 c).A 0 = V m c (Pipeline.arrRef spec0 0) from rfl]) t d).trans
    (by unfold Dat.fetched Dat.blockOf iblk; rw [show (dats m K 0 c).A 0 = V m c (Pipeline.arrRef spec0 0) from rfl]; rfl)
theorem before1_eq (c : Dev nD) (t : Fin cfg0.N) (d) : (dats m K 0 c).before 1 t d = iblk m c 1 t :=
  ((dats m K 0 c).before_in_eq_fetched 1 rfl (fun _ => rfl) (fun _ _ _ => rfl)
    (fun t => by rw [show (dats m K 0 c).after 1 t = iblk m c 1 t from rfl]; unfold Dat.blockOf iblk; rw [show (dats m K 0 c).A 1 = V m c (Pipeline.arrRef spec0 1) from rfl]) t d).trans
    (by unfold Dat.fetched Dat.blockOf iblk; rw [show (dats m K 0 c).A 1 = V m c (Pipeline.arrRef spec0 1) from rfl]; rfl)
theorem before2_eq (c : Dev nD) (t : Fin cfg0.N) (d) : (dats m K 0 c).before 2 t d = iblk m c 2 t :=
  ((dats m K 0 c).before_in_eq_fetched 2 rfl (fun _ => rfl) (fun _ _ _ => rfl)
    (fun t => by rw [show (dats m K 0 c).after 2 t = iblk m c 2 t from rfl]; unfold Dat.blockOf iblk; rw [show (dats m K 0 c).A 2 = V m c (Pipeline.arrRef spec0 2) from rfl]) t d).trans
    (by unfold Dat.fetched Dat.blockOf iblk; rw [show (dats m K 0 c).A 2 = V m c (Pipeline.arrRef spec0 2) from rfl]; rfl)
theorem before3_eq (c : Dev nD) (t : Fin cfg0.N) (d) : (dats m K 0 c).before 3 t d = iblk m c 3 t :=
  ((dats m K 0 c).before_in_eq_fetched 3 rfl (fun _ => rfl) (fun _ _ _ => rfl)
    (fun t => by rw [show (dats m K 0 c).after 3 t = iblk m c 3 t from rfl]; unfold Dat.blockOf iblk; rw [show (dats m K 0 c).A 3 = V m c (Pipeline.arrRef spec0 3) from rfl]) t d).trans
    (by unfold Dat.fetched Dat.blockOf iblk; rw [show (dats m K 0 c).A 3 = V m c (Pipeline.arrRef spec0 3) from rfl]; rfl)

/-- The body at point `t`. -/
theorem bodyAt_eq (t : Fin cfg0.N) :
    bodyAt0 (F := F) t = cc0_lut4_linear (F := F) (grid0.coords t) (memsAt t).a1 (memsAt t).h1 (memsAt t).a2 (memsAt t).h2 (memsAt t).a3 (memsAt t).h3 (memsAt t).a4 (memsAt t).h4 (memsAt t).a5 (memsAt t).h5 (memsAt t).a6 (memsAt t).h6 := rfl

/-- What is to be shown of the body: at every point, from scratch contents the invariant allows and any output contents,
    it ends with the invariant of the next point and the output as asked. -/
def BodyRuns : Prop := ∀ (c : Dev nD) (t : Fin cfg0.N) (s : St F), (K c).inv t.val s.s6 →
  W c (memsAt t) (insAt m c t) none (bodyAt0 (F := F) t) (fun _ s' => (K c).inv (t.val + 1) s'.s6 ∧ (K c).y t.val s'.s5) s

variable {m K}

/-- What the body is called with at point `t`. -/
def bodyPre (m : (ℓ : Loc nD τ sig) → Buf (Elt F) ℓ) (K : Dev nD → Track F) (c : Dev nD) (t : Fin cfg0.N) : sProp 𝕄 :=
  iprop((dats m K 0 c).Φ t.castSucc ∗ (dats m K 0 c).owesAt () t.castSucc
    ∗ owns (c : Thread nD τ) (memsAt t).a1 fullShare (insAt m c t).x1
    ∗ owns (c : Thread nD τ) (memsAt t).a2 fullShare (insAt m c t).x2
    ∗ owns (c : Thread nD τ) (memsAt t).a3 fullShare (insAt m c t).x3
    ∗ owns (c : Thread nD τ) (memsAt t).a4 fullShare (insAt m c t).x4
    ∗ (∃ d, owns (c : Thread nD τ) (memsAt t).a5 fullShare d))

/-- What the body returns at point `t`. -/
def bodyPost (m : (ℓ : Loc nD τ sig) → Buf (Elt F) ℓ) (K : Dev nD → Track F) (c : Dev nD) (t : Fin cfg0.N) : sProp 𝕄 :=
  iprop((dats m K 0 c).Φ t.succ ∗ (dats m K 0 c).owesAt () t.succ
    ∗ owns (c : Thread nD τ) (memsAt t).a1 fullShare (insAt m c t).x1
    ∗ owns (c : Thread nD τ) (memsAt t).a2 fullShare (insAt m c t).x2
    ∗ owns (c : Thread nD τ) (memsAt t).a3 fullShare (insAt m c t).x3
    ∗ owns (c : Thread nD τ) (memsAt t).a4 fullShare (insAt m c t).x4
    ∗ (∃ X, ⌜(K c).y t.val X⌝ ∗ owns (c : Thread nD τ) (memsAt t).a5 fullShare X))

/-- The triple of the body at a point. -/
theorem sound_body (h : BodyRuns m K) (c : Dev nD) (t : Fin cfg0.N) :
    bodyPre m K c t ⊢ wp frame (wpE (defs₀ (F := F)) 𝒱₀ (c : Thread nD τ) none) Set.univ (bodyAt0 (F := F) t) (fun _ => bodyPost m K c t) := by
  unfold bodyPre bodyPost
  rw [show (dats m K 0 c).Φ t.succ = iprop(scr K c (t.val + 1) ∗ ∃ r, prngReg c r) from rfl,
    show (dats m K 0 c).owesAt () t.succ = (dats m K 0 c).owesAt () t.castSucc from rfl,
    show (dats m K 0 c).Φ t.castSucc = iprop(scr K c t.val ∗ ∃ r, prngReg c r) from rfl]
  unfold scr
  iintro ⟨⟨⟨%f6, %hI, S0⟩, Hg⟩, HO, H1, H2, H3, H4, ⟨%d5, H5⟩⟩
  have hw := h c t ⟨d5, f6⟩ hI
  unfold W R at hw
  iapply (wp_wand frame) $$ [H1 H2 H3 H4 H5 S0]
  · iapply hw
    iframe H1 H2 H3 H4 H5
    iexact S0
  iintro %a ⟨%s', %hQ, H1, H2, H3, H4, H5, S0⟩
  iframe H1 H2 H3 H4 HO Hg
  isplitl [S0]
  · iexists s'.s6
    isplitr
    · ipureintro; exact hQ.1
    iexact S0
  · iexists s'.s5
    isplitr
    · ipureintro; exact hQ.2
    iexact H5

/-- The body table's row at the point. -/
theorem defs₀_row (t : Fin cfg0.N) :
    defs₀ (F := F) .tc cfg0.body (cfg0.bodyArgs t (cfg0.slots t)) = bodyAt0 t := by
  unfold defs₀; rw [Defs.onTc_tc]

/-- The body obligation. -/
theorem body_obligation (h : BodyRuns m K) (c : Dev nD) :
    BodyObligationRel (dats m K 0 c) (defs₀ (F := F)) 𝒱₀ () Set.univ outs (rel K c) := fun t => by
  rw [bigSep_W0, bigSep_W0, defs₀_row]
  refine triple_restated (sound_body h c t) rfl ?_ fun _ => ?_
  · unfold bodyPre
    show iprop((dats m K 0 c).Φ t.castSucc ∗ (dats m K 0 c).owesAt () t.castSucc
      ∗ (∃ d, owns (c : Thread nD τ) (memsAt t).a1 fullShare ((dats m K 0 c).before 0 t d))
      ∗ (∃ d, owns (c : Thread nD τ) (memsAt t).a2 fullShare ((dats m K 0 c).before 1 t d))
      ∗ (∃ d, owns (c : Thread nD τ) (memsAt t).a3 fullShare ((dats m K 0 c).before 2 t d))
      ∗ (∃ d, owns (c : Thread nD τ) (memsAt t).a4 fullShare ((dats m K 0 c).before 3 t d))
      ∗ (∃ Y, ⌜((dats m K 0 c).toRRel outs (rel K c)).Finds 4 t Y⌝ ∗ owns (c : Thread nD τ) (memsAt t).a5 fullShare Y)) ⊢ _
    iintro ⟨HΦ, HO, ⟨%d1, H1⟩, ⟨%d2, H2⟩, ⟨%d3, H3⟩, ⟨%d4, H4⟩, ⟨%X5, -, H5⟩⟩
    rw [before0_eq, before1_eq, before2_eq, before3_eq]
    isplitl [HΦ]; · iexact HΦ
    isplitl [HO]; · iexact HO
    isplitl [H1]; · iexact H1
    isplitl [H2]; · iexact H2
    isplitl [H3]; · iexact H3
    isplitl [H4]; · iexact H4
    iexists X5; iexact H5
  · exact .rfl

set_option backward.isDefEq.respectTransparency.types false in
/-- The run of @main: every fair execution ends, the inputs unchanged, the output's blocks as asked, the semaphores at zero. -/
theorem run_main (h : BodyRuns m K) (h0 : ∀ c f6, (K c).inv 0 f6) :
    θ_run defs (onTc (τ := τ) (main (F := F))) (s₀ m ρ)
      (fun r => RDat.FramePost (cfgs 0) (fun c => (dats m K 0 c).toRRel outs (rel K c)) (V m) r ∧ r.2.sem = fun _ => 0) :=
  RDat.θ_run_frame_track (Q' := _) cfgs (0 : Fin 1) launch0 defs₀ 𝒱₀ (fun c => (dats m K 0 c).toRRel outs (rel K c)) m ρ main
    (hbody := fun c => (body_obligation h c).toRRel) (hshare := fun c => (dats m K 0 c).share_full fun _ => rfl)
    (howed := fun _ _ => rfl) (V := V m) (hmain := hmain0 m) (hA := fun _ _ => rfl)
    (hin := fun c => by
      show Pipeline.ΦA spec0 c ⊢ iprop(scr K c 0 ∗ ∃ r, prngReg c r)
      unfold Pipeline.ΦA scr
      rw [scopedRest0_eq]
      iintro ⟨⟨%f0, S0⟩, Hg⟩
      iframe Hg
      simp only [owns_whole_eq]
      iexists f0
      isplitr
      · ipureintro; exact h0 _ _
      iexists f0; isplitr; · (ipureintro; rfl)
      iexact S0)
    (hout := fun c => by
      show iprop(scr K c _ ∗ ∃ r, prngReg c r) ⊢ Pipeline.ΦA spec0 c
      unfold Pipeline.ΦA scr
      rw [scopedRest0_eq]
      simp only [owns_whole_eq]
      iintro ⟨⟨%e0, -, ⟨%f0, -, S0⟩⟩, Hg⟩
      iframe Hg
      iexists f0; iexact S0)

theorem V_arg0 (c : Dev nD) : V m c main_arg0 = m ((c.tc : Thread nD τ).loc main_arg0) := (V_def m c _).trans (V_main_arg0 m c)
theorem V_arg1 (c : Dev nD) : V m c main_arg1 = m ((c.tc : Thread nD τ).loc main_arg1) := (V_def m c _).trans (V_main_arg1 m c)
theorem V_arg2 (c : Dev nD) : V m c main_arg2 = m ((c.tc : Thread nD τ).loc main_arg2) := (V_def m c _).trans (V_main_arg2 m c)
theorem V_arg3 (c : Dev nD) : V m c main_arg3 = m ((c.tc : Thread nD τ).loc main_arg3) := (V_def m c _).trans (V_main_arg3 m c)

/-- Every buffer the claims read keeps its contents in a run that ends as the launch says. -/
theorem args_kept (K : Dev nD → Track F) {r : PUnit × MemSt nD τ sig (Elt F)}
    (h : RDat.FramePost (cfgs 0) (fun c => (dats m K 0 c).toRRel outs (rel K c)) (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  ⟨((h c).2 main_arg0 (Pipeline.mem_restRefs_of main_arg0 (by decide) (fun w => (by decide : ∀ w : Fin 5, (spec0 w).arr.view.ref ≠ main_arg0) w))).trans (V_arg0 c),
    (RDat.FramePost.arr_in h c 2 rfl).trans (V_arg1 c),
    ((h c).2 main_arg2 (Pipeline.mem_restRefs_of main_arg2 (by decide) (fun w => (by decide : ∀ w : Fin 5, (spec0 w).arr.view.ref ≠ main_arg2) w))).trans (V_arg2 c),
    (RDat.FramePost.arr_in h c 1 rfl).trans (V_arg3 c)⟩

/-- The tracking that says nothing. -/
def track0 : Track F := ⟨fun _ _ => True, fun _ _ => True⟩

/-- At every grid point the body runs to its end. -/
theorem bodyRuns0 : BodyRuns m (fun _ => track0) := fun _ _ s _ => W_mono (body_w _ s) fun _ _ _ => ⟨trivial, trivial⟩

end Cert.Proof.D
-- ==== Proof.DI.Run.lean ====
/-
  The launch of `DenseIdeal`: from a triple about the body at each grid point (an invariant of the scratch buffer, a
  relation on what the body leaves in the output window) to the run of @main.
-/
module

public import proofs.«01_k».proof.Proof.DI.Body
public import proofs.«01_k».proof.Proof.Gen.DenseIdeal.Launch
public import proofs.«01_k».proof.Proof.Gen.DenseIdeal.Points
public import Idealize.ShloMosaic.Lib.Pipeline.Frame
public import Idealize.ShloMosaic.Lib.Pipeline.FrameBody
public import Idealize.ShloMosaic.Lib.Pipeline.DatRel

@[expose] public section

noncomputable section

namespace Cert.Proof.DI

open Cert.DenseIdeal Cert.DenseIdeal.Gen
open Idealize.ShloMosaic
open Idealize.ShloMosaic.TcCoe Idealize.ShloMosaic.Tactic
open Idealize.ShloMosaic.Pipeline (Dat RDat BodyObligationRel)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable (m : (ℓ : Loc nD τ sig) → Buf (Elt F) ℓ) (ρ : Dev nD → PrngReg)

local notation "𝕄" => MT nD τ sig Unit (Elt F) ℕ (UR sig nD τ) ℕ

/-- The contents of the unscoped buffers as the region finds them. -/
def V (c : Dev nD) (b : Ref sig .tc) : Buf (Elt F) ((c : Thread nD τ).loc b) :=
  StableHlo.after hostOps0 (fun b => m (c, b)) b

theorem V_def (c : Dev nD) (b : Ref sig .tc) : V m c b = StableHlo.after hostOps0 (fun b => m (c, b)) b := rfl

/-- @main is the host operations, then the region. -/
theorem hmain0 : Pipeline.HMain (Ix := Unit) (Name := ℕ) (U := UR sig nD τ) (Lvl := ℕ) cfgs 0 defs₀ 𝒱₀ m (main (F := F)) (V m) :=
  Cert.DenseIdeal.Gen.hmain m 𝒱₀

attribute [irreducible] V

/-- The block of window `w` at point `t`. -/
def iblk (c : Dev nD) (w : Fin 5) (t : Fin cfg0.N) :
    ((cfg0.win w).xblock (cfg0.grid.coords t)).Idx → Elt F (cfg0.win w).elt :=
  ((cfg0.win w).blk t).view.read (Elt F) (V m c (Pipeline.arrRef spec0 w))

/-- What the input windows hold at point `t`. -/
def insAt (c : Dev nD) (t : Fin cfg0.N) : Ins F where
  x1 := iblk m c 0 t
  x2 := iblk m c 1 t
  x3 := iblk m c 2 t
  x4 := iblk m c 3 t

/-- The buffers of the body at point `t`. -/
def memsAt (t : Fin cfg0.N) : Mems where
  a1 := win0_0.stage (cfg0.slots t 0)
  h1 := hstage0_0 ((cfg0.slots t 0).cast nbuf0_0)
  a2 := win0_1.stage (cfg0.slots t 1)
  h2 := hstage0_1 ((cfg0.slots t 1).cast nbuf0_1)
  a3 := win0_2.stage (cfg0.slots t 2)
  h3 := hstage0_2 ((cfg0.slots t 2).cast nbuf0_2)
  a4 := win0_3.stage (cfg0.slots t 3)
  h4 := hstage0_3 ((cfg0.slots t 3).cast nbuf0_3)
  a5 := win0_4.stage (cfg0.slots t 4)
  h5 := hstage0_4 ((cfg0.slots t 4).cast nbuf0_4)
  a6 := Memref.whole cc0_scratch0
  h6 := Memref.isWhole_whole _

/-- The output window. -/
def outs : Fin 5 → Bool := fun w => decide (4 ≤ w.val)

/-- An invariant of the decoded weights before each point, and what is asked of the output at each point. -/
structure Track (F : FTy → Type) where
  inv : ℕ → (S1536x256.Idx → Elt F .i32) → Prop
  y : ℕ → (S1920x256.Idx → Elt F .bf16) → Prop

variable (K : Dev nD → Track F)

/-- The scratch buffer at contents the invariant allows. -/
def scr (c : Dev nD) (t : ℕ) : sProp 𝕄 :=
  iprop(∃ f6, ⌜(K c).inv t f6⌝ ∗ owns (c : Thread nD τ) (Memref.whole cc0_scratch0) fullShare f6)

/-- What the body leaves in each window, the output unnamed. -/
def aft (c : Dev nD) : (w : Fin 5) → (t : Fin cfg0.N) → (cfg0.win w).block.Idx → Elt F (cfg0.win w).elt :=
  fun | 0 => fun t => iblk m c 0 t | 1 => fun t => iblk m c 1 t | 2 => fun t => iblk m c 2 t | 3 => fun t => iblk m c 3 t
      | 4 => fun t => Pipeline.Dat.unnamed (cfg := cfg0) 4 t
      | ⟨_ + 5, h⟩ => absurd h (Nat.not_lt.2 (Nat.le_add_left _ _))

/-- The relation asked of the output. -/
def rel (c : Dev nD) : (w : Fin 5) → (t : Fin cfg0.N) → ((cfg0.win w).block.Idx → Elt F (cfg0.win w).elt) → Prop :=
  fun | 4 => fun t X => (K c).y t.val X | _ => fun _ _ => True

/-- The proof data. -/
def dats (_ : Fin 1) (c : Dev nD) : Dat τ (Elt F) Unit ℕ (UR sig nD τ) ℕ cfg0 c where
  A w := V m c (Pipeline.arrRef spec0 w)
  after := aft m c
  Φ t := iprop(scr K c t.val ∗ ∃ r, prngReg c r)
  q _ := fullShare
  owed _ := 0

/-! An input window holds its block at every point. -/

theorem before0_eq (c : Dev nD) (t : Fin cfg0.N) (d) : (dats m K 0 c).before 0 t d = iblk m c 0 t :=
  ((dats m K 0 c).before_in_eq_fetched 0 rfl (fun _ => rfl) (fun _ _ _ => rfl)
    (fun t => by rw [show (dats m K 0 c).after 0 t = iblk m c 0 t from rfl]; unfold Dat.blockOf iblk; rw [show (dats m K 0 c).A 0 = V m c (Pipeline.arrRef spec0 0) from rfl]) t d).trans
    (by unfold Dat.fetched Dat.blockOf iblk; rw [show (dats m K 0 c).A 0 = V m c (Pipeline.arrRef spec0 0) from rfl]; rfl)
theorem before1_eq (c : Dev nD) (t : Fin cfg0.N) (d) : (dats m K 0 c).before 1 t d = iblk m c 1 t :=
  ((dats m K 0 c).before_in_eq_fetched 1 rfl (fun _ => rfl) (fun _ _ _ => rfl)
    (fun t => by rw [show (dats m K 0 c).after 1 t = iblk m c 1 t from rfl]; unfold Dat.blockOf iblk; rw [show (dats m K 0 c).A 1 = V m c (Pipeline.arrRef spec0 1) from rfl]) t d).trans
    (by unfold Dat.fetched Dat.blockOf iblk; rw [show (dats m K 0 c).A 1 = V m c (Pipeline.arrRef spec0 1) from rfl]; rfl)
theorem before2_eq (c : Dev nD) (t : Fin cfg0.N) (d) : (dats m K 0 c).before 2 t d = iblk m c 2 t :=
  ((dats m K 0 c).before_in_eq_fetched 2 rfl (fun _ => rfl) (fun _ _ _ => rfl)
    (fun t => by rw [show (dats m K 0 c).after 2 t = iblk m c 2 t from rfl]; unfold Dat.blockOf iblk; rw [show (dats m K 0 c).A 2 = V m c (Pipeline.arrRef spec0 2) from rfl]) t d).trans
    (by unfold Dat.fetched Dat.blockOf iblk; rw [show (dats m K 0 c).A 2 = V m c (Pipeline.arrRef spec0 2) from rfl]; rfl)
theorem before3_eq (c : Dev nD) (t : Fin cfg0.N) (d) : (dats m K 0 c).before 3 t d = iblk m c 3 t :=
  ((dats m K 0 c).before_in_eq_fetched 3 rfl (fun _ => rfl) (fun _ _ _ => rfl)
    (fun t => by rw [show (dats m K 0 c).after 3 t = iblk m c 3 t from rfl]; unfold Dat.blockOf iblk; rw [show (dats m K 0 c).A 3 = V m c (Pipeline.arrRef spec0 3) from rfl]) t d).trans
    (by unfold Dat.fetched Dat.blockOf iblk; rw [show (dats m K 0 c).A 3 = V m c (Pipeline.arrRef spec0 3) from rfl]; rfl)

/-- The body at point `t`. -/
theorem bodyAt_eq (t : Fin cfg0.N) :
    bodyAt0 (F := F) t = cc0_lut4_linear (F := F) (grid0.coords t) (memsAt t).a1 (memsAt t).h1 (memsAt t).a2 (memsAt t).h2 (memsAt t).a3 (memsAt t).h3 (memsAt t).a4 (memsAt t).h4 (memsAt t).a5 (memsAt t).h5 (memsAt t).a6 (memsAt t).h6 := rfl

/-- What is to be shown of the body: at every point, from scratch contents the invariant allows and any output contents,
    it ends with the invariant of the next point and the output as asked. -/
def BodyRuns : Prop := ∀ (c : Dev nD) (t : Fin cfg0.N) (s : St F), (K c).inv t.val s.s6 →
  W c (memsAt t) (insAt m c t) none (bodyAt0 (F := F) t) (fun _ s' => (K c).inv (t.val + 1) s'.s6 ∧ (K c).y t.val s'.s5) s

variable {m K}

/-- What the body is called with at point `t`. -/
def bodyPre (m : (ℓ : Loc nD τ sig) → Buf (Elt F) ℓ) (K : Dev nD → Track F) (c : Dev nD) (t : Fin cfg0.N) : sProp 𝕄 :=
  iprop((dats m K 0 c).Φ t.castSucc ∗ (dats m K 0 c).owesAt () t.castSucc
    ∗ owns (c : Thread nD τ) (memsAt t).a1 fullShare (insAt m c t).x1
    ∗ owns (c : Thread nD τ) (memsAt t).a2 fullShare (insAt m c t).x2
    ∗ owns (c : Thread nD τ) (memsAt t).a3 fullShare (insAt m c t).x3
    ∗ owns (c : Thread nD τ) (memsAt t).a4 fullShare (insAt m c t).x4
    ∗ (∃ d, owns (c : Thread nD τ) (memsAt t).a5 fullShare d))

/-- What the body returns at point `t`. -/
def bodyPost (m : (ℓ : Loc nD τ sig) → Buf (Elt F) ℓ) (K : Dev nD → Track F) (c : Dev nD) (t : Fin cfg0.N) : sProp 𝕄 :=
  iprop((dats m K 0 c).Φ t.succ ∗ (dats m K 0 c).owesAt () t.succ
    ∗ owns (c : Thread nD τ) (memsAt t).a1 fullShare (insAt m c t).x1
    ∗ owns (c : Thread nD τ) (memsAt t).a2 fullShare (insAt m c t).x2
    ∗ owns (c : Thread nD τ) (memsAt t).a3 fullShare (insAt m c t).x3
    ∗ owns (c : Thread nD τ) (memsAt t).a4 fullShare (insAt m c t).x4
    ∗ (∃ X, ⌜(K c).y t.val X⌝ ∗ owns (c : Thread nD τ) (memsAt t).a5 fullShare X))

/-- The triple of the body at a point. -/
theorem sound_body (h : BodyRuns m K) (c : Dev nD) (t : Fin cfg0.N) :
    bodyPre m K c t ⊢ wp frame (wpE (defs₀ (F := F)) 𝒱₀ (c : Thread nD τ) none) Set.univ (bodyAt0 (F := F) t) (fun _ => bodyPost m K c t) := by
  unfold bodyPre bodyPost
  rw [show (dats m K 0 c).Φ t.succ = iprop(scr K c (t.val + 1) ∗ ∃ r, prngReg c r) from rfl,
    show (dats m K 0 c).owesAt () t.succ = (dats m K 0 c).owesAt () t.castSucc from rfl,
    show (dats m K 0 c).Φ t.castSucc = iprop(scr K c t.val ∗ ∃ r, prngReg c r) from rfl]
  unfold scr
  iintro ⟨⟨⟨%f6, %hI, S0⟩, Hg⟩, HO, H1, H2, H3, H4, ⟨%d5, H5⟩⟩
  have hw := h c t ⟨d5, f6⟩ hI
  unfold W R at hw
  iapply (wp_wand frame) $$ [H1 H2 H3 H4 H5 S0]
  · iapply hw
    iframe H1 H2 H3 H4 H5
    iexact S0
  iintro %a ⟨%s', %hQ, H1, H2, H3, H4, H5, S0⟩
  iframe H1 H2 H3 H4 HO Hg
  isplitl [S0]
  · iexists s'.s6
    isplitr
    · ipureintro; exact hQ.1
    iexact S0
  · iexists s'.s5
    isplitr
    · ipureintro; exact hQ.2
    iexact H5

/-- The body table's row at the point. -/
theorem defs₀_row (t : Fin cfg0.N) :
    defs₀ (F := F) .tc cfg0.body (cfg0.bodyArgs t (cfg0.slots t)) = bodyAt0 t := by
  unfold defs₀; rw [Defs.onTc_tc]

/-- The body obligation. -/
theorem body_obligation (h : BodyRuns m K) (c : Dev nD) :
    BodyObligationRel (dats m K 0 c) (defs₀ (F := F)) 𝒱₀ () Set.univ outs (rel K c) := fun t => by
  rw [bigSep_W0, bigSep_W0, defs₀_row]
  refine triple_restated (sound_body h c t) rfl ?_ fun _ => ?_
  · unfold bodyPre
    show iprop((dats m K 0 c).Φ t.castSucc ∗ (dats m K 0 c).owesAt () t.castSucc
      ∗ (∃ d, owns (c : Thread nD τ) (memsAt t).a1 fullShare ((dats m K 0 c).before 0 t d))
      ∗ (∃ d, owns (c : Thread nD τ) (memsAt t).a2 fullShare ((dats m K 0 c).before 1 t d))
      ∗ (∃ d, owns (c : Thread nD τ) (memsAt t).a3 fullShare ((dats m K 0 c).before 2 t d))
      ∗ (∃ d, owns (c : Thread nD τ) (memsAt t).a4 fullShare ((dats m K 0 c).before 3 t d))
      ∗ (∃ Y, ⌜((dats m K 0 c).toRRel outs (rel K c)).Finds 4 t Y⌝ ∗ owns (c : Thread nD τ) (memsAt t).a5 fullShare Y)) ⊢ _
    iintro ⟨HΦ, HO, ⟨%d1, H1⟩, ⟨%d2, H2⟩, ⟨%d3, H3⟩, ⟨%d4, H4⟩, ⟨%X5, -, H5⟩⟩
    rw [before0_eq, before1_eq, before2_eq, before3_eq]
    isplitl [HΦ]; · iexact HΦ
    isplitl [HO]; · iexact HO
    isplitl [H1]; · iexact H1
    isplitl [H2]; · iexact H2
    isplitl [H3]; · iexact H3
    isplitl [H4]; · iexact H4
    iexists X5; iexact H5
  · exact .rfl

set_option backward.isDefEq.respectTransparency.types false in
/-- The run of @main: every fair execution ends, the inputs unchanged, the output's blocks as asked, the semaphores at zero. -/
theorem run_main (h : BodyRuns m K) (h0 : ∀ c f6, (K c).inv 0 f6) :
    θ_run defs (onTc (τ := τ) (main (F := F))) (s₀ m ρ)
      (fun r => RDat.FramePost (cfgs 0) (fun c => (dats m K 0 c).toRRel outs (rel K c)) (V m) r ∧ r.2.sem = fun _ => 0) :=
  RDat.θ_run_frame_track (Q' := _) cfgs (0 : Fin 1) launch0 defs₀ 𝒱₀ (fun c => (dats m K 0 c).toRRel outs (rel K c)) m ρ main
    (hbody := fun c => (body_obligation h c).toRRel) (hshare := fun c => (dats m K 0 c).share_full fun _ => rfl)
    (howed := fun _ _ => rfl) (V := V m) (hmain := hmain0 m) (hA := fun _ _ => rfl)
    (hin := fun c => by
      show Pipeline.ΦA spec0 c ⊢ iprop(scr K c 0 ∗ ∃ r, prngReg c r)
      unfold Pipeline.ΦA scr
      rw [scopedRest0_eq]
      iintro ⟨⟨%f0, S0⟩, Hg⟩
      iframe Hg
      simp only [owns_whole_eq]
      iexists f0
      isplitr
      · ipureintro; exact h0 _ _
      iexists f0; isplitr; · (ipureintro; rfl)
      iexact S0)
    (hout := fun c => by
      show iprop(scr K c _ ∗ ∃ r, prngReg c r) ⊢ Pipeline.ΦA spec0 c
      unfold Pipeline.ΦA scr
      rw [scopedRest0_eq]
      simp only [owns_whole_eq]
      iintro ⟨⟨%e0, -, ⟨%f0, -, S0⟩⟩, Hg⟩
      iframe Hg
      iexists f0; iexact S0)

theorem V_arg0 (c : Dev nD) : V m c main_arg0 = m ((c.tc : Thread nD τ).loc main_arg0) := (V_def m c _).trans (V_main_arg0 m c)
theorem V_arg1 (c : Dev nD) : V m c main_arg1 = m ((c.tc : Thread nD τ).loc main_arg1) := (V_def m c _).trans (V_main_arg1 m c)
theorem V_arg2 (c : Dev nD) : V m c main_arg2 = m ((c.tc : Thread nD τ).loc main_arg2) := (V_def m c _).trans (V_main_arg2 m c)
theorem V_arg3 (c : Dev nD) : V m c main_arg3 = m ((c.tc : Thread nD τ).loc main_arg3) := (V_def m c _).trans (V_main_arg3 m c)

/-- Every buffer the claims read keeps its contents in a run that ends as the launch says. -/
theorem args_kept (K : Dev nD → Track F) {r : PUnit × MemSt nD τ sig (Elt F)}
    (h : RDat.FramePost (cfgs 0) (fun c => (dats m K 0 c).toRRel outs (rel K c)) (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  ⟨((h c).2 main_arg0 (Pipeline.mem_restRefs_of main_arg0 (by decide) (fun w => (by decide : ∀ w : Fin 5, (spec0 w).arr.view.ref ≠ main_arg0) w))).trans (V_arg0 c),
    (RDat.FramePost.arr_in h c 2 rfl).trans (V_arg1 c),
    ((h c).2 main_arg2 (Pipeline.mem_restRefs_of main_arg2 (by decide) (fun w => (by decide : ∀ w : Fin 5, (spec0 w).arr.view.ref ≠ main_arg2) w))).trans (V_arg2 c),
    (RDat.FramePost.arr_in h c 1 rfl).trans (V_arg3 c)⟩

/-- The tracking that says nothing. -/
def track0 : Track F := ⟨fun _ _ => True, fun _ _ => True⟩

/-- At every grid point the body runs to its end. -/
theorem bodyRuns0 : BodyRuns m (fun _ => track0) := fun _ _ s _ => W_mono (body_w _ s) fun _ _ _ => ⟨trivial, trivial⟩

end Cert.Proof.DI
-- ==== Proof.DI.Value.lean ====
/-
  What the result array of `DenseIdeal` holds after the run: each block of 256 columns is the product with the weights
  decoded at the grid point before the one that writes it, the given sums added.
-/
module

public import proofs.«01_k».proof.Proof.DI.Run
public import Idealize.ShloMosaic.Lib.Pipeline.ArrRel
public import Idealize.ShloMosaic.Lib.Pipeline.ValueKit

@[expose] public section

noncomputable section

namespace Cert.Proof.DI

open Cert.DenseIdeal Cert.DenseIdeal.Gen
open Idealize.ShloMosaic hiding ix2
open Idealize.ShloMosaic.TcCoe Idealize.ShloMosaic.Tactic
open Idealize.ShloMosaic.ValueIdx
open Idealize.ShloMosaic.Pipeline (Dat RDat)
open Idealize.SL Idealize.SL.Sem

variable {F : FTy → Type} [FloatOps F]
variable (m : (ℓ : Loc nD τ sig) → Buf (Elt F) ℓ) (ρ : Dev nD → PrngReg)

/-- The grid has one axis. -/
theorem coord_val : ∀ t : Fin cfg0.N, (grid0.coords t 0).val = t.val := (by decide +kernel : ∀ t : Fin grid0.N, (grid0.coords t 0).val = t.val)

/-- What is kept along the grid: after a point its half of the scratch buffer holds the weights decoded there, and at
    every point but the first the output window is the product with the weights decoded at the point before. -/
def track (c : Dev nD) : Track F where
  inv t f := ∀ u : Fin cfg0.N, u.val + 1 = t → ∀ (r : Fin 768) (q : Fin 256), f (ix2 (row (par (grid0.coords u)) r) q) = dec (insAt m c u) r q
  y t X := ∀ u v : Fin cfg0.N, u.val + 1 = v.val → v.val = t → Mul (insAt m c v) (fun j => dec (insAt m c u) (j 0) (j 1)) 4 X

/-- The body keeps it. -/
theorem bodyRuns : BodyRuns m (track m) := fun c t s hI => W_mono (body_w _ s) fun _ s' hP => by
  refine ⟨fun u hu r q => ?_, fun u v huv hv => ?_⟩
  · obtain rfl : u = t := Fin.ext (by omega)
    exact hP.1 r q
  · obtain rfl : v = t := Fin.ext hv
    have h := hP.2 (by rw [coord_val]; omega)
    have e : half (alt (par (grid0.coords v))) s.s6 = fun j => dec (insAt m c u) (j 0) (j 1) := by
      funext j
      rw [← hI u huv (j 0) (j 1)]
      unfold half
      have : alt (par (grid0.coords v)) = par (grid0.coords u) := by
        apply Fin.ext
        show 1 - (grid0.coords v 0).val % 2 = (grid0.coords u 0).val % 2
        rw [coord_val, coord_val]; omega
      rw [this]
    rw [e] at h
    exact h

/-- An element of the result: block `b`, chunk `k`, row `r` and column `q` in it. -/
def elt (c : Dev nD) (b : Fin 35) (k : Fin 4) (r : Fin 480) (q : Fin 256) : Elt F .bf16 :=
  prod (insAt m c (⟨b.val + 1, by have := b.isLt; show b.val + 1 < 36; omega⟩ : Fin cfg0.N))
    (fun j => dec (insAt m c (⟨b.val, by have := b.isLt; show b.val < 36; omega⟩ : Fin cfg0.N)) (j 0) (j 1)) k (ix2 r q)

theorem flush4 : ∀ t : Fin cfg0.N, (cfg0.win 4).flush t = true → 0 < t.val :=
  (by decide +kernel : ∀ t : Fin grid0.N, win0_4.flush t = true → 0 < t.val)

theorem index4 : ∀ t : Fin cfg0.N, win0_4.index t = ![0, t.val - 1] :=
  (by decide +kernel : ∀ t : Fin grid0.N, win0_4.index t = ![0, t.val - 1])

/-- The result array after the run, element by element. -/
theorem result {r : PUnit × MemSt nD τ sig (Elt F)}
    (h : RDat.FramePost (cfgs 0) (fun c => (dats m (track m) 0 c).toRRel outs (rel (track m) c)) (V m) r) (c : Dev nD)
    (b : Fin 35) (k : Fin 4) (p : Fin 480) (q : Fin 256) :
    r.2.mem ((c.tc : Thread nD τ).loc main_v5) (ix2 ⟨480 * k.val + p.val, by omega⟩ ⟨256 * b.val + q.val, by omega⟩) = elt m c b k p q := by
  obtain ⟨after, hL, hA⟩ := RDat.FramePost.exists_exact h c
  have hM : r.2.mem ((c.tc : Thread nD τ).loc main_v5) = (((dats m (track m) 0 c).toRRel outs (rel (track m) c)).withAfter after).arrAt 4 cfg0.N := hA 4
  rw [hM]
  refine Dat.arrAt_forall_of_covers (cfg := cfg0) _ 4
    (fun i v => ∀ (b : Fin 35) (k : Fin 4) (p : Fin 480) (q : Fin 256), (i 0).val = 480 * k.val + p.val → (i 1).val = 256 * b.val + q.val → v = elt m c b k p q)
    (by decide +kernel) (fun t hf y => ?_) _ (Memref.isWhole_whole _) b k p q rfl rfl
  intro b k p q h0 h1
  have ht := flush4 t hf
  have hy : Mul _ _ 4 (after 4 t) := Dat.toRRel_leaves (dats m (track m) 0 c) (w := 4) (fgt := outs) rfl (hL 4 t hf)
    ⟨t.val - 1, by have := t.isLt; omega⟩ t (by show t.val - 1 + 1 = t.val; omega) rfl
  blk_simp [index4] at h0 h1
  blk_simp
  have hN : t.val < 36 := t.isLt
  have hq := q.isLt
  have hy1 : (y 1).val < 256 := (y 1).isLt
  have hb : b.val = t.val - 1 := by omega
  have e1 : (y 1).val = q.val := by omega
  have ey : y = ix2 ⟨480 * k.val + p.val, by omega⟩ q := by
    funext a
    apply Fin.ext
    match a with
    | ⟨0, _⟩ => exact h0
    | ⟨1, _⟩ => exact e1
  have hu : (⟨t.val - 1, by omega⟩ : Fin cfg0.N) = ⟨b.val, by have := b.isLt; show b.val < 36; omega⟩ := Fin.ext hb.symm
  have hv : t = (⟨b.val + 1, by have := b.isLt; show b.val + 1 < 36; omega⟩ : Fin cfg0.N) := Fin.ext (by show t.val = b.val + 1; omega)
  have hfin := hy k k.isLt p q
  show after 4 t y = _
  rw [ey]
  refine hfin.trans ?_
  unfold elt
  rw [hu]
  congr 2

theorem index1 : ∀ t : Fin cfg0.N, win0_1.index t = ![0, t.val - 1] := (by decide +kernel : ∀ t : Fin grid0.N, win0_1.index t = ![0, t.val - 1])
theorem index2 : ∀ t : Fin cfg0.N, win0_2.index t = ![0, min t.val 34] := (by decide +kernel : ∀ t : Fin grid0.N, win0_2.index t = ![0, min t.val 34])
theorem index3 : ∀ t : Fin cfg0.N, win0_3.index t = ![0, min t.val 34] := (by decide +kernel : ∀ t : Fin grid0.N, win0_3.index t = ![0, min t.val 34])
theorem index0 : ∀ t : Fin cfg0.N, win0_0.index t = ![0, 0] := (by decide +kernel : ∀ t : Fin grid0.N, win0_0.index t = ![0, 0])

/-- The activations the body finds. -/
theorem ins_x1 (c : Dev nD) (t : Fin cfg0.N) (n : Fin 1920) (k : Fin 1536) :
    (insAt m c t).x1 (ix2 n k) = V m c main_v0 (ix2 n k) := by
  show iblk m c 0 t (ix2 n k) = _
  blk_ext [iblk, index0]

/-- The sums the body finds: block `b` of them at point `b + 1`. -/
theorem ins_x2 (c : Dev nD) (t : Fin cfg0.N) (b : Fin 35) (h : t.val = b.val + 1) (n : Fin 1920) (q : Fin 256) :
    (insAt m c t).x2 (ix2 n q) = V m c main_arg3 (ix2 n ⟨256 * b.val + q.val, by omega⟩) := by
  show iblk m c 1 t (ix2 n q) = _
  blk_ext [iblk, index1]
  show (t.val - 1) * 256 + q.val = 256 * b.val + q.val
  omega

/-- The codes the body finds: block `b` of them at point `b`. -/
theorem ins_x3 (c : Dev nD) (t : Fin cfg0.N) (b : Fin 35) (h : t.val = b.val) (n : Fin 768) (q : Fin 256) :
    (insAt m c t).x3 (ix2 n q) = V m c main_arg1 (ix2 n ⟨256 * b.val + q.val, by omega⟩) := by
  show iblk m c 2 t (ix2 n q) = _
  blk_ext [iblk, index2]
  show min t.val 34 * 256 + q.val = 256 * b.val + q.val
  omega

/-- The table the body finds: block `b` of it at point `b`. -/
theorem ins_x4 (c : Dev nD) (t : Fin cfg0.N) (b : Fin 35) (h : t.val = b.val) (n : Fin 8) (q : Fin 256) :
    (insAt m c t).x4 (ix2 n q) = V m c main_v4 (ix2 n ⟨256 * b.val + q.val, by omega⟩) := by
  show iblk m c 3 t (ix2 n q) = _
  blk_ext [iblk, index3]
  show min t.val 34 * 256 + q.val = 256 * b.val + q.val
  omega

/-- The activations as the host leaves them. -/
theorem V_v0 (c : Dev nD) : V m c main_v0 = (shapeCast _ (m ((c.tc : Thread nD τ).loc main_arg0)) shapeCasts_S5x384x1536_S1920x1536) := by
  rw [V_def]
  simp only [hostOps0, List.flatten_cons, List.flatten_nil, List.append_nil, List.cons_append, List.nil_append]
  after_results_simp <;> rfl

/-- The table as the host leaves it. -/
theorem V_v4 (c : Dev nD) : V m c main_v4 = Host.bitcastConvertWiden S8x8960 32 (transpose S8x8960x2 [0, 2, 1] (shapeCast S8x2x8960 (transpose S16x8960 [1, 0] (m ((c.tc : Thread nD τ).loc main_arg2)) transposes_S8960x16_S16x8960_1_0) shapeCasts_S16x8960_S8x2x8960) transposes_S8x2x8960_S8x8960x2_0_2_1) splits_S8x8960_w32_S8x8960x2_w16 := by
  rw [V_def]
  simp only [hostOps0, List.flatten_cons, List.flatten_nil, List.append_nil, List.cons_append, List.nil_append]
  after_results_simp <;> rfl

end Cert.Proof.DI
-- ==== Proof.DI.Half.lean ====
/-
  The halves of a decoded word: the low one is the level of the low code, the high one that of the high code.
-/
module

public import proofs.«01_k».proof.Proof.DI.Dec

@[expose] public section

namespace Cert.Proof.DI

open Idealize.ShloMosaic

theorem lo_idx : ∀ c : BitVec 8, (IntOp.andi (IntOp.shrsi .vector (BitVec.setWidth 32 c) 1#32) 7#32).toNat % 8 = c.toNat % 16 / 2 := by decide +kernel
theorem lo_shift : ∀ c : BitVec 8, IntOp.andi (IntOp.shli .vector (BitVec.setWidth 32 c) 4#32) 16#32 = if c.toNat % 2 = 0 then 0#32 else 16#32 := by decide +kernel
theorem hi_idx : ∀ c : BitVec 8, (IntOp.shrsi .vector (BitVec.setWidth 32 c) 5#32).toNat % 8 = c.toNat / 32 := by decide +kernel
theorem hi_shift : ∀ c : BitVec 8, IntOp.xori (IntOp.andi (BitVec.setWidth 32 c) 16#32) 16#32 = if c.toNat / 16 % 2 = 0 then 16#32 else 0#32 := by decide +kernel

theorem join_lo (a b : BitVec 32) : (IntOp.ori (IntOp.andi a 65535#32) (IntOp.andi b 4294901760#32)).extractLsb' 0 16 = a.extractLsb' 0 16 := by
  unfold IntOp.ori IntOp.andi
  apply BitVec.eq_of_getLsbD_eq
  intro i hi
  interval_cases i <;> simp
theorem join_hi (a b : BitVec 32) : (IntOp.ori (IntOp.andi a 65535#32) (IntOp.andi b 4294901760#32)).extractLsb' 16 16 = b.extractLsb' 16 16 := by
  unfold IntOp.ori IntOp.andi
  apply BitVec.eq_of_getLsbD_eq
  intro i hi
  interval_cases i <;> simp

theorem app_bit (h l : BitVec 16) (i : ℕ) : (h ++ l : BitVec 32).getLsbD i = if i < 16 then l.getLsbD i else h.getLsbD (i - 16) :=
  (BitVec.getLsbD_append ..).trans (by split <;> simp_all)

theorem shr0 (h l : BitVec 16) : (IntOp.shrui .vector (h ++ l) 0#32).extractLsb' 0 16 = l := by
  apply BitVec.eq_of_getLsbD_eq
  intro i hi
  simp [IntOp.shrui, app_bit, hi]
theorem shr16 (h l : BitVec 16) : (IntOp.shrui .vector (h ++ l) 16#32).extractLsb' 0 16 = h := by
  apply BitVec.eq_of_getLsbD_eq
  intro i hi
  simp [IntOp.shrui, app_bit, hi]
theorem shl0 (h l : BitVec 16) : (IntOp.shli .vector (h ++ l) 0#32).extractLsb' 16 16 = h := by
  apply BitVec.eq_of_getLsbD_eq
  intro i hi
  simp [IntOp.shli, app_bit, hi]
theorem shl16 (h l : BitVec 16) : (IntOp.shli .vector (h ++ l) 16#32).extractLsb' 16 16 = l := by
  apply BitVec.eq_of_getLsbD_eq
  intro i hi
  have h32 : 16 + i < 32 := by omega
  simp [IntOp.shli, h32, hi]
  have e := app_bit h l i
  rw [if_pos hi, BitVec.getLsbD_eq_getElem (by omega), BitVec.getLsbD_eq_getElem hi] at e
  exact e

/-- The low half. -/
theorem decW_lo (T : Fin 8 → BitVec 32) (L : Fin 16 → BitVec 16) (hT : ∀ k : Fin 8, T k = L ⟨2 * k.val + 1, by omega⟩ ++ L ⟨2 * k.val, by omega⟩)
    (c : BitVec 8) : (decW T c).extractLsb' 0 16 = L ⟨c.toNat % 16, Nat.mod_lt _ (by decide)⟩ := by
  unfold decW
  rw [join_lo, hT, lo_shift]
  have hi := lo_idx c
  split
  · rw [shr0]
    congr 2
    refine (congrArg (2 * ·) hi).trans ?_
    show 2 * (c.toNat % 16 / 2) = c.toNat % 16
    omega
  · rw [shr16]
    congr 2
    refine (congrArg (2 * · + 1) hi).trans ?_
    show 2 * (c.toNat % 16 / 2) + 1 = c.toNat % 16
    omega

/-- The high half. -/
theorem decW_hi (T : Fin 8 → BitVec 32) (L : Fin 16 → BitVec 16) (hT : ∀ k : Fin 8, T k = L ⟨2 * k.val + 1, by omega⟩ ++ L ⟨2 * k.val, by omega⟩)
    (c : BitVec 8) : (decW T c).extractLsb' 16 16 = L ⟨c.toNat / 16, by have := c.isLt; omega⟩ := by
  unfold decW
  rw [join_hi, hT, hi_shift]
  have hi := hi_idx c
  split
  · rw [shl16]
    congr 2
    refine (congrArg (2 * ·) hi).trans ?_
    show 2 * (c.toNat / 32) = c.toNat / 16
    omega
  · rw [shl0]
    congr 2
    refine (congrArg (2 * · + 1) hi).trans ?_
    show 2 * (c.toNat / 32) + 1 = c.toNat / 16
    omega

end Cert.Proof.DI
-- ==== Proof.DI.Closed.lean ====
/-
  An element of the result of `DenseIdeal` over the extended reals.
-/
module

public import proofs.«01_k».proof.Proof.DI.Value
public import proofs.«01_k».proof.Proof.DI.Half
public import Idealize.ShloMosaic.Lib.Pointwise
public import Idealize.ShloMosaic.Lib.BitcastPair
public import Idealize.ShloMosaic.Lib.BitcastConvert

@[expose] public section

noncomputable section

namespace Cert.Proof.DI

open Cert.DenseIdeal Cert.DenseIdeal.Gen
open Idealize.ShloMosaic hiding ix2 ix3
open Idealize.ShloMosaic.TcCoe Idealize.ShloMosaic.Tactic
open Idealize.ShloMosaic.ValueIdx

/-- The rows of the words read as rows of halves. -/
theorem bitcast_row (v : S768x256.Idx → BitVec 32) (j : Fin 1536) (q : Fin 256) :
    bitcast S1536x256 16 v bitcasts_S768x256_w32_S1536x256_w16 (ix2 j q)
      = (v (ix2 ⟨j.val / 2, by omega⟩ q)).extractLsb' (16 * (j.val % 2)) 16 := by
  rw [bitcast_32_16]
  have hr : S1536x256.row (ix2 j q) = j.val := by unfold Shape.row; rw [dif_pos (by decide)]; rfl
  have hs : ∀ hp, bitcasts_S768x256_w32_S1536x256_w16.srcIdx (ix2 j q) (S1536x256.row (ix2 j q) / 2) hp = ix2 ⟨j.val / 2, by omega⟩ q := by
    intro hp
    funext a
    apply Fin.ext
    match a with
    | ⟨0, _⟩ => exact (Shape.Bitcasts.srcIdx_row _ _ _ _ _ rfl).trans (by rw [hr])
    | ⟨1, _⟩ => exact (Shape.Bitcasts.srcIdx_other _ _ _ _ _ (show ¬ (1 + 2 = 2) by decide))
  rw [hs, hr]

/-- The levels as the host lays them out. -/
theorem levels (L : IVec S8960x16 16) (k : Fin 8) (q : Fin 8960) (p : Fin 2) :
    transpose S8x8960x2 [0, 2, 1] (shapeCast S8x2x8960 (transpose S16x8960 [1, 0] L transposes_S8960x16_S16x8960_1_0) shapeCasts_S16x8960_S8x2x8960) transposes_S8x2x8960_S8x8960x2_0_2_1 (ix3 k q p)
      = L (ix2 q ⟨2 * k.val + p.val, by omega⟩) := by
  pointwise
  refine congrArg L ?_
  funext a
  apply Fin.ext
  match a with
  | ⟨0, _⟩ => rfl
  | ⟨1, _⟩ => exact (by omega : k.val * 2 + p.val = 2 * k.val + p.val)

theorem snoc_eq (k : Fin 8) (q : Fin 8960) (p : Fin 2) (hp) :
    splits_S8x8960_w32_S8x8960x2_w16.snoc (ix2 k q) ⟨p.val, hp⟩ = ix3 k q p := by
  funext a
  apply Fin.ext
  match a with
  | ⟨0, _⟩ => exact Shape.SplitsWords.snoc_apply_val_of_lt splits_S8x8960_w32_S8x8960x2_w16 (ix2 k q) _ _ (show (0:ℕ) < 2 from by decide)
  | ⟨1, _⟩ => exact Shape.SplitsWords.snoc_apply_val_of_lt splits_S8x8960_w32_S8x8960x2_w16 (ix2 k q) _ _ (show (1:ℕ) < 2 from by decide)
  | ⟨2, _⟩ => exact congrArg Fin.val (Shape.SplitsWords.snoc_axis _ _ _)

/-- The level of a code, as bits. -/
def lut (m : (ℓ : Loc nD τ sig) → Buf (Elt Ideal) ℓ) (c : Dev nD) (q : Fin 8960) (n : Fin 16) : BitVec 16 := m ((c.tc : Thread nD τ).loc main_arg2) (ix2 q n)

/-- A word of the table is two neighbouring levels. -/
theorem word (m : (ℓ : Loc nD τ sig) → Buf (Elt Ideal) ℓ) (c : Dev nD) (k : Fin 8) (q : Fin 8960) :
    V m c main_v4 (ix2 k q) = lut m c q ⟨2 * k.val + 1, by omega⟩ ++ lut m c q ⟨2 * k.val, by omega⟩ := by
  rw [V_v4, Host.bitcastConvertWiden_apply_16_32]
  refine congrArg₂ (fun a b : BitVec 16 => (a ++ b : BitVec 32)) ?_ ?_
  · exact (congrArg _ (snoc_eq k q 1 _)).trans (levels _ k q 1)
  · exact (congrArg _ (snoc_eq k q 0 _)).trans (levels _ k q 0)

/-- A chunk's element. -/
theorem pay5_apply (v15 : Vec Ideal S768x256 .i32) (v18 : Vec Ideal S480x1536 .bf16) (v22 : Vec Ideal S480x256 .f32) (p : Fin 480) (q : Fin 256) :
    k0_pay5 (F := Ideal) v15 v18 v22 (ix2 p q) = (∑ j : Fin 1536, v18 (ix2 p j) * Ideal.ofBits .bf16 ((v15 (ix2 ⟨j.val / 2, by omega⟩ q)).extractLsb' (16 * (j.val % 2)) 16)) + v22 (ix2 p q) := by
  pointwise [k0_pay5]
  refine congrArg (· + _) (Finset.sum_congr rfl fun j _ => congrArg₂ (· * ·) (congrArg v18 (ix2_eq_valueIdx _ _)) (congrArg (Ideal.ofBits .bf16) ?_))
  exact (congrArg _ (ix2_eq_valueIdx _ _)).trans (bitcast_row v15 j q)

/-- The result's mathematics: the even columns of the activations with the levels of the low codes, the odd ones with the
    levels of the high codes, and the given sums. -/
def spec (x : Fin 1920 → Fin 1536 → EReal) (L : Fin 8960 → Fin 16 → BitVec 16) (C : Fin 768 → Fin 8960 → BitVec 8)
    (Y : Fin 1920 → Fin 8960 → EReal) (n : Fin 1920) (q : Fin 8960) : EReal :=
  (∑ k : Fin 768, x n ⟨2 * k.val, by omega⟩ * Ideal.ofBits .bf16 (L q ⟨(C k q).toNat % 16, Nat.mod_lt _ (by decide)⟩))
    + (∑ k : Fin 768, x n ⟨2 * k.val + 1, by omega⟩ * Ideal.ofBits .bf16 (L q ⟨(C k q).toNat / 16, by have := (C k q).isLt; omega⟩))
    + Y n q

/-- A sum over the columns is the sum over the even ones and the sum over the odd ones. -/
theorem sum_split (f : Fin 1536 → EReal) :
    ∑ j : Fin 1536, f j = (∑ k : Fin 768, f ⟨2 * k.val, by omega⟩) + ∑ k : Fin 768, f ⟨2 * k.val + 1, by omega⟩ := by
  rw [← Finset.sum_add_distrib, ← Fintype.sum_equiv (finProdFinEquiv : Fin 768 × Fin 2 ≃ Fin (768 * 2)) (fun y => f (finProdFinEquiv y)) f (fun _ => rfl),
    Fintype.sum_prod_type]
  refine Finset.sum_congr rfl fun k _ => ?_
  rw [Fin.sum_univ_two]
  refine congrArg₂ (· + ·) (congrArg f (Fin.ext ?_)) (congrArg f (Fin.ext ?_))
  · show 0 + 2 * k.val = 2 * k.val; omega
  · show 1 + 2 * k.val = 2 * k.val + 1; omega

/-- An element of the result, in closed form. -/
theorem elt_apply (m : (ℓ : Loc nD τ sig) → Buf (Elt Ideal) ℓ) (c : Dev nD) (b : Fin 35) (k : Fin 4) (p : Fin 480) (q : Fin 256) :
    elt m c b k p q = spec (fun n j => V m c main_v0 (ix2 n j)) (lut m c) (fun r q => m ((c.tc : Thread nD τ).loc main_arg1) (ix2 r q))
      (fun n q => m ((c.tc : Thread nD τ).loc main_arg3) (ix2 n q)) ⟨480 * k.val + p.val, by omega⟩ ⟨256 * b.val + q.val, by omega⟩ := by
  unfold elt prod
  refine (pay5_apply _ _ _ p q).trans ?_
  rw [sum_split]
  unfold spec
  have hw : ∀ (n : Fin 8), (insAt m c (⟨b.val, by have := b.isLt; show b.val < 36; omega⟩ : Fin cfg0.N)).x4 (ix2 n q)
      = lut m c ⟨256 * b.val + q.val, by omega⟩ ⟨2 * n.val + 1, by omega⟩ ++ lut m c ⟨256 * b.val + q.val, by omega⟩ ⟨2 * n.val, by omega⟩ :=
    fun n => (ins_x4 m c _ b rfl n q).trans (word m c n _)
  have hc : ∀ (r : Fin 768), (insAt m c (⟨b.val, by have := b.isLt; show b.val < 36; omega⟩ : Fin cfg0.N)).x3 (ix2 r q)
      = m ((c.tc : Thread nD τ).loc main_arg1) (ix2 r ⟨256 * b.val + q.val, by omega⟩) :=
    fun r => (ins_x3 m c _ b rfl r q).trans (congrFun (V_arg1 c) _)
  refine congrArg₂ (· + ·) (congrArg₂ (· + ·) (Finset.sum_congr rfl fun r _ => congrArg₂ (· * ·) ?_ (congrArg (Ideal.ofBits .bf16) ?_))
    (Finset.sum_congr rfl fun r _ => congrArg₂ (· * ·) ?_ (congrArg (Ideal.ofBits .bf16) ?_))) ?_
  · exact ins_x1 m c _ _ _
  · show (dec _ (⟨2 * r.val / 2, _⟩ : Fin 768) q).extractLsb' (16 * (2 * r.val % 2)) 16 = _
    rw [show 16 * (2 * r.val % 2) = 0 by omega]
    unfold dec
    refine (decW_lo _ (lut m c ⟨256 * b.val + q.val, by omega⟩) hw _).trans ?_
    have e : (⟨2 * r.val / 2, by omega⟩ : Fin 768) = r := Fin.ext (by show 2 * r.val / 2 = r.val; omega)
    refine congrArg _ (Fin.ext ?_)
    show BitVec.toNat _ % 16 = BitVec.toNat _ % 16
    rw [e, hc]
  · exact ins_x1 m c _ _ _
  · show (dec _ (⟨(2 * r.val + 1) / 2, _⟩ : Fin 768) q).extractLsb' (16 * ((2 * r.val + 1) % 2)) 16 = _
    rw [show 16 * ((2 * r.val + 1) % 2) = 16 by omega]
    unfold dec
    refine (decW_hi _ (lut m c ⟨256 * b.val + q.val, by omega⟩) hw _).trans ?_
    have e : (⟨(2 * r.val + 1) / 2, by omega⟩ : Fin 768) = r := Fin.ext (by show (2 * r.val + 1) / 2 = r.val; omega)
    refine congrArg _ (Fin.ext ?_)
    show BitVec.toNat _ / 16 = BitVec.toNat _ / 16
    rw [e, hc]
  · exact (ins_x2 m c _ b rfl _ q).trans (congrFun (V_arg3 c) _)

end Cert.Proof.DI
-- ==== Proof.RI.Value.lean ====
/-
  The reference's result over the extended reals, in closed form.
-/
module

public import proofs.«01_k».proof.Proof.DI.Closed
public import proofs.«01_k».proof.Proof.Gen.ReferenceIdeal.Run

@[expose] public section

noncomputable section

namespace Cert.Proof.RI

open Cert.ReferenceIdeal
open Cert.ReferenceIdeal.Facts₀
open Idealize.ShloMosaic hiding ix2 ix3
open Idealize.ShloMosaic.TcCoe Idealize.ShloMosaic.Tactic
open Idealize.ShloMosaic.ValueIdx
open Idealize.SL.Sem

/-- Bit `b` of a code, as a mask over the weights. -/
def mask (b : BitVec 32) (g : IVec S768x8960 32) : IVec S1x768x8960 1 :=
  broadcastInDim S1x768x8960 ![1, 2] bcast_S768x8960_S1x768x8960_1_2 (cmpi .ne (andi g (broadcastInDim S768x8960 ![] bcast_S_S768x8960 (constantI S_ 32 b))) (broadcastInDim S768x8960 ![] bcast_S_S768x8960 (constantI S_ 32 0#32)))

/-- The levels of every column. -/
def lv0 (L : IVec S8960x16 16) : FVec Ideal S16x1x8960 .bf16 :=
  broadcastInDim S16x1x8960 ![0, 2] bcast_S16x8960_S16x1x8960_0_2 (transpose S16x8960 [1, 0] (bitcastToFloat (F := Ideal) .bf16 L) transposes_S8960x16_S16x8960_1_0)

/-- The levels left after one bit of the code, -/
def lv1 (g : IVec S768x8960 32) (L : IVec S8960x16 16) : FVec Ideal S8x768x8960 .bf16 :=
  select (broadcastInDim S8x768x8960 ![0, 1, 2] bcast_S1x768x8960_S8x768x8960_0_1_2 (mask 1#32 g))
    (broadcastInDim S8x768x8960 ![0, 1, 2] bcast_S8x1x8960_S8x768x8960_0_1_2 (Host.slice S8x1x8960 ![1, 0, 0] ![2, 1, 1] (lv0 L) slicesBy_S16x1x8960_S8x1x8960_1s2_0s1_0s1))
    (broadcastInDim S8x768x8960 ![0, 1, 2] bcast_S8x1x8960_S8x768x8960_0_1_2 (Host.slice S8x1x8960 ![0, 0, 0] ![2, 1, 1] (lv0 L) slicesBy_S16x1x8960_S8x1x8960_0s2_0s1_0s1))

/-- two, -/
def lv2 (g : IVec S768x8960 32) (L : IVec S8960x16 16) : FVec Ideal S4x768x8960 .bf16 :=
  select (broadcastInDim S4x768x8960 ![0, 1, 2] bcast_S1x768x8960_S4x768x8960_0_1_2 (mask 2#32 g))
    (Host.slice S4x768x8960 ![1, 0, 0] ![2, 1, 1] (lv1 g L) slicesBy_S8x768x8960_S4x768x8960_1s2_0s1_0s1)
    (Host.slice S4x768x8960 ![0, 0, 0] ![2, 1, 1] (lv1 g L) slicesBy_S8x768x8960_S4x768x8960_0s2_0s1_0s1)

/-- three, -/
def lv3 (g : IVec S768x8960 32) (L : IVec S8960x16 16) : FVec Ideal S2x768x8960 .bf16 :=
  select (broadcastInDim S2x768x8960 ![0, 1, 2] bcast_S1x768x8960_S2x768x8960_0_1_2 (mask 4#32 g))
    (Host.slice S2x768x8960 ![1, 0, 0] ![2, 1, 1] (lv2 g L) slicesBy_S4x768x8960_S2x768x8960_1s2_0s1_0s1)
    (Host.slice S2x768x8960 ![0, 0, 0] ![2, 1, 1] (lv2 g L) slicesBy_S4x768x8960_S2x768x8960_0s2_0s1_0s1)

/-- and all four. -/
def lv4 (g : IVec S768x8960 32) (L : IVec S8960x16 16) : FVec Ideal S1x768x8960 .bf16 :=
  select (mask 8#32 g)
    (Host.slice S1x768x8960 ![1, 0, 0] ![2, 1, 1] (lv3 g L) slicesBy_S2x768x8960_S1x768x8960_1s2_0s1_0s1)
    (Host.slice S1x768x8960 ![0, 0, 0] ![2, 1, 1] (lv3 g L) slicesBy_S2x768x8960_S1x768x8960_0s2_0s1_0s1)

/-- The decoded weights. -/
def decode (g : IVec S768x8960 32) (L : IVec S8960x16 16) : FVec Ideal S768x8960 .bf16 :=
  shapeCast _ (lv4 g L) shapeCasts_S1x768x8960_S768x8960

/-- Codes as words; their low and high halves. -/
def lo (C : IVec S768x8960 8) : IVec S768x8960 32 := andi (extui 32 C natLt_8_32) (broadcastInDim S768x8960 ![] bcast_S_S768x8960 (constantI S_ 32 15#32))
def hi (C : IVec S768x8960 8) : IVec S768x8960 32 := Host.shrsi (extui 32 C natLt_8_32) (broadcastInDim S768x8960 ![] bcast_S_S768x8960 (constantI S_ 32 4#32))

/-- The even and the odd columns of the activations. -/
def even (x : FVec Ideal S1920x1536 .bf16) : FVec Ideal S1920x768 .bf16 := Host.slice S1920x768 ![0, 0] ![1, 2] x slicesBy_S1920x1536_S1920x768_0s1_0s2
def odd (x : FVec Ideal S1920x1536 .bf16) : FVec Ideal S1920x768 .bf16 := Host.slice S1920x768 ![0, 1] ![1, 2] x slicesBy_S1920x1536_S1920x768_0s1_1s2

/-- The whole reference. -/
def whole (x : FVec Ideal S1920x1536 .bf16) (C : IVec S768x8960 8) (L : IVec S8960x16 16) (Y : FVec Ideal S1920x8960 .f32) : FVec Ideal S1920x8960 .bf16 :=
  truncf .bf16 (addf (addf (Host.dotGeneral dot_S1920x768_S768x8960_S1920x8960_1_0_0_1_n_n none (even x) (decode (lo C) L))
    (Host.dotGeneral dot_S1920x768_S768x8960_S1920x8960_1_0_0_1_n_n none (odd x) (decode (hi C) L))) Y) bitsLt_bf16_f32

theorem res_eq (m : (ℓ : Loc nD τ sig) → Buf (Elt Ideal) ℓ) (c : Dev nD) :
    Cert.ReferenceIdeal.Value.res_main_v83 m c = whole (shapeCast _ (m ((c.tc : Thread nD τ).loc main_arg0)) shapeCasts_S5x384x1536_S1920x1536)
      (m ((c.tc : Thread nD τ).loc main_arg1)) (m ((c.tc : Thread nD τ).loc main_arg2)) (m ((c.tc : Thread nD τ).loc main_arg3)) := rfl

/-- One choice between two levels. -/
def pick {α : Type} (b w : BitVec 32) (x y : α) : α := Scalar.select (IntOp.cmpi .ne (IntOp.andi w b) 0#32) x y

theorem lv0_apply (L : IVec S8960x16 16) (i : Fin 16) (q : Fin 8960) : lv0 L (ix3 i 0 q) = Ideal.ofBits .bf16 (L (ix2 q i)) := by
  pointwise [lv0]
  exact congrArg (fun z => Ideal.ofBits .bf16 (L z)) (ix2_eq_valueIdx _ _)
theorem lv1_apply (g : IVec S768x8960 32) (L : IVec S8960x16 16) (i : Fin 8) (k : Fin 768) (q : Fin 8960) :
    lv1 g L (ix3 i k q) = pick 1#32 (g (ix2 k q)) (lv0 L (ix3 ⟨2 * i.val + 1, by omega⟩ 0 q)) (lv0 L (ix3 ⟨2 * i.val, by omega⟩ 0 q)) := by
  unfold pick
  pointwise [lv1, mask]
  refine congr (congrArg₂ Scalar.select (congrArg (fun z => IntOp.cmpi .ne (IntOp.andi (g z) 1#32) 0#32) (ix2_eq_valueIdx _ _)) (congrArg _ ?_)) (congrArg _ ?_)
  · exact (ix3_eq_valueIdx _ _ _).trans (congrArg (fun z => ix3 z 0 q) (Fin.ext (Nat.add_comm _ _)))
  · exact ix3_eq_valueIdx _ _ _
theorem lv2_apply (g : IVec S768x8960 32) (L : IVec S8960x16 16) (i : Fin 4) (k : Fin 768) (q : Fin 8960) :
    lv2 g L (ix3 i k q) = pick 2#32 (g (ix2 k q)) (lv1 g L (ix3 ⟨2 * i.val + 1, by omega⟩ k q)) (lv1 g L (ix3 ⟨2 * i.val, by omega⟩ k q)) := by
  unfold pick
  pointwise [lv2, mask]
  refine congr (congrArg₂ Scalar.select (congrArg (fun z => IntOp.cmpi .ne (IntOp.andi (g z) 2#32) 0#32) (ix2_eq_valueIdx _ _)) (congrArg _ ?_)) (congrArg _ ?_)
  · exact (ix3_eq_valueIdx _ _ _).trans (congrArg (fun z => ix3 z k q) (Fin.ext (Nat.add_comm _ _)))
  · exact ix3_eq_valueIdx _ _ _
theorem lv3_apply (g : IVec S768x8960 32) (L : IVec S8960x16 16) (i : Fin 2) (k : Fin 768) (q : Fin 8960) :
    lv3 g L (ix3 i k q) = pick 4#32 (g (ix2 k q)) (lv2 g L (ix3 ⟨2 * i.val + 1, by omega⟩ k q)) (lv2 g L (ix3 ⟨2 * i.val, by omega⟩ k q)) := by
  unfold pick
  pointwise [lv3, mask]
  refine congr (congrArg₂ Scalar.select (congrArg (fun z => IntOp.cmpi .ne (IntOp.andi (g z) 4#32) 0#32) (ix2_eq_valueIdx _ _)) (congrArg _ ?_)) (congrArg _ ?_)
  · exact (ix3_eq_valueIdx _ _ _).trans (congrArg (fun z => ix3 z k q) (Fin.ext (Nat.add_comm _ _)))
  · exact ix3_eq_valueIdx _ _ _
theorem lv4_apply (g : IVec S768x8960 32) (L : IVec S8960x16 16) (k : Fin 768) (q : Fin 8960) :
    lv4 g L (ix3 0 k q) = pick 8#32 (g (ix2 k q)) (lv3 g L (ix3 ⟨1, by decide⟩ k q)) (lv3 g L (ix3 ⟨0, by decide⟩ k q)) := by
  unfold pick
  pointwise [lv4, mask]
  refine congr (congrArg₂ Scalar.select (congrArg (fun z => IntOp.cmpi .ne (IntOp.andi (g z) 8#32) 0#32) (ix2_eq_valueIdx _ _)) (congrArg _ ?_)) (congrArg _ ?_)
  · exact (ix3_eq_valueIdx _ _ _)
  · exact ix3_eq_valueIdx _ _ _

/-- Four choices, of sixteen levels the one of the code. -/
def tree {α : Type} (f : Fin 16 → α) (w : BitVec 32) : α :=
  pick 8#32 w (pick 4#32 w (pick 2#32 w (pick 1#32 w (f 15) (f 14)) (pick 1#32 w (f 13) (f 12))) (pick 2#32 w (pick 1#32 w (f 11) (f 10)) (pick 1#32 w (f 9) (f 8)))) (pick 4#32 w (pick 2#32 w (pick 1#32 w (f 7) (f 6)) (pick 1#32 w (f 5) (f 4))) (pick 2#32 w (pick 1#32 w (f 3) (f 2)) (pick 1#32 w (f 1) (f 0))))

theorem pick_on {α : Type} {b w : BitVec 32} (h : IntOp.cmpi .ne (IntOp.andi w b) 0#32 = 1#1) (x y : α) : pick b w x y = x := by
  unfold pick; rw [h]; rfl
theorem pick_off {α : Type} {b w : BitVec 32} (h : IntOp.cmpi .ne (IntOp.andi w b) 0#32 = 0#1) (x y : α) : pick b w x y = y := by
  unfold pick; rw [h]; rfl

theorem tree_eq {α : Type} (f : Fin 16 → α) (n : Fin 16) : tree f (BitVec.ofNat 32 n.val) = f n := by
  unfold tree
  match n with
  | ⟨0, _⟩ =>
    rw [pick_off (b := 8#32) (w := BitVec.ofNat 32 0) (by decide +kernel), pick_off (b := 4#32) (w := BitVec.ofNat 32 0) (by decide +kernel), pick_off (b := 2#32) (w := BitVec.ofNat 32 0) (by decide +kernel), pick_off (b := 1#32) (w := BitVec.ofNat 32 0) (by decide +kernel)]
    rfl
  | ⟨1, _⟩ =>
    rw [pick_off (b := 8#32) (w := BitVec.ofNat 32 1) (by decide +kernel), pick_off (b := 4#32) (w := BitVec.ofNat 32 1) (by decide +kernel), pick_off (b := 2#32) (w := BitVec.ofNat 32 1) (by decide +kernel), pick_on (b := 1#32) (w := BitVec.ofNat 32 1) (by decide +kernel)]
    rfl
  | ⟨2, _⟩ =>
    rw [pick_off (b := 8#32) (w := BitVec.ofNat 32 2) (by decide +kernel), pick_off (b := 4#32) (w := BitVec.ofNat 32 2) (by decide +kernel), pick_on (b := 2#32) (w := BitVec.ofNat 32 2) (by decide +kernel), pick_off (b := 1#32) (w := BitVec.ofNat 32 2) (by decide +kernel)]
    rfl
  | ⟨3, _⟩ =>
    rw [pick_off (b := 8#32) (w := BitVec.ofNat 32 3) (by decide +kernel), pick_off (b := 4#32) (w := BitVec.ofNat 32 3) (by decide +kernel), pick_on (b := 2#32) (w := BitVec.ofNat 32 3) (by decide +kernel), pick_on (b := 1#32) (w := BitVec.ofNat 32 3) (by decide +kernel)]
    rfl
  | ⟨4, _⟩ =>
    rw [pick_off (b := 8#32) (w := BitVec.ofNat 32 4) (by decide +kernel), pick_on (b := 4#32) (w := BitVec.ofNat 32 4) (by decide +kernel), pick_off (b := 2#32) (w := BitVec.ofNat 32 4) (by decide +kernel), pick_off (b := 1#32) (w := BitVec.ofNat 32 4) (by decide +kernel)]
    rfl
  | ⟨5, _⟩ =>
    rw [pick_off (b := 8#32) (w := BitVec.ofNat 32 5) (by decide +kernel), pick_on (b := 4#32) (w := BitVec.ofNat 32 5) (by decide +kernel), pick_off (b := 2#32) (w := BitVec.ofNat 32 5) (by decide +kernel), pick_on (b := 1#32) (w := BitVec.ofNat 32 5) (by decide +kernel)]
    rfl
  | ⟨6, _⟩ =>
    rw [pick_off (b := 8#32) (w := BitVec.ofNat 32 6) (by decide +kernel), pick_on (b := 4#32) (w := BitVec.ofNat 32 6) (by decide +kernel), pick_on (b := 2#32) (w := BitVec.ofNat 32 6) (by decide +kernel), pick_off (b := 1#32) (w := BitVec.ofNat 32 6) (by decide +kernel)]
    rfl
  | ⟨7, _⟩ =>
    rw [pick_off (b := 8#32) (w := BitVec.ofNat 32 7) (by decide +kernel), pick_on (b := 4#32) (w := BitVec.ofNat 32 7) (by decide +kernel), pick_on (b := 2#32) (w := BitVec.ofNat 32 7) (by decide +kernel), pick_on (b := 1#32) (w := BitVec.ofNat 32 7) (by decide +kernel)]
    rfl
  | ⟨8, _⟩ =>
    rw [pick_on (b := 8#32) (w := BitVec.ofNat 32 8) (by decide +kernel), pick_off (b := 4#32) (w := BitVec.ofNat 32 8) (by decide +kernel), pick_off (b := 2#32) (w := BitVec.ofNat 32 8) (by decide +kernel), pick_off (b := 1#32) (w := BitVec.ofNat 32 8) (by decide +kernel)]
    rfl
  | ⟨9, _⟩ =>
    rw [pick_on (b := 8#32) (w := BitVec.ofNat 32 9) (by decide +kernel), pick_off (b := 4#32) (w := BitVec.ofNat 32 9) (by decide +kernel), pick_off (b := 2#32) (w := BitVec.ofNat 32 9) (by decide +kernel), pick_on (b := 1#32) (w := BitVec.ofNat 32 9) (by decide +kernel)]
    rfl
  | ⟨10, _⟩ =>
    rw [pick_on (b := 8#32) (w := BitVec.ofNat 32 10) (by decide +kernel), pick_off (b := 4#32) (w := BitVec.ofNat 32 10) (by decide +kernel), pick_on (b := 2#32) (w := BitVec.ofNat 32 10) (by decide +kernel), pick_off (b := 1#32) (w := BitVec.ofNat 32 10) (by decide +kernel)]
    rfl
  | ⟨11, _⟩ =>
    rw [pick_on (b := 8#32) (w := BitVec.ofNat 32 11) (by decide +kernel), pick_off (b := 4#32) (w := BitVec.ofNat 32 11) (by decide +kernel), pick_on (b := 2#32) (w := BitVec.ofNat 32 11) (by decide +kernel), pick_on (b := 1#32) (w := BitVec.ofNat 32 11) (by decide +kernel)]
    rfl
  | ⟨12, _⟩ =>
    rw [pick_on (b := 8#32) (w := BitVec.ofNat 32 12) (by decide +kernel), pick_on (b := 4#32) (w := BitVec.ofNat 32 12) (by decide +kernel), pick_off (b := 2#32) (w := BitVec.ofNat 32 12) (by decide +kernel), pick_off (b := 1#32) (w := BitVec.ofNat 32 12) (by decide +kernel)]
    rfl
  | ⟨13, _⟩ =>
    rw [pick_on (b := 8#32) (w := BitVec.ofNat 32 13) (by decide +kernel), pick_on (b := 4#32) (w := BitVec.ofNat 32 13) (by decide +kernel), pick_off (b := 2#32) (w := BitVec.ofNat 32 13) (by decide +kernel), pick_on (b := 1#32) (w := BitVec.ofNat 32 13) (by decide +kernel)]
    rfl
  | ⟨14, _⟩ =>
    rw [pick_on (b := 8#32) (w := BitVec.ofNat 32 14) (by decide +kernel), pick_on (b := 4#32) (w := BitVec.ofNat 32 14) (by decide +kernel), pick_on (b := 2#32) (w := BitVec.ofNat 32 14) (by decide +kernel), pick_off (b := 1#32) (w := BitVec.ofNat 32 14) (by decide +kernel)]
    rfl
  | ⟨15, _⟩ =>
    rw [pick_on (b := 8#32) (w := BitVec.ofNat 32 15) (by decide +kernel), pick_on (b := 4#32) (w := BitVec.ofNat 32 15) (by decide +kernel), pick_on (b := 2#32) (w := BitVec.ofNat 32 15) (by decide +kernel), pick_on (b := 1#32) (w := BitVec.ofNat 32 15) (by decide +kernel)]
    rfl
  | ⟨n + 16, h⟩ => exact absurd h (by omega)

theorem decode_apply (g : IVec S768x8960 32) (L : IVec S8960x16 16) (k : Fin 768) (q : Fin 8960) :
    decode g L (ix2 k q) = tree (fun i => Ideal.ofBits .bf16 (L (ix2 q i))) (g (ix2 k q)) := by
  have h : decode g L (ix2 k q) = lv4 g L (ix3 0 k q) := by
    pointwise [decode]
    exact congrArg _ (ix3_eq_valueIdx _ _ _)
  rw [h]
  simp only [lv4_apply, lv3_apply, lv2_apply, lv1_apply, lv0_apply]
  rfl

theorem lo_code : ∀ c : BitVec 8, IntOp.andi (BitVec.setWidth 32 c) 15#32 = BitVec.ofNat 32 (c.toNat % 16) := by decide +kernel
theorem lo_apply (C : IVec S768x8960 8) (k : Fin 768) (q : Fin 8960) : lo C (ix2 k q) = BitVec.ofNat 32 ((C (ix2 k q)).toNat % 16) := by
  rw [← lo_code]
  pointwise [lo]
theorem hi_code : ∀ c : BitVec 8, IntOp.shrsi .host (BitVec.setWidth 32 c) 4#32 = BitVec.ofNat 32 (c.toNat / 16) := by decide +kernel
theorem hi_apply (C : IVec S768x8960 8) (k : Fin 768) (q : Fin 8960) : hi C (ix2 k q) = BitVec.ofNat 32 ((C (ix2 k q)).toNat / 16) := by
  rw [← hi_code]
  pointwise [hi]

/-- The reference's result, in closed form. -/
theorem whole_apply (x : FVec Ideal S1920x1536 .bf16) (C : IVec S768x8960 8) (L : IVec S8960x16 16) (Y : FVec Ideal S1920x8960 .f32) (n : Fin 1920) (q : Fin 8960) :
    whole x C L Y (ix2 n q) = DI.spec (fun n j => x (ix2 n j)) (fun q i => L (ix2 q i)) (fun r q => C (ix2 r q)) (fun n q => Y (ix2 n q)) n q := by
  have el : ∀ (r : Fin 768) (q : Fin 8960), decode (lo C) L (ix2 r q) = Ideal.ofBits .bf16 (L (ix2 q (⟨(C (ix2 r q)).toNat % 16, Nat.mod_lt _ (by decide)⟩ : Fin 16))) := by
    intro r q
    rw [decode_apply, lo_apply]
    exact tree_eq _ (⟨(C (ix2 r q)).toNat % 16, Nat.mod_lt _ (by decide)⟩ : Fin 16)
  have eh : ∀ (r : Fin 768) (q : Fin 8960), decode (hi C) L (ix2 r q) = Ideal.ofBits .bf16 (L (ix2 q (⟨(C (ix2 r q)).toNat / 16, by have := (C (ix2 r q)).isLt; omega⟩ : Fin 16))) := by
    intro r q
    rw [decode_apply, hi_apply]
    exact tree_eq _ (⟨(C (ix2 r q)).toNat / 16, by have := (C (ix2 r q)).isLt; omega⟩ : Fin 16)
  pointwise [whole, even, odd]
  unfold DI.spec
  refine congrArg (· + _) (congrArg₂ (· + ·) (Finset.sum_congr rfl fun r _ => congrArg₂ (· * ·) ?_ ?_) (Finset.sum_congr rfl fun r _ => congrArg₂ (· * ·) ?_ ?_))
  · exact congrArg x (ix2_eq_valueIdx _ _)
  · exact (congrArg _ (ix2_eq_valueIdx _ _)).trans (el r q)
  · exact congrArg x ((ix2_eq_valueIdx _ _).trans (congrArg (fun z => ix2 n z) (Fin.ext (Nat.add_comm _ _))))
  · exact (congrArg _ (ix2_eq_valueIdx _ _)).trans (eh r q)

end Cert.Proof.RI
-- ==== Proof.RI.Same.lean ====
/-
  The dense program and its reference leave the same result over the extended reals.
-/
module

public import proofs.«01_k».proof.Proof.DI.Closed
public import proofs.«01_k».proof.Proof.RI.Value

@[expose] public section

noncomputable section

namespace Cert.Proof

open Idealize.ShloMosaic hiding ix2 ix3
open Idealize.ShloMosaic.TcCoe
open Idealize.ShloMosaic.ValueIdx
open Idealize.ShloMosaic.Pipeline (RDat)
open Idealize.SL.Sem

/-- The result both leave. -/
def common (m : (ℓ : Loc Cert.DenseIdeal.nD Cert.DenseIdeal.τ Cert.DenseIdeal.sig) → Buf (Elt Ideal) ℓ) (c : Dev Cert.DenseIdeal.nD) :
    Buf (Elt Ideal) ((c.tc : Thread Cert.DenseIdeal.nD Cert.DenseIdeal.τ).loc Cert.DenseIdeal.main_v5) :=
  fun i => DI.spec (fun n j => shapeCast Cert.DenseIdeal.S1920x1536 (m ((c.tc : Thread Cert.DenseIdeal.nD Cert.DenseIdeal.τ).loc Cert.DenseIdeal.main_arg0)) Cert.DenseIdeal.Facts₀.shapeCasts_S5x384x1536_S1920x1536 (ix2 n j))
    (DI.lut m c) (fun r q => m ((c.tc : Thread Cert.DenseIdeal.nD Cert.DenseIdeal.τ).loc Cert.DenseIdeal.main_arg1) (ix2 r q))
    (fun n q => m ((c.tc : Thread Cert.DenseIdeal.nD Cert.DenseIdeal.τ).loc Cert.DenseIdeal.main_arg3) (ix2 n q)) (i 0) (i 1)

/-- The dense program leaves it. -/
theorem dense_result (m : (ℓ : Loc Cert.DenseIdeal.nD Cert.DenseIdeal.τ Cert.DenseIdeal.sig) → Buf (Elt Ideal) ℓ) {r : PUnit × MemSt Cert.DenseIdeal.nD Cert.DenseIdeal.τ Cert.DenseIdeal.sig (Elt Ideal)}
    (h : RDat.FramePost (Cert.DenseIdeal.cfgs 0) (fun c => (DI.dats m (DI.track m) 0 c).toRRel DI.outs (DI.rel (DI.track m) c)) (DI.V m) r)
    (c : Dev Cert.DenseIdeal.nD) : r.2.mem ((c.tc : Thread Cert.DenseIdeal.nD Cert.DenseIdeal.τ).loc Cert.DenseIdeal.main_v5) = common m c := by
  funext i
  have h0 : (i 0).val < 1920 := (i 0).isLt
  have h1 : (i 1).val < 8960 := (i 1).isLt
  have e : i = ix2 (⟨480 * ((i 0).val / 480) + (i 0).val % 480, by omega⟩ : Fin 1920) (⟨256 * ((i 1).val / 256) + (i 1).val % 256, by omega⟩ : Fin 8960) := by
    funext a
    apply Fin.ext
    match a with
    | ⟨0, _⟩ => exact (Nat.div_add_mod _ _).symm
    | ⟨1, _⟩ => exact (Nat.div_add_mod _ _).symm
  rw [e]
  refine (DI.result m h c ⟨(i 1).val / 256, by omega⟩ ⟨(i 0).val / 480, by omega⟩ ⟨(i 0).val % 480, by omega⟩ ⟨(i 1).val % 256, by omega⟩).trans ?_
  refine (DI.elt_apply m c _ _ _ _).trans ?_
  rw [DI.V_v0]
  rfl

/-- The reference leaves it, from equal arguments. -/
theorem ref_result (m : (ℓ : Loc Cert.DenseIdeal.nD Cert.DenseIdeal.τ Cert.DenseIdeal.sig) → Buf (Elt Ideal) ℓ)
    (m' : (ℓ : Loc Cert.ReferenceIdeal.nD Cert.ReferenceIdeal.τ Cert.ReferenceIdeal.sig) → Buf (Elt Ideal) ℓ) (c : Dev Cert.DenseIdeal.nD)
    (e0 : m' ((c.tc : Thread Cert.ReferenceIdeal.nD Cert.ReferenceIdeal.τ).loc Cert.ReferenceIdeal.main_arg0) = m ((c.tc : Thread Cert.DenseIdeal.nD Cert.DenseIdeal.τ).loc Cert.DenseIdeal.main_arg0))
    (e1 : m' ((c.tc : Thread Cert.ReferenceIdeal.nD Cert.ReferenceIdeal.τ).loc Cert.ReferenceIdeal.main_arg1) = m ((c.tc : Thread Cert.DenseIdeal.nD Cert.DenseIdeal.τ).loc Cert.DenseIdeal.main_arg1))
    (e2 : m' ((c.tc : Thread Cert.ReferenceIdeal.nD Cert.ReferenceIdeal.τ).loc Cert.ReferenceIdeal.main_arg2) = m ((c.tc : Thread Cert.DenseIdeal.nD Cert.DenseIdeal.τ).loc Cert.DenseIdeal.main_arg2))
    (e3 : m' ((c.tc : Thread Cert.ReferenceIdeal.nD Cert.ReferenceIdeal.τ).loc Cert.ReferenceIdeal.main_arg3) = m ((c.tc : Thread Cert.DenseIdeal.nD Cert.DenseIdeal.τ).loc Cert.DenseIdeal.main_arg3)) :
    Cert.ReferenceIdeal.Value.res_main_v83 m' c = common m c := by
  rw [RI.res_eq, e0, e1, e2, e3]
  funext i
  rw [ValueIdx.eq_ix2 i]
  exact RI.whole_apply _ _ _ _ _ _

end Cert.Proof
-- ==== Proof.K.Common.lean ====
/-
  Shared by the proofs about `Kernel`: the proof's resource algebra, the kernel body's thirteen buffers as one resource
  over a record of contents, and a small program logic over it (`W`): a run of a piece of the body from given contents ends
  in a value and contents satisfying a stated pure relation. One rule per operation of the body (a load of each buffer, a
  store to each written buffer, an assumption, a loop by an invariant, sequencing).
-/
module

public import proofs.«01_k».proof.Kernel
public import Idealize.ShloMosaic.Lib.Pipeline.Sound
public import Idealize.ShloMosaic.Lib.Tactic
public import proofs.«01_k».proof.Proof.Gen.Kernel
public import proofs.«01_k».proof.Proof.Gen.Kernel.Skeleton

@[expose] public section

noncomputable section

namespace Cert.Proof.K

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The ghost algebra of the launch. -/
abbrev UR (nD : Nat) (τ : Topo) : Type := URounds (GSem nD τ sig) Unit

local notation "𝕄" => MT nD τ sig Unit (Elt F) ℕ (UR nD τ) ℕ

/-- The variants of the one label's calls: the words still to go. -/
abbrev 𝒱₀ : Variants := Variants.nat

/-- The kernel body's thirteen buffers. -/
structure Mems where
  a1 : Memref sig .tc .smem S8961 .i32
  h1 : a1.IsWhole
  a2 : Memref sig .tc .smem S280 .i32
  h2 : a2.IsWhole
  a3 : Memref sig .tc .smem S65024 .i32
  h3 : a3.IsWhole
  a4 : Memref sig .tc .vmem S1920x1536 .i16
  h4 : a4.IsWhole
  a5 : Memref sig .tc .vmem S2032x32 .i32
  h5 : a5.IsWhole
  a6 : Memref sig .tc .vmem S768x256 .i8
  h6 : a6.IsWhole
  a7 : Memref sig .tc .vmem S8x256 .i32
  h7 : a7.IsWhole
  a8 : Memref sig .tc .vmem S1920x256 .bf16
  h8 : a8.IsWhole
  a9 : Memref sig .tc .vmem S1920x256 .f32
  h9 : a9.IsWhole
  a10 : Memref sig .tc .vmem S12288x128 .i32
  h10 : a10.IsWhole
  a11 : Memref sig .tc .vmem S1536x256 .i32
  h11 : a11.IsWhole
  a12 : Memref sig .tc .vmem S8704x128 .f32
  h12 : a12.IsWhole
  a13 : Memref sig .tc .vmem S8224x128 .i32
  h13 : a13.IsWhole

/-- The contents of the seven buffers the body only reads. -/
@[ext] structure Ins (F : FTy → Type) where
  x1 : S8961.Idx → Elt F .i32
  x2 : S280.Idx → Elt F .i32
  x3 : S65024.Idx → Elt F .i32
  x4 : S1920x1536.Idx → Elt F .i16
  x5 : S2032x32.Idx → Elt F .i32
  x6 : S768x256.Idx → Elt F .i8
  x7 : S8x256.Idx → Elt F .i32

/-- The contents of the six buffers the body writes. -/
@[ext] structure St (F : FTy → Type) where
  s8 : S1920x256.Idx → Elt F .bf16
  s9 : S1920x256.Idx → Elt F .f32
  s10 : S12288x128.Idx → Elt F .i32
  s11 : S1536x256.Idx → Elt F .i32
  s12 : S8704x128.Idx → Elt F .f32
  s13 : S8224x128.Idx → Elt F .i32

/-- The contents with buffer 8 replaced. -/
def St.set8 (s : St F) (f : S1920x256.Idx → Elt F .bf16) : St F := { s with s8 := f }
/-- The contents with buffer 9 replaced. -/
def St.set9 (s : St F) (f : S1920x256.Idx → Elt F .f32) : St F := { s with s9 := f }
/-- The contents with buffer 10 replaced. -/
def St.set10 (s : St F) (f : S12288x128.Idx → Elt F .i32) : St F := { s with s10 := f }
/-- The contents with buffer 11 replaced. -/
def St.set11 (s : St F) (f : S1536x256.Idx → Elt F .i32) : St F := { s with s11 := f }
/-- The contents with buffer 12 replaced. -/
def St.set12 (s : St F) (f : S8704x128.Idx → Elt F .f32) : St F := { s with s12 := f }
/-- The contents with buffer 13 replaced. -/
def St.set13 (s : St F) (f : S8224x128.Idx → Elt F .i32) : St F := { s with s13 := f }
@[simp] theorem St.set8_s8 (s : St F) (f : S1920x256.Idx → Elt F .bf16) : (s.set8 f).s8 = f := rfl
@[simp] theorem St.set8_s9 (s : St F) (f : S1920x256.Idx → Elt F .bf16) : (s.set8 f).s9 = s.s9 := rfl
@[simp] theorem St.set8_s10 (s : St F) (f : S1920x256.Idx → Elt F .bf16) : (s.set8 f).s10 = s.s10 := rfl
@[simp] theorem St.set8_s11 (s : St F) (f : S1920x256.Idx → Elt F .bf16) : (s.set8 f).s11 = s.s11 := rfl
@[simp] theorem St.set8_s12 (s : St F) (f : S1920x256.Idx → Elt F .bf16) : (s.set8 f).s12 = s.s12 := rfl
@[simp] theorem St.set8_s13 (s : St F) (f : S1920x256.Idx → Elt F .bf16) : (s.set8 f).s13 = s.s13 := rfl
@[simp] theorem St.set8_set8 (s : St F) (f g : S1920x256.Idx → Elt F .bf16) : (s.set8 f).set8 g = s.set8 g := rfl
@[simp] theorem St.set9_s8 (s : St F) (f : S1920x256.Idx → Elt F .f32) : (s.set9 f).s8 = s.s8 := rfl
@[simp] theorem St.set9_s9 (s : St F) (f : S1920x256.Idx → Elt F .f32) : (s.set9 f).s9 = f := rfl
@[simp] theorem St.set9_s10 (s : St F) (f : S1920x256.Idx → Elt F .f32) : (s.set9 f).s10 = s.s10 := rfl
@[simp] theorem St.set9_s11 (s : St F) (f : S1920x256.Idx → Elt F .f32) : (s.set9 f).s11 = s.s11 := rfl
@[simp] theorem St.set9_s12 (s : St F) (f : S1920x256.Idx → Elt F .f32) : (s.set9 f).s12 = s.s12 := rfl
@[simp] theorem St.set9_s13 (s : St F) (f : S1920x256.Idx → Elt F .f32) : (s.set9 f).s13 = s.s13 := rfl
@[simp] theorem St.set9_set9 (s : St F) (f g : S1920x256.Idx → Elt F .f32) : (s.set9 f).set9 g = s.set9 g := rfl
@[simp] theorem St.set10_s8 (s : St F) (f : S12288x128.Idx → Elt F .i32) : (s.set10 f).s8 = s.s8 := rfl
@[simp] theorem St.set10_s9 (s : St F) (f : S12288x128.Idx → Elt F .i32) : (s.set10 f).s9 = s.s9 := rfl
@[simp] theorem St.set10_s10 (s : St F) (f : S12288x128.Idx → Elt F .i32) : (s.set10 f).s10 = f := rfl
@[simp] theorem St.set10_s11 (s : St F) (f : S12288x128.Idx → Elt F .i32) : (s.set10 f).s11 = s.s11 := rfl
@[simp] theorem St.set10_s12 (s : St F) (f : S12288x128.Idx → Elt F .i32) : (s.set10 f).s12 = s.s12 := rfl
@[simp] theorem St.set10_s13 (s : St F) (f : S12288x128.Idx → Elt F .i32) : (s.set10 f).s13 = s.s13 := rfl
@[simp] theorem St.set10_set10 (s : St F) (f g : S12288x128.Idx → Elt F .i32) : (s.set10 f).set10 g = s.set10 g := rfl
@[simp] theorem St.set11_s8 (s : St F) (f : S1536x256.Idx → Elt F .i32) : (s.set11 f).s8 = s.s8 := rfl
@[simp] theorem St.set11_s9 (s : St F) (f : S1536x256.Idx → Elt F .i32) : (s.set11 f).s9 = s.s9 := rfl
@[simp] theorem St.set11_s10 (s : St F) (f : S1536x256.Idx → Elt F .i32) : (s.set11 f).s10 = s.s10 := rfl
@[simp] theorem St.set11_s11 (s : St F) (f : S1536x256.Idx → Elt F .i32) : (s.set11 f).s11 = f := rfl
@[simp] theorem St.set11_s12 (s : St F) (f : S1536x256.Idx → Elt F .i32) : (s.set11 f).s12 = s.s12 := rfl
@[simp] theorem St.set11_s13 (s : St F) (f : S1536x256.Idx → Elt F .i32) : (s.set11 f).s13 = s.s13 := rfl
@[simp] theorem St.set11_set11 (s : St F) (f g : S1536x256.Idx → Elt F .i32) : (s.set11 f).set11 g = s.set11 g := rfl
@[simp] theorem St.set12_s8 (s : St F) (f : S8704x128.Idx → Elt F .f32) : (s.set12 f).s8 = s.s8 := rfl
@[simp] theorem St.set12_s9 (s : St F) (f : S8704x128.Idx → Elt F .f32) : (s.set12 f).s9 = s.s9 := rfl
@[simp] theorem St.set12_s10 (s : St F) (f : S8704x128.Idx → Elt F .f32) : (s.set12 f).s10 = s.s10 := rfl
@[simp] theorem St.set12_s11 (s : St F) (f : S8704x128.Idx → Elt F .f32) : (s.set12 f).s11 = s.s11 := rfl
@[simp] theorem St.set12_s12 (s : St F) (f : S8704x128.Idx → Elt F .f32) : (s.set12 f).s12 = f := rfl
@[simp] theorem St.set12_s13 (s : St F) (f : S8704x128.Idx → Elt F .f32) : (s.set12 f).s13 = s.s13 := rfl
@[simp] theorem St.set12_set12 (s : St F) (f g : S8704x128.Idx → Elt F .f32) : (s.set12 f).set12 g = s.set12 g := rfl
@[simp] theorem St.set13_s8 (s : St F) (f : S8224x128.Idx → Elt F .i32) : (s.set13 f).s8 = s.s8 := rfl
@[simp] theorem St.set13_s9 (s : St F) (f : S8224x128.Idx → Elt F .i32) : (s.set13 f).s9 = s.s9 := rfl
@[simp] theorem St.set13_s10 (s : St F) (f : S8224x128.Idx → Elt F .i32) : (s.set13 f).s10 = s.s10 := rfl
@[simp] theorem St.set13_s11 (s : St F) (f : S8224x128.Idx → Elt F .i32) : (s.set13 f).s11 = s.s11 := rfl
@[simp] theorem St.set13_s12 (s : St F) (f : S8224x128.Idx → Elt F .i32) : (s.set13 f).s12 = s.s12 := rfl
@[simp] theorem St.set13_s13 (s : St F) (f : S8224x128.Idx → Elt F .i32) : (s.set13 f).s13 = f := rfl
@[simp] theorem St.set13_set13 (s : St F) (f g : S8224x128.Idx → Elt F .i32) : (s.set13 f).set13 g = s.set13 g := rfl

/-- All thirteen buffers held whole at the given contents. -/
def R (c : Dev nD) (ms : Mems) (X : Ins F) (s : St F) : sProp 𝕄 :=
  iprop(owns (c : Thread nD τ) ms.a1 fullShare X.x1
    ∗ owns (c : Thread nD τ) ms.a2 fullShare X.x2
    ∗ owns (c : Thread nD τ) ms.a3 fullShare X.x3
    ∗ owns (c : Thread nD τ) ms.a4 fullShare X.x4
    ∗ owns (c : Thread nD τ) ms.a5 fullShare X.x5
    ∗ owns (c : Thread nD τ) ms.a6 fullShare X.x6
    ∗ owns (c : Thread nD τ) ms.a7 fullShare X.x7
    ∗ owns (c : Thread nD τ) ms.a8 fullShare s.s8
    ∗ owns (c : Thread nD τ) ms.a9 fullShare s.s9
    ∗ owns (c : Thread nD τ) ms.a10 fullShare s.s10
    ∗ owns (c : Thread nD τ) ms.a11 fullShare s.s11
    ∗ owns (c : Thread nD τ) ms.a12 fullShare s.s12
    ∗ owns (c : Thread nD τ) ms.a13 fullShare s.s13)

/-- From contents `s` the program runs to a value and contents related by `Q`. -/
def W (c : Dev nD) (ms : Mems) (X : Ins F) (bd : Option ℕ) {α : Type} (p : Prog (TpuEff nD τ sig (Elt F) (Λ₀ F) .tc) α)
    (Q : α → St F → Prop) (s : St F) : Prop :=
  (R c ms X s : sProp 𝕄) ⊢ wp frame (wpE (defs₀ (F := F)) 𝒱₀ (c : Thread nD τ) bd) Set.univ p
    (fun a => iprop(∃ s', ⌜Q a s'⌝ ∗ R c ms X s'))

/-- What a store of `w` through the rectangle `r` makes of contents `f`. -/
def Upd {s : Shape} {α : Type} (r : Rect s) (w : r.shape.Idx → α) (f f' : s.Idx → α) : Prop :=
  (∀ j, f' (r.emb j) = w j) ∧ ∀ i, (∀ j, r.emb j ≠ i) → f' i = f i

section Rules

variable {c : Dev nD} {ms : Mems} {X : Ins F} {bd : Option ℕ} {α β : Type}

theorem W_pure {a : α} {Q : α → St F → Prop} {s : St F} (h : Q a s) : W c ms X bd (pure a) Q s := by
  unfold W
  rw [Prog.pure_eq_ret, wp_ret]
  iintro H
  imodintro
  iexists s
  isplitr
  · ipureintro; exact h
  · iexact H

/-- Sequencing. -/
theorem W_bind {p : Prog (TpuEff nD τ sig (Elt F) (Λ₀ F) .tc) α} {k : α → Prog (TpuEff nD τ sig (Elt F) (Λ₀ F) .tc) β}
    {Q : β → St F → Prop} {s : St F} (h : W c ms X bd p (fun a s' => W c ms X bd (k a) Q s') s) :
    W c ms X bd (p >>= k) Q s := by
  unfold W at h ⊢
  rw [wp_bind]
  refine h.trans (wp_mono _ _ _ fun a => ?_)
  iintro ⟨%s', %h', H⟩
  iapply h'
  iexact H

/-- A stronger relation suffices. -/
theorem W_mono {p : Prog (TpuEff nD τ sig (Elt F) (Λ₀ F) .tc) α} {Q Q' : α → St F → Prop} {s : St F}
    (h : W c ms X bd p Q s) (hQ : ∀ a s', Q a s' → Q' a s') : W c ms X bd p Q' s := by
  unfold W at h ⊢
  refine h.trans (wp_mono _ _ _ fun a => ?_)
  iintro ⟨%s', %h', H⟩
  iexists s'
  isplitr
  · ipureintro; exact hQ _ _ h'
  · iexact H

/-- An assumption that holds. -/
theorem W_assume {P : Prop} {d : Decidable P} {Q : PLift P → St F → Prop} {s : St F} (hP : P) (h : Q ⟨hP⟩ s) :
    W c ms X bd (Prog.lift (.assume P d)) Q s := by
  unfold W
  refine BIBase.Entails.trans ?_ (wp_assume 𝒱₀ (c : Thread nD τ) bd Set.univ hP)
  exact W_pure (a := (⟨hP⟩ : PLift P)) h

/-- A counted loop by an invariant of the trip, the carried value and the contents. -/
theorem W_for {w : Nat} {σ : Type} {l : Scf.Loop w} {hok : l.OK} {init : σ}
    {body : Fin l.trips → σ → Prog (TpuEff nD τ sig (Elt F) (Λ₀ F) .tc) σ} {Q : σ → St F → Prop} {s : St F}
    (I : ℕ → σ → St F → Prop) (h0 : I 0 init s)
    (hstep : ∀ (k : Fin l.trips) (acc : σ) (s' : St F), I k.val acc s' → W c ms X bd (body k acc) (I (k.val + 1)) s')
    (hend : ∀ acc s', I l.trips acc s' → Q acc s') : W c ms X bd (Scf.Loop.for l hok init body) Q s := by
  unfold W
  refine BIBase.Entails.trans ?_ (Scf.wp_for frame (wpE (defs₀ (F := F)) 𝒱₀ (c : Thread nD τ) bd) Set.univ l.lb l.ub l.st hok init body
    (fun k acc => iprop(∃ s', ⌜I k acc s'⌝ ∗ R c ms X s')) ?_)
  · iintro H
    isplitl [H]
    · iexists s
      isplitr
      · ipureintro; exact h0
      · iexact H
    · iintro %acc ⟨%s', %h', H⟩
      iexists s'
      isplitr
      · ipureintro; exact hend _ _ h'
      · iexact H
  · intro k acc
    iintro ⟨%s', %h', H⟩
    have h'' := hstep k acc s' h'
    unfold W at h''
    iapply h''
    iexact H

theorem owns_load {cs : CoreSpace} {sh : Shape} {e : EltTy} {m : Memref sig .tc cs sh e} {r : LoadRect sh} {hl : m.view.LoadsAt r}
    {Y : sh.Idx → Elt F e} {K : (r.shape.Idx → Elt F e) → sProp 𝕄} :
    (owns (c : Thread nD τ) m fullShare Y : sProp 𝕄) ⊢ iprop((owns (c : Thread nD τ) m fullShare Y -∗ K (fun j => Y (r.idx j))) -∗
      wp frame (wpE (defs₀ (F := F)) 𝒱₀ (c : Thread nD τ) bd) Set.univ (Prog.lift (.load m r hl)) K) := by
  unfold owns
  iintro ⟨%f, %hf, H⟩ HK
  iapply (wp_load 𝒱₀ (c : Thread nD τ) bd Set.univ (m := m) (r := r) (hl := hl) (View.setOn_subset_set _ _)) $$ H
  iintro H
  rw [wp_ret]
  imodintro
  have e1 : m.view.readAt (Elt F) r f = fun j => Y (r.idx j) := by funext j; rw [View.readAt_apply, hf]
  rw [e1]
  iapply HK
  iexists f
  isplitr
  · ipureintro; exact hf
  · iexact H

theorem owns_store {sh : Shape} {e : EltTy} {m : Memref sig .tc .vmem sh e} {r : Rect sh} {w : r.shape.Idx → Elt F e}
    {hx : (m.access r).Stores Finset.univ} {hm : Finset.univ = Finset.univ ∨ ∀ a, r.stride a = 1}
    {Y : sh.Idx → Elt F e} {K : PUnit → sProp 𝕄} :
    (owns (c : Thread nD τ) m fullShare Y : sProp 𝕄) ⊢ iprop((∀ Y', ⌜Upd r w Y Y'⌝ -∗ owns (c : Thread nD τ) m fullShare Y' -∗ K ⟨⟩) -∗
      wp frame (wpE (defs₀ (F := F)) 𝒱₀ (c : Thread nD τ) bd) Set.univ (Prog.lift (.store m r w Finset.univ hx hm)) K) := by
  unfold owns
  iintro ⟨%f, %hf, H⟩ HK
  iapply (wp_store 𝒱₀ (c : Thread nD τ) bd Set.univ (m := m) (r := r) (w := w) (Mk := Finset.univ) (hx := hx) (hm := hm)
    (S := m.view.set) (by
      rw [show (m.access r).setOn Finset.univ = (Finset.univ.map r.emb).map m.view.emb from (Finset.map_map _ _ _).symm]
      exact Finset.map_subset_map.mpr (Finset.subset_univ _))) $$ H
  iintro H
  rw [wp_ret]
  imodintro
  iapply HK $$ %(m.view.read (Elt F) ((m.access r).write (Elt F) f w Finset.univ))
  · ipureintro
    refine ⟨fun j => ?_, fun i hi => ?_⟩
    · exact View.read_slice_write_emb (v := m.view) r f w (Finset.mem_univ j)
    · rw [← hf]
      refine View.read_slice_write_of_not_mem (v := m.view) r f w Finset.univ fun hmem => ?_
      obtain ⟨j, -, hj⟩ := Finset.mem_map.mp hmem
      exact hi j hj
  · iexists _
    isplitr
    · ipureintro; rfl
    · iexact H

theorem W_smem1 {r : Rect S8961} {h1 : r.shape.numel = 1} {hp : EltTy.packing .i32 = 1} {Q : Elt F .i32 → St F → Prop} {s : St F}
    (h : Q (X.x1 (r.point h1)) s) : W c ms X bd (smemLoad ms.a1 r h1 hp) Q s := by
  unfold W R
  iintro ⟨H1, H2, H3, H4, H5, H6, H7, H8, H9, H10, H11, H12, H13⟩
  unfold smemLoad smemLoadElt
  have hb : ∀ (cs : CoreSpace) (m : Memref sig .tc cs S8961 .i32) (hl : m.view.LoadsAt r.toLoadRect) (i : r.shape.Idx),
      (Prog.op (.load m r.toLoadRect hl) fun f => .ret (f i) : Prog (TpuEff nD τ sig (Elt F) (Λ₀ F) .tc) (Elt F .i32))
        = Prog.lift (.load m r.toLoadRect hl) >>= fun f => pure (f i) := fun _ _ _ _ => rfl
  rw [hb, wp_bind]
  iapply (owns_load (bd := bd)) $$ H1
  iintro H1
  rw [Prog.pure_eq_ret, wp_ret]
  imodintro
  iexists s
  isplitr
  · ipureintro; exact h
  · iframe H1 H2 H3 H4 H5 H6 H7 H8 H9 H10 H11 H12 H13

theorem W_smem2 {r : Rect S280} {h1 : r.shape.numel = 1} {hp : EltTy.packing .i32 = 1} {Q : Elt F .i32 → St F → Prop} {s : St F}
    (h : Q (X.x2 (r.point h1)) s) : W c ms X bd (smemLoad ms.a2 r h1 hp) Q s := by
  unfold W R
  iintro ⟨H1, H2, H3, H4, H5, H6, H7, H8, H9, H10, H11, H12, H13⟩
  unfold smemLoad smemLoadElt
  have hb : ∀ (cs : CoreSpace) (m : Memref sig .tc cs S280 .i32) (hl : m.view.LoadsAt r.toLoadRect) (i : r.shape.Idx),
      (Prog.op (.load m r.toLoadRect hl) fun f => .ret (f i) : Prog (TpuEff nD τ sig (Elt F) (Λ₀ F) .tc) (Elt F .i32))
        = Prog.lift (.load m r.toLoadRect hl) >>= fun f => pure (f i) := fun _ _ _ _ => rfl
  rw [hb, wp_bind]
  iapply (owns_load (bd := bd)) $$ H2
  iintro H2
  rw [Prog.pure_eq_ret, wp_ret]
  imodintro
  iexists s
  isplitr
  · ipureintro; exact h
  · iframe H1 H2 H3 H4 H5 H6 H7 H8 H9 H10 H11 H12 H13

theorem W_smem3 {r : Rect S65024} {h1 : r.shape.numel = 1} {hp : EltTy.packing .i32 = 1} {Q : Elt F .i32 → St F → Prop} {s : St F}
    (h : Q (X.x3 (r.point h1)) s) : W c ms X bd (smemLoad ms.a3 r h1 hp) Q s := by
  unfold W R
  iintro ⟨H1, H2, H3, H4, H5, H6, H7, H8, H9, H10, H11, H12, H13⟩
  unfold smemLoad smemLoadElt
  have hb : ∀ (cs : CoreSpace) (m : Memref sig .tc cs S65024 .i32) (hl : m.view.LoadsAt r.toLoadRect) (i : r.shape.Idx),
      (Prog.op (.load m r.toLoadRect hl) fun f => .ret (f i) : Prog (TpuEff nD τ sig (Elt F) (Λ₀ F) .tc) (Elt F .i32))
        = Prog.lift (.load m r.toLoadRect hl) >>= fun f => pure (f i) := fun _ _ _ _ => rfl
  rw [hb, wp_bind]
  iapply (owns_load (bd := bd)) $$ H3
  iintro H3
  rw [Prog.pure_eq_ret, wp_ret]
  imodintro
  iexists s
  isplitr
  · ipureintro; exact h
  · iframe H1 H2 H3 H4 H5 H6 H7 H8 H9 H10 H11 H12 H13

theorem W_load4 {r : LoadRect S1920x1536} {hl : ms.a4.view.LoadsAt r} {Q : (r.shape.Idx → Elt F .i16) → St F → Prop} {s : St F}
    (h : Q (fun j => X.x4 (r.idx j)) s) : W c ms X bd (Prog.lift (.load ms.a4 r hl)) Q s := by
  unfold W R
  iintro ⟨H1, H2, H3, H4, H5, H6, H7, H8, H9, H10, H11, H12, H13⟩
  iapply (owns_load (bd := bd)) $$ H4
  iintro H4
  iexists s
  isplitr
  · ipureintro; exact h
  · iframe H1 H2 H3 H4 H5 H6 H7 H8 H9 H10 H11 H12 H13

theorem W_load5 {r : LoadRect S2032x32} {hl : ms.a5.view.LoadsAt r} {Q : (r.shape.Idx → Elt F .i32) → St F → Prop} {s : St F}
    (h : Q (fun j => X.x5 (r.idx j)) s) : W c ms X bd (Prog.lift (.load ms.a5 r hl)) Q s := by
  unfold W R
  iintro ⟨H1, H2, H3, H4, H5, H6, H7, H8, H9, H10, H11, H12, H13⟩
  iapply (owns_load (bd := bd)) $$ H5
  iintro H5
  iexists s
  isplitr
  · ipureintro; exact h
  · iframe H1 H2 H3 H4 H5 H6 H7 H8 H9 H10 H11 H12 H13

theorem W_load6 {r : LoadRect S768x256} {hl : ms.a6.view.LoadsAt r} {Q : (r.shape.Idx → Elt F .i8) → St F → Prop} {s : St F}
    (h : Q (fun j => X.x6 (r.idx j)) s) : W c ms X bd (Prog.lift (.load ms.a6 r hl)) Q s := by
  unfold W R
  iintro ⟨H1, H2, H3, H4, H5, H6, H7, H8, H9, H10, H11, H12, H13⟩
  iapply (owns_load (bd := bd)) $$ H6
  iintro H6
  iexists s
  isplitr
  · ipureintro; exact h
  · iframe H1 H2 H3 H4 H5 H6 H7 H8 H9 H10 H11 H12 H13

theorem W_load7 {r : LoadRect S8x256} {hl : ms.a7.view.LoadsAt r} {Q : (r.shape.Idx → Elt F .i32) → St F → Prop} {s : St F}
    (h : Q (fun j => X.x7 (r.idx j)) s) : W c ms X bd (Prog.lift (.load ms.a7 r hl)) Q s := by
  unfold W R
  iintro ⟨H1, H2, H3, H4, H5, H6, H7, H8, H9, H10, H11, H12, H13⟩
  iapply (owns_load (bd := bd)) $$ H7
  iintro H7
  iexists s
  isplitr
  · ipureintro; exact h
  · iframe H1 H2 H3 H4 H5 H6 H7 H8 H9 H10 H11 H12 H13

theorem W_load8 {r : LoadRect S1920x256} {hl : ms.a8.view.LoadsAt r} {Q : (r.shape.Idx → Elt F .bf16) → St F → Prop} {s : St F}
    (h : Q (fun j => s.s8 (r.idx j)) s) : W c ms X bd (Prog.lift (.load ms.a8 r hl)) Q s := by
  unfold W R
  iintro ⟨H1, H2, H3, H4, H5, H6, H7, H8, H9, H10, H11, H12, H13⟩
  iapply (owns_load (bd := bd)) $$ H8
  iintro H8
  iexists s
  isplitr
  · ipureintro; exact h
  · iframe H1 H2 H3 H4 H5 H6 H7 H8 H9 H10 H11 H12 H13

theorem W_store8 {r : Rect S1920x256} {w : r.shape.Idx → Elt F .bf16} {hx : (ms.a8.access r).Stores Finset.univ}
    {hm : Finset.univ = Finset.univ ∨ ∀ a, r.stride a = 1} {Q : PUnit → St F → Prop} {s : St F}
    (h : ∀ f', Upd r w s.s8 f' → Q ⟨⟩ (s.set8 f')) : W c ms X bd (Prog.lift (.store ms.a8 r w Finset.univ hx hm)) Q s := by
  unfold W R
  iintro ⟨H1, H2, H3, H4, H5, H6, H7, H8, H9, H10, H11, H12, H13⟩
  iapply (owns_store (bd := bd)) $$ H8
  iintro %f' %hf' H8
  iexists { s with s8 := f' }
  isplitr
  · ipureintro; exact h f' hf'
  · iframe H1 H2 H3 H4 H5 H6 H7 H8 H9 H10 H11 H12 H13

theorem W_load9 {r : LoadRect S1920x256} {hl : ms.a9.view.LoadsAt r} {Q : (r.shape.Idx → Elt F .f32) → St F → Prop} {s : St F}
    (h : Q (fun j => s.s9 (r.idx j)) s) : W c ms X bd (Prog.lift (.load ms.a9 r hl)) Q s := by
  unfold W R
  iintro ⟨H1, H2, H3, H4, H5, H6, H7, H8, H9, H10, H11, H12, H13⟩
  iapply (owns_load (bd := bd)) $$ H9
  iintro H9
  iexists s
  isplitr
  · ipureintro; exact h
  · iframe H1 H2 H3 H4 H5 H6 H7 H8 H9 H10 H11 H12 H13

theorem W_store9 {r : Rect S1920x256} {w : r.shape.Idx → Elt F .f32} {hx : (ms.a9.access r).Stores Finset.univ}
    {hm : Finset.univ = Finset.univ ∨ ∀ a, r.stride a = 1} {Q : PUnit → St F → Prop} {s : St F}
    (h : ∀ f', Upd r w s.s9 f' → Q ⟨⟩ (s.set9 f')) : W c ms X bd (Prog.lift (.store ms.a9 r w Finset.univ hx hm)) Q s := by
  unfold W R
  iintro ⟨H1, H2, H3, H4, H5, H6, H7, H8, H9, H10, H11, H12, H13⟩
  iapply (owns_store (bd := bd)) $$ H9
  iintro %f' %hf' H9
  iexists { s with s9 := f' }
  isplitr
  · ipureintro; exact h f' hf'
  · iframe H1 H2 H3 H4 H5 H6 H7 H8 H9 H10 H11 H12 H13

theorem W_load10 {r : LoadRect S12288x128} {hl : ms.a10.view.LoadsAt r} {Q : (r.shape.Idx → Elt F .i32) → St F → Prop} {s : St F}
    (h : Q (fun j => s.s10 (r.idx j)) s) : W c ms X bd (Prog.lift (.load ms.a10 r hl)) Q s := by
  unfold W R
  iintro ⟨H1, H2, H3, H4, H5, H6, H7, H8, H9, H10, H11, H12, H13⟩
  iapply (owns_load (bd := bd)) $$ H10
  iintro H10
  iexists s
  isplitr
  · ipureintro; exact h
  · iframe H1 H2 H3 H4 H5 H6 H7 H8 H9 H10 H11 H12 H13

theorem W_store10 {r : Rect S12288x128} {w : r.shape.Idx → Elt F .i32} {hx : (ms.a10.access r).Stores Finset.univ}
    {hm : Finset.univ = Finset.univ ∨ ∀ a, r.stride a = 1} {Q : PUnit → St F → Prop} {s : St F}
    (h : ∀ f', Upd r w s.s10 f' → Q ⟨⟩ (s.set10 f')) : W c ms X bd (Prog.lift (.store ms.a10 r w Finset.univ hx hm)) Q s := by
  unfold W R
  iintro ⟨H1, H2, H3, H4, H5, H6, H7, H8, H9, H10, H11, H12, H13⟩
  iapply (owns_store (bd := bd)) $$ H10
  iintro %f' %hf' H10
  iexists { s with s10 := f' }
  isplitr
  · ipureintro; exact h f' hf'
  · iframe H1 H2 H3 H4 H5 H6 H7 H8 H9 H10 H11 H12 H13

theorem W_load11 {r : LoadRect S1536x256} {hl : ms.a11.view.LoadsAt r} {Q : (r.shape.Idx → Elt F .i32) → St F → Prop} {s : St F}
    (h : Q (fun j => s.s11 (r.idx j)) s) : W c ms X bd (Prog.lift (.load ms.a11 r hl)) Q s := by
  unfold W R
  iintro ⟨H1, H2, H3, H4, H5, H6, H7, H8, H9, H10, H11, H12, H13⟩
  iapply (owns_load (bd := bd)) $$ H11
  iintro H11
  iexists s
  isplitr
  · ipureintro; exact h
  · iframe H1 H2 H3 H4 H5 H6 H7 H8 H9 H10 H11 H12 H13

theorem W_store11 {r : Rect S1536x256} {w : r.shape.Idx → Elt F .i32} {hx : (ms.a11.access r).Stores Finset.univ}
    {hm : Finset.univ = Finset.univ ∨ ∀ a, r.stride a = 1} {Q : PUnit → St F → Prop} {s : St F}
    (h : ∀ f', Upd r w s.s11 f' → Q ⟨⟩ (s.set11 f')) : W c ms X bd (Prog.lift (.store ms.a11 r w Finset.univ hx hm)) Q s := by
  unfold W R
  iintro ⟨H1, H2, H3, H4, H5, H6, H7, H8, H9, H10, H11, H12, H13⟩
  iapply (owns_store (bd := bd)) $$ H11
  iintro %f' %hf' H11
  iexists { s with s11 := f' }
  isplitr
  · ipureintro; exact h f' hf'
  · iframe H1 H2 H3 H4 H5 H6 H7 H8 H9 H10 H11 H12 H13

theorem W_load12 {r : LoadRect S8704x128} {hl : ms.a12.view.LoadsAt r} {Q : (r.shape.Idx → Elt F .f32) → St F → Prop} {s : St F}
    (h : Q (fun j => s.s12 (r.idx j)) s) : W c ms X bd (Prog.lift (.load ms.a12 r hl)) Q s := by
  unfold W R
  iintro ⟨H1, H2, H3, H4, H5, H6, H7, H8, H9, H10, H11, H12, H13⟩
  iapply (owns_load (bd := bd)) $$ H12
  iintro H12
  iexists s
  isplitr
  · ipureintro; exact h
  · iframe H1 H2 H3 H4 H5 H6 H7 H8 H9 H10 H11 H12 H13

theorem W_store12 {r : Rect S8704x128} {w : r.shape.Idx → Elt F .f32} {hx : (ms.a12.access r).Stores Finset.univ}
    {hm : Finset.univ = Finset.univ ∨ ∀ a, r.stride a = 1} {Q : PUnit → St F → Prop} {s : St F}
    (h : ∀ f', Upd r w s.s12 f' → Q ⟨⟩ (s.set12 f')) : W c ms X bd (Prog.lift (.store ms.a12 r w Finset.univ hx hm)) Q s := by
  unfold W R
  iintro ⟨H1, H2, H3, H4, H5, H6, H7, H8, H9, H10, H11, H12, H13⟩
  iapply (owns_store (bd := bd)) $$ H12
  iintro %f' %hf' H12
  iexists { s with s12 := f' }
  isplitr
  · ipureintro; exact h f' hf'
  · iframe H1 H2 H3 H4 H5 H6 H7 H8 H9 H10 H11 H12 H13

theorem W_load13 {r : LoadRect S8224x128} {hl : ms.a13.view.LoadsAt r} {Q : (r.shape.Idx → Elt F .i32) → St F → Prop} {s : St F}
    (h : Q (fun j => s.s13 (r.idx j)) s) : W c ms X bd (Prog.lift (.load ms.a13 r hl)) Q s := by
  unfold W R
  iintro ⟨H1, H2, H3, H4, H5, H6, H7, H8, H9, H10, H11, H12, H13⟩
  iapply (owns_load (bd := bd)) $$ H13
  iintro H13
  iexists s
  isplitr
  · ipureintro; exact h
  · iframe H1 H2 H3 H4 H5 H6 H7 H8 H9 H10 H11 H12 H13

theorem W_store13 {r : Rect S8224x128} {w : r.shape.Idx → Elt F .i32} {hx : (ms.a13.access r).Stores Finset.univ}
    {hm : Finset.univ = Finset.univ ∨ ∀ a, r.stride a = 1} {Q : PUnit → St F → Prop} {s : St F}
    (h : ∀ f', Upd r w s.s13 f' → Q ⟨⟩ (s.set13 f')) : W c ms X bd (Prog.lift (.store ms.a13 r w Finset.univ hx hm)) Q s := by
  unfold W R
  iintro ⟨H1, H2, H3, H4, H5, H6, H7, H8, H9, H10, H11, H12, H13⟩
  iapply (owns_store (bd := bd)) $$ H13
  iintro %f' %hf' H13
  iexists { s with s13 := f' }
  isplitr
  · ipureintro; exact h f' hf'
  · iframe H1 H2 H3 H4 H5 H6 H7 H8 H9 H10 H11 H12 H13

/-- The scalar load through a shifted view of the address table. -/
theorem W_smem3s {r₀ : Rect S65024} {hr₀ : ∀ a, r₀.stride a = 1} {r : Rect r₀.shape} {h1 : r.shape.numel = 1} {hp : EltTy.packing .i32 = 1}
    {Q : Elt F .i32 → St F → Prop} {s : St F} (h : Q (X.x3 (r₀.emb (r.point h1))) s) :
    W c ms X bd (smemLoad (ms.a3.slice r₀ hr₀) r h1 hp) Q s := by
  unfold W R
  iintro ⟨H1, H2, H3, H4, H5, H6, H7, H8, H9, H10, H11, H12, H13⟩
  unfold smemLoad smemLoadElt owns
  icases H3 with ⟨%f, %hf, H3⟩
  iapply (wp_load 𝒱₀ (c : Thread nD τ) bd Set.univ (m := ms.a3.slice r₀ hr₀) (r := r.toLoadRect) (S := ms.a3.view.set) ?_) $$ H3
  · refine (View.setOn_subset_set _ _).trans ?_
    exact View.set_slice_subset _ r₀
  iintro H3
  rw [wp_ret]
  imodintro
  iexists s
  isplitr
  · ipureintro
    rw [← hf] at h
    exact h
  · iframe H1 H2 H4 H5 H6 H7 H8 H9 H10 H11 H12 H13
    iexists f
    isplitr
    · ipureintro; exact hf
    · iexact H3

end Rules

end Cert.Proof.K
-- ==== Proof.K.Run.lean ====
/-
  The launch of `Kernel`: from a triple about the body at each grid point (an invariant of the four scratch buffers, a
  relation on what the body leaves in the two output windows) to the run of @main.
-/
module

public import proofs.«01_k».proof.Proof.K.Common
public import proofs.«01_k».proof.Proof.Gen.Kernel.Launch
public import proofs.«01_k».proof.Proof.Gen.Kernel.Points
public import Idealize.ShloMosaic.Lib.Pipeline.Frame
public import Idealize.ShloMosaic.Lib.Pipeline.FrameBody
public import Idealize.ShloMosaic.Lib.Pipeline.DatRel

@[expose] public section

noncomputable section

namespace Cert.Proof.K

open Cert.Kernel Cert.Kernel.Gen
open Idealize.ShloMosaic
open Idealize.ShloMosaic.TcCoe Idealize.ShloMosaic.Tactic
open Idealize.ShloMosaic.Pipeline (Dat RDat BodyObligationRel)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable (m : (ℓ : Loc nD τ sig) → Buf (Elt F) ℓ) (ρ : Dev nD → PrngReg)

local notation "𝕄" => MT nD τ sig Unit (Elt F) ℕ (UR nD τ) ℕ

/-- The host operations before the region. -/
abbrev hostAll : List (HloOp τ sig (Elt F)) :=
  ([hostOps0, hostOps0_1, hostOps0_2, hostOps0_3, hostOps0_4] : List (List (HloOp τ sig (Elt F)))).flatten

/-- The contents of the unscoped buffers as the region finds them. -/
def V (c : Dev nD) (b : Ref sig .tc) : Buf (Elt F) ((c : Thread nD τ).loc b) :=
  StableHlo.after hostAll (fun b => m (c, b)) b

theorem V_def (c : Dev nD) (b : Ref sig .tc) : V m c b = StableHlo.after hostAll (fun b => m (c, b)) b := rfl

/-- @main is the host operations, then the region. -/
theorem hmain0 : Pipeline.HMain (Ix := Unit) (Name := ℕ) (U := UR nD τ) (Lvl := ℕ) cfgs 0 defs₀ 𝒱₀ m (main (F := F)) (V m) :=
  Pipeline.hmain_prefixes cfgs 0 defs₀ 𝒱₀ m main [hostOps0, hostOps0_1, hostOps0_2, hostOps0_3, hostOps0_4]
    ⟨hostOps0_sub, hostOps0_1_sub, hostOps0_2_sub, hostOps0_3_sub, hostOps0_4_sub⟩
    ⟨StableHlo.forall_fresh_of_map rfl, StableHlo.forall_fresh_of_map rfl, StableHlo.forall_fresh_of_map rfl,
      StableHlo.forall_fresh_of_map rfl, StableHlo.forall_fresh_of_map rfl⟩
    (fun c => (main_chain c).trans rfl)

attribute [irreducible] V

/-- The block of window `w` at point `t`. -/
def iblk (c : Dev nD) (w : Fin 9) (t : Fin (cfg0 (F := F)).N) :
    (((cfg0 (F := F)).win w).xblock ((cfg0 (F := F)).grid.coords t)).Idx → Elt F ((cfg0 (F := F)).win w).elt :=
  (((cfg0 (F := F)).win w).blk t).view.read (Elt F) (V m c (Pipeline.arrRef spec0 w))

/-- What the input windows hold at point `t`. -/
def insAt (c : Dev nD) (t : Fin (cfg0 (F := F)).N) : Ins F where
  x1 := iblk m c 0 t
  x2 := iblk m c 1 t
  x3 := iblk m c 2 t
  x4 := iblk m c 3 t
  x5 := iblk m c 4 t
  x6 := iblk m c 5 t
  x7 := iblk m c 6 t

/-- The buffers of the body at point `t`. -/
def memsAt (t : Fin (cfg0 (F := F)).N) : Mems where
  a1 := win0_0.stage ((cfg0 (F := F)).slots t 0)
  h1 := hstage0_0 (((cfg0 (F := F)).slots t 0).cast nbuf0_0)
  a2 := win0_1.stage ((cfg0 (F := F)).slots t 1)
  h2 := hstage0_1 (((cfg0 (F := F)).slots t 1).cast nbuf0_1)
  a3 := win0_2.stage ((cfg0 (F := F)).slots t 2)
  h3 := hstage0_2 (((cfg0 (F := F)).slots t 2).cast nbuf0_2)
  a4 := win0_3.stage ((cfg0 (F := F)).slots t 3)
  h4 := hstage0_3 (((cfg0 (F := F)).slots t 3).cast nbuf0_3)
  a5 := win0_4.stage ((cfg0 (F := F)).slots t 4)
  h5 := hstage0_4 (((cfg0 (F := F)).slots t 4).cast nbuf0_4)
  a6 := win0_5.stage ((cfg0 (F := F)).slots t 5)
  h6 := hstage0_5 (((cfg0 (F := F)).slots t 5).cast nbuf0_5)
  a7 := win0_6.stage ((cfg0 (F := F)).slots t 6)
  h7 := hstage0_6 (((cfg0 (F := F)).slots t 6).cast nbuf0_6)
  a8 := win0_7.stage ((cfg0 (F := F)).slots t 7)
  h8 := hstage0_7 (((cfg0 (F := F)).slots t 7).cast nbuf0_7)
  a9 := win0_8.stage ((cfg0 (F := F)).slots t 8)
  h9 := hstage0_8 (((cfg0 (F := F)).slots t 8).cast nbuf0_8)
  a10 := Memref.whole cc0_scratch0
  h10 := Memref.isWhole_whole _
  a11 := Memref.whole cc0_scratch1
  h11 := Memref.isWhole_whole _
  a12 := Memref.whole cc0_scratch2
  h12 := Memref.isWhole_whole _
  a13 := Memref.whole cc0_scratch3
  h13 := Memref.isWhole_whole _

/-- The two output windows. -/
def outs : Fin 9 → Bool := fun w => decide (7 ≤ w.val)

/-- An invariant of the scratch buffers before each point, and what is asked of the two outputs at each point. -/
structure Track (F : FTy → Type) where
  inv : ℕ → (S12288x128.Idx → Elt F .i32) → (S1536x256.Idx → Elt F .i32) → (S8704x128.Idx → Elt F .f32)
    → (S8224x128.Idx → Elt F .i32) → Prop
  y : ℕ → (S1920x256.Idx → Elt F .bf16) → Prop
  ys : ℕ → (S1920x256.Idx → Elt F .f32) → Prop

variable (K : Dev nD → Track F)

/-- The scratch buffers at contents the invariant allows. -/
def scr (c : Dev nD) (t : ℕ) : sProp 𝕄 :=
  iprop(∃ f10 f11 f12 f13, ⌜(K c).inv t f10 f11 f12 f13⌝
    ∗ owns (c : Thread nD τ) (Memref.whole cc0_scratch0) fullShare f10
    ∗ owns (c : Thread nD τ) (Memref.whole cc0_scratch1) fullShare f11
    ∗ owns (c : Thread nD τ) (Memref.whole cc0_scratch2) fullShare f12
    ∗ owns (c : Thread nD τ) (Memref.whole cc0_scratch3) fullShare f13)

/-- What the body leaves in each window, the outputs unnamed. -/
def aft (c : Dev nD) : (w : Fin 9) → (t : Fin (cfg0 (F := F)).N) → ((cfg0 (F := F)).win w).block.Idx → Elt F ((cfg0 (F := F)).win w).elt :=
  fun | 0 => fun t => iblk m c 0 t | 1 => fun t => iblk m c 1 t | 2 => fun t => iblk m c 2 t | 3 => fun t => iblk m c 3 t
      | 4 => fun t => iblk m c 4 t | 5 => fun t => iblk m c 5 t | 6 => fun t => iblk m c 6 t
      | 7 => fun t => Pipeline.Dat.unnamed (cfg := cfg0) 7 t | 8 => fun t => Pipeline.Dat.unnamed (cfg := cfg0) 8 t
      | ⟨_ + 9, h⟩ => absurd h (Nat.not_lt.2 (Nat.le_add_left _ _))

/-- The relation asked of the outputs. -/
def rel (c : Dev nD) : (w : Fin 9) → (t : Fin (cfg0 (F := F)).N) → (((cfg0 (F := F)).win w).block.Idx → Elt F ((cfg0 (F := F)).win w).elt) → Prop :=
  fun | 7 => fun t X => (K c).y t.val X | 8 => fun t X => (K c).ys t.val X | _ => fun _ _ => True

/-- The proof data. -/
def dats (_ : Fin 1) (c : Dev nD) : Dat τ (Elt F) Unit ℕ (UR nD τ) ℕ (cfg0 (F := F)) c where
  A w := V m c (Pipeline.arrRef spec0 w)
  after := aft m c
  Φ t := iprop(scr K c t.val ∗ ∃ r, prngReg c r)
  q _ := fullShare
  owed _ := 0

/-! An input window holds its block at every point. -/

theorem before0_eq (c : Dev nD) (t : Fin (cfg0 (F := F)).N) (d) : (dats m K 0 c).before 0 t d = iblk m c 0 t :=
  ((dats m K 0 c).before_in_eq_fetched 0 rfl (fun _ => rfl) (fun _ _ _ => rfl)
    (fun t => by rw [show (dats m K 0 c).after 0 t = iblk m c 0 t from rfl]; unfold Dat.blockOf iblk; rw [show (dats m K 0 c).A 0 = V m c (Pipeline.arrRef spec0 0) from rfl]; rfl) t d).trans
    (by unfold Dat.fetched Dat.blockOf iblk; rw [show (dats m K 0 c).A 0 = V m c (Pipeline.arrRef spec0 0) from rfl]; rfl)
theorem before1_eq (c : Dev nD) (t : Fin (cfg0 (F := F)).N) (d) : (dats m K 0 c).before 1 t d = iblk m c 1 t :=
  ((dats m K 0 c).before_in_eq_fetched 1 rfl (fun _ => rfl) (fun _ _ _ => rfl)
    (fun t => by rw [show (dats m K 0 c).after 1 t = iblk m c 1 t from rfl]; unfold Dat.blockOf iblk; rw [show (dats m K 0 c).A 1 = V m c (Pipeline.arrRef spec0 1) from rfl]; rfl) t d).trans
    (by unfold Dat.fetched Dat.blockOf iblk; rw [show (dats m K 0 c).A 1 = V m c (Pipeline.arrRef spec0 1) from rfl]; rfl)
theorem before2_eq (c : Dev nD) (t : Fin (cfg0 (F := F)).N) (d) : (dats m K 0 c).before 2 t d = iblk m c 2 t :=
  ((dats m K 0 c).before_in_eq_fetched 2 rfl (fun _ => rfl) (fun _ _ _ => rfl)
    (fun t => by rw [show (dats m K 0 c).after 2 t = iblk m c 2 t from rfl]; unfold Dat.blockOf iblk; rw [show (dats m K 0 c).A 2 = V m c (Pipeline.arrRef spec0 2) from rfl]; rfl) t d).trans
    (by unfold Dat.fetched Dat.blockOf iblk; rw [show (dats m K 0 c).A 2 = V m c (Pipeline.arrRef spec0 2) from rfl]; rfl)
theorem before3_eq (c : Dev nD) (t : Fin (cfg0 (F := F)).N) (d) : (dats m K 0 c).before 3 t d = iblk m c 3 t :=
  ((dats m K 0 c).before_in_eq_fetched 3 rfl (fun _ => rfl) (fun _ _ _ => rfl)
    (fun t => by rw [show (dats m K 0 c).after 3 t = iblk m c 3 t from rfl]; unfold Dat.blockOf iblk; rw [show (dats m K 0 c).A 3 = V m c (Pipeline.arrRef spec0 3) from rfl]; rfl) t d).trans
    (by unfold Dat.fetched Dat.blockOf iblk; rw [show (dats m K 0 c).A 3 = V m c (Pipeline.arrRef spec0 3) from rfl]; rfl)
theorem before4_eq (c : Dev nD) (t : Fin (cfg0 (F := F)).N) (d) : (dats m K 0 c).before 4 t d = iblk m c 4 t :=
  ((dats m K 0 c).before_in_eq_fetched 4 rfl (fun _ => rfl) (fun _ _ _ => rfl)
    (fun t => by rw [show (dats m K 0 c).after 4 t = iblk m c 4 t from rfl]; unfold Dat.blockOf iblk; rw [show (dats m K 0 c).A 4 = V m c (Pipeline.arrRef spec0 4) from rfl]; rfl) t d).trans
    (by unfold Dat.fetched Dat.blockOf iblk; rw [show (dats m K 0 c).A 4 = V m c (Pipeline.arrRef spec0 4) from rfl]; rfl)
theorem before5_eq (c : Dev nD) (t : Fin (cfg0 (F := F)).N) (d) : (dats m K 0 c).before 5 t d = iblk m c 5 t :=
  ((dats m K 0 c).before_in_eq_fetched 5 rfl (fun _ => rfl) (fun _ _ _ => rfl)
    (fun t => by rw [show (dats m K 0 c).after 5 t = iblk m c 5 t from rfl]; unfold Dat.blockOf iblk; rw [show (dats m K 0 c).A 5 = V m c (Pipeline.arrRef spec0 5) from rfl]; rfl) t d).trans
    (by unfold Dat.fetched Dat.blockOf iblk; rw [show (dats m K 0 c).A 5 = V m c (Pipeline.arrRef spec0 5) from rfl]; rfl)
theorem before6_eq (c : Dev nD) (t : Fin (cfg0 (F := F)).N) (d) : (dats m K 0 c).before 6 t d = iblk m c 6 t :=
  ((dats m K 0 c).before_in_eq_fetched 6 rfl (fun _ => rfl) (fun _ _ _ => rfl)
    (fun t => by rw [show (dats m K 0 c).after 6 t = iblk m c 6 t from rfl]; unfold Dat.blockOf iblk; rw [show (dats m K 0 c).A 6 = V m c (Pipeline.arrRef spec0 6) from rfl]; rfl) t d).trans
    (by unfold Dat.fetched Dat.blockOf iblk; rw [show (dats m K 0 c).A 6 = V m c (Pipeline.arrRef spec0 6) from rfl]; rfl)

/-- The body at point `t`. -/
theorem bodyAt_eq (t : Fin (cfg0 (F := F)).N) :
    bodyAt0 (F := F) t = cc0_lut4_csr_linear (F := F) (grid0.coords t) (memsAt (F := F) t).a1 (memsAt (F := F) t).h1 (memsAt (F := F) t).a2 (memsAt (F := F) t).h2
      (memsAt (F := F) t).a3 (memsAt (F := F) t).h3 (memsAt (F := F) t).a4 (memsAt (F := F) t).h4 (memsAt (F := F) t).a5 (memsAt (F := F) t).h5 (memsAt (F := F) t).a6 (memsAt (F := F) t).h6
      (memsAt (F := F) t).a7 (memsAt (F := F) t).h7 (memsAt (F := F) t).a8 (memsAt (F := F) t).h8 (memsAt (F := F) t).a9 (memsAt (F := F) t).h9 (memsAt (F := F) t).a10 (memsAt (F := F) t).h10
      (memsAt (F := F) t).a11 (memsAt (F := F) t).h11 (memsAt (F := F) t).a12 (memsAt (F := F) t).h12 (memsAt (F := F) t).a13 (memsAt (F := F) t).h13 := rfl

/-- What is to be shown of the body: at every point, from scratch contents the invariant allows and any output contents,
    it ends with the invariant of the next point and the outputs as asked. -/
def BodyRuns : Prop := ∀ (c : Dev nD) (t : Fin (cfg0 (F := F)).N) (s : St F), (K c).inv t.val s.s10 s.s11 s.s12 s.s13 →
  W c (memsAt (F := F) t) (insAt m c t) none (bodyAt0 (F := F) t)
    (fun _ s' => (K c).inv (t.val + 1) s'.s10 s'.s11 s'.s12 s'.s13 ∧ (K c).y t.val s'.s8 ∧ (K c).ys t.val s'.s9) s

variable {m K}

/-- What the body is called with at point `t`. -/
def bodyPre (m : (ℓ : Loc nD τ sig) → Buf (Elt F) ℓ) (K : Dev nD → Track F) (c : Dev nD) (t : Fin (cfg0 (F := F)).N) : sProp 𝕄 :=
  iprop((dats m K 0 c).Φ t.castSucc ∗ (dats m K 0 c).owesAt () t.castSucc
    ∗ owns (c : Thread nD τ) (memsAt (F := F) t).a1 fullShare (insAt m c t).x1
    ∗ owns (c : Thread nD τ) (memsAt (F := F) t).a2 fullShare (insAt m c t).x2
    ∗ owns (c : Thread nD τ) (memsAt (F := F) t).a3 fullShare (insAt m c t).x3
    ∗ owns (c : Thread nD τ) (memsAt (F := F) t).a4 fullShare (insAt m c t).x4
    ∗ owns (c : Thread nD τ) (memsAt (F := F) t).a5 fullShare (insAt m c t).x5
    ∗ owns (c : Thread nD τ) (memsAt (F := F) t).a6 fullShare (insAt m c t).x6
    ∗ owns (c : Thread nD τ) (memsAt (F := F) t).a7 fullShare (insAt m c t).x7
    ∗ (∃ d, owns (c : Thread nD τ) (memsAt (F := F) t).a8 fullShare d)
    ∗ (∃ d, owns (c : Thread nD τ) (memsAt (F := F) t).a9 fullShare d))

/-- What the body returns at point `t`. -/
def bodyPost (m : (ℓ : Loc nD τ sig) → Buf (Elt F) ℓ) (K : Dev nD → Track F) (c : Dev nD) (t : Fin (cfg0 (F := F)).N) : sProp 𝕄 :=
  iprop((dats m K 0 c).Φ t.succ ∗ (dats m K 0 c).owesAt () t.succ
    ∗ owns (c : Thread nD τ) (memsAt (F := F) t).a1 fullShare (insAt m c t).x1
    ∗ owns (c : Thread nD τ) (memsAt (F := F) t).a2 fullShare (insAt m c t).x2
    ∗ owns (c : Thread nD τ) (memsAt (F := F) t).a3 fullShare (insAt m c t).x3
    ∗ owns (c : Thread nD τ) (memsAt (F := F) t).a4 fullShare (insAt m c t).x4
    ∗ owns (c : Thread nD τ) (memsAt (F := F) t).a5 fullShare (insAt m c t).x5
    ∗ owns (c : Thread nD τ) (memsAt (F := F) t).a6 fullShare (insAt m c t).x6
    ∗ owns (c : Thread nD τ) (memsAt (F := F) t).a7 fullShare (insAt m c t).x7
    ∗ (∃ X, ⌜(K c).y t.val X⌝ ∗ owns (c : Thread nD τ) (memsAt (F := F) t).a8 fullShare X)
    ∗ (∃ X, ⌜(K c).ys t.val X⌝ ∗ owns (c : Thread nD τ) (memsAt (F := F) t).a9 fullShare X))

/-- The triple of the body at a point. -/
theorem sound_body (h : BodyRuns m K) (c : Dev nD) (t : Fin (cfg0 (F := F)).N) :
    bodyPre m K c t ⊢ wp frame (wpE (defs₀ (F := F)) 𝒱₀ (c : Thread nD τ) none) Set.univ (bodyAt0 (F := F) t) (fun _ => bodyPost m K c t) := by
  unfold bodyPre bodyPost
  rw [show (dats m K 0 c).Φ t.succ = iprop(scr K c (t.val + 1) ∗ ∃ r, prngReg c r) from rfl,
    show (dats m K 0 c).owesAt () t.succ = (dats m K 0 c).owesAt () t.castSucc from rfl,
    show (dats m K 0 c).Φ t.castSucc = iprop(scr K c t.val ∗ ∃ r, prngReg c r) from rfl]
  unfold scr
  iintro ⟨⟨⟨%f10, %f11, %f12, %f13, %hI, S0, S1, S2, S3⟩, Hg⟩, HO, H1, H2, H3, H4, H5, H6, H7, ⟨%d8, H8⟩, ⟨%d9, H9⟩⟩
  have hw := h c t ⟨d8, d9, f10, f11, f12, f13⟩ hI
  unfold W R at hw
  iapply (wp_wand frame) $$ [H1 H2 H3 H4 H5 H6 H7 H8 H9 S0 S1 S2 S3]
  · iapply hw
    iframe H1 H2 H3 H4 H5 H6 H7 H8 H9
    isplitl [S0]; · iexact S0
    isplitl [S1]; · iexact S1
    isplitl [S2]; · iexact S2
    iexact S3
  iintro %a ⟨%s', %hQ, H1, H2, H3, H4, H5, H6, H7, H8, H9, S0, S1, S2, S3⟩
  iframe H1 H2 H3 H4 H5 H6 H7 HO Hg
  isplitl [S0 S1 S2 S3]
  · iexists s'.s10, s'.s11, s'.s12, s'.s13
    isplitr
    · ipureintro; exact hQ.1
    isplitl [S0]; · iexact S0
    isplitl [S1]; · iexact S1
    isplitl [S2]; · iexact S2
    iexact S3
  isplitl [H8]
  · iexists s'.s8
    isplitr
    · ipureintro; exact hQ.2.1
    iexact H8
  · iexists s'.s9
    isplitr
    · ipureintro; exact hQ.2.2
    iexact H9

/-- The body table's row at the point. -/
theorem defs₀_row (t : Fin (cfg0 (F := F)).N) :
    defs₀ (F := F) .tc (cfg0 (F := F)).body ((cfg0 (F := F)).bodyArgs t ((cfg0 (F := F)).slots t)) = bodyAt0 t := by
  unfold defs₀; rw [Defs.onTc_tc]

/-- The body obligation. -/
theorem body_obligation (h : BodyRuns m K) (c : Dev nD) :
    BodyObligationRel (dats m K 0 c) (defs₀ (F := F)) 𝒱₀ () Set.univ outs (rel K c) := fun t => by
  rw [bigSep_W0, bigSep_W0, defs₀_row]
  refine triple_restated (sound_body h c t) rfl ?_ fun _ => ?_
  · unfold bodyPre
    show iprop((dats m K 0 c).Φ t.castSucc ∗ (dats m K 0 c).owesAt () t.castSucc
      ∗ (∃ d, owns (c : Thread nD τ) (memsAt (F := F) t).a1 fullShare ((dats m K 0 c).before 0 t d))
      ∗ (∃ d, owns (c : Thread nD τ) (memsAt (F := F) t).a2 fullShare ((dats m K 0 c).before 1 t d))
      ∗ (∃ d, owns (c : Thread nD τ) (memsAt (F := F) t).a3 fullShare ((dats m K 0 c).before 2 t d))
      ∗ (∃ d, owns (c : Thread nD τ) (memsAt (F := F) t).a4 fullShare ((dats m K 0 c).before 3 t d))
      ∗ (∃ d, owns (c : Thread nD τ) (memsAt (F := F) t).a5 fullShare ((dats m K 0 c).before 4 t d))
      ∗ (∃ d, owns (c : Thread nD τ) (memsAt (F := F) t).a6 fullShare ((dats m K 0 c).before 5 t d))
      ∗ (∃ d, owns (c : Thread nD τ) (memsAt (F := F) t).a7 fullShare ((dats m K 0 c).before 6 t d))
      ∗ (∃ Y, ⌜((dats m K 0 c).toRRel outs (rel K c)).Finds 7 t Y⌝ ∗ owns (c : Thread nD τ) (memsAt (F := F) t).a8 fullShare Y)
      ∗ (∃ Y, ⌜((dats m K 0 c).toRRel outs (rel K c)).Finds 8 t Y⌝ ∗ owns (c : Thread nD τ) (memsAt (F := F) t).a9 fullShare Y)) ⊢ _
    iintro ⟨HΦ, HO, ⟨%d1, H1⟩, ⟨%d2, H2⟩, ⟨%d3, H3⟩, ⟨%d4, H4⟩, ⟨%d5, H5⟩, ⟨%d6, H6⟩, ⟨%d7, H7⟩, ⟨%X8, -, H8⟩, ⟨%X9, -, H9⟩⟩
    rw [before0_eq, before1_eq, before2_eq, before3_eq, before4_eq, before5_eq, before6_eq]
    isplitl [HΦ]; · iexact HΦ
    isplitl [HO]; · iexact HO
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]
    · iexists X8; iexact H8
    · iexists X9; iexact H9
  · exact .rfl

set_option backward.isDefEq.respectTransparency.types false in
/-- The run of @main: every fair execution ends, the inputs unchanged, the outputs' blocks as asked, the semaphores at zero. -/
theorem run_main (h : BodyRuns m K) (h0 : ∀ c f10 f11 f12 f13, (K c).inv 0 f10 f11 f12 f13) :
    θ_run defs (onTc (τ := τ) (main (F := F))) (s₀ m ρ)
      (fun r => RDat.FramePost (cfgs 0) (fun c => (dats m K 0 c).toRRel outs (rel K c)) (V m) r ∧ r.2.sem = fun _ => 0) :=
  RDat.θ_run_frame_track (Q' := _) cfgs (0 : Fin 1) launch0 defs₀ 𝒱₀ (fun c => (dats m K 0 c).toRRel outs (rel K c)) m ρ main
    (hbody := fun c => (body_obligation h c).toRRel) (hshare := fun c => (dats m K 0 c).share_full fun _ => rfl)
    (howed := fun _ _ => rfl) (V := V m) (hmain := hmain0 m) (hA := fun _ _ => rfl)
    (hin := fun c => by
      show Pipeline.ΦA spec0 c ⊢ iprop(scr K c 0 ∗ ∃ r, prngReg c r)
      unfold Pipeline.ΦA scr
      rw [scopedRest0_eq]
      iintro ⟨⟨⟨%f0, S0⟩, ⟨%f1, S1⟩, ⟨%f2, S2⟩, ⟨%f3, S3⟩⟩, Hg⟩
      iframe Hg
      simp only [owns_whole_eq]
      iexists f0, f1, f2, f3
      isplitr
      · ipureintro; exact h0 _ _ _ _ _
      isplitl [S0]; · iexists f0; isplitr; · (ipureintro; rfl)
                      iexact S0
      isplitl [S1]; · iexists f1; isplitr; · (ipureintro; rfl)
                      iexact S1
      isplitl [S2]; · iexists f2; isplitr; · (ipureintro; rfl)
                      iexact S2
      iexists f3; isplitr; · (ipureintro; rfl)
      iexact S3)
    (hout := fun c => by
      show iprop(scr K c _ ∗ ∃ r, prngReg c r) ⊢ Pipeline.ΦA spec0 c
      unfold Pipeline.ΦA scr
      rw [scopedRest0_eq]
      simp only [owns_whole_eq]
      iintro ⟨⟨%e0, %e1, %e2, %e3, -, ⟨%f0, -, S0⟩, ⟨%f1, -, S1⟩, ⟨%f2, -, S2⟩, ⟨%f3, -, S3⟩⟩, Hg⟩
      iframe Hg
      isplitl [S0]; · iexists f0; iexact S0
      isplitl [S1]; · iexists f1; iexact S1
      isplitl [S2]; · iexists f2; iexact S2
      iexists f3; iexact S3)

end Cert.Proof.K
-- ==== Proof.KI.Common.lean ====
/-
  Shared by the proofs about `KernelIdeal`: the proof's resource algebra, the kernel body's thirteen buffers as one resource
  over a record of contents, and a small program logic over it (`W`): a run of a piece of the body from given contents ends
  in a value and contents satisfying a stated pure relation. One rule per operation of the body (a load of each buffer, a
  store to each written buffer, an assumption, a loop by an invariant, sequencing).
-/
module

public import proofs.«01_k».proof.KernelIdeal
public import Idealize.ShloMosaic.Lib.Pipeline.Sound
public import Idealize.ShloMosaic.Lib.Tactic
public import proofs.«01_k».proof.Proof.Gen.KernelIdeal
public import proofs.«01_k».proof.Proof.Gen.KernelIdeal.Skeleton

@[expose] public section

noncomputable section

namespace Cert.Proof.KI

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The ghost algebra of the launch. -/
abbrev UR (nD : Nat) (τ : Topo) : Type := URounds (GSem nD τ sig) Unit

local notation "𝕄" => MT nD τ sig Unit (Elt F) ℕ (UR nD τ) ℕ

/-- The variants of the one label's calls: the words still to go. -/
abbrev 𝒱₀ : Variants := Variants.nat

/-- The kernel body's thirteen buffers. -/
structure Mems where
  a1 : Memref sig .tc .smem S8961 .i32
  h1 : a1.IsWhole
  a2 : Memref sig .tc .smem S280 .i32
  h2 : a2.IsWhole
  a3 : Memref sig .tc .smem S65024 .i32
  h3 : a3.IsWhole
  a4 : Memref sig .tc .vmem S1920x1536 .i16
  h4 : a4.IsWhole
  a5 : Memref sig .tc .vmem S2032x32 .i32
  h5 : a5.IsWhole
  a6 : Memref sig .tc .vmem S768x256 .i8
  h6 : a6.IsWhole
  a7 : Memref sig .tc .vmem S8x256 .i32
  h7 : a7.IsWhole
  a8 : Memref sig .tc .vmem S1920x256 .bf16
  h8 : a8.IsWhole
  a9 : Memref sig .tc .vmem S1920x256 .f32
  h9 : a9.IsWhole
  a10 : Memref sig .tc .vmem S12288x128 .i32
  h10 : a10.IsWhole
  a11 : Memref sig .tc .vmem S1536x256 .i32
  h11 : a11.IsWhole
  a12 : Memref sig .tc .vmem S8704x128 .f32
  h12 : a12.IsWhole
  a13 : Memref sig .tc .vmem S8224x128 .i32
  h13 : a13.IsWhole

/-- The contents of the seven buffers the body only reads. -/
@[ext] structure Ins (F : FTy → Type) where
  x1 : S8961.Idx → Elt F .i32
  x2 : S280.Idx → Elt F .i32
  x3 : S65024.Idx → Elt F .i32
  x4 : S1920x1536.Idx → Elt F .i16
  x5 : S2032x32.Idx → Elt F .i32
  x6 : S768x256.Idx → Elt F .i8
  x7 : S8x256.Idx → Elt F .i32

/-- The contents of the six buffers the body writes. -/
@[ext] structure St (F : FTy → Type) where
  s8 : S1920x256.Idx → Elt F .bf16
  s9 : S1920x256.Idx → Elt F .f32
  s10 : S12288x128.Idx → Elt F .i32
  s11 : S1536x256.Idx → Elt F .i32
  s12 : S8704x128.Idx → Elt F .f32
  s13 : S8224x128.Idx → Elt F .i32

/-- The contents with buffer 8 replaced. -/
def St.set8 (s : St F) (f : S1920x256.Idx → Elt F .bf16) : St F := { s with s8 := f }
/-- The contents with buffer 9 replaced. -/
def St.set9 (s : St F) (f : S1920x256.Idx → Elt F .f32) : St F := { s with s9 := f }
/-- The contents with buffer 10 replaced. -/
def St.set10 (s : St F) (f : S12288x128.Idx → Elt F .i32) : St F := { s with s10 := f }
/-- The contents with buffer 11 replaced. -/
def St.set11 (s : St F) (f : S1536x256.Idx → Elt F .i32) : St F := { s with s11 := f }
/-- The contents with buffer 12 replaced. -/
def St.set12 (s : St F) (f : S8704x128.Idx → Elt F .f32) : St F := { s with s12 := f }
/-- The contents with buffer 13 replaced. -/
def St.set13 (s : St F) (f : S8224x128.Idx → Elt F .i32) : St F := { s with s13 := f }
@[simp] theorem St.set8_s8 (s : St F) (f : S1920x256.Idx → Elt F .bf16) : (s.set8 f).s8 = f := rfl
@[simp] theorem St.set8_s9 (s : St F) (f : S1920x256.Idx → Elt F .bf16) : (s.set8 f).s9 = s.s9 := rfl
@[simp] theorem St.set8_s10 (s : St F) (f : S1920x256.Idx → Elt F .bf16) : (s.set8 f).s10 = s.s10 := rfl
@[simp] theorem St.set8_s11 (s : St F) (f : S1920x256.Idx → Elt F .bf16) : (s.set8 f).s11 = s.s11 := rfl
@[simp] theorem St.set8_s12 (s : St F) (f : S1920x256.Idx → Elt F .bf16) : (s.set8 f).s12 = s.s12 := rfl
@[simp] theorem St.set8_s13 (s : St F) (f : S1920x256.Idx → Elt F .bf16) : (s.set8 f).s13 = s.s13 := rfl
@[simp] theorem St.set8_set8 (s : St F) (f g : S1920x256.Idx → Elt F .bf16) : (s.set8 f).set8 g = s.set8 g := rfl
@[simp] theorem St.set9_s8 (s : St F) (f : S1920x256.Idx → Elt F .f32) : (s.set9 f).s8 = s.s8 := rfl
@[simp] theorem St.set9_s9 (s : St F) (f : S1920x256.Idx → Elt F .f32) : (s.set9 f).s9 = f := rfl
@[simp] theorem St.set9_s10 (s : St F) (f : S1920x256.Idx → Elt F .f32) : (s.set9 f).s10 = s.s10 := rfl
@[simp] theorem St.set9_s11 (s : St F) (f : S1920x256.Idx → Elt F .f32) : (s.set9 f).s11 = s.s11 := rfl
@[simp] theorem St.set9_s12 (s : St F) (f : S1920x256.Idx → Elt F .f32) : (s.set9 f).s12 = s.s12 := rfl
@[simp] theorem St.set9_s13 (s : St F) (f : S1920x256.Idx → Elt F .f32) : (s.set9 f).s13 = s.s13 := rfl
@[simp] theorem St.set9_set9 (s : St F) (f g : S1920x256.Idx → Elt F .f32) : (s.set9 f).set9 g = s.set9 g := rfl
@[simp] theorem St.set10_s8 (s : St F) (f : S12288x128.Idx → Elt F .i32) : (s.set10 f).s8 = s.s8 := rfl
@[simp] theorem St.set10_s9 (s : St F) (f : S12288x128.Idx → Elt F .i32) : (s.set10 f).s9 = s.s9 := rfl
@[simp] theorem St.set10_s10 (s : St F) (f : S12288x128.Idx → Elt F .i32) : (s.set10 f).s10 = f := rfl
@[simp] theorem St.set10_s11 (s : St F) (f : S12288x128.Idx → Elt F .i32) : (s.set10 f).s11 = s.s11 := rfl
@[simp] theorem St.set10_s12 (s : St F) (f : S12288x128.Idx → Elt F .i32) : (s.set10 f).s12 = s.s12 := rfl
@[simp] theorem St.set10_s13 (s : St F) (f : S12288x128.Idx → Elt F .i32) : (s.set10 f).s13 = s.s13 := rfl
@[simp] theorem St.set10_set10 (s : St F) (f g : S12288x128.Idx → Elt F .i32) : (s.set10 f).set10 g = s.set10 g := rfl
@[simp] theorem St.set11_s8 (s : St F) (f : S1536x256.Idx → Elt F .i32) : (s.set11 f).s8 = s.s8 := rfl
@[simp] theorem St.set11_s9 (s : St F) (f : S1536x256.Idx → Elt F .i32) : (s.set11 f).s9 = s.s9 := rfl
@[simp] theorem St.set11_s10 (s : St F) (f : S1536x256.Idx → Elt F .i32) : (s.set11 f).s10 = s.s10 := rfl
@[simp] theorem St.set11_s11 (s : St F) (f : S1536x256.Idx → Elt F .i32) : (s.set11 f).s11 = f := rfl
@[simp] theorem St.set11_s12 (s : St F) (f : S1536x256.Idx → Elt F .i32) : (s.set11 f).s12 = s.s12 := rfl
@[simp] theorem St.set11_s13 (s : St F) (f : S1536x256.Idx → Elt F .i32) : (s.set11 f).s13 = s.s13 := rfl
@[simp] theorem St.set11_set11 (s : St F) (f g : S1536x256.Idx → Elt F .i32) : (s.set11 f).set11 g = s.set11 g := rfl
@[simp] theorem St.set12_s8 (s : St F) (f : S8704x128.Idx → Elt F .f32) : (s.set12 f).s8 = s.s8 := rfl
@[simp] theorem St.set12_s9 (s : St F) (f : S8704x128.Idx → Elt F .f32) : (s.set12 f).s9 = s.s9 := rfl
@[simp] theorem St.set12_s10 (s : St F) (f : S8704x128.Idx → Elt F .f32) : (s.set12 f).s10 = s.s10 := rfl
@[simp] theorem St.set12_s11 (s : St F) (f : S8704x128.Idx → Elt F .f32) : (s.set12 f).s11 = s.s11 := rfl
@[simp] theorem St.set12_s12 (s : St F) (f : S8704x128.Idx → Elt F .f32) : (s.set12 f).s12 = f := rfl
@[simp] theorem St.set12_s13 (s : St F) (f : S8704x128.Idx → Elt F .f32) : (s.set12 f).s13 = s.s13 := rfl
@[simp] theorem St.set12_set12 (s : St F) (f g : S8704x128.Idx → Elt F .f32) : (s.set12 f).set12 g = s.set12 g := rfl
@[simp] theorem St.set13_s8 (s : St F) (f : S8224x128.Idx → Elt F .i32) : (s.set13 f).s8 = s.s8 := rfl
@[simp] theorem St.set13_s9 (s : St F) (f : S8224x128.Idx → Elt F .i32) : (s.set13 f).s9 = s.s9 := rfl
@[simp] theorem St.set13_s10 (s : St F) (f : S8224x128.Idx → Elt F .i32) : (s.set13 f).s10 = s.s10 := rfl
@[simp] theorem St.set13_s11 (s : St F) (f : S8224x128.Idx → Elt F .i32) : (s.set13 f).s11 = s.s11 := rfl
@[simp] theorem St.set13_s12 (s : St F) (f : S8224x128.Idx → Elt F .i32) : (s.set13 f).s12 = s.s12 := rfl
@[simp] theorem St.set13_s13 (s : St F) (f : S8224x128.Idx → Elt F .i32) : (s.set13 f).s13 = f := rfl
@[simp] theorem St.set13_set13 (s : St F) (f g : S8224x128.Idx → Elt F .i32) : (s.set13 f).set13 g = s.set13 g := rfl

/-- All thirteen buffers held whole at the given contents. -/
def R (c : Dev nD) (ms : Mems) (X : Ins F) (s : St F) : sProp 𝕄 :=
  iprop(owns (c : Thread nD τ) ms.a1 fullShare X.x1
    ∗ owns (c : Thread nD τ) ms.a2 fullShare X.x2
    ∗ owns (c : Thread nD τ) ms.a3 fullShare X.x3
    ∗ owns (c : Thread nD τ) ms.a4 fullShare X.x4
    ∗ owns (c : Thread nD τ) ms.a5 fullShare X.x5
    ∗ owns (c : Thread nD τ) ms.a6 fullShare X.x6
    ∗ owns (c : Thread nD τ) ms.a7 fullShare X.x7
    ∗ owns (c : Thread nD τ) ms.a8 fullShare s.s8
    ∗ owns (c : Thread nD τ) ms.a9 fullShare s.s9
    ∗ owns (c : Thread nD τ) ms.a10 fullShare s.s10
    ∗ owns (c : Thread nD τ) ms.a11 fullShare s.s11
    ∗ owns (c : Thread nD τ) ms.a12 fullShare s.s12
    ∗ owns (c : Thread nD τ) ms.a13 fullShare s.s13)

/-- From contents `s` the program runs to a value and contents related by `Q`. -/
def W (c : Dev nD) (ms : Mems) (X : Ins F) (bd : Option ℕ) {α : Type} (p : Prog (TpuEff nD τ sig (Elt F) (Λ₀ F) .tc) α)
    (Q : α → St F → Prop) (s : St F) : Prop :=
  (R c ms X s : sProp 𝕄) ⊢ wp frame (wpE (defs₀ (F := F)) 𝒱₀ (c : Thread nD τ) bd) Set.univ p
    (fun a => iprop(∃ s', ⌜Q a s'⌝ ∗ R c ms X s'))

/-- What a store of `w` through the rectangle `r` makes of contents `f`. -/
def Upd {s : Shape} {α : Type} (r : Rect s) (w : r.shape.Idx → α) (f f' : s.Idx → α) : Prop :=
  (∀ j, f' (r.emb j) = w j) ∧ ∀ i, (∀ j, r.emb j ≠ i) → f' i = f i

section Rules

variable {c : Dev nD} {ms : Mems} {X : Ins F} {bd : Option ℕ} {α β : Type}

theorem W_pure {a : α} {Q : α → St F → Prop} {s : St F} (h : Q a s) : W c ms X bd (pure a) Q s := by
  unfold W
  rw [Prog.pure_eq_ret, wp_ret]
  iintro H
  imodintro
  iexists s
  isplitr
  · ipureintro; exact h
  · iexact H

/-- Sequencing. -/
theorem W_bind {p : Prog (TpuEff nD τ sig (Elt F) (Λ₀ F) .tc) α} {k : α → Prog (TpuEff nD τ sig (Elt F) (Λ₀ F) .tc) β}
    {Q : β → St F → Prop} {s : St F} (h : W c ms X bd p (fun a s' => W c ms X bd (k a) Q s') s) :
    W c ms X bd (p >>= k) Q s := by
  unfold W at h ⊢
  rw [wp_bind]
  refine h.trans (wp_mono _ _ _ fun a => ?_)
  iintro ⟨%s', %h', H⟩
  iapply h'
  iexact H

/-- A stronger relation suffices. -/
theorem W_mono {p : Prog (TpuEff nD τ sig (Elt F) (Λ₀ F) .tc) α} {Q Q' : α → St F → Prop} {s : St F}
    (h : W c ms X bd p Q s) (hQ : ∀ a s', Q a s' → Q' a s') : W c ms X bd p Q' s := by
  unfold W at h ⊢
  refine h.trans (wp_mono _ _ _ fun a => ?_)
  iintro ⟨%s', %h', H⟩
  iexists s'
  isplitr
  · ipureintro; exact hQ _ _ h'
  · iexact H

/-- An assumption that holds. -/
theorem W_assume {P : Prop} {d : Decidable P} {Q : PLift P → St F → Prop} {s : St F} (hP : P) (h : Q ⟨hP⟩ s) :
    W c ms X bd (Prog.lift (.assume P d)) Q s := by
  unfold W
  refine BIBase.Entails.trans ?_ (wp_assume 𝒱₀ (c : Thread nD τ) bd Set.univ hP)
  exact W_pure (a := (⟨hP⟩ : PLift P)) h

/-- A counted loop by an invariant of the trip, the carried value and the contents. -/
theorem W_for {w : Nat} {σ : Type} {l : Scf.Loop w} {hok : l.OK} {init : σ}
    {body : Fin l.trips → σ → Prog (TpuEff nD τ sig (Elt F) (Λ₀ F) .tc) σ} {Q : σ → St F → Prop} {s : St F}
    (I : ℕ → σ → St F → Prop) (h0 : I 0 init s)
    (hstep : ∀ (k : Fin l.trips) (acc : σ) (s' : St F), I k.val acc s' → W c ms X bd (body k acc) (I (k.val + 1)) s')
    (hend : ∀ acc s', I l.trips acc s' → Q acc s') : W c ms X bd (Scf.Loop.for l hok init body) Q s := by
  unfold W
  refine BIBase.Entails.trans ?_ (Scf.wp_for frame (wpE (defs₀ (F := F)) 𝒱₀ (c : Thread nD τ) bd) Set.univ l.lb l.ub l.st hok init body
    (fun k acc => iprop(∃ s', ⌜I k acc s'⌝ ∗ R c ms X s')) ?_)
  · iintro H
    isplitl [H]
    · iexists s
      isplitr
      · ipureintro; exact h0
      · iexact H
    · iintro %acc ⟨%s', %h', H⟩
      iexists s'
      isplitr
      · ipureintro; exact hend _ _ h'
      · iexact H
  · intro k acc
    iintro ⟨%s', %h', H⟩
    have h'' := hstep k acc s' h'
    unfold W at h''
    iapply h''
    iexact H

theorem owns_load {cs : CoreSpace} {sh : Shape} {e : EltTy} {m : Memref sig .tc cs sh e} {r : LoadRect sh} {hl : m.view.LoadsAt r}
    {Y : sh.Idx → Elt F e} {K : (r.shape.Idx → Elt F e) → sProp 𝕄} :
    (owns (c : Thread nD τ) m fullShare Y : sProp 𝕄) ⊢ iprop((owns (c : Thread nD τ) m fullShare Y -∗ K (fun j => Y (r.idx j))) -∗
      wp frame (wpE (defs₀ (F := F)) 𝒱₀ (c : Thread nD τ) bd) Set.univ (Prog.lift (.load m r hl)) K) := by
  unfold owns
  iintro ⟨%f, %hf, H⟩ HK
  iapply (wp_load 𝒱₀ (c : Thread nD τ) bd Set.univ (m := m) (r := r) (hl := hl) (View.setOn_subset_set _ _)) $$ H
  iintro H
  rw [wp_ret]
  imodintro
  have e1 : m.view.readAt (Elt F) r f = fun j => Y (r.idx j) := by funext j; rw [View.readAt_apply, hf]
  rw [e1]
  iapply HK
  iexists f
  isplitr
  · ipureintro; exact hf
  · iexact H

theorem owns_store {sh : Shape} {e : EltTy} {m : Memref sig .tc .vmem sh e} {r : Rect sh} {w : r.shape.Idx → Elt F e}
    {hx : (m.access r).Stores Finset.univ} {hm : Finset.univ = Finset.univ ∨ ∀ a, r.stride a = 1}
    {Y : sh.Idx → Elt F e} {K : PUnit → sProp 𝕄} :
    (owns (c : Thread nD τ) m fullShare Y : sProp 𝕄) ⊢ iprop((∀ Y', ⌜Upd r w Y Y'⌝ -∗ owns (c : Thread nD τ) m fullShare Y' -∗ K ⟨⟩) -∗
      wp frame (wpE (defs₀ (F := F)) 𝒱₀ (c : Thread nD τ) bd) Set.univ (Prog.lift (.store m r w Finset.univ hx hm)) K) := by
  unfold owns
  iintro ⟨%f, %hf, H⟩ HK
  iapply (wp_store 𝒱₀ (c : Thread nD τ) bd Set.univ (m := m) (r := r) (w := w) (Mk := Finset.univ) (hx := hx) (hm := hm)
    (S := m.view.set) (by
      rw [show (m.access r).setOn Finset.univ = (Finset.univ.map r.emb).map m.view.emb from (Finset.map_map _ _ _).symm]
      exact Finset.map_subset_map.mpr (Finset.subset_univ _))) $$ H
  iintro H
  rw [wp_ret]
  imodintro
  iapply HK $$ %(m.view.read (Elt F) ((m.access r).write (Elt F) f w Finset.univ))
  · ipureintro
    refine ⟨fun j => ?_, fun i hi => ?_⟩
    · exact View.read_slice_write_emb (v := m.view) r f w (Finset.mem_univ j)
    · rw [← hf]
      refine View.read_slice_write_of_not_mem (v := m.view) r f w Finset.univ fun hmem => ?_
      obtain ⟨j, -, hj⟩ := Finset.mem_map.mp hmem
      exact hi j hj
  · iexists _
    isplitr
    · ipureintro; rfl
    · iexact H

theorem W_smem1 {r : Rect S8961} {h1 : r.shape.numel = 1} {hp : EltTy.packing .i32 = 1} {Q : Elt F .i32 → St F → Prop} {s : St F}
    (h : Q (X.x1 (r.point h1)) s) : W c ms X bd (smemLoad ms.a1 r h1 hp) Q s := by
  unfold W R
  iintro ⟨H1, H2, H3, H4, H5, H6, H7, H8, H9, H10, H11, H12, H13⟩
  unfold smemLoad smemLoadElt
  have hb : ∀ (cs : CoreSpace) (m : Memref sig .tc cs S8961 .i32) (hl : m.view.LoadsAt r.toLoadRect) (i : r.shape.Idx),
      (Prog.op (.load m r.toLoadRect hl) fun f => .ret (f i) : Prog (TpuEff nD τ sig (Elt F) (Λ₀ F) .tc) (Elt F .i32))
        = Prog.lift (.load m r.toLoadRect hl) >>= fun f => pure (f i) := fun _ _ _ _ => rfl
  rw [hb, wp_bind]
  iapply (owns_load (bd := bd)) $$ H1
  iintro H1
  rw [Prog.pure_eq_ret, wp_ret]
  imodintro
  iexists s
  isplitr
  · ipureintro; exact h
  · iframe H1 H2 H3 H4 H5 H6 H7 H8 H9 H10 H11 H12 H13

theorem W_smem2 {r : Rect S280} {h1 : r.shape.numel = 1} {hp : EltTy.packing .i32 = 1} {Q : Elt F .i32 → St F → Prop} {s : St F}
    (h : Q (X.x2 (r.point h1)) s) : W c ms X bd (smemLoad ms.a2 r h1 hp) Q s := by
  unfold W R
  iintro ⟨H1, H2, H3, H4, H5, H6, H7, H8, H9, H10, H11, H12, H13⟩
  unfold smemLoad smemLoadElt
  have hb : ∀ (cs : CoreSpace) (m : Memref sig .tc cs S280 .i32) (hl : m.view.LoadsAt r.toLoadRect) (i : r.shape.Idx),
      (Prog.op (.load m r.toLoadRect hl) fun f => .ret (f i) : Prog (TpuEff nD τ sig (Elt F) (Λ₀ F) .tc) (Elt F .i32))
        = Prog.lift (.load m r.toLoadRect hl) >>= fun f => pure (f i) := fun _ _ _ _ => rfl
  rw [hb, wp_bind]
  iapply (owns_load (bd := bd)) $$ H2
  iintro H2
  rw [Prog.pure_eq_ret, wp_ret]
  imodintro
  iexists s
  isplitr
  · ipureintro; exact h
  · iframe H1 H2 H3 H4 H5 H6 H7 H8 H9 H10 H11 H12 H13

theorem W_smem3 {r : Rect S65024} {h1 : r.shape.numel = 1} {hp : EltTy.packing .i32 = 1} {Q : Elt F .i32 → St F → Prop} {s : St F}
    (h : Q (X.x3 (r.point h1)) s) : W c ms X bd (smemLoad ms.a3 r h1 hp) Q s := by
  unfold W R
  iintro ⟨H1, H2, H3, H4, H5, H6, H7, H8, H9, H10, H11, H12, H13⟩
  unfold smemLoad smemLoadElt
  have hb : ∀ (cs : CoreSpace) (m : Memref sig .tc cs S65024 .i32) (hl : m.view.LoadsAt r.toLoadRect) (i : r.shape.Idx),
      (Prog.op (.load m r.toLoadRect hl) fun f => .ret (f i) : Prog (TpuEff nD τ sig (Elt F) (Λ₀ F) .tc) (Elt F .i32))
        = Prog.lift (.load m r.toLoadRect hl) >>= fun f => pure (f i) := fun _ _ _ _ => rfl
  rw [hb, wp_bind]
  iapply (owns_load (bd := bd)) $$ H3
  iintro H3
  rw [Prog.pure_eq_ret, wp_ret]
  imodintro
  iexists s
  isplitr
  · ipureintro; exact h
  · iframe H1 H2 H3 H4 H5 H6 H7 H8 H9 H10 H11 H12 H13

theorem W_load4 {r : LoadRect S1920x1536} {hl : ms.a4.view.LoadsAt r} {Q : (r.shape.Idx → Elt F .i16) → St F → Prop} {s : St F}
    (h : Q (fun j => X.x4 (r.idx j)) s) : W c ms X bd (Prog.lift (.load ms.a4 r hl)) Q s := by
  unfold W R
  iintro ⟨H1, H2, H3, H4, H5, H6, H7, H8, H9, H10, H11, H12, H13⟩
  iapply (owns_load (bd := bd)) $$ H4
  iintro H4
  iexists s
  isplitr
  · ipureintro; exact h
  · iframe H1 H2 H3 H4 H5 H6 H7 H8 H9 H10 H11 H12 H13

theorem W_load5 {r : LoadRect S2032x32} {hl : ms.a5.view.LoadsAt r} {Q : (r.shape.Idx → Elt F .i32) → St F → Prop} {s : St F}
    (h : Q (fun j => X.x5 (r.idx j)) s) : W c ms X bd (Prog.lift (.load ms.a5 r hl)) Q s := by
  unfold W R
  iintro ⟨H1, H2, H3, H4, H5, H6, H7, H8, H9, H10, H11, H12, H13⟩
  iapply (owns_load (bd := bd)) $$ H5
  iintro H5
  iexists s
  isplitr
  · ipureintro; exact h
  · iframe H1 H2 H3 H4 H5 H6 H7 H8 H9 H10 H11 H12 H13

theorem W_load6 {r : LoadRect S768x256} {hl : ms.a6.view.LoadsAt r} {Q : (r.shape.Idx → Elt F .i8) → St F → Prop} {s : St F}
    (h : Q (fun j => X.x6 (r.idx j)) s) : W c ms X bd (Prog.lift (.load ms.a6 r hl)) Q s := by
  unfold W R
  iintro ⟨H1, H2, H3, H4, H5, H6, H7, H8, H9, H10, H11, H12, H13⟩
  iapply (owns_load (bd := bd)) $$ H6
  iintro H6
  iexists s
  isplitr
  · ipureintro; exact h
  · iframe H1 H2 H3 H4 H5 H6 H7 H8 H9 H10 H11 H12 H13

theorem W_load7 {r : LoadRect S8x256} {hl : ms.a7.view.LoadsAt r} {Q : (r.shape.Idx → Elt F .i32) → St F → Prop} {s : St F}
    (h : Q (fun j => X.x7 (r.idx j)) s) : W c ms X bd (Prog.lift (.load ms.a7 r hl)) Q s := by
  unfold W R
  iintro ⟨H1, H2, H3, H4, H5, H6, H7, H8, H9, H10, H11, H12, H13⟩
  iapply (owns_load (bd := bd)) $$ H7
  iintro H7
  iexists s
  isplitr
  · ipureintro; exact h
  · iframe H1 H2 H3 H4 H5 H6 H7 H8 H9 H10 H11 H12 H13

theorem W_load8 {r : LoadRect S1920x256} {hl : ms.a8.view.LoadsAt r} {Q : (r.shape.Idx → Elt F .bf16) → St F → Prop} {s : St F}
    (h : Q (fun j => s.s8 (r.idx j)) s) : W c ms X bd (Prog.lift (.load ms.a8 r hl)) Q s := by
  unfold W R
  iintro ⟨H1, H2, H3, H4, H5, H6, H7, H8, H9, H10, H11, H12, H13⟩
  iapply (owns_load (bd := bd)) $$ H8
  iintro H8
  iexists s
  isplitr
  · ipureintro; exact h
  · iframe H1 H2 H3 H4 H5 H6 H7 H8 H9 H10 H11 H12 H13

theorem W_store8 {r : Rect S1920x256} {w : r.shape.Idx → Elt F .bf16} {hx : (ms.a8.access r).Stores Finset.univ}
    {hm : Finset.univ = Finset.univ ∨ ∀ a, r.stride a = 1} {Q : PUnit → St F → Prop} {s : St F}
    (h : ∀ f', Upd r w s.s8 f' → Q ⟨⟩ (s.set8 f')) : W c ms X bd (Prog.lift (.store ms.a8 r w Finset.univ hx hm)) Q s := by
  unfold W R
  iintro ⟨H1, H2, H3, H4, H5, H6, H7, H8, H9, H10, H11, H12, H13⟩
  iapply (owns_store (bd := bd)) $$ H8
  iintro %f' %hf' H8
  iexists { s with s8 := f' }
  isplitr
  · ipureintro; exact h f' hf'
  · iframe H1 H2 H3 H4 H5 H6 H7 H8 H9 H10 H11 H12 H13

theorem W_load9 {r : LoadRect S1920x256} {hl : ms.a9.view.LoadsAt r} {Q : (r.shape.Idx → Elt F .f32) → St F → Prop} {s : St F}
    (h : Q (fun j => s.s9 (r.idx j)) s) : W c ms X bd (Prog.lift (.load ms.a9 r hl)) Q s := by
  unfold W R
  iintro ⟨H1, H2, H3, H4, H5, H6, H7, H8, H9, H10, H11, H12, H13⟩
  iapply (owns_load (bd := bd)) $$ H9
  iintro H9
  iexists s
  isplitr
  · ipureintro; exact h
  · iframe H1 H2 H3 H4 H5 H6 H7 H8 H9 H10 H11 H12 H13

theorem W_store9 {r : Rect S1920x256} {w : r.shape.Idx → Elt F .f32} {hx : (ms.a9.access r).Stores Finset.univ}
    {hm : Finset.univ = Finset.univ ∨ ∀ a, r.stride a = 1} {Q : PUnit → St F → Prop} {s : St F}
    (h : ∀ f', Upd r w s.s9 f' → Q ⟨⟩ (s.set9 f')) : W c ms X bd (Prog.lift (.store ms.a9 r w Finset.univ hx hm)) Q s := by
  unfold W R
  iintro ⟨H1, H2, H3, H4, H5, H6, H7, H8, H9, H10, H11, H12, H13⟩
  iapply (owns_store (bd := bd)) $$ H9
  iintro %f' %hf' H9
  iexists { s with s9 := f' }
  isplitr
  · ipureintro; exact h f' hf'
  · iframe H1 H2 H3 H4 H5 H6 H7 H8 H9 H10 H11 H12 H13

theorem W_load10 {r : LoadRect S12288x128} {hl : ms.a10.view.LoadsAt r} {Q : (r.shape.Idx → Elt F .i32) → St F → Prop} {s : St F}
    (h : Q (fun j => s.s10 (r.idx j)) s) : W c ms X bd (Prog.lift (.load ms.a10 r hl)) Q s := by
  unfold W R
  iintro ⟨H1, H2, H3, H4, H5, H6, H7, H8, H9, H10, H11, H12, H13⟩
  iapply (owns_load (bd := bd)) $$ H10
  iintro H10
  iexists s
  isplitr
  · ipureintro; exact h
  · iframe H1 H2 H3 H4 H5 H6 H7 H8 H9 H10 H11 H12 H13

theorem W_store10 {r : Rect S12288x128} {w : r.shape.Idx → Elt F .i32} {hx : (ms.a10.access r).Stores Finset.univ}
    {hm : Finset.univ = Finset.univ ∨ ∀ a, r.stride a = 1} {Q : PUnit → St F → Prop} {s : St F}
    (h : ∀ f', Upd r w s.s10 f' → Q ⟨⟩ (s.set10 f')) : W c ms X bd (Prog.lift (.store ms.a10 r w Finset.univ hx hm)) Q s := by
  unfold W R
  iintro ⟨H1, H2, H3, H4, H5, H6, H7, H8, H9, H10, H11, H12, H13⟩
  iapply (owns_store (bd := bd)) $$ H10
  iintro %f' %hf' H10
  iexists { s with s10 := f' }
  isplitr
  · ipureintro; exact h f' hf'
  · iframe H1 H2 H3 H4 H5 H6 H7 H8 H9 H10 H11 H12 H13

theorem W_load11 {r : LoadRect S1536x256} {hl : ms.a11.view.LoadsAt r} {Q : (r.shape.Idx → Elt F .i32) → St F → Prop} {s : St F}
    (h : Q (fun j => s.s11 (r.idx j)) s) : W c ms X bd (Prog.lift (.load ms.a11 r hl)) Q s := by
  unfold W R
  iintro ⟨H1, H2, H3, H4, H5, H6, H7, H8, H9, H10, H11, H12, H13⟩
  iapply (owns_load (bd := bd)) $$ H11
  iintro H11
  iexists s
  isplitr
  · ipureintro; exact h
  · iframe H1 H2 H3 H4 H5 H6 H7 H8 H9 H10 H11 H12 H13

theorem W_store11 {r : Rect S1536x256} {w : r.shape.Idx → Elt F .i32} {hx : (ms.a11.access r).Stores Finset.univ}
    {hm : Finset.univ = Finset.univ ∨ ∀ a, r.stride a = 1} {Q : PUnit → St F → Prop} {s : St F}
    (h : ∀ f', Upd r w s.s11 f' → Q ⟨⟩ (s.set11 f')) : W c ms X bd (Prog.lift (.store ms.a11 r w Finset.univ hx hm)) Q s := by
  unfold W R
  iintro ⟨H1, H2, H3, H4, H5, H6, H7, H8, H9, H10, H11, H12, H13⟩
  iapply (owns_store (bd := bd)) $$ H11
  iintro %f' %hf' H11
  iexists { s with s11 := f' }
  isplitr
  · ipureintro; exact h f' hf'
  · iframe H1 H2 H3 H4 H5 H6 H7 H8 H9 H10 H11 H12 H13

theorem W_load12 {r : LoadRect S8704x128} {hl : ms.a12.view.LoadsAt r} {Q : (r.shape.Idx → Elt F .f32) → St F → Prop} {s : St F}
    (h : Q (fun j => s.s12 (r.idx j)) s) : W c ms X bd (Prog.lift (.load ms.a12 r hl)) Q s := by
  unfold W R
  iintro ⟨H1, H2, H3, H4, H5, H6, H7, H8, H9, H10, H11, H12, H13⟩
  iapply (owns_load (bd := bd)) $$ H12
  iintro H12
  iexists s
  isplitr
  · ipureintro; exact h
  · iframe H1 H2 H3 H4 H5 H6 H7 H8 H9 H10 H11 H12 H13

theorem W_store12 {r : Rect S8704x128} {w : r.shape.Idx → Elt F .f32} {hx : (ms.a12.access r).Stores Finset.univ}
    {hm : Finset.univ = Finset.univ ∨ ∀ a, r.stride a = 1} {Q : PUnit → St F → Prop} {s : St F}
    (h : ∀ f', Upd r w s.s12 f' → Q ⟨⟩ (s.set12 f')) : W c ms X bd (Prog.lift (.store ms.a12 r w Finset.univ hx hm)) Q s := by
  unfold W R
  iintro ⟨H1, H2, H3, H4, H5, H6, H7, H8, H9, H10, H11, H12, H13⟩
  iapply (owns_store (bd := bd)) $$ H12
  iintro %f' %hf' H12
  iexists { s with s12 := f' }
  isplitr
  · ipureintro; exact h f' hf'
  · iframe H1 H2 H3 H4 H5 H6 H7 H8 H9 H10 H11 H12 H13

theorem W_load13 {r : LoadRect S8224x128} {hl : ms.a13.view.LoadsAt r} {Q : (r.shape.Idx → Elt F .i32) → St F → Prop} {s : St F}
    (h : Q (fun j => s.s13 (r.idx j)) s) : W c ms X bd (Prog.lift (.load ms.a13 r hl)) Q s := by
  unfold W R
  iintro ⟨H1, H2, H3, H4, H5, H6, H7, H8, H9, H10, H11, H12, H13⟩
  iapply (owns_load (bd := bd)) $$ H13
  iintro H13
  iexists s
  isplitr
  · ipureintro; exact h
  · iframe H1 H2 H3 H4 H5 H6 H7 H8 H9 H10 H11 H12 H13

theorem W_store13 {r : Rect S8224x128} {w : r.shape.Idx → Elt F .i32} {hx : (ms.a13.access r).Stores Finset.univ}
    {hm : Finset.univ = Finset.univ ∨ ∀ a, r.stride a = 1} {Q : PUnit → St F → Prop} {s : St F}
    (h : ∀ f', Upd r w s.s13 f' → Q ⟨⟩ (s.set13 f')) : W c ms X bd (Prog.lift (.store ms.a13 r w Finset.univ hx hm)) Q s := by
  unfold W R
  iintro ⟨H1, H2, H3, H4, H5, H6, H7, H8, H9, H10, H11, H12, H13⟩
  iapply (owns_store (bd := bd)) $$ H13
  iintro %f' %hf' H13
  iexists { s with s13 := f' }
  isplitr
  · ipureintro; exact h f' hf'
  · iframe H1 H2 H3 H4 H5 H6 H7 H8 H9 H10 H11 H12 H13

/-- The scalar load through a shifted view of the address table. -/
theorem W_smem3s {r₀ : Rect S65024} {hr₀ : ∀ a, r₀.stride a = 1} {r : Rect r₀.shape} {h1 : r.shape.numel = 1} {hp : EltTy.packing .i32 = 1}
    {Q : Elt F .i32 → St F → Prop} {s : St F} (h : Q (X.x3 (r₀.emb (r.point h1))) s) :
    W c ms X bd (smemLoad (ms.a3.slice r₀ hr₀) r h1 hp) Q s := by
  unfold W R
  iintro ⟨H1, H2, H3, H4, H5, H6, H7, H8, H9, H10, H11, H12, H13⟩
  unfold smemLoad smemLoadElt owns
  icases H3 with ⟨%f, %hf, H3⟩
  iapply (wp_load 𝒱₀ (c : Thread nD τ) bd Set.univ (m := ms.a3.slice r₀ hr₀) (r := r.toLoadRect) (S := ms.a3.view.set) ?_) $$ H3
  · refine (View.setOn_subset_set _ _).trans ?_
    exact View.set_slice_subset _ r₀
  iintro H3
  rw [wp_ret]
  imodintro
  iexists s
  isplitr
  · ipureintro
    rw [← hf] at h
    exact h
  · iframe H1 H2 H4 H5 H6 H7 H8 H9 H10 H11 H12 H13
    iexists f
    isplitr
    · ipureintro; exact hf
    · iexact H3

end Rules

end Cert.Proof.KI
-- ==== Proof.KI.Checks.lean ====
/-
  The addresses of `KernelIdeal`'s body in closed form, and every assumption of the body from two facts about its
  tables: each word of the row pointer is at most the number of entries, and each word of the address table is eight times
  a column.
-/
module

public import proofs.«01_k».proof.Proof.KI.Common
public import Idealize.ShloMosaic.Lib.WordArith.Masks

@[expose] public section

noncomputable section

namespace Cert.Proof.KI

open Cert.KernelIdeal Cert.KernelIdeal.Gen
open Idealize.ShloMosaic Idealize.ShloMosaic.WordArith

variable {F : FTy → Type} [FloatOps F]

/-- What the body needs of its tables to be defined. -/
structure Good (X : Ins F) : Prop where
  le : ∀ i, (X.x1 i : BitVec 32).toNat ≤ 61931
  dvd : ∀ i, 8 ∣ (X.x3 i : BitVec 32).toNat
  lt : ∀ i, (X.x3 i : BitVec 32).toNat < 12288

theorem tn_iv (lb : BitVec 32) (k : ℕ) : (Scf.iv lb 1#32 k).toNat = (lb.toNat + k) % 2 ^ 32 := by
  simp [Scf.iv]
theorem tn_addi (a b : BitVec 32) : (Scalar.addi a b).toNat = (a.toNat + b.toNat) % 2 ^ 32 := BitVec.toNat_add a b
theorem tn_muli (a b : BitVec 32) : (Scalar.muli a b).toNat = (a.toNat * b.toNat) % 2 ^ 32 := BitVec.toNat_mul a b
theorem tn_subi (a b : BitVec 32) : (Scalar.subi a b).toNat = (2 ^ 32 - b.toNat + a.toNat) % 2 ^ 32 := BitVec.toNat_sub a b
theorem tn_shrui8 (a : BitVec 32) : (Scalar.shrui a 8#32).toNat = a.toNat / 256 := by
  show (IntOp.shrui .scalar a 8#32).toNat = _
  unfold IntOp.shrui
  rw [if_pos (by decide)]
  simp [BitVec.toNat_ushiftRight, Nat.shiftRight_eq_div_pow]
theorem tn_and8191 (x : BitVec 32) : (Scalar.andi x 8191#32).toNat = x.toNat % 8192 := WordArith.toNat_andi_lowMask x 8191#32 13 rfl
theorem tn_and7 (x : BitVec 32) : (Scalar.andi x 7#32).toNat = x.toNat % 8 := WordArith.toNat_andi_lowMask x 7#32 3 rfl
theorem tn_and1 (x : BitVec 32) : (Scalar.andi x 1#32).toNat = x.toNat % 2 := WordArith.toNat_andi_lowMask x 1#32 1 rfl
theorem tn_rem32 (x : BitVec 32) (hx : x.toNat < 2 ^ 31) : (Scalar.remsi x 32#32).toNat = x.toNat % 32 := by
  show (IntOp.remsi .scalar x 32#32).toNat = _
  unfold IntOp.remsi
  rw [if_neg (by unfold IntOp.SDivCorner; simp)]
  rw [BitVec.srem_eq, (BitVec.msb_eq_false_iff_two_mul_lt).2 (by omega), (by decide : (32#32 : BitVec 32).msb = false)]
  simp
theorem div1 (x : BitVec 32) : Scalar.divsi x 1#32 = x := by
  show IntOp.divsi .scalar x 1#32 = _
  unfold IntOp.divsi
  rw [if_neg (by unfold IntOp.SDivCorner; simp)]
  simp
theorem mul1 (x : BitVec 32) : Scalar.muli x 1#32 = x := BitVec.mul_one x
theorem add_sub (a b : BitVec 32) : Scalar.addi a (Scalar.subi b a) = b := by
  show a + (b - a) = b
  rw [BitVec.add_comm, BitVec.sub_add_cancel]
theorem min34 (x : BitVec 32) (hx : x.toNat < 2 ^ 31) : (Scalar.minsi x 34#32).toNat = min x.toNat 34 := by
  show (if x.slt 34#32 then x else 34#32).toNat = _
  have h : x.slt 34#32 = decide (x.toNat < 34) := by
    simp only [BitVec.slt, BitVec.toInt_eq_toNat_of_lt (x := x) (by omega)]
    simp [BitVec.toInt]
  rw [h]
  by_cases h' : x.toNat < 34
  · rw [if_pos (by simpa using h')]; omega
  · rw [if_neg (by simpa using h')]; simp; omega

theorem grid_lt (i : grid0.Coords) : (i 0).val < 36 := (i 0).isLt
theorem tn_i (i : grid0.Coords) : (BitVec.ofNat 32 (i 0).val).toNat = (i 0).val := by
  have := grid_lt i
  rw [BitVec.toNat_ofNat]; omega
theorem tn_v0 (i : grid0.Coords) : (Scalar.minsi (BitVec.ofNat 32 (i 0).val) 34#32).toNat = min (i 0).val 34 := by
  have := grid_lt i
  rw [min34 _ (by rw [tn_i]; omega), tn_i]
theorem tn_v2 (i : grid0.Coords) : (Scalar.minsi (Scalar.addi (BitVec.ofNat 32 (i 0).val) 1#32) 34#32).toNat = min ((i 0).val + 1) 34 := by
  have := grid_lt i
  have e : (Scalar.addi (BitVec.ofNat 32 (i 0).val) 1#32).toNat = (i 0).val + 1 := by
    rw [tn_addi, tn_i]; simp; omega
  rw [min34 _ (by rw [e]; omega), e]

theorem tn_ctlz (x : BitVec 32) (hx : x ≠ 0#32) : (Scalar.subi 31#32 (Scalar.ctlz x)).toNat = Nat.log2 x.toNat := by
  have h0 : x.toNat ≠ 0 := fun h => hx (BitVec.eq_of_toNat_eq (by simpa using h))
  have h1 : Nat.log2 x.toNat < 32 := (Nat.log2_lt h0).2 x.isLt
  have e : (Scalar.ctlz x).toNat = 31 - Nat.log2 x.toNat := by
    show (BitVec.ofNat 32 (if x = 0 then 32 else 32 - 1 - Nat.log2 x.toNat)).toNat = _
    rw [if_neg (show ¬ x = 0 from hx), BitVec.toNat_ofNat]; omega
  rw [tn_subi, e]; simp; omega
theorem log2_lt (x : BitVec 32) (hx : x ≠ 0#32) : Nat.log2 x.toNat < 32 := by
  have h0 : x.toNat ≠ 0 := fun h => hx (BitVec.eq_of_toNat_eq (by simpa using h))
  exact (Nat.log2_lt h0).2 x.isLt

theorem trip4_2 (t : Fin k0_t2_loop.trips) : t.val < 4 := t.isLt
theorem trip3_3 (t : Fin k0_t3_loop.trips) : t.val < 3 := t.isLt
theorem trip4_4 (t : Fin k0_t4_loop.trips) : t.val < 4 := t.isLt
theorem trip3_5 (t : Fin k0_t5_loop.trips) : t.val < 3 := t.isLt
theorem trip4_9 (t : Fin k0_t9_loop.trips) : t.val < 4 := t.isLt
theorem trip3_10 (t : Fin k0_t10_loop.trips) : t.val < 3 := t.isLt
theorem trip8_14 (t : Fin k0_t14_loop.trips) : t.val < 8 := t.isLt

theorem vec2 {a b : ℕ} (h : a = b) : (![a, 0] : Fin 2 → ℕ) = ![b, 0] := by rw [h]
theorem vec1 {a b : ℕ} (h : a = b) : (![a] : Fin 1 → ℕ) = ![b] := by rw [h]

/-- The unit of a step: the start word over 256, the chunk and the unit of the chunk. -/
theorem tn_unit (v : BitVec 32) (a b : ℕ) (hv : v.toNat ≤ 61931) (ha : a < 4) (hb : b < 3) :
    (Scalar.addi (Scalar.addi (Scalar.shrui v 8#32) (Scalar.muli (Scf.iv 0#32 1#32 a) 3#32)) (Scf.iv 0#32 1#32 b)).toNat
      = v.toNat / 256 + 3 * a + b := by
  simp only [tn_addi, tn_muli, tn_iv, tn_shrui8, BitVec.toNat_ofNat]; omega
/-- The ring slot of a unit. -/
theorem tn_slot (v : BitVec 32) (a b : ℕ) (hv : v.toNat ≤ 61931) (ha : a < 4) (hb : b < 3) :
    (Scalar.remsi (Scalar.addi (Scalar.addi (Scalar.shrui v 8#32) (Scalar.muli (Scf.iv 0#32 1#32 a) 3#32)) (Scf.iv 0#32 1#32 b)) 32#32).toNat
      = (v.toNat / 256 + 3 * a + b) % 32 := by
  rw [tn_rem32 _ (by rw [tn_unit v a b hv ha hb]; omega), tn_unit v a b hv ha hb]
/-- Where the copy of a unit's first sixteen rows goes: past the ring's end at slot zero, into a row nothing reads otherwise. -/
theorem tn_mir (v : BitVec 32) (a b : ℕ) (hv : v.toNat ≤ 61931) (ha : a < 4) (hb : b < 3) :
    (Scalar.addi 8192#32 (Scalar.select (Scalar.cmpi .eq (Scalar.remsi (Scalar.addi (Scalar.addi (Scalar.shrui v 8#32) (Scalar.muli (Scf.iv 0#32 1#32 a) 3#32)) (Scf.iv 0#32 1#32 b)) 32#32) 0#32) 0#32 16#32)).toNat
      = if (v.toNat / 256 + 3 * a + b) % 32 = 0 then 8192 else 8208 := by
  have e := tn_slot v a b hv ha hb
  generalize Scalar.remsi _ _ = y at e
  by_cases h : y = 0#32
  · subst h
    rw [if_pos (by rw [← e]; rfl)]
    decide
  · have h2 : ¬ (v.toNat / 256 + 3 * a + b) % 32 = 0 := by
      rw [← e]; exact fun h' => h (BitVec.eq_of_toNat_eq (by simpa using h'))
    rw [if_neg h2]
    have : Scalar.cmpi .eq y 0#32 = 0#1 := by
      show BitVec.ofBool (y == 0#32) = 0#1
      rw [beq_false_of_ne h]; rfl
    rw [this]
    decide

theorem mult2_eq (v : BitVec 32) (a : Fin k0_t2_loop.trips) (b : Fin k0_t3_loop.trips) (hv : v.toNat ≤ 61931) : (k0_mult2 v a b).toNat = (v.toNat / 256 + 3 * a.val + b.val) * 8 := by
  have ha := trip4_2 a
  have hb := trip3_3 b
  simp only [k0_mult2]
  rw [tn_muli, tn_unit v a b hv ha hb]; simp; omega
theorem mult3_eq (v : BitVec 32) (a : Fin k0_t2_loop.trips) (b : Fin k0_t3_loop.trips) (hv : v.toNat ≤ 61931) : (k0_mult3 v a b).toNat = (v.toNat / 256 + 3 * a.val + b.val) % 32 * 256 := by
  have ha := trip4_2 a
  have hb := trip3_3 b
  simp only [k0_mult3]
  rw [tn_muli, tn_slot v a b hv ha hb]; simp; omega
theorem mult4_eq (v : BitVec 32) (a : Fin k0_t2_loop.trips) (b : Fin k0_t3_loop.trips) (hv : v.toNat ≤ 61931) : (k0_mult4 v a b).toNat = (if (v.toNat / 256 + 3 * a.val + b.val) % 32 = 0 then 8192 else 8208) := by
  have ha := trip4_2 a
  have hb := trip3_3 b
  simp only [k0_mult4]
  rw [tn_mir v a b hv ha hb]
theorem off19_eq (v : BitVec 32) (a : Fin k0_t2_loop.trips) (b : Fin k0_t3_loop.trips) (hv : v.toNat ≤ 61931) : k0_off19 v a b = ![(v.toNat / 256 + 3 * a.val + b.val) * 8, 0] := by
  have ha := trip4_2 a
  have hb := trip3_3 b
  simp only [k0_off19, Scalar.indexCast]
  refine vec2 ?_
  rw [tn_muli, tn_unit v a b hv ha hb]; simp; omega
theorem off20_eq (v : BitVec 32) (a : Fin k0_t2_loop.trips) (b : Fin k0_t3_loop.trips) (hv : v.toNat ≤ 61931) (r : ℕ) (hr : r < 256) : k0_off20 v a b (BitVec.ofNat 32 r) = ![(v.toNat / 256 + 3 * a.val + b.val) % 32 * 256 + r, 0] := by
  have ha := trip4_2 a
  have hb := trip3_3 b
  simp only [k0_off20, Scalar.indexCast]
  refine vec2 ?_
  rw [tn_addi, tn_muli, tn_slot v a b hv ha hb]; simp; omega
theorem off21_eq (v : BitVec 32) (a : Fin k0_t2_loop.trips) (b : Fin k0_t3_loop.trips) (hv : v.toNat ≤ 61931) (r : ℕ) (hr : r < 16) : k0_off21 v a b (BitVec.ofNat 32 r) = ![(if (v.toNat / 256 + 3 * a.val + b.val) % 32 = 0 then 8192 else 8208) + r, 0] := by
  have ha := trip4_2 a
  have hb := trip3_3 b
  simp only [k0_off21, Scalar.indexCast]
  refine vec2 ?_
  rw [tn_addi, tn_mir v a b hv ha hb]; split <;> simp <;> omega

theorem mult5_eq (v : BitVec 32) (a : Fin k0_t4_loop.trips) (b : Fin k0_t5_loop.trips) (hv : v.toNat ≤ 61931) : (k0_mult5 v a b).toNat = (v.toNat / 256 + 3 * a.val + b.val) * 8 := mult2_eq v a b hv
theorem mult6_eq (v : BitVec 32) (a : Fin k0_t4_loop.trips) (b : Fin k0_t5_loop.trips) (hv : v.toNat ≤ 61931) : (k0_mult6 v a b).toNat = (v.toNat / 256 + 3 * a.val + b.val) % 32 * 256 := mult3_eq v a b hv
theorem mult7_eq (v : BitVec 32) (a : Fin k0_t4_loop.trips) (b : Fin k0_t5_loop.trips) (hv : v.toNat ≤ 61931) : (k0_mult7 v a b).toNat = (if (v.toNat / 256 + 3 * a.val + b.val) % 32 = 0 then 8192 else 8208) := mult4_eq v a b hv
theorem off22_eq (v : BitVec 32) (a : Fin k0_t4_loop.trips) (b : Fin k0_t5_loop.trips) (hv : v.toNat ≤ 61931) : k0_off22 v a b = ![(v.toNat / 256 + 3 * a.val + b.val) * 8, 0] := off19_eq v a b hv
theorem off23_eq (v : BitVec 32) (a : Fin k0_t4_loop.trips) (b : Fin k0_t5_loop.trips) (hv : v.toNat ≤ 61931) (r : ℕ) (hr : r < 256) : k0_off23 v a b (BitVec.ofNat 32 r) = ![(v.toNat / 256 + 3 * a.val + b.val) % 32 * 256 + r, 0] := off20_eq v a b hv r hr
theorem off24_eq (v : BitVec 32) (a : Fin k0_t4_loop.trips) (b : Fin k0_t5_loop.trips) (hv : v.toNat ≤ 61931) (r : ℕ) (hr : r < 16) : k0_off24 v a b (BitVec.ofNat 32 r) = ![(if (v.toNat / 256 + 3 * a.val + b.val) % 32 = 0 then 8192 else 8208) + r, 0] := off21_eq v a b hv r hr

theorem mult32_eq (v : BitVec 32) (a : Fin k0_t9_loop.trips) (b : Fin k0_t10_loop.trips) (hv : v.toNat ≤ 61931) : (k0_mult32 v a b).toNat = (v.toNat / 256 + 3 * a.val + b.val) * 8 := mult2_eq v a b hv
theorem mult33_eq (v : BitVec 32) (a : Fin k0_t9_loop.trips) (b : Fin k0_t10_loop.trips) (hv : v.toNat ≤ 61931) : (k0_mult33 v a b).toNat = (v.toNat / 256 + 3 * a.val + b.val) % 32 * 256 := mult3_eq v a b hv
theorem mult34_eq (v : BitVec 32) (a : Fin k0_t9_loop.trips) (b : Fin k0_t10_loop.trips) (hv : v.toNat ≤ 61931) : (k0_mult34 v a b).toNat = (if (v.toNat / 256 + 3 * a.val + b.val) % 32 = 0 then 8192 else 8208) := mult4_eq v a b hv
theorem off74_eq (v : BitVec 32) (a : Fin k0_t9_loop.trips) (b : Fin k0_t10_loop.trips) (hv : v.toNat ≤ 61931) : k0_off74 v a b = ![(v.toNat / 256 + 3 * a.val + b.val) * 8, 0] := off19_eq v a b hv
theorem off75_eq (v : BitVec 32) (a : Fin k0_t9_loop.trips) (b : Fin k0_t10_loop.trips) (hv : v.toNat ≤ 61931) (r : ℕ) (hr : r < 256) : k0_off75 v a b (BitVec.ofNat 32 r) = ![(v.toNat / 256 + 3 * a.val + b.val) % 32 * 256 + r, 0] := off20_eq v a b hv r hr
theorem off76_eq (v : BitVec 32) (a : Fin k0_t9_loop.trips) (b : Fin k0_t10_loop.trips) (hv : v.toNat ≤ 61931) (r : ℕ) (hr : r < 16) : k0_off76 v a b (BitVec.ofNat 32 r) = ![(if (v.toNat / 256 + 3 * a.val + b.val) % 32 = 0 then 8192 else 8208) + r, 0] := off21_eq v a b hv r hr

theorem chk1 (i : grid0.Coords) (v : BitVec 32) (hv : v.toNat ≤ 61931) : k0_chk1 i v := by
  refine ⟨?_, ?_, ?_, ?_, ?_, ?_⟩
  · intro a b _; rw [mult2_eq v a b hv]; omega
  · intro a b _ x
    have ha := trip4_2 a; have hb := trip3_3 b
    rw [off19_eq v a b hv]; fin_cases x
    · show (v.toNat / 256 + 3 * a.val + b.val) * 8 + 8 ≤ 2032
      omega
    · show 0 + 32 ≤ 32
      omega
  · intro a b _; rw [mult3_eq v a b hv]; omega
  · intro a b _; rw [mult4_eq v a b hv]; split <;> omega
  · intro a b _ r x
    have hr := r.isLt
    rw [off20_eq v a b hv _ (by omega)]; fin_cases x
    · show (v.toNat / 256 + 3 * a.val + b.val) % 32 * 256 + 8 * r.val + 8 ≤ 8224
      omega
    · show 0 + 128 ≤ 128
      omega
  · intro a b _ r x
    have hr := r.isLt
    rw [off21_eq v a b hv _ (by omega)]; fin_cases x
    · show (if (v.toNat / 256 + 3 * a.val + b.val) % 32 = 0 then 8192 else 8208) + 8 * r.val + 8 ≤ 8224
      split <;> omega
    · show 0 + 128 ≤ 128
      omega

theorem chk2 (i : grid0.Coords) (v : BitVec 32) (hv : v.toNat ≤ 61931) : k0_chk2 i v := by
  refine ⟨?_, ?_, ?_, ?_, ?_, ?_, ?_, ?_, ?_, ?_, ?_, ?_⟩
  · intro a b _; rw [mult5_eq v a b hv]; omega
  · intro a b _ x
    have ha := trip4_4 a; have hb := trip3_5 b
    rw [off22_eq v a b hv]; fin_cases x
    · show (v.toNat / 256 + 3 * a.val + b.val) * 8 + 8 ≤ 2032
      omega
    · show 0 + 32 ≤ 32
      omega
  · intro a b _; rw [mult6_eq v a b hv]; omega
  · intro a b _; rw [mult7_eq v a b hv]; split <;> omega
  · intro a b _ r x
    have hr := r.isLt
    rw [off23_eq v a b hv _ (by omega)]; fin_cases x
    · show (v.toNat / 256 + 3 * a.val + b.val) % 32 * 256 + 8 * r.val + 8 ≤ 8224
      omega
    · show 0 + 128 ≤ 128
      omega
  · intro a b _ r x
    have hr := r.isLt
    rw [off24_eq v a b hv _ (by omega)]; fin_cases x
    · show (if (v.toNat / 256 + 3 * a.val + b.val) % 32 = 0 then 8192 else 8208) + 8 * r.val + 8 ≤ 8224
      split <;> omega
    · show 0 + 128 ≤ 128
      omega
  · intro a b _; rw [mult32_eq v a b hv]; omega
  · intro a b _ x
    have ha := trip4_9 a; have hb := trip3_10 b
    rw [off74_eq v a b hv]; fin_cases x
    · show (v.toNat / 256 + 3 * a.val + b.val) * 8 + 8 ≤ 2032
      omega
    · show 0 + 32 ≤ 32
      omega
  · intro a b _; rw [mult33_eq v a b hv]; omega
  · intro a b _; rw [mult34_eq v a b hv]; split <;> omega
  · intro a b _ r x
    have hr := r.isLt
    rw [off75_eq v a b hv _ (by omega)]; fin_cases x
    · show (v.toNat / 256 + 3 * a.val + b.val) % 32 * 256 + 8 * r.val + 8 ≤ 8224
      omega
    · show 0 + 128 ≤ 128
      omega
  · intro a b _ r x
    have hr := r.isLt
    rw [off76_eq v a b hv _ (by omega)]; fin_cases x
    · show (if (v.toNat / 256 + 3 * a.val + b.val) % 32 = 0 then 8192 else 8208) + 8 * r.val + 8 ≤ 8224
      split <;> omega
    · show 0 + 128 ≤ 128
      omega
theorem off32_eq (v : BitVec 32) : k0_off32 v = ![v.toNat % 8192 + 0, 0] := by
  simp only [k0_off32, Scalar.indexCast]
  refine vec2 ?_
  rw [tn_addi, tn_and8191]; simp; omega
theorem off35_eq (v : BitVec 32) : k0_off35 v = ![v.toNat % 8192 + 1, 0] := by
  simp only [k0_off35, Scalar.indexCast]
  refine vec2 ?_
  rw [tn_addi, tn_and8191]; simp; omega
theorem off38_eq (v : BitVec 32) : k0_off38 v = ![v.toNat % 8192 + 2, 0] := by
  simp only [k0_off38, Scalar.indexCast]
  refine vec2 ?_
  rw [tn_addi, tn_and8191]; simp; omega
theorem off41_eq (v : BitVec 32) : k0_off41 v = ![v.toNat % 8192 + 3, 0] := by
  simp only [k0_off41, Scalar.indexCast]
  refine vec2 ?_
  rw [tn_addi, tn_and8191]; simp; omega
theorem off44_eq (v : BitVec 32) : k0_off44 v = ![v.toNat % 8192 + 4, 0] := by
  simp only [k0_off44, Scalar.indexCast]
  refine vec2 ?_
  rw [tn_addi, tn_and8191]; simp; omega
theorem off47_eq (v : BitVec 32) : k0_off47 v = ![v.toNat % 8192 + 5, 0] := by
  simp only [k0_off47, Scalar.indexCast]
  refine vec2 ?_
  rw [tn_addi, tn_and8191]; simp; omega
theorem off50_eq (v : BitVec 32) : k0_off50 v = ![v.toNat % 8192 + 6, 0] := by
  simp only [k0_off50, Scalar.indexCast]
  refine vec2 ?_
  rw [tn_addi, tn_and8191]; simp; omega
theorem off53_eq (v : BitVec 32) : k0_off53 v = ![v.toNat % 8192 + 7, 0] := by
  simp only [k0_off53, Scalar.indexCast]
  refine vec2 ?_
  rw [tn_addi, tn_and8191]; simp; omega
theorem off56_eq (v : BitVec 32) : k0_off56 v = ![v.toNat % 8192 + 8, 0] := by
  simp only [k0_off56, Scalar.indexCast]
  refine vec2 ?_
  rw [tn_addi, tn_and8191]; simp; omega
theorem off59_eq (v : BitVec 32) : k0_off59 v = ![v.toNat % 8192 + 9, 0] := by
  simp only [k0_off59, Scalar.indexCast]
  refine vec2 ?_
  rw [tn_addi, tn_and8191]; simp; omega
theorem off62_eq (v : BitVec 32) : k0_off62 v = ![v.toNat % 8192 + 10, 0] := by
  simp only [k0_off62, Scalar.indexCast]
  refine vec2 ?_
  rw [tn_addi, tn_and8191]; simp; omega
theorem off65_eq (v : BitVec 32) : k0_off65 v = ![v.toNat % 8192 + 11, 0] := by
  simp only [k0_off65, Scalar.indexCast]
  refine vec2 ?_
  rw [tn_addi, tn_and8191]; simp; omega

/-- An entry's address is in its table. -/
theorem entry_in (v : BitVec 32) (hv : v.toNat ≤ 61931) (x : Fin 1) : (![v.toNat] : Fin 1 → ℕ) x + S1.size x ≤ S61932.size x := by
  fin_cases x; show v.toNat + 1 ≤ 61932; omega
/-- An entry's rows are in the ring. -/
theorem ring_in (v : BitVec 32) (k : ℕ) (hk : k < 12) (x : Fin 2) :
    (![v.toNat % 8192 + k, 0] : Fin 2 → ℕ) x + (![0, 1] : Fin 2 → ℕ) x * (S8x128.size x - 1) < S8224x128.size x := by
  fin_cases x
  · show v.toNat % 8192 + k + 0 * (8 - 1) < 8224
    omega
  · show 0 + 1 * (128 - 1) < 128
    omega
theorem chk3 (i : grid0.Coords) (v : BitVec 32) (hv : v.toNat ≤ 61931) : k0_chk3 i v :=
  ⟨fun _ => entry_in v hv, fun _ x => .inr (off32_eq v ▸ ring_in v 0 (by decide) x),
    fun _ => entry_in v hv, fun _ x => .inr (off35_eq v ▸ ring_in v 1 (by decide) x),
    fun _ => entry_in v hv, fun _ x => .inr (off38_eq v ▸ ring_in v 2 (by decide) x),
    fun _ => entry_in v hv, fun _ x => .inr (off41_eq v ▸ ring_in v 3 (by decide) x),
    fun _ => entry_in v hv, fun _ x => .inr (off44_eq v ▸ ring_in v 4 (by decide) x),
    fun _ => entry_in v hv, fun _ x => .inr (off47_eq v ▸ ring_in v 5 (by decide) x),
    fun _ => entry_in v hv, fun _ x => .inr (off50_eq v ▸ ring_in v 6 (by decide) x),
    fun _ => entry_in v hv, fun _ x => .inr (off53_eq v ▸ ring_in v 7 (by decide) x),
    fun _ => entry_in v hv, fun _ x => .inr (off56_eq v ▸ ring_in v 8 (by decide) x),
    fun _ => entry_in v hv, fun _ x => .inr (off59_eq v ▸ ring_in v 9 (by decide) x),
    fun _ => entry_in v hv, fun _ x => .inr (off62_eq v ▸ ring_in v 10 (by decide) x),
    fun _ => entry_in v hv, fun _ x => .inr (off65_eq v ▸ ring_in v 11 (by decide) x)⟩
theorem off84_eq (v : BitVec 32) : k0_off84 v = ![v.toNat % 8192 + 0, 0] := off32_eq v
theorem off87_eq (v : BitVec 32) : k0_off87 v = ![v.toNat % 8192 + 1, 0] := off35_eq v
theorem off90_eq (v : BitVec 32) : k0_off90 v = ![v.toNat % 8192 + 2, 0] := off38_eq v
theorem off93_eq (v : BitVec 32) : k0_off93 v = ![v.toNat % 8192 + 3, 0] := off41_eq v
theorem off96_eq (v : BitVec 32) : k0_off96 v = ![v.toNat % 8192 + 4, 0] := off44_eq v
theorem off99_eq (v : BitVec 32) : k0_off99 v = ![v.toNat % 8192 + 5, 0] := off47_eq v
theorem off102_eq (v : BitVec 32) : k0_off102 v = ![v.toNat % 8192 + 6, 0] := off50_eq v
theorem off105_eq (v : BitVec 32) : k0_off105 v = ![v.toNat % 8192 + 7, 0] := off53_eq v
theorem off108_eq (v : BitVec 32) : k0_off108 v = ![v.toNat % 8192 + 8, 0] := off56_eq v
theorem off111_eq (v : BitVec 32) : k0_off111 v = ![v.toNat % 8192 + 9, 0] := off59_eq v
theorem off114_eq (v : BitVec 32) : k0_off114 v = ![v.toNat % 8192 + 10, 0] := off62_eq v
theorem off117_eq (v : BitVec 32) : k0_off117 v = ![v.toNat % 8192 + 11, 0] := off65_eq v

theorem chk16 (i : grid0.Coords) (v : BitVec 32) (hv : v.toNat ≤ 61931) : k0_chk16 i v :=
  ⟨fun _ => entry_in v hv, fun _ x => .inr (off84_eq v ▸ ring_in v 0 (by decide) x),
    fun _ => entry_in v hv, fun _ x => .inr (off87_eq v ▸ ring_in v 1 (by decide) x),
    fun _ => entry_in v hv, fun _ x => .inr (off90_eq v ▸ ring_in v 2 (by decide) x),
    fun _ => entry_in v hv, fun _ x => .inr (off93_eq v ▸ ring_in v 3 (by decide) x),
    fun _ => entry_in v hv, fun _ x => .inr (off96_eq v ▸ ring_in v 4 (by decide) x),
    fun _ => entry_in v hv, fun _ x => .inr (off99_eq v ▸ ring_in v 5 (by decide) x),
    fun _ => entry_in v hv, fun _ x => .inr (off102_eq v ▸ ring_in v 6 (by decide) x),
    fun _ => entry_in v hv, fun _ x => .inr (off105_eq v ▸ ring_in v 7 (by decide) x),
    fun _ => entry_in v hv, fun _ x => .inr (off108_eq v ▸ ring_in v 8 (by decide) x),
    fun _ => entry_in v hv, fun _ x => .inr (off111_eq v ▸ ring_in v 9 (by decide) x),
    fun _ => entry_in v hv, fun _ x => .inr (off114_eq v ▸ ring_in v 10 (by decide) x),
    fun _ => entry_in v hv, fun _ x => .inr (off117_eq v ▸ ring_in v 11 (by decide) x)⟩
/-- An address is in the table. -/
theorem addr_in (v : BitVec 32) (h8 : 8 ∣ v.toNat) (hl : v.toNat < 12288) (x : Fin 2) : (![v.toNat, 0] : Fin 2 → ℕ) x + S8x128.size x ≤ S12288x128.size x := by
  fin_cases x
  · show v.toNat + 8 ≤ 12288
    omega
  · show 0 + 128 ≤ 128
    omega
theorem chk4 (i : grid0.Coords) (v : BitVec 32) (h8 : 8 ∣ v.toNat) (hl : v.toNat < 12288) : k0_chk4 i v := ⟨fun _ => h8, fun _ => addr_in v h8 hl⟩
theorem chk5 (i : grid0.Coords) (v : BitVec 32) (h8 : 8 ∣ v.toNat) (hl : v.toNat < 12288) : k0_chk5 i v := ⟨fun _ => h8, fun _ => addr_in v h8 hl⟩
theorem chk6 (i : grid0.Coords) (v : BitVec 32) (h8 : 8 ∣ v.toNat) (hl : v.toNat < 12288) : k0_chk6 i v := ⟨fun _ => h8, fun _ => addr_in v h8 hl⟩
theorem chk7 (i : grid0.Coords) (v : BitVec 32) (h8 : 8 ∣ v.toNat) (hl : v.toNat < 12288) : k0_chk7 i v := ⟨fun _ => h8, fun _ => addr_in v h8 hl⟩
theorem chk8 (i : grid0.Coords) (v : BitVec 32) (h8 : 8 ∣ v.toNat) (hl : v.toNat < 12288) : k0_chk8 i v := ⟨fun _ => h8, fun _ => addr_in v h8 hl⟩
theorem chk9 (i : grid0.Coords) (v : BitVec 32) (h8 : 8 ∣ v.toNat) (hl : v.toNat < 12288) : k0_chk9 i v := ⟨fun _ => h8, fun _ => addr_in v h8 hl⟩
theorem chk10 (i : grid0.Coords) (v : BitVec 32) (h8 : 8 ∣ v.toNat) (hl : v.toNat < 12288) : k0_chk10 i v := ⟨fun _ => h8, fun _ => addr_in v h8 hl⟩
theorem chk11 (i : grid0.Coords) (v : BitVec 32) (h8 : 8 ∣ v.toNat) (hl : v.toNat < 12288) : k0_chk11 i v := ⟨fun _ => h8, fun _ => addr_in v h8 hl⟩
theorem chk12 (i : grid0.Coords) (v : BitVec 32) (h8 : 8 ∣ v.toNat) (hl : v.toNat < 12288) : k0_chk12 i v := ⟨fun _ => h8, fun _ => addr_in v h8 hl⟩
theorem chk13 (i : grid0.Coords) (v : BitVec 32) (h8 : 8 ∣ v.toNat) (hl : v.toNat < 12288) : k0_chk13 i v := ⟨fun _ => h8, fun _ => addr_in v h8 hl⟩
theorem chk14 (i : grid0.Coords) (v : BitVec 32) (h8 : 8 ∣ v.toNat) (hl : v.toNat < 12288) : k0_chk14 i v := ⟨fun _ => h8, fun _ => addr_in v h8 hl⟩
theorem chk15 (i : grid0.Coords) (v : BitVec 32) (h8 : 8 ∣ v.toNat) (hl : v.toNat < 12288) : k0_chk15 i v := ⟨fun _ => h8, fun _ => addr_in v h8 hl⟩
theorem chk17 (i : grid0.Coords) (v : BitVec 32) (h8 : 8 ∣ v.toNat) (hl : v.toNat < 12288) : k0_chk17 i v := ⟨fun _ => h8, fun _ => addr_in v h8 hl⟩
theorem chk18 (i : grid0.Coords) (v : BitVec 32) (h8 : 8 ∣ v.toNat) (hl : v.toNat < 12288) : k0_chk18 i v := ⟨fun _ => h8, fun _ => addr_in v h8 hl⟩
theorem chk19 (i : grid0.Coords) (v : BitVec 32) (h8 : 8 ∣ v.toNat) (hl : v.toNat < 12288) : k0_chk19 i v := ⟨fun _ => h8, fun _ => addr_in v h8 hl⟩
theorem chk20 (i : grid0.Coords) (v : BitVec 32) (h8 : 8 ∣ v.toNat) (hl : v.toNat < 12288) : k0_chk20 i v := ⟨fun _ => h8, fun _ => addr_in v h8 hl⟩
theorem chk21 (i : grid0.Coords) (v : BitVec 32) (h8 : 8 ∣ v.toNat) (hl : v.toNat < 12288) : k0_chk21 i v := ⟨fun _ => h8, fun _ => addr_in v h8 hl⟩
theorem chk22 (i : grid0.Coords) (v : BitVec 32) (h8 : 8 ∣ v.toNat) (hl : v.toNat < 12288) : k0_chk22 i v := ⟨fun _ => h8, fun _ => addr_in v h8 hl⟩
theorem chk23 (i : grid0.Coords) (v : BitVec 32) (h8 : 8 ∣ v.toNat) (hl : v.toNat < 12288) : k0_chk23 i v := ⟨fun _ => h8, fun _ => addr_in v h8 hl⟩
theorem chk24 (i : grid0.Coords) (v : BitVec 32) (h8 : 8 ∣ v.toNat) (hl : v.toNat < 12288) : k0_chk24 i v := ⟨fun _ => h8, fun _ => addr_in v h8 hl⟩
theorem chk25 (i : grid0.Coords) (v : BitVec 32) (h8 : 8 ∣ v.toNat) (hl : v.toNat < 12288) : k0_chk25 i v := ⟨fun _ => h8, fun _ => addr_in v h8 hl⟩
theorem chk26 (i : grid0.Coords) (v : BitVec 32) (h8 : 8 ∣ v.toNat) (hl : v.toNat < 12288) : k0_chk26 i v := ⟨fun _ => h8, fun _ => addr_in v h8 hl⟩
theorem chk27 (i : grid0.Coords) (v : BitVec 32) (h8 : 8 ∣ v.toNat) (hl : v.toNat < 12288) : k0_chk27 i v := ⟨fun _ => h8, fun _ => addr_in v h8 hl⟩
theorem chk28 (i : grid0.Coords) (v : BitVec 32) (h8 : 8 ∣ v.toNat) (hl : v.toNat < 12288) : k0_chk28 i v := ⟨fun _ => h8, fun _ => addr_in v h8 hl⟩
theorem chk31 (v : BitVec 32) (h8 : 8 ∣ v.toNat) (hl : v.toNat < 12288) : k0_chk31 v := ⟨h8, addr_in v h8 hl⟩
theorem chk32 (v : BitVec 32) (h8 : 8 ∣ v.toNat) (hl : v.toNat < 12288) : k0_chk32 v := ⟨h8, addr_in v h8 hl⟩
theorem chk34 (v6 v30 : BitVec 32) (v : BitVec 32) (h8 : 8 ∣ v.toNat) (hl : v.toNat < 12288) : k0_chk34 v6 v30 v := ⟨fun _ => h8, fun _ => addr_in v h8 hl⟩
theorem chk35 (v6 v30 : BitVec 32) (v : BitVec 32) (h8 : 8 ∣ v.toNat) (hl : v.toNat < 12288) : k0_chk35 v6 v30 v := ⟨fun _ => h8, fun _ => addr_in v h8 hl⟩

theorem off122_eq (i : grid0.Coords) (t : Fin k0_t14_loop.trips) (v : BitVec 32) (hv : v ≠ 0#32) :
    k0_off122 i t v = ![min (i 0).val 34 * 256 + (32 * t.val + Nat.log2 v.toNat)] := by
  have ht := trip8_14 t
  have hl := log2_lt v hv
  simp only [k0_off122, Scalar.indexCast]
  refine vec1 ?_
  simp only [tn_addi, tn_muli, tn_v0, tn_iv, tn_ctlz v hv, BitVec.toNat_ofNat]; omega
theorem off123_eq (i : grid0.Coords) (t : Fin k0_t14_loop.trips) (v : BitVec 32) (hv : v ≠ 0#32) :
    k0_off123 i t v = ![min (i 0).val 34 * 256 + (32 * t.val + Nat.log2 v.toNat) + 1] := by
  have ht := trip8_14 t
  have hl := log2_lt v hv
  simp only [k0_off123, Scalar.indexCast]
  refine vec1 ?_
  simp only [tn_addi, tn_muli, tn_v0, tn_iv, tn_ctlz v hv, BitVec.toNat_ofNat]; omega
theorem off127_eq (i : grid0.Coords) (t : Fin k0_t14_loop.trips) (v : BitVec 32) (hv : v ≠ 0#32) :
    k0_off127 i t v = ![(i 0).val % 2 * 4352 + (32 * t.val + Nat.log2 v.toNat) * 17, 0] := by
  have ht := trip8_14 t
  have hl := log2_lt v hv
  have hi := tn_i i
  have hg := grid_lt i
  simp only [k0_off127, Scalar.indexCast]
  generalize BitVec.ofNat 32 (i 0).val = w at hi ⊢
  rw [← hi]
  refine vec2 ?_
  simp only [tn_addi, tn_muli, tn_and1, tn_iv, tn_ctlz v hv, BitVec.toNat_ofNat]
  omega
theorem off131_eq (i : grid0.Coords) (t : Fin k0_t14_loop.trips) (v : BitVec 32) (hv : v ≠ 0#32) :
    k0_off131 i t v = ![(i 0).val % 2 * 4352 + (32 * t.val + Nat.log2 v.toNat) * 17, 0] := by
  have ht := trip8_14 t
  have hl := log2_lt v hv
  have hi := tn_i i
  have hg := grid_lt i
  simp only [k0_off131, Scalar.indexCast]
  generalize BitVec.ofNat 32 (i 0).val = w at hi ⊢
  rw [← hi]
  refine vec2 ?_
  simp only [tn_addi, tn_muli, tn_and1, tn_iv, tn_ctlz v hv, BitVec.toNat_ofNat]
  omega

theorem chk29 (i : grid0.Coords) (t : Fin k0_t14_loop.trips) (v : BitVec 32) (hv : v ≠ 0#32) : k0_chk29 i t v := by
  have ht := trip8_14 t
  have hl := log2_lt v hv
  refine ⟨fun x => ?_, fun x => ?_⟩
  · rw [off122_eq i t v hv]; fin_cases x
    show min (i 0).val 34 * 256 + (32 * t.val + Nat.log2 v.toNat) + 1 ≤ 8961
    omega
  · rw [off123_eq i t v hv]; fin_cases x
    show min (i 0).val 34 * 256 + (32 * t.val + Nat.log2 v.toNat) + 1 + 1 ≤ 8961
    omega

/-- A loop over the words `a` to `b` by one: its trips. -/
theorem trips1 (a b : BitVec 32) (ha : a.toNat < 2 ^ 31) (hb : b.toNat < 2 ^ 31) : Scf.trips a b 1#32 = b.toNat - a.toNat := by
  unfold Scf.trips
  rw [BitVec.toInt_eq_toNat_of_lt (x := a) (by omega), BitVec.toInt_eq_toNat_of_lt (x := b) (by omega),
    (by decide : (1#32 : BitVec 32).toInt = 1)]
  omega
theorem ok1 (a b : BitVec 32) (ha : a.toNat < 2 ^ 31) (hb : b.toNat < 2 ^ 31) : Scf.OK a b 1#32 := by
  refine ⟨by decide, ?_⟩
  rw [trips1 a b ha hb, BitVec.toInt_eq_toNat_of_lt (x := a) (by omega), (by decide : (1#32 : BitVec 32).toInt = 1)]
  omega

theorem tn_add12 (v : BitVec 32) (hv : v.toNat ≤ 61931) : (Scalar.addi v 12#32).toNat = v.toNat + 12 := by
  rw [tn_addi]; simp; omega
theorem loop15_eq (v w : BitVec 32) : k0_t15_loop v w = ⟨Scalar.addi v 12#32, w, 1#32⟩ := by
  simp only [k0_t15_loop, div1, mul1, add_sub]
theorem loop16_eq (v w : BitVec 32) : k0_t16_loop v w = ⟨w, w, 1#32⟩ := by
  simp only [k0_t16_loop, div1, mul1, add_sub]
theorem loop18_eq (v w : BitVec 32) : k0_t18_loop v w = ⟨v, w, 1#32⟩ := by
  simp only [k0_t18_loop, div1, mul1, add_sub]
theorem loop19_eq (v w : BitVec 32) : k0_t19_loop v w = ⟨w, w, 1#32⟩ := by
  simp only [k0_t19_loop, div1, mul1, add_sub]
theorem trips15 (v w : BitVec 32) (hv : v.toNat ≤ 61931) (hw : w.toNat ≤ 61931) : (k0_t15_loop v w).trips = w.toNat - (v.toNat + 12) := by
  rw [loop15_eq]; show Scf.trips _ _ _ = _
  rw [trips1 (Scalar.addi v 12#32) w (by rw [tn_add12 v hv]; omega) (by omega), tn_add12 v hv]
theorem trips16 (v w : BitVec 32) (hw : w.toNat ≤ 61931) : (k0_t16_loop v w).trips = 0 := by
  rw [loop16_eq]; show Scf.trips _ _ _ = _
  rw [trips1 w w (by omega) (by omega)]; omega
theorem trips18 (v w : BitVec 32) (hv : v.toNat ≤ 61931) (hw : w.toNat ≤ 61931) : (k0_t18_loop v w).trips = w.toNat - v.toNat := by
  rw [loop18_eq]; show Scf.trips _ _ _ = _
  rw [trips1 v w (by omega) (by omega)]
theorem trips19 (v w : BitVec 32) (hw : w.toNat ≤ 61931) : (k0_t19_loop v w).trips = 0 := by
  rw [loop19_eq]; show Scf.trips _ _ _ = _
  rw [trips1 w w (by omega) (by omega)]; omega

theorem off124_eq (v w : BitVec 32) (hv : v.toNat ≤ 61931) (hw : w.toNat ≤ 61931) (t : Fin (k0_t15_loop v w).trips) :
    k0_off124 v w t = ![(v.toNat + 12 + t.val) % 8192, 0] := by
  have ht := lt_of_lt_of_eq t.isLt (trips15 v w hv hw)
  simp only [k0_off124, Scalar.indexCast]
  refine vec2 ?_
  rw [tn_and8191, tn_iv, tn_add12 v hv]; omega
theorem off125_eq (v w : BitVec 32) (hv : v.toNat ≤ 61931) (hw : w.toNat ≤ 61931) (t : Fin (k0_t15_loop v w).trips) :
    k0_off125 v w t = ![v.toNat + 12 + t.val] := by
  have ht := lt_of_lt_of_eq t.isLt (trips15 v w hv hw)
  simp only [k0_off125, Scalar.indexCast]
  refine vec1 ?_
  rw [tn_iv, tn_add12 v hv]; omega
theorem off135_eq (v w : BitVec 32) (hv : v.toNat ≤ 61931) (hw : w.toNat ≤ 61931) (t : Fin (k0_t18_loop v w).trips) :
    k0_off135 v w t = ![(v.toNat + t.val) / 256 * 8 + (v.toNat + t.val) % 8, 0] := by
  have ht := lt_of_lt_of_eq t.isLt (trips18 v w hv hw)
  simp only [k0_off135, Scalar.indexCast]
  refine vec2 ?_
  simp only [tn_addi, tn_muli, tn_shrui8, tn_and7, tn_iv, BitVec.toNat_ofNat]; omega
theorem off136_eq (v w : BitVec 32) (hv : v.toNat ≤ 61931) (hw : w.toNat ≤ 61931) (t : Fin (k0_t18_loop v w).trips) :
    k0_off136 v w t = ![v.toNat + t.val] := by
  have ht := lt_of_lt_of_eq t.isLt (trips18 v w hv hw)
  simp only [k0_off136, Scalar.indexCast]
  refine vec1 ?_
  rw [tn_iv]; omega

theorem chk30 (i : grid0.Coords) (t : Fin k0_t14_loop.trips) (x v w : BitVec 32) (hx : x ≠ 0#32) (hv : v.toNat ≤ 61931)
    (hw : w.toNat ≤ 61931) : k0_chk30 i t x v w := by
  have ht := trip8_14 t
  have hl := log2_lt x hx
  refine ⟨?_, fun u a => ?_, fun u a => ?_, fun u a => ?_, ?_, fun u => ?_, fun u => ?_, fun u => ?_⟩
  · rw [loop15_eq]; exact ok1 (Scalar.addi v 12#32) w (by rw [tn_add12 v hv]; omega) (by omega)
  · rw [off124_eq v w hv hw]; fin_cases a
    · show (v.toNat + 12 + u.val) % 8192 + 1 ≤ 8224
      omega
    · show 0 + 128 ≤ 128
      omega
  · have hu := lt_of_lt_of_eq u.isLt (trips15 v w hv hw)
    rw [off125_eq v w hv hw]; fin_cases a
    show v.toNat + 12 + u.val + 1 ≤ 65024
    omega
  · rw [off127_eq i t x hx]; fin_cases a
    · show (i 0).val % 2 * 4352 + (32 * t.val + Nat.log2 x.toNat) * 17 + 16 ≤ 8704
      omega
    · show 0 + 128 ≤ 128
      omega
  · rw [loop16_eq]; exact ok1 w w (by omega) (by omega)
  all_goals
    have hu := lt_of_lt_of_eq u.isLt (trips16 v w hw)
    exact absurd hu (by omega)

theorem chk33 (v6 v30 v w : BitVec 32) (hv : v.toNat ≤ 61931) (hw : w.toNat ≤ 61931) : k0_chk33 v6 v30 v w := by
  refine ⟨fun _ => ?_, fun u _ a => ?_, fun u _ a => ?_, fun _ => ?_, fun u => ?_, fun u => ?_⟩
  · rw [loop18_eq]; exact ok1 v w (by omega) (by omega)
  · have hu := lt_of_lt_of_eq u.isLt (trips18 v w hv hw)
    rw [off135_eq v w hv hw]; fin_cases a
    · show (v.toNat + u.val) / 256 * 8 + (v.toNat + u.val) % 8 + 1 ≤ 2032
      omega
    · show 0 + 32 ≤ 32
      omega
  · have hu := lt_of_lt_of_eq u.isLt (trips18 v w hv hw)
    rw [off136_eq v w hv hw]; fin_cases a
    show v.toNat + u.val + 1 ≤ 65024
    omega
  · rw [loop19_eq]; exact ok1 w w (by omega) (by omega)
  all_goals
    have hu := lt_of_lt_of_eq u.isLt (trips19 v w hw)
    exact absurd hu (by omega)

end Cert.Proof.KI
-- ==== Proof.K.Checks.lean ====
/-
  Every assumption of `Kernel`'s body from two facts about its tables (its addresses are those of `KernelIdeal`'s body):
  each word of the row pointer is at most the number of entries, and each word of the address table is eight times
  a column.
-/
module

public import proofs.«01_k».proof.Proof.K.Common
public import proofs.«01_k».proof.Proof.KI.Checks

@[expose] public section

noncomputable section

namespace Cert.Proof.K

open Cert.Kernel Cert.Kernel.Gen
open Idealize.ShloMosaic Idealize.ShloMosaic.WordArith

variable {F : FTy → Type} [FloatOps F]

/-- What the body needs of its tables to be defined. -/
structure Good (X : Ins F) : Prop where
  le : ∀ i, (X.x1 i : BitVec 32).toNat ≤ 61931
  dvd : ∀ i, 8 ∣ (X.x3 i : BitVec 32).toNat
  lt : ∀ i, (X.x3 i : BitVec 32).toNat < 12288

theorem tn_ctlz (x : BitVec 32) (hx : x ≠ 0#32) : (Scalar.subi 31#32 (Scalar.ctlz x)).toNat = Nat.log2 x.toNat := KI.tn_ctlz x hx
theorem log2_lt (x : BitVec 32) (hx : x ≠ 0#32) : Nat.log2 x.toNat < 32 := KI.log2_lt x hx
theorem chk1 (i : grid0.Coords) (v : BitVec 32) (hv : v.toNat ≤ 61931) : k0_chk1 i v := KI.chk1 i v hv
theorem chk2 (i : grid0.Coords) (v : BitVec 32) (hv : v.toNat ≤ 61931) : k0_chk2 i v := KI.chk2 i v hv
theorem chk3 (i : grid0.Coords) (v : BitVec 32) (hv : v.toNat ≤ 61931) : k0_chk3 i v := KI.chk3 i v hv
theorem chk16 (i : grid0.Coords) (v : BitVec 32) (hv : v.toNat ≤ 61931) : k0_chk16 i v := KI.chk16 i v hv
theorem chk4 (i : grid0.Coords) (v : BitVec 32) (h8 : 8 ∣ v.toNat) (hl : v.toNat < 12288) : k0_chk4 i v := KI.chk4 i v h8 hl
theorem chk5 (i : grid0.Coords) (v : BitVec 32) (h8 : 8 ∣ v.toNat) (hl : v.toNat < 12288) : k0_chk5 i v := KI.chk5 i v h8 hl
theorem chk6 (i : grid0.Coords) (v : BitVec 32) (h8 : 8 ∣ v.toNat) (hl : v.toNat < 12288) : k0_chk6 i v := KI.chk6 i v h8 hl
theorem chk7 (i : grid0.Coords) (v : BitVec 32) (h8 : 8 ∣ v.toNat) (hl : v.toNat < 12288) : k0_chk7 i v := KI.chk7 i v h8 hl
theorem chk8 (i : grid0.Coords) (v : BitVec 32) (h8 : 8 ∣ v.toNat) (hl : v.toNat < 12288) : k0_chk8 i v := KI.chk8 i v h8 hl
theorem chk9 (i : grid0.Coords) (v : BitVec 32) (h8 : 8 ∣ v.toNat) (hl : v.toNat < 12288) : k0_chk9 i v := KI.chk9 i v h8 hl
theorem chk10 (i : grid0.Coords) (v : BitVec 32) (h8 : 8 ∣ v.toNat) (hl : v.toNat < 12288) : k0_chk10 i v := KI.chk10 i v h8 hl
theorem chk11 (i : grid0.Coords) (v : BitVec 32) (h8 : 8 ∣ v.toNat) (hl : v.toNat < 12288) : k0_chk11 i v := KI.chk11 i v h8 hl
theorem chk12 (i : grid0.Coords) (v : BitVec 32) (h8 : 8 ∣ v.toNat) (hl : v.toNat < 12288) : k0_chk12 i v := KI.chk12 i v h8 hl
theorem chk13 (i : grid0.Coords) (v : BitVec 32) (h8 : 8 ∣ v.toNat) (hl : v.toNat < 12288) : k0_chk13 i v := KI.chk13 i v h8 hl
theorem chk14 (i : grid0.Coords) (v : BitVec 32) (h8 : 8 ∣ v.toNat) (hl : v.toNat < 12288) : k0_chk14 i v := KI.chk14 i v h8 hl
theorem chk15 (i : grid0.Coords) (v : BitVec 32) (h8 : 8 ∣ v.toNat) (hl : v.toNat < 12288) : k0_chk15 i v := KI.chk15 i v h8 hl
theorem chk17 (i : grid0.Coords) (v : BitVec 32) (h8 : 8 ∣ v.toNat) (hl : v.toNat < 12288) : k0_chk17 i v := KI.chk17 i v h8 hl
theorem chk18 (i : grid0.Coords) (v : BitVec 32) (h8 : 8 ∣ v.toNat) (hl : v.toNat < 12288) : k0_chk18 i v := KI.chk18 i v h8 hl
theorem chk19 (i : grid0.Coords) (v : BitVec 32) (h8 : 8 ∣ v.toNat) (hl : v.toNat < 12288) : k0_chk19 i v := KI.chk19 i v h8 hl
theorem chk20 (i : grid0.Coords) (v : BitVec 32) (h8 : 8 ∣ v.toNat) (hl : v.toNat < 12288) : k0_chk20 i v := KI.chk20 i v h8 hl
theorem chk21 (i : grid0.Coords) (v : BitVec 32) (h8 : 8 ∣ v.toNat) (hl : v.toNat < 12288) : k0_chk21 i v := KI.chk21 i v h8 hl
theorem chk22 (i : grid0.Coords) (v : BitVec 32) (h8 : 8 ∣ v.toNat) (hl : v.toNat < 12288) : k0_chk22 i v := KI.chk22 i v h8 hl
theorem chk23 (i : grid0.Coords) (v : BitVec 32) (h8 : 8 ∣ v.toNat) (hl : v.toNat < 12288) : k0_chk23 i v := KI.chk23 i v h8 hl
theorem chk24 (i : grid0.Coords) (v : BitVec 32) (h8 : 8 ∣ v.toNat) (hl : v.toNat < 12288) : k0_chk24 i v := KI.chk24 i v h8 hl
theorem chk25 (i : grid0.Coords) (v : BitVec 32) (h8 : 8 ∣ v.toNat) (hl : v.toNat < 12288) : k0_chk25 i v := KI.chk25 i v h8 hl
theorem chk26 (i : grid0.Coords) (v : BitVec 32) (h8 : 8 ∣ v.toNat) (hl : v.toNat < 12288) : k0_chk26 i v := KI.chk26 i v h8 hl
theorem chk27 (i : grid0.Coords) (v : BitVec 32) (h8 : 8 ∣ v.toNat) (hl : v.toNat < 12288) : k0_chk27 i v := KI.chk27 i v h8 hl
theorem chk28 (i : grid0.Coords) (v : BitVec 32) (h8 : 8 ∣ v.toNat) (hl : v.toNat < 12288) : k0_chk28 i v := KI.chk28 i v h8 hl
theorem chk31 (v : BitVec 32) (h8 : 8 ∣ v.toNat) (hl : v.toNat < 12288) : k0_chk31 v := KI.chk31 v h8 hl
theorem chk32 (v : BitVec 32) (h8 : 8 ∣ v.toNat) (hl : v.toNat < 12288) : k0_chk32 v := KI.chk32 v h8 hl
theorem chk34 (v6 v30 : BitVec 32) (v : BitVec 32) (h8 : 8 ∣ v.toNat) (hl : v.toNat < 12288) : k0_chk34 v6 v30 v := KI.chk34 v6 v30 v h8 hl
theorem chk35 (v6 v30 : BitVec 32) (v : BitVec 32) (h8 : 8 ∣ v.toNat) (hl : v.toNat < 12288) : k0_chk35 v6 v30 v := KI.chk35 v6 v30 v h8 hl
theorem chk29 (i : grid0.Coords) (t : Fin k0_t14_loop.trips) (v : BitVec 32) (hv : v ≠ 0#32) : k0_chk29 i t v := KI.chk29 i t v hv
theorem chk30 (i : grid0.Coords) (t : Fin k0_t14_loop.trips) (x v w : BitVec 32) (hx : x ≠ 0#32) (hv : v.toNat ≤ 61931)
    (hw : w.toNat ≤ 61931) : k0_chk30 i t x v w := KI.chk30 i t x v w hx hv hw
theorem chk33 (v6 v30 v w : BitVec 32) (hv : v.toNat ≤ 61931) (hw : w.toNat ≤ 61931) : k0_chk33 v6 v30 v w := KI.chk33 v6 v30 v w hv hw

end Cert.Proof.K
-- ==== Proof.K.Body.lean ====
/-
  The body of `Kernel` is defined from any contents of its buffers whose tables are good: every load and store is
  inside its buffer, every assumption holds, the loop over overflowing columns ends.
-/
module

public import proofs.«01_k».proof.Proof.K.Checks
public import Mathlib.Data.Nat.Bitwise

@[expose] public section

noncomputable section

namespace Cert.Proof.K

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable {c : Dev nD} {ms : Mems} {X : Ins F} {bd : Option ℕ}

/-- The call of the loop over overflowing columns, its body entered at a smaller variant. -/
theorem W_call1 {args : (Λ₀ F).Args 1} {Q : BitVec 32 → St F → Prop} {s : St F} (k : ℕ) (hk : ∀ u ∈ bd, k < u)
    (h : W c ms X (some k) (defs₀ (F := F) .tc 1 args) Q s) : W c ms X bd (Prog.lift (.call (1 : (Λ₀ F).Label) args)) Q s := by
  unfold W at h ⊢
  refine BIBase.Entails.trans ?_ (wp_call 𝒱₀ (c : Thread nD τ) bd Set.univ k hk)
  refine h.trans (wp_mono _ _ _ fun a => ?_)
  rw [wp_ret]
  iintro H
  imodintro
  iexact H

/-- A test. -/
theorem W_dite {α : Type} {p : Prop} {d : Decidable p} {t : p → Prog (TpuEff nD τ sig (Elt F) (Λ₀ F) .tc) α}
    {e : ¬ p → Prog (TpuEff nD τ sig (Elt F) (Λ₀ F) .tc) α} {Q : α → St F → Prop} {s : St F}
    (ht : ∀ h, W c ms X bd (t h) Q s) (he : ∀ h, W c ms X bd (e h) Q s) : W c ms X bd (if h : p then t h else e h) Q s := by
  by_cases h : p
  · rw [dif_pos h]; exact ht h
  · rw [dif_neg h]; exact he h

/-- Nothing asked. -/
abbrev tt {α : Type} : α → St F → Prop := fun _ _ => True

theorem t1_body_w (hG : Good X) (i : grid0.Coords) (h : k0_cond1 i = 1#1) (t : Fin k0_t1_loop.trips) (a : PUnit) (s : St F) :
    W c ms X bd (k0_t1_body i ms.a1 ms.h1 ms.a2 ms.h2 ms.a3 ms.h3 ms.a4 ms.h4 ms.a5 ms.h5 ms.a6 ms.h6 ms.a7 ms.h7 ms.a8 ms.h8 ms.a9 ms.h9 ms.a10 ms.h10 ms.a11 ms.h11 ms.a12 ms.h12 ms.a13 ms.h13 h t a) tt s := by
  delta k0_t1_body
  refine W_bind ?_
  rw [k0_part1_eq_skeleton]
  delta k0_part1_skel
  refine W_bind (W_load4 ?_)
  refine W_bind (W_load4 ?_)
  refine W_bind (W_load10 ?_)
  refine W_bind (W_store10 fun _ _ => ?_)
  refine W_bind (W_load4 ?_)
  refine W_bind (W_load4 ?_)
  refine W_pure ?_
  refine W_bind ?_
  rw [k0_part2_eq_skeleton]
  delta k0_part2_skel
  refine W_bind (W_load10 ?_)
  refine W_bind (W_store10 fun _ _ => ?_)
  refine W_bind (W_load4 ?_)
  refine W_bind (W_load4 ?_)
  refine W_bind (W_load10 ?_)
  refine W_bind (W_store10 fun _ _ => ?_)
  refine W_bind (W_load4 ?_)
  refine W_bind (W_load4 ?_)
  refine W_pure ?_
  refine W_bind ?_
  rw [k0_part3_eq_skeleton]
  delta k0_part3_skel
  refine W_bind (W_load10 ?_)
  refine W_bind (W_store10 fun _ _ => ?_)
  refine W_bind (W_load4 ?_)
  refine W_bind (W_load4 ?_)
  refine W_bind (W_load10 ?_)
  refine W_bind (W_store10 fun _ _ => ?_)
  refine W_bind (W_load4 ?_)
  refine W_bind (W_load4 ?_)
  refine W_pure ?_
  refine W_bind ?_
  rw [k0_part4_eq_skeleton]
  delta k0_part4_skel
  refine W_bind (W_load10 ?_)
  refine W_bind (W_store10 fun _ _ => ?_)
  refine W_bind (W_load4 ?_)
  refine W_bind (W_load4 ?_)
  refine W_bind (W_load10 ?_)
  refine W_bind (W_store10 fun _ _ => ?_)
  refine W_bind (W_load4 ?_)
  refine W_bind (W_load10 ?_)
  refine W_pure ?_
  refine W_bind (W_store10 fun _ _ => ?_)
  refine W_pure ?_
  trivial

theorem t3_body_w (hG : Good X) (i : grid0.Coords) (v6 : BitVec 32) (hw : k0_chk1 i v6) (h : k0_cond1 i = 1#1) (t2 : Fin k0_t2_loop.trips) (v42 : BitVec 32) (t : Fin k0_t3_loop.trips) (a : PUnit) (s : St F) :
    W c ms X bd (k0_t3_body i ms.a1 ms.h1 ms.a2 ms.h2 ms.a3 ms.h3 ms.a4 ms.h4 ms.a5 ms.h5 ms.a6 ms.h6 ms.a7 ms.h7 ms.a8 ms.h8 ms.a9 ms.h9 ms.a10 ms.h10 ms.a11 ms.h11 ms.a12 ms.h12 ms.a13 ms.h13 v6 hw h t2 v42 t a) tt s := by
  delta k0_t3_body
  refine W_bind ?_
  rw [k0_part5_eq_skeleton]
  delta k0_part5_skel
  refine W_bind (W_load5 ?_)
  refine W_bind (W_load13 ?_)
  refine W_bind (W_store13 fun _ _ => ?_)
  refine W_bind (W_load13 ?_)
  refine W_bind (W_store13 fun _ _ => ?_)
  refine W_bind (W_load13 ?_)
  refine W_bind (W_store13 fun _ _ => ?_)
  refine W_bind (W_load13 ?_)
  refine W_bind (W_store13 fun _ _ => ?_)
  refine W_pure ?_
  refine W_bind ?_
  rw [k0_part6_eq_skeleton]
  delta k0_part6_skel
  refine W_bind (W_load13 ?_)
  refine W_bind (W_store13 fun _ _ => ?_)
  refine W_bind (W_load13 ?_)
  refine W_bind (W_store13 fun _ _ => ?_)
  refine W_bind (W_load13 ?_)
  refine W_bind (W_store13 fun _ _ => ?_)
  refine W_bind (W_load13 ?_)
  refine W_bind (W_store13 fun _ _ => ?_)
  refine W_bind (W_load13 ?_)
  refine W_bind (W_store13 fun _ _ => ?_)
  refine W_pure ?_
  refine W_bind ?_
  rw [k0_part7_eq_skeleton]
  delta k0_part7_skel
  refine W_bind (W_load13 ?_)
  refine W_bind (W_store13 fun _ _ => ?_)
  refine W_bind (W_load13 ?_)
  refine W_bind (W_store13 fun _ _ => ?_)
  refine W_bind (W_load13 ?_)
  refine W_bind (W_store13 fun _ _ => ?_)
  refine W_bind (W_load13 ?_)
  refine W_bind (W_store13 fun _ _ => ?_)
  refine W_bind (W_load13 ?_)
  refine W_bind (W_store13 fun _ _ => ?_)
  refine W_bind (W_load13 ?_)
  refine W_pure ?_
  refine W_bind ?_
  rw [k0_part8_eq_skeleton]
  delta k0_part8_skel
  refine W_bind (W_store13 fun _ _ => ?_)
  refine W_bind (W_load13 ?_)
  refine W_bind (W_store13 fun _ _ => ?_)
  refine W_bind (W_load13 ?_)
  refine W_bind (W_store13 fun _ _ => ?_)
  refine W_bind (W_load13 ?_)
  refine W_bind (W_store13 fun _ _ => ?_)
  refine W_bind (W_load13 ?_)
  refine W_bind (W_store13 fun _ _ => ?_)
  refine W_bind (W_load13 ?_)
  refine W_bind (W_store13 fun _ _ => ?_)
  refine W_pure ?_
  refine W_bind ?_
  rw [k0_part9_eq_skeleton]
  delta k0_part9_skel
  refine W_bind (W_load13 ?_)
  refine W_bind (W_store13 fun _ _ => ?_)
  refine W_bind (W_load13 ?_)
  refine W_bind (W_store13 fun _ _ => ?_)
  refine W_bind (W_load13 ?_)
  refine W_bind (W_store13 fun _ _ => ?_)
  refine W_bind (W_load13 ?_)
  refine W_bind (W_store13 fun _ _ => ?_)
  refine W_bind (W_load13 ?_)
  refine W_bind (W_store13 fun _ _ => ?_)
  refine W_bind (W_load13 ?_)
  refine W_pure ?_
  refine W_bind ?_
  rw [k0_part10_eq_skeleton]
  delta k0_part10_skel
  refine W_bind (W_store13 fun _ _ => ?_)
  refine W_bind (W_load13 ?_)
  refine W_bind (W_store13 fun _ _ => ?_)
  refine W_bind (W_load13 ?_)
  refine W_bind (W_store13 fun _ _ => ?_)
  refine W_bind (W_load13 ?_)
  refine W_bind (W_store13 fun _ _ => ?_)
  refine W_bind (W_load13 ?_)
  refine W_bind (W_store13 fun _ _ => ?_)
  refine W_bind (W_load13 ?_)
  refine W_bind (W_store13 fun _ _ => ?_)
  refine W_pure ?_
  refine W_bind (W_load13 ?_)
  refine W_bind (W_store13 fun _ _ => ?_)
  refine W_bind (W_load13 ?_)
  refine W_bind (W_store13 fun _ _ => ?_)
  refine W_bind (W_load13 ?_)
  refine W_bind (W_store13 fun _ _ => ?_)
  refine W_pure ?_
  trivial

theorem t5_body_w (hG : Good X) (i : grid0.Coords) (v10 : BitVec 32) (hw : k0_chk2 i v10) (h : k0_cond2 i = 1#1) (t4 : Fin k0_t4_loop.trips) (v41 : BitVec 32) (t : Fin k0_t5_loop.trips) (a : PUnit) (s : St F) :
    W c ms X bd (k0_t5_body i ms.a1 ms.h1 ms.a2 ms.h2 ms.a3 ms.h3 ms.a4 ms.h4 ms.a5 ms.h5 ms.a6 ms.h6 ms.a7 ms.h7 ms.a8 ms.h8 ms.a9 ms.h9 ms.a10 ms.h10 ms.a11 ms.h11 ms.a12 ms.h12 ms.a13 ms.h13 v10 hw h t4 v41 t a) tt s := by
  delta k0_t5_body
  refine W_bind ?_
  rw [k0_part11_eq_skeleton]
  delta k0_part11_skel
  refine W_bind (W_load5 ?_)
  refine W_bind (W_load13 ?_)
  refine W_bind (W_store13 fun _ _ => ?_)
  refine W_bind (W_load13 ?_)
  refine W_bind (W_store13 fun _ _ => ?_)
  refine W_bind (W_load13 ?_)
  refine W_bind (W_store13 fun _ _ => ?_)
  refine W_bind (W_load13 ?_)
  refine W_bind (W_store13 fun _ _ => ?_)
  refine W_pure ?_
  refine W_bind ?_
  rw [k0_part12_eq_skeleton]
  delta k0_part12_skel
  refine W_bind (W_load13 ?_)
  refine W_bind (W_store13 fun _ _ => ?_)
  refine W_bind (W_load13 ?_)
  refine W_bind (W_store13 fun _ _ => ?_)
  refine W_bind (W_load13 ?_)
  refine W_bind (W_store13 fun _ _ => ?_)
  refine W_bind (W_load13 ?_)
  refine W_bind (W_store13 fun _ _ => ?_)
  refine W_bind (W_load13 ?_)
  refine W_bind (W_store13 fun _ _ => ?_)
  refine W_pure ?_
  refine W_bind ?_
  rw [k0_part13_eq_skeleton]
  delta k0_part13_skel
  refine W_bind (W_load13 ?_)
  refine W_bind (W_store13 fun _ _ => ?_)
  refine W_bind (W_load13 ?_)
  refine W_bind (W_store13 fun _ _ => ?_)
  refine W_bind (W_load13 ?_)
  refine W_bind (W_store13 fun _ _ => ?_)
  refine W_bind (W_load13 ?_)
  refine W_bind (W_store13 fun _ _ => ?_)
  refine W_bind (W_load13 ?_)
  refine W_bind (W_store13 fun _ _ => ?_)
  refine W_bind (W_load13 ?_)
  refine W_pure ?_
  refine W_bind ?_
  rw [k0_part14_eq_skeleton]
  delta k0_part14_skel
  refine W_bind (W_store13 fun _ _ => ?_)
  refine W_bind (W_load13 ?_)
  refine W_bind (W_store13 fun _ _ => ?_)
  refine W_bind (W_load13 ?_)
  refine W_bind (W_store13 fun _ _ => ?_)
  refine W_bind (W_load13 ?_)
  refine W_bind (W_store13 fun _ _ => ?_)
  refine W_bind (W_load13 ?_)
  refine W_bind (W_store13 fun _ _ => ?_)
  refine W_bind (W_load13 ?_)
  refine W_bind (W_store13 fun _ _ => ?_)
  refine W_pure ?_
  refine W_bind ?_
  rw [k0_part15_eq_skeleton]
  delta k0_part15_skel
  refine W_bind (W_load13 ?_)
  refine W_bind (W_store13 fun _ _ => ?_)
  refine W_bind (W_load13 ?_)
  refine W_bind (W_store13 fun _ _ => ?_)
  refine W_bind (W_load13 ?_)
  refine W_bind (W_store13 fun _ _ => ?_)
  refine W_bind (W_load13 ?_)
  refine W_bind (W_store13 fun _ _ => ?_)
  refine W_bind (W_load13 ?_)
  refine W_bind (W_store13 fun _ _ => ?_)
  refine W_bind (W_load13 ?_)
  refine W_pure ?_
  refine W_bind ?_
  rw [k0_part16_eq_skeleton]
  delta k0_part16_skel
  refine W_bind (W_store13 fun _ _ => ?_)
  refine W_bind (W_load13 ?_)
  refine W_bind (W_store13 fun _ _ => ?_)
  refine W_bind (W_load13 ?_)
  refine W_bind (W_store13 fun _ _ => ?_)
  refine W_bind (W_load13 ?_)
  refine W_bind (W_store13 fun _ _ => ?_)
  refine W_bind (W_load13 ?_)
  refine W_bind (W_store13 fun _ _ => ?_)
  refine W_bind (W_load13 ?_)
  refine W_bind (W_store13 fun _ _ => ?_)
  refine W_pure ?_
  refine W_bind (W_load13 ?_)
  refine W_bind (W_store13 fun _ _ => ?_)
  refine W_bind (W_load13 ?_)
  refine W_bind (W_store13 fun _ _ => ?_)
  refine W_bind (W_load13 ?_)
  refine W_bind (W_store13 fun _ _ => ?_)
  refine W_pure ?_
  trivial

theorem t6_body_w (hG : Good X) (i : grid0.Coords) (h : k0_cond2 i = 1#1) (t4 : Fin k0_t4_loop.trips) (v44 v46 : BitVec 32) (v47 : Vec F S8x128 .i32) (t : Fin k0_t6_loop.trips) (a : PUnit) (s : St F) :
    W c ms X bd (k0_t6_body i ms.a1 ms.h1 ms.a2 ms.h2 ms.a3 ms.h3 ms.a4 ms.h4 ms.a5 ms.h5 ms.a6 ms.h6 ms.a7 ms.h7 ms.a8 ms.h8 ms.a9 ms.h9 ms.a10 ms.h10 ms.a11 ms.h11 ms.a12 ms.h12 ms.a13 ms.h13 h t4 v44 v46 v47 t a) tt s := by
  delta k0_t6_body
  refine W_bind ?_
  rw [k0_part17_eq_skeleton]
  delta k0_part17_skel
  refine W_bind (W_load6 ?_)
  refine W_bind (W_load11 ?_)
  refine W_bind (W_store11 fun _ _ => ?_)
  refine W_pure ?_
  refine W_bind ?_
  rw [k0_part18_eq_skeleton]
  delta k0_part18_skel
  refine W_bind (W_load11 ?_)
  refine W_bind (W_store11 fun _ _ => ?_)
  refine W_pure ?_
  refine W_bind ?_
  rw [k0_part19_eq_skeleton]
  delta k0_part19_skel
  refine W_bind (W_load11 ?_)
  refine W_bind (W_store11 fun _ _ => ?_)
  refine W_pure ?_
  refine W_bind (W_load11 ?_)
  refine W_bind (W_store11 fun _ _ => ?_)
  refine W_pure ?_
  trivial

theorem t7_body_w (hG : Good X) (i : grid0.Coords) (h : k0_cond2 i = 1#1) (t4 : Fin k0_t4_loop.trips) (v44 v46 : BitVec 32) (v47 : Vec F S8x128 .i32) (t : Fin k0_t7_loop.trips) (a : PUnit) (s : St F) :
    W c ms X bd (k0_t7_body i ms.a1 ms.h1 ms.a2 ms.h2 ms.a3 ms.h3 ms.a4 ms.h4 ms.a5 ms.h5 ms.a6 ms.h6 ms.a7 ms.h7 ms.a8 ms.h8 ms.a9 ms.h9 ms.a10 ms.h10 ms.a11 ms.h11 ms.a12 ms.h12 ms.a13 ms.h13 h t4 v44 v46 v47 t a) tt s := by
  delta k0_t7_body
  refine W_bind ?_
  rw [k0_part20_eq_skeleton]
  delta k0_part20_skel
  refine W_bind (W_load6 ?_)
  refine W_bind (W_load11 ?_)
  refine W_bind (W_store11 fun _ _ => ?_)
  refine W_pure ?_
  refine W_bind ?_
  rw [k0_part21_eq_skeleton]
  delta k0_part21_skel
  refine W_bind (W_load11 ?_)
  refine W_bind (W_store11 fun _ _ => ?_)
  refine W_pure ?_
  refine W_bind ?_
  rw [k0_part22_eq_skeleton]
  delta k0_part22_skel
  refine W_bind (W_load11 ?_)
  refine W_bind (W_store11 fun _ _ => ?_)
  refine W_pure ?_
  refine W_bind (W_load11 ?_)
  refine W_bind (W_store11 fun _ _ => ?_)
  refine W_pure ?_
  trivial

theorem t8_body_w (hG : Good X) (i : grid0.Coords) (h : k0_cond2 i = 1#1) (t4 : Fin k0_t4_loop.trips) (v55 : BitVec 32) (t : Fin k0_t8_loop.trips) (a : BitVec 32) (hs : a.toNat ≤ 61931) (s : St F) :
    W c ms X bd (k0_t8_body i ms.a1 ms.h1 ms.a2 ms.h2 ms.a3 ms.h3 ms.a4 ms.h4 ms.a5 ms.h5 ms.a6 ms.h6 ms.a7 ms.h7 ms.a8 ms.h8 ms.a9 ms.h9 ms.a10 ms.h10 ms.a11 ms.h11 ms.a12 ms.h12 ms.a13 ms.h13 h t4 v55 t a) (fun b _ => (b : BitVec 32).toNat ≤ 61931) s := by
  delta k0_t8_body
  refine W_bind ?_
  rw [k0_part23_eq_skeleton]
  delta k0_part23_skel
  refine W_bind (W_assume (chk3 i _ hs) ?_)
  refine W_bind (W_smem1 ?_)
  refine W_bind (W_smem3s ?_)
  refine W_bind (W_assume (chk4 i _ (hG.dvd _) (hG.lt _)) ?_)
  refine W_bind (W_load13 ?_)
  refine W_bind (W_load10 ?_)
  refine W_bind (W_smem3s ?_)
  refine W_bind (W_assume (chk5 i _ (hG.dvd _) (hG.lt _)) ?_)
  refine W_bind (W_load13 ?_)
  refine W_bind (W_load10 ?_)
  refine W_pure ?_
  refine W_bind ?_
  rw [k0_part24_eq_skeleton]
  delta k0_part24_skel
  refine W_bind (W_smem3s ?_)
  refine W_bind (W_assume (chk6 i _ (hG.dvd _) (hG.lt _)) ?_)
  refine W_bind (W_load13 ?_)
  refine W_bind (W_load10 ?_)
  refine W_bind (W_smem3s ?_)
  refine W_bind (W_assume (chk7 i _ (hG.dvd _) (hG.lt _)) ?_)
  refine W_bind (W_load13 ?_)
  refine W_bind (W_load10 ?_)
  refine W_bind (W_smem3s ?_)
  refine W_bind (W_assume (chk8 i _ (hG.dvd _) (hG.lt _)) ?_)
  refine W_pure ?_
  refine W_bind ?_
  rw [k0_part25_eq_skeleton]
  delta k0_part25_skel
  refine W_bind (W_load13 ?_)
  refine W_bind (W_load10 ?_)
  refine W_bind (W_smem3s ?_)
  refine W_bind (W_assume (chk9 i _ (hG.dvd _) (hG.lt _)) ?_)
  refine W_bind (W_load13 ?_)
  refine W_bind (W_load10 ?_)
  refine W_bind (W_smem3s ?_)
  refine W_bind (W_assume (chk10 i _ (hG.dvd _) (hG.lt _)) ?_)
  refine W_bind (W_load13 ?_)
  refine W_pure ?_
  refine W_bind ?_
  rw [k0_part26_eq_skeleton]
  delta k0_part26_skel
  refine W_bind (W_load10 ?_)
  refine W_bind (W_smem3s ?_)
  refine W_bind (W_assume (chk11 i _ (hG.dvd _) (hG.lt _)) ?_)
  refine W_bind (W_load13 ?_)
  refine W_bind (W_load10 ?_)
  refine W_bind (W_smem3s ?_)
  refine W_bind (W_assume (chk12 i _ (hG.dvd _) (hG.lt _)) ?_)
  refine W_bind (W_load13 ?_)
  refine W_bind (W_load10 ?_)
  refine W_pure ?_
  refine W_bind ?_
  rw [k0_part27_eq_skeleton]
  delta k0_part27_skel
  refine W_bind (W_smem3s ?_)
  refine W_bind (W_assume (chk13 i _ (hG.dvd _) (hG.lt _)) ?_)
  refine W_bind (W_load13 ?_)
  refine W_bind (W_load10 ?_)
  refine W_bind (W_smem3s ?_)
  refine W_bind (W_assume (chk14 i _ (hG.dvd _) (hG.lt _)) ?_)
  refine W_bind (W_load13 ?_)
  refine W_bind (W_load10 ?_)
  refine W_bind (W_smem3s ?_)
  refine W_pure ?_
  refine W_bind (W_assume (chk15 i _ (hG.dvd _) (hG.lt _)) ?_)
  refine W_bind (W_load13 ?_)
  refine W_bind (W_load10 ?_)
  refine W_bind (W_load12 ?_)
  refine W_bind (W_store12 fun _ _ => ?_)
  refine W_pure ?_
  exact hG.le _

theorem t10_body_w (hG : Good X) (i : grid0.Coords) (v10 : BitVec 32) (hw : k0_chk2 i v10) (v11 v12 v14 v17 : BitVec 32) (h : k0_cond3 i = 1#1) (t9 : Fin k0_t9_loop.trips) (arg14 v105 : BitVec 32) (v110 : FVec F S128x128 .f32) (v143 : BitVec 32) (t : Fin k0_t10_loop.trips) (a : PUnit) (s : St F) :
    W c ms X bd (k0_t10_body i ms.a1 ms.h1 ms.a2 ms.h2 ms.a3 ms.h3 ms.a4 ms.h4 ms.a5 ms.h5 ms.a6 ms.h6 ms.a7 ms.h7 ms.a8 ms.h8 ms.a9 ms.h9 ms.a10 ms.h10 ms.a11 ms.h11 ms.a12 ms.h12 ms.a13 ms.h13 v10 hw v11 v12 v14 v17 h t9 arg14 v105 v110 v143 t a) tt s := by
  delta k0_t10_body
  refine W_bind ?_
  rw [k0_part28_eq_skeleton]
  delta k0_part28_skel
  refine W_bind (W_load5 ?_)
  refine W_bind (W_load13 ?_)
  refine W_bind (W_store13 fun _ _ => ?_)
  refine W_bind (W_load13 ?_)
  refine W_bind (W_store13 fun _ _ => ?_)
  refine W_bind (W_load13 ?_)
  refine W_bind (W_store13 fun _ _ => ?_)
  refine W_bind (W_load13 ?_)
  refine W_bind (W_store13 fun _ _ => ?_)
  refine W_pure ?_
  refine W_bind ?_
  rw [k0_part29_eq_skeleton]
  delta k0_part29_skel
  refine W_bind (W_load13 ?_)
  refine W_bind (W_store13 fun _ _ => ?_)
  refine W_bind (W_load13 ?_)
  refine W_bind (W_store13 fun _ _ => ?_)
  refine W_bind (W_load13 ?_)
  refine W_bind (W_store13 fun _ _ => ?_)
  refine W_bind (W_load13 ?_)
  refine W_bind (W_store13 fun _ _ => ?_)
  refine W_bind (W_load13 ?_)
  refine W_bind (W_store13 fun _ _ => ?_)
  refine W_pure ?_
  refine W_bind ?_
  rw [k0_part30_eq_skeleton]
  delta k0_part30_skel
  refine W_bind (W_load13 ?_)
  refine W_bind (W_store13 fun _ _ => ?_)
  refine W_bind (W_load13 ?_)
  refine W_bind (W_store13 fun _ _ => ?_)
  refine W_bind (W_load13 ?_)
  refine W_bind (W_store13 fun _ _ => ?_)
  refine W_bind (W_load13 ?_)
  refine W_bind (W_store13 fun _ _ => ?_)
  refine W_bind (W_load13 ?_)
  refine W_bind (W_store13 fun _ _ => ?_)
  refine W_bind (W_load13 ?_)
  refine W_pure ?_
  refine W_bind ?_
  rw [k0_part31_eq_skeleton]
  delta k0_part31_skel
  refine W_bind (W_store13 fun _ _ => ?_)
  refine W_bind (W_load13 ?_)
  refine W_bind (W_store13 fun _ _ => ?_)
  refine W_bind (W_load13 ?_)
  refine W_bind (W_store13 fun _ _ => ?_)
  refine W_bind (W_load13 ?_)
  refine W_bind (W_store13 fun _ _ => ?_)
  refine W_bind (W_load13 ?_)
  refine W_bind (W_store13 fun _ _ => ?_)
  refine W_bind (W_load13 ?_)
  refine W_bind (W_store13 fun _ _ => ?_)
  refine W_pure ?_
  refine W_bind ?_
  rw [k0_part32_eq_skeleton]
  delta k0_part32_skel
  refine W_bind (W_load13 ?_)
  refine W_bind (W_store13 fun _ _ => ?_)
  refine W_bind (W_load13 ?_)
  refine W_bind (W_store13 fun _ _ => ?_)
  refine W_bind (W_load13 ?_)
  refine W_bind (W_store13 fun _ _ => ?_)
  refine W_bind (W_load13 ?_)
  refine W_bind (W_store13 fun _ _ => ?_)
  refine W_bind (W_load13 ?_)
  refine W_bind (W_store13 fun _ _ => ?_)
  refine W_bind (W_load13 ?_)
  refine W_pure ?_
  refine W_bind ?_
  rw [k0_part33_eq_skeleton]
  delta k0_part33_skel
  refine W_bind (W_store13 fun _ _ => ?_)
  refine W_bind (W_load13 ?_)
  refine W_bind (W_store13 fun _ _ => ?_)
  refine W_bind (W_load13 ?_)
  refine W_bind (W_store13 fun _ _ => ?_)
  refine W_bind (W_load13 ?_)
  refine W_bind (W_store13 fun _ _ => ?_)
  refine W_bind (W_load13 ?_)
  refine W_bind (W_store13 fun _ _ => ?_)
  refine W_bind (W_load13 ?_)
  refine W_bind (W_store13 fun _ _ => ?_)
  refine W_pure ?_
  refine W_bind (W_load13 ?_)
  refine W_bind (W_store13 fun _ _ => ?_)
  refine W_bind (W_load13 ?_)
  refine W_bind (W_store13 fun _ _ => ?_)
  refine W_bind (W_load13 ?_)
  refine W_bind (W_store13 fun _ _ => ?_)
  refine W_pure ?_
  trivial

theorem t11_body_w (hG : Good X) (i : grid0.Coords) (h : k0_cond3 i = 1#1) (t9 : Fin k0_t9_loop.trips) (v146 v148 : BitVec 32) (v150 : IVec S8x128 32) (t : Fin k0_t11_loop.trips) (a : PUnit) (s : St F) :
    W c ms X bd (k0_t11_body i ms.a1 ms.h1 ms.a2 ms.h2 ms.a3 ms.h3 ms.a4 ms.h4 ms.a5 ms.h5 ms.a6 ms.h6 ms.a7 ms.h7 ms.a8 ms.h8 ms.a9 ms.h9 ms.a10 ms.h10 ms.a11 ms.h11 ms.a12 ms.h12 ms.a13 ms.h13 h t9 v146 v148 v150 t a) tt s := by
  delta k0_t11_body
  refine W_bind ?_
  rw [k0_part34_eq_skeleton]
  delta k0_part34_skel
  refine W_bind (W_load6 ?_)
  refine W_bind (W_load11 ?_)
  refine W_bind (W_store11 fun _ _ => ?_)
  refine W_pure ?_
  refine W_bind ?_
  rw [k0_part35_eq_skeleton]
  delta k0_part35_skel
  refine W_bind (W_load11 ?_)
  refine W_bind (W_store11 fun _ _ => ?_)
  refine W_pure ?_
  refine W_bind ?_
  rw [k0_part36_eq_skeleton]
  delta k0_part36_skel
  refine W_bind (W_load11 ?_)
  refine W_bind (W_store11 fun _ _ => ?_)
  refine W_pure ?_
  refine W_bind (W_load11 ?_)
  refine W_bind (W_store11 fun _ _ => ?_)
  refine W_pure ?_
  trivial

theorem t12_body_w (hG : Good X) (i : grid0.Coords) (h : k0_cond3 i = 1#1) (t9 : Fin k0_t9_loop.trips) (v146 v148 : BitVec 32) (v150 : IVec S8x128 32) (t : Fin k0_t12_loop.trips) (a : PUnit) (s : St F) :
    W c ms X bd (k0_t12_body i ms.a1 ms.h1 ms.a2 ms.h2 ms.a3 ms.h3 ms.a4 ms.h4 ms.a5 ms.h5 ms.a6 ms.h6 ms.a7 ms.h7 ms.a8 ms.h8 ms.a9 ms.h9 ms.a10 ms.h10 ms.a11 ms.h11 ms.a12 ms.h12 ms.a13 ms.h13 h t9 v146 v148 v150 t a) tt s := by
  delta k0_t12_body
  refine W_bind ?_
  rw [k0_part37_eq_skeleton]
  delta k0_part37_skel
  refine W_bind (W_load6 ?_)
  refine W_bind (W_load11 ?_)
  refine W_bind (W_store11 fun _ _ => ?_)
  refine W_pure ?_
  refine W_bind ?_
  rw [k0_part38_eq_skeleton]
  delta k0_part38_skel
  refine W_bind (W_load11 ?_)
  refine W_bind (W_store11 fun _ _ => ?_)
  refine W_pure ?_
  refine W_bind ?_
  rw [k0_part39_eq_skeleton]
  delta k0_part39_skel
  refine W_bind (W_load11 ?_)
  refine W_bind (W_store11 fun _ _ => ?_)
  refine W_pure ?_
  refine W_bind (W_load11 ?_)
  refine W_bind (W_store11 fun _ _ => ?_)
  refine W_pure ?_
  trivial

theorem t13_body_w (hG : Good X) (i : grid0.Coords) (h : k0_cond3 i = 1#1) (t9 : Fin k0_t9_loop.trips) (v157 : BitVec 32) (t : Fin k0_t13_loop.trips) (a : BitVec 32) (hs : a.toNat ≤ 61931) (s : St F) :
    W c ms X bd (k0_t13_body i ms.a1 ms.h1 ms.a2 ms.h2 ms.a3 ms.h3 ms.a4 ms.h4 ms.a5 ms.h5 ms.a6 ms.h6 ms.a7 ms.h7 ms.a8 ms.h8 ms.a9 ms.h9 ms.a10 ms.h10 ms.a11 ms.h11 ms.a12 ms.h12 ms.a13 ms.h13 h t9 v157 t a) (fun b _ => (b : BitVec 32).toNat ≤ 61931) s := by
  delta k0_t13_body
  refine W_bind ?_
  rw [k0_part40_eq_skeleton]
  delta k0_part40_skel
  refine W_bind (W_assume (chk16 i _ hs) ?_)
  refine W_bind (W_smem1 ?_)
  refine W_bind (W_smem3s ?_)
  refine W_bind (W_assume (chk17 i _ (hG.dvd _) (hG.lt _)) ?_)
  refine W_bind (W_load13 ?_)
  refine W_bind (W_load10 ?_)
  refine W_bind (W_smem3s ?_)
  refine W_bind (W_assume (chk18 i _ (hG.dvd _) (hG.lt _)) ?_)
  refine W_bind (W_load13 ?_)
  refine W_bind (W_load10 ?_)
  refine W_pure ?_
  refine W_bind ?_
  rw [k0_part41_eq_skeleton]
  delta k0_part41_skel
  refine W_bind (W_smem3s ?_)
  refine W_bind (W_assume (chk19 i _ (hG.dvd _) (hG.lt _)) ?_)
  refine W_bind (W_load13 ?_)
  refine W_bind (W_load10 ?_)
  refine W_bind (W_smem3s ?_)
  refine W_bind (W_assume (chk20 i _ (hG.dvd _) (hG.lt _)) ?_)
  refine W_bind (W_load13 ?_)
  refine W_bind (W_load10 ?_)
  refine W_bind (W_smem3s ?_)
  refine W_bind (W_assume (chk21 i _ (hG.dvd _) (hG.lt _)) ?_)
  refine W_pure ?_
  refine W_bind ?_
  rw [k0_part42_eq_skeleton]
  delta k0_part42_skel
  refine W_bind (W_load13 ?_)
  refine W_bind (W_load10 ?_)
  refine W_bind (W_smem3s ?_)
  refine W_bind (W_assume (chk22 i _ (hG.dvd _) (hG.lt _)) ?_)
  refine W_bind (W_load13 ?_)
  refine W_bind (W_load10 ?_)
  refine W_bind (W_smem3s ?_)
  refine W_bind (W_assume (chk23 i _ (hG.dvd _) (hG.lt _)) ?_)
  refine W_bind (W_load13 ?_)
  refine W_pure ?_
  refine W_bind ?_
  rw [k0_part43_eq_skeleton]
  delta k0_part43_skel
  refine W_bind (W_load10 ?_)
  refine W_bind (W_smem3s ?_)
  refine W_bind (W_assume (chk24 i _ (hG.dvd _) (hG.lt _)) ?_)
  refine W_bind (W_load13 ?_)
  refine W_bind (W_load10 ?_)
  refine W_bind (W_smem3s ?_)
  refine W_bind (W_assume (chk25 i _ (hG.dvd _) (hG.lt _)) ?_)
  refine W_bind (W_load13 ?_)
  refine W_bind (W_load10 ?_)
  refine W_pure ?_
  refine W_bind ?_
  rw [k0_part44_eq_skeleton]
  delta k0_part44_skel
  refine W_bind (W_smem3s ?_)
  refine W_bind (W_assume (chk26 i _ (hG.dvd _) (hG.lt _)) ?_)
  refine W_bind (W_load13 ?_)
  refine W_bind (W_load10 ?_)
  refine W_bind (W_smem3s ?_)
  refine W_bind (W_assume (chk27 i _ (hG.dvd _) (hG.lt _)) ?_)
  refine W_bind (W_load13 ?_)
  refine W_bind (W_load10 ?_)
  refine W_bind (W_smem3s ?_)
  refine W_pure ?_
  refine W_bind (W_assume (chk28 i _ (hG.dvd _) (hG.lt _)) ?_)
  refine W_bind (W_load13 ?_)
  refine W_bind (W_load10 ?_)
  refine W_bind (W_load12 ?_)
  refine W_bind (W_store12 fun _ _ => ?_)
  refine W_pure ?_
  exact hG.le _

theorem t18_body_w (hG : Good X) (i : grid0.Coords) (v6 v30 : BitVec 32) (h : k0_cond4 v6 v30 = 1#1) (t17 : Fin k0_t17_loop.trips) (v51 v56 : BitVec 32) (hw : k0_chk33 v6 v30 v51 v56) (t : Fin (k0_t18_loop v51 v56).trips) (a : PUnit) (s : St F) :
    W c ms X bd (k0_t18_body i ms.a1 ms.h1 ms.a2 ms.h2 ms.a3 ms.h3 ms.a4 ms.h4 ms.a5 ms.h5 ms.a6 ms.h6 ms.a7 ms.h7 ms.a8 ms.h8 ms.a9 ms.h9 ms.a10 ms.h10 ms.a11 ms.h11 ms.a12 ms.h12 ms.a13 ms.h13 v6 v30 h t17 v51 v56 hw t a) tt s := by
  delta k0_t18_body
  refine W_bind (W_load5 ?_)
  refine W_bind (W_smem3 ?_)
  refine W_bind (W_assume (chk34 _ _ _ (hG.dvd _) (hG.lt _)) ?_)
  refine W_bind (W_load10 ?_)
  refine W_bind (W_load12 ?_)
  refine W_bind (W_load12 ?_)
  refine W_bind (W_store12 fun _ _ => ?_)
  refine W_pure ?_
  trivial

theorem t19_body_w (hG : Good X) (i : grid0.Coords) (v6 v30 : BitVec 32) (h : k0_cond4 v6 v30 = 1#1) (t17 : Fin k0_t17_loop.trips) (v51 v56 : BitVec 32) (hw : k0_chk33 v6 v30 v51 v56) (t : Fin (k0_t19_loop v51 v56).trips) (a : PUnit) (s : St F) :
    W c ms X bd (k0_t19_body i ms.a1 ms.h1 ms.a2 ms.h2 ms.a3 ms.h3 ms.a4 ms.h4 ms.a5 ms.h5 ms.a6 ms.h6 ms.a7 ms.h7 ms.a8 ms.h8 ms.a9 ms.h9 ms.a10 ms.h10 ms.a11 ms.h11 ms.a12 ms.h12 ms.a13 ms.h13 v6 v30 h t17 v51 v56 hw t a) tt s := by
  delta k0_t19_body
  refine W_bind (W_load5 ?_)
  refine W_bind (W_smem3 ?_)
  refine W_bind (W_assume (chk35 _ _ _ (hG.dvd _) (hG.lt _)) ?_)
  refine W_bind (W_load10 ?_)
  refine W_bind (W_load12 ?_)
  refine W_bind (W_load12 ?_)
  refine W_bind (W_store12 fun _ _ => ?_)
  refine W_pure ?_
  trivial

theorem t2_body_w (hG : Good X) (i : grid0.Coords) (v6 : BitVec 32) (hw : k0_chk1 i v6) (v7 : BitVec 32) (h : k0_cond1 i = 1#1) (t : Fin k0_t2_loop.trips) (a : PUnit) (s : St F) :
    W c ms X bd (k0_t2_body i ms.a1 ms.h1 ms.a2 ms.h2 ms.a3 ms.h3 ms.a4 ms.h4 ms.a5 ms.h5 ms.a6 ms.h6 ms.a7 ms.h7 ms.a8 ms.h8 ms.a9 ms.h9 ms.a10 ms.h10 ms.a11 ms.h11 ms.a12 ms.h12 ms.a13 ms.h13 v6 hw v7 h t a) tt s := by
  delta k0_t2_body
  refine W_bind (W_for (fun _ _ _ => True) trivial ?_ ?_)
  · intro k _ s' _; exact t3_body_w hG i v6 hw h t _ k _ s'
  intro _ s _
  refine W_pure ?_
  trivial

theorem t4_body_w (hG : Good X) (i : grid0.Coords) (v0 v10 : BitVec 32) (hw : k0_chk2 i v10) (v11 v12 : BitVec 32) (h : k0_cond2 i = 1#1) (t : Fin k0_t4_loop.trips) (a : PUnit) (s : St F) :
    W c ms X bd (k0_t4_body i ms.a1 ms.h1 ms.a2 ms.h2 ms.a3 ms.h3 ms.a4 ms.h4 ms.a5 ms.h5 ms.a6 ms.h6 ms.a7 ms.h7 ms.a8 ms.h8 ms.a9 ms.h9 ms.a10 ms.h10 ms.a11 ms.h11 ms.a12 ms.h12 ms.a13 ms.h13 v0 v10 hw v11 v12 h t a) tt s := by
  delta k0_t4_body
  refine W_bind (W_for (fun _ _ _ => True) trivial ?_ ?_)
  · intro k _ s' _; exact t5_body_w hG i v10 hw h t _ k _ s'
  intro _ s _
  refine W_bind (W_load7 ?_)
  refine W_bind (W_for (fun _ _ _ => True) trivial ?_ ?_)
  · intro k _ s' _; exact t6_body_w hG i h t _ _ _ k _ s'
  intro _ s _
  refine W_bind (W_load7 ?_)
  refine W_bind (W_for (fun _ _ _ => True) trivial ?_ ?_)
  · intro k _ s' _; exact t7_body_w hG i h t _ _ _ k _ s'
  intro _ s _
  refine W_bind (W_smem1 ?_)
  refine W_bind (W_for (fun _ (b : BitVec 32) _ => b.toNat ≤ 61931) (hG.le _) ?_ ?_)
  · intro k b s' hb; exact t8_body_w hG i h t _ k b hb s'
  intro _ s _
  refine W_pure ?_
  trivial

theorem t9_body_w (hG : Good X) (i : grid0.Coords) (v0 v10 : BitVec 32) (hw : k0_chk2 i v10) (v11 v12 v14 v17 : BitVec 32) (h : k0_cond3 i = 1#1) (t : Fin k0_t9_loop.trips) (a : PUnit) (s : St F) :
    W c ms X bd (k0_t9_body i ms.a1 ms.h1 ms.a2 ms.h2 ms.a3 ms.h3 ms.a4 ms.h4 ms.a5 ms.h5 ms.a6 ms.h6 ms.a7 ms.h7 ms.a8 ms.h8 ms.a9 ms.h9 ms.a10 ms.h10 ms.a11 ms.h11 ms.a12 ms.h12 ms.a13 ms.h13 v0 v10 hw v11 v12 v14 v17 h t a) tt s := by
  delta k0_t9_body
  refine W_bind ?_
  rw [k0_part45_eq_skeleton]
  delta k0_part45_skel
  refine W_bind (W_load12 ?_)
  refine W_bind (W_load9 ?_)
  refine W_bind (W_store9 fun _ _ => ?_)
  refine W_bind (W_load12 ?_)
  refine W_bind (W_load9 ?_)
  refine W_bind (W_store9 fun _ _ => ?_)
  refine W_bind (W_load12 ?_)
  refine W_bind (W_load9 ?_)
  refine W_bind (W_store9 fun _ _ => ?_)
  refine W_pure ?_
  refine W_bind ?_
  rw [k0_part46_eq_skeleton]
  delta k0_part46_skel
  refine W_bind (W_load12 ?_)
  refine W_bind (W_load9 ?_)
  refine W_bind (W_store9 fun _ _ => ?_)
  refine W_bind (W_load12 ?_)
  refine W_bind (W_load9 ?_)
  refine W_bind (W_store9 fun _ _ => ?_)
  refine W_bind (W_load12 ?_)
  refine W_bind (W_load9 ?_)
  refine W_bind (W_store9 fun _ _ => ?_)
  refine W_bind (W_load12 ?_)
  refine W_pure ?_
  refine W_bind ?_
  rw [k0_part47_eq_skeleton]
  delta k0_part47_skel
  refine W_bind (W_load9 ?_)
  refine W_bind (W_store9 fun _ _ => ?_)
  refine W_bind (W_load12 ?_)
  refine W_bind (W_load9 ?_)
  refine W_bind (W_store9 fun _ _ => ?_)
  refine W_bind (W_load11 ?_)
  refine W_bind (W_load4 ?_)
  refine W_bind (W_load9 ?_)
  refine W_bind (W_load8 ?_)
  refine W_bind (W_store8 fun _ _ => ?_)
  refine W_bind (W_for (fun _ _ _ => True) trivial ?_ ?_)
  · intro k _ s' _; exact t10_body_w hG i v10 hw v11 v12 v14 v17 h t _ _ _ _ k _ s'
  intro _ s _
  refine W_bind (W_load7 ?_)
  refine W_pure ?_
  refine W_bind (W_for (fun _ _ _ => True) trivial ?_ ?_)
  · intro k _ s' _; exact t11_body_w hG i h t _ _ _ k _ s'
  intro _ s _
  refine W_bind (W_load7 ?_)
  refine W_bind (W_for (fun _ _ _ => True) trivial ?_ ?_)
  · intro k _ s' _; exact t12_body_w hG i h t _ _ _ k _ s'
  intro _ s _
  refine W_bind (W_smem1 ?_)
  refine W_bind (W_for (fun _ (b : BitVec 32) _ => b.toNat ≤ 61931) (hG.le _) ?_ ?_)
  · intro k b s' hb; exact t13_body_w hG i h t _ k b hb s'
  intro _ s _
  refine W_pure ?_
  trivial

theorem t17_body_w (hG : Good X) (i : grid0.Coords) (v6 v30 : BitVec 32) (h : k0_cond4 v6 v30 = 1#1) (t : Fin k0_t17_loop.trips) (a : PUnit) (s : St F) :
    W c ms X bd (k0_t17_body i ms.a1 ms.h1 ms.a2 ms.h2 ms.a3 ms.h3 ms.a4 ms.h4 ms.a5 ms.h5 ms.a6 ms.h6 ms.a7 ms.h7 ms.a8 ms.h8 ms.a9 ms.h9 ms.a10 ms.h10 ms.a11 ms.h11 ms.a12 ms.h12 ms.a13 ms.h13 v6 v30 h t a) tt s := by
  delta k0_t17_body
  refine W_bind (W_load12 ?_)
  refine W_bind (W_store12 fun _ _ => ?_)
  refine W_bind (W_smem1 ?_)
  refine W_bind (W_smem1 ?_)
  refine W_bind (W_assume (chk33 _ _ _ _ (hG.le _) (hG.le _)) ?_)
  refine W_bind (W_for (fun _ _ _ => True) trivial ?_ ?_)
  · intro k _ s' _; exact t18_body_w hG i v6 v30 h t _ _ _ k _ s'
  intro _ s _
  refine W_bind (W_for (fun _ _ _ => True) trivial ?_ ?_)
  · intro k _ s' _; exact t19_body_w hG i v6 v30 h t _ _ _ k _ s'
  intro _ s _
  refine W_pure ?_
  trivial

/-- A positive number's bit at its logarithm is set. -/
theorem testBit_log2 {n : ℕ} (h : n ≠ 0) : n.testBit n.log2 = true := by
  rw [Nat.testBit_eq_decide_div_mod_eq]
  have h1 := Nat.log2_self_le h
  have h2 := Nat.lt_log2_self (n := n)
  rw [Nat.pow_succ] at h2
  have e : n / 2 ^ n.log2 = 1 := Nat.div_eq_of_lt_le (by omega) (by omega)
  rw [e]; rfl
/-- Clearing the highest set bit makes the word smaller. -/
theorem clear_lt (x : BitVec 32) (hx : x ≠ 0#32) :
    (Scalar.xori x (Scalar.shli 1#32 (Scalar.subi 31#32 (Scalar.ctlz x)))).toNat < x.toNat := by
  have h0 : x.toNat ≠ 0 := fun h => hx (BitVec.eq_of_toNat_eq (by simpa using h))
  have hl := log2_lt x hx
  have e := tn_ctlz x hx
  generalize Scalar.subi 31#32 (Scalar.ctlz x) = y at e
  have e2 : (Scalar.shli 1#32 y).toNat = 2 ^ Nat.log2 x.toNat := by
    show (IntOp.shli .scalar 1#32 y).toNat = _
    unfold IntOp.shli
    rw [if_pos (by omega), BitVec.shiftLeft_eq', BitVec.toNat_shiftLeft, e, Nat.shiftLeft_eq]
    show 1 * _ % 2 ^ 32 = _
    rw [one_mul, Nat.mod_eq_of_lt (Nat.pow_lt_pow_right (by decide) hl)]
  show (x ^^^ Scalar.shli 1#32 y).toNat < _
  rw [BitVec.toNat_xor, e2]
  refine Nat.lt_of_testBit (Nat.log2 x.toNat) ?_ ?_ ?_
  · rw [Nat.testBit_xor, Nat.testBit_two_pow_self, testBit_log2 h0]; rfl
  · exact testBit_log2 h0
  · intro j hj
    rw [Nat.testBit_xor, Nat.testBit_two_pow_of_ne (by omega)]; simp

theorem while_w (hG : Good X) (i : grid0.Coords) (v6 : BitVec 32) (hw1 : k0_chk1 i v6) (v10 : BitVec 32) (hw2 : k0_chk2 i v10)
    (t : Fin k0_t14_loop.trips) : ∀ (n : ℕ) (x : BitVec 32) (_ : x.toNat = n) (bd : Option ℕ) (_ : ∀ u ∈ bd, n < u) (s : St F),
    W c ms X bd (Prog.lift (.call (1 : (Λ₀ F).Label) ⟨i, v6, hw1, v10, hw2, t, ms.a1, ms.h1, ms.a13, ms.h13, ms.a3, ms.h3, ms.a10, ms.h10, ms.a12, ms.h12, x⟩)) tt s := by
  intro n
  induction n using Nat.strong_induction_on with
  | _ n ih =>
  intro x hxn bd hbd s
  refine W_call1 n hbd ?_
  show W c ms X (some n) (cc0_while1 i v6 hw1 v10 hw2 t ms.a1 ms.h1 ms.a13 ms.h13 ms.a3 ms.h3 ms.a10 ms.h10 ms.a12 ms.h12 x) tt s
  rw [cc0_while1_eq_skeleton]
  delta cc0_while1_skel
  by_cases hx : x = 0#32
  · subst hx
    exact W_pure trivial
  have hc : Scalar.cmpi .ne x 0#32 = 1#1 := by
    show BitVec.ofBool (x != 0#32) = 1#1
    rw [bne_iff_ne.2 hx]; rfl
  show W c ms X (some n) (if Scalar.cmpi .ne x 0#32 = 1#1 then _ else _) tt s
  rw [if_pos hc]
  refine W_bind (W_assume (chk29 i _ _ hx) ?_)
  refine W_bind (W_smem1 ?_)
  refine W_bind (W_smem1 ?_)
  refine W_bind (W_assume (chk30 i _ _ _ _ hx (hG.le _) (hG.le _)) ?_)
  refine W_bind (W_for (fun _ _ _ => True) trivial (fun k _ s' _ => ?_) fun _ s _ => ?_)
  · refine W_bind (W_load13 ?_)
    refine W_bind (W_smem3 ?_)
    refine W_bind (W_assume (chk31 _ (hG.dvd _) (hG.lt _)) ?_)
    refine W_bind (W_load10 ?_)
    refine W_bind (W_load12 ?_)
    refine W_bind (W_load12 ?_)
    refine W_bind (W_store12 fun _ _ => ?_)
    exact W_pure trivial
  refine W_bind (W_for (fun _ _ _ => True) trivial (fun k _ s' _ => ?_) fun _ s _ => ?_)
  · refine W_bind (W_load13 ?_)
    refine W_bind (W_smem3 ?_)
    refine W_bind (W_assume (chk32 _ (hG.dvd _) (hG.lt _)) ?_)
    refine W_bind (W_load10 ?_)
    refine W_bind (W_load12 ?_)
    refine W_bind (W_load12 ?_)
    refine W_bind (W_store12 fun _ _ => ?_)
    exact W_pure trivial
  have hlt := clear_lt x hx
  exact ih _ (hxn ▸ hlt) _ rfl (some n) (fun u hu => by cases hu; exact hxn ▸ hlt) s

theorem t14_body_w (hG : Good X) (i : grid0.Coords) (v6 : BitVec 32) (hw1 : k0_chk1 i v6) (v10 : BitVec 32) (hw2 : k0_chk2 i v10) (v34 : BitVec 1)
    (t : Fin k0_t14_loop.trips) (a : PUnit) (s : St F) :
    W c ms X none (k0_t14_body i ms.a1 ms.h1 ms.a2 ms.h2 ms.a3 ms.h3 ms.a4 ms.h4 ms.a5 ms.h5 ms.a6 ms.h6 ms.a7 ms.h7 ms.a8 ms.h8 ms.a9 ms.h9 ms.a10 ms.h10 ms.a11 ms.h11 ms.a12 ms.h12 ms.a13 ms.h13 v6 hw1 v10 hw2 v34 t a) tt s := by
  delta k0_t14_body
  refine W_bind (W_smem2 ?_)
  refine W_bind (F := F) ?_
  refine W_mono (while_w hG i v6 hw1 v10 hw2 t _ _ rfl none (fun u hu => nomatch hu) s) fun _ _ _ => ?_
  exact W_pure trivial

end Cert.Proof.K
-- ==== Proof.K.Top.lean ====
/-
  The body of `Kernel`, put together from its loops.
-/
module

public import proofs.«01_k».proof.Proof.K.Body

@[expose] public section

noncomputable section

namespace Cert.Proof.K

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable {c : Dev nD} {ms : Mems} {X : Ins F} {bd : Option ℕ}

/-- The body runs. -/
theorem body_w (hG : Good X) (i : grid0.Coords) (s : St F) : W c ms X none (cc0_lut4_csr_linear (F := F) i ms.a1 ms.h1 ms.a2 ms.h2 ms.a3 ms.h3 ms.a4 ms.h4 ms.a5 ms.h5 ms.a6 ms.h6 ms.a7 ms.h7 ms.a8 ms.h8 ms.a9 ms.h9 ms.a10 ms.h10 ms.a11 ms.h11 ms.a12 ms.h12 ms.a13 ms.h13) tt s := by
  rw [cc0_lut4_csr_linear_eq_skeleton]
  delta cc0_lut4_csr_linear_skel
  refine W_bind (F := F) ?_
  refine W_mono (Q := fun _ _ => True) ?_ (fun a s _ => ?_)
  swap
  · obtain ⟨v0, v6, hw1, v7, v10, hw2, v15, v30, v40⟩ := a
    extract_lets j0 v31 v32 v33 v34
    refine W_bind (W_for (fun _ _ _ => True) trivial ?_ ?_)
    · intro k _ s' _; exact t14_body_w hG i _ hw1 _ hw2 _ k _ s'
    intro _ s _
    refine W_dite (fun h => ?_) (fun h => ?_)
    · refine W_bind (W_for (fun _ _ _ => True) trivial ?_ ?_)
      · intro k _ s' _; exact t17_body_w hG i _ _ h k _ s'
      intro _ s _
      exact W_pure trivial
    · exact W_pure trivial
  rw [k0_part48_eq_skeleton]
  delta k0_part48_skel
  refine W_bind (W_smem1 ?_)
  refine W_bind (W_assume (chk1 i _ (hG.le _)) ?_)
  refine W_bind (W_smem1 ?_)
  refine W_bind (W_assume (chk2 i _ (hG.le _)) ?_)
  extract_lets hw2 v11 v12 v13 v14 v15 v16 j3 j2 j1
  have h3 : ∀ s, W c ms X none (j3 ⟨⟩) tt s := fun s => W_bind (W_smem1 (W_pure trivial))
  have h2 : ∀ s, W c ms X none (j2 ⟨⟩) tt s := fun s => by
    refine W_dite (fun h => ?_) (fun h => ?_)
    · refine W_bind (W_for (fun _ _ _ => True) trivial ?_ ?_)
      · intro k _ s' _; exact t9_body_w hG i _ _ _ _ _ _ _ h k _ s'
      intro _ s _
      exact h3 s
    · exact h3 s
  have h1 : ∀ s, W c ms X none (j1 ⟨⟩) tt s := fun s => by
    refine W_dite (fun h => ?_) (fun h => ?_)
    · refine W_bind (W_for (fun _ _ _ => True) trivial ?_ ?_)
      · intro k _ s' _; exact t4_body_w hG i _ _ _ _ _ h k _ s'
      intro _ s _
      exact h2 s
    · exact h2 s
  refine W_dite (fun h => ?_) (fun h => ?_)
  · refine W_bind (W_for (fun _ _ _ => True) trivial ?_ ?_)
    · intro k _ s' _; exact t1_body_w hG i h k _ s'
    intro _ s _
    refine W_bind (W_for (fun _ _ _ => True) trivial ?_ ?_)
    · intro k _ s' _; exact t2_body_w hG i _ _ _ h k _ s'
    intro _ s _
    exact h1 s
  · exact h1 s

end Cert.Proof.K
-- ==== Proof.Pre.lean ====
/-
  What the precondition says of the row pointers and the column numbers.
-/
module

public import proofs.«01_k».proof.Proof.Gen.Pre_pre
public import Idealize.ShloMosaic.Lib.ReduceAll
public import Idealize.ShloMosaic.PureOps.BitExact
public import Idealize.ShloMosaic.PureOps.Ideal

@[expose] public section

noncomputable section

namespace Cert.Proof

open Idealize.ShloMosaic Cert.Pre_pre

/-- The row pointers lie between 0 and the number of entries and never decrease; the columns lie in the input's width. -/
structure Tables (rp : IVec S8961 32) (cols : IVec S61931 32) : Prop where
  rp_le : ∀ i, (rp i).toNat ≤ 61931
  mono : ∀ j : S8960.Idx, (rp (fun a => ⟨(j a).val, by have := (j a).isLt; fin_cases a; exact Nat.lt_succ_of_lt this⟩)).toNat
    ≤ (rp (fun a => ⟨(j a).val + 1, by have := (j a).isLt; fin_cases a; exact Nat.succ_lt_succ this⟩)).toNat
  col_lt : ∀ i, (cols i).toNat < 1536

theorem toNat_of_range {x : BitVec 32} {n : ℕ} (hn : n < 2 ^ 31) (h0 : (0#32).toInt ≤ x.toInt) (h1 : x.toInt ≤ n) :
    x.toNat ≤ n := by
  have h0' : 0 ≤ x.toInt := by simpa using h0
  have := BitVec.toInt_eq_toNat_of_msb (x := x) (by
    rw [BitVec.msb_eq_false_iff_two_mul_lt]; have := BitVec.toInt_eq_toNat_cond x; split at this <;> omega)
  omega

theorem toInt_of_le {x : BitVec 32} {n : ℕ} (hn : n < 2 ^ 31) (h : x.toNat ≤ n) : x.toInt = x.toNat := by
  have := BitVec.toInt_eq_toNat_cond x; split at this <;> omega

theorem tables {F : FTy → Type} [FloatOps F] (a0 : IVec S5x384x1536 16) (a1 : IVec S768x8960 8) (a2 : IVec S8960x16 16)
    (rp : IVec S8961 32) (cols : IVec S61931 32) (a5 : IVec S61931 16)
    (h : fn (F := F) a0 a1 a2 rp cols a5 = fun _ => 1#1) : Tables rp cols := by
  have h' := congrFun h (fun a => nomatch a)
  unfold fn fn_part1 at h'
  have hs : Subsingleton S_.Idx := ⟨fun a b => funext fun i => nomatch i⟩
  have hand : ∀ {x y : BitVec 1}, IntOp.andi x y = 1#1 → x = 1#1 ∧ y = 1#1 := by decide
  obtain ⟨h', hclt⟩ := hand h'
  obtain ⟨h', hcge⟩ := hand h'
  obtain ⟨h', hmon⟩ := hand h'
  obtain ⟨hge, hle⟩ := hand h'
  have hge := fun i => IntOp.cmpi_sge.1 (Host.reduce_andi_all _ _ _ _ _ hge i)
  have hle := fun i => IntOp.cmpi_sle.1 (Host.reduce_andi_all _ _ _ _ _ hle i)
  have hmon := fun i => IntOp.cmpi_sle.1 (Host.reduce_andi_all _ _ _ _ _ hmon i)
  have hcge := fun i => IntOp.cmpi_sge.1 (Host.reduce_andi_all _ _ _ _ _ hcge i)
  have hclt := fun i => IntOp.cmpi_slt.1 (Host.reduce_andi_all _ _ _ _ _ hclt i)
  have e1 : (61931#32).toInt = 61931 := by decide
  have e2 : (1536#32).toInt = 1536 := by decide
  have hrp : ∀ i, (rp i).toNat ≤ 61931 := fun i => toNat_of_range (by decide) (hge i) (by have := hle i; rw [show (broadcastInDim S8961 ![] Facts.bcast_S_S8961 (constantI S_ 32 61931#32) i) = 61931#32 from rfl, e1] at this; exact_mod_cast this)
  refine ⟨hrp, fun j => ?_, fun i => ?_⟩
  · have := hmon j
    have e : ∀ i : S8961.Idx, (rp i).toInt = (rp i).toNat := fun i => toInt_of_le (by decide) (hrp i)
    unfold extractStridedSlice at this
    rw [e, e] at this
    have := Int.ofNat_le.mp this
    refine le_trans (le_of_eq (congrArg (fun i => (rp i).toNat) (funext fun a => Fin.ext ?_)))
      (this.trans (le_of_eq (congrArg (fun i => (rp i).toNat) (funext fun a => Fin.ext ?_))))
    · fin_cases a; exact (Nat.zero_add _).symm
    · fin_cases a; exact Nat.add_comm _ _
  · have h1 := hclt i
    rw [show (broadcastInDim S61931 ![] Facts.bcast_S_S61931 (constantI S_ 32 1536#32) i) = 1536#32 from rfl, e2] at h1
    have := toNat_of_range (x := cols i) (n := 1535) (by decide) (hcge i) (by omega)
    omega

end Cert.Proof
-- ==== Proof.K.Host.lean ====
/-
  The contents the host operations leave for the region of `Kernel`, the tables the precondition gives the body, and
  the frame.
-/
module

public import proofs.«01_k».proof.Proof.K.Run
public import proofs.«01_k».proof.Proof.K.Top
public import proofs.«01_k».proof.Proof.Pre
public import Idealize.ShloMosaic.Lib.KernelVsHost

@[expose] public section

noncomputable section

namespace Cert.Proof.K

open Cert.Kernel Cert.Kernel.Gen
open Idealize.ShloMosaic
open Idealize.ShloMosaic.TcCoe Idealize.ShloMosaic.Tactic
open Idealize.ShloMosaic.StableHlo
open Idealize.ShloMosaic.Pipeline (Dat RDat)
open Idealize.SL.Sem

variable {F : FTy → Type} [FloatOps F]
variable (m : (ℓ : Loc nD τ sig) → Buf (Elt F) ℓ) (ρ : Dev nD → PrngReg)

theorem V_arg0 (c : Dev nD) : V m c main_arg0 = m ((c.tc : Thread nD τ).loc main_arg0) := by
  rw [V_def]
  simp only [hostAll, List.flatten_cons, List.flatten_nil, List.cons_append, List.nil_append, List.append_nil, hostOps0,
    hostOps0_1, hostOps0_2, hostOps0_3, hostOps0_4, TRef.unary, TRef.binary, TRef.toBuf, TRef.ofBuf, cast_eq]
  after_results_simp <;> rfl

theorem V_arg1 (c : Dev nD) : V m c main_arg1 = m ((c.tc : Thread nD τ).loc main_arg1) := by
  rw [V_def]
  simp only [hostAll, List.flatten_cons, List.flatten_nil, List.cons_append, List.nil_append, List.append_nil, hostOps0,
    hostOps0_1, hostOps0_2, hostOps0_3, hostOps0_4, TRef.unary, TRef.binary, TRef.toBuf, TRef.ofBuf, cast_eq]
  after_results_simp <;> rfl

theorem V_arg2 (c : Dev nD) : V m c main_arg2 = m ((c.tc : Thread nD τ).loc main_arg2) := by
  rw [V_def]
  simp only [hostAll, List.flatten_cons, List.flatten_nil, List.cons_append, List.nil_append, List.append_nil, hostOps0,
    hostOps0_1, hostOps0_2, hostOps0_3, hostOps0_4, TRef.unary, TRef.binary, TRef.toBuf, TRef.ofBuf, cast_eq]
  after_results_simp <;> rfl

theorem V_arg3 (c : Dev nD) : V m c main_arg3 = m ((c.tc : Thread nD τ).loc main_arg3) := by
  rw [V_def]
  simp only [hostAll, List.flatten_cons, List.flatten_nil, List.cons_append, List.nil_append, List.append_nil, hostOps0,
    hostOps0_1, hostOps0_2, hostOps0_3, hostOps0_4, TRef.unary, TRef.binary, TRef.toBuf, TRef.ofBuf, cast_eq]
  after_results_simp <;> rfl

theorem V_arg4 (c : Dev nD) : V m c main_arg4 = m ((c.tc : Thread nD τ).loc main_arg4) := by
  rw [V_def]
  simp only [hostAll, List.flatten_cons, List.flatten_nil, List.cons_append, List.nil_append, List.append_nil, hostOps0,
    hostOps0_1, hostOps0_2, hostOps0_3, hostOps0_4, TRef.unary, TRef.binary, TRef.toBuf, TRef.ofBuf, cast_eq]
  after_results_simp <;> rfl

theorem V_arg5 (c : Dev nD) : V m c main_arg5 = m ((c.tc : Thread nD τ).loc main_arg5) := by
  rw [V_def]
  simp only [hostAll, List.flatten_cons, List.flatten_nil, List.cons_append, List.nil_append, List.append_nil, hostOps0,
    hostOps0_1, hostOps0_2, hostOps0_3, hostOps0_4, TRef.unary, TRef.binary, TRef.toBuf, TRef.ofBuf, cast_eq]
  after_results_simp <;> rfl

theorem V_v3 (c : Dev nD) : V m c main_v3 = pad S65024 ![0] ![3093] ![0]
    (muli (m ((c.tc : Thread nD τ).loc main_arg4)) (broadcastInDim S61931 ![] bcast_S_S61931 (constantI S_ 32 8#32)))
    (constantI S_ 32 0#32) pads_S61931_S65024_030930 h_S_ := by
  rw [V_def]
  simp only [hostAll, List.flatten_cons, List.flatten_nil, List.cons_append, List.nil_append, List.append_nil, hostOps0,
    hostOps0_1, hostOps0_2, hostOps0_3, hostOps0_4, TRef.unary, TRef.binary, TRef.toBuf, TRef.ofBuf, cast_eq]
  after_results_simp <;> rfl

/-- The tables of a run whose arguments satisfy the precondition are what the body needs. -/
theorem good_insAt (c : Dev nD) (t : Fin (cfg0 (F := F)).N)
    (h : Tables (m ((c.tc : Thread nD τ).loc main_arg3)) (m ((c.tc : Thread nD τ).loc main_arg4))) : Good (insAt m c t) := by
  have hx3 : ∀ i : S65024.Idx, (V m c main_v3 i : BitVec 32).toNat = 0
      ∨ ∃ j : S61931.Idx, (V m c main_v3 i : BitVec 32).toNat = 8 * (m ((c.tc : Thread nD τ).loc main_arg4) j : BitVec 32).toNat := fun i => by
    rw [V_v3]
    by_cases hi : (i 0).val < 61931
    · right
      refine ⟨fun a => ⟨(i 0).val, by fin_cases a; exact hi⟩, ?_⟩
      rw [pad_apply_of_inside _ _ _ _ _ _ _ i (fun a => ⟨(i 0).val, by fin_cases a; exact hi⟩)
        (fun a => by fin_cases a; show (i 0).val = 0 + (i 0).val * (0 + 1); omega)]
      have := h.col_lt (fun a => ⟨(i 0).val, by fin_cases a; exact hi⟩)
      show (_ * 8#32 : BitVec 32).toNat = _
      rw [BitVec.toNat_mul, Nat.mod_eq_of_lt, Nat.mul_comm]
      · rfl
      · have : ∀ x : BitVec 32, x.toNat < 1536 → x.toNat * (8#32).toNat < 2 ^ 32 := fun x hx => by
          rw [show (8#32).toNat = 8 from rfl]; omega
        exact this _ (h.col_lt _)
    · left
      rw [pad_apply_of_not_inside _ _ _ _ _ _ _ i 0 (fun hh => hi (by
        have : ((i 0).val - 0) / (0 + 1) < 61931 := hh.2.2
        rw [Nat.sub_zero, Nat.zero_add, Nat.div_one] at this; exact this))]
      rfl
  have h3 : ∀ i, 8 ∣ (V m c main_v3 i : BitVec 32).toNat ∧ (V m c main_v3 i : BitVec 32).toNat < 12288 := fun i => by
    rcases hx3 i with e | ⟨j, e⟩
    · rw [e]; exact ⟨Nat.dvd_zero _, by decide⟩
    · rw [e]; exact ⟨Nat.dvd_mul_right _ _, by have := h.col_lt j; omega⟩
  exact ⟨fun i => by
      show (V m c main_arg3 _ : BitVec 32).toNat ≤ 61931
      rw [V_arg3]; exact h.rp_le _,
    fun i => (h3 _).1, fun i => (h3 _).2⟩

/-- The tracking that says nothing. -/
def track0 : Track F := ⟨fun _ _ _ _ _ => True, fun _ _ => True, fun _ _ => True⟩

/-- At every grid point the body runs to its end. -/
theorem bodyRuns0 (h : ∀ c : Dev nD, Tables (m ((c.tc : Thread nD τ).loc main_arg3)) (m ((c.tc : Thread nD τ).loc main_arg4))) :
    BodyRuns m (fun _ => track0) := fun c t s _ =>
  W_mono (body_w (good_insAt m c t (h c)) _ s) fun _ _ _ => ⟨trivial, trivial, trivial⟩

/-- Every buffer the claims read keeps its contents in a run that ends as the launch says. -/
theorem args_kept (K : Dev nD → Track F) {r : PUnit × MemSt nD τ sig (Elt F)}
    (h : RDat.FramePost (cfgs 0) (fun c => (dats m K 0 c).toRRel outs (rel K c)) (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  ⟨((h c).2 main_arg0 (Pipeline.mem_restRefs_of main_arg0 (by decide) (fun w => (by decide : ∀ w : Fin 9, (spec0 w).arr.view.ref ≠ main_arg0) w))).trans (V_arg0 m c),
    (RDat.FramePost.arr_in h c 5 rfl).trans (V_arg1 m c),
    ((h c).2 main_arg2 (Pipeline.mem_restRefs_of main_arg2 (by decide) (fun w => (by decide : ∀ w : Fin 9, (spec0 w).arr.view.ref ≠ main_arg2) w))).trans (V_arg2 m c),
    (RDat.FramePost.arr_in h c 0 rfl).trans (V_arg3 m c),
    ((h c).2 main_arg4 (Pipeline.mem_restRefs_of main_arg4 (by decide) (fun w => (by decide : ∀ w : Fin 9, (spec0 w).arr.view.ref ≠ main_arg4) w))).trans (V_arg4 m c),
    ((h c).2 main_arg5 (Pipeline.mem_restRefs_of main_arg5 (by decide) (fun w => (by decide : ∀ w : Fin 9, (spec0 w).arr.view.ref ≠ main_arg5) w))).trans (V_arg5 m c)⟩

end Cert.Proof.K
-- ==== Proof.KI.Run.lean ====
/-
  The launch of `KernelIdeal`: from a triple about the body at each grid point (an invariant of the four scratch buffers, a
  relation on what the body leaves in the two output windows) to the run of @main.
-/
module

public import proofs.«01_k».proof.Proof.KI.Common
public import proofs.«01_k».proof.Proof.Gen.KernelIdeal.Launch
public import proofs.«01_k».proof.Proof.Gen.KernelIdeal.Points
public import Idealize.ShloMosaic.Lib.Pipeline.Frame
public import Idealize.ShloMosaic.Lib.Pipeline.FrameBody
public import Idealize.ShloMosaic.Lib.Pipeline.DatRel

@[expose] public section

noncomputable section

namespace Cert.Proof.KI

open Cert.KernelIdeal Cert.KernelIdeal.Gen
open Idealize.ShloMosaic
open Idealize.ShloMosaic.TcCoe Idealize.ShloMosaic.Tactic
open Idealize.ShloMosaic.Pipeline (Dat RDat BodyObligationRel)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable (m : (ℓ : Loc nD τ sig) → Buf (Elt F) ℓ) (ρ : Dev nD → PrngReg)

local notation "𝕄" => MT nD τ sig Unit (Elt F) ℕ (UR nD τ) ℕ

/-- The host operations before the region. -/
abbrev hostAll : List (HloOp τ sig (Elt F)) :=
  ([hostOps0, hostOps0_1, hostOps0_2, hostOps0_3, hostOps0_4] : List (List (HloOp τ sig (Elt F)))).flatten

/-- The contents of the unscoped buffers as the region finds them. -/
def V (c : Dev nD) (b : Ref sig .tc) : Buf (Elt F) ((c : Thread nD τ).loc b) :=
  StableHlo.after hostAll (fun b => m (c, b)) b

theorem V_def (c : Dev nD) (b : Ref sig .tc) : V m c b = StableHlo.after hostAll (fun b => m (c, b)) b := rfl

/-- @main is the host operations, then the region. -/
theorem hmain0 : Pipeline.HMain (Ix := Unit) (Name := ℕ) (U := UR nD τ) (Lvl := ℕ) cfgs 0 defs₀ 𝒱₀ m (main (F := F)) (V m) :=
  Pipeline.hmain_prefixes cfgs 0 defs₀ 𝒱₀ m main [hostOps0, hostOps0_1, hostOps0_2, hostOps0_3, hostOps0_4]
    ⟨hostOps0_sub, hostOps0_1_sub, hostOps0_2_sub, hostOps0_3_sub, hostOps0_4_sub⟩
    ⟨StableHlo.forall_fresh_of_map rfl, StableHlo.forall_fresh_of_map rfl, StableHlo.forall_fresh_of_map rfl,
      StableHlo.forall_fresh_of_map rfl, StableHlo.forall_fresh_of_map rfl⟩
    (fun c => (main_chain c).trans rfl)

attribute [irreducible] V

/-- The block of window `w` at point `t`. -/
def iblk (c : Dev nD) (w : Fin 9) (t : Fin (cfg0 (F := F)).N) :
    (((cfg0 (F := F)).win w).xblock ((cfg0 (F := F)).grid.coords t)).Idx → Elt F ((cfg0 (F := F)).win w).elt :=
  (((cfg0 (F := F)).win w).blk t).view.read (Elt F) (V m c (Pipeline.arrRef spec0 w))

/-- What the input windows hold at point `t`. -/
def insAt (c : Dev nD) (t : Fin (cfg0 (F := F)).N) : Ins F where
  x1 := iblk m c 0 t
  x2 := iblk m c 1 t
  x3 := iblk m c 2 t
  x4 := iblk m c 3 t
  x5 := iblk m c 4 t
  x6 := iblk m c 5 t
  x7 := iblk m c 6 t

/-- The buffers of the body at point `t`. -/
def memsAt (t : Fin (cfg0 (F := F)).N) : Mems where
  a1 := win0_0.stage ((cfg0 (F := F)).slots t 0)
  h1 := hstage0_0 (((cfg0 (F := F)).slots t 0).cast nbuf0_0)
  a2 := win0_1.stage ((cfg0 (F := F)).slots t 1)
  h2 := hstage0_1 (((cfg0 (F := F)).slots t 1).cast nbuf0_1)
  a3 := win0_2.stage ((cfg0 (F := F)).slots t 2)
  h3 := hstage0_2 (((cfg0 (F := F)).slots t 2).cast nbuf0_2)
  a4 := win0_3.stage ((cfg0 (F := F)).slots t 3)
  h4 := hstage0_3 (((cfg0 (F := F)).slots t 3).cast nbuf0_3)
  a5 := win0_4.stage ((cfg0 (F := F)).slots t 4)
  h5 := hstage0_4 (((cfg0 (F := F)).slots t 4).cast nbuf0_4)
  a6 := win0_5.stage ((cfg0 (F := F)).slots t 5)
  h6 := hstage0_5 (((cfg0 (F := F)).slots t 5).cast nbuf0_5)
  a7 := win0_6.stage ((cfg0 (F := F)).slots t 6)
  h7 := hstage0_6 (((cfg0 (F := F)).slots t 6).cast nbuf0_6)
  a8 := win0_7.stage ((cfg0 (F := F)).slots t 7)
  h8 := hstage0_7 (((cfg0 (F := F)).slots t 7).cast nbuf0_7)
  a9 := win0_8.stage ((cfg0 (F := F)).slots t 8)
  h9 := hstage0_8 (((cfg0 (F := F)).slots t 8).cast nbuf0_8)
  a10 := Memref.whole cc0_scratch0
  h10 := Memref.isWhole_whole _
  a11 := Memref.whole cc0_scratch1
  h11 := Memref.isWhole_whole _
  a12 := Memref.whole cc0_scratch2
  h12 := Memref.isWhole_whole _
  a13 := Memref.whole cc0_scratch3
  h13 := Memref.isWhole_whole _

/-- The two output windows. -/
def outs : Fin 9 → Bool := fun w => decide (7 ≤ w.val)

/-- An invariant of the scratch buffers before each point, and what is asked of the two outputs at each point. -/
structure Track (F : FTy → Type) where
  inv : ℕ → (S12288x128.Idx → Elt F .i32) → (S1536x256.Idx → Elt F .i32) → (S8704x128.Idx → Elt F .f32)
    → (S8224x128.Idx → Elt F .i32) → Prop
  y : ℕ → (S1920x256.Idx → Elt F .bf16) → Prop
  ys : ℕ → (S1920x256.Idx → Elt F .f32) → Prop

variable (K : Dev nD → Track F)

/-- The scratch buffers at contents the invariant allows. -/
def scr (c : Dev nD) (t : ℕ) : sProp 𝕄 :=
  iprop(∃ f10 f11 f12 f13, ⌜(K c).inv t f10 f11 f12 f13⌝
    ∗ owns (c : Thread nD τ) (Memref.whole cc0_scratch0) fullShare f10
    ∗ owns (c : Thread nD τ) (Memref.whole cc0_scratch1) fullShare f11
    ∗ owns (c : Thread nD τ) (Memref.whole cc0_scratch2) fullShare f12
    ∗ owns (c : Thread nD τ) (Memref.whole cc0_scratch3) fullShare f13)

/-- What the body leaves in each window, the outputs unnamed. -/
def aft (c : Dev nD) : (w : Fin 9) → (t : Fin (cfg0 (F := F)).N) → ((cfg0 (F := F)).win w).block.Idx → Elt F ((cfg0 (F := F)).win w).elt :=
  fun | 0 => fun t => iblk m c 0 t | 1 => fun t => iblk m c 1 t | 2 => fun t => iblk m c 2 t | 3 => fun t => iblk m c 3 t
      | 4 => fun t => iblk m c 4 t | 5 => fun t => iblk m c 5 t | 6 => fun t => iblk m c 6 t
      | 7 => fun t => Pipeline.Dat.unnamed (cfg := cfg0) 7 t | 8 => fun t => Pipeline.Dat.unnamed (cfg := cfg0) 8 t
      | ⟨_ + 9, h⟩ => absurd h (Nat.not_lt.2 (Nat.le_add_left _ _))

/-- The relation asked of the outputs. -/
def rel (c : Dev nD) : (w : Fin 9) → (t : Fin (cfg0 (F := F)).N) → (((cfg0 (F := F)).win w).block.Idx → Elt F ((cfg0 (F := F)).win w).elt) → Prop :=
  fun | 7 => fun t X => (K c).y t.val X | 8 => fun t X => (K c).ys t.val X | _ => fun _ _ => True

/-- The proof data. -/
def dats (_ : Fin 1) (c : Dev nD) : Dat τ (Elt F) Unit ℕ (UR nD τ) ℕ (cfg0 (F := F)) c where
  A w := V m c (Pipeline.arrRef spec0 w)
  after := aft m c
  Φ t := iprop(scr K c t.val ∗ ∃ r, prngReg c r)
  q _ := fullShare
  owed _ := 0

/-! An input window holds its block at every point. -/

theorem before0_eq (c : Dev nD) (t : Fin (cfg0 (F := F)).N) (d) : (dats m K 0 c).before 0 t d = iblk m c 0 t :=
  ((dats m K 0 c).before_in_eq_fetched 0 rfl (fun _ => rfl) (fun _ _ _ => rfl)
    (fun t => by rw [show (dats m K 0 c).after 0 t = iblk m c 0 t from rfl]; unfold Dat.blockOf iblk; rw [show (dats m K 0 c).A 0 = V m c (Pipeline.arrRef spec0 0) from rfl]; rfl) t d).trans
    (by unfold Dat.fetched Dat.blockOf iblk; rw [show (dats m K 0 c).A 0 = V m c (Pipeline.arrRef spec0 0) from rfl]; rfl)
theorem before1_eq (c : Dev nD) (t : Fin (cfg0 (F := F)).N) (d) : (dats m K 0 c).before 1 t d = iblk m c 1 t :=
  ((dats m K 0 c).before_in_eq_fetched 1 rfl (fun _ => rfl) (fun _ _ _ => rfl)
    (fun t => by rw [show (dats m K 0 c).after 1 t = iblk m c 1 t from rfl]; unfold Dat.blockOf iblk; rw [show (dats m K 0 c).A 1 = V m c (Pipeline.arrRef spec0 1) from rfl]; rfl) t d).trans
    (by unfold Dat.fetched Dat.blockOf iblk; rw [show (dats m K 0 c).A 1 = V m c (Pipeline.arrRef spec0 1) from rfl]; rfl)
theorem before2_eq (c : Dev nD) (t : Fin (cfg0 (F := F)).N) (d) : (dats m K 0 c).before 2 t d = iblk m c 2 t :=
  ((dats m K 0 c).before_in_eq_fetched 2 rfl (fun _ => rfl) (fun _ _ _ => rfl)
    (fun t => by rw [show (dats m K 0 c).after 2 t = iblk m c 2 t from rfl]; unfold Dat.blockOf iblk; rw [show (dats m K 0 c).A 2 = V m c (Pipeline.arrRef spec0 2) from rfl]; rfl) t d).trans
    (by unfold Dat.fetched Dat.blockOf iblk; rw [show (dats m K 0 c).A 2 = V m c (Pipeline.arrRef spec0 2) from rfl]; rfl)
theorem before3_eq (c : Dev nD) (t : Fin (cfg0 (F := F)).N) (d) : (dats m K 0 c).before 3 t d = iblk m c 3 t :=
  ((dats m K 0 c).before_in_eq_fetched 3 rfl (fun _ => rfl) (fun _ _ _ => rfl)
    (fun t => by rw [show (dats m K 0 c).after 3 t = iblk m c 3 t from rfl]; unfold Dat.blockOf iblk; rw [show (dats m K 0 c).A 3 = V m c (Pipeline.arrRef spec0 3) from rfl]; rfl) t d).trans
    (by unfold Dat.fetched Dat.blockOf iblk; rw [show (dats m K 0 c).A 3 = V m c (Pipeline.arrRef spec0 3) from rfl]; rfl)
theorem before4_eq (c : Dev nD) (t : Fin (cfg0 (F := F)).N) (d) : (dats m K 0 c).before 4 t d = iblk m c 4 t :=
  ((dats m K 0 c).before_in_eq_fetched 4 rfl (fun _ => rfl) (fun _ _ _ => rfl)
    (fun t => by rw [show (dats m K 0 c).after 4 t = iblk m c 4 t from rfl]; unfold Dat.blockOf iblk; rw [show (dats m K 0 c).A 4 = V m c (Pipeline.arrRef spec0 4) from rfl]; rfl) t d).trans
    (by unfold Dat.fetched Dat.blockOf iblk; rw [show (dats m K 0 c).A 4 = V m c (Pipeline.arrRef spec0 4) from rfl]; rfl)
theorem before5_eq (c : Dev nD) (t : Fin (cfg0 (F := F)).N) (d) : (dats m K 0 c).before 5 t d = iblk m c 5 t :=
  ((dats m K 0 c).before_in_eq_fetched 5 rfl (fun _ => rfl) (fun _ _ _ => rfl)
    (fun t => by rw [show (dats m K 0 c).after 5 t = iblk m c 5 t from rfl]; unfold Dat.blockOf iblk; rw [show (dats m K 0 c).A 5 = V m c (Pipeline.arrRef spec0 5) from rfl]; rfl) t d).trans
    (by unfold Dat.fetched Dat.blockOf iblk; rw [show (dats m K 0 c).A 5 = V m c (Pipeline.arrRef spec0 5) from rfl]; rfl)
theorem before6_eq (c : Dev nD) (t : Fin (cfg0 (F := F)).N) (d) : (dats m K 0 c).before 6 t d = iblk m c 6 t :=
  ((dats m K 0 c).before_in_eq_fetched 6 rfl (fun _ => rfl) (fun _ _ _ => rfl)
    (fun t => by rw [show (dats m K 0 c).after 6 t = iblk m c 6 t from rfl]; unfold Dat.blockOf iblk; rw [show (dats m K 0 c).A 6 = V m c (Pipeline.arrRef spec0 6) from rfl]; rfl) t d).trans
    (by unfold Dat.fetched Dat.blockOf iblk; rw [show (dats m K 0 c).A 6 = V m c (Pipeline.arrRef spec0 6) from rfl]; rfl)

/-- The body at point `t`. -/
theorem bodyAt_eq (t : Fin (cfg0 (F := F)).N) :
    bodyAt0 (F := F) t = cc0_lut4_csr_linear (F := F) (grid0.coords t) (memsAt (F := F) t).a1 (memsAt (F := F) t).h1 (memsAt (F := F) t).a2 (memsAt (F := F) t).h2
      (memsAt (F := F) t).a3 (memsAt (F := F) t).h3 (memsAt (F := F) t).a4 (memsAt (F := F) t).h4 (memsAt (F := F) t).a5 (memsAt (F := F) t).h5 (memsAt (F := F) t).a6 (memsAt (F := F) t).h6
      (memsAt (F := F) t).a7 (memsAt (F := F) t).h7 (memsAt (F := F) t).a8 (memsAt (F := F) t).h8 (memsAt (F := F) t).a9 (memsAt (F := F) t).h9 (memsAt (F := F) t).a10 (memsAt (F := F) t).h10
      (memsAt (F := F) t).a11 (memsAt (F := F) t).h11 (memsAt (F := F) t).a12 (memsAt (F := F) t).h12 (memsAt (F := F) t).a13 (memsAt (F := F) t).h13 := rfl

/-- What is to be shown of the body: at every point, from scratch contents the invariant allows and any output contents,
    it ends with the invariant of the next point and the outputs as asked. -/
def BodyRuns : Prop := ∀ (c : Dev nD) (t : Fin (cfg0 (F := F)).N) (s : St F), (K c).inv t.val s.s10 s.s11 s.s12 s.s13 →
  W c (memsAt (F := F) t) (insAt m c t) none (bodyAt0 (F := F) t)
    (fun _ s' => (K c).inv (t.val + 1) s'.s10 s'.s11 s'.s12 s'.s13 ∧ (K c).y t.val s'.s8 ∧ (K c).ys t.val s'.s9) s

variable {m K}

/-- What the body is called with at point `t`. -/
def bodyPre (m : (ℓ : Loc nD τ sig) → Buf (Elt F) ℓ) (K : Dev nD → Track F) (c : Dev nD) (t : Fin (cfg0 (F := F)).N) : sProp 𝕄 :=
  iprop((dats m K 0 c).Φ t.castSucc ∗ (dats m K 0 c).owesAt () t.castSucc
    ∗ owns (c : Thread nD τ) (memsAt (F := F) t).a1 fullShare (insAt m c t).x1
    ∗ owns (c : Thread nD τ) (memsAt (F := F) t).a2 fullShare (insAt m c t).x2
    ∗ owns (c : Thread nD τ) (memsAt (F := F) t).a3 fullShare (insAt m c t).x3
    ∗ owns (c : Thread nD τ) (memsAt (F := F) t).a4 fullShare (insAt m c t).x4
    ∗ owns (c : Thread nD τ) (memsAt (F := F) t).a5 fullShare (insAt m c t).x5
    ∗ owns (c : Thread nD τ) (memsAt (F := F) t).a6 fullShare (insAt m c t).x6
    ∗ owns (c : Thread nD τ) (memsAt (F := F) t).a7 fullShare (insAt m c t).x7
    ∗ (∃ d, owns (c : Thread nD τ) (memsAt (F := F) t).a8 fullShare d)
    ∗ (∃ d, owns (c : Thread nD τ) (memsAt (F := F) t).a9 fullShare d))

/-- What the body returns at point `t`. -/
def bodyPost (m : (ℓ : Loc nD τ sig) → Buf (Elt F) ℓ) (K : Dev nD → Track F) (c : Dev nD) (t : Fin (cfg0 (F := F)).N) : sProp 𝕄 :=
  iprop((dats m K 0 c).Φ t.succ ∗ (dats m K 0 c).owesAt () t.succ
    ∗ owns (c : Thread nD τ) (memsAt (F := F) t).a1 fullShare (insAt m c t).x1
    ∗ owns (c : Thread nD τ) (memsAt (F := F) t).a2 fullShare (insAt m c t).x2
    ∗ owns (c : Thread nD τ) (memsAt (F := F) t).a3 fullShare (insAt m c t).x3
    ∗ owns (c : Thread nD τ) (memsAt (F := F) t).a4 fullShare (insAt m c t).x4
    ∗ owns (c : Thread nD τ) (memsAt (F := F) t).a5 fullShare (insAt m c t).x5
    ∗ owns (c : Thread nD τ) (memsAt (F := F) t).a6 fullShare (insAt m c t).x6
    ∗ owns (c : Thread nD τ) (memsAt (F := F) t).a7 fullShare (insAt m c t).x7
    ∗ (∃ X, ⌜(K c).y t.val X⌝ ∗ owns (c : Thread nD τ) (memsAt (F := F) t).a8 fullShare X)
    ∗ (∃ X, ⌜(K c).ys t.val X⌝ ∗ owns (c : Thread nD τ) (memsAt (F := F) t).a9 fullShare X))

/-- The triple of the body at a point. -/
theorem sound_body (h : BodyRuns m K) (c : Dev nD) (t : Fin (cfg0 (F := F)).N) :
    bodyPre m K c t ⊢ wp frame (wpE (defs₀ (F := F)) 𝒱₀ (c : Thread nD τ) none) Set.univ (bodyAt0 (F := F) t) (fun _ => bodyPost m K c t) := by
  unfold bodyPre bodyPost
  rw [show (dats m K 0 c).Φ t.succ = iprop(scr K c (t.val + 1) ∗ ∃ r, prngReg c r) from rfl,
    show (dats m K 0 c).owesAt () t.succ = (dats m K 0 c).owesAt () t.castSucc from rfl,
    show (dats m K 0 c).Φ t.castSucc = iprop(scr K c t.val ∗ ∃ r, prngReg c r) from rfl]
  unfold scr
  iintro ⟨⟨⟨%f10, %f11, %f12, %f13, %hI, S0, S1, S2, S3⟩, Hg⟩, HO, H1, H2, H3, H4, H5, H6, H7, ⟨%d8, H8⟩, ⟨%d9, H9⟩⟩
  have hw := h c t ⟨d8, d9, f10, f11, f12, f13⟩ hI
  unfold W R at hw
  iapply (wp_wand frame) $$ [H1 H2 H3 H4 H5 H6 H7 H8 H9 S0 S1 S2 S3]
  · iapply hw
    iframe H1 H2 H3 H4 H5 H6 H7 H8 H9
    isplitl [S0]; · iexact S0
    isplitl [S1]; · iexact S1
    isplitl [S2]; · iexact S2
    iexact S3
  iintro %a ⟨%s', %hQ, H1, H2, H3, H4, H5, H6, H7, H8, H9, S0, S1, S2, S3⟩
  iframe H1 H2 H3 H4 H5 H6 H7 HO Hg
  isplitl [S0 S1 S2 S3]
  · iexists s'.s10, s'.s11, s'.s12, s'.s13
    isplitr
    · ipureintro; exact hQ.1
    isplitl [S0]; · iexact S0
    isplitl [S1]; · iexact S1
    isplitl [S2]; · iexact S2
    iexact S3
  isplitl [H8]
  · iexists s'.s8
    isplitr
    · ipureintro; exact hQ.2.1
    iexact H8
  · iexists s'.s9
    isplitr
    · ipureintro; exact hQ.2.2
    iexact H9

/-- The body table's row at the point. -/
theorem defs₀_row (t : Fin (cfg0 (F := F)).N) :
    defs₀ (F := F) .tc (cfg0 (F := F)).body ((cfg0 (F := F)).bodyArgs t ((cfg0 (F := F)).slots t)) = bodyAt0 t := by
  unfold defs₀; rw [Defs.onTc_tc]

/-- The body obligation. -/
theorem body_obligation (h : BodyRuns m K) (c : Dev nD) :
    BodyObligationRel (dats m K 0 c) (defs₀ (F := F)) 𝒱₀ () Set.univ outs (rel K c) := fun t => by
  rw [bigSep_W0, bigSep_W0, defs₀_row]
  refine triple_restated (sound_body h c t) rfl ?_ fun _ => ?_
  · unfold bodyPre
    show iprop((dats m K 0 c).Φ t.castSucc ∗ (dats m K 0 c).owesAt () t.castSucc
      ∗ (∃ d, owns (c : Thread nD τ) (memsAt (F := F) t).a1 fullShare ((dats m K 0 c).before 0 t d))
      ∗ (∃ d, owns (c : Thread nD τ) (memsAt (F := F) t).a2 fullShare ((dats m K 0 c).before 1 t d))
      ∗ (∃ d, owns (c : Thread nD τ) (memsAt (F := F) t).a3 fullShare ((dats m K 0 c).before 2 t d))
      ∗ (∃ d, owns (c : Thread nD τ) (memsAt (F := F) t).a4 fullShare ((dats m K 0 c).before 3 t d))
      ∗ (∃ d, owns (c : Thread nD τ) (memsAt (F := F) t).a5 fullShare ((dats m K 0 c).before 4 t d))
      ∗ (∃ d, owns (c : Thread nD τ) (memsAt (F := F) t).a6 fullShare ((dats m K 0 c).before 5 t d))
      ∗ (∃ d, owns (c : Thread nD τ) (memsAt (F := F) t).a7 fullShare ((dats m K 0 c).before 6 t d))
      ∗ (∃ Y, ⌜((dats m K 0 c).toRRel outs (rel K c)).Finds 7 t Y⌝ ∗ owns (c : Thread nD τ) (memsAt (F := F) t).a8 fullShare Y)
      ∗ (∃ Y, ⌜((dats m K 0 c).toRRel outs (rel K c)).Finds 8 t Y⌝ ∗ owns (c : Thread nD τ) (memsAt (F := F) t).a9 fullShare Y)) ⊢ _
    iintro ⟨HΦ, HO, ⟨%d1, H1⟩, ⟨%d2, H2⟩, ⟨%d3, H3⟩, ⟨%d4, H4⟩, ⟨%d5, H5⟩, ⟨%d6, H6⟩, ⟨%d7, H7⟩, ⟨%X8, -, H8⟩, ⟨%X9, -, H9⟩⟩
    rw [before0_eq, before1_eq, before2_eq, before3_eq, before4_eq, before5_eq, before6_eq]
    isplitl [HΦ]; · iexact HΦ
    isplitl [HO]; · iexact HO
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]
    · iexists X8; iexact H8
    · iexists X9; iexact H9
  · exact .rfl

set_option backward.isDefEq.respectTransparency.types false in
/-- The run of @main: every fair execution ends, the inputs unchanged, the outputs' blocks as asked, the semaphores at zero. -/
theorem run_main (h : BodyRuns m K) (h0 : ∀ c f10 f11 f12 f13, (K c).inv 0 f10 f11 f12 f13) :
    θ_run defs (onTc (τ := τ) (main (F := F))) (s₀ m ρ)
      (fun r => RDat.FramePost (cfgs 0) (fun c => (dats m K 0 c).toRRel outs (rel K c)) (V m) r ∧ r.2.sem = fun _ => 0) :=
  RDat.θ_run_frame_track (Q' := _) cfgs (0 : Fin 1) launch0 defs₀ 𝒱₀ (fun c => (dats m K 0 c).toRRel outs (rel K c)) m ρ main
    (hbody := fun c => (body_obligation h c).toRRel) (hshare := fun c => (dats m K 0 c).share_full fun _ => rfl)
    (howed := fun _ _ => rfl) (V := V m) (hmain := hmain0 m) (hA := fun _ _ => rfl)
    (hin := fun c => by
      show Pipeline.ΦA spec0 c ⊢ iprop(scr K c 0 ∗ ∃ r, prngReg c r)
      unfold Pipeline.ΦA scr
      rw [scopedRest0_eq]
      iintro ⟨⟨⟨%f0, S0⟩, ⟨%f1, S1⟩, ⟨%f2, S2⟩, ⟨%f3, S3⟩⟩, Hg⟩
      iframe Hg
      simp only [owns_whole_eq]
      iexists f0, f1, f2, f3
      isplitr
      · ipureintro; exact h0 _ _ _ _ _
      isplitl [S0]; · iexists f0; isplitr; · (ipureintro; rfl)
                      iexact S0
      isplitl [S1]; · iexists f1; isplitr; · (ipureintro; rfl)
                      iexact S1
      isplitl [S2]; · iexists f2; isplitr; · (ipureintro; rfl)
                      iexact S2
      iexists f3; isplitr; · (ipureintro; rfl)
      iexact S3)
    (hout := fun c => by
      show iprop(scr K c _ ∗ ∃ r, prngReg c r) ⊢ Pipeline.ΦA spec0 c
      unfold Pipeline.ΦA scr
      rw [scopedRest0_eq]
      simp only [owns_whole_eq]
      iintro ⟨⟨%e0, %e1, %e2, %e3, -, ⟨%f0, -, S0⟩, ⟨%f1, -, S1⟩, ⟨%f2, -, S2⟩, ⟨%f3, -, S3⟩⟩, Hg⟩
      iframe Hg
      isplitl [S0]; · iexists f0; iexact S0
      isplitl [S1]; · iexists f1; iexact S1
      isplitl [S2]; · iexists f2; iexact S2
      iexists f3; iexact S3)

end Cert.Proof.KI
-- ==== Proof.KI.Body.lean ====
/-
  The body of `KernelIdeal` is defined from any contents of its buffers whose tables are good: every load and store is
  inside its buffer, every assumption holds, the loop over overflowing columns ends.
-/
module

public import proofs.«01_k».proof.Proof.KI.Checks
public import Mathlib.Data.Nat.Bitwise

@[expose] public section

noncomputable section

namespace Cert.Proof.KI

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable {c : Dev nD} {ms : Mems} {X : Ins F} {bd : Option ℕ}

/-- The call of the loop over overflowing columns, its body entered at a smaller variant. -/
theorem W_call1 {args : (Λ₀ F).Args 1} {Q : BitVec 32 → St F → Prop} {s : St F} (k : ℕ) (hk : ∀ u ∈ bd, k < u)
    (h : W c ms X (some k) (defs₀ (F := F) .tc 1 args) Q s) : W c ms X bd (Prog.lift (.call (1 : (Λ₀ F).Label) args)) Q s := by
  unfold W at h ⊢
  refine BIBase.Entails.trans ?_ (wp_call 𝒱₀ (c : Thread nD τ) bd Set.univ k hk)
  refine h.trans (wp_mono _ _ _ fun a => ?_)
  rw [wp_ret]
  iintro H
  imodintro
  iexact H

/-- A test. -/
theorem W_dite {α : Type} {p : Prop} {d : Decidable p} {t : p → Prog (TpuEff nD τ sig (Elt F) (Λ₀ F) .tc) α}
    {e : ¬ p → Prog (TpuEff nD τ sig (Elt F) (Λ₀ F) .tc) α} {Q : α → St F → Prop} {s : St F}
    (ht : ∀ h, W c ms X bd (t h) Q s) (he : ∀ h, W c ms X bd (e h) Q s) : W c ms X bd (if h : p then t h else e h) Q s := by
  by_cases h : p
  · rw [dif_pos h]; exact ht h
  · rw [dif_neg h]; exact he h

/-- Nothing asked. -/
abbrev tt {α : Type} : α → St F → Prop := fun _ _ => True

theorem t1_body_w (hG : Good X) (i : grid0.Coords) (h : k0_cond1 i = 1#1) (t : Fin k0_t1_loop.trips) (a : PUnit) (s : St F) :
    W c ms X bd (k0_t1_body i ms.a1 ms.h1 ms.a2 ms.h2 ms.a3 ms.h3 ms.a4 ms.h4 ms.a5 ms.h5 ms.a6 ms.h6 ms.a7 ms.h7 ms.a8 ms.h8 ms.a9 ms.h9 ms.a10 ms.h10 ms.a11 ms.h11 ms.a12 ms.h12 ms.a13 ms.h13 h t a) tt s := by
  delta k0_t1_body
  refine W_bind ?_
  rw [k0_part1_eq_skeleton]
  delta k0_part1_skel
  refine W_bind (W_load4 ?_)
  refine W_bind (W_load4 ?_)
  refine W_bind (W_load10 ?_)
  refine W_bind (W_store10 fun _ _ => ?_)
  refine W_bind (W_load4 ?_)
  refine W_bind (W_load4 ?_)
  refine W_pure ?_
  refine W_bind ?_
  rw [k0_part2_eq_skeleton]
  delta k0_part2_skel
  refine W_bind (W_load10 ?_)
  refine W_bind (W_store10 fun _ _ => ?_)
  refine W_bind (W_load4 ?_)
  refine W_bind (W_load4 ?_)
  refine W_bind (W_load10 ?_)
  refine W_bind (W_store10 fun _ _ => ?_)
  refine W_bind (W_load4 ?_)
  refine W_bind (W_load4 ?_)
  refine W_pure ?_
  refine W_bind ?_
  rw [k0_part3_eq_skeleton]
  delta k0_part3_skel
  refine W_bind (W_load10 ?_)
  refine W_bind (W_store10 fun _ _ => ?_)
  refine W_bind (W_load4 ?_)
  refine W_bind (W_load4 ?_)
  refine W_bind (W_load10 ?_)
  refine W_bind (W_store10 fun _ _ => ?_)
  refine W_bind (W_load4 ?_)
  refine W_bind (W_load4 ?_)
  refine W_pure ?_
  refine W_bind ?_
  rw [k0_part4_eq_skeleton]
  delta k0_part4_skel
  refine W_bind (W_load10 ?_)
  refine W_bind (W_store10 fun _ _ => ?_)
  refine W_bind (W_load4 ?_)
  refine W_bind (W_load4 ?_)
  refine W_bind (W_load10 ?_)
  refine W_bind (W_store10 fun _ _ => ?_)
  refine W_bind (W_load4 ?_)
  refine W_bind (W_load10 ?_)
  refine W_pure ?_
  refine W_bind (W_store10 fun _ _ => ?_)
  refine W_pure ?_
  trivial

theorem t3_body_w (hG : Good X) (i : grid0.Coords) (v6 : BitVec 32) (hw : k0_chk1 i v6) (h : k0_cond1 i = 1#1) (t2 : Fin k0_t2_loop.trips) (v42 : BitVec 32) (t : Fin k0_t3_loop.trips) (a : PUnit) (s : St F) :
    W c ms X bd (k0_t3_body i ms.a1 ms.h1 ms.a2 ms.h2 ms.a3 ms.h3 ms.a4 ms.h4 ms.a5 ms.h5 ms.a6 ms.h6 ms.a7 ms.h7 ms.a8 ms.h8 ms.a9 ms.h9 ms.a10 ms.h10 ms.a11 ms.h11 ms.a12 ms.h12 ms.a13 ms.h13 v6 hw h t2 v42 t a) tt s := by
  delta k0_t3_body
  refine W_bind ?_
  rw [k0_part5_eq_skeleton]
  delta k0_part5_skel
  refine W_bind (W_load5 ?_)
  refine W_bind (W_load13 ?_)
  refine W_bind (W_store13 fun _ _ => ?_)
  refine W_bind (W_load13 ?_)
  refine W_bind (W_store13 fun _ _ => ?_)
  refine W_bind (W_load13 ?_)
  refine W_bind (W_store13 fun _ _ => ?_)
  refine W_bind (W_load13 ?_)
  refine W_bind (W_store13 fun _ _ => ?_)
  refine W_pure ?_
  refine W_bind ?_
  rw [k0_part6_eq_skeleton]
  delta k0_part6_skel
  refine W_bind (W_load13 ?_)
  refine W_bind (W_store13 fun _ _ => ?_)
  refine W_bind (W_load13 ?_)
  refine W_bind (W_store13 fun _ _ => ?_)
  refine W_bind (W_load13 ?_)
  refine W_bind (W_store13 fun _ _ => ?_)
  refine W_bind (W_load13 ?_)
  refine W_bind (W_store13 fun _ _ => ?_)
  refine W_bind (W_load13 ?_)
  refine W_bind (W_store13 fun _ _ => ?_)
  refine W_pure ?_
  refine W_bind ?_
  rw [k0_part7_eq_skeleton]
  delta k0_part7_skel
  refine W_bind (W_load13 ?_)
  refine W_bind (W_store13 fun _ _ => ?_)
  refine W_bind (W_load13 ?_)
  refine W_bind (W_store13 fun _ _ => ?_)
  refine W_bind (W_load13 ?_)
  refine W_bind (W_store13 fun _ _ => ?_)
  refine W_bind (W_load13 ?_)
  refine W_bind (W_store13 fun _ _ => ?_)
  refine W_bind (W_load13 ?_)
  refine W_bind (W_store13 fun _ _ => ?_)
  refine W_bind (W_load13 ?_)
  refine W_pure ?_
  refine W_bind ?_
  rw [k0_part8_eq_skeleton]
  delta k0_part8_skel
  refine W_bind (W_store13 fun _ _ => ?_)
  refine W_bind (W_load13 ?_)
  refine W_bind (W_store13 fun _ _ => ?_)
  refine W_bind (W_load13 ?_)
  refine W_bind (W_store13 fun _ _ => ?_)
  refine W_bind (W_load13 ?_)
  refine W_bind (W_store13 fun _ _ => ?_)
  refine W_bind (W_load13 ?_)
  refine W_bind (W_store13 fun _ _ => ?_)
  refine W_bind (W_load13 ?_)
  refine W_bind (W_store13 fun _ _ => ?_)
  refine W_pure ?_
  refine W_bind ?_
  rw [k0_part9_eq_skeleton]
  delta k0_part9_skel
  refine W_bind (W_load13 ?_)
  refine W_bind (W_store13 fun _ _ => ?_)
  refine W_bind (W_load13 ?_)
  refine W_bind (W_store13 fun _ _ => ?_)
  refine W_bind (W_load13 ?_)
  refine W_bind (W_store13 fun _ _ => ?_)
  refine W_bind (W_load13 ?_)
  refine W_bind (W_store13 fun _ _ => ?_)
  refine W_bind (W_load13 ?_)
  refine W_bind (W_store13 fun _ _ => ?_)
  refine W_bind (W_load13 ?_)
  refine W_pure ?_
  refine W_bind ?_
  rw [k0_part10_eq_skeleton]
  delta k0_part10_skel
  refine W_bind (W_store13 fun _ _ => ?_)
  refine W_bind (W_load13 ?_)
  refine W_bind (W_store13 fun _ _ => ?_)
  refine W_bind (W_load13 ?_)
  refine W_bind (W_store13 fun _ _ => ?_)
  refine W_bind (W_load13 ?_)
  refine W_bind (W_store13 fun _ _ => ?_)
  refine W_bind (W_load13 ?_)
  refine W_bind (W_store13 fun _ _ => ?_)
  refine W_bind (W_load13 ?_)
  refine W_bind (W_store13 fun _ _ => ?_)
  refine W_pure ?_
  refine W_bind (W_load13 ?_)
  refine W_bind (W_store13 fun _ _ => ?_)
  refine W_bind (W_load13 ?_)
  refine W_bind (W_store13 fun _ _ => ?_)
  refine W_bind (W_load13 ?_)
  refine W_bind (W_store13 fun _ _ => ?_)
  refine W_pure ?_
  trivial

theorem t5_body_w (hG : Good X) (i : grid0.Coords) (v10 : BitVec 32) (hw : k0_chk2 i v10) (h : k0_cond2 i = 1#1) (t4 : Fin k0_t4_loop.trips) (v41 : BitVec 32) (t : Fin k0_t5_loop.trips) (a : PUnit) (s : St F) :
    W c ms X bd (k0_t5_body i ms.a1 ms.h1 ms.a2 ms.h2 ms.a3 ms.h3 ms.a4 ms.h4 ms.a5 ms.h5 ms.a6 ms.h6 ms.a7 ms.h7 ms.a8 ms.h8 ms.a9 ms.h9 ms.a10 ms.h10 ms.a11 ms.h11 ms.a12 ms.h12 ms.a13 ms.h13 v10 hw h t4 v41 t a) tt s := by
  delta k0_t5_body
  refine W_bind ?_
  rw [k0_part11_eq_skeleton]
  delta k0_part11_skel
  refine W_bind (W_load5 ?_)
  refine W_bind (W_load13 ?_)
  refine W_bind (W_store13 fun _ _ => ?_)
  refine W_bind (W_load13 ?_)
  refine W_bind (W_store13 fun _ _ => ?_)
  refine W_bind (W_load13 ?_)
  refine W_bind (W_store13 fun _ _ => ?_)
  refine W_bind (W_load13 ?_)
  refine W_bind (W_store13 fun _ _ => ?_)
  refine W_pure ?_
  refine W_bind ?_
  rw [k0_part12_eq_skeleton]
  delta k0_part12_skel
  refine W_bind (W_load13 ?_)
  refine W_bind (W_store13 fun _ _ => ?_)
  refine W_bind (W_load13 ?_)
  refine W_bind (W_store13 fun _ _ => ?_)
  refine W_bind (W_load13 ?_)
  refine W_bind (W_store13 fun _ _ => ?_)
  refine W_bind (W_load13 ?_)
  refine W_bind (W_store13 fun _ _ => ?_)
  refine W_bind (W_load13 ?_)
  refine W_bind (W_store13 fun _ _ => ?_)
  refine W_pure ?_
  refine W_bind ?_
  rw [k0_part13_eq_skeleton]
  delta k0_part13_skel
  refine W_bind (W_load13 ?_)
  refine W_bind (W_store13 fun _ _ => ?_)
  refine W_bind (W_load13 ?_)
  refine W_bind (W_store13 fun _ _ => ?_)
  refine W_bind (W_load13 ?_)
  refine W_bind (W_store13 fun _ _ => ?_)
  refine W_bind (W_load13 ?_)
  refine W_bind (W_store13 fun _ _ => ?_)
  refine W_bind (W_load13 ?_)
  refine W_bind (W_store13 fun _ _ => ?_)
  refine W_bind (W_load13 ?_)
  refine W_pure ?_
  refine W_bind ?_
  rw [k0_part14_eq_skeleton]
  delta k0_part14_skel
  refine W_bind (W_store13 fun _ _ => ?_)
  refine W_bind (W_load13 ?_)
  refine W_bind (W_store13 fun _ _ => ?_)
  refine W_bind (W_load13 ?_)
  refine W_bind (W_store13 fun _ _ => ?_)
  refine W_bind (W_load13 ?_)
  refine W_bind (W_store13 fun _ _ => ?_)
  refine W_bind (W_load13 ?_)
  refine W_bind (W_store13 fun _ _ => ?_)
  refine W_bind (W_load13 ?_)
  refine W_bind (W_store13 fun _ _ => ?_)
  refine W_pure ?_
  refine W_bind ?_
  rw [k0_part15_eq_skeleton]
  delta k0_part15_skel
  refine W_bind (W_load13 ?_)
  refine W_bind (W_store13 fun _ _ => ?_)
  refine W_bind (W_load13 ?_)
  refine W_bind (W_store13 fun _ _ => ?_)
  refine W_bind (W_load13 ?_)
  refine W_bind (W_store13 fun _ _ => ?_)
  refine W_bind (W_load13 ?_)
  refine W_bind (W_store13 fun _ _ => ?_)
  refine W_bind (W_load13 ?_)
  refine W_bind (W_store13 fun _ _ => ?_)
  refine W_bind (W_load13 ?_)
  refine W_pure ?_
  refine W_bind ?_
  rw [k0_part16_eq_skeleton]
  delta k0_part16_skel
  refine W_bind (W_store13 fun _ _ => ?_)
  refine W_bind (W_load13 ?_)
  refine W_bind (W_store13 fun _ _ => ?_)
  refine W_bind (W_load13 ?_)
  refine W_bind (W_store13 fun _ _ => ?_)
  refine W_bind (W_load13 ?_)
  refine W_bind (W_store13 fun _ _ => ?_)
  refine W_bind (W_load13 ?_)
  refine W_bind (W_store13 fun _ _ => ?_)
  refine W_bind (W_load13 ?_)
  refine W_bind (W_store13 fun _ _ => ?_)
  refine W_pure ?_
  refine W_bind (W_load13 ?_)
  refine W_bind (W_store13 fun _ _ => ?_)
  refine W_bind (W_load13 ?_)
  refine W_bind (W_store13 fun _ _ => ?_)
  refine W_bind (W_load13 ?_)
  refine W_bind (W_store13 fun _ _ => ?_)
  refine W_pure ?_
  trivial

theorem t6_body_w (hG : Good X) (i : grid0.Coords) (h : k0_cond2 i = 1#1) (t4 : Fin k0_t4_loop.trips) (v44 v46 : BitVec 32) (v47 : Vec F S8x128 .i32) (t : Fin k0_t6_loop.trips) (a : PUnit) (s : St F) :
    W c ms X bd (k0_t6_body i ms.a1 ms.h1 ms.a2 ms.h2 ms.a3 ms.h3 ms.a4 ms.h4 ms.a5 ms.h5 ms.a6 ms.h6 ms.a7 ms.h7 ms.a8 ms.h8 ms.a9 ms.h9 ms.a10 ms.h10 ms.a11 ms.h11 ms.a12 ms.h12 ms.a13 ms.h13 h t4 v44 v46 v47 t a) tt s := by
  delta k0_t6_body
  refine W_bind ?_
  rw [k0_part17_eq_skeleton]
  delta k0_part17_skel
  refine W_bind (W_load6 ?_)
  refine W_bind (W_load11 ?_)
  refine W_bind (W_store11 fun _ _ => ?_)
  refine W_pure ?_
  refine W_bind ?_
  rw [k0_part18_eq_skeleton]
  delta k0_part18_skel
  refine W_bind (W_load11 ?_)
  refine W_bind (W_store11 fun _ _ => ?_)
  refine W_pure ?_
  refine W_bind ?_
  rw [k0_part19_eq_skeleton]
  delta k0_part19_skel
  refine W_bind (W_load11 ?_)
  refine W_bind (W_store11 fun _ _ => ?_)
  refine W_pure ?_
  refine W_bind (W_load11 ?_)
  refine W_bind (W_store11 fun _ _ => ?_)
  refine W_pure ?_
  trivial

theorem t7_body_w (hG : Good X) (i : grid0.Coords) (h : k0_cond2 i = 1#1) (t4 : Fin k0_t4_loop.trips) (v44 v46 : BitVec 32) (v47 : Vec F S8x128 .i32) (t : Fin k0_t7_loop.trips) (a : PUnit) (s : St F) :
    W c ms X bd (k0_t7_body i ms.a1 ms.h1 ms.a2 ms.h2 ms.a3 ms.h3 ms.a4 ms.h4 ms.a5 ms.h5 ms.a6 ms.h6 ms.a7 ms.h7 ms.a8 ms.h8 ms.a9 ms.h9 ms.a10 ms.h10 ms.a11 ms.h11 ms.a12 ms.h12 ms.a13 ms.h13 h t4 v44 v46 v47 t a) tt s := by
  delta k0_t7_body
  refine W_bind ?_
  rw [k0_part20_eq_skeleton]
  delta k0_part20_skel
  refine W_bind (W_load6 ?_)
  refine W_bind (W_load11 ?_)
  refine W_bind (W_store11 fun _ _ => ?_)
  refine W_pure ?_
  refine W_bind ?_
  rw [k0_part21_eq_skeleton]
  delta k0_part21_skel
  refine W_bind (W_load11 ?_)
  refine W_bind (W_store11 fun _ _ => ?_)
  refine W_pure ?_
  refine W_bind ?_
  rw [k0_part22_eq_skeleton]
  delta k0_part22_skel
  refine W_bind (W_load11 ?_)
  refine W_bind (W_store11 fun _ _ => ?_)
  refine W_pure ?_
  refine W_bind (W_load11 ?_)
  refine W_bind (W_store11 fun _ _ => ?_)
  refine W_pure ?_
  trivial

theorem t8_body_w (hG : Good X) (i : grid0.Coords) (h : k0_cond2 i = 1#1) (t4 : Fin k0_t4_loop.trips) (v55 : BitVec 32) (t : Fin k0_t8_loop.trips) (a : BitVec 32) (hs : a.toNat ≤ 61931) (s : St F) :
    W c ms X bd (k0_t8_body i ms.a1 ms.h1 ms.a2 ms.h2 ms.a3 ms.h3 ms.a4 ms.h4 ms.a5 ms.h5 ms.a6 ms.h6 ms.a7 ms.h7 ms.a8 ms.h8 ms.a9 ms.h9 ms.a10 ms.h10 ms.a11 ms.h11 ms.a12 ms.h12 ms.a13 ms.h13 h t4 v55 t a) (fun b _ => (b : BitVec 32).toNat ≤ 61931) s := by
  delta k0_t8_body
  refine W_bind ?_
  rw [k0_part23_eq_skeleton]
  delta k0_part23_skel
  refine W_bind (W_assume (chk3 i _ hs) ?_)
  refine W_bind (W_smem1 ?_)
  refine W_bind (W_smem3s ?_)
  refine W_bind (W_assume (chk4 i _ (hG.dvd _) (hG.lt _)) ?_)
  refine W_bind (W_load13 ?_)
  refine W_bind (W_load10 ?_)
  refine W_bind (W_smem3s ?_)
  refine W_bind (W_assume (chk5 i _ (hG.dvd _) (hG.lt _)) ?_)
  refine W_bind (W_load13 ?_)
  refine W_bind (W_load10 ?_)
  refine W_pure ?_
  refine W_bind ?_
  rw [k0_part24_eq_skeleton]
  delta k0_part24_skel
  refine W_bind (W_smem3s ?_)
  refine W_bind (W_assume (chk6 i _ (hG.dvd _) (hG.lt _)) ?_)
  refine W_bind (W_load13 ?_)
  refine W_bind (W_load10 ?_)
  refine W_bind (W_smem3s ?_)
  refine W_bind (W_assume (chk7 i _ (hG.dvd _) (hG.lt _)) ?_)
  refine W_bind (W_load13 ?_)
  refine W_bind (W_load10 ?_)
  refine W_bind (W_smem3s ?_)
  refine W_bind (W_assume (chk8 i _ (hG.dvd _) (hG.lt _)) ?_)
  refine W_pure ?_
  refine W_bind ?_
  rw [k0_part25_eq_skeleton]
  delta k0_part25_skel
  refine W_bind (W_load13 ?_)
  refine W_bind (W_load10 ?_)
  refine W_bind (W_smem3s ?_)
  refine W_bind (W_assume (chk9 i _ (hG.dvd _) (hG.lt _)) ?_)
  refine W_bind (W_load13 ?_)
  refine W_bind (W_load10 ?_)
  refine W_bind (W_smem3s ?_)
  refine W_bind (W_assume (chk10 i _ (hG.dvd _) (hG.lt _)) ?_)
  refine W_bind (W_load13 ?_)
  refine W_pure ?_
  refine W_bind ?_
  rw [k0_part26_eq_skeleton]
  delta k0_part26_skel
  refine W_bind (W_load10 ?_)
  refine W_bind (W_smem3s ?_)
  refine W_bind (W_assume (chk11 i _ (hG.dvd _) (hG.lt _)) ?_)
  refine W_bind (W_load13 ?_)
  refine W_bind (W_load10 ?_)
  refine W_bind (W_smem3s ?_)
  refine W_bind (W_assume (chk12 i _ (hG.dvd _) (hG.lt _)) ?_)
  refine W_bind (W_load13 ?_)
  refine W_bind (W_load10 ?_)
  refine W_pure ?_
  refine W_bind ?_
  rw [k0_part27_eq_skeleton]
  delta k0_part27_skel
  refine W_bind (W_smem3s ?_)
  refine W_bind (W_assume (chk13 i _ (hG.dvd _) (hG.lt _)) ?_)
  refine W_bind (W_load13 ?_)
  refine W_bind (W_load10 ?_)
  refine W_bind (W_smem3s ?_)
  refine W_bind (W_assume (chk14 i _ (hG.dvd _) (hG.lt _)) ?_)
  refine W_bind (W_load13 ?_)
  refine W_bind (W_load10 ?_)
  refine W_bind (W_smem3s ?_)
  refine W_pure ?_
  refine W_bind (W_assume (chk15 i _ (hG.dvd _) (hG.lt _)) ?_)
  refine W_bind (W_load13 ?_)
  refine W_bind (W_load10 ?_)
  refine W_bind (W_load12 ?_)
  refine W_bind (W_store12 fun _ _ => ?_)
  refine W_pure ?_
  exact hG.le _

theorem t10_body_w (hG : Good X) (i : grid0.Coords) (v10 : BitVec 32) (hw : k0_chk2 i v10) (v11 v12 v14 v17 : BitVec 32) (h : k0_cond3 i = 1#1) (t9 : Fin k0_t9_loop.trips) (arg14 v105 : BitVec 32) (v110 : FVec F S128x128 .f32) (v143 : BitVec 32) (t : Fin k0_t10_loop.trips) (a : PUnit) (s : St F) :
    W c ms X bd (k0_t10_body i ms.a1 ms.h1 ms.a2 ms.h2 ms.a3 ms.h3 ms.a4 ms.h4 ms.a5 ms.h5 ms.a6 ms.h6 ms.a7 ms.h7 ms.a8 ms.h8 ms.a9 ms.h9 ms.a10 ms.h10 ms.a11 ms.h11 ms.a12 ms.h12 ms.a13 ms.h13 v10 hw v11 v12 v14 v17 h t9 arg14 v105 v110 v143 t a) tt s := by
  delta k0_t10_body
  refine W_bind ?_
  rw [k0_part28_eq_skeleton]
  delta k0_part28_skel
  refine W_bind (W_load5 ?_)
  refine W_bind (W_load13 ?_)
  refine W_bind (W_store13 fun _ _ => ?_)
  refine W_bind (W_load13 ?_)
  refine W_bind (W_store13 fun _ _ => ?_)
  refine W_bind (W_load13 ?_)
  refine W_bind (W_store13 fun _ _ => ?_)
  refine W_bind (W_load13 ?_)
  refine W_bind (W_store13 fun _ _ => ?_)
  refine W_pure ?_
  refine W_bind ?_
  rw [k0_part29_eq_skeleton]
  delta k0_part29_skel
  refine W_bind (W_load13 ?_)
  refine W_bind (W_store13 fun _ _ => ?_)
  refine W_bind (W_load13 ?_)
  refine W_bind (W_store13 fun _ _ => ?_)
  refine W_bind (W_load13 ?_)
  refine W_bind (W_store13 fun _ _ => ?_)
  refine W_bind (W_load13 ?_)
  refine W_bind (W_store13 fun _ _ => ?_)
  refine W_bind (W_load13 ?_)
  refine W_bind (W_store13 fun _ _ => ?_)
  refine W_pure ?_
  refine W_bind ?_
  rw [k0_part30_eq_skeleton]
  delta k0_part30_skel
  refine W_bind (W_load13 ?_)
  refine W_bind (W_store13 fun _ _ => ?_)
  refine W_bind (W_load13 ?_)
  refine W_bind (W_store13 fun _ _ => ?_)
  refine W_bind (W_load13 ?_)
  refine W_bind (W_store13 fun _ _ => ?_)
  refine W_bind (W_load13 ?_)
  refine W_bind (W_store13 fun _ _ => ?_)
  refine W_bind (W_load13 ?_)
  refine W_bind (W_store13 fun _ _ => ?_)
  refine W_bind (W_load13 ?_)
  refine W_pure ?_
  refine W_bind ?_
  rw [k0_part31_eq_skeleton]
  delta k0_part31_skel
  refine W_bind (W_store13 fun _ _ => ?_)
  refine W_bind (W_load13 ?_)
  refine W_bind (W_store13 fun _ _ => ?_)
  refine W_bind (W_load13 ?_)
  refine W_bind (W_store13 fun _ _ => ?_)
  refine W_bind (W_load13 ?_)
  refine W_bind (W_store13 fun _ _ => ?_)
  refine W_bind (W_load13 ?_)
  refine W_bind (W_store13 fun _ _ => ?_)
  refine W_bind (W_load13 ?_)
  refine W_bind (W_store13 fun _ _ => ?_)
  refine W_pure ?_
  refine W_bind ?_
  rw [k0_part32_eq_skeleton]
  delta k0_part32_skel
  refine W_bind (W_load13 ?_)
  refine W_bind (W_store13 fun _ _ => ?_)
  refine W_bind (W_load13 ?_)
  refine W_bind (W_store13 fun _ _ => ?_)
  refine W_bind (W_load13 ?_)
  refine W_bind (W_store13 fun _ _ => ?_)
  refine W_bind (W_load13 ?_)
  refine W_bind (W_store13 fun _ _ => ?_)
  refine W_bind (W_load13 ?_)
  refine W_bind (W_store13 fun _ _ => ?_)
  refine W_bind (W_load13 ?_)
  refine W_pure ?_
  refine W_bind ?_
  rw [k0_part33_eq_skeleton]
  delta k0_part33_skel
  refine W_bind (W_store13 fun _ _ => ?_)
  refine W_bind (W_load13 ?_)
  refine W_bind (W_store13 fun _ _ => ?_)
  refine W_bind (W_load13 ?_)
  refine W_bind (W_store13 fun _ _ => ?_)
  refine W_bind (W_load13 ?_)
  refine W_bind (W_store13 fun _ _ => ?_)
  refine W_bind (W_load13 ?_)
  refine W_bind (W_store13 fun _ _ => ?_)
  refine W_bind (W_load13 ?_)
  refine W_bind (W_store13 fun _ _ => ?_)
  refine W_pure ?_
  refine W_bind (W_load13 ?_)
  refine W_bind (W_store13 fun _ _ => ?_)
  refine W_bind (W_load13 ?_)
  refine W_bind (W_store13 fun _ _ => ?_)
  refine W_bind (W_load13 ?_)
  refine W_bind (W_store13 fun _ _ => ?_)
  refine W_pure ?_
  trivial

theorem t11_body_w (hG : Good X) (i : grid0.Coords) (h : k0_cond3 i = 1#1) (t9 : Fin k0_t9_loop.trips) (v146 v148 : BitVec 32) (v150 : IVec S8x128 32) (t : Fin k0_t11_loop.trips) (a : PUnit) (s : St F) :
    W c ms X bd (k0_t11_body i ms.a1 ms.h1 ms.a2 ms.h2 ms.a3 ms.h3 ms.a4 ms.h4 ms.a5 ms.h5 ms.a6 ms.h6 ms.a7 ms.h7 ms.a8 ms.h8 ms.a9 ms.h9 ms.a10 ms.h10 ms.a11 ms.h11 ms.a12 ms.h12 ms.a13 ms.h13 h t9 v146 v148 v150 t a) tt s := by
  delta k0_t11_body
  refine W_bind ?_
  rw [k0_part34_eq_skeleton]
  delta k0_part34_skel
  refine W_bind (W_load6 ?_)
  refine W_bind (W_load11 ?_)
  refine W_bind (W_store11 fun _ _ => ?_)
  refine W_pure ?_
  refine W_bind ?_
  rw [k0_part35_eq_skeleton]
  delta k0_part35_skel
  refine W_bind (W_load11 ?_)
  refine W_bind (W_store11 fun _ _ => ?_)
  refine W_pure ?_
  refine W_bind ?_
  rw [k0_part36_eq_skeleton]
  delta k0_part36_skel
  refine W_bind (W_load11 ?_)
  refine W_bind (W_store11 fun _ _ => ?_)
  refine W_pure ?_
  refine W_bind (W_load11 ?_)
  refine W_bind (W_store11 fun _ _ => ?_)
  refine W_pure ?_
  trivial

theorem t12_body_w (hG : Good X) (i : grid0.Coords) (h : k0_cond3 i = 1#1) (t9 : Fin k0_t9_loop.trips) (v146 v148 : BitVec 32) (v150 : IVec S8x128 32) (t : Fin k0_t12_loop.trips) (a : PUnit) (s : St F) :
    W c ms X bd (k0_t12_body i ms.a1 ms.h1 ms.a2 ms.h2 ms.a3 ms.h3 ms.a4 ms.h4 ms.a5 ms.h5 ms.a6 ms.h6 ms.a7 ms.h7 ms.a8 ms.h8 ms.a9 ms.h9 ms.a10 ms.h10 ms.a11 ms.h11 ms.a12 ms.h12 ms.a13 ms.h13 h t9 v146 v148 v150 t a) tt s := by
  delta k0_t12_body
  refine W_bind ?_
  rw [k0_part37_eq_skeleton]
  delta k0_part37_skel
  refine W_bind (W_load6 ?_)
  refine W_bind (W_load11 ?_)
  refine W_bind (W_store11 fun _ _ => ?_)
  refine W_pure ?_
  refine W_bind ?_
  rw [k0_part38_eq_skeleton]
  delta k0_part38_skel
  refine W_bind (W_load11 ?_)
  refine W_bind (W_store11 fun _ _ => ?_)
  refine W_pure ?_
  refine W_bind ?_
  rw [k0_part39_eq_skeleton]
  delta k0_part39_skel
  refine W_bind (W_load11 ?_)
  refine W_bind (W_store11 fun _ _ => ?_)
  refine W_pure ?_
  refine W_bind (W_load11 ?_)
  refine W_bind (W_store11 fun _ _ => ?_)
  refine W_pure ?_
  trivial

theorem t13_body_w (hG : Good X) (i : grid0.Coords) (h : k0_cond3 i = 1#1) (t9 : Fin k0_t9_loop.trips) (v157 : BitVec 32) (t : Fin k0_t13_loop.trips) (a : BitVec 32) (hs : a.toNat ≤ 61931) (s : St F) :
    W c ms X bd (k0_t13_body i ms.a1 ms.h1 ms.a2 ms.h2 ms.a3 ms.h3 ms.a4 ms.h4 ms.a5 ms.h5 ms.a6 ms.h6 ms.a7 ms.h7 ms.a8 ms.h8 ms.a9 ms.h9 ms.a10 ms.h10 ms.a11 ms.h11 ms.a12 ms.h12 ms.a13 ms.h13 h t9 v157 t a) (fun b _ => (b : BitVec 32).toNat ≤ 61931) s := by
  delta k0_t13_body
  refine W_bind ?_
  rw [k0_part40_eq_skeleton]
  delta k0_part40_skel
  refine W_bind (W_assume (chk16 i _ hs) ?_)
  refine W_bind (W_smem1 ?_)
  refine W_bind (W_smem3s ?_)
  refine W_bind (W_assume (chk17 i _ (hG.dvd _) (hG.lt _)) ?_)
  refine W_bind (W_load13 ?_)
  refine W_bind (W_load10 ?_)
  refine W_bind (W_smem3s ?_)
  refine W_bind (W_assume (chk18 i _ (hG.dvd _) (hG.lt _)) ?_)
  refine W_bind (W_load13 ?_)
  refine W_bind (W_load10 ?_)
  refine W_pure ?_
  refine W_bind ?_
  rw [k0_part41_eq_skeleton]
  delta k0_part41_skel
  refine W_bind (W_smem3s ?_)
  refine W_bind (W_assume (chk19 i _ (hG.dvd _) (hG.lt _)) ?_)
  refine W_bind (W_load13 ?_)
  refine W_bind (W_load10 ?_)
  refine W_bind (W_smem3s ?_)
  refine W_bind (W_assume (chk20 i _ (hG.dvd _) (hG.lt _)) ?_)
  refine W_bind (W_load13 ?_)
  refine W_bind (W_load10 ?_)
  refine W_bind (W_smem3s ?_)
  refine W_bind (W_assume (chk21 i _ (hG.dvd _) (hG.lt _)) ?_)
  refine W_pure ?_
  refine W_bind ?_
  rw [k0_part42_eq_skeleton]
  delta k0_part42_skel
  refine W_bind (W_load13 ?_)
  refine W_bind (W_load10 ?_)
  refine W_bind (W_smem3s ?_)
  refine W_bind (W_assume (chk22 i _ (hG.dvd _) (hG.lt _)) ?_)
  refine W_bind (W_load13 ?_)
  refine W_bind (W_load10 ?_)
  refine W_bind (W_smem3s ?_)
  refine W_bind (W_assume (chk23 i _ (hG.dvd _) (hG.lt _)) ?_)
  refine W_bind (W_load13 ?_)
  refine W_pure ?_
  refine W_bind ?_
  rw [k0_part43_eq_skeleton]
  delta k0_part43_skel
  refine W_bind (W_load10 ?_)
  refine W_bind (W_smem3s ?_)
  refine W_bind (W_assume (chk24 i _ (hG.dvd _) (hG.lt _)) ?_)
  refine W_bind (W_load13 ?_)
  refine W_bind (W_load10 ?_)
  refine W_bind (W_smem3s ?_)
  refine W_bind (W_assume (chk25 i _ (hG.dvd _) (hG.lt _)) ?_)
  refine W_bind (W_load13 ?_)
  refine W_bind (W_load10 ?_)
  refine W_pure ?_
  refine W_bind ?_
  rw [k0_part44_eq_skeleton]
  delta k0_part44_skel
  refine W_bind (W_smem3s ?_)
  refine W_bind (W_assume (chk26 i _ (hG.dvd _) (hG.lt _)) ?_)
  refine W_bind (W_load13 ?_)
  refine W_bind (W_load10 ?_)
  refine W_bind (W_smem3s ?_)
  refine W_bind (W_assume (chk27 i _ (hG.dvd _) (hG.lt _)) ?_)
  refine W_bind (W_load13 ?_)
  refine W_bind (W_load10 ?_)
  refine W_bind (W_smem3s ?_)
  refine W_pure ?_
  refine W_bind (W_assume (chk28 i _ (hG.dvd _) (hG.lt _)) ?_)
  refine W_bind (W_load13 ?_)
  refine W_bind (W_load10 ?_)
  refine W_bind (W_load12 ?_)
  refine W_bind (W_store12 fun _ _ => ?_)
  refine W_pure ?_
  exact hG.le _

theorem t18_body_w (hG : Good X) (i : grid0.Coords) (v6 v30 : BitVec 32) (h : k0_cond4 v6 v30 = 1#1) (t17 : Fin k0_t17_loop.trips) (v51 v56 : BitVec 32) (hw : k0_chk33 v6 v30 v51 v56) (t : Fin (k0_t18_loop v51 v56).trips) (a : PUnit) (s : St F) :
    W c ms X bd (k0_t18_body i ms.a1 ms.h1 ms.a2 ms.h2 ms.a3 ms.h3 ms.a4 ms.h4 ms.a5 ms.h5 ms.a6 ms.h6 ms.a7 ms.h7 ms.a8 ms.h8 ms.a9 ms.h9 ms.a10 ms.h10 ms.a11 ms.h11 ms.a12 ms.h12 ms.a13 ms.h13 v6 v30 h t17 v51 v56 hw t a) tt s := by
  delta k0_t18_body
  refine W_bind (W_load5 ?_)
  refine W_bind (W_smem3 ?_)
  refine W_bind (W_assume (chk34 _ _ _ (hG.dvd _) (hG.lt _)) ?_)
  refine W_bind (W_load10 ?_)
  refine W_bind (W_load12 ?_)
  refine W_bind (W_load12 ?_)
  refine W_bind (W_store12 fun _ _ => ?_)
  refine W_pure ?_
  trivial

theorem t19_body_w (hG : Good X) (i : grid0.Coords) (v6 v30 : BitVec 32) (h : k0_cond4 v6 v30 = 1#1) (t17 : Fin k0_t17_loop.trips) (v51 v56 : BitVec 32) (hw : k0_chk33 v6 v30 v51 v56) (t : Fin (k0_t19_loop v51 v56).trips) (a : PUnit) (s : St F) :
    W c ms X bd (k0_t19_body i ms.a1 ms.h1 ms.a2 ms.h2 ms.a3 ms.h3 ms.a4 ms.h4 ms.a5 ms.h5 ms.a6 ms.h6 ms.a7 ms.h7 ms.a8 ms.h8 ms.a9 ms.h9 ms.a10 ms.h10 ms.a11 ms.h11 ms.a12 ms.h12 ms.a13 ms.h13 v6 v30 h t17 v51 v56 hw t a) tt s := by
  delta k0_t19_body
  refine W_bind (W_load5 ?_)
  refine W_bind (W_smem3 ?_)
  refine W_bind (W_assume (chk35 _ _ _ (hG.dvd _) (hG.lt _)) ?_)
  refine W_bind (W_load10 ?_)
  refine W_bind (W_load12 ?_)
  refine W_bind (W_load12 ?_)
  refine W_bind (W_store12 fun _ _ => ?_)
  refine W_pure ?_
  trivial

theorem t2_body_w (hG : Good X) (i : grid0.Coords) (v6 : BitVec 32) (hw : k0_chk1 i v6) (v7 : BitVec 32) (h : k0_cond1 i = 1#1) (t : Fin k0_t2_loop.trips) (a : PUnit) (s : St F) :
    W c ms X bd (k0_t2_body i ms.a1 ms.h1 ms.a2 ms.h2 ms.a3 ms.h3 ms.a4 ms.h4 ms.a5 ms.h5 ms.a6 ms.h6 ms.a7 ms.h7 ms.a8 ms.h8 ms.a9 ms.h9 ms.a10 ms.h10 ms.a11 ms.h11 ms.a12 ms.h12 ms.a13 ms.h13 v6 hw v7 h t a) tt s := by
  delta k0_t2_body
  refine W_bind (W_for (fun _ _ _ => True) trivial ?_ ?_)
  · intro k _ s' _; exact t3_body_w hG i v6 hw h t _ k _ s'
  intro _ s _
  refine W_pure ?_
  trivial

theorem t4_body_w (hG : Good X) (i : grid0.Coords) (v0 v10 : BitVec 32) (hw : k0_chk2 i v10) (v11 v12 : BitVec 32) (h : k0_cond2 i = 1#1) (t : Fin k0_t4_loop.trips) (a : PUnit) (s : St F) :
    W c ms X bd (k0_t4_body i ms.a1 ms.h1 ms.a2 ms.h2 ms.a3 ms.h3 ms.a4 ms.h4 ms.a5 ms.h5 ms.a6 ms.h6 ms.a7 ms.h7 ms.a8 ms.h8 ms.a9 ms.h9 ms.a10 ms.h10 ms.a11 ms.h11 ms.a12 ms.h12 ms.a13 ms.h13 v0 v10 hw v11 v12 h t a) tt s := by
  delta k0_t4_body
  refine W_bind (W_for (fun _ _ _ => True) trivial ?_ ?_)
  · intro k _ s' _; exact t5_body_w hG i v10 hw h t _ k _ s'
  intro _ s _
  refine W_bind (W_load7 ?_)
  refine W_bind (W_for (fun _ _ _ => True) trivial ?_ ?_)
  · intro k _ s' _; exact t6_body_w hG i h t _ _ _ k _ s'
  intro _ s _
  refine W_bind (W_load7 ?_)
  refine W_bind (W_for (fun _ _ _ => True) trivial ?_ ?_)
  · intro k _ s' _; exact t7_body_w hG i h t _ _ _ k _ s'
  intro _ s _
  refine W_bind (W_smem1 ?_)
  refine W_bind (W_for (fun _ (b : BitVec 32) _ => b.toNat ≤ 61931) (hG.le _) ?_ ?_)
  · intro k b s' hb; exact t8_body_w hG i h t _ k b hb s'
  intro _ s _
  refine W_pure ?_
  trivial

theorem t9_body_w (hG : Good X) (i : grid0.Coords) (v0 v10 : BitVec 32) (hw : k0_chk2 i v10) (v11 v12 v14 v17 : BitVec 32) (h : k0_cond3 i = 1#1) (t : Fin k0_t9_loop.trips) (a : PUnit) (s : St F) :
    W c ms X bd (k0_t9_body i ms.a1 ms.h1 ms.a2 ms.h2 ms.a3 ms.h3 ms.a4 ms.h4 ms.a5 ms.h5 ms.a6 ms.h6 ms.a7 ms.h7 ms.a8 ms.h8 ms.a9 ms.h9 ms.a10 ms.h10 ms.a11 ms.h11 ms.a12 ms.h12 ms.a13 ms.h13 v0 v10 hw v11 v12 v14 v17 h t a) tt s := by
  delta k0_t9_body
  refine W_bind ?_
  rw [k0_part45_eq_skeleton]
  delta k0_part45_skel
  refine W_bind (W_load12 ?_)
  refine W_bind (W_load9 ?_)
  refine W_bind (W_store9 fun _ _ => ?_)
  refine W_bind (W_load12 ?_)
  refine W_bind (W_load9 ?_)
  refine W_bind (W_store9 fun _ _ => ?_)
  refine W_bind (W_load12 ?_)
  refine W_bind (W_load9 ?_)
  refine W_bind (W_store9 fun _ _ => ?_)
  refine W_pure ?_
  refine W_bind ?_
  rw [k0_part46_eq_skeleton]
  delta k0_part46_skel
  refine W_bind (W_load12 ?_)
  refine W_bind (W_load9 ?_)
  refine W_bind (W_store9 fun _ _ => ?_)
  refine W_bind (W_load12 ?_)
  refine W_bind (W_load9 ?_)
  refine W_bind (W_store9 fun _ _ => ?_)
  refine W_bind (W_load12 ?_)
  refine W_bind (W_load9 ?_)
  refine W_bind (W_store9 fun _ _ => ?_)
  refine W_bind (W_load12 ?_)
  refine W_pure ?_
  refine W_bind ?_
  rw [k0_part47_eq_skeleton]
  delta k0_part47_skel
  refine W_bind (W_load9 ?_)
  refine W_bind (W_store9 fun _ _ => ?_)
  refine W_bind (W_load12 ?_)
  refine W_bind (W_load9 ?_)
  refine W_bind (W_store9 fun _ _ => ?_)
  refine W_bind (W_load11 ?_)
  refine W_bind (W_load4 ?_)
  refine W_bind (W_load9 ?_)
  refine W_bind (W_load8 ?_)
  refine W_bind (W_store8 fun _ _ => ?_)
  refine W_bind (W_for (fun _ _ _ => True) trivial ?_ ?_)
  · intro k _ s' _; exact t10_body_w hG i v10 hw v11 v12 v14 v17 h t _ _ _ _ k _ s'
  intro _ s _
  refine W_bind (W_load7 ?_)
  refine W_pure ?_
  refine W_bind (W_for (fun _ _ _ => True) trivial ?_ ?_)
  · intro k _ s' _; exact t11_body_w hG i h t _ _ _ k _ s'
  intro _ s _
  refine W_bind (W_load7 ?_)
  refine W_bind (W_for (fun _ _ _ => True) trivial ?_ ?_)
  · intro k _ s' _; exact t12_body_w hG i h t _ _ _ k _ s'
  intro _ s _
  refine W_bind (W_smem1 ?_)
  refine W_bind (W_for (fun _ (b : BitVec 32) _ => b.toNat ≤ 61931) (hG.le _) ?_ ?_)
  · intro k b s' hb; exact t13_body_w hG i h t _ k b hb s'
  intro _ s _
  refine W_pure ?_
  trivial

theorem t17_body_w (hG : Good X) (i : grid0.Coords) (v6 v30 : BitVec 32) (h : k0_cond4 v6 v30 = 1#1) (t : Fin k0_t17_loop.trips) (a : PUnit) (s : St F) :
    W c ms X bd (k0_t17_body i ms.a1 ms.h1 ms.a2 ms.h2 ms.a3 ms.h3 ms.a4 ms.h4 ms.a5 ms.h5 ms.a6 ms.h6 ms.a7 ms.h7 ms.a8 ms.h8 ms.a9 ms.h9 ms.a10 ms.h10 ms.a11 ms.h11 ms.a12 ms.h12 ms.a13 ms.h13 v6 v30 h t a) tt s := by
  delta k0_t17_body
  refine W_bind (W_load12 ?_)
  refine W_bind (W_store12 fun _ _ => ?_)
  refine W_bind (W_smem1 ?_)
  refine W_bind (W_smem1 ?_)
  refine W_bind (W_assume (chk33 _ _ _ _ (hG.le _) (hG.le _)) ?_)
  refine W_bind (W_for (fun _ _ _ => True) trivial ?_ ?_)
  · intro k _ s' _; exact t18_body_w hG i v6 v30 h t _ _ _ k _ s'
  intro _ s _
  refine W_bind (W_for (fun _ _ _ => True) trivial ?_ ?_)
  · intro k _ s' _; exact t19_body_w hG i v6 v30 h t _ _ _ k _ s'
  intro _ s _
  refine W_pure ?_
  trivial

/-- A positive number's bit at its logarithm is set. -/
theorem testBit_log2 {n : ℕ} (h : n ≠ 0) : n.testBit n.log2 = true := by
  rw [Nat.testBit_eq_decide_div_mod_eq]
  have h1 := Nat.log2_self_le h
  have h2 := Nat.lt_log2_self (n := n)
  rw [Nat.pow_succ] at h2
  have e : n / 2 ^ n.log2 = 1 := Nat.div_eq_of_lt_le (by omega) (by omega)
  rw [e]; rfl
/-- Clearing the highest set bit makes the word smaller. -/
theorem clear_lt (x : BitVec 32) (hx : x ≠ 0#32) :
    (Scalar.xori x (Scalar.shli 1#32 (Scalar.subi 31#32 (Scalar.ctlz x)))).toNat < x.toNat := by
  have h0 : x.toNat ≠ 0 := fun h => hx (BitVec.eq_of_toNat_eq (by simpa using h))
  have hl := log2_lt x hx
  have e := tn_ctlz x hx
  generalize Scalar.subi 31#32 (Scalar.ctlz x) = y at e
  have e2 : (Scalar.shli 1#32 y).toNat = 2 ^ Nat.log2 x.toNat := by
    show (IntOp.shli .scalar 1#32 y).toNat = _
    unfold IntOp.shli
    rw [if_pos (by omega), BitVec.shiftLeft_eq', BitVec.toNat_shiftLeft, e, Nat.shiftLeft_eq]
    show 1 * _ % 2 ^ 32 = _
    rw [one_mul, Nat.mod_eq_of_lt (Nat.pow_lt_pow_right (by decide) hl)]
  show (x ^^^ Scalar.shli 1#32 y).toNat < _
  rw [BitVec.toNat_xor, e2]
  refine Nat.lt_of_testBit (Nat.log2 x.toNat) ?_ ?_ ?_
  · rw [Nat.testBit_xor, Nat.testBit_two_pow_self, testBit_log2 h0]; rfl
  · exact testBit_log2 h0
  · intro j hj
    rw [Nat.testBit_xor, Nat.testBit_two_pow_of_ne (by omega)]; simp

theorem while_w (hG : Good X) (i : grid0.Coords) (v6 : BitVec 32) (hw1 : k0_chk1 i v6) (v10 : BitVec 32) (hw2 : k0_chk2 i v10)
    (t : Fin k0_t14_loop.trips) : ∀ (n : ℕ) (x : BitVec 32) (_ : x.toNat = n) (bd : Option ℕ) (_ : ∀ u ∈ bd, n < u) (s : St F),
    W c ms X bd (Prog.lift (.call (1 : (Λ₀ F).Label) ⟨i, v6, hw1, v10, hw2, t, ms.a1, ms.h1, ms.a13, ms.h13, ms.a3, ms.h3, ms.a10, ms.h10, ms.a12, ms.h12, x⟩)) tt s := by
  intro n
  induction n using Nat.strong_induction_on with
  | _ n ih =>
  intro x hxn bd hbd s
  refine W_call1 n hbd ?_
  show W c ms X (some n) (cc0_while1 i v6 hw1 v10 hw2 t ms.a1 ms.h1 ms.a13 ms.h13 ms.a3 ms.h3 ms.a10 ms.h10 ms.a12 ms.h12 x) tt s
  rw [cc0_while1_eq_skeleton]
  delta cc0_while1_skel
  by_cases hx : x = 0#32
  · subst hx
    exact W_pure trivial
  have hc : Scalar.cmpi .ne x 0#32 = 1#1 := by
    show BitVec.ofBool (x != 0#32) = 1#1
    rw [bne_iff_ne.2 hx]; rfl
  show W c ms X (some n) (if Scalar.cmpi .ne x 0#32 = 1#1 then _ else _) tt s
  rw [if_pos hc]
  refine W_bind (W_assume (chk29 i _ _ hx) ?_)
  refine W_bind (W_smem1 ?_)
  refine W_bind (W_smem1 ?_)
  refine W_bind (W_assume (chk30 i _ _ _ _ hx (hG.le _) (hG.le _)) ?_)
  refine W_bind (W_for (fun _ _ _ => True) trivial (fun k _ s' _ => ?_) fun _ s _ => ?_)
  · refine W_bind (W_load13 ?_)
    refine W_bind (W_smem3 ?_)
    refine W_bind (W_assume (chk31 _ (hG.dvd _) (hG.lt _)) ?_)
    refine W_bind (W_load10 ?_)
    refine W_bind (W_load12 ?_)
    refine W_bind (W_load12 ?_)
    refine W_bind (W_store12 fun _ _ => ?_)
    exact W_pure trivial
  refine W_bind (W_for (fun _ _ _ => True) trivial (fun k _ s' _ => ?_) fun _ s _ => ?_)
  · refine W_bind (W_load13 ?_)
    refine W_bind (W_smem3 ?_)
    refine W_bind (W_assume (chk32 _ (hG.dvd _) (hG.lt _)) ?_)
    refine W_bind (W_load10 ?_)
    refine W_bind (W_load12 ?_)
    refine W_bind (W_load12 ?_)
    refine W_bind (W_store12 fun _ _ => ?_)
    exact W_pure trivial
  have hlt := clear_lt x hx
  exact ih _ (hxn ▸ hlt) _ rfl (some n) (fun u hu => by cases hu; exact hxn ▸ hlt) s

theorem t14_body_w (hG : Good X) (i : grid0.Coords) (v6 : BitVec 32) (hw1 : k0_chk1 i v6) (v10 : BitVec 32) (hw2 : k0_chk2 i v10) (v34 : BitVec 1)
    (t : Fin k0_t14_loop.trips) (a : PUnit) (s : St F) :
    W c ms X none (k0_t14_body i ms.a1 ms.h1 ms.a2 ms.h2 ms.a3 ms.h3 ms.a4 ms.h4 ms.a5 ms.h5 ms.a6 ms.h6 ms.a7 ms.h7 ms.a8 ms.h8 ms.a9 ms.h9 ms.a10 ms.h10 ms.a11 ms.h11 ms.a12 ms.h12 ms.a13 ms.h13 v6 hw1 v10 hw2 v34 t a) tt s := by
  delta k0_t14_body
  refine W_bind (W_smem2 ?_)
  refine W_bind (F := F) ?_
  refine W_mono (while_w hG i v6 hw1 v10 hw2 t _ _ rfl none (fun u hu => nomatch hu) s) fun _ _ _ => ?_
  exact W_pure trivial

end Cert.Proof.KI
-- ==== Proof.KI.Top.lean ====
/-
  The body of `KernelIdeal`, put together from its loops.
-/
module

public import proofs.«01_k».proof.Proof.KI.Body

@[expose] public section

noncomputable section

namespace Cert.Proof.KI

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable {c : Dev nD} {ms : Mems} {X : Ins F} {bd : Option ℕ}

/-- The body runs. -/
theorem body_w (hG : Good X) (i : grid0.Coords) (s : St F) : W c ms X none (cc0_lut4_csr_linear (F := F) i ms.a1 ms.h1 ms.a2 ms.h2 ms.a3 ms.h3 ms.a4 ms.h4 ms.a5 ms.h5 ms.a6 ms.h6 ms.a7 ms.h7 ms.a8 ms.h8 ms.a9 ms.h9 ms.a10 ms.h10 ms.a11 ms.h11 ms.a12 ms.h12 ms.a13 ms.h13) tt s := by
  rw [cc0_lut4_csr_linear_eq_skeleton]
  delta cc0_lut4_csr_linear_skel
  refine W_bind (F := F) ?_
  refine W_mono (Q := fun _ _ => True) ?_ (fun a s _ => ?_)
  swap
  · obtain ⟨v0, v6, hw1, v7, v10, hw2, v15, v30, v40⟩ := a
    extract_lets j0 v31 v32 v33 v34
    refine W_bind (W_for (fun _ _ _ => True) trivial ?_ ?_)
    · intro k _ s' _; exact t14_body_w hG i _ hw1 _ hw2 _ k _ s'
    intro _ s _
    refine W_dite (fun h => ?_) (fun h => ?_)
    · refine W_bind (W_for (fun _ _ _ => True) trivial ?_ ?_)
      · intro k _ s' _; exact t17_body_w hG i _ _ h k _ s'
      intro _ s _
      exact W_pure trivial
    · exact W_pure trivial
  rw [k0_part48_eq_skeleton]
  delta k0_part48_skel
  refine W_bind (W_smem1 ?_)
  refine W_bind (W_assume (chk1 i _ (hG.le _)) ?_)
  refine W_bind (W_smem1 ?_)
  refine W_bind (W_assume (chk2 i _ (hG.le _)) ?_)
  extract_lets hw2 v11 v12 v13 v14 v15 v16 j3 j2 j1
  have h3 : ∀ s, W c ms X none (j3 ⟨⟩) tt s := fun s => W_bind (W_smem1 (W_pure trivial))
  have h2 : ∀ s, W c ms X none (j2 ⟨⟩) tt s := fun s => by
    refine W_dite (fun h => ?_) (fun h => ?_)
    · refine W_bind (W_for (fun _ _ _ => True) trivial ?_ ?_)
      · intro k _ s' _; exact t9_body_w hG i _ _ _ _ _ _ _ h k _ s'
      intro _ s _
      exact h3 s
    · exact h3 s
  have h1 : ∀ s, W c ms X none (j1 ⟨⟩) tt s := fun s => by
    refine W_dite (fun h => ?_) (fun h => ?_)
    · refine W_bind (W_for (fun _ _ _ => True) trivial ?_ ?_)
      · intro k _ s' _; exact t4_body_w hG i _ _ _ _ _ h k _ s'
      intro _ s _
      exact h2 s
    · exact h2 s
  refine W_dite (fun h => ?_) (fun h => ?_)
  · refine W_bind (W_for (fun _ _ _ => True) trivial ?_ ?_)
    · intro k _ s' _; exact t1_body_w hG i h k _ s'
    intro _ s _
    refine W_bind (W_for (fun _ _ _ => True) trivial ?_ ?_)
    · intro k _ s' _; exact t2_body_w hG i _ _ _ h k _ s'
    intro _ s _
    exact h1 s
  · exact h1 s

end Cert.Proof.KI
-- ==== Proof.KI.Host.lean ====
/-
  The contents the host operations leave for the region of `KernelIdeal`, the tables the precondition gives the body, and
  the frame.
-/
module

public import proofs.«01_k».proof.Proof.KI.Run
public import proofs.«01_k».proof.Proof.KI.Top
public import proofs.«01_k».proof.Proof.Pre
public import Idealize.ShloMosaic.Lib.KernelVsHost

@[expose] public section

noncomputable section

namespace Cert.Proof.KI

open Cert.KernelIdeal Cert.KernelIdeal.Gen
open Idealize.ShloMosaic
open Idealize.ShloMosaic.TcCoe Idealize.ShloMosaic.Tactic
open Idealize.ShloMosaic.StableHlo
open Idealize.ShloMosaic.Pipeline (Dat RDat)
open Idealize.SL.Sem

variable {F : FTy → Type} [FloatOps F]
variable (m : (ℓ : Loc nD τ sig) → Buf (Elt F) ℓ) (ρ : Dev nD → PrngReg)

theorem V_arg0 (c : Dev nD) : V m c main_arg0 = m ((c.tc : Thread nD τ).loc main_arg0) := by
  rw [V_def]
  simp only [hostAll, List.flatten_cons, List.flatten_nil, List.cons_append, List.nil_append, List.append_nil, hostOps0,
    hostOps0_1, hostOps0_2, hostOps0_3, hostOps0_4, TRef.unary, TRef.binary, TRef.toBuf, TRef.ofBuf, cast_eq]
  after_results_simp <;> rfl

theorem V_arg1 (c : Dev nD) : V m c main_arg1 = m ((c.tc : Thread nD τ).loc main_arg1) := by
  rw [V_def]
  simp only [hostAll, List.flatten_cons, List.flatten_nil, List.cons_append, List.nil_append, List.append_nil, hostOps0,
    hostOps0_1, hostOps0_2, hostOps0_3, hostOps0_4, TRef.unary, TRef.binary, TRef.toBuf, TRef.ofBuf, cast_eq]
  after_results_simp <;> rfl

theorem V_arg2 (c : Dev nD) : V m c main_arg2 = m ((c.tc : Thread nD τ).loc main_arg2) := by
  rw [V_def]
  simp only [hostAll, List.flatten_cons, List.flatten_nil, List.cons_append, List.nil_append, List.append_nil, hostOps0,
    hostOps0_1, hostOps0_2, hostOps0_3, hostOps0_4, TRef.unary, TRef.binary, TRef.toBuf, TRef.ofBuf, cast_eq]
  after_results_simp <;> rfl

theorem V_arg3 (c : Dev nD) : V m c main_arg3 = m ((c.tc : Thread nD τ).loc main_arg3) := by
  rw [V_def]
  simp only [hostAll, List.flatten_cons, List.flatten_nil, List.cons_append, List.nil_append, List.append_nil, hostOps0,
    hostOps0_1, hostOps0_2, hostOps0_3, hostOps0_4, TRef.unary, TRef.binary, TRef.toBuf, TRef.ofBuf, cast_eq]
  after_results_simp <;> rfl

theorem V_arg4 (c : Dev nD) : V m c main_arg4 = m ((c.tc : Thread nD τ).loc main_arg4) := by
  rw [V_def]
  simp only [hostAll, List.flatten_cons, List.flatten_nil, List.cons_append, List.nil_append, List.append_nil, hostOps0,
    hostOps0_1, hostOps0_2, hostOps0_3, hostOps0_4, TRef.unary, TRef.binary, TRef.toBuf, TRef.ofBuf, cast_eq]
  after_results_simp <;> rfl

theorem V_arg5 (c : Dev nD) : V m c main_arg5 = m ((c.tc : Thread nD τ).loc main_arg5) := by
  rw [V_def]
  simp only [hostAll, List.flatten_cons, List.flatten_nil, List.cons_append, List.nil_append, List.append_nil, hostOps0,
    hostOps0_1, hostOps0_2, hostOps0_3, hostOps0_4, TRef.unary, TRef.binary, TRef.toBuf, TRef.ofBuf, cast_eq]
  after_results_simp <;> rfl

theorem V_v3 (c : Dev nD) : V m c main_v3 = pad S65024 ![0] ![3093] ![0]
    (muli (m ((c.tc : Thread nD τ).loc main_arg4)) (broadcastInDim S61931 ![] bcast_S_S61931 (constantI S_ 32 8#32)))
    (constantI S_ 32 0#32) pads_S61931_S65024_030930 h_S_ := by
  rw [V_def]
  simp only [hostAll, List.flatten_cons, List.flatten_nil, List.cons_append, List.nil_append, List.append_nil, hostOps0,
    hostOps0_1, hostOps0_2, hostOps0_3, hostOps0_4, TRef.unary, TRef.binary, TRef.toBuf, TRef.ofBuf, cast_eq]
  after_results_simp <;> rfl

/-- The tables of a run whose arguments satisfy the precondition are what the body needs. -/
theorem good_insAt (c : Dev nD) (t : Fin (cfg0 (F := F)).N)
    (h : Tables (m ((c.tc : Thread nD τ).loc main_arg3)) (m ((c.tc : Thread nD τ).loc main_arg4))) : Good (insAt m c t) := by
  have hx3 : ∀ i : S65024.Idx, (V m c main_v3 i : BitVec 32).toNat = 0
      ∨ ∃ j : S61931.Idx, (V m c main_v3 i : BitVec 32).toNat = 8 * (m ((c.tc : Thread nD τ).loc main_arg4) j : BitVec 32).toNat := fun i => by
    rw [V_v3]
    by_cases hi : (i 0).val < 61931
    · right
      refine ⟨fun a => ⟨(i 0).val, by fin_cases a; exact hi⟩, ?_⟩
      rw [pad_apply_of_inside _ _ _ _ _ _ _ i (fun a => ⟨(i 0).val, by fin_cases a; exact hi⟩)
        (fun a => by fin_cases a; show (i 0).val = 0 + (i 0).val * (0 + 1); omega)]
      have := h.col_lt (fun a => ⟨(i 0).val, by fin_cases a; exact hi⟩)
      show (_ * 8#32 : BitVec 32).toNat = _
      rw [BitVec.toNat_mul, Nat.mod_eq_of_lt, Nat.mul_comm]
      · rfl
      · have : ∀ x : BitVec 32, x.toNat < 1536 → x.toNat * (8#32).toNat < 2 ^ 32 := fun x hx => by
          rw [show (8#32).toNat = 8 from rfl]; omega
        exact this _ (h.col_lt _)
    · left
      rw [pad_apply_of_not_inside _ _ _ _ _ _ _ i 0 (fun hh => hi (by
        have : ((i 0).val - 0) / (0 + 1) < 61931 := hh.2.2
        rw [Nat.sub_zero, Nat.zero_add, Nat.div_one] at this; exact this))]
      rfl
  have h3 : ∀ i, 8 ∣ (V m c main_v3 i : BitVec 32).toNat ∧ (V m c main_v3 i : BitVec 32).toNat < 12288 := fun i => by
    rcases hx3 i with e | ⟨j, e⟩
    · rw [e]; exact ⟨Nat.dvd_zero _, by decide⟩
    · rw [e]; exact ⟨Nat.dvd_mul_right _ _, by have := h.col_lt j; omega⟩
  exact ⟨fun i => by
      show (V m c main_arg3 _ : BitVec 32).toNat ≤ 61931
      rw [V_arg3]; exact h.rp_le _,
    fun i => (h3 _).1, fun i => (h3 _).2⟩

/-- The tracking that says nothing. -/
def track0 : Track F := ⟨fun _ _ _ _ _ => True, fun _ _ => True, fun _ _ => True⟩

/-- At every grid point the body runs to its end. -/
theorem bodyRuns0 (h : ∀ c : Dev nD, Tables (m ((c.tc : Thread nD τ).loc main_arg3)) (m ((c.tc : Thread nD τ).loc main_arg4))) :
    BodyRuns m (fun _ => track0) := fun c t s _ =>
  W_mono (body_w (good_insAt m c t (h c)) _ s) fun _ _ _ => ⟨trivial, trivial, trivial⟩

/-- Every buffer the claims read keeps its contents in a run that ends as the launch says. -/
theorem args_kept (K : Dev nD → Track F) {r : PUnit × MemSt nD τ sig (Elt F)}
    (h : RDat.FramePost (cfgs 0) (fun c => (dats m K 0 c).toRRel outs (rel K c)) (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  ⟨((h c).2 main_arg0 (Pipeline.mem_restRefs_of main_arg0 (by decide) (fun w => (by decide : ∀ w : Fin 9, (spec0 w).arr.view.ref ≠ main_arg0) w))).trans (V_arg0 m c),
    (RDat.FramePost.arr_in h c 5 rfl).trans (V_arg1 m c),
    ((h c).2 main_arg2 (Pipeline.mem_restRefs_of main_arg2 (by decide) (fun w => (by decide : ∀ w : Fin 9, (spec0 w).arr.view.ref ≠ main_arg2) w))).trans (V_arg2 m c),
    (RDat.FramePost.arr_in h c 0 rfl).trans (V_arg3 m c),
    ((h c).2 main_arg4 (Pipeline.mem_restRefs_of main_arg4 (by decide) (fun w => (by decide : ∀ w : Fin 9, (spec0 w).arr.view.ref ≠ main_arg4) w))).trans (V_arg4 m c),
    ((h c).2 main_arg5 (Pipeline.mem_restRefs_of main_arg5 (by decide) (fun w => (by decide : ∀ w : Fin 9, (spec0 w).arr.view.ref ≠ main_arg5) w))).trans (V_arg5 m c)⟩

end Cert.Proof.KI
-- ==== Proof.S.Common.lean ====
/-
  Shared by the proofs about `Sparse`: the proof's resource algebra, the kernel body's seven buffers as one resource
  over a record of contents, and a small program logic over it (`W`): a run of a piece of the body from given contents ends
  in a value and contents satisfying a stated pure relation. One rule per operation of the body (a load of each buffer, a
  store to each written buffer, a loop by an invariant, sequencing).
-/
module

public import proofs.«01_k».proof.Sparse
public import Idealize.ShloMosaic.Lib.Pipeline.Sound
public import Idealize.ShloMosaic.Lib.Tactic
public import proofs.«01_k».proof.Proof.Gen.Sparse
public import proofs.«01_k».proof.Proof.Gen.Sparse.Skeleton
public import proofs.«01_k».proof.Proof.Gen.Sparse.Launch

@[expose] public section

noncomputable section

namespace Cert.Proof.S

open Cert.Sparse Cert.Sparse.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The pipelines' rounds: one component over the semaphores. -/
abbrev UR (nD : Nat) (τ : Topo) : Type := URounds (GSem nD τ sig) Unit

local notation "𝕄" => MT nD τ sig Unit (Elt F) ℕ (UR nD τ) ℕ

/-- No variants: the program calls no label. -/
abbrev 𝒱₀ : Variants := Variants.nat

/-- The kernel body's seven buffers. -/
structure Mems where
  a1 : Memref sig .tc .smem S8961 .i32
  h1 : a1.IsWhole
  a2 : Memref sig .tc .smem S65024 .i32
  h2 : a2.IsWhole
  a3 : Memref sig .tc .vmem S1920x1536 .i16
  h3 : a3.IsWhole
  a4 : Memref sig .tc .vmem S2032x32 .i32
  h4 : a4.IsWhole
  a5 : Memref sig .tc .vmem S1920x256 .f32
  h5 : a5.IsWhole
  a6 : Memref sig .tc .vmem S12288x128 .i32
  h6 : a6.IsWhole
  a7 : Memref sig .tc .vmem S8704x128 .f32
  h7 : a7.IsWhole

/-- The contents of the four buffers the body only reads. -/
@[ext] structure Ins (F : FTy → Type) where
  x1 : S8961.Idx → Elt F .i32
  x2 : S65024.Idx → Elt F .i32
  x3 : S1920x1536.Idx → Elt F .i16
  x4 : S2032x32.Idx → Elt F .i32

/-- The contents of the three buffers the body writes. -/
@[ext] structure St (F : FTy → Type) where
  s5 : S1920x256.Idx → Elt F .f32
  s6 : S12288x128.Idx → Elt F .i32
  s7 : S8704x128.Idx → Elt F .f32

/-- The contents with buffer 5 replaced. -/
def St.set5 (s : St F) (f : S1920x256.Idx → Elt F .f32) : St F := { s with s5 := f }
/-- The contents with buffer 6 replaced. -/
def St.set6 (s : St F) (f : S12288x128.Idx → Elt F .i32) : St F := { s with s6 := f }
/-- The contents with buffer 7 replaced. -/
def St.set7 (s : St F) (f : S8704x128.Idx → Elt F .f32) : St F := { s with s7 := f }
@[simp] theorem St.set5_s5 (s : St F) (f : S1920x256.Idx → Elt F .f32) : (s.set5 f).s5 = f := rfl
@[simp] theorem St.set5_s6 (s : St F) (f : S1920x256.Idx → Elt F .f32) : (s.set5 f).s6 = s.s6 := rfl
@[simp] theorem St.set5_s7 (s : St F) (f : S1920x256.Idx → Elt F .f32) : (s.set5 f).s7 = s.s7 := rfl
@[simp] theorem St.set6_s5 (s : St F) (f : S12288x128.Idx → Elt F .i32) : (s.set6 f).s5 = s.s5 := rfl
@[simp] theorem St.set6_s6 (s : St F) (f : S12288x128.Idx → Elt F .i32) : (s.set6 f).s6 = f := rfl
@[simp] theorem St.set6_s7 (s : St F) (f : S12288x128.Idx → Elt F .i32) : (s.set6 f).s7 = s.s7 := rfl
@[simp] theorem St.set7_s5 (s : St F) (f : S8704x128.Idx → Elt F .f32) : (s.set7 f).s5 = s.s5 := rfl
@[simp] theorem St.set7_s6 (s : St F) (f : S8704x128.Idx → Elt F .f32) : (s.set7 f).s6 = s.s6 := rfl
@[simp] theorem St.set7_s7 (s : St F) (f : S8704x128.Idx → Elt F .f32) : (s.set7 f).s7 = f := rfl

/-- All seven buffers held whole at the given contents. -/
def R (c : Dev nD) (ms : Mems) (X : Ins F) (s : St F) : sProp 𝕄 :=
  iprop(owns (c : Thread nD τ) ms.a1 fullShare X.x1
    ∗ owns (c : Thread nD τ) ms.a2 fullShare X.x2
    ∗ owns (c : Thread nD τ) ms.a3 fullShare X.x3
    ∗ owns (c : Thread nD τ) ms.a4 fullShare X.x4
    ∗ owns (c : Thread nD τ) ms.a5 fullShare s.s5
    ∗ owns (c : Thread nD τ) ms.a6 fullShare s.s6
    ∗ owns (c : Thread nD τ) ms.a7 fullShare s.s7)

/-- From contents `s` the program runs to a value and contents related by `Q`. -/
def W (c : Dev nD) (ms : Mems) (X : Ins F) (bd : Option ℕ) {α : Type} (p : Prog (TpuEff nD τ sig (Elt F) Λ₀ .tc) α)
    (Q : α → St F → Prop) (s : St F) : Prop :=
  (R c ms X s : sProp 𝕄) ⊢ wp frame (wpE (defs₀ (F := F)) 𝒱₀ (c : Thread nD τ) bd) Set.univ p
    (fun a => iprop(∃ s', ⌜Q a s'⌝ ∗ R c ms X s'))

/-- What a store of `w` through the rectangle `r` makes of contents `f`. -/
def Upd {s : Shape} {α : Type} (r : Rect s) (w : r.shape.Idx → α) (f f' : s.Idx → α) : Prop :=
  (∀ j, f' (r.emb j) = w j) ∧ ∀ i, (∀ j, r.emb j ≠ i) → f' i = f i

section Rules

variable {c : Dev nD} {ms : Mems} {X : Ins F} {bd : Option ℕ} {α β : Type}

theorem W_pure {a : α} {Q : α → St F → Prop} {s : St F} (h : Q a s) : W c ms X bd (pure a) Q s := by
  unfold W
  rw [Prog.pure_eq_ret, wp_ret]
  iintro H
  imodintro
  iexists s
  isplitr
  · ipureintro; exact h
  · iexact H

/-- Sequencing. -/
theorem W_bind {p : Prog (TpuEff nD τ sig (Elt F) Λ₀ .tc) α} {k : α → Prog (TpuEff nD τ sig (Elt F) Λ₀ .tc) β}
    {Q : β → St F → Prop} {s : St F} (h : W c ms X bd p (fun a s' => W c ms X bd (k a) Q s') s) :
    W c ms X bd (p >>= k) Q s := by
  unfold W at h ⊢
  rw [wp_bind]
  refine h.trans (wp_mono _ _ _ fun a => ?_)
  iintro ⟨%s', %h', H⟩
  iapply h'
  iexact H

/-- A stronger relation suffices. -/
theorem W_mono {p : Prog (TpuEff nD τ sig (Elt F) Λ₀ .tc) α} {Q Q' : α → St F → Prop} {s : St F}
    (h : W c ms X bd p Q s) (hQ : ∀ a s', Q a s' → Q' a s') : W c ms X bd p Q' s := by
  unfold W at h ⊢
  refine h.trans (wp_mono _ _ _ fun a => ?_)
  iintro ⟨%s', %h', H⟩
  iexists s'
  isplitr
  · ipureintro; exact hQ _ _ h'
  · iexact H

/-- A counted loop by an invariant of the trip, the carried value and the contents. -/
theorem W_for {w : Nat} {σ : Type} {l : Scf.Loop w} {hok : l.OK} {init : σ}
    {body : Fin l.trips → σ → Prog (TpuEff nD τ sig (Elt F) Λ₀ .tc) σ} {Q : σ → St F → Prop} {s : St F}
    (I : ℕ → σ → St F → Prop) (h0 : I 0 init s)
    (hstep : ∀ (k : Fin l.trips) (acc : σ) (s' : St F), I k.val acc s' → W c ms X bd (body k acc) (I (k.val + 1)) s')
    (hend : ∀ acc s', I l.trips acc s' → Q acc s') : W c ms X bd (Scf.Loop.for l hok init body) Q s := by
  unfold W
  refine BIBase.Entails.trans ?_ (Scf.wp_for frame (wpE (defs₀ (F := F)) 𝒱₀ (c : Thread nD τ) bd) Set.univ l.lb l.ub l.st hok init body
    (fun k acc => iprop(∃ s', ⌜I k acc s'⌝ ∗ R c ms X s')) ?_)
  · iintro H
    isplitl [H]
    · iexists s
      isplitr
      · ipureintro; exact h0
      · iexact H
    · iintro %acc ⟨%s', %h', H⟩
      iexists s'
      isplitr
      · ipureintro; exact hend _ _ h'
      · iexact H
  · intro k acc
    iintro ⟨%s', %h', H⟩
    have h'' := hstep k acc s' h'
    unfold W at h''
    iapply h''
    iexact H

theorem owns_load {cs : CoreSpace} {sh : Shape} {e : EltTy} {m : Memref sig .tc cs sh e} {r : LoadRect sh} {hl : m.view.LoadsAt r}
    {Y : sh.Idx → Elt F e} {K : (r.shape.Idx → Elt F e) → sProp 𝕄} :
    (owns (c : Thread nD τ) m fullShare Y : sProp 𝕄) ⊢ iprop((owns (c : Thread nD τ) m fullShare Y -∗ K (fun j => Y (r.idx j))) -∗
      wp frame (wpE (defs₀ (F := F)) 𝒱₀ (c : Thread nD τ) bd) Set.univ (Prog.lift (.load m r hl)) K) := by
  unfold owns
  iintro ⟨%f, %hf, H⟩ HK
  iapply (wp_load 𝒱₀ (c : Thread nD τ) bd Set.univ (m := m) (r := r) (hl := hl) (View.setOn_subset_set _ _)) $$ H
  iintro H
  rw [wp_ret]
  imodintro
  have e1 : m.view.readAt (Elt F) r f = fun j => Y (r.idx j) := by funext j; rw [View.readAt_apply, hf]
  rw [e1]
  iapply HK
  iexists f
  isplitr
  · ipureintro; exact hf
  · iexact H

theorem owns_store {sh : Shape} {e : EltTy} {m : Memref sig .tc .vmem sh e} {r : Rect sh} {w : r.shape.Idx → Elt F e}
    {hx : (m.access r).Stores Finset.univ} {hm : Finset.univ = Finset.univ ∨ ∀ a, r.stride a = 1}
    {Y : sh.Idx → Elt F e} {K : PUnit → sProp 𝕄} :
    (owns (c : Thread nD τ) m fullShare Y : sProp 𝕄) ⊢ iprop((∀ Y', ⌜Upd r w Y Y'⌝ -∗ owns (c : Thread nD τ) m fullShare Y' -∗ K ⟨⟩) -∗
      wp frame (wpE (defs₀ (F := F)) 𝒱₀ (c : Thread nD τ) bd) Set.univ (Prog.lift (.store m r w Finset.univ hx hm)) K) := by
  unfold owns
  iintro ⟨%f, %hf, H⟩ HK
  iapply (wp_store 𝒱₀ (c : Thread nD τ) bd Set.univ (m := m) (r := r) (w := w) (Mk := Finset.univ) (hx := hx) (hm := hm)
    (S := m.view.set) (by
      rw [show (m.access r).setOn Finset.univ = (Finset.univ.map r.emb).map m.view.emb from (Finset.map_map _ _ _).symm]
      exact Finset.map_subset_map.mpr (Finset.subset_univ _))) $$ H
  iintro H
  rw [wp_ret]
  imodintro
  iapply HK $$ %(m.view.read (Elt F) ((m.access r).write (Elt F) f w Finset.univ))
  · ipureintro
    refine ⟨fun j => ?_, fun i hi => ?_⟩
    · exact View.read_slice_write_emb (v := m.view) r f w (Finset.mem_univ j)
    · rw [← hf]
      refine View.read_slice_write_of_not_mem (v := m.view) r f w Finset.univ fun hmem => ?_
      obtain ⟨j, -, hj⟩ := Finset.mem_map.mp hmem
      exact hi j hj
  · iexists _
    isplitr
    · ipureintro; rfl
    · iexact H

theorem W_smem1 {r : Rect S8961} {h1 : r.shape.numel = 1} {hp : EltTy.packing .i32 = 1} {Q : Elt F .i32 → St F → Prop} {s : St F}
    (h : Q (X.x1 (r.point h1)) s) : W c ms X bd (smemLoad ms.a1 r h1 hp) Q s := by
  unfold W R
  iintro ⟨H1, H2, H3, H4, H5, H6, H7⟩
  unfold smemLoad smemLoadElt
  have hb : ∀ (cs : CoreSpace) (m : Memref sig .tc cs S8961 .i32) (hl : m.view.LoadsAt r.toLoadRect) (i : r.shape.Idx),
      (Prog.op (.load m r.toLoadRect hl) fun f => .ret (f i) : Prog (TpuEff nD τ sig (Elt F) Λ₀ .tc) (Elt F .i32))
        = Prog.lift (.load m r.toLoadRect hl) >>= fun f => pure (f i) := fun _ _ _ _ => rfl
  rw [hb, wp_bind]
  iapply (owns_load (bd := bd)) $$ H1
  iintro H1
  rw [Prog.pure_eq_ret, wp_ret]
  imodintro
  iexists s
  isplitr
  · ipureintro; exact h
  · iframe H1 H2 H3 H4 H5 H6 H7

theorem W_smem2 {r : Rect S65024} {h1 : r.shape.numel = 1} {hp : EltTy.packing .i32 = 1} {Q : Elt F .i32 → St F → Prop} {s : St F}
    (h : Q (X.x2 (r.point h1)) s) : W c ms X bd (smemLoad ms.a2 r h1 hp) Q s := by
  unfold W R
  iintro ⟨H1, H2, H3, H4, H5, H6, H7⟩
  unfold smemLoad smemLoadElt
  have hb : ∀ (cs : CoreSpace) (m : Memref sig .tc cs S65024 .i32) (hl : m.view.LoadsAt r.toLoadRect) (i : r.shape.Idx),
      (Prog.op (.load m r.toLoadRect hl) fun f => .ret (f i) : Prog (TpuEff nD τ sig (Elt F) Λ₀ .tc) (Elt F .i32))
        = Prog.lift (.load m r.toLoadRect hl) >>= fun f => pure (f i) := fun _ _ _ _ => rfl
  rw [hb, wp_bind]
  iapply (owns_load (bd := bd)) $$ H2
  iintro H2
  rw [Prog.pure_eq_ret, wp_ret]
  imodintro
  iexists s
  isplitr
  · ipureintro; exact h
  · iframe H1 H2 H3 H4 H5 H6 H7

theorem W_load3 {r : LoadRect S1920x1536} {hl : ms.a3.view.LoadsAt r} {Q : (r.shape.Idx → Elt F .i16) → St F → Prop} {s : St F}
    (h : Q (fun j => X.x3 (r.idx j)) s) : W c ms X bd (Prog.lift (.load ms.a3 r hl)) Q s := by
  unfold W R
  iintro ⟨H1, H2, H3, H4, H5, H6, H7⟩
  iapply (owns_load (bd := bd)) $$ H3
  iintro H3
  iexists s
  isplitr
  · ipureintro; exact h
  · iframe H1 H2 H3 H4 H5 H6 H7

theorem W_load4 {r : LoadRect S2032x32} {hl : ms.a4.view.LoadsAt r} {Q : (r.shape.Idx → Elt F .i32) → St F → Prop} {s : St F}
    (h : Q (fun j => X.x4 (r.idx j)) s) : W c ms X bd (Prog.lift (.load ms.a4 r hl)) Q s := by
  unfold W R
  iintro ⟨H1, H2, H3, H4, H5, H6, H7⟩
  iapply (owns_load (bd := bd)) $$ H4
  iintro H4
  iexists s
  isplitr
  · ipureintro; exact h
  · iframe H1 H2 H3 H4 H5 H6 H7

theorem W_load5 {r : LoadRect S1920x256} {hl : ms.a5.view.LoadsAt r} {Q : (r.shape.Idx → Elt F .f32) → St F → Prop} {s : St F}
    (h : Q (fun j => s.s5 (r.idx j)) s) : W c ms X bd (Prog.lift (.load ms.a5 r hl)) Q s := by
  unfold W R
  iintro ⟨H1, H2, H3, H4, H5, H6, H7⟩
  iapply (owns_load (bd := bd)) $$ H5
  iintro H5
  iexists s
  isplitr
  · ipureintro; exact h
  · iframe H1 H2 H3 H4 H5 H6 H7

theorem W_store5 {r : Rect S1920x256} {w : r.shape.Idx → Elt F .f32} {hx : (ms.a5.access r).Stores Finset.univ}
    {hm : Finset.univ = Finset.univ ∨ ∀ a, r.stride a = 1} {Q : PUnit → St F → Prop} {s : St F}
    (h : ∀ f', Upd r w s.s5 f' → Q ⟨⟩ (s.set5 f')) : W c ms X bd (Prog.lift (.store ms.a5 r w Finset.univ hx hm)) Q s := by
  unfold W R
  iintro ⟨H1, H2, H3, H4, H5, H6, H7⟩
  iapply (owns_store (bd := bd)) $$ H5
  iintro %f' %hf' H5
  iexists { s with s5 := f' }
  isplitr
  · ipureintro; exact h f' hf'
  · iframe H1 H2 H3 H4 H5 H6 H7

theorem W_load6 {r : LoadRect S12288x128} {hl : ms.a6.view.LoadsAt r} {Q : (r.shape.Idx → Elt F .i32) → St F → Prop} {s : St F}
    (h : Q (fun j => s.s6 (r.idx j)) s) : W c ms X bd (Prog.lift (.load ms.a6 r hl)) Q s := by
  unfold W R
  iintro ⟨H1, H2, H3, H4, H5, H6, H7⟩
  iapply (owns_load (bd := bd)) $$ H6
  iintro H6
  iexists s
  isplitr
  · ipureintro; exact h
  · iframe H1 H2 H3 H4 H5 H6 H7

theorem W_store6 {r : Rect S12288x128} {w : r.shape.Idx → Elt F .i32} {hx : (ms.a6.access r).Stores Finset.univ}
    {hm : Finset.univ = Finset.univ ∨ ∀ a, r.stride a = 1} {Q : PUnit → St F → Prop} {s : St F}
    (h : ∀ f', Upd r w s.s6 f' → Q ⟨⟩ (s.set6 f')) : W c ms X bd (Prog.lift (.store ms.a6 r w Finset.univ hx hm)) Q s := by
  unfold W R
  iintro ⟨H1, H2, H3, H4, H5, H6, H7⟩
  iapply (owns_store (bd := bd)) $$ H6
  iintro %f' %hf' H6
  iexists { s with s6 := f' }
  isplitr
  · ipureintro; exact h f' hf'
  · iframe H1 H2 H3 H4 H5 H6 H7

theorem W_load7 {r : LoadRect S8704x128} {hl : ms.a7.view.LoadsAt r} {Q : (r.shape.Idx → Elt F .f32) → St F → Prop} {s : St F}
    (h : Q (fun j => s.s7 (r.idx j)) s) : W c ms X bd (Prog.lift (.load ms.a7 r hl)) Q s := by
  unfold W R
  iintro ⟨H1, H2, H3, H4, H5, H6, H7⟩
  iapply (owns_load (bd := bd)) $$ H7
  iintro H7
  iexists s
  isplitr
  · ipureintro; exact h
  · iframe H1 H2 H3 H4 H5 H6 H7

theorem W_store7 {r : Rect S8704x128} {w : r.shape.Idx → Elt F .f32} {hx : (ms.a7.access r).Stores Finset.univ}
    {hm : Finset.univ = Finset.univ ∨ ∀ a, r.stride a = 1} {Q : PUnit → St F → Prop} {s : St F}
    (h : ∀ f', Upd r w s.s7 f' → Q ⟨⟩ (s.set7 f')) : W c ms X bd (Prog.lift (.store ms.a7 r w Finset.univ hx hm)) Q s := by
  unfold W R
  iintro ⟨H1, H2, H3, H4, H5, H6, H7⟩
  iapply (owns_store (bd := bd)) $$ H7
  iintro %f' %hf' H7
  iexists { s with s7 := f' }
  isplitr
  · ipureintro; exact h f' hf'
  · iframe H1 H2 H3 H4 H5 H6 H7

/-- An assumption that holds. -/
theorem W_assume {P : Prop} {d : Decidable P} {Q : PLift P → St F → Prop} {s : St F} (hP : P) (h : Q ⟨hP⟩ s) :
    W c ms X bd (Prog.lift (.assume P d)) Q s := by
  unfold W
  refine BIBase.Entails.trans ?_ (wp_assume 𝒱₀ (c : Thread nD τ) bd Set.univ hP)
  exact W_pure (a := (⟨hP⟩ : PLift P)) h

/-- A test. -/
theorem W_dite {α : Type} {p : Prop} {d : Decidable p} {t : p → Prog (TpuEff nD τ sig (Elt F) Λ₀ .tc) α}
    {e : ¬ p → Prog (TpuEff nD τ sig (Elt F) Λ₀ .tc) α} {Q : α → St F → Prop} {s : St F}
    (ht : ∀ h, W c ms X bd (t h) Q s) (he : ∀ h, W c ms X bd (e h) Q s) : W c ms X bd (if h : p then t h else e h) Q s := by
  by_cases h : p
  · rw [dif_pos h]; exact ht h
  · rw [dif_neg h]; exact he h

end Rules

end Cert.Proof.S
-- ==== Proof.SI.Common.lean ====
/-
  Shared by the proofs about `SparseIdeal`: the proof's resource algebra, the kernel body's seven buffers as one resource
  over a record of contents, and a small program logic over it (`W`): a run of a piece of the body from given contents ends
  in a value and contents satisfying a stated pure relation. One rule per operation of the body (a load of each buffer, a
  store to each written buffer, a loop by an invariant, sequencing).
-/
module

public import proofs.«01_k».proof.SparseIdeal
public import Idealize.ShloMosaic.Lib.Pipeline.Sound
public import Idealize.ShloMosaic.Lib.Tactic
public import proofs.«01_k».proof.Proof.Gen.SparseIdeal
public import proofs.«01_k».proof.Proof.Gen.SparseIdeal.Skeleton
public import proofs.«01_k».proof.Proof.Gen.SparseIdeal.Launch

@[expose] public section

noncomputable section

namespace Cert.Proof.SI

open Cert.SparseIdeal Cert.SparseIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The pipelines' rounds: one component over the semaphores. -/
abbrev UR (nD : Nat) (τ : Topo) : Type := URounds (GSem nD τ sig) Unit

local notation "𝕄" => MT nD τ sig Unit (Elt F) ℕ (UR nD τ) ℕ

/-- No variants: the program calls no label. -/
abbrev 𝒱₀ : Variants := Variants.nat

/-- The kernel body's seven buffers. -/
structure Mems where
  a1 : Memref sig .tc .smem S8961 .i32
  h1 : a1.IsWhole
  a2 : Memref sig .tc .smem S65024 .i32
  h2 : a2.IsWhole
  a3 : Memref sig .tc .vmem S1920x1536 .i16
  h3 : a3.IsWhole
  a4 : Memref sig .tc .vmem S2032x32 .i32
  h4 : a4.IsWhole
  a5 : Memref sig .tc .vmem S1920x256 .f32
  h5 : a5.IsWhole
  a6 : Memref sig .tc .vmem S12288x128 .i32
  h6 : a6.IsWhole
  a7 : Memref sig .tc .vmem S8704x128 .f32
  h7 : a7.IsWhole

/-- The contents of the four buffers the body only reads. -/
@[ext] structure Ins (F : FTy → Type) where
  x1 : S8961.Idx → Elt F .i32
  x2 : S65024.Idx → Elt F .i32
  x3 : S1920x1536.Idx → Elt F .i16
  x4 : S2032x32.Idx → Elt F .i32

/-- The contents of the three buffers the body writes. -/
@[ext] structure St (F : FTy → Type) where
  s5 : S1920x256.Idx → Elt F .f32
  s6 : S12288x128.Idx → Elt F .i32
  s7 : S8704x128.Idx → Elt F .f32

/-- The contents with buffer 5 replaced. -/
def St.set5 (s : St F) (f : S1920x256.Idx → Elt F .f32) : St F := { s with s5 := f }
/-- The contents with buffer 6 replaced. -/
def St.set6 (s : St F) (f : S12288x128.Idx → Elt F .i32) : St F := { s with s6 := f }
/-- The contents with buffer 7 replaced. -/
def St.set7 (s : St F) (f : S8704x128.Idx → Elt F .f32) : St F := { s with s7 := f }
@[simp] theorem St.set5_s5 (s : St F) (f : S1920x256.Idx → Elt F .f32) : (s.set5 f).s5 = f := rfl
@[simp] theorem St.set5_s6 (s : St F) (f : S1920x256.Idx → Elt F .f32) : (s.set5 f).s6 = s.s6 := rfl
@[simp] theorem St.set5_s7 (s : St F) (f : S1920x256.Idx → Elt F .f32) : (s.set5 f).s7 = s.s7 := rfl
@[simp] theorem St.set6_s5 (s : St F) (f : S12288x128.Idx → Elt F .i32) : (s.set6 f).s5 = s.s5 := rfl
@[simp] theorem St.set6_s6 (s : St F) (f : S12288x128.Idx → Elt F .i32) : (s.set6 f).s6 = f := rfl
@[simp] theorem St.set6_s7 (s : St F) (f : S12288x128.Idx → Elt F .i32) : (s.set6 f).s7 = s.s7 := rfl
@[simp] theorem St.set7_s5 (s : St F) (f : S8704x128.Idx → Elt F .f32) : (s.set7 f).s5 = s.s5 := rfl
@[simp] theorem St.set7_s6 (s : St F) (f : S8704x128.Idx → Elt F .f32) : (s.set7 f).s6 = s.s6 := rfl
@[simp] theorem St.set7_s7 (s : St F) (f : S8704x128.Idx → Elt F .f32) : (s.set7 f).s7 = f := rfl

/-- All seven buffers held whole at the given contents. -/
def R (c : Dev nD) (ms : Mems) (X : Ins F) (s : St F) : sProp 𝕄 :=
  iprop(owns (c : Thread nD τ) ms.a1 fullShare X.x1
    ∗ owns (c : Thread nD τ) ms.a2 fullShare X.x2
    ∗ owns (c : Thread nD τ) ms.a3 fullShare X.x3
    ∗ owns (c : Thread nD τ) ms.a4 fullShare X.x4
    ∗ owns (c : Thread nD τ) ms.a5 fullShare s.s5
    ∗ owns (c : Thread nD τ) ms.a6 fullShare s.s6
    ∗ owns (c : Thread nD τ) ms.a7 fullShare s.s7)

/-- From contents `s` the program runs to a value and contents related by `Q`. -/
def W (c : Dev nD) (ms : Mems) (X : Ins F) (bd : Option ℕ) {α : Type} (p : Prog (TpuEff nD τ sig (Elt F) Λ₀ .tc) α)
    (Q : α → St F → Prop) (s : St F) : Prop :=
  (R c ms X s : sProp 𝕄) ⊢ wp frame (wpE (defs₀ (F := F)) 𝒱₀ (c : Thread nD τ) bd) Set.univ p
    (fun a => iprop(∃ s', ⌜Q a s'⌝ ∗ R c ms X s'))

/-- What a store of `w` through the rectangle `r` makes of contents `f`. -/
def Upd {s : Shape} {α : Type} (r : Rect s) (w : r.shape.Idx → α) (f f' : s.Idx → α) : Prop :=
  (∀ j, f' (r.emb j) = w j) ∧ ∀ i, (∀ j, r.emb j ≠ i) → f' i = f i

section Rules

variable {c : Dev nD} {ms : Mems} {X : Ins F} {bd : Option ℕ} {α β : Type}

theorem W_pure {a : α} {Q : α → St F → Prop} {s : St F} (h : Q a s) : W c ms X bd (pure a) Q s := by
  unfold W
  rw [Prog.pure_eq_ret, wp_ret]
  iintro H
  imodintro
  iexists s
  isplitr
  · ipureintro; exact h
  · iexact H

/-- Sequencing. -/
theorem W_bind {p : Prog (TpuEff nD τ sig (Elt F) Λ₀ .tc) α} {k : α → Prog (TpuEff nD τ sig (Elt F) Λ₀ .tc) β}
    {Q : β → St F → Prop} {s : St F} (h : W c ms X bd p (fun a s' => W c ms X bd (k a) Q s') s) :
    W c ms X bd (p >>= k) Q s := by
  unfold W at h ⊢
  rw [wp_bind]
  refine h.trans (wp_mono _ _ _ fun a => ?_)
  iintro ⟨%s', %h', H⟩
  iapply h'
  iexact H

/-- A stronger relation suffices. -/
theorem W_mono {p : Prog (TpuEff nD τ sig (Elt F) Λ₀ .tc) α} {Q Q' : α → St F → Prop} {s : St F}
    (h : W c ms X bd p Q s) (hQ : ∀ a s', Q a s' → Q' a s') : W c ms X bd p Q' s := by
  unfold W at h ⊢
  refine h.trans (wp_mono _ _ _ fun a => ?_)
  iintro ⟨%s', %h', H⟩
  iexists s'
  isplitr
  · ipureintro; exact hQ _ _ h'
  · iexact H

/-- A counted loop by an invariant of the trip, the carried value and the contents. -/
theorem W_for {w : Nat} {σ : Type} {l : Scf.Loop w} {hok : l.OK} {init : σ}
    {body : Fin l.trips → σ → Prog (TpuEff nD τ sig (Elt F) Λ₀ .tc) σ} {Q : σ → St F → Prop} {s : St F}
    (I : ℕ → σ → St F → Prop) (h0 : I 0 init s)
    (hstep : ∀ (k : Fin l.trips) (acc : σ) (s' : St F), I k.val acc s' → W c ms X bd (body k acc) (I (k.val + 1)) s')
    (hend : ∀ acc s', I l.trips acc s' → Q acc s') : W c ms X bd (Scf.Loop.for l hok init body) Q s := by
  unfold W
  refine BIBase.Entails.trans ?_ (Scf.wp_for frame (wpE (defs₀ (F := F)) 𝒱₀ (c : Thread nD τ) bd) Set.univ l.lb l.ub l.st hok init body
    (fun k acc => iprop(∃ s', ⌜I k acc s'⌝ ∗ R c ms X s')) ?_)
  · iintro H
    isplitl [H]
    · iexists s
      isplitr
      · ipureintro; exact h0
      · iexact H
    · iintro %acc ⟨%s', %h', H⟩
      iexists s'
      isplitr
      · ipureintro; exact hend _ _ h'
      · iexact H
  · intro k acc
    iintro ⟨%s', %h', H⟩
    have h'' := hstep k acc s' h'
    unfold W at h''
    iapply h''
    iexact H

theorem owns_load {cs : CoreSpace} {sh : Shape} {e : EltTy} {m : Memref sig .tc cs sh e} {r : LoadRect sh} {hl : m.view.LoadsAt r}
    {Y : sh.Idx → Elt F e} {K : (r.shape.Idx → Elt F e) → sProp 𝕄} :
    (owns (c : Thread nD τ) m fullShare Y : sProp 𝕄) ⊢ iprop((owns (c : Thread nD τ) m fullShare Y -∗ K (fun j => Y (r.idx j))) -∗
      wp frame (wpE (defs₀ (F := F)) 𝒱₀ (c : Thread nD τ) bd) Set.univ (Prog.lift (.load m r hl)) K) := by
  unfold owns
  iintro ⟨%f, %hf, H⟩ HK
  iapply (wp_load 𝒱₀ (c : Thread nD τ) bd Set.univ (m := m) (r := r) (hl := hl) (View.setOn_subset_set _ _)) $$ H
  iintro H
  rw [wp_ret]
  imodintro
  have e1 : m.view.readAt (Elt F) r f = fun j => Y (r.idx j) := by funext j; rw [View.readAt_apply, hf]
  rw [e1]
  iapply HK
  iexists f
  isplitr
  · ipureintro; exact hf
  · iexact H

theorem owns_store {sh : Shape} {e : EltTy} {m : Memref sig .tc .vmem sh e} {r : Rect sh} {w : r.shape.Idx → Elt F e}
    {hx : (m.access r).Stores Finset.univ} {hm : Finset.univ = Finset.univ ∨ ∀ a, r.stride a = 1}
    {Y : sh.Idx → Elt F e} {K : PUnit → sProp 𝕄} :
    (owns (c : Thread nD τ) m fullShare Y : sProp 𝕄) ⊢ iprop((∀ Y', ⌜Upd r w Y Y'⌝ -∗ owns (c : Thread nD τ) m fullShare Y' -∗ K ⟨⟩) -∗
      wp frame (wpE (defs₀ (F := F)) 𝒱₀ (c : Thread nD τ) bd) Set.univ (Prog.lift (.store m r w Finset.univ hx hm)) K) := by
  unfold owns
  iintro ⟨%f, %hf, H⟩ HK
  iapply (wp_store 𝒱₀ (c : Thread nD τ) bd Set.univ (m := m) (r := r) (w := w) (Mk := Finset.univ) (hx := hx) (hm := hm)
    (S := m.view.set) (by
      rw [show (m.access r).setOn Finset.univ = (Finset.univ.map r.emb).map m.view.emb from (Finset.map_map _ _ _).symm]
      exact Finset.map_subset_map.mpr (Finset.subset_univ _))) $$ H
  iintro H
  rw [wp_ret]
  imodintro
  iapply HK $$ %(m.view.read (Elt F) ((m.access r).write (Elt F) f w Finset.univ))
  · ipureintro
    refine ⟨fun j => ?_, fun i hi => ?_⟩
    · exact View.read_slice_write_emb (v := m.view) r f w (Finset.mem_univ j)
    · rw [← hf]
      refine View.read_slice_write_of_not_mem (v := m.view) r f w Finset.univ fun hmem => ?_
      obtain ⟨j, -, hj⟩ := Finset.mem_map.mp hmem
      exact hi j hj
  · iexists _
    isplitr
    · ipureintro; rfl
    · iexact H

theorem W_smem1 {r : Rect S8961} {h1 : r.shape.numel = 1} {hp : EltTy.packing .i32 = 1} {Q : Elt F .i32 → St F → Prop} {s : St F}
    (h : Q (X.x1 (r.point h1)) s) : W c ms X bd (smemLoad ms.a1 r h1 hp) Q s := by
  unfold W R
  iintro ⟨H1, H2, H3, H4, H5, H6, H7⟩
  unfold smemLoad smemLoadElt
  have hb : ∀ (cs : CoreSpace) (m : Memref sig .tc cs S8961 .i32) (hl : m.view.LoadsAt r.toLoadRect) (i : r.shape.Idx),
      (Prog.op (.load m r.toLoadRect hl) fun f => .ret (f i) : Prog (TpuEff nD τ sig (Elt F) Λ₀ .tc) (Elt F .i32))
        = Prog.lift (.load m r.toLoadRect hl) >>= fun f => pure (f i) := fun _ _ _ _ => rfl
  rw [hb, wp_bind]
  iapply (owns_load (bd := bd)) $$ H1
  iintro H1
  rw [Prog.pure_eq_ret, wp_ret]
  imodintro
  iexists s
  isplitr
  · ipureintro; exact h
  · iframe H1 H2 H3 H4 H5 H6 H7

theorem W_smem2 {r : Rect S65024} {h1 : r.shape.numel = 1} {hp : EltTy.packing .i32 = 1} {Q : Elt F .i32 → St F → Prop} {s : St F}
    (h : Q (X.x2 (r.point h1)) s) : W c ms X bd (smemLoad ms.a2 r h1 hp) Q s := by
  unfold W R
  iintro ⟨H1, H2, H3, H4, H5, H6, H7⟩
  unfold smemLoad smemLoadElt
  have hb : ∀ (cs : CoreSpace) (m : Memref sig .tc cs S65024 .i32) (hl : m.view.LoadsAt r.toLoadRect) (i : r.shape.Idx),
      (Prog.op (.load m r.toLoadRect hl) fun f => .ret (f i) : Prog (TpuEff nD τ sig (Elt F) Λ₀ .tc) (Elt F .i32))
        = Prog.lift (.load m r.toLoadRect hl) >>= fun f => pure (f i) := fun _ _ _ _ => rfl
  rw [hb, wp_bind]
  iapply (owns_load (bd := bd)) $$ H2
  iintro H2
  rw [Prog.pure_eq_ret, wp_ret]
  imodintro
  iexists s
  isplitr
  · ipureintro; exact h
  · iframe H1 H2 H3 H4 H5 H6 H7

theorem W_load3 {r : LoadRect S1920x1536} {hl : ms.a3.view.LoadsAt r} {Q : (r.shape.Idx → Elt F .i16) → St F → Prop} {s : St F}
    (h : Q (fun j => X.x3 (r.idx j)) s) : W c ms X bd (Prog.lift (.load ms.a3 r hl)) Q s := by
  unfold W R
  iintro ⟨H1, H2, H3, H4, H5, H6, H7⟩
  iapply (owns_load (bd := bd)) $$ H3
  iintro H3
  iexists s
  isplitr
  · ipureintro; exact h
  · iframe H1 H2 H3 H4 H5 H6 H7

theorem W_load4 {r : LoadRect S2032x32} {hl : ms.a4.view.LoadsAt r} {Q : (r.shape.Idx → Elt F .i32) → St F → Prop} {s : St F}
    (h : Q (fun j => X.x4 (r.idx j)) s) : W c ms X bd (Prog.lift (.load ms.a4 r hl)) Q s := by
  unfold W R
  iintro ⟨H1, H2, H3, H4, H5, H6, H7⟩
  iapply (owns_load (bd := bd)) $$ H4
  iintro H4
  iexists s
  isplitr
  · ipureintro; exact h
  · iframe H1 H2 H3 H4 H5 H6 H7

theorem W_load5 {r : LoadRect S1920x256} {hl : ms.a5.view.LoadsAt r} {Q : (r.shape.Idx → Elt F .f32) → St F → Prop} {s : St F}
    (h : Q (fun j => s.s5 (r.idx j)) s) : W c ms X bd (Prog.lift (.load ms.a5 r hl)) Q s := by
  unfold W R
  iintro ⟨H1, H2, H3, H4, H5, H6, H7⟩
  iapply (owns_load (bd := bd)) $$ H5
  iintro H5
  iexists s
  isplitr
  · ipureintro; exact h
  · iframe H1 H2 H3 H4 H5 H6 H7

theorem W_store5 {r : Rect S1920x256} {w : r.shape.Idx → Elt F .f32} {hx : (ms.a5.access r).Stores Finset.univ}
    {hm : Finset.univ = Finset.univ ∨ ∀ a, r.stride a = 1} {Q : PUnit → St F → Prop} {s : St F}
    (h : ∀ f', Upd r w s.s5 f' → Q ⟨⟩ (s.set5 f')) : W c ms X bd (Prog.lift (.store ms.a5 r w Finset.univ hx hm)) Q s := by
  unfold W R
  iintro ⟨H1, H2, H3, H4, H5, H6, H7⟩
  iapply (owns_store (bd := bd)) $$ H5
  iintro %f' %hf' H5
  iexists { s with s5 := f' }
  isplitr
  · ipureintro; exact h f' hf'
  · iframe H1 H2 H3 H4 H5 H6 H7

theorem W_load6 {r : LoadRect S12288x128} {hl : ms.a6.view.LoadsAt r} {Q : (r.shape.Idx → Elt F .i32) → St F → Prop} {s : St F}
    (h : Q (fun j => s.s6 (r.idx j)) s) : W c ms X bd (Prog.lift (.load ms.a6 r hl)) Q s := by
  unfold W R
  iintro ⟨H1, H2, H3, H4, H5, H6, H7⟩
  iapply (owns_load (bd := bd)) $$ H6
  iintro H6
  iexists s
  isplitr
  · ipureintro; exact h
  · iframe H1 H2 H3 H4 H5 H6 H7

theorem W_store6 {r : Rect S12288x128} {w : r.shape.Idx → Elt F .i32} {hx : (ms.a6.access r).Stores Finset.univ}
    {hm : Finset.univ = Finset.univ ∨ ∀ a, r.stride a = 1} {Q : PUnit → St F → Prop} {s : St F}
    (h : ∀ f', Upd r w s.s6 f' → Q ⟨⟩ (s.set6 f')) : W c ms X bd (Prog.lift (.store ms.a6 r w Finset.univ hx hm)) Q s := by
  unfold W R
  iintro ⟨H1, H2, H3, H4, H5, H6, H7⟩
  iapply (owns_store (bd := bd)) $$ H6
  iintro %f' %hf' H6
  iexists { s with s6 := f' }
  isplitr
  · ipureintro; exact h f' hf'
  · iframe H1 H2 H3 H4 H5 H6 H7

theorem W_load7 {r : LoadRect S8704x128} {hl : ms.a7.view.LoadsAt r} {Q : (r.shape.Idx → Elt F .f32) → St F → Prop} {s : St F}
    (h : Q (fun j => s.s7 (r.idx j)) s) : W c ms X bd (Prog.lift (.load ms.a7 r hl)) Q s := by
  unfold W R
  iintro ⟨H1, H2, H3, H4, H5, H6, H7⟩
  iapply (owns_load (bd := bd)) $$ H7
  iintro H7
  iexists s
  isplitr
  · ipureintro; exact h
  · iframe H1 H2 H3 H4 H5 H6 H7

theorem W_store7 {r : Rect S8704x128} {w : r.shape.Idx → Elt F .f32} {hx : (ms.a7.access r).Stores Finset.univ}
    {hm : Finset.univ = Finset.univ ∨ ∀ a, r.stride a = 1} {Q : PUnit → St F → Prop} {s : St F}
    (h : ∀ f', Upd r w s.s7 f' → Q ⟨⟩ (s.set7 f')) : W c ms X bd (Prog.lift (.store ms.a7 r w Finset.univ hx hm)) Q s := by
  unfold W R
  iintro ⟨H1, H2, H3, H4, H5, H6, H7⟩
  iapply (owns_store (bd := bd)) $$ H7
  iintro %f' %hf' H7
  iexists { s with s7 := f' }
  isplitr
  · ipureintro; exact h f' hf'
  · iframe H1 H2 H3 H4 H5 H6 H7

/-- An assumption that holds. -/
theorem W_assume {P : Prop} {d : Decidable P} {Q : PLift P → St F → Prop} {s : St F} (hP : P) (h : Q ⟨hP⟩ s) :
    W c ms X bd (Prog.lift (.assume P d)) Q s := by
  unfold W
  refine BIBase.Entails.trans ?_ (wp_assume 𝒱₀ (c : Thread nD τ) bd Set.univ hP)
  exact W_pure (a := (⟨hP⟩ : PLift P)) h

/-- A test. -/
theorem W_dite {α : Type} {p : Prop} {d : Decidable p} {t : p → Prog (TpuEff nD τ sig (Elt F) Λ₀ .tc) α}
    {e : ¬ p → Prog (TpuEff nD τ sig (Elt F) Λ₀ .tc) α} {Q : α → St F → Prop} {s : St F}
    (ht : ∀ h, W c ms X bd (t h) Q s) (he : ∀ h, W c ms X bd (e h) Q s) : W c ms X bd (if h : p then t h else e h) Q s := by
  by_cases h : p
  · rw [dif_pos h]; exact ht h
  · rw [dif_neg h]; exact he h

end Rules

end Cert.Proof.SI
-- ==== Proof.SI.Checks.lean ====
/-
  The addresses of `SparseIdeal`'s body in closed form, and every assumption of the body from two facts about its
  tables: each word of the row pointer is at most the number of entries, and each word of the address table is eight times
  a column.
-/
module

public import proofs.«01_k».proof.Proof.SI.Common
public import Idealize.ShloMosaic.Lib.WordArith.Masks
public import Idealize.ShloMosaic.Lib.ValueIdxCore
public import Idealize.ShloMosaic.Lib.Pipeline.Value

@[expose] public section

noncomputable section

namespace Cert.Proof.SI

open Cert.SparseIdeal Cert.SparseIdeal.Gen
open Idealize.ShloMosaic Idealize.ShloMosaic.WordArith

variable {F : FTy → Type} [FloatOps F]

/-- What the body needs of its tables to be defined. -/
structure Good (X : Ins F) : Prop where
  le : ∀ i, (X.x1 i : BitVec 32).toNat ≤ 61931
  dvd : ∀ i, 8 ∣ (X.x2 i : BitVec 32).toNat
  lt : ∀ i, (X.x2 i : BitVec 32).toNat < 12288

theorem tn_iv (lb : BitVec 32) (k : ℕ) : (Scf.iv lb 1#32 k).toNat = (lb.toNat + k) % 2 ^ 32 := by
  simp [Scf.iv]
theorem tn_addi (a b : BitVec 32) : (Scalar.addi a b).toNat = (a.toNat + b.toNat) % 2 ^ 32 := BitVec.toNat_add a b
theorem tn_muli (a b : BitVec 32) : (Scalar.muli a b).toNat = (a.toNat * b.toNat) % 2 ^ 32 := BitVec.toNat_mul a b
theorem tn_subi (a b : BitVec 32) : (Scalar.subi a b).toNat = (2 ^ 32 - b.toNat + a.toNat) % 2 ^ 32 := BitVec.toNat_sub a b
theorem tn_shrui8 (a : BitVec 32) : (Scalar.shrui a 8#32).toNat = a.toNat / 256 := by
  show (IntOp.shrui .scalar a 8#32).toNat = _
  unfold IntOp.shrui
  rw [if_pos (by decide)]
  simp [BitVec.toNat_ushiftRight, Nat.shiftRight_eq_div_pow]
theorem tn_shrui3 (a : BitVec 32) : (Scalar.shrui a 3#32).toNat = a.toNat / 8 := by
  show (IntOp.shrui .scalar a 3#32).toNat = _
  unfold IntOp.shrui
  rw [if_pos (by decide)]
  simp [BitVec.toNat_ushiftRight, Nat.shiftRight_eq_div_pow]
theorem tn_and255 (x : BitVec 32) : (Scalar.andi x 255#32).toNat = x.toNat % 256 := WordArith.toNat_andi_lowMask x 255#32 8 rfl
theorem tn_and7 (x : BitVec 32) : (Scalar.andi x 7#32).toNat = x.toNat % 8 := WordArith.toNat_andi_lowMask x 7#32 3 rfl
theorem tn_and1 (x : BitVec 32) : (Scalar.andi x 1#32).toNat = x.toNat % 2 := WordArith.toNat_andi_lowMask x 1#32 1 rfl
theorem div1 (x : BitVec 32) : Scalar.divsi x 1#32 = x := by
  show IntOp.divsi .scalar x 1#32 = _
  unfold IntOp.divsi
  rw [if_neg (by unfold IntOp.SDivCorner; simp)]
  simp
theorem mul1 (x : BitVec 32) : Scalar.muli x 1#32 = x := BitVec.mul_one x
theorem add_sub (a b : BitVec 32) : Scalar.addi a (Scalar.subi b a) = b := by
  show a + (b - a) = b
  rw [BitVec.add_comm, BitVec.sub_add_cancel]
theorem min34 (x : BitVec 32) (hx : x.toNat < 2 ^ 31) : (Scalar.minsi x 34#32).toNat = min x.toNat 34 := by
  show (if x.slt 34#32 then x else 34#32).toNat = _
  have h : x.slt 34#32 = decide (x.toNat < 34) := by
    simp only [BitVec.slt, BitVec.toInt_eq_toNat_of_lt (x := x) (by omega)]
    simp [BitVec.toInt]
  rw [h]
  by_cases h' : x.toNat < 34
  · rw [if_pos (by simpa using h')]; omega
  · rw [if_neg (by simpa using h')]; simp; omega
theorem min14 (x : BitVec 32) (hx : x.toNat < 2 ^ 31) : (Scalar.minsi x 14#32).toNat = min x.toNat 14 := by
  show (if x.slt 14#32 then x else 14#32).toNat = _
  have h : x.slt 14#32 = decide (x.toNat < 14) := by
    simp only [BitVec.slt, BitVec.toInt_eq_toNat_of_lt (x := x) (by omega)]
    simp [BitVec.toInt]
  rw [h]
  by_cases h' : x.toNat < 14
  · rw [if_pos (by simpa using h')]; omega
  · rw [if_neg (by simpa using h')]; simp; omega

theorem grid_lt (i : grid0.Coords) : (i 0).val < 36 := (i 0).isLt
theorem tn_i (i : grid0.Coords) : (BitVec.ofNat 32 (i 0).val).toNat = (i 0).val := by
  have := grid_lt i
  rw [BitVec.toNat_ofNat]; omega
theorem tn_v0 (i : grid0.Coords) : (Scalar.minsi (BitVec.ofNat 32 (i 0).val) 34#32).toNat = min (i 0).val 34 := by
  have := grid_lt i
  rw [min34 _ (by rw [tn_i]; omega), tn_i]

theorem trip12_1 (t : Fin k0_t1_loop.trips) : t.val < 12 := t.isLt
theorem trip4_2 (t : Fin k0_t2_loop.trips) : t.val < 4 := t.isLt
theorem trip256_3 (t : Fin k0_t3_loop.trips) : t.val < 256 := t.isLt

theorem vec2 {a b c : ℕ} (h : a = b) : (![a, c] : Fin 2 → ℕ) = ![b, c] := by rw [h]
theorem vec2' {a b c : ℕ} (h : a = b) : (![c, a] : Fin 2 → ℕ) = ![c, b] := by rw [h]
theorem vec1 {a b : ℕ} (h : a = b) : (![a] : Fin 1 → ℕ) = ![b] := by rw [h]

/-- A loop over the words `a` to `b` by one: its trips. -/
theorem trips1 (a b : BitVec 32) (ha : a.toNat < 2 ^ 31) (hb : b.toNat < 2 ^ 31) : Scf.trips a b 1#32 = b.toNat - a.toNat := by
  unfold Scf.trips
  rw [BitVec.toInt_eq_toNat_of_lt (x := a) (by omega), BitVec.toInt_eq_toNat_of_lt (x := b) (by omega),
    (by decide : (1#32 : BitVec 32).toInt = 1)]
  omega
theorem ok1 (a b : BitVec 32) (ha : a.toNat < 2 ^ 31) (hb : b.toNat < 2 ^ 31) : Scf.OK a b 1#32 := by
  refine ⟨by decide, ?_⟩
  rw [trips1 a b ha hb, BitVec.toInt_eq_toNat_of_lt (x := a) (by omega), (by decide : (1#32 : BitVec 32).toInt = 1)]
  omega

theorem loop4_eq (v w : BitVec 32) : k0_t4_loop v w = ⟨v, w, 1#32⟩ := by
  simp only [k0_t4_loop, div1, mul1, add_sub]
theorem loop5_eq (v w : BitVec 32) : k0_t5_loop v w = ⟨w, w, 1#32⟩ := by
  simp only [k0_t5_loop, div1, mul1, add_sub]
theorem trips4 (v w : BitVec 32) (hv : v.toNat ≤ 61931) (hw : w.toNat ≤ 61931) : (k0_t4_loop v w).trips = w.toNat - v.toNat := by
  rw [loop4_eq]; show Scf.trips _ _ _ = _
  rw [trips1 v w (by omega) (by omega)]
theorem trips5 (v w : BitVec 32) (hw : w.toNat ≤ 61931) : (k0_t5_loop v w).trips = 0 := by
  rw [loop5_eq]; show Scf.trips _ _ _ = _
  rw [trips1 w w (by omega) (by omega)]; omega

theorem off23_eq (v w : BitVec 32) (hv : v.toNat ≤ 61931) (hw : w.toNat ≤ 61931) (t : Fin (k0_t4_loop v w).trips) :
    k0_off23 v w t = ![(v.toNat + t.val) / 256 * 8 + (v.toNat + t.val) % 8, 0] := by
  have ht := lt_of_lt_of_eq t.isLt (trips4 v w hv hw)
  simp only [k0_off23, Scalar.indexCast]
  refine vec2 ?_
  simp only [tn_addi, tn_muli, tn_shrui8, tn_and7, tn_iv, BitVec.toNat_ofNat]; omega
theorem off24_eq (v w : BitVec 32) (hv : v.toNat ≤ 61931) (hw : w.toNat ≤ 61931) (t : Fin (k0_t4_loop v w).trips) :
    k0_off24 v w t = ![v.toNat + t.val] := by
  have ht := lt_of_lt_of_eq t.isLt (trips4 v w hv hw)
  simp only [k0_off24, Scalar.indexCast]
  refine vec1 ?_
  rw [tn_iv]; omega
theorem off25_eq (v : BitVec 32) : k0_off25 v = ![v.toNat, 0] := rfl

theorem chk1 (v w : BitVec 32) (hv : v.toNat ≤ 61931) (hw : w.toNat ≤ 61931) : k0_chk1 v w := by
  refine ⟨?_, fun u a => ?_, fun u a => ?_, ?_, fun u => ?_, fun u => ?_⟩
  · rw [loop4_eq]; exact ok1 v w (by omega) (by omega)
  · have hu := lt_of_lt_of_eq u.isLt (trips4 v w hv hw)
    rw [off23_eq v w hv hw]; fin_cases a
    · show (v.toNat + u.val) / 256 * 8 + (v.toNat + u.val) % 8 + 1 ≤ 2032
      omega
    · show 0 + 32 ≤ 32
      omega
  · have hu := lt_of_lt_of_eq u.isLt (trips4 v w hv hw)
    rw [off24_eq v w hv hw]; fin_cases a
    show v.toNat + u.val + 1 ≤ 65024
    omega
  · rw [loop5_eq]; exact ok1 w w (by omega) (by omega)
  all_goals
    have hu := lt_of_lt_of_eq u.isLt (trips5 v w hw)
    exact absurd hu (by omega)

theorem chk2 (v : BitVec 32) (h : 8 ∣ v.toNat) (hl : v.toNat < 12288) : k0_chk2 v := by
  refine ⟨h, fun a => ?_⟩
  rw [off25_eq]; fin_cases a
  · show v.toNat + 8 ≤ 12288
    omega
  · show 0 + 128 ≤ 128
    omega

/-- The half of the sums that a grid point fills. -/
def par (i : grid0.Coords) : Fin 2 := ⟨(i 0).val % 2, Nat.mod_lt _ (by decide)⟩
/-- The other half, which it copies out. -/
def alt (p : Fin 2) : Fin 2 := ⟨1 - p.val, by omega⟩
/-- The block of a grid point. -/
def blk (i : grid0.Coords) : ℕ := min (i 0).val 34

theorem tn_par (i : grid0.Coords) : (Scalar.muli (Scalar.andi (BitVec.ofNat 32 (i 0).val) 1#32) 4352#32).toNat = (par i).val * 4352 := by
  have := (par i).isLt
  rw [tn_muli, tn_and1, tn_i]
  show (par i).val * 4352 % 2 ^ 32 = _
  omega
theorem tn_alt (i : grid0.Coords) : (Scalar.muli (Scalar.subi 1#32 (Scalar.andi (BitVec.ofNat 32 (i 0).val) 1#32)) 4352#32).toNat = (alt (par i)).val * 4352 := by
  have := (par i).isLt
  rw [tn_muli, tn_subi, tn_and1, tn_i]
  show (2 ^ 32 - (par i).val + 1) % 2 ^ 32 * 4352 % 2 ^ 32 = (1 - (par i).val) * 4352
  omega
theorem tn_17 (t : Fin k0_t3_loop.trips) : (Scalar.muli (Scf.iv 0#32 1#32 t.val) 17#32).toNat = 17 * t.val := by
  have := trip256_3 t
  rw [tn_muli, tn_iv]; simp; omega
theorem off20_eq (i : grid0.Coords) (t : Fin k0_t3_loop.trips) : k0_off20 i t = ![(par i).val * 4352 + 17 * t.val, 0] := by
  have := trip256_3 t
  have := (par i).isLt
  simp only [k0_off20, Scalar.indexCast]
  refine vec2 ?_
  rw [tn_addi, tn_par, tn_17]; omega
theorem off26_eq (i : grid0.Coords) (t : Fin k0_t3_loop.trips) : k0_off26 i t = ![(par i).val * 4352 + 17 * t.val, 0] := off20_eq i t
theorem off21_eq (i : grid0.Coords) (t : Fin k0_t3_loop.trips) : k0_off21 i t = ![blk i * 256 + t.val] := by
  have := trip256_3 t
  have := grid_lt i
  simp only [k0_off21, Scalar.indexCast]
  refine vec1 ?_
  simp only [tn_addi, tn_muli, tn_iv, tn_v0, blk, BitVec.toNat_ofNat]; omega
theorem off22_eq (i : grid0.Coords) (t : Fin k0_t3_loop.trips) : k0_off22 i t = ![blk i * 256 + t.val + 1] := by
  have := trip256_3 t
  have := grid_lt i
  simp only [k0_off22, Scalar.indexCast]
  refine vec1 ?_
  simp only [tn_addi, tn_muli, tn_iv, tn_v0, blk, BitVec.toNat_ofNat]; omega

/-- The tile of rows of a trip of the copying loop. -/
def tile (t : Fin k0_t2_loop.trips) (z : Fin 4) : Fin 15 := ⟨min (4 * t.val + z.val) 14, by omega⟩

theorem tn_tile (t : Fin k0_t2_loop.trips) (z : Fin 4) :
    (Scalar.minsi (Scalar.addi (Scalar.muli (Scf.iv 0#32 1#32 t.val) 4#32) (BitVec.ofNat 32 z.val)) 14#32).toNat = (tile t z).val := by
  have := trip4_2 t
  have hz := z.isLt
  have e : (Scalar.addi (Scalar.muli (Scf.iv 0#32 1#32 t.val) 4#32) (BitVec.ofNat 32 z.val)).toNat = 4 * t.val + z.val := by
    simp only [tn_addi, tn_muli, tn_iv, BitVec.toNat_ofNat]; omega
  rw [min14 _ (by omega), e]; rfl

theorem off17_eq (i : grid0.Coords) (t : Fin k0_t2_loop.trips) (h : Fin 2) (z : Fin 4) :
    k0_off17 i t (BitVec.ofNat 32 (2176 * h.val)) (BitVec.ofNat 32 z.val) = ![(alt (par i)).val * 4352 + 2176 * h.val + (tile t z).val, 0] := by
  have := grid_lt i
  have ht := (tile t z).isLt
  have hh := h.isLt
  simp only [k0_off17, Scalar.indexCast]
  refine vec2 ?_
  have := (alt (par i)).isLt
  rw [tn_addi, tn_tile, tn_addi, tn_alt, BitVec.toNat_ofNat]; omega
theorem off18_eq (t : Fin k0_t2_loop.trips) (z : Fin 4) : k0_off18 t (BitVec.ofNat 32 z.val) = ![128 * (tile t z).val, 128 * (0 : Fin 2).val] := by
  have ht := (tile t z).isLt
  simp only [k0_off18, Scalar.indexCast]
  refine vec2 ?_
  rw [tn_muli, tn_tile]; simp only [BitVec.toNat_ofNat]; omega
theorem off19_eq (t : Fin k0_t2_loop.trips) (z : Fin 4) : k0_off19 t (BitVec.ofNat 32 z.val) = ![128 * (tile t z).val, 128 * (1 : Fin 2).val] := by
  have ht := (tile t z).isLt
  simp only [k0_off19, Scalar.indexCast]
  refine vec2 ?_
  rw [tn_muli, tn_tile]; simp only [BitVec.toNat_ofNat]; omega

theorem tn_k (t : Fin k0_t1_loop.trips) : (Scalar.muli (Scf.iv 0#32 1#32 t.val) 128#32).toNat = 128 * t.val := by
  have := trip12_1 t
  simp only [tn_muli, tn_iv, BitVec.toNat_ofNat]; omega
theorem off3_eq (t : Fin k0_t1_loop.trips) (s : Fin 8) : k0_off3 t (BitVec.ofNat 32 s.val) = ![1024 * t.val + s.val, 0] := by
  have := trip12_1 t
  have hs := s.isLt
  simp only [k0_off3, Scalar.indexCast]
  refine vec2 ?_
  rw [tn_addi, tn_muli, tn_k]; simp only [BitVec.toNat_ofNat]; omega
theorem off1_eq (t : Fin k0_t1_loop.trips) : k0_off1 t = ![0, 128 * t.val] := vec2' (tn_k t)
theorem off2_eq (t : Fin k0_t1_loop.trips) : k0_off2 t = ![128, 128 * t.val] := vec2' (tn_k t)
theorem off4_eq (t : Fin k0_t1_loop.trips) : k0_off4 t = ![256, 128 * t.val] := vec2' (tn_k t)
theorem off5_eq (t : Fin k0_t1_loop.trips) : k0_off5 t = ![384, 128 * t.val] := vec2' (tn_k t)
theorem off6_eq (t : Fin k0_t1_loop.trips) : k0_off6 t = ![512, 128 * t.val] := vec2' (tn_k t)
theorem off7_eq (t : Fin k0_t1_loop.trips) : k0_off7 t = ![640, 128 * t.val] := vec2' (tn_k t)
theorem off8_eq (t : Fin k0_t1_loop.trips) : k0_off8 t = ![768, 128 * t.val] := vec2' (tn_k t)
theorem off9_eq (t : Fin k0_t1_loop.trips) : k0_off9 t = ![896, 128 * t.val] := vec2' (tn_k t)
theorem off10_eq (t : Fin k0_t1_loop.trips) : k0_off10 t = ![1024, 128 * t.val] := vec2' (tn_k t)
theorem off11_eq (t : Fin k0_t1_loop.trips) : k0_off11 t = ![1152, 128 * t.val] := vec2' (tn_k t)
theorem off12_eq (t : Fin k0_t1_loop.trips) : k0_off12 t = ![1280, 128 * t.val] := vec2' (tn_k t)
theorem off13_eq (t : Fin k0_t1_loop.trips) : k0_off13 t = ![1408, 128 * t.val] := vec2' (tn_k t)
theorem off14_eq (t : Fin k0_t1_loop.trips) : k0_off14 t = ![1536, 128 * t.val] := vec2' (tn_k t)
theorem off15_eq (t : Fin k0_t1_loop.trips) : k0_off15 t = ![1664, 128 * t.val] := vec2' (tn_k t)
theorem off16_eq (t : Fin k0_t1_loop.trips) : k0_off16 t = ![1792, 128 * t.val] := vec2' (tn_k t)

end Cert.Proof.SI
-- ==== Proof.S.Checks.lean ====
/-
  The addresses of `Sparse`'s body in closed form and the body's assumptions, from those of `SparseIdeal`'s body.
-/
module

public import proofs.«01_k».proof.Proof.S.Common
public import proofs.«01_k».proof.Proof.SI.Checks
public import Idealize.ShloMosaic.Lib.WordArith.Masks
public import Idealize.ShloMosaic.Lib.ValueIdxCore
public import Idealize.ShloMosaic.Lib.Pipeline.Value

@[expose] public section

noncomputable section

namespace Cert.Proof.S

open Cert.Sparse Cert.Sparse.Gen
open Idealize.ShloMosaic Idealize.ShloMosaic.WordArith

variable {F : FTy → Type} [FloatOps F]

/-- What the body needs of its tables to be defined. -/
structure Good (X : Ins F) : Prop where
  le : ∀ i, (X.x1 i : BitVec 32).toNat ≤ 61931
  dvd : ∀ i, 8 ∣ (X.x2 i : BitVec 32).toNat
  lt : ∀ i, (X.x2 i : BitVec 32).toNat < 12288
theorem tn_iv (lb : BitVec 32) (k : ℕ) : (Scf.iv lb 1#32 k).toNat = (lb.toNat + k) % 2 ^ 32 := SI.tn_iv lb k
theorem trip12_1 (t : Fin k0_t1_loop.trips) : t.val < 12 := SI.trip12_1 t
theorem trip4_2 (t : Fin k0_t2_loop.trips) : t.val < 4 := SI.trip4_2 t
theorem trip256_3 (t : Fin k0_t3_loop.trips) : t.val < 256 := SI.trip256_3 t
theorem trips4 (v w : BitVec 32) (hv : v.toNat ≤ 61931) (hw : w.toNat ≤ 61931) : (k0_t4_loop v w).trips = w.toNat - v.toNat := SI.trips4 v w hv hw
theorem trips5 (v w : BitVec 32) (hw : w.toNat ≤ 61931) : (k0_t5_loop v w).trips = 0 := SI.trips5 v w hw
theorem off23_eq (v w : BitVec 32) (hv : v.toNat ≤ 61931) (hw : w.toNat ≤ 61931) (t : Fin (k0_t4_loop v w).trips) :
    k0_off23 v w t = ![(v.toNat + t.val) / 256 * 8 + (v.toNat + t.val) % 8, 0] := SI.off23_eq v w hv hw t
theorem off24_eq (v w : BitVec 32) (hv : v.toNat ≤ 61931) (hw : w.toNat ≤ 61931) (t : Fin (k0_t4_loop v w).trips) :
    k0_off24 v w t = ![v.toNat + t.val] := SI.off24_eq v w hv hw t
theorem off25_eq (v : BitVec 32) : k0_off25 v = ![v.toNat, 0] := SI.off25_eq v
theorem chk1 (v w : BitVec 32) (hv : v.toNat ≤ 61931) (hw : w.toNat ≤ 61931) : k0_chk1 v w := SI.chk1 v w hv hw
theorem chk2 (v : BitVec 32) (h : 8 ∣ v.toNat) (hl : v.toNat < 12288) : k0_chk2 v := SI.chk2 v h hl
/-- The half of the sums that a grid point fills. -/
def par (i : grid0.Coords) : Fin 2 := ⟨(i 0).val % 2, Nat.mod_lt _ (by decide)⟩
/-- The other half, which it copies out. -/
def alt (p : Fin 2) : Fin 2 := ⟨1 - p.val, by omega⟩
/-- The block of a grid point. -/
def blk (i : grid0.Coords) : ℕ := min (i 0).val 34
theorem off20_eq (i : grid0.Coords) (t : Fin k0_t3_loop.trips) : k0_off20 i t = ![(par i).val * 4352 + 17 * t.val, 0] := SI.off20_eq i t
theorem off26_eq (i : grid0.Coords) (t : Fin k0_t3_loop.trips) : k0_off26 i t = ![(par i).val * 4352 + 17 * t.val, 0] := SI.off26_eq i t
theorem off21_eq (i : grid0.Coords) (t : Fin k0_t3_loop.trips) : k0_off21 i t = ![blk i * 256 + t.val] := SI.off21_eq i t
theorem off22_eq (i : grid0.Coords) (t : Fin k0_t3_loop.trips) : k0_off22 i t = ![blk i * 256 + t.val + 1] := SI.off22_eq i t
/-- The tile of rows of a trip of the copying loop. -/
def tile (t : Fin k0_t2_loop.trips) (z : Fin 4) : Fin 15 := ⟨min (4 * t.val + z.val) 14, by omega⟩
theorem off17_eq (i : grid0.Coords) (t : Fin k0_t2_loop.trips) (h : Fin 2) (z : Fin 4) :
    k0_off17 i t (BitVec.ofNat 32 (2176 * h.val)) (BitVec.ofNat 32 z.val) = ![(alt (par i)).val * 4352 + 2176 * h.val + (tile t z).val, 0] := SI.off17_eq i t h z
theorem off18_eq (t : Fin k0_t2_loop.trips) (z : Fin 4) : k0_off18 t (BitVec.ofNat 32 z.val) = ![128 * (tile t z).val, 128 * (0 : Fin 2).val] := SI.off18_eq t z
theorem off19_eq (t : Fin k0_t2_loop.trips) (z : Fin 4) : k0_off19 t (BitVec.ofNat 32 z.val) = ![128 * (tile t z).val, 128 * (1 : Fin 2).val] := SI.off19_eq t z
theorem off3_eq (t : Fin k0_t1_loop.trips) (s : Fin 8) : k0_off3 t (BitVec.ofNat 32 s.val) = ![1024 * t.val + s.val, 0] := SI.off3_eq t s
theorem off1_eq (t : Fin k0_t1_loop.trips) : k0_off1 t = ![0, 128 * t.val] := SI.off1_eq t
theorem off2_eq (t : Fin k0_t1_loop.trips) : k0_off2 t = ![128, 128 * t.val] := SI.off2_eq t
theorem off4_eq (t : Fin k0_t1_loop.trips) : k0_off4 t = ![256, 128 * t.val] := SI.off4_eq t
theorem off5_eq (t : Fin k0_t1_loop.trips) : k0_off5 t = ![384, 128 * t.val] := SI.off5_eq t
theorem off6_eq (t : Fin k0_t1_loop.trips) : k0_off6 t = ![512, 128 * t.val] := SI.off6_eq t
theorem off7_eq (t : Fin k0_t1_loop.trips) : k0_off7 t = ![640, 128 * t.val] := SI.off7_eq t
theorem off8_eq (t : Fin k0_t1_loop.trips) : k0_off8 t = ![768, 128 * t.val] := SI.off8_eq t
theorem off9_eq (t : Fin k0_t1_loop.trips) : k0_off9 t = ![896, 128 * t.val] := SI.off9_eq t
theorem off10_eq (t : Fin k0_t1_loop.trips) : k0_off10 t = ![1024, 128 * t.val] := SI.off10_eq t
theorem off11_eq (t : Fin k0_t1_loop.trips) : k0_off11 t = ![1152, 128 * t.val] := SI.off11_eq t
theorem off12_eq (t : Fin k0_t1_loop.trips) : k0_off12 t = ![1280, 128 * t.val] := SI.off12_eq t
theorem off13_eq (t : Fin k0_t1_loop.trips) : k0_off13 t = ![1408, 128 * t.val] := SI.off13_eq t
theorem off14_eq (t : Fin k0_t1_loop.trips) : k0_off14 t = ![1536, 128 * t.val] := SI.off14_eq t
theorem off15_eq (t : Fin k0_t1_loop.trips) : k0_off15 t = ![1664, 128 * t.val] := SI.off15_eq t
theorem off16_eq (t : Fin k0_t1_loop.trips) : k0_off16 t = ![1792, 128 * t.val] := SI.off16_eq t

end Cert.Proof.S
-- ==== Proof.SI.Vals.lean ====
/-
  The values `SparseIdeal`'s body computes: the packed words of the activations, one entry's product, the running sum of a
  column, and what a store does to each of the three buffers.
-/
module

public import proofs.«01_k».proof.Proof.SI.Checks

@[expose] public section

noncomputable section

namespace Cert.Proof.SI

open Cert.SparseIdeal Cert.SparseIdeal.Gen
open Idealize.ShloMosaic Idealize.ShloMosaic.WordArith Idealize.ShloMosaic.ValueIdx Idealize.SL.Sem

variable {F : FTy → Type} [FloatOps F]

theorem app_bit (h l : BitVec 16) (i : ℕ) : (h ++ l : BitVec 32).getLsbD i = if i < 16 then l.getLsbD i else h.getLsbD (i - 16) :=
  (BitVec.getLsbD_append ..).trans (by split <;> simp_all)

/-- Packing two halves into one word. -/
theorem pack2 (lo hi : BitVec 16) : IntOp.ori (IntOp.shrui .vector (IntOp.shli .vector (BitVec.setWidth 32 lo) 16#32) 16#32)
    (IntOp.shli .vector (BitVec.setWidth 32 hi) 16#32) = hi ++ lo := by
  apply BitVec.eq_of_getLsbD_eq
  intro i hi'
  rw [app_bit]
  interval_cases i <;> simp [IntOp.ori, IntOp.shrui, IntOp.shli]
/-- Packing one half, the upper one zero. -/
theorem pack1 (lo : BitVec 16) : IntOp.shrui .vector (IntOp.shli .vector (BitVec.setWidth 32 lo) 16#32) 16#32 = 0#16 ++ lo := by
  apply BitVec.eq_of_getLsbD_eq
  intro i hi'
  rw [app_bit]
  interval_cases i <;> simp [IntOp.shrui, IntOp.shli]

/-- The packed word of column `k`: rows `256 s + l` and `256 s + 128 + l`, the last tile's upper half zero. -/
def xword (f : S1920x1536.Idx → BitVec 16) (k : Fin 1536) (s : Fin 8) (l : Fin 128) : BitVec 32 :=
  if h : s.val < 7 then f (ix2 ⟨256 * s.val + 128 + l.val, by omega⟩ k) ++ f (ix2 ⟨256 * s.val + l.val, by omega⟩ k)
  else 0#16 ++ f (ix2 ⟨256 * s.val + l.val, by omega⟩ k)

/-- The words of an entry's column. -/
def xrow (X : Ins F) (e : ℕ) : Vec F S8x128 .i32 := fun j =>
  xword X.x3 ⟨(X.x2 (ix1 ⟨e % 65024, Nat.mod_lt _ (by decide)⟩) : BitVec 32).toNat / 8 % 1536, Nat.mod_lt _ (by decide)⟩ (j 0) (j 1)

/-- The row of values an entry's value lies in. -/
def vrow (X : Ins F) (e : ℕ) : Vec F S1x32 .i32 := fun j => X.x4 (ix2 ⟨(e / 256 * 8 + e % 8) % 2032, Nat.mod_lt _ (by decide)⟩ (j 1))

/-- One entry's product, from its row of values and the words of its column. -/
def term (v39 : Vec F S1x32 .i32) (v58 : Vec F S8x128 .i32) (a : BitVec 32) : FVec F S16x128 .f32 :=
  mulf (extf .f32 (bitcastToFloat .bf16 (bitcast S16x128 16 v58 bitcasts_S8x128_w32_S16x128_w16)) bitsLt_bf16_f32)
    (broadcastTo S16x128 (shapeCast S1x1 (multiReduction .add [1] S1
      (select (cmpi .eq (iota .tc S1x32 32 [1] iota_S1x32_d1_w32) (broadcast S1x32 (Scalar.shrui (Scalar.andi a 255#32) 3#32)))
        (bitcastToFloat .f32 (andi v39 (broadcast S1x32 4294901760#32))) (broadcast S1x32 (Scalar.ofBits .f32 0x00000000#32)))
      0x00000000#32 reduces_S1x32_S1 (.inl rfl) rfl) shapeCasts_S1_S1x1) broadcasts_S1x1_S16x128)

/-- One entry's product. -/
def tm (X : Ins F) (e : ℕ) : FVec F S16x128 .f32 := term (vrow X e) (xrow X e) (BitVec.ofNat 32 e)

/-- The sum over `n` entries from `e`. -/
def sums (X : Ins F) (e : ℕ) : ℕ → FVec F S16x128 .f32
  | 0 => k0_pay3
  | n + 1 => addf (sums X e n) (tm X (e + n))

/-- A word of the row pointer. -/
def rp (X : Ins F) (n : ℕ) : ℕ := (X.x1 (ix1 ⟨n % 8961, Nat.mod_lt _ (by decide)⟩) : BitVec 32).toNat

/-- The sum of a column. -/
def colsum (X : Ins F) (n : ℕ) : FVec F S16x128 .f32 := sums X (rp X n) (rp X (n + 1) - rp X n)

theorem pay4_eq (v w : Elt F .i32) (t : Fin (k0_t4_loop v w).trips) (v39 : Vec F S1x32 .i32) (v58 : Vec F S8x128 .i32) (v62 : Vec F S16x128 .f32) :
    k0_pay4 v w t v39 v58 v62 = addf v62 (term v39 v58 (Scf.iv v 1#32 t.val)) := by
  unfold k0_pay4 term
  simp only [shapeCast_self]

/-- A row of the sums: half, column and row tile. -/
def yrow (p : Fin 2) (c : Fin 256) (r : Fin 16) : Fin 8704 := ⟨p.val * 4352 + 17 * c.val + r.val, by omega⟩

/-- A column's sums lie in the buffer. -/
def At (p : Fin 2) (c : Fin 256) (w : S16x128.Idx → F .f32) (f : S8704x128.Idx → F .f32) : Prop :=
  ∀ (r : Fin 16) (l : Fin 128), f (ix2 (yrow p c r) l) = w (ix2 r l)

section Upd

variable {α : Type}

theorem unit_emb {n0 n1 m0 m1 a b : ℕ} {inb : ∀ x, (![a, b] : Fin 2 → ℕ) x + (⟨2, ![m0, m1]⟩ : Shape).size x ≤ (⟨2, ![n0, n1]⟩ : Shape).size x}
    (r : Fin m0) (l : Fin m1) (h0 : a + r.val < n0) (h1 : b + l.val < n1) :
    (Rect.unit (s := (⟨2, ![n0, n1]⟩ : Shape)) ![a, b] (⟨2, ![m0, m1]⟩ : Shape).size inb).emb (ix2 r l) = ix2 ⟨a + r.val, h0⟩ ⟨b + l.val, h1⟩ := by
  funext x
  match x with
  | ⟨0, _⟩ => exact Fin.ext (congrArg (a + ·) (Nat.one_mul _))
  | ⟨1, _⟩ => exact Fin.ext (congrArg (b + ·) (Nat.one_mul _))

theorem str_idx {n0 n1 m0 m1 a k : ℕ} {inb}
    (r : Fin m0) (l : Fin m1) (h0 : a + k * r.val < n0) (h1 : l.val < n1) :
    (⟨![a, 0], (⟨2, ![m0, m1]⟩ : Shape).size, ![k, 1], inb⟩ : LoadRect (⟨2, ![n0, n1]⟩ : Shape)).idx (ix2 r l) = ix2 ⟨a + k * r.val, h0⟩ ⟨l.val, h1⟩ := by
  funext x
  match x with
  | ⟨0, _⟩ => exact Fin.ext rfl
  | ⟨1, _⟩ => exact Fin.ext ((congrArg (0 + ·) (Nat.one_mul _)).trans (Nat.zero_add _))

end Upd

/-- A store of a column's sums. -/
theorem at_store {p : Fin 2} {c : Fin 256} {f f' : S8704x128.Idx → F .f32} {off : Fin 2 → ℕ} {inb : ∀ a, off a + S16x128.size a ≤ S8704x128.size a}
    {w : S16x128.Idx → F .f32} (hoff : off = ![p.val * 4352 + 17 * c.val, 0])
    (hU : Upd (Rect.unit (s := S8704x128) off S16x128.size inb) w f f') :
    At p c w f' ∧ ∀ (c' : Fin 256) (w' : S16x128.Idx → F .f32), c' ≠ c → At p c' w' f → At p c' w' f' := by
  subst hoff
  refine ⟨fun r l => ?_, fun c' w' hc h r l => ?_⟩
  · have hj := hU.1 (ix2 r l)
    rw [show (Rect.unit (s := S8704x128) ![p.val * 4352 + 17 * c.val, 0] S16x128.size inb).emb (ix2 r l) = ix2 (yrow p c r) l from
      (unit_emb r l (yrow p c r).isLt (by omega)).trans (congrArg (ix2 (yrow p c r)) (Fin.ext (Nat.zero_add _)))] at hj
    exact hj
  · refine (hU.2 _ fun j hj => ?_).trans (h r l)
    have h0 : p.val * 4352 + 17 * c.val + 1 * (j 0).val = p.val * 4352 + 17 * c'.val + r.val := congrArg (fun i => (i 0).val) hj
    have : c'.val ≠ c.val := fun h => hc (Fin.ext h)
    have := idx2_lt0 j
    omega

/-- A load of a column's sums. -/
theorem at_load {p : Fin 2} {c : Fin 256} {f : S8704x128.Idx → F .f32} {off : Fin 2 → ℕ} {inb : ∀ a, off a + S16x128.size a ≤ S8704x128.size a}
    {w : S16x128.Idx → F .f32} (hoff : off = ![p.val * 4352 + 17 * c.val, 0]) (h : At p c w f) :
    (fun j => f ((Rect.unit (s := S8704x128) off S16x128.size inb).toLoadRect.idx j)) = w := by
  subst hoff
  funext j
  rw [eq_ix2 j]
  refine Eq.trans (congrArg f ?_) (h (j 0) (j 1))
  exact (unit_emb (j 0) (j 1) (yrow p c (j 0)).isLt (by have := idx2_lt1 j; omega)).trans (congrArg (ix2 (yrow p c (j 0))) (Fin.ext (Nat.zero_add _)))

/-- The packed activations where `D` says. -/
def XT (X : Ins F) (D : ℕ → ℕ → Prop) (f : S12288x128.Idx → BitVec 32) : Prop :=
  ∀ (k : Fin 1536) (s : Fin 8), D k.val s.val → ∀ l : Fin 128, f (ix2 ⟨8 * k.val + s.val, by omega⟩ l) = xword X.x3 k s l

/-- A store of one of the eight tiles of 128 columns. -/
theorem xt_store {X : Ins F} {D : ℕ → ℕ → Prop} {f f' : S12288x128.Idx → BitVec 32} (t : Fin 12) (s : Fin 8) {off : Fin 2 → ℕ} {inb pos}
    {w : S128x128.Idx → BitVec 32} (hoff : off = ![1024 * t.val + s.val, 0])
    (hw : ∀ (a l : Fin 128), w (ix2 a l) = xword X.x3 ⟨128 * t.val + a.val, by omega⟩ s l)
    (hU : Upd (⟨(⟨off, S128x128.size, ![8, 1], inb⟩ : LoadRect S12288x128), pos⟩ : Rect S12288x128) w f f') (hf : XT X D f) :
    XT X (fun k r => D k r ∨ (128 * t.val ≤ k ∧ k < 128 * t.val + 128 ∧ r = s.val)) f' := by
  subst hoff
  intro k r hD l
  by_cases hin : 128 * t.val ≤ k.val ∧ k.val < 128 * t.val + 128 ∧ r.val = s.val
  · obtain ⟨h1, h2, h3⟩ := hin
    obtain rfl : r = s := Fin.ext h3
    have hj := hU.1 (ix2 (n0 := 128) (n1 := 128) ⟨k.val - 128 * t.val, by omega⟩ l)
    have e : (⟨(⟨![1024 * t.val + r.val, 0], S128x128.size, ![8, 1], inb⟩ : LoadRect S12288x128), pos⟩ : Rect S12288x128).emb (ix2 (n0 := 128) (n1 := 128) ⟨k.val - 128 * t.val, by omega⟩ l)
        = ix2 ⟨8 * k.val + r.val, by omega⟩ l := by
      funext x
      match x with
      | ⟨0, _⟩ => exact Fin.ext (by show 1024 * t.val + r.val + 8 * (k.val - 128 * t.val) = 8 * k.val + r.val; omega)
      | ⟨1, _⟩ => exact Fin.ext (by show 0 + 1 * l.val = l.val; omega)
    rw [e] at hj
    rw [hj, hw]
    congr 1
    exact Fin.ext (by show 128 * t.val + (k.val - 128 * t.val) = k.val; omega)
  · refine (hU.2 _ fun j hj => hin ?_).trans (hf k r (hD.resolve_right hin) l)
    have h0 : 1024 * t.val + s.val + 8 * (j 0).val = 8 * k.val + r.val := congrArg (fun i => (i 0).val) hj
    have := idx2_lt0 j
    have := s.isLt
    have := r.isLt
    omega

/-- The copied sums where `D` says: tile and half. -/
def Out (Y : Fin 256 → S16x128.Idx → F .f32) (D : ℕ → ℕ → Prop) (f : S1920x256.Idx → F .f32) : Prop :=
  ∀ (t : Fin 15) (h : Fin 2), D t.val h.val → ∀ (a : Fin 128) (c : Fin 128),
    f (ix2 ⟨128 * t.val + a.val, by omega⟩ ⟨128 * h.val + c.val, by omega⟩) = Y ⟨128 * h.val + c.val, by omega⟩ (ix2 ⟨t.val, by omega⟩ a)

/-- A store of one copied tile. -/
theorem out_store {Y : Fin 256 → S16x128.Idx → F .f32} {D : ℕ → ℕ → Prop} {f f' : S1920x256.Idx → F .f32} (t : Fin 15) (h : Fin 2) {off : Fin 2 → ℕ}
    {inb : ∀ a, off a + S128x128.size a ≤ S1920x256.size a} {w : S128x128.Idx → F .f32} (hoff : off = ![128 * t.val, 128 * h.val])
    (hw : ∀ (a c : Fin 128), w (ix2 a c) = Y ⟨128 * h.val + c.val, by omega⟩ (ix2 ⟨t.val, by omega⟩ a))
    (hU : Upd (Rect.unit (s := S1920x256) off S128x128.size inb) w f f') (hf : Out Y D f) :
    Out Y (fun u k => D u k ∨ (u = t.val ∧ k = h.val)) f' := by
  subst hoff
  intro u k hD a c
  by_cases hin : u.val = t.val ∧ k.val = h.val
  · obtain ⟨h1, h2⟩ := hin
    obtain rfl : u = t := Fin.ext h1
    obtain rfl : k = h := Fin.ext h2
    have hj := hU.1 (ix2 (n0 := 128) (n1 := 128) a c)
    rw [unit_emb a c (by omega) (by omega)] at hj
    rw [hj, hw]
  · refine (hU.2 _ fun j hj => hin ?_).trans (hf u k (hD.resolve_right hin) a c)
    have h0 : 128 * t.val + 1 * (j 0).val = 128 * u.val + a.val := congrArg (fun i => (i 0).val) hj
    have h1 : 128 * h.val + 1 * (j 1).val = 128 * k.val + c.val := congrArg (fun i => (i 1).val) hj
    have := idx2_lt0 j
    have := idx2_lt1 j
    omega

/-- A strided load of the sums, transposed, is a tile. -/
theorem out_load {p h : Fin 2} {f : S8704x128.Idx → F .f32} {Y : Fin 256 → S16x128.Idx → F .f32} (hY : ∀ c, At p c (Y c) f) (t : Fin 15) {off : Fin 2 → ℕ} {inb}
    (hoff : off = ![p.val * 4352 + 2176 * h.val + t.val, 0]) (a c : Fin 128) :
    transpose S128x128 [1, 0] (fun j => f ((⟨off, S128x128.size, ![17, 1], inb⟩ : LoadRect S8704x128).idx j)) transposes_S128x128_p1_0_S128x128 (ix2 a c)
      = Y ⟨128 * h.val + c.val, by omega⟩ (ix2 ⟨t.val, by omega⟩ a) := by
  subst hoff
  rw [← hY ⟨128 * h.val + c.val, by omega⟩ ⟨t.val, by omega⟩ a]
  refine congrArg f ?_
  funext x
  match x with
  | ⟨0, _⟩ => exact Fin.ext (by show p.val * 4352 + 2176 * h.val + t.val + 17 * c.val = p.val * 4352 + 17 * (128 * h.val + c.val) + t.val; omega)
  | ⟨1, _⟩ => exact Fin.ext (by show 0 + 1 * a.val = a.val; omega)

/-- A load of a tile of the activations. -/
theorem x3_load (X : Ins F) (t : Fin 12) (r : ℕ) (hr : r + 128 ≤ 1920) {off : Fin 2 → ℕ} {inb : ∀ a, off a + S128x128.size a ≤ S1920x1536.size a}
    (hoff : off = ![r, 128 * t.val]) (l a : Fin 128) :
    X.x3 ((Rect.unit (s := S1920x1536) off S128x128.size inb).toLoadRect.idx (ix2 l a)) = X.x3 (ix2 ⟨r + l.val, by omega⟩ ⟨128 * t.val + a.val, by omega⟩) := by
  subst hoff
  exact congrArg X.x3 (unit_emb l a (by omega) (by omega))

/-- The words of two tiles. -/
def duo (v v' : S128x128.Idx → BitVec 16) : S128x128.Idx → BitVec 32 := fun j => v' (ix2 (j 1) (j 0)) ++ v (ix2 (j 1) (j 0))
/-- The words of the last tile. -/
def uno (v : S128x128.Idx → BitVec 16) : S128x128.Idx → BitVec 32 := fun j => 0#16 ++ v (ix2 (j 1) (j 0))

theorem duo_eq (X : Ins F) (t : Fin 12) (s : Fin 8) (hs : s.val < 7) {v v' : S128x128.Idx → BitVec 16}
    (h : ∀ l a : Fin 128, v (ix2 l a) = X.x3 (ix2 ⟨256 * s.val + l.val, by omega⟩ ⟨128 * t.val + a.val, by omega⟩))
    (h' : ∀ l a : Fin 128, v' (ix2 l a) = X.x3 (ix2 ⟨256 * s.val + 128 + l.val, by omega⟩ ⟨128 * t.val + a.val, by omega⟩)) (a l : Fin 128) :
    duo v v' (ix2 a l) = xword X.x3 ⟨128 * t.val + a.val, by omega⟩ s l := by
  unfold xword
  rw [dif_pos hs]
  exact congrArg₂ (fun x y : BitVec 16 => (x ++ y : BitVec 32)) (h' l a) (h l a)

theorem uno_eq (X : Ins F) (t : Fin 12) {v : S128x128.Idx → BitVec 16}
    (h : ∀ l a : Fin 128, v (ix2 l a) = X.x3 (ix2 ⟨1792 + l.val, by omega⟩ ⟨128 * t.val + a.val, by omega⟩)) (a l : Fin 128) :
    uno v (ix2 a l) = xword X.x3 ⟨128 * t.val + a.val, by omega⟩ 7 l := by
  unfold xword
  rw [dif_neg (by decide)]
  exact congrArg (fun y : BitVec 16 => (0#16 ++ y : BitVec 32)) (h l a)

theorem tr_apply (v : S128x128.Idx → BitVec 32) (j : S128x128.Idx) :
    transpose S128x128 [1, 0] v transposes_S128x128_p1_0_S128x128 j = v (ix2 (j 1) (j 0)) := by
  refine congrArg v ?_
  funext x
  match x with
  | ⟨0, _⟩ => rfl
  | ⟨1, _⟩ => rfl

theorem pay6_eq (v v' : Vec F S128x128 .i16) : k0_pay6 v v' = duo v v' := by
  funext j
  simp only [k0_pay6, shapeCast_self]
  refine (tr_apply _ j).trans ?_
  simp only [Idealize.ShloMosaic.ori, Idealize.ShloMosaic.shrui, Idealize.ShloMosaic.shli, Idealize.ShloMosaic.extui, Idealize.ShloMosaic.broadcast]
  exact pack2 _ _
theorem pay78_eq (v v' : Vec F S128x128 .i16) : k0_pay8 (k0_pay7 v v') = duo v v' := pay6_eq v v'
theorem pay9_eq (v v' : Vec F S128x128 .i16) : k0_pay9 v v' = duo v v' := pay6_eq v v'
theorem pay1011_eq (v v' : Vec F S128x128 .i16) : k0_pay11 (k0_pay10 v v') = duo v v' := pay6_eq v v'
theorem pay12_eq (v v' : Vec F S128x128 .i16) : k0_pay12 v v' = duo v v' := pay6_eq v v'
theorem pay1314_eq (v v' : Vec F S128x128 .i16) : k0_pay14 (k0_pay13 v v') = duo v v' := pay6_eq v v'
theorem pay15_eq (v v' : Vec F S128x128 .i16) : k0_pay15 v v' = duo v v' := pay6_eq v v'
theorem pay161_eq (v : Vec F S128x128 .i16) : k0_pay1 (k0_pay16 v) = uno v := by
  funext j
  simp only [k0_pay1, k0_pay16, shapeCast_self]
  refine (tr_apply _ j).trans ?_
  simp only [Idealize.ShloMosaic.ori, Idealize.ShloMosaic.shrui, Idealize.ShloMosaic.shli, Idealize.ShloMosaic.extui, Idealize.ShloMosaic.broadcast]
  exact pack1 _

end Cert.Proof.SI
-- ==== Proof.S.Vals.lean ====
/-
  The values `Sparse`'s body computes, and what a store does to each of the three buffers, from those of `SparseIdeal`'s
  body.
-/
module

public import proofs.«01_k».proof.Proof.S.Checks
public import proofs.«01_k».proof.Proof.SI.Vals

@[expose] public section

noncomputable section

namespace Cert.Proof.S

open Cert.Sparse Cert.Sparse.Gen
open Idealize.ShloMosaic Idealize.ShloMosaic.WordArith Idealize.ShloMosaic.ValueIdx Idealize.SL.Sem

variable {F : FTy → Type} [FloatOps F]

/-- The same contents, as those of `SparseIdeal`'s body. -/
abbrev toI (X : Ins F) : SI.Ins F := ⟨X.x1, X.x2, X.x3, X.x4⟩

/-- The packed word of column `k`: rows `256 s + l` and `256 s + 128 + l`, the last tile's upper half zero. -/
def xword (f : S1920x1536.Idx → BitVec 16) (k : Fin 1536) (s : Fin 8) (l : Fin 128) : BitVec 32 :=
  if h : s.val < 7 then f (ix2 ⟨256 * s.val + 128 + l.val, by omega⟩ k) ++ f (ix2 ⟨256 * s.val + l.val, by omega⟩ k)
  else 0#16 ++ f (ix2 ⟨256 * s.val + l.val, by omega⟩ k)
/-- The words of an entry's column. -/
def xrow (X : Ins F) (e : ℕ) : Vec F S8x128 .i32 := fun j =>
  xword X.x3 ⟨(X.x2 (ix1 ⟨e % 65024, Nat.mod_lt _ (by decide)⟩) : BitVec 32).toNat / 8 % 1536, Nat.mod_lt _ (by decide)⟩ (j 0) (j 1)
/-- The row of values an entry's value lies in. -/
def vrow (X : Ins F) (e : ℕ) : Vec F S1x32 .i32 := fun j => X.x4 (ix2 ⟨(e / 256 * 8 + e % 8) % 2032, Nat.mod_lt _ (by decide)⟩ (j 1))
/-- One entry's product, from its row of values and the words of its column. -/
def term (v39 : Vec F S1x32 .i32) (v58 : Vec F S8x128 .i32) (a : BitVec 32) : FVec F S16x128 .f32 :=
  mulf (extf .f32 (bitcastToFloat .bf16 (bitcast S16x128 16 v58 bitcasts_S8x128_w32_S16x128_w16)) bitsLt_bf16_f32)
    (broadcastTo S16x128 (shapeCast S1x1 (multiReduction .add [1] S1
      (select (cmpi .eq (iota .tc S1x32 32 [1] iota_S1x32_d1_w32) (broadcast S1x32 (Scalar.shrui (Scalar.andi a 255#32) 3#32)))
        (bitcastToFloat .f32 (andi v39 (broadcast S1x32 4294901760#32))) (broadcast S1x32 (Scalar.ofBits .f32 0x00000000#32)))
      0x00000000#32 reduces_S1x32_S1 (.inl rfl) rfl) shapeCasts_S1_S1x1) broadcasts_S1x1_S16x128)
/-- One entry's product. -/
def tm (X : Ins F) (e : ℕ) : FVec F S16x128 .f32 := term (vrow X e) (xrow X e) (BitVec.ofNat 32 e)
/-- The sum over `n` entries from `e`. -/
def sums (X : Ins F) (e : ℕ) : ℕ → FVec F S16x128 .f32
  | 0 => k0_pay3
  | n + 1 => addf (sums X e n) (tm X (e + n))
/-- A word of the row pointer. -/
def rp (X : Ins F) (n : ℕ) : ℕ := (X.x1 (ix1 ⟨n % 8961, Nat.mod_lt _ (by decide)⟩) : BitVec 32).toNat
/-- The sum of a column. -/
def colsum (X : Ins F) (n : ℕ) : FVec F S16x128 .f32 := sums X (rp X n) (rp X (n + 1) - rp X n)
theorem pay4_eq (v w : Elt F .i32) (t : Fin (k0_t4_loop v w).trips) (v39 : Vec F S1x32 .i32) (v58 : Vec F S8x128 .i32) (v62 : Vec F S16x128 .f32) :
    k0_pay4 v w t v39 v58 v62 = addf v62 (term v39 v58 (Scf.iv v 1#32 t.val)) := SI.pay4_eq v w t v39 v58 v62
/-- A row of the sums: half, column and row tile. -/
def yrow (p : Fin 2) (c : Fin 256) (r : Fin 16) : Fin 8704 := ⟨p.val * 4352 + 17 * c.val + r.val, by omega⟩
/-- A column's sums lie in the buffer. -/
def At (p : Fin 2) (c : Fin 256) (w : S16x128.Idx → F .f32) (f : S8704x128.Idx → F .f32) : Prop :=
  ∀ (r : Fin 16) (l : Fin 128), f (ix2 (yrow p c r) l) = w (ix2 r l)
/-- A store of a column's sums. -/
theorem at_store {p : Fin 2} {c : Fin 256} {f f' : S8704x128.Idx → F .f32} {off : Fin 2 → ℕ} {inb : ∀ a, off a + S16x128.size a ≤ S8704x128.size a}
    {w : S16x128.Idx → F .f32} (hoff : off = ![p.val * 4352 + 17 * c.val, 0])
    (hU : Upd (Rect.unit (s := S8704x128) off S16x128.size inb) w f f') :
    At p c w f' ∧ ∀ (c' : Fin 256) (w' : S16x128.Idx → F .f32), c' ≠ c → At p c' w' f → At p c' w' f' := SI.at_store hoff hU
/-- A load of a column's sums. -/
theorem at_load {p : Fin 2} {c : Fin 256} {f : S8704x128.Idx → F .f32} {off : Fin 2 → ℕ} {inb : ∀ a, off a + S16x128.size a ≤ S8704x128.size a}
    {w : S16x128.Idx → F .f32} (hoff : off = ![p.val * 4352 + 17 * c.val, 0]) (h : At p c w f) :
    (fun j => f ((Rect.unit (s := S8704x128) off S16x128.size inb).toLoadRect.idx j)) = w := SI.at_load hoff h
/-- The packed activations where `D` says. -/
def XT (X : Ins F) (D : ℕ → ℕ → Prop) (f : S12288x128.Idx → BitVec 32) : Prop :=
  ∀ (k : Fin 1536) (s : Fin 8), D k.val s.val → ∀ l : Fin 128, f (ix2 ⟨8 * k.val + s.val, by omega⟩ l) = xword X.x3 k s l
/-- A store of one of the eight tiles of 128 columns. -/
theorem xt_store {X : Ins F} {D : ℕ → ℕ → Prop} {f f' : S12288x128.Idx → BitVec 32} (t : Fin 12) (s : Fin 8) {off : Fin 2 → ℕ} {inb pos}
    {w : S128x128.Idx → BitVec 32} (hoff : off = ![1024 * t.val + s.val, 0])
    (hw : ∀ (a l : Fin 128), w (ix2 a l) = xword X.x3 ⟨128 * t.val + a.val, by omega⟩ s l)
    (hU : Upd (⟨(⟨off, S128x128.size, ![8, 1], inb⟩ : LoadRect S12288x128), pos⟩ : Rect S12288x128) w f f') (hf : XT X D f) :
    XT X (fun k r => D k r ∨ (128 * t.val ≤ k ∧ k < 128 * t.val + 128 ∧ r = s.val)) f' := SI.xt_store (X := toI X) t s hoff hw hU hf
/-- The copied sums where `D` says: tile and half. -/
def Out (Y : Fin 256 → S16x128.Idx → F .f32) (D : ℕ → ℕ → Prop) (f : S1920x256.Idx → F .f32) : Prop :=
  ∀ (t : Fin 15) (h : Fin 2), D t.val h.val → ∀ (a : Fin 128) (c : Fin 128),
    f (ix2 ⟨128 * t.val + a.val, by omega⟩ ⟨128 * h.val + c.val, by omega⟩) = Y ⟨128 * h.val + c.val, by omega⟩ (ix2 ⟨t.val, by omega⟩ a)
/-- A store of one copied tile. -/
theorem out_store {Y : Fin 256 → S16x128.Idx → F .f32} {D : ℕ → ℕ → Prop} {f f' : S1920x256.Idx → F .f32} (t : Fin 15) (h : Fin 2) {off : Fin 2 → ℕ}
    {inb : ∀ a, off a + S128x128.size a ≤ S1920x256.size a} {w : S128x128.Idx → F .f32} (hoff : off = ![128 * t.val, 128 * h.val])
    (hw : ∀ (a c : Fin 128), w (ix2 a c) = Y ⟨128 * h.val + c.val, by omega⟩ (ix2 ⟨t.val, by omega⟩ a))
    (hU : Upd (Rect.unit (s := S1920x256) off S128x128.size inb) w f f') (hf : Out Y D f) :
    Out Y (fun u k => D u k ∨ (u = t.val ∧ k = h.val)) f' := SI.out_store t h hoff hw hU hf
/-- A strided load of the sums, transposed, is a tile. -/
theorem out_load {p h : Fin 2} {f : S8704x128.Idx → F .f32} {Y : Fin 256 → S16x128.Idx → F .f32} (hY : ∀ c, At p c (Y c) f) (t : Fin 15) {off : Fin 2 → ℕ} {inb}
    (hoff : off = ![p.val * 4352 + 2176 * h.val + t.val, 0]) (a c : Fin 128) :
    transpose S128x128 [1, 0] (fun j => f ((⟨off, S128x128.size, ![17, 1], inb⟩ : LoadRect S8704x128).idx j)) transposes_S128x128_p1_0_S128x128 (ix2 a c)
      = Y ⟨128 * h.val + c.val, by omega⟩ (ix2 ⟨t.val, by omega⟩ a) := SI.out_load hY t hoff a c
/-- A load of a tile of the activations. -/
theorem x3_load (X : Ins F) (t : Fin 12) (r : ℕ) (hr : r + 128 ≤ 1920) {off : Fin 2 → ℕ} {inb : ∀ a, off a + S128x128.size a ≤ S1920x1536.size a}
    (hoff : off = ![r, 128 * t.val]) (l a : Fin 128) :
    X.x3 ((Rect.unit (s := S1920x1536) off S128x128.size inb).toLoadRect.idx (ix2 l a)) = X.x3 (ix2 ⟨r + l.val, by omega⟩ ⟨128 * t.val + a.val, by omega⟩) := SI.x3_load (toI X) t r hr hoff l a
/-- The words of two tiles. -/
def duo (v v' : S128x128.Idx → BitVec 16) : S128x128.Idx → BitVec 32 := fun j => v' (ix2 (j 1) (j 0)) ++ v (ix2 (j 1) (j 0))
/-- The words of the last tile. -/
def uno (v : S128x128.Idx → BitVec 16) : S128x128.Idx → BitVec 32 := fun j => 0#16 ++ v (ix2 (j 1) (j 0))
theorem duo_eq (X : Ins F) (t : Fin 12) (s : Fin 8) (hs : s.val < 7) {v v' : S128x128.Idx → BitVec 16}
    (h : ∀ l a : Fin 128, v (ix2 l a) = X.x3 (ix2 ⟨256 * s.val + l.val, by omega⟩ ⟨128 * t.val + a.val, by omega⟩))
    (h' : ∀ l a : Fin 128, v' (ix2 l a) = X.x3 (ix2 ⟨256 * s.val + 128 + l.val, by omega⟩ ⟨128 * t.val + a.val, by omega⟩)) (a l : Fin 128) :
    duo v v' (ix2 a l) = xword X.x3 ⟨128 * t.val + a.val, by omega⟩ s l := SI.duo_eq (toI X) t s hs h h' a l
theorem uno_eq (X : Ins F) (t : Fin 12) {v : S128x128.Idx → BitVec 16}
    (h : ∀ l a : Fin 128, v (ix2 l a) = X.x3 (ix2 ⟨1792 + l.val, by omega⟩ ⟨128 * t.val + a.val, by omega⟩)) (a l : Fin 128) :
    uno v (ix2 a l) = xword X.x3 ⟨128 * t.val + a.val, by omega⟩ 7 l := SI.uno_eq (toI X) t h a l
theorem pay6_eq (v v' : Vec F S128x128 .i16) : k0_pay6 v v' = duo v v' := SI.pay6_eq v v'
theorem pay78_eq (v v' : Vec F S128x128 .i16) : k0_pay8 (k0_pay7 v v') = duo v v' := SI.pay78_eq v v'
theorem pay9_eq (v v' : Vec F S128x128 .i16) : k0_pay9 v v' = duo v v' := SI.pay9_eq v v'
theorem pay1011_eq (v v' : Vec F S128x128 .i16) : k0_pay11 (k0_pay10 v v') = duo v v' := SI.pay1011_eq v v'
theorem pay12_eq (v v' : Vec F S128x128 .i16) : k0_pay12 v v' = duo v v' := SI.pay12_eq v v'
theorem pay1314_eq (v v' : Vec F S128x128 .i16) : k0_pay14 (k0_pay13 v v') = duo v v' := SI.pay1314_eq v v'
theorem pay15_eq (v v' : Vec F S128x128 .i16) : k0_pay15 v v' = duo v v' := SI.pay15_eq v v'
theorem pay161_eq (v : Vec F S128x128 .i16) : k0_pay1 (k0_pay16 v) = uno v := SI.pay161_eq v

end Cert.Proof.S
-- ==== Proof.SI.Body.lean ====
/-
  The triples of `SparseIdeal`'s body: what each loop, and the body at a grid point, leaves in the packed activations, in
  the running sums and in the output block.
-/
module

public import proofs.«01_k».proof.Proof.SI.Vals

@[expose] public section

noncomputable section

namespace Cert.Proof.SI

open Cert.SparseIdeal Cert.SparseIdeal.Gen
open Idealize.ShloMosaic Idealize.ShloMosaic.WordArith Idealize.ShloMosaic.ValueIdx Idealize.SL.Sem

variable {F : FTy → Type} [FloatOps F]

theorem unit_point {n : ℕ} (e : ℕ) (he : e < n) {off : Fin 1 → ℕ} {inb : ∀ a, off a + S1.size a ≤ (⟨1, ![n]⟩ : Shape).size a} {h1}
    (hoff : off = ![e]) : (Rect.unit (s := (⟨1, ![n]⟩ : Shape)) off S1.size inb).point h1 = ix1 ⟨e, he⟩ := by
  subst hoff
  funext x
  match x with
  | ⟨0, _⟩ =>
    apply Fin.ext
    have h : ∀ j : S1.Idx, (j 0).val = 0 := fun j => by have : (j 0).val < 1 := (j 0).isLt; omega
    exact (congrArg (fun z => e + 1 * z) (h (Shape.Idx.first _))).trans (Nat.add_zero e)

theorem x1_point (X : Ins F) (e : ℕ) (he : e < 8961) {off : Fin 1 → ℕ} {inb : ∀ a, off a + S1.size a ≤ S8961.size a} {h1}
    (hoff : off = ![e]) : (X.x1 ((Rect.unit (s := S8961) off S1.size inb).point h1) : BitVec 32).toNat = rp X e := by
  unfold rp
  rw [show (Rect.unit (s := S8961) off S1.size inb).point h1 = ix1 ⟨e, he⟩ from unit_point e he hoff]
  have h : (⟨e, he⟩ : Fin 8961) = ⟨e % 8961, Nat.mod_lt _ (by decide)⟩ := Fin.ext (Nat.mod_eq_of_lt he).symm
  rw [h]

theorem v_load (X : Ins F) (e : ℕ) (he : e < 65024) {off : Fin 2 → ℕ} {inb : ∀ a, off a + S1x32.size a ≤ S2032x32.size a}
    (hoff : off = ![e / 256 * 8 + e % 8, 0]) :
    (fun j => X.x4 ((Rect.unit (s := S2032x32) off S1x32.size inb).toLoadRect.idx j)) = vrow X e := by
  subst hoff
  funext j
  unfold vrow
  refine congrArg X.x4 ?_
  have h0 : (j 0).val < 1 := (j 0).isLt
  funext x
  match x with
  | ⟨0, _⟩ => exact Fin.ext (by show e / 256 * 8 + e % 8 + 1 * (j 0).val = (e / 256 * 8 + e % 8) % 2032; omega)
  | ⟨1, _⟩ => exact Fin.ext (by show 0 + 1 * (j 1).val = (j 1).val; omega)

theorem x_load {X : Ins F} {f : S12288x128.Idx → BitVec 32} (hX : XT X (fun _ _ => True) f) (e : ℕ) (he : e < 65024) {v : BitVec 32}
    (hv : v = X.x2 (ix1 ⟨e, he⟩)) (hd : 8 ∣ v.toNat) (hl : v.toNat < 12288) {off : Fin 2 → ℕ} {inb : ∀ a, off a + S8x128.size a ≤ S12288x128.size a}
    (hoff : off = ![v.toNat, 0]) :
    (fun j => f ((Rect.unit (s := S12288x128) off S8x128.size inb).toLoadRect.idx j)) = xrow X e := by
  subst hoff
  have hee : (⟨e % 65024, Nat.mod_lt _ (by decide)⟩ : Fin 65024) = ⟨e, he⟩ := Fin.ext (Nat.mod_eq_of_lt he)
  have hv' : v = X.x2 (ix1 ⟨e % 65024, Nat.mod_lt _ (by decide)⟩) := hv.trans (by rw [hee])
  clear hv
  funext j
  have h0 : (j 0).val < 8 := idx2_lt0 (n0 := 8) (n1 := 128) j
  refine Eq.trans ?_ (hX _ _ trivial _)
  refine congrArg f ?_
  funext x
  match x with
  | ⟨0, _⟩ =>
    apply Fin.ext
    show v.toNat + 1 * (j 0).val = 8 * ((X.x2 (ix1 ⟨e % 65024, Nat.mod_lt _ (by decide)⟩) : BitVec 32).toNat / 8 % 1536) + (j 0).val
    rw [← hv']
    omega
  | ⟨1, _⟩ => exact Fin.ext (by show 0 + 1 * (j 1).val = (j 1).val; omega)

section Body

variable {c : Dev nD} {ms : Mems} {X : Ins F} {bd : Option ℕ}

/-- What is kept in a column's loop: the activations packed, the columns before it summed, its own sum so far. -/
def CI (X : Ins F) (i : grid0.Coords) (g5 : S1920x256.Idx → F .f32) (n : ℕ) (s : St F) : Prop :=
  XT X (fun _ _ => True) s.s6 ∧ (∀ k : Fin 256, k.val < n → At (par i) k (colsum X (blk i * 256 + k.val)) s.s7) ∧ s.s5 = g5

theorem t4_body_w (hG : Good X) (i : grid0.Coords) (t3 : Fin k0_t3_loop.trips) (v w : Elt F .i32) (hv : BitVec.toNat v ≤ 61931) (hw : BitVec.toNat w ≤ 61931)
    (hc : k0_chk1 v w) (g5 : S1920x256.Idx → F .f32) (t : Fin (k0_t4_loop v w).trips) (acc : Unit) (s : St F)
    (hs : CI X i g5 t3.val s ∧ At (par i) ⟨t3.val, trip256_3 t3⟩ (sums X (BitVec.toNat v) t.val) s.s7) :
    W c ms X bd (k0_t4_body (F := F) i ms.a1 ms.h1 ms.a2 ms.h2 ms.a3 ms.h3 ms.a4 ms.h4 ms.a5 ms.h5 ms.a6 ms.h6 ms.a7 ms.h7 t3 v w hc t acc)
      (fun _ s' => CI X i g5 t3.val s' ∧ At (par i) ⟨t3.val, trip256_3 t3⟩ (sums X (BitVec.toNat v) (t.val + 1)) s'.s7) s := by
  have ht := lt_of_lt_of_eq t.isLt (trips4 v w hv hw)
  have he : BitVec.toNat v + t.val < 65024 := by omega
  delta k0_t4_body
  refine W_bind (W_load4 ?_)
  refine W_bind (W_smem2 ?_)
  refine W_bind (W_assume (chk2 _ (hG.dvd _) (hG.lt _)) ?_)
  refine W_bind (W_load6 ?_)
  refine W_bind (W_load7 ?_)
  refine W_bind (W_load7 ?_)
  refine W_bind (W_store7 fun f hU => ?_)
  refine W_pure ?_
  have hst := at_store (p := par i) (c := ⟨t3.val, trip256_3 t3⟩) (off26_eq i t3) hU
  refine ⟨⟨hs.1.1, fun k hk => hst.2 _ _ (fun h => ?_) (hs.1.2.1 k hk), hs.1.2.2⟩, ?_⟩
  · exact absurd (congrArg Fin.val h) (Nat.ne_of_lt hk)
  · have h := hst.1
    rw [pay4_eq, at_load (off26_eq i t3) hs.2, v_load X _ he (off23_eq v w hv hw t),
      x_load hs.1.1 (BitVec.toNat v + t.val) he (congrArg X.x2 (unit_point (n := 65024) _ he (off24_eq v w hv hw t))) (hG.dvd _) (hG.lt _) (off25_eq _)] at h
    have hiv : Scf.iv v 1#32 t.val = BitVec.ofNat 32 (BitVec.toNat v + t.val) := by
      apply BitVec.eq_of_toNat_eq
      rw [tn_iv, BitVec.toNat_ofNat]
    rw [hiv] at h
    exact h

theorem t3_body_w (hG : Good X) (i : grid0.Coords) (g5 : S1920x256.Idx → F .f32) (t : Fin k0_t3_loop.trips) (acc : Unit) (s : St F) (hs : CI X i g5 t.val s) :
    W c ms X bd (k0_t3_body (F := F) i ms.a1 ms.h1 ms.a2 ms.h2 ms.a3 ms.h3 ms.a4 ms.h4 ms.a5 ms.h5 ms.a6 ms.h6 ms.a7 ms.h7 t acc) (fun _ s' => CI X i g5 (t.val + 1) s') s := by
  have ht := trip256_3 t
  have hb : blk i ≤ 34 := Nat.min_le_right _ _
  delta k0_t3_body
  refine W_bind (W_load7 ?_)
  refine W_bind (W_store7 fun f hU => ?_)
  have hst := at_store (p := par i) (c := ⟨t.val, ht⟩) (off20_eq i t) hU
  clear hU
  refine W_bind (W_smem1 ?_)
  refine W_bind (W_smem1 ?_)
  have e1 := x1_point X (blk i * 256 + t.val) (by omega) (inb := k0_off21_inb i t) (h1 := numel1_S1) (off21_eq i t)
  have e2 := x1_point X (blk i * 256 + t.val + 1) (by omega) (inb := k0_off22_inb i t) (h1 := numel1_S1) (off22_eq i t)
  refine W_bind (W_assume (chk1 _ _ (hG.le _) (hG.le _)) ?_)
  refine W_bind (W_for (fun n _ s' => CI X i g5 t.val s' ∧ At (par i) ⟨t.val, ht⟩ (sums X (rp X (blk i * 256 + t.val)) n) s'.s7) ?_ ?_ ?_)
  · refine ⟨⟨hs.1, fun k hk => hst.2 _ _ (fun h => ?_) (hs.2.1 k hk), hs.2.2⟩, hst.1⟩
    exact absurd (congrArg Fin.val h) (Nat.ne_of_lt hk)
  · intro k acc s' hs'
    rw [← e1] at hs' ⊢
    exact t4_body_w hG i t _ _ (hG.le _) (hG.le _) _ g5 k acc s' hs'
  intro _ s1 hs1
  rw [trips4 _ _ (hG.le _) (hG.le _)] at hs1
  refine W_bind (W_for (fun n _ s' => s' = s1) rfl ?_ ?_)
  · intro k
    exact absurd (lt_of_lt_of_eq k.isLt (trips5 _ _ (hG.le _))) (Nat.not_lt_zero _)
  intro _ s2 hs2
  subst hs2
  refine W_pure ⟨hs1.1.1, fun k hk => ?_, hs1.1.2.2⟩
  by_cases hkt : k.val = t.val
  · have : k = ⟨t.val, ht⟩ := Fin.ext hkt
    subst this
    have h := hs1.2
    rw [e1, e2] at h
    exact h
  · exact hs1.1.2.1 k (by omega)

theorem XT.mono {D D' : ℕ → ℕ → Prop} {f : S12288x128.Idx → BitVec 32} (h : XT X D f) (hD : ∀ k s, k < 1536 → s < 8 → D' k s → D k s) : XT X D' f :=
  fun k s hk => h k s (hD _ _ k.isLt s.isLt hk)

theorem Out.mono {Y : Fin 256 → S16x128.Idx → F .f32} {D D' : ℕ → ℕ → Prop} {f : S1920x256.Idx → F .f32} (h : Out Y D f)
    (hD : ∀ k s, k < 15 → s < 2 → D' k s → D k s) : Out Y D' f :=
  fun k s hk => h k s (hD _ _ k.isLt s.isLt hk)

/-- One trip packs 128 columns. -/
theorem t1_body_w (i : grid0.Coords) (h : k0_cond1 i = 1#1) (t : Fin k0_t1_loop.trips) (acc : Unit) (s : St F) (hs : XT X (fun k _ => k < 128 * t.val) s.s6) :
    W c ms X bd (k0_t1_body (F := F) i ms.a1 ms.h1 ms.a2 ms.h2 ms.a3 ms.h3 ms.a4 ms.h4 ms.a5 ms.h5 ms.a6 ms.h6 ms.a7 ms.h7 h t acc) (fun _ s' => XT X (fun k _ => k < 128 * (t.val + 1)) s'.s6) s := by
  have ht := trip12_1 t
  delta k0_t1_body
  refine W_bind ?_
  rw [k0_part1_eq_skeleton]
  delta k0_part1_skel
  refine W_bind (W_load3 ?_)
  refine W_bind (W_load3 ?_)
  refine W_bind (W_load6 ?_)
  refine W_bind (W_store6 fun f0 h0 => ?_)
  refine W_bind (W_load3 ?_)
  refine W_bind (W_load3 ?_)
  refine W_pure ?_
  refine W_bind ?_
  rw [k0_part2_eq_skeleton]
  delta k0_part2_skel
  refine W_bind (W_load6 ?_)
  refine W_bind (W_store6 fun f1 h1 => ?_)
  refine W_bind (W_load3 ?_)
  refine W_bind (W_load3 ?_)
  refine W_bind (W_load6 ?_)
  refine W_bind (W_store6 fun f2 h2 => ?_)
  refine W_bind (W_load3 ?_)
  refine W_bind (W_load3 ?_)
  refine W_pure ?_
  refine W_bind ?_
  rw [k0_part3_eq_skeleton]
  delta k0_part3_skel
  refine W_bind (W_load6 ?_)
  refine W_bind (W_store6 fun f3 h3 => ?_)
  refine W_bind (W_load3 ?_)
  refine W_bind (W_load3 ?_)
  refine W_bind (W_load6 ?_)
  refine W_bind (W_store6 fun f4 h4 => ?_)
  refine W_bind (W_load3 ?_)
  refine W_bind (W_load3 ?_)
  refine W_pure ?_
  refine W_bind ?_
  rw [k0_part4_eq_skeleton]
  delta k0_part4_skel
  refine W_bind (W_load6 ?_)
  refine W_bind (W_store6 fun f5 h5 => ?_)
  refine W_bind (W_load3 ?_)
  refine W_bind (W_load3 ?_)
  refine W_bind (W_load6 ?_)
  refine W_bind (W_store6 fun f6 h6 => ?_)
  refine W_bind (W_load3 ?_)
  refine W_bind (W_load6 ?_)
  refine W_pure ?_
  refine W_bind (W_store6 fun f7 h7 => ?_)
  refine W_pure ?_
  rw [pay6_eq] at h0
  rw [pay78_eq] at h1
  rw [pay9_eq] at h2
  rw [pay1011_eq] at h3
  rw [pay12_eq] at h4
  rw [pay1314_eq] at h5
  rw [pay15_eq] at h6
  rw [pay161_eq] at h7
  have o0 := xt_store (X := X) ⟨t.val, ht⟩ 0 (off3_eq t 0) (duo_eq X ⟨t.val, ht⟩ 0 (by decide) (x3_load X ⟨t.val, ht⟩ 0 (by omega) (off1_eq t)) (x3_load X ⟨t.val, ht⟩ 128 (by omega) (off2_eq t))) h0 hs
  have o1 := xt_store (X := X) ⟨t.val, ht⟩ 1 (off3_eq t 1) (duo_eq X ⟨t.val, ht⟩ 1 (by decide) (x3_load X ⟨t.val, ht⟩ 256 (by omega) (off4_eq t)) (x3_load X ⟨t.val, ht⟩ 384 (by omega) (off5_eq t))) h1 o0
  have o2 := xt_store (X := X) ⟨t.val, ht⟩ 2 (off3_eq t 2) (duo_eq X ⟨t.val, ht⟩ 2 (by decide) (x3_load X ⟨t.val, ht⟩ 512 (by omega) (off6_eq t)) (x3_load X ⟨t.val, ht⟩ 640 (by omega) (off7_eq t))) h2 o1
  have o3 := xt_store (X := X) ⟨t.val, ht⟩ 3 (off3_eq t 3) (duo_eq X ⟨t.val, ht⟩ 3 (by decide) (x3_load X ⟨t.val, ht⟩ 768 (by omega) (off8_eq t)) (x3_load X ⟨t.val, ht⟩ 896 (by omega) (off9_eq t))) h3 o2
  have o4 := xt_store (X := X) ⟨t.val, ht⟩ 4 (off3_eq t 4) (duo_eq X ⟨t.val, ht⟩ 4 (by decide) (x3_load X ⟨t.val, ht⟩ 1024 (by omega) (off10_eq t)) (x3_load X ⟨t.val, ht⟩ 1152 (by omega) (off11_eq t))) h4 o3
  have o5 := xt_store (X := X) ⟨t.val, ht⟩ 5 (off3_eq t 5) (duo_eq X ⟨t.val, ht⟩ 5 (by decide) (x3_load X ⟨t.val, ht⟩ 1280 (by omega) (off12_eq t)) (x3_load X ⟨t.val, ht⟩ 1408 (by omega) (off13_eq t))) h5 o4
  have o6 := xt_store (X := X) ⟨t.val, ht⟩ 6 (off3_eq t 6) (duo_eq X ⟨t.val, ht⟩ 6 (by decide) (x3_load X ⟨t.val, ht⟩ 1536 (by omega) (off14_eq t)) (x3_load X ⟨t.val, ht⟩ 1664 (by omega) (off15_eq t))) h6 o5
  have o7 := xt_store (X := X) ⟨t.val, ht⟩ 7 (off3_eq t 7) (uno_eq X ⟨t.val, ht⟩ (x3_load X ⟨t.val, ht⟩ 1792 (by omega) (off16_eq t))) h7 o6
  refine o7.mono fun k r _ hr hk => ?_
  by_cases hlt : k < 128 * t.val
  · exact .inl (.inl (.inl (.inl (.inl (.inl (.inl (.inl hlt)))))))
  have hge : 128 * t.val ≤ k ∧ k < 128 * t.val + 128 := ⟨by omega, by omega⟩
  interval_cases r
  · exact .inl (.inl (.inl (.inl (.inl (.inl (.inl (.inr ⟨hge.1, hge.2, rfl⟩)))))))
  · exact .inl (.inl (.inl (.inl (.inl (.inl (.inr ⟨hge.1, hge.2, rfl⟩))))))
  · exact .inl (.inl (.inl (.inl (.inl (.inr ⟨hge.1, hge.2, rfl⟩)))))
  · exact .inl (.inl (.inl (.inl (.inr ⟨hge.1, hge.2, rfl⟩))))
  · exact .inl (.inl (.inl (.inr ⟨hge.1, hge.2, rfl⟩)))
  · exact .inl (.inl (.inr ⟨hge.1, hge.2, rfl⟩))
  · exact .inl (.inr ⟨hge.1, hge.2, rfl⟩)
  · exact .inr ⟨hge.1, hge.2, rfl⟩

/-- One trip copies four tiles of rows. -/
theorem t2_body_w (i : grid0.Coords) (v4 : BitVec 32) (h : k0_cond2 i = 1#1) (Y : Fin 256 → S16x128.Idx → F .f32) (g6 : S12288x128.Idx → BitVec 32)
    (g7 : S8704x128.Idx → F .f32) (hY : ∀ k, At (alt (par i)) k (Y k) g7) (t : Fin k0_t2_loop.trips) (acc : Unit) (s : St F)
    (hs : Out Y (fun u _ => u < 4 * t.val) s.s5 ∧ s.s6 = g6 ∧ s.s7 = g7) :
    W c ms X bd (k0_t2_body (F := F) i ms.a1 ms.h1 ms.a2 ms.h2 ms.a3 ms.h3 ms.a4 ms.h4 ms.a5 ms.h5 ms.a6 ms.h6 ms.a7 ms.h7 v4 h t acc) (fun _ s' => Out Y (fun u _ => u < 4 * (t.val + 1)) s'.s5 ∧ s'.s6 = g6 ∧ s'.s7 = g7) s := by
  have ht := trip4_2 t
  obtain ⟨hO, hs6, hs7⟩ := hs
  subst hs7
  delta k0_t2_body
  refine W_bind ?_
  rw [k0_part5_eq_skeleton]
  delta k0_part5_skel
  refine W_bind (W_load7 ?_)
  refine W_bind (W_load5 ?_)
  refine W_bind (W_store5 fun f0 h0 => ?_)
  refine W_bind (W_load7 ?_)
  refine W_bind (W_load5 ?_)
  refine W_bind (W_store5 fun f1 h1 => ?_)
  refine W_bind (W_load7 ?_)
  refine W_bind (W_load5 ?_)
  refine W_bind (W_store5 fun f2 h2 => ?_)
  refine W_pure ?_
  refine W_bind ?_
  rw [k0_part6_eq_skeleton]
  delta k0_part6_skel
  refine W_bind (W_load7 ?_)
  refine W_bind (W_load5 ?_)
  refine W_bind (W_store5 fun f3 h3 => ?_)
  refine W_bind (W_load7 ?_)
  refine W_bind (W_load5 ?_)
  refine W_bind (W_store5 fun f4 h4 => ?_)
  refine W_bind (W_load7 ?_)
  refine W_bind (W_load5 ?_)
  refine W_bind (W_store5 fun f5 h5 => ?_)
  refine W_bind (W_load7 ?_)
  refine W_pure ?_
  refine W_bind (W_load5 ?_)
  refine W_bind (W_store5 fun f6 h6 => ?_)
  refine W_bind (W_load7 ?_)
  refine W_bind (W_load5 ?_)
  refine W_bind (W_store5 fun f7 h7 => ?_)
  refine W_pure ⟨?_, hs6, rfl⟩
  have o0 := out_store (Y := Y) (tile t 0) 0 (off18_eq t 0) (out_load (h := 0) hY (tile t 0) (off17_eq i t 0 0)) h0 hO
  have o1 := out_store (Y := Y) (tile t 0) 1 (off19_eq t 0) (out_load (h := 1) hY (tile t 0) (off17_eq i t 1 0)) h1 o0
  have o2 := out_store (Y := Y) (tile t 1) 0 (off18_eq t 1) (out_load (h := 0) hY (tile t 1) (off17_eq i t 0 1)) h2 o1
  have o3 := out_store (Y := Y) (tile t 1) 1 (off19_eq t 1) (out_load (h := 1) hY (tile t 1) (off17_eq i t 1 1)) h3 o2
  have o4 := out_store (Y := Y) (tile t 2) 0 (off18_eq t 2) (out_load (h := 0) hY (tile t 2) (off17_eq i t 0 2)) h4 o3
  have o5 := out_store (Y := Y) (tile t 2) 1 (off19_eq t 2) (out_load (h := 1) hY (tile t 2) (off17_eq i t 1 2)) h5 o4
  have o6 := out_store (Y := Y) (tile t 3) 0 (off18_eq t 3) (out_load (h := 0) hY (tile t 3) (off17_eq i t 0 3)) h6 o5
  have o7 := out_store (Y := Y) (tile t 3) 1 (off19_eq t 3) (out_load (h := 1) hY (tile t 3) (off17_eq i t 1 3)) h7 o6
  refine o7.mono fun u r hu hr hk => ?_
  by_cases hlt : u < 4 * t.val
  · exact .inl (.inl (.inl (.inl (.inl (.inl (.inl (.inl hlt)))))))
  have hz : ∀ z : Fin 4, u - 4 * t.val = z.val → u = (tile t z).val := fun z hz => by
    show u = min (4 * t.val + z.val) 14
    omega
  obtain ⟨d, hd⟩ : ∃ d, d = u - 4 * t.val := ⟨_, rfl⟩
  have hd4 : d < 4 := by omega
  interval_cases d <;> interval_cases r
  · exact .inl (.inl (.inl (.inl (.inl (.inl (.inl (.inr ⟨hz 0 hd.symm, rfl⟩)))))))
  · exact .inl (.inl (.inl (.inl (.inl (.inl (.inr ⟨hz 0 hd.symm, rfl⟩))))))
  · exact .inl (.inl (.inl (.inl (.inl (.inr ⟨hz 1 hd.symm, rfl⟩)))))
  · exact .inl (.inl (.inl (.inl (.inr ⟨hz 1 hd.symm, rfl⟩))))
  · exact .inl (.inl (.inl (.inr ⟨hz 2 hd.symm, rfl⟩)))
  · exact .inl (.inl (.inr ⟨hz 2 hd.symm, rfl⟩))
  · exact .inl (.inr ⟨hz 3 hd.symm, rfl⟩)
  · exact .inr ⟨hz 3 hd.symm, rfl⟩

theorem cond1_iff (i : grid0.Coords) : k0_cond1 i = 1#1 ↔ (i 0).val = 0 := by
  have h : ∀ n : Fin 36, Scalar.cmpi .ne (Scalar.extui (Scalar.cmpi .eq (BitVec.ofNat 32 n.val) 0#32) : BitVec 32) 0#32 = 1#1 ↔ n.val = 0 := by decide
  exact h (i 0)
theorem cond2_iff (i : grid0.Coords) : k0_cond2 i = 1#1 ↔ 0 < (i 0).val := by
  have h : ∀ n : Fin 36, Scalar.cmpi .ne (Scalar.extui (Scalar.cmpi .sgt (BitVec.ofNat 32 n.val) 0#32) : BitVec 32) 0#32 = 1#1 ↔ 0 < n.val := by decide
  exact h (i 0)

/-- What the body leaves at a grid point: the activations packed, its block's sums in its half, and after the first point
    the other half's sums copied out. -/
def Post (X : Ins F) (i : grid0.Coords) (s s' : St F) : Prop :=
  XT X (fun _ _ => True) s'.s6 ∧ (∀ k : Fin 256, At (par i) k (colsum X (blk i * 256 + k.val)) s'.s7) ∧
    (0 < (i 0).val → ∀ Y : Fin 256 → S16x128.Idx → F .f32, (∀ k, At (alt (par i)) k (Y k) s.s7) → Out Y (fun _ _ => True) s'.s5)

/-- The body at a grid point. -/
theorem body_w (hG : Good X) (i : grid0.Coords) (s : St F) (hX : 0 < (i 0).val → XT X (fun _ _ => True) s.s6) :
    W c ms X bd (cc0_csr_linear (F := F) i ms.a1 ms.h1 ms.a2 ms.h2 ms.a3 ms.h3 ms.a4 ms.h4 ms.a5 ms.h5 ms.a6 ms.h6 ms.a7 ms.h7) (fun _ s' => Post X i s s') s := by
  rw [cc0_csr_linear_eq_skeleton]
  delta cc0_csr_linear_skel
  extract_lets a0 v1 v3 v4 j1 j2
  have hfin : ∀ s', XT X (fun _ _ => True) s'.s6 →
      (0 < (i 0).val → ∀ Y : Fin 256 → S16x128.Idx → F .f32, (∀ k, At (alt (par i)) k (Y k) s.s7) → Out Y (fun _ _ => True) s'.s5) →
      W c ms X bd (j1 ⟨⟩) (fun _ s' => Post X i s s') s' := fun s' hx ho => by
    refine W_bind (W_for (fun n _ s'' => CI X i s'.s5 n s'') ⟨hx, fun k hk => absurd hk (Nat.not_lt_zero _), rfl⟩ ?_ ?_)
    · intro k acc s'' hs''
      exact t3_body_w hG i s'.s5 k acc s'' hs''
    intro _ s'' hs''
    refine W_pure ⟨hs''.1, fun k => hs''.2.1 k k.isLt, fun h0 Y hY => ?_⟩
    rw [hs''.2.2]
    exact ho h0 Y hY
  by_cases h0 : (i 0).val = 0
  · refine W_dite (fun h => ?_) (fun h => absurd ((cond1_iff i).2 h0) h)
    refine W_bind (W_for (fun n _ s' => XT X (fun k _ => k < 128 * n) s'.s6) (fun k _ hk => absurd hk (Nat.not_lt_zero _)) ?_ ?_)
    · intro k acc s' hs'
      exact t1_body_w i h k acc s' hs'
    intro _ s' hs'
    refine W_dite (fun h' => ?_) (fun h' => hfin _ (hs'.mono fun k _ hk _ _ => ?_) fun h => ?_)
    · have := (cond2_iff i).1 h'
      omega
    · show k < 128 * 12
      omega
    · omega
  · refine W_dite (fun h => absurd ((cond1_iff i).1 h) h0) (fun h => ?_)
    have hp := Nat.pos_of_ne_zero h0
    refine W_dite (fun h => ?_) (fun h => absurd ((cond2_iff i).2 hp) h)
    refine W_bind (W_for (fun n _ s' => Out (fun k j => s.s7 (ix2 (yrow (alt (par i)) k (j 0)) (j 1))) (fun u _ => u < 4 * n) s'.s5 ∧ s'.s6 = s.s6 ∧ s'.s7 = s.s7) ?_ ?_ ?_)
    · exact ⟨fun u _ hu => absurd hu (Nat.not_lt_zero _), rfl, rfl⟩
    · intro k acc s' hs'
      exact t2_body_w i _ h _ s.s6 s.s7 (fun _ _ _ => rfl) k acc s' hs'
    intro _ s' hs'
    refine hfin _ (by rw [hs'.2.1]; exact hX hp) fun _ Y hY u k _ a b => ?_
    refine (hs'.1 u k (show u.val < 4 * 4 by omega) a b).trans (hY _ _ _)

end Body

end Cert.Proof.SI
-- ==== Proof.S.Body.lean ====
/-
  The triples of `Sparse`'s body: what each loop, and the body at a grid point, leaves in the packed activations, in
  the running sums and in the output block.
-/
module

public import proofs.«01_k».proof.Proof.S.Vals
public import proofs.«01_k».proof.Proof.SI.Body

@[expose] public section

noncomputable section

namespace Cert.Proof.S

open Cert.Sparse Cert.Sparse.Gen
open Idealize.ShloMosaic Idealize.ShloMosaic.WordArith Idealize.ShloMosaic.ValueIdx Idealize.SL.Sem

variable {F : FTy → Type} [FloatOps F]

theorem x1_point (X : Ins F) (e : ℕ) (he : e < 8961) {off : Fin 1 → ℕ} {inb : ∀ a, off a + S1.size a ≤ S8961.size a} {h1}
    (hoff : off = ![e]) : (X.x1 ((Rect.unit (s := S8961) off S1.size inb).point h1) : BitVec 32).toNat = rp X e := SI.x1_point (toI X) e he hoff

theorem v_load (X : Ins F) (e : ℕ) (he : e < 65024) {off : Fin 2 → ℕ} {inb : ∀ a, off a + S1x32.size a ≤ S2032x32.size a}
    (hoff : off = ![e / 256 * 8 + e % 8, 0]) :
    (fun j => X.x4 ((Rect.unit (s := S2032x32) off S1x32.size inb).toLoadRect.idx j)) = vrow X e := SI.v_load (toI X) e he hoff

theorem x_load {X : Ins F} {f : S12288x128.Idx → BitVec 32} (hX : XT X (fun _ _ => True) f) (e : ℕ) (he : e < 65024) {v : BitVec 32}
    (hv : v = X.x2 (ix1 ⟨e, he⟩)) (hd : 8 ∣ v.toNat) (hl : v.toNat < 12288) {off : Fin 2 → ℕ} {inb : ∀ a, off a + S8x128.size a ≤ S12288x128.size a}
    (hoff : off = ![v.toNat, 0]) :
    (fun j => f ((Rect.unit (s := S12288x128) off S8x128.size inb).toLoadRect.idx j)) = xrow X e := SI.x_load (X := toI X) hX e he hv hd hl hoff

section Body

variable {c : Dev nD} {ms : Mems} {X : Ins F} {bd : Option ℕ}

/-- What is kept in a column's loop: the activations packed, the columns before it summed, its own sum so far. -/
def CI (X : Ins F) (i : grid0.Coords) (g5 : S1920x256.Idx → F .f32) (n : ℕ) (s : St F) : Prop :=
  XT X (fun _ _ => True) s.s6 ∧ (∀ k : Fin 256, k.val < n → At (par i) k (colsum X (blk i * 256 + k.val)) s.s7) ∧ s.s5 = g5

theorem t4_body_w (hG : Good X) (i : grid0.Coords) (t3 : Fin k0_t3_loop.trips) (v w : Elt F .i32) (hv : BitVec.toNat v ≤ 61931) (hw : BitVec.toNat w ≤ 61931)
    (hc : k0_chk1 v w) (g5 : S1920x256.Idx → F .f32) (t : Fin (k0_t4_loop v w).trips) (acc : Unit) (s : St F)
    (hs : CI X i g5 t3.val s ∧ At (par i) ⟨t3.val, trip256_3 t3⟩ (sums X (BitVec.toNat v) t.val) s.s7) :
    W c ms X bd (k0_t4_body (F := F) i ms.a1 ms.h1 ms.a2 ms.h2 ms.a3 ms.h3 ms.a4 ms.h4 ms.a5 ms.h5 ms.a6 ms.h6 ms.a7 ms.h7 t3 v w hc t acc)
      (fun _ s' => CI X i g5 t3.val s' ∧ At (par i) ⟨t3.val, trip256_3 t3⟩ (sums X (BitVec.toNat v) (t.val + 1)) s'.s7) s := by
  have ht := lt_of_lt_of_eq t.isLt (trips4 v w hv hw)
  have he : BitVec.toNat v + t.val < 65024 := by omega
  delta k0_t4_body
  refine W_bind (W_load4 ?_)
  refine W_bind (W_smem2 ?_)
  refine W_bind (W_assume (chk2 _ (hG.dvd _) (hG.lt _)) ?_)
  refine W_bind (W_load6 ?_)
  refine W_bind (W_load7 ?_)
  refine W_bind (W_load7 ?_)
  refine W_bind (W_store7 fun f hU => ?_)
  refine W_pure ?_
  have hst := at_store (p := par i) (c := ⟨t3.val, trip256_3 t3⟩) (off26_eq i t3) hU
  refine ⟨⟨hs.1.1, fun k hk => hst.2 _ _ (fun h => ?_) (hs.1.2.1 k hk), hs.1.2.2⟩, ?_⟩
  · exact absurd (congrArg Fin.val h) (Nat.ne_of_lt hk)
  · have h := hst.1
    rw [pay4_eq, at_load (off26_eq i t3) hs.2, v_load X _ he (off23_eq v w hv hw t),
      x_load hs.1.1 (BitVec.toNat v + t.val) he (congrArg X.x2 (SI.unit_point (n := 65024) _ he (off24_eq v w hv hw t))) (hG.dvd _) (hG.lt _) (off25_eq _)] at h
    have hiv : Scf.iv v 1#32 t.val = BitVec.ofNat 32 (BitVec.toNat v + t.val) := by
      apply BitVec.eq_of_toNat_eq
      rw [tn_iv, BitVec.toNat_ofNat]
    rw [hiv] at h
    exact h

theorem t3_body_w (hG : Good X) (i : grid0.Coords) (g5 : S1920x256.Idx → F .f32) (t : Fin k0_t3_loop.trips) (acc : Unit) (s : St F) (hs : CI X i g5 t.val s) :
    W c ms X bd (k0_t3_body (F := F) i ms.a1 ms.h1 ms.a2 ms.h2 ms.a3 ms.h3 ms.a4 ms.h4 ms.a5 ms.h5 ms.a6 ms.h6 ms.a7 ms.h7 t acc) (fun _ s' => CI X i g5 (t.val + 1) s') s := by
  have ht := trip256_3 t
  have hb : blk i ≤ 34 := Nat.min_le_right _ _
  delta k0_t3_body
  refine W_bind (W_load7 ?_)
  refine W_bind (W_store7 fun f hU => ?_)
  have hst := at_store (p := par i) (c := ⟨t.val, ht⟩) (off20_eq i t) hU
  clear hU
  refine W_bind (W_smem1 ?_)
  refine W_bind (W_smem1 ?_)
  have e1 := x1_point X (blk i * 256 + t.val) (by omega) (inb := k0_off21_inb i t) (h1 := numel1_S1) (off21_eq i t)
  have e2 := x1_point X (blk i * 256 + t.val + 1) (by omega) (inb := k0_off22_inb i t) (h1 := numel1_S1) (off22_eq i t)
  refine W_bind (W_assume (chk1 _ _ (hG.le _) (hG.le _)) ?_)
  refine W_bind (W_for (fun n _ s' => CI X i g5 t.val s' ∧ At (par i) ⟨t.val, ht⟩ (sums X (rp X (blk i * 256 + t.val)) n) s'.s7) ?_ ?_ ?_)
  · refine ⟨⟨hs.1, fun k hk => hst.2 _ _ (fun h => ?_) (hs.2.1 k hk), hs.2.2⟩, hst.1⟩
    exact absurd (congrArg Fin.val h) (Nat.ne_of_lt hk)
  · intro k acc s' hs'
    rw [← e1] at hs' ⊢
    exact t4_body_w hG i t _ _ (hG.le _) (hG.le _) _ g5 k acc s' hs'
  intro _ s1 hs1
  rw [trips4 _ _ (hG.le _) (hG.le _)] at hs1
  refine W_bind (W_for (fun n _ s' => s' = s1) rfl ?_ ?_)
  · intro k
    exact absurd (lt_of_lt_of_eq k.isLt (trips5 _ _ (hG.le _))) (Nat.not_lt_zero _)
  intro _ s2 hs2
  subst hs2
  refine W_pure ⟨hs1.1.1, fun k hk => ?_, hs1.1.2.2⟩
  by_cases hkt : k.val = t.val
  · have : k = ⟨t.val, ht⟩ := Fin.ext hkt
    subst this
    have h := hs1.2
    rw [e1, e2] at h
    exact h
  · exact hs1.1.2.1 k (by omega)

theorem XT.mono {D D' : ℕ → ℕ → Prop} {f : S12288x128.Idx → BitVec 32} (h : XT X D f) (hD : ∀ k s, k < 1536 → s < 8 → D' k s → D k s) : XT X D' f :=
  fun k s hk => h k s (hD _ _ k.isLt s.isLt hk)

theorem Out.mono {Y : Fin 256 → S16x128.Idx → F .f32} {D D' : ℕ → ℕ → Prop} {f : S1920x256.Idx → F .f32} (h : Out Y D f)
    (hD : ∀ k s, k < 15 → s < 2 → D' k s → D k s) : Out Y D' f :=
  fun k s hk => h k s (hD _ _ k.isLt s.isLt hk)

/-- One trip packs 128 columns. -/
theorem t1_body_w (i : grid0.Coords) (h : k0_cond1 i = 1#1) (t : Fin k0_t1_loop.trips) (acc : Unit) (s : St F) (hs : XT X (fun k _ => k < 128 * t.val) s.s6) :
    W c ms X bd (k0_t1_body (F := F) i ms.a1 ms.h1 ms.a2 ms.h2 ms.a3 ms.h3 ms.a4 ms.h4 ms.a5 ms.h5 ms.a6 ms.h6 ms.a7 ms.h7 h t acc) (fun _ s' => XT X (fun k _ => k < 128 * (t.val + 1)) s'.s6) s := by
  have ht := trip12_1 t
  delta k0_t1_body
  refine W_bind ?_
  rw [k0_part1_eq_skeleton]
  delta k0_part1_skel
  refine W_bind (W_load3 ?_)
  refine W_bind (W_load3 ?_)
  refine W_bind (W_load6 ?_)
  refine W_bind (W_store6 fun f0 h0 => ?_)
  refine W_bind (W_load3 ?_)
  refine W_bind (W_load3 ?_)
  refine W_pure ?_
  refine W_bind ?_
  rw [k0_part2_eq_skeleton]
  delta k0_part2_skel
  refine W_bind (W_load6 ?_)
  refine W_bind (W_store6 fun f1 h1 => ?_)
  refine W_bind (W_load3 ?_)
  refine W_bind (W_load3 ?_)
  refine W_bind (W_load6 ?_)
  refine W_bind (W_store6 fun f2 h2 => ?_)
  refine W_bind (W_load3 ?_)
  refine W_bind (W_load3 ?_)
  refine W_pure ?_
  refine W_bind ?_
  rw [k0_part3_eq_skeleton]
  delta k0_part3_skel
  refine W_bind (W_load6 ?_)
  refine W_bind (W_store6 fun f3 h3 => ?_)
  refine W_bind (W_load3 ?_)
  refine W_bind (W_load3 ?_)
  refine W_bind (W_load6 ?_)
  refine W_bind (W_store6 fun f4 h4 => ?_)
  refine W_bind (W_load3 ?_)
  refine W_bind (W_load3 ?_)
  refine W_pure ?_
  refine W_bind ?_
  rw [k0_part4_eq_skeleton]
  delta k0_part4_skel
  refine W_bind (W_load6 ?_)
  refine W_bind (W_store6 fun f5 h5 => ?_)
  refine W_bind (W_load3 ?_)
  refine W_bind (W_load3 ?_)
  refine W_bind (W_load6 ?_)
  refine W_bind (W_store6 fun f6 h6 => ?_)
  refine W_bind (W_load3 ?_)
  refine W_bind (W_load6 ?_)
  refine W_pure ?_
  refine W_bind (W_store6 fun f7 h7 => ?_)
  refine W_pure ?_
  rw [pay6_eq] at h0
  rw [pay78_eq] at h1
  rw [pay9_eq] at h2
  rw [pay1011_eq] at h3
  rw [pay12_eq] at h4
  rw [pay1314_eq] at h5
  rw [pay15_eq] at h6
  rw [pay161_eq] at h7
  have o0 := xt_store (X := X) ⟨t.val, ht⟩ 0 (off3_eq t 0) (duo_eq X ⟨t.val, ht⟩ 0 (by decide) (x3_load X ⟨t.val, ht⟩ 0 (by omega) (off1_eq t)) (x3_load X ⟨t.val, ht⟩ 128 (by omega) (off2_eq t))) h0 hs
  have o1 := xt_store (X := X) ⟨t.val, ht⟩ 1 (off3_eq t 1) (duo_eq X ⟨t.val, ht⟩ 1 (by decide) (x3_load X ⟨t.val, ht⟩ 256 (by omega) (off4_eq t)) (x3_load X ⟨t.val, ht⟩ 384 (by omega) (off5_eq t))) h1 o0
  have o2 := xt_store (X := X) ⟨t.val, ht⟩ 2 (off3_eq t 2) (duo_eq X ⟨t.val, ht⟩ 2 (by decide) (x3_load X ⟨t.val, ht⟩ 512 (by omega) (off6_eq t)) (x3_load X ⟨t.val, ht⟩ 640 (by omega) (off7_eq t))) h2 o1
  have o3 := xt_store (X := X) ⟨t.val, ht⟩ 3 (off3_eq t 3) (duo_eq X ⟨t.val, ht⟩ 3 (by decide) (x3_load X ⟨t.val, ht⟩ 768 (by omega) (off8_eq t)) (x3_load X ⟨t.val, ht⟩ 896 (by omega) (off9_eq t))) h3 o2
  have o4 := xt_store (X := X) ⟨t.val, ht⟩ 4 (off3_eq t 4) (duo_eq X ⟨t.val, ht⟩ 4 (by decide) (x3_load X ⟨t.val, ht⟩ 1024 (by omega) (off10_eq t)) (x3_load X ⟨t.val, ht⟩ 1152 (by omega) (off11_eq t))) h4 o3
  have o5 := xt_store (X := X) ⟨t.val, ht⟩ 5 (off3_eq t 5) (duo_eq X ⟨t.val, ht⟩ 5 (by decide) (x3_load X ⟨t.val, ht⟩ 1280 (by omega) (off12_eq t)) (x3_load X ⟨t.val, ht⟩ 1408 (by omega) (off13_eq t))) h5 o4
  have o6 := xt_store (X := X) ⟨t.val, ht⟩ 6 (off3_eq t 6) (duo_eq X ⟨t.val, ht⟩ 6 (by decide) (x3_load X ⟨t.val, ht⟩ 1536 (by omega) (off14_eq t)) (x3_load X ⟨t.val, ht⟩ 1664 (by omega) (off15_eq t))) h6 o5
  have o7 := xt_store (X := X) ⟨t.val, ht⟩ 7 (off3_eq t 7) (uno_eq X ⟨t.val, ht⟩ (x3_load X ⟨t.val, ht⟩ 1792 (by omega) (off16_eq t))) h7 o6
  refine o7.mono fun k r _ hr hk => ?_
  by_cases hlt : k < 128 * t.val
  · exact .inl (.inl (.inl (.inl (.inl (.inl (.inl (.inl hlt)))))))
  have hge : 128 * t.val ≤ k ∧ k < 128 * t.val + 128 := ⟨by omega, by omega⟩
  interval_cases r
  · exact .inl (.inl (.inl (.inl (.inl (.inl (.inl (.inr ⟨hge.1, hge.2, rfl⟩)))))))
  · exact .inl (.inl (.inl (.inl (.inl (.inl (.inr ⟨hge.1, hge.2, rfl⟩))))))
  · exact .inl (.inl (.inl (.inl (.inl (.inr ⟨hge.1, hge.2, rfl⟩)))))
  · exact .inl (.inl (.inl (.inl (.inr ⟨hge.1, hge.2, rfl⟩))))
  · exact .inl (.inl (.inl (.inr ⟨hge.1, hge.2, rfl⟩)))
  · exact .inl (.inl (.inr ⟨hge.1, hge.2, rfl⟩))
  · exact .inl (.inr ⟨hge.1, hge.2, rfl⟩)
  · exact .inr ⟨hge.1, hge.2, rfl⟩

/-- One trip copies four tiles of rows. -/
theorem t2_body_w (i : grid0.Coords) (v4 : BitVec 32) (h : k0_cond2 i = 1#1) (Y : Fin 256 → S16x128.Idx → F .f32) (g6 : S12288x128.Idx → BitVec 32)
    (g7 : S8704x128.Idx → F .f32) (hY : ∀ k, At (alt (par i)) k (Y k) g7) (t : Fin k0_t2_loop.trips) (acc : Unit) (s : St F)
    (hs : Out Y (fun u _ => u < 4 * t.val) s.s5 ∧ s.s6 = g6 ∧ s.s7 = g7) :
    W c ms X bd (k0_t2_body (F := F) i ms.a1 ms.h1 ms.a2 ms.h2 ms.a3 ms.h3 ms.a4 ms.h4 ms.a5 ms.h5 ms.a6 ms.h6 ms.a7 ms.h7 v4 h t acc) (fun _ s' => Out Y (fun u _ => u < 4 * (t.val + 1)) s'.s5 ∧ s'.s6 = g6 ∧ s'.s7 = g7) s := by
  have ht := trip4_2 t
  obtain ⟨hO, hs6, hs7⟩ := hs
  subst hs7
  delta k0_t2_body
  refine W_bind ?_
  rw [k0_part5_eq_skeleton]
  delta k0_part5_skel
  refine W_bind (W_load7 ?_)
  refine W_bind (W_load5 ?_)
  refine W_bind (W_store5 fun f0 h0 => ?_)
  refine W_bind (W_load7 ?_)
  refine W_bind (W_load5 ?_)
  refine W_bind (W_store5 fun f1 h1 => ?_)
  refine W_bind (W_load7 ?_)
  refine W_bind (W_load5 ?_)
  refine W_bind (W_store5 fun f2 h2 => ?_)
  refine W_pure ?_
  refine W_bind ?_
  rw [k0_part6_eq_skeleton]
  delta k0_part6_skel
  refine W_bind (W_load7 ?_)
  refine W_bind (W_load5 ?_)
  refine W_bind (W_store5 fun f3 h3 => ?_)
  refine W_bind (W_load7 ?_)
  refine W_bind (W_load5 ?_)
  refine W_bind (W_store5 fun f4 h4 => ?_)
  refine W_bind (W_load7 ?_)
  refine W_bind (W_load5 ?_)
  refine W_bind (W_store5 fun f5 h5 => ?_)
  refine W_bind (W_load7 ?_)
  refine W_pure ?_
  refine W_bind (W_load5 ?_)
  refine W_bind (W_store5 fun f6 h6 => ?_)
  refine W_bind (W_load7 ?_)
  refine W_bind (W_load5 ?_)
  refine W_bind (W_store5 fun f7 h7 => ?_)
  refine W_pure ⟨?_, hs6, rfl⟩
  have o0 := out_store (Y := Y) (tile t 0) 0 (off18_eq t 0) (out_load (h := 0) hY (tile t 0) (off17_eq i t 0 0)) h0 hO
  have o1 := out_store (Y := Y) (tile t 0) 1 (off19_eq t 0) (out_load (h := 1) hY (tile t 0) (off17_eq i t 1 0)) h1 o0
  have o2 := out_store (Y := Y) (tile t 1) 0 (off18_eq t 1) (out_load (h := 0) hY (tile t 1) (off17_eq i t 0 1)) h2 o1
  have o3 := out_store (Y := Y) (tile t 1) 1 (off19_eq t 1) (out_load (h := 1) hY (tile t 1) (off17_eq i t 1 1)) h3 o2
  have o4 := out_store (Y := Y) (tile t 2) 0 (off18_eq t 2) (out_load (h := 0) hY (tile t 2) (off17_eq i t 0 2)) h4 o3
  have o5 := out_store (Y := Y) (tile t 2) 1 (off19_eq t 2) (out_load (h := 1) hY (tile t 2) (off17_eq i t 1 2)) h5 o4
  have o6 := out_store (Y := Y) (tile t 3) 0 (off18_eq t 3) (out_load (h := 0) hY (tile t 3) (off17_eq i t 0 3)) h6 o5
  have o7 := out_store (Y := Y) (tile t 3) 1 (off19_eq t 3) (out_load (h := 1) hY (tile t 3) (off17_eq i t 1 3)) h7 o6
  refine o7.mono fun u r hu hr hk => ?_
  by_cases hlt : u < 4 * t.val
  · exact .inl (.inl (.inl (.inl (.inl (.inl (.inl (.inl hlt)))))))
  have hz : ∀ z : Fin 4, u - 4 * t.val = z.val → u = (tile t z).val := fun z hz => by
    show u = min (4 * t.val + z.val) 14
    omega
  obtain ⟨d, hd⟩ : ∃ d, d = u - 4 * t.val := ⟨_, rfl⟩
  have hd4 : d < 4 := by omega
  interval_cases d <;> interval_cases r
  · exact .inl (.inl (.inl (.inl (.inl (.inl (.inl (.inr ⟨hz 0 hd.symm, rfl⟩)))))))
  · exact .inl (.inl (.inl (.inl (.inl (.inl (.inr ⟨hz 0 hd.symm, rfl⟩))))))
  · exact .inl (.inl (.inl (.inl (.inl (.inr ⟨hz 1 hd.symm, rfl⟩)))))
  · exact .inl (.inl (.inl (.inl (.inr ⟨hz 1 hd.symm, rfl⟩))))
  · exact .inl (.inl (.inl (.inr ⟨hz 2 hd.symm, rfl⟩)))
  · exact .inl (.inl (.inr ⟨hz 2 hd.symm, rfl⟩))
  · exact .inl (.inr ⟨hz 3 hd.symm, rfl⟩)
  · exact .inr ⟨hz 3 hd.symm, rfl⟩

theorem cond1_iff (i : grid0.Coords) : k0_cond1 i = 1#1 ↔ (i 0).val = 0 := by
  have h : ∀ n : Fin 36, Scalar.cmpi .ne (Scalar.extui (Scalar.cmpi .eq (BitVec.ofNat 32 n.val) 0#32) : BitVec 32) 0#32 = 1#1 ↔ n.val = 0 := by decide
  exact h (i 0)
theorem cond2_iff (i : grid0.Coords) : k0_cond2 i = 1#1 ↔ 0 < (i 0).val := by
  have h : ∀ n : Fin 36, Scalar.cmpi .ne (Scalar.extui (Scalar.cmpi .sgt (BitVec.ofNat 32 n.val) 0#32) : BitVec 32) 0#32 = 1#1 ↔ 0 < n.val := by decide
  exact h (i 0)

/-- What the body leaves at a grid point: the activations packed, its block's sums in its half, and after the first point
    the other half's sums copied out. -/
def Post (X : Ins F) (i : grid0.Coords) (s s' : St F) : Prop :=
  XT X (fun _ _ => True) s'.s6 ∧ (∀ k : Fin 256, At (par i) k (colsum X (blk i * 256 + k.val)) s'.s7) ∧
    (0 < (i 0).val → ∀ Y : Fin 256 → S16x128.Idx → F .f32, (∀ k, At (alt (par i)) k (Y k) s.s7) → Out Y (fun _ _ => True) s'.s5)

/-- The body at a grid point. -/
theorem body_w (hG : Good X) (i : grid0.Coords) (s : St F) (hX : 0 < (i 0).val → XT X (fun _ _ => True) s.s6) :
    W c ms X bd (cc0_csr_linear (F := F) i ms.a1 ms.h1 ms.a2 ms.h2 ms.a3 ms.h3 ms.a4 ms.h4 ms.a5 ms.h5 ms.a6 ms.h6 ms.a7 ms.h7) (fun _ s' => Post X i s s') s := by
  rw [cc0_csr_linear_eq_skeleton]
  delta cc0_csr_linear_skel
  extract_lets a0 v1 v3 v4 j1 j2
  have hfin : ∀ s', XT X (fun _ _ => True) s'.s6 →
      (0 < (i 0).val → ∀ Y : Fin 256 → S16x128.Idx → F .f32, (∀ k, At (alt (par i)) k (Y k) s.s7) → Out Y (fun _ _ => True) s'.s5) →
      W c ms X bd (j1 ⟨⟩) (fun _ s' => Post X i s s') s' := fun s' hx ho => by
    refine W_bind (W_for (fun n _ s'' => CI X i s'.s5 n s'') ⟨hx, fun k hk => absurd hk (Nat.not_lt_zero _), rfl⟩ ?_ ?_)
    · intro k acc s'' hs''
      exact t3_body_w hG i s'.s5 k acc s'' hs''
    intro _ s'' hs''
    refine W_pure ⟨hs''.1, fun k => hs''.2.1 k k.isLt, fun h0 Y hY => ?_⟩
    rw [hs''.2.2]
    exact ho h0 Y hY
  by_cases h0 : (i 0).val = 0
  · refine W_dite (fun h => ?_) (fun h => absurd ((cond1_iff i).2 h0) h)
    refine W_bind (W_for (fun n _ s' => XT X (fun k _ => k < 128 * n) s'.s6) (fun k _ hk => absurd hk (Nat.not_lt_zero _)) ?_ ?_)
    · intro k acc s' hs'
      exact t1_body_w i h k acc s' hs'
    intro _ s' hs'
    refine W_dite (fun h' => ?_) (fun h' => hfin _ (hs'.mono fun k _ hk _ _ => ?_) fun h => ?_)
    · have := (cond2_iff i).1 h'
      omega
    · show k < 128 * 12
      omega
    · omega
  · refine W_dite (fun h => absurd ((cond1_iff i).1 h) h0) (fun h => ?_)
    have hp := Nat.pos_of_ne_zero h0
    refine W_dite (fun h => ?_) (fun h => absurd ((cond2_iff i).2 hp) h)
    refine W_bind (W_for (fun n _ s' => Out (fun k j => s.s7 (ix2 (yrow (alt (par i)) k (j 0)) (j 1))) (fun u _ => u < 4 * n) s'.s5 ∧ s'.s6 = s.s6 ∧ s'.s7 = s.s7) ?_ ?_ ?_)
    · exact ⟨fun u _ hu => absurd hu (Nat.not_lt_zero _), rfl, rfl⟩
    · intro k acc s' hs'
      exact t2_body_w i _ h _ s.s6 s.s7 (fun _ _ _ => rfl) k acc s' hs'
    intro _ s' hs'
    refine hfin _ (by rw [hs'.2.1]; exact hX hp) fun _ Y hY u k _ a b => ?_
    refine (hs'.1 u k (show u.val < 4 * 4 by omega) a b).trans (hY _ _ _)

end Body

end Cert.Proof.S
-- ==== Proof.S.Run.lean ====
/-
  The launch of `Sparse`: from a triple about the body at each grid point (an invariant of the scratch buffer, a
  relation on what the body leaves in the output window) to the run of @main.
-/
module

public import proofs.«01_k».proof.Proof.S.Body
public import proofs.«01_k».proof.Proof.Gen.Sparse.Launch
public import proofs.«01_k».proof.Proof.Gen.Sparse.Points
public import Idealize.ShloMosaic.Lib.Pipeline.Frame
public import Idealize.ShloMosaic.Lib.Pipeline.FrameBody
public import Idealize.ShloMosaic.Lib.Pipeline.DatRel

@[expose] public section

noncomputable section

namespace Cert.Proof.S

open Cert.Sparse Cert.Sparse.Gen
open Idealize.ShloMosaic
open Idealize.ShloMosaic.TcCoe Idealize.ShloMosaic.Tactic
open Idealize.ShloMosaic.Pipeline (Dat RDat BodyObligationRel)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable (m : (ℓ : Loc nD τ sig) → Buf (Elt F) ℓ) (ρ : Dev nD → PrngReg)

local notation "𝕄" => MT nD τ sig Unit (Elt F) ℕ (UR nD τ) ℕ

/-- The host operations before the region. -/
abbrev hostAll : List (HloOp τ sig (Elt F)) :=
  ([hostOps0, hostOps0_1, hostOps0_2, hostOps0_3, hostOps0_4] : List (List (HloOp τ sig (Elt F)))).flatten

/-- The contents of the unscoped buffers as the region finds them. -/
def V (c : Dev nD) (b : Ref sig .tc) : Buf (Elt F) ((c : Thread nD τ).loc b) :=
  StableHlo.after hostAll (fun b => m (c, b)) b

theorem V_def (c : Dev nD) (b : Ref sig .tc) : V m c b = StableHlo.after hostAll (fun b => m (c, b)) b := rfl

/-- @main is the host operations, then the region. -/
theorem hmain0 : Pipeline.HMain (Ix := Unit) (Name := ℕ) (U := UR nD τ) (Lvl := ℕ) cfgs 0 defs₀ 𝒱₀ m (main (F := F)) (V m) :=
  Pipeline.hmain_prefixes cfgs 0 defs₀ 𝒱₀ m main [hostOps0, hostOps0_1, hostOps0_2, hostOps0_3, hostOps0_4]
    ⟨hostOps0_sub, hostOps0_1_sub, hostOps0_2_sub, hostOps0_3_sub, hostOps0_4_sub⟩
    ⟨StableHlo.forall_fresh_of_map rfl, StableHlo.forall_fresh_of_map rfl, StableHlo.forall_fresh_of_map rfl,
      StableHlo.forall_fresh_of_map rfl, StableHlo.forall_fresh_of_map rfl⟩
    (fun c => (main_chain c).trans rfl)

attribute [irreducible] V

/-- The block of window `w` at point `t`. -/
def iblk (c : Dev nD) (w : Fin 5) (t : Fin cfg0.N) :
    ((cfg0.win w).xblock (cfg0.grid.coords t)).Idx → Elt F (cfg0.win w).elt :=
  ((cfg0.win w).blk t).view.read (Elt F) (V m c (Pipeline.arrRef spec0 w))

/-- What the input windows hold at point `t`. -/
def insAt (c : Dev nD) (t : Fin cfg0.N) : Ins F where
  x1 := iblk m c 0 t
  x2 := iblk m c 1 t
  x3 := iblk m c 2 t
  x4 := iblk m c 3 t

/-- The buffers of the body at point `t`. -/
def memsAt (t : Fin cfg0.N) : Mems where
  a1 := win0_0.stage (cfg0.slots t 0)
  h1 := hstage0_0 ((cfg0.slots t 0).cast nbuf0_0)
  a2 := win0_1.stage (cfg0.slots t 1)
  h2 := hstage0_1 ((cfg0.slots t 1).cast nbuf0_1)
  a3 := win0_2.stage (cfg0.slots t 2)
  h3 := hstage0_2 ((cfg0.slots t 2).cast nbuf0_2)
  a4 := win0_3.stage (cfg0.slots t 3)
  h4 := hstage0_3 ((cfg0.slots t 3).cast nbuf0_3)
  a5 := win0_4.stage (cfg0.slots t 4)
  h5 := hstage0_4 ((cfg0.slots t 4).cast nbuf0_4)
  a6 := Memref.whole cc0_scratch0
  h6 := Memref.isWhole_whole _
  a7 := Memref.whole cc0_scratch1
  h7 := Memref.isWhole_whole _

/-- The output window. -/
def outs : Fin 5 → Bool := fun w => decide (4 ≤ w.val)

/-- An invariant of the packed activations and of the running sums before each point, and what is asked of the output at each point. -/
structure Track (F : FTy → Type) where
  inv : ℕ → (S12288x128.Idx → Elt F .i32) → (S8704x128.Idx → Elt F .f32) → Prop
  y : ℕ → (S1920x256.Idx → Elt F .f32) → Prop

variable (K : Dev nD → Track F)

/-- The scratch buffer at contents the invariant allows. -/
def scr (c : Dev nD) (t : ℕ) : sProp 𝕄 :=
  iprop(∃ f6 f7, ⌜(K c).inv t f6 f7⌝ ∗ owns (c : Thread nD τ) (Memref.whole cc0_scratch0) fullShare f6
    ∗ owns (c : Thread nD τ) (Memref.whole cc0_scratch1) fullShare f7)

/-- What the body leaves in each window, the output unnamed. -/
def aft (c : Dev nD) : (w : Fin 5) → (t : Fin cfg0.N) → (cfg0.win w).block.Idx → Elt F (cfg0.win w).elt :=
  fun | 0 => fun t => iblk m c 0 t | 1 => fun t => iblk m c 1 t | 2 => fun t => iblk m c 2 t | 3 => fun t => iblk m c 3 t
      | 4 => fun t => Pipeline.Dat.unnamed (cfg := cfg0) 4 t
      | ⟨_ + 5, h⟩ => absurd h (Nat.not_lt.2 (Nat.le_add_left _ _))

/-- The relation asked of the output. -/
def rel (c : Dev nD) : (w : Fin 5) → (t : Fin cfg0.N) → ((cfg0.win w).block.Idx → Elt F (cfg0.win w).elt) → Prop :=
  fun | 4 => fun t X => (K c).y t.val X | _ => fun _ _ => True

/-- The proof data. -/
def dats (_ : Fin 1) (c : Dev nD) : Dat τ (Elt F) Unit ℕ (UR nD τ) ℕ cfg0 c where
  A w := V m c (Pipeline.arrRef spec0 w)
  after := aft m c
  Φ t := iprop(scr K c t.val ∗ ∃ r, prngReg c r)
  q _ := fullShare
  owed _ := 0

/-! An input window holds its block at every point. -/

theorem before0_eq (c : Dev nD) (t : Fin cfg0.N) (d) : (dats m K 0 c).before 0 t d = iblk m c 0 t :=
  ((dats m K 0 c).before_in_eq_fetched 0 rfl (fun _ => rfl) (fun _ _ _ => rfl)
    (fun t => by rw [show (dats m K 0 c).after 0 t = iblk m c 0 t from rfl]; unfold Dat.blockOf iblk; rw [show (dats m K 0 c).A 0 = V m c (Pipeline.arrRef spec0 0) from rfl]) t d).trans
    (by unfold Dat.fetched Dat.blockOf iblk; rw [show (dats m K 0 c).A 0 = V m c (Pipeline.arrRef spec0 0) from rfl]; rfl)
theorem before1_eq (c : Dev nD) (t : Fin cfg0.N) (d) : (dats m K 0 c).before 1 t d = iblk m c 1 t :=
  ((dats m K 0 c).before_in_eq_fetched 1 rfl (fun _ => rfl) (fun _ _ _ => rfl)
    (fun t => by rw [show (dats m K 0 c).after 1 t = iblk m c 1 t from rfl]; unfold Dat.blockOf iblk; rw [show (dats m K 0 c).A 1 = V m c (Pipeline.arrRef spec0 1) from rfl]) t d).trans
    (by unfold Dat.fetched Dat.blockOf iblk; rw [show (dats m K 0 c).A 1 = V m c (Pipeline.arrRef spec0 1) from rfl]; rfl)
theorem before2_eq (c : Dev nD) (t : Fin cfg0.N) (d) : (dats m K 0 c).before 2 t d = iblk m c 2 t :=
  ((dats m K 0 c).before_in_eq_fetched 2 rfl (fun _ => rfl) (fun _ _ _ => rfl)
    (fun t => by rw [show (dats m K 0 c).after 2 t = iblk m c 2 t from rfl]; unfold Dat.blockOf iblk; rw [show (dats m K 0 c).A 2 = V m c (Pipeline.arrRef spec0 2) from rfl]) t d).trans
    (by unfold Dat.fetched Dat.blockOf iblk; rw [show (dats m K 0 c).A 2 = V m c (Pipeline.arrRef spec0 2) from rfl]; rfl)
theorem before3_eq (c : Dev nD) (t : Fin cfg0.N) (d) : (dats m K 0 c).before 3 t d = iblk m c 3 t :=
  ((dats m K 0 c).before_in_eq_fetched 3 rfl (fun _ => rfl) (fun _ _ _ => rfl)
    (fun t => by rw [show (dats m K 0 c).after 3 t = iblk m c 3 t from rfl]; unfold Dat.blockOf iblk; rw [show (dats m K 0 c).A 3 = V m c (Pipeline.arrRef spec0 3) from rfl]) t d).trans
    (by unfold Dat.fetched Dat.blockOf iblk; rw [show (dats m K 0 c).A 3 = V m c (Pipeline.arrRef spec0 3) from rfl]; rfl)

/-- The body at point `t`. -/
theorem bodyAt_eq (t : Fin cfg0.N) :
    bodyAt0 (F := F) t = cc0_csr_linear (F := F) (grid0.coords t) (memsAt t).a1 (memsAt t).h1 (memsAt t).a2 (memsAt t).h2 (memsAt t).a3 (memsAt t).h3 (memsAt t).a4 (memsAt t).h4 (memsAt t).a5 (memsAt t).h5 (memsAt t).a6 (memsAt t).h6 (memsAt t).a7 (memsAt t).h7 := rfl

/-- What is to be shown of the body: at every point, from scratch contents the invariant allows and any output contents,
    it ends with the invariant of the next point and the output as asked. -/
def BodyRuns : Prop := ∀ (c : Dev nD) (t : Fin cfg0.N) (s : St F), (K c).inv t.val s.s6 s.s7 →
  W c (memsAt t) (insAt m c t) none (bodyAt0 (F := F) t) (fun _ s' => (K c).inv (t.val + 1) s'.s6 s'.s7 ∧ (K c).y t.val s'.s5) s

variable {m K}

/-- What the body is called with at point `t`. -/
def bodyPre (m : (ℓ : Loc nD τ sig) → Buf (Elt F) ℓ) (K : Dev nD → Track F) (c : Dev nD) (t : Fin cfg0.N) : sProp 𝕄 :=
  iprop((dats m K 0 c).Φ t.castSucc ∗ (dats m K 0 c).owesAt () t.castSucc
    ∗ owns (c : Thread nD τ) (memsAt t).a1 fullShare (insAt m c t).x1
    ∗ owns (c : Thread nD τ) (memsAt t).a2 fullShare (insAt m c t).x2
    ∗ owns (c : Thread nD τ) (memsAt t).a3 fullShare (insAt m c t).x3
    ∗ owns (c : Thread nD τ) (memsAt t).a4 fullShare (insAt m c t).x4
    ∗ (∃ d, owns (c : Thread nD τ) (memsAt t).a5 fullShare d))

/-- What the body returns at point `t`. -/
def bodyPost (m : (ℓ : Loc nD τ sig) → Buf (Elt F) ℓ) (K : Dev nD → Track F) (c : Dev nD) (t : Fin cfg0.N) : sProp 𝕄 :=
  iprop((dats m K 0 c).Φ t.succ ∗ (dats m K 0 c).owesAt () t.succ
    ∗ owns (c : Thread nD τ) (memsAt t).a1 fullShare (insAt m c t).x1
    ∗ owns (c : Thread nD τ) (memsAt t).a2 fullShare (insAt m c t).x2
    ∗ owns (c : Thread nD τ) (memsAt t).a3 fullShare (insAt m c t).x3
    ∗ owns (c : Thread nD τ) (memsAt t).a4 fullShare (insAt m c t).x4
    ∗ (∃ X, ⌜(K c).y t.val X⌝ ∗ owns (c : Thread nD τ) (memsAt t).a5 fullShare X))

/-- The triple of the body at a point. -/
theorem sound_body (h : BodyRuns m K) (c : Dev nD) (t : Fin cfg0.N) :
    bodyPre m K c t ⊢ wp frame (wpE (defs₀ (F := F)) 𝒱₀ (c : Thread nD τ) none) Set.univ (bodyAt0 (F := F) t) (fun _ => bodyPost m K c t) := by
  unfold bodyPre bodyPost
  rw [show (dats m K 0 c).Φ t.succ = iprop(scr K c (t.val + 1) ∗ ∃ r, prngReg c r) from rfl,
    show (dats m K 0 c).owesAt () t.succ = (dats m K 0 c).owesAt () t.castSucc from rfl,
    show (dats m K 0 c).Φ t.castSucc = iprop(scr K c t.val ∗ ∃ r, prngReg c r) from rfl]
  unfold scr
  iintro ⟨⟨⟨%f6, %f7, %hI, S0, S1⟩, Hg⟩, HO, H1, H2, H3, H4, ⟨%d5, H5⟩⟩
  have hw := h c t ⟨d5, f6, f7⟩ hI
  unfold W R at hw
  iapply (wp_wand frame) $$ [H1 H2 H3 H4 H5 S0 S1]
  · iapply hw
    iframe H1 H2 H3 H4 H5 S0
    iexact S1
  iintro %a ⟨%s', %hQ, H1, H2, H3, H4, H5, S0, S1⟩
  iframe H1 H2 H3 H4 HO Hg
  isplitl [S0 S1]
  · iexists s'.s6, s'.s7
    isplitr
    · ipureintro; exact hQ.1
    isplitl [S0]; · iexact S0
    iexact S1
  · iexists s'.s5
    isplitr
    · ipureintro; exact hQ.2
    iexact H5

/-- The body table's row at the point. -/
theorem defs₀_row (t : Fin cfg0.N) :
    defs₀ (F := F) .tc cfg0.body (cfg0.bodyArgs t (cfg0.slots t)) = bodyAt0 t := by
  unfold defs₀; rw [Defs.onTc_tc]

/-- The body obligation. -/
theorem body_obligation (h : BodyRuns m K) (c : Dev nD) :
    BodyObligationRel (dats m K 0 c) (defs₀ (F := F)) 𝒱₀ () Set.univ outs (rel K c) := fun t => by
  rw [bigSep_W0, bigSep_W0, defs₀_row]
  refine triple_restated (sound_body h c t) rfl ?_ fun _ => ?_
  · unfold bodyPre
    show iprop((dats m K 0 c).Φ t.castSucc ∗ (dats m K 0 c).owesAt () t.castSucc
      ∗ (∃ d, owns (c : Thread nD τ) (memsAt t).a1 fullShare ((dats m K 0 c).before 0 t d))
      ∗ (∃ d, owns (c : Thread nD τ) (memsAt t).a2 fullShare ((dats m K 0 c).before 1 t d))
      ∗ (∃ d, owns (c : Thread nD τ) (memsAt t).a3 fullShare ((dats m K 0 c).before 2 t d))
      ∗ (∃ d, owns (c : Thread nD τ) (memsAt t).a4 fullShare ((dats m K 0 c).before 3 t d))
      ∗ (∃ Y, ⌜((dats m K 0 c).toRRel outs (rel K c)).Finds 4 t Y⌝ ∗ owns (c : Thread nD τ) (memsAt t).a5 fullShare Y)) ⊢ _
    iintro ⟨HΦ, HO, ⟨%d1, H1⟩, ⟨%d2, H2⟩, ⟨%d3, H3⟩, ⟨%d4, H4⟩, ⟨%X5, -, H5⟩⟩
    rw [before0_eq, before1_eq, before2_eq, before3_eq]
    isplitl [HΦ]; · iexact HΦ
    isplitl [HO]; · iexact HO
    isplitl [H1]; · iexact H1
    isplitl [H2]; · iexact H2
    isplitl [H3]; · iexact H3
    isplitl [H4]; · iexact H4
    iexists X5; iexact H5
  · exact .rfl

set_option backward.isDefEq.respectTransparency.types false in
/-- The run of @main: every fair execution ends, the inputs unchanged, the output's blocks as asked, the semaphores at zero. -/
theorem run_main (h : BodyRuns m K) (h0 : ∀ c f6 f7, (K c).inv 0 f6 f7) :
    θ_run defs (onTc (τ := τ) (main (F := F))) (s₀ m ρ)
      (fun r => RDat.FramePost (cfgs 0) (fun c => (dats m K 0 c).toRRel outs (rel K c)) (V m) r ∧ r.2.sem = fun _ => 0) :=
  RDat.θ_run_frame_track (Q' := _) cfgs (0 : Fin 1) launch0 defs₀ 𝒱₀ (fun c => (dats m K 0 c).toRRel outs (rel K c)) m ρ main
    (hbody := fun c => (body_obligation h c).toRRel) (hshare := fun c => (dats m K 0 c).share_full fun _ => rfl)
    (howed := fun _ _ => rfl) (V := V m) (hmain := hmain0 m) (hA := fun _ _ => rfl)
    (hin := fun c => by
      show Pipeline.ΦA spec0 c ⊢ iprop(scr K c 0 ∗ ∃ r, prngReg c r)
      unfold Pipeline.ΦA scr
      rw [scopedRest0_eq]
      iintro ⟨⟨⟨%f0, S0⟩, ⟨%f1, S1⟩⟩, Hg⟩
      iframe Hg
      simp only [owns_whole_eq]
      iexists f0, f1
      isplitr
      · ipureintro; exact h0 _ _ _
      isplitl [S0]; · iexists f0; isplitr; · (ipureintro; rfl)
                      iexact S0
      iexists f1; isplitr; · (ipureintro; rfl)
      iexact S1)
    (hout := fun c => by
      show iprop(scr K c _ ∗ ∃ r, prngReg c r) ⊢ Pipeline.ΦA spec0 c
      unfold Pipeline.ΦA scr
      rw [scopedRest0_eq]
      simp only [owns_whole_eq]
      iintro ⟨⟨%e0, %e1, -, ⟨%f0, -, S0⟩, ⟨%f1, -, S1⟩⟩, Hg⟩
      iframe Hg
      isplitl [S0]; · iexists f0; iexact S0
      iexists f1; iexact S1)

end Cert.Proof.S
-- ==== Proof.SparsePre.lean ====
/-
  What the precondition of the sums says of the row pointers and the column numbers.
-/
module

public import proofs.«01_k».proof.Proof.Pre
public import proofs.«01_k».proof.Proof.Gen.Pre_sparse_pre
public import Idealize.ShloMosaic.Lib.ReduceAll
public import Idealize.ShloMosaic.PureOps.BitExact
public import Idealize.ShloMosaic.PureOps.Ideal

@[expose] public section

noncomputable section

namespace Cert.Proof

open Idealize.ShloMosaic Cert.Pre_sparse_pre

theorem sparse_tables {F : FTy → Type} [FloatOps F] (a0 : IVec S5x384x1536 16)
    (rp : IVec S8961 32) (cols : IVec S61931 32) (a5 : IVec S61931 16)
    (h : fn (F := F) a0 rp cols a5 = fun _ => 1#1) : Tables rp cols := by
  have h' := congrFun h (fun a => nomatch a)
  unfold fn fn_part1 at h'
  have hs : Subsingleton S_.Idx := ⟨fun a b => funext fun i => nomatch i⟩
  have hand : ∀ {x y : BitVec 1}, IntOp.andi x y = 1#1 → x = 1#1 ∧ y = 1#1 := by decide
  obtain ⟨h', hclt⟩ := hand h'
  obtain ⟨h', hcge⟩ := hand h'
  obtain ⟨h', hmon⟩ := hand h'
  obtain ⟨hge, hle⟩ := hand h'
  have hge := fun i => IntOp.cmpi_sge.1 (Host.reduce_andi_all _ _ _ _ _ hge i)
  have hle := fun i => IntOp.cmpi_sle.1 (Host.reduce_andi_all _ _ _ _ _ hle i)
  have hmon := fun i => IntOp.cmpi_sle.1 (Host.reduce_andi_all _ _ _ _ _ hmon i)
  have hcge := fun i => IntOp.cmpi_sge.1 (Host.reduce_andi_all _ _ _ _ _ hcge i)
  have hclt := fun i => IntOp.cmpi_slt.1 (Host.reduce_andi_all _ _ _ _ _ hclt i)
  have e1 : (61931#32).toInt = 61931 := by decide
  have e2 : (1536#32).toInt = 1536 := by decide
  have hrp : ∀ i, (rp i).toNat ≤ 61931 := fun i => toNat_of_range (by decide) (hge i) (by have := hle i; rw [show (broadcastInDim S8961 ![] Facts.bcast_S_S8961 (constantI S_ 32 61931#32) i) = 61931#32 from rfl, e1] at this; exact_mod_cast this)
  refine ⟨hrp, fun j => ?_, fun i => ?_⟩
  · have := hmon j
    have e : ∀ i : S8961.Idx, (rp i).toInt = (rp i).toNat := fun i => toInt_of_le (by decide) (hrp i)
    unfold extractStridedSlice at this
    rw [e, e] at this
    have := Int.ofNat_le.mp this
    refine le_trans (le_of_eq (congrArg (fun i => (rp i).toNat) (funext fun a => Fin.ext ?_)))
      (this.trans (le_of_eq (congrArg (fun i => (rp i).toNat) (funext fun a => Fin.ext ?_))))
    · fin_cases a; exact (Nat.zero_add _).symm
    · fin_cases a; exact Nat.add_comm _ _
  · have h1 := hclt i
    rw [show (broadcastInDim S61931 ![] Facts.bcast_S_S61931 (constantI S_ 32 1536#32) i) = 1536#32 from rfl, e2] at h1
    have := toNat_of_range (x := cols i) (n := 1535) (by decide) (hcge i) (by omega)
    omega

end Cert.Proof
-- ==== Proof.S.Host.lean ====
/-
  What the host operations leave for the region of `Sparse`, the tables the precondition gives the body, the frame, and
  what the result array holds after the run: in each column the sum over that column's entries.
-/
module

public import proofs.«01_k».proof.Proof.S.Run
public import proofs.«01_k».proof.Proof.SparsePre
public import Idealize.ShloMosaic.Lib.KernelVsHost
public import Idealize.ShloMosaic.Lib.Pipeline.ArrRel
public import Idealize.ShloMosaic.Lib.Pipeline.ValueKit

@[expose] public section

noncomputable section

namespace Cert.Proof.S

open Cert.Sparse Cert.Sparse.Gen
open Idealize.ShloMosaic hiding ix1 ix2 eq_ix1 eq_ix2
open Idealize.ShloMosaic.TcCoe Idealize.ShloMosaic.Tactic
open Idealize.ShloMosaic.StableHlo
open Idealize.ShloMosaic.ValueIdx
open Idealize.ShloMosaic.Pipeline (Dat RDat)
open Idealize.SL Idealize.SL.Sem

variable {F : FTy → Type} [FloatOps F]
variable (m : (ℓ : Loc nD τ sig) → Buf (Elt F) ℓ) (ρ : Dev nD → PrngReg)

theorem V_arg0 (c : Dev nD) : V m c main_arg0 = m ((c.tc : Thread nD τ).loc main_arg0) := by
  rw [V_def]
  simp only [hostAll, List.flatten_cons, List.flatten_nil, List.cons_append, List.nil_append, List.append_nil, hostOps0,
    hostOps0_1, hostOps0_2, hostOps0_3, hostOps0_4, TRef.unary, TRef.binary, TRef.toBuf, TRef.ofBuf, cast_eq]
  after_results_simp <;> rfl

theorem V_arg1 (c : Dev nD) : V m c main_arg1 = m ((c.tc : Thread nD τ).loc main_arg1) := by
  rw [V_def]
  simp only [hostAll, List.flatten_cons, List.flatten_nil, List.cons_append, List.nil_append, List.append_nil, hostOps0,
    hostOps0_1, hostOps0_2, hostOps0_3, hostOps0_4, TRef.unary, TRef.binary, TRef.toBuf, TRef.ofBuf, cast_eq]
  after_results_simp <;> rfl

theorem V_arg2 (c : Dev nD) : V m c main_arg2 = m ((c.tc : Thread nD τ).loc main_arg2) := by
  rw [V_def]
  simp only [hostAll, List.flatten_cons, List.flatten_nil, List.cons_append, List.nil_append, List.append_nil, hostOps0,
    hostOps0_1, hostOps0_2, hostOps0_3, hostOps0_4, TRef.unary, TRef.binary, TRef.toBuf, TRef.ofBuf, cast_eq]
  after_results_simp <;> rfl

theorem V_arg3 (c : Dev nD) : V m c main_arg3 = m ((c.tc : Thread nD τ).loc main_arg3) := by
  rw [V_def]
  simp only [hostAll, List.flatten_cons, List.flatten_nil, List.cons_append, List.nil_append, List.append_nil, hostOps0,
    hostOps0_1, hostOps0_2, hostOps0_3, hostOps0_4, TRef.unary, TRef.binary, TRef.toBuf, TRef.ofBuf, cast_eq]
  after_results_simp <;> rfl

/-- The activations' words as the host leaves them, -/
theorem V_v0 (c : Dev nD) : V m c main_v0 = shapeCast _ (m ((c.tc : Thread nD τ).loc main_arg0)) shapeCasts_S5x384x1536_S1920x1536 := by
  rw [V_def]
  simp only [hostAll, List.flatten_cons, List.flatten_nil, List.cons_append, List.nil_append, List.append_nil, hostOps0,
    hostOps0_1, hostOps0_2, hostOps0_3, hostOps0_4, TRef.unary, TRef.binary, TRef.toBuf, TRef.ofBuf, cast_eq]
  after_results_simp <;> rfl

/-- the addresses, -/
theorem V_v3 (c : Dev nD) : V m c main_v3 = pad S65024 ![0] ![3093] ![0]
    (muli (m ((c.tc : Thread nD τ).loc main_arg2)) (broadcastInDim S61931 ![] bcast_S_S61931 (constantI S_ 32 8#32)))
    (constantI S_ 32 0#32) pads_S61931_S65024_030930 h_S_ := by
  rw [V_def]
  simp only [hostAll, List.flatten_cons, List.flatten_nil, List.cons_append, List.nil_append, List.append_nil, hostOps0,
    hostOps0_1, hostOps0_2, hostOps0_3, hostOps0_4, TRef.unary, TRef.binary, TRef.toBuf, TRef.ofBuf, cast_eq]
  after_results_simp <;> rfl

/-- and the values. -/
theorem V_v10 (c : Dev nD) : V m c main_v10 = shapeCast _ (transpose S254x8x32 [0, 2, 1] (shapeCast S254x32x8 (pad S65024 ![0] ![3093] ![0]
    (muli (extui 32 (m ((c.tc : Thread nD τ).loc main_arg3)) natLt_16_32) (broadcastInDim S61931 ![] bcast_S_S61931 (constantI S_ 32 65537#32)))
    (constantI S_ 32 0#32) pads_S61931_S65024_030930 h_S_) shapeCasts_S65024_S254x32x8) transposes_S254x32x8_S254x8x32_0_2_1) shapeCasts_S254x8x32_S2032x32 := by
  rw [V_def]
  simp only [hostAll, List.flatten_cons, List.flatten_nil, List.cons_append, List.nil_append, List.append_nil, hostOps0,
    hostOps0_1, hostOps0_2, hostOps0_3, hostOps0_4, TRef.unary, TRef.binary, TRef.toBuf, TRef.ofBuf, cast_eq]
  after_results_simp <;> rfl

theorem index0 : ∀ t : Fin cfg0.N, win0_0.index t = ![0] := (by decide +kernel : ∀ t : Fin grid0.N, win0_0.index t = ![0])
theorem index1 : ∀ t : Fin cfg0.N, win0_1.index t = ![0] := (by decide +kernel : ∀ t : Fin grid0.N, win0_1.index t = ![0])
theorem index2 : ∀ t : Fin cfg0.N, win0_2.index t = ![0, 0] := (by decide +kernel : ∀ t : Fin grid0.N, win0_2.index t = ![0, 0])
theorem index3 : ∀ t : Fin cfg0.N, win0_3.index t = ![0, 0] := (by decide +kernel : ∀ t : Fin grid0.N, win0_3.index t = ![0, 0])
theorem index4 : ∀ t : Fin cfg0.N, win0_4.index t = ![0, t.val - 1] := (by decide +kernel : ∀ t : Fin grid0.N, win0_4.index t = ![0, t.val - 1])
theorem flush4 : ∀ t : Fin cfg0.N, (cfg0.win 4).flush t = true → 0 < t.val :=
  (by decide +kernel : ∀ t : Fin grid0.N, win0_4.flush t = true → 0 < t.val)
theorem coord_val : ∀ t : Fin cfg0.N, (grid0.coords t 0).val = t.val := (by decide +kernel : ∀ t : Fin grid0.N, (grid0.coords t 0).val = t.val)

/-! The body finds the whole arrays at every point. -/

theorem ins_x1 (c : Dev nD) (t : Fin cfg0.N) (n : Fin 8961) : (insAt m c t).x1 (ix1 n) = V m c main_arg1 (ix1 n) := by
  show iblk m c 0 t (ix1 n) = _
  blk_ext [iblk, index0]
theorem ins_x2 (c : Dev nD) (t : Fin cfg0.N) (n : Fin 65024) : (insAt m c t).x2 (ix1 n) = V m c main_v3 (ix1 n) := by
  show iblk m c 1 t (ix1 n) = _
  blk_ext [iblk, index1]
theorem ins_x3 (c : Dev nD) (t : Fin cfg0.N) (n : Fin 1920) (k : Fin 1536) : (insAt m c t).x3 (ix2 n k) = V m c main_v0 (ix2 n k) := by
  show iblk m c 2 t (ix2 n k) = _
  blk_ext [iblk, index2]
theorem ins_x4 (c : Dev nD) (t : Fin cfg0.N) (n : Fin 2032) (k : Fin 32) : (insAt m c t).x4 (ix2 n k) = V m c main_v10 (ix2 n k) := by
  show iblk m c 3 t (ix2 n k) = _
  blk_ext [iblk, index3]

/-- The arrays the body finds. -/
def ins (c : Dev nD) : Ins F where
  x1 := fun i => V m c main_arg1 i
  x2 := fun i => V m c main_v3 i
  x3 := fun i => V m c main_v0 i
  x4 := fun i => V m c main_v10 i

theorem insAt_eq (c : Dev nD) (t : Fin cfg0.N) : insAt m c t = ins m c := by
  have h1 : (insAt m c t).x1 = (ins m c).x1 := funext fun i => by rw [eq_ix1 i]; exact ins_x1 m c t _
  have h2 : (insAt m c t).x2 = (ins m c).x2 := funext fun i => by rw [eq_ix1 i]; exact ins_x2 m c t _
  have h3 : (insAt m c t).x3 = (ins m c).x3 := funext fun i => by rw [eq_ix2 i]; exact ins_x3 m c t _ _
  have h4 : (insAt m c t).x4 = (ins m c).x4 := funext fun i => by rw [eq_ix2 i]; exact ins_x4 m c t _ _
  calc insAt m c t = ⟨(insAt m c t).x1, (insAt m c t).x2, (insAt m c t).x3, (insAt m c t).x4⟩ := rfl
    _ = ins m c := by rw [h1, h2, h3, h4]

/-- The address of an entry: eight times its column, zero past the last entry. -/
theorem addr (c : Dev nD) (h : Tables (m ((c.tc : Thread nD τ).loc main_arg1)) (m ((c.tc : Thread nD τ).loc main_arg2))) (i : S65024.Idx) :
    if hi : (i 0).val < 61931 then (V m c main_v3 i : BitVec 32).toNat = 8 * (m ((c.tc : Thread nD τ).loc main_arg2) (ix1 ⟨(i 0).val, hi⟩) : BitVec 32).toNat
    else (V m c main_v3 i : BitVec 32).toNat = 0 := by
  rw [V_v3]
  have hmul : ∀ x : BitVec 32, x.toNat < 1536 → x.toNat * (8#32).toNat < 2 ^ 32 := fun x hx => by
    rw [show (8#32).toNat = 8 from rfl]; omega
  split
  · rename_i hi
    rw [pad_apply_of_inside _ _ _ _ _ _ _ i (ix1 ⟨(i 0).val, hi⟩)
      (fun a => by match a with | ⟨0, _⟩ => show (i 0).val = 0 + (i 0).val * (0 + 1); omega)]
    show (_ * 8#32 : BitVec 32).toNat = _
    rw [BitVec.toNat_mul, Nat.mod_eq_of_lt, Nat.mul_comm]
    · rfl
    · exact hmul _ (h.col_lt _)
  · rename_i hi
    rw [pad_apply_of_not_inside _ _ _ _ _ _ _ i 0 (fun hh => hi (by
      have : ((i 0).val - 0) / (0 + 1) < 61931 := hh.2.2
      rw [Nat.sub_zero, Nat.zero_add, Nat.div_one] at this; exact this))]
    rfl

/-- The tables of a run whose arguments satisfy the precondition are what the body needs. -/
theorem good_insAt (c : Dev nD) (t : Fin cfg0.N)
    (h : Tables (m ((c.tc : Thread nD τ).loc main_arg1)) (m ((c.tc : Thread nD τ).loc main_arg2))) : Good (insAt m c t) := by
  have h3 : ∀ i : S65024.Idx, 8 ∣ (V m c main_v3 i : BitVec 32).toNat ∧ (V m c main_v3 i : BitVec 32).toNat < 12288 := fun i => by
    have e := addr m c h i
    split at e
    · rw [e]; exact ⟨Nat.dvd_mul_right _ _, by have := h.col_lt (ix1 ⟨(i 0).val, by assumption⟩); omega⟩
    · rw [e]; exact ⟨Nat.dvd_zero _, by decide⟩
  rw [insAt_eq]
  exact ⟨fun i => by
      show (V m c main_arg1 _ : BitVec 32).toNat ≤ 61931
      rw [V_arg1]; exact h.rp_le _,
    fun i => (h3 i).1, fun i => (h3 i).2⟩

/-- What is kept along the grid: after a point the activations are packed and its half holds its block's sums; at every
    point but the first the output window is the sums of the point before. -/
def track (c : Dev nD) : Track F where
  inv t f6 f7 := ∀ u : Fin cfg0.N, u.val + 1 = t → XT (ins m c) (fun _ _ => True) f6
    ∧ ∀ k : Fin 256, At (par (grid0.coords u)) k (colsum (ins m c) (blk (grid0.coords u) * 256 + k.val)) f7
  y t Z := ∀ u : Fin cfg0.N, u.val + 1 = t → Out (fun k => colsum (ins m c) (blk (grid0.coords u) * 256 + k.val)) (fun _ _ => True) Z

/-- The body keeps it. -/
theorem bodyRuns (h : ∀ c : Dev nD, Tables (m ((c.tc : Thread nD τ).loc main_arg1)) (m ((c.tc : Thread nD τ).loc main_arg2))) :
    BodyRuns m (track m) := fun c t s hI => by
  have hG := good_insAt m c t (h c)
  rw [insAt_eq] at hG ⊢
  refine W_mono (body_w hG _ s fun h0 => ?_) fun _ s' hP => ⟨fun u hu => ?_, fun u hu => ?_⟩
  · rw [coord_val] at h0
    exact (hI ⟨t.val - 1, by have := t.isLt; omega⟩ (by show t.val - 1 + 1 = t.val; omega)).1
  · obtain rfl : u = t := Fin.ext (by omega)
    exact ⟨hP.1, hP.2.1⟩
  · refine hP.2.2 (by rw [coord_val]; omega) _ fun k => ?_
    have e : alt (par (grid0.coords t)) = par (grid0.coords u) := by
      apply Fin.ext
      show 1 - (grid0.coords t 0).val % 2 = (grid0.coords u 0).val % 2
      rw [coord_val, coord_val]; omega
    rw [e]
    exact (hI u hu).2 k

/-- Every buffer the claims read keeps its contents in a run that ends as the launch says. -/
theorem args_kept (K : Dev nD → Track F) {r : PUnit × MemSt nD τ sig (Elt F)}
    (h : RDat.FramePost (cfgs 0) (fun c => (dats m K 0 c).toRRel outs (rel K c)) (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  ⟨((h c).2 main_arg0 (Pipeline.mem_restRefs_of main_arg0 (by decide) (fun w => (by decide : ∀ w : Fin 5, (spec0 w).arr.view.ref ≠ main_arg0) w))).trans (V_arg0 m c),
    (RDat.FramePost.arr_in h c 0 rfl).trans (V_arg1 m c),
    ((h c).2 main_arg2 (Pipeline.mem_restRefs_of main_arg2 (by decide) (fun w => (by decide : ∀ w : Fin 5, (spec0 w).arr.view.ref ≠ main_arg2) w))).trans (V_arg2 m c),
    ((h c).2 main_arg3 (Pipeline.mem_restRefs_of main_arg3 (by decide) (fun w => (by decide : ∀ w : Fin 5, (spec0 w).arr.view.ref ≠ main_arg3) w))).trans (V_arg3 m c)⟩

/-- An element of the result. -/
def elt (c : Dev nD) (u : Fin 15) (a : Fin 128) (q : ℕ) : Elt F .f32 := colsum (ins m c) q (ix2 ⟨u.val, by omega⟩ a)

/-- The result array after the run, element by element. -/
theorem result {r : PUnit × MemSt nD τ sig (Elt F)}
    (h : RDat.FramePost (cfgs 0) (fun c => (dats m (track m) 0 c).toRRel outs (rel (track m) c)) (V m) r) (c : Dev nD)
    (u : Fin 15) (a : Fin 128) (q : Fin 8960) :
    r.2.mem ((c.tc : Thread nD τ).loc main_v11) (ix2 ⟨128 * u.val + a.val, by omega⟩ q) = elt m c u a q.val := by
  obtain ⟨after, hL, hA⟩ := RDat.FramePost.exists_exact h c
  have hM : r.2.mem ((c.tc : Thread nD τ).loc main_v11) = (((dats m (track m) 0 c).toRRel outs (rel (track m) c)).withAfter after).arrAt 4 cfg0.N := hA 4
  rw [hM]
  refine Dat.arrAt_forall_of_covers (cfg := cfg0) _ 4
    (fun i v => ∀ (u : Fin 15) (a : Fin 128) (q : Fin 8960), (i 0).val = 128 * u.val + a.val → (i 1).val = q.val → v = elt m c u a q.val)
    (by decide +kernel) (fun t hf y => ?_) (ix2 (⟨128 * u.val + a.val, by omega⟩ : Fin 1920) q) (Memref.isWhole_whole _) u a q rfl rfl
  intro u a q h0 h1
  have ht := flush4 t hf
  have hy := Dat.toRRel_leaves (dats m (track m) 0 c) (w := 4) (fgt := outs) rfl (hL 4 t hf)
    ⟨t.val - 1, by have := t.isLt; omega⟩ (by show t.val - 1 + 1 = t.val; omega)
  blk_simp [index4] at h0 h1
  blk_simp
  have hN : t.val < 36 := t.isLt
  have hy1 : (y 1).val < 256 := (y 1).isLt
  have ey : y = ix2 ⟨128 * u.val + a.val, by omega⟩ ⟨128 * ((y 1).val / 128) + (y 1).val % 128, by omega⟩ := by
    funext x
    apply Fin.ext
    match x with
    | ⟨0, _⟩ => exact h0
    | ⟨1, _⟩ => exact (Nat.div_add_mod _ _).symm
  have hfin := hy u ⟨(y 1).val / 128, by omega⟩ trivial a ⟨(y 1).val % 128, by omega⟩
  show after 4 t y = _
  rw [ey]
  refine hfin.trans ?_
  have hb : blk (grid0.coords (⟨t.val - 1, by omega⟩ : Fin cfg0.N)) * 256 + (128 * ((y 1).val / 128) + (y 1).val % 128) = q.val := by
    unfold blk
    rw [coord_val]
    show min (t.val - 1) 34 * 256 + _ = _
    omega
  show colsum _ (blk _ * 256 + (128 * ((y 1).val / 128) + (y 1).val % 128)) _ = _
  rw [hb]
  rfl

end Cert.Proof.S
-- ==== Proof.SI.Run.lean ====
/-
  The launch of `SparseIdeal`: from a triple about the body at each grid point (an invariant of the scratch buffer, a
  relation on what the body leaves in the output window) to the run of @main.
-/
module

public import proofs.«01_k».proof.Proof.SI.Body
public import proofs.«01_k».proof.Proof.Gen.SparseIdeal.Launch
public import proofs.«01_k».proof.Proof.Gen.SparseIdeal.Points
public import Idealize.ShloMosaic.Lib.Pipeline.Frame
public import Idealize.ShloMosaic.Lib.Pipeline.FrameBody
public import Idealize.ShloMosaic.Lib.Pipeline.DatRel

@[expose] public section

noncomputable section

namespace Cert.Proof.SI

open Cert.SparseIdeal Cert.SparseIdeal.Gen
open Idealize.ShloMosaic
open Idealize.ShloMosaic.TcCoe Idealize.ShloMosaic.Tactic
open Idealize.ShloMosaic.Pipeline (Dat RDat BodyObligationRel)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable (m : (ℓ : Loc nD τ sig) → Buf (Elt F) ℓ) (ρ : Dev nD → PrngReg)

local notation "𝕄" => MT nD τ sig Unit (Elt F) ℕ (UR nD τ) ℕ

/-- The host operations before the region. -/
abbrev hostAll : List (HloOp τ sig (Elt F)) :=
  ([hostOps0, hostOps0_1, hostOps0_2, hostOps0_3, hostOps0_4] : List (List (HloOp τ sig (Elt F)))).flatten

/-- The contents of the unscoped buffers as the region finds them. -/
def V (c : Dev nD) (b : Ref sig .tc) : Buf (Elt F) ((c : Thread nD τ).loc b) :=
  StableHlo.after hostAll (fun b => m (c, b)) b

theorem V_def (c : Dev nD) (b : Ref sig .tc) : V m c b = StableHlo.after hostAll (fun b => m (c, b)) b := rfl

/-- @main is the host operations, then the region. -/
theorem hmain0 : Pipeline.HMain (Ix := Unit) (Name := ℕ) (U := UR nD τ) (Lvl := ℕ) cfgs 0 defs₀ 𝒱₀ m (main (F := F)) (V m) :=
  Pipeline.hmain_prefixes cfgs 0 defs₀ 𝒱₀ m main [hostOps0, hostOps0_1, hostOps0_2, hostOps0_3, hostOps0_4]
    ⟨hostOps0_sub, hostOps0_1_sub, hostOps0_2_sub, hostOps0_3_sub, hostOps0_4_sub⟩
    ⟨StableHlo.forall_fresh_of_map rfl, StableHlo.forall_fresh_of_map rfl, StableHlo.forall_fresh_of_map rfl,
      StableHlo.forall_fresh_of_map rfl, StableHlo.forall_fresh_of_map rfl⟩
    (fun c => (main_chain c).trans rfl)

attribute [irreducible] V

/-- The block of window `w` at point `t`. -/
def iblk (c : Dev nD) (w : Fin 5) (t : Fin cfg0.N) :
    ((cfg0.win w).xblock (cfg0.grid.coords t)).Idx → Elt F (cfg0.win w).elt :=
  ((cfg0.win w).blk t).view.read (Elt F) (V m c (Pipeline.arrRef spec0 w))

/-- What the input windows hold at point `t`. -/
def insAt (c : Dev nD) (t : Fin cfg0.N) : Ins F where
  x1 := iblk m c 0 t
  x2 := iblk m c 1 t
  x3 := iblk m c 2 t
  x4 := iblk m c 3 t

/-- The buffers of the body at point `t`. -/
def memsAt (t : Fin cfg0.N) : Mems where
  a1 := win0_0.stage (cfg0.slots t 0)
  h1 := hstage0_0 ((cfg0.slots t 0).cast nbuf0_0)
  a2 := win0_1.stage (cfg0.slots t 1)
  h2 := hstage0_1 ((cfg0.slots t 1).cast nbuf0_1)
  a3 := win0_2.stage (cfg0.slots t 2)
  h3 := hstage0_2 ((cfg0.slots t 2).cast nbuf0_2)
  a4 := win0_3.stage (cfg0.slots t 3)
  h4 := hstage0_3 ((cfg0.slots t 3).cast nbuf0_3)
  a5 := win0_4.stage (cfg0.slots t 4)
  h5 := hstage0_4 ((cfg0.slots t 4).cast nbuf0_4)
  a6 := Memref.whole cc0_scratch0
  h6 := Memref.isWhole_whole _
  a7 := Memref.whole cc0_scratch1
  h7 := Memref.isWhole_whole _

/-- The output window. -/
def outs : Fin 5 → Bool := fun w => decide (4 ≤ w.val)

/-- An invariant of the packed activations and of the running sums before each point, and what is asked of the output at each point. -/
structure Track (F : FTy → Type) where
  inv : ℕ → (S12288x128.Idx → Elt F .i32) → (S8704x128.Idx → Elt F .f32) → Prop
  y : ℕ → (S1920x256.Idx → Elt F .f32) → Prop

variable (K : Dev nD → Track F)

/-- The scratch buffer at contents the invariant allows. -/
def scr (c : Dev nD) (t : ℕ) : sProp 𝕄 :=
  iprop(∃ f6 f7, ⌜(K c).inv t f6 f7⌝ ∗ owns (c : Thread nD τ) (Memref.whole cc0_scratch0) fullShare f6
    ∗ owns (c : Thread nD τ) (Memref.whole cc0_scratch1) fullShare f7)

/-- What the body leaves in each window, the output unnamed. -/
def aft (c : Dev nD) : (w : Fin 5) → (t : Fin cfg0.N) → (cfg0.win w).block.Idx → Elt F (cfg0.win w).elt :=
  fun | 0 => fun t => iblk m c 0 t | 1 => fun t => iblk m c 1 t | 2 => fun t => iblk m c 2 t | 3 => fun t => iblk m c 3 t
      | 4 => fun t => Pipeline.Dat.unnamed (cfg := cfg0) 4 t
      | ⟨_ + 5, h⟩ => absurd h (Nat.not_lt.2 (Nat.le_add_left _ _))

/-- The relation asked of the output. -/
def rel (c : Dev nD) : (w : Fin 5) → (t : Fin cfg0.N) → ((cfg0.win w).block.Idx → Elt F (cfg0.win w).elt) → Prop :=
  fun | 4 => fun t X => (K c).y t.val X | _ => fun _ _ => True

/-- The proof data. -/
def dats (_ : Fin 1) (c : Dev nD) : Dat τ (Elt F) Unit ℕ (UR nD τ) ℕ cfg0 c where
  A w := V m c (Pipeline.arrRef spec0 w)
  after := aft m c
  Φ t := iprop(scr K c t.val ∗ ∃ r, prngReg c r)
  q _ := fullShare
  owed _ := 0

/-! An input window holds its block at every point. -/

theorem before0_eq (c : Dev nD) (t : Fin cfg0.N) (d) : (dats m K 0 c).before 0 t d = iblk m c 0 t :=
  ((dats m K 0 c).before_in_eq_fetched 0 rfl (fun _ => rfl) (fun _ _ _ => rfl)
    (fun t => by rw [show (dats m K 0 c).after 0 t = iblk m c 0 t from rfl]; unfold Dat.blockOf iblk; rw [show (dats m K 0 c).A 0 = V m c (Pipeline.arrRef spec0 0) from rfl]) t d).trans
    (by unfold Dat.fetched Dat.blockOf iblk; rw [show (dats m K 0 c).A 0 = V m c (Pipeline.arrRef spec0 0) from rfl]; rfl)
theorem before1_eq (c : Dev nD) (t : Fin cfg0.N) (d) : (dats m K 0 c).before 1 t d = iblk m c 1 t :=
  ((dats m K 0 c).before_in_eq_fetched 1 rfl (fun _ => rfl) (fun _ _ _ => rfl)
    (fun t => by rw [show (dats m K 0 c).after 1 t = iblk m c 1 t from rfl]; unfold Dat.blockOf iblk; rw [show (dats m K 0 c).A 1 = V m c (Pipeline.arrRef spec0 1) from rfl]) t d).trans
    (by unfold Dat.fetched Dat.blockOf iblk; rw [show (dats m K 0 c).A 1 = V m c (Pipeline.arrRef spec0 1) from rfl]; rfl)
theorem before2_eq (c : Dev nD) (t : Fin cfg0.N) (d) : (dats m K 0 c).before 2 t d = iblk m c 2 t :=
  ((dats m K 0 c).before_in_eq_fetched 2 rfl (fun _ => rfl) (fun _ _ _ => rfl)
    (fun t => by rw [show (dats m K 0 c).after 2 t = iblk m c 2 t from rfl]; unfold Dat.blockOf iblk; rw [show (dats m K 0 c).A 2 = V m c (Pipeline.arrRef spec0 2) from rfl]) t d).trans
    (by unfold Dat.fetched Dat.blockOf iblk; rw [show (dats m K 0 c).A 2 = V m c (Pipeline.arrRef spec0 2) from rfl]; rfl)
theorem before3_eq (c : Dev nD) (t : Fin cfg0.N) (d) : (dats m K 0 c).before 3 t d = iblk m c 3 t :=
  ((dats m K 0 c).before_in_eq_fetched 3 rfl (fun _ => rfl) (fun _ _ _ => rfl)
    (fun t => by rw [show (dats m K 0 c).after 3 t = iblk m c 3 t from rfl]; unfold Dat.blockOf iblk; rw [show (dats m K 0 c).A 3 = V m c (Pipeline.arrRef spec0 3) from rfl]) t d).trans
    (by unfold Dat.fetched Dat.blockOf iblk; rw [show (dats m K 0 c).A 3 = V m c (Pipeline.arrRef spec0 3) from rfl]; rfl)

/-- The body at point `t`. -/
theorem bodyAt_eq (t : Fin cfg0.N) :
    bodyAt0 (F := F) t = cc0_csr_linear (F := F) (grid0.coords t) (memsAt t).a1 (memsAt t).h1 (memsAt t).a2 (memsAt t).h2 (memsAt t).a3 (memsAt t).h3 (memsAt t).a4 (memsAt t).h4 (memsAt t).a5 (memsAt t).h5 (memsAt t).a6 (memsAt t).h6 (memsAt t).a7 (memsAt t).h7 := rfl

/-- What is to be shown of the body: at every point, from scratch contents the invariant allows and any output contents,
    it ends with the invariant of the next point and the output as asked. -/
def BodyRuns : Prop := ∀ (c : Dev nD) (t : Fin cfg0.N) (s : St F), (K c).inv t.val s.s6 s.s7 →
  W c (memsAt t) (insAt m c t) none (bodyAt0 (F := F) t) (fun _ s' => (K c).inv (t.val + 1) s'.s6 s'.s7 ∧ (K c).y t.val s'.s5) s

variable {m K}

/-- What the body is called with at point `t`. -/
def bodyPre (m : (ℓ : Loc nD τ sig) → Buf (Elt F) ℓ) (K : Dev nD → Track F) (c : Dev nD) (t : Fin cfg0.N) : sProp 𝕄 :=
  iprop((dats m K 0 c).Φ t.castSucc ∗ (dats m K 0 c).owesAt () t.castSucc
    ∗ owns (c : Thread nD τ) (memsAt t).a1 fullShare (insAt m c t).x1
    ∗ owns (c : Thread nD τ) (memsAt t).a2 fullShare (insAt m c t).x2
    ∗ owns (c : Thread nD τ) (memsAt t).a3 fullShare (insAt m c t).x3
    ∗ owns (c : Thread nD τ) (memsAt t).a4 fullShare (insAt m c t).x4
    ∗ (∃ d, owns (c : Thread nD τ) (memsAt t).a5 fullShare d))

/-- What the body returns at point `t`. -/
def bodyPost (m : (ℓ : Loc nD τ sig) → Buf (Elt F) ℓ) (K : Dev nD → Track F) (c : Dev nD) (t : Fin cfg0.N) : sProp 𝕄 :=
  iprop((dats m K 0 c).Φ t.succ ∗ (dats m K 0 c).owesAt () t.succ
    ∗ owns (c : Thread nD τ) (memsAt t).a1 fullShare (insAt m c t).x1
    ∗ owns (c : Thread nD τ) (memsAt t).a2 fullShare (insAt m c t).x2
    ∗ owns (c : Thread nD τ) (memsAt t).a3 fullShare (insAt m c t).x3
    ∗ owns (c : Thread nD τ) (memsAt t).a4 fullShare (insAt m c t).x4
    ∗ (∃ X, ⌜(K c).y t.val X⌝ ∗ owns (c : Thread nD τ) (memsAt t).a5 fullShare X))

/-- The triple of the body at a point. -/
theorem sound_body (h : BodyRuns m K) (c : Dev nD) (t : Fin cfg0.N) :
    bodyPre m K c t ⊢ wp frame (wpE (defs₀ (F := F)) 𝒱₀ (c : Thread nD τ) none) Set.univ (bodyAt0 (F := F) t) (fun _ => bodyPost m K c t) := by
  unfold bodyPre bodyPost
  rw [show (dats m K 0 c).Φ t.succ = iprop(scr K c (t.val + 1) ∗ ∃ r, prngReg c r) from rfl,
    show (dats m K 0 c).owesAt () t.succ = (dats m K 0 c).owesAt () t.castSucc from rfl,
    show (dats m K 0 c).Φ t.castSucc = iprop(scr K c t.val ∗ ∃ r, prngReg c r) from rfl]
  unfold scr
  iintro ⟨⟨⟨%f6, %f7, %hI, S0, S1⟩, Hg⟩, HO, H1, H2, H3, H4, ⟨%d5, H5⟩⟩
  have hw := h c t ⟨d5, f6, f7⟩ hI
  unfold W R at hw
  iapply (wp_wand frame) $$ [H1 H2 H3 H4 H5 S0 S1]
  · iapply hw
    iframe H1 H2 H3 H4 H5 S0
    iexact S1
  iintro %a ⟨%s', %hQ, H1, H2, H3, H4, H5, S0, S1⟩
  iframe H1 H2 H3 H4 HO Hg
  isplitl [S0 S1]
  · iexists s'.s6, s'.s7
    isplitr
    · ipureintro; exact hQ.1
    isplitl [S0]; · iexact S0
    iexact S1
  · iexists s'.s5
    isplitr
    · ipureintro; exact hQ.2
    iexact H5

/-- The body table's row at the point. -/
theorem defs₀_row (t : Fin cfg0.N) :
    defs₀ (F := F) .tc cfg0.body (cfg0.bodyArgs t (cfg0.slots t)) = bodyAt0 t := by
  unfold defs₀; rw [Defs.onTc_tc]

/-- The body obligation. -/
theorem body_obligation (h : BodyRuns m K) (c : Dev nD) :
    BodyObligationRel (dats m K 0 c) (defs₀ (F := F)) 𝒱₀ () Set.univ outs (rel K c) := fun t => by
  rw [bigSep_W0, bigSep_W0, defs₀_row]
  refine triple_restated (sound_body h c t) rfl ?_ fun _ => ?_
  · unfold bodyPre
    show iprop((dats m K 0 c).Φ t.castSucc ∗ (dats m K 0 c).owesAt () t.castSucc
      ∗ (∃ d, owns (c : Thread nD τ) (memsAt t).a1 fullShare ((dats m K 0 c).before 0 t d))
      ∗ (∃ d, owns (c : Thread nD τ) (memsAt t).a2 fullShare ((dats m K 0 c).before 1 t d))
      ∗ (∃ d, owns (c : Thread nD τ) (memsAt t).a3 fullShare ((dats m K 0 c).before 2 t d))
      ∗ (∃ d, owns (c : Thread nD τ) (memsAt t).a4 fullShare ((dats m K 0 c).before 3 t d))
      ∗ (∃ Y, ⌜((dats m K 0 c).toRRel outs (rel K c)).Finds 4 t Y⌝ ∗ owns (c : Thread nD τ) (memsAt t).a5 fullShare Y)) ⊢ _
    iintro ⟨HΦ, HO, ⟨%d1, H1⟩, ⟨%d2, H2⟩, ⟨%d3, H3⟩, ⟨%d4, H4⟩, ⟨%X5, -, H5⟩⟩
    rw [before0_eq, before1_eq, before2_eq, before3_eq]
    isplitl [HΦ]; · iexact HΦ
    isplitl [HO]; · iexact HO
    isplitl [H1]; · iexact H1
    isplitl [H2]; · iexact H2
    isplitl [H3]; · iexact H3
    isplitl [H4]; · iexact H4
    iexists X5; iexact H5
  · exact .rfl

set_option backward.isDefEq.respectTransparency.types false in
/-- The run of @main: every fair execution ends, the inputs unchanged, the output's blocks as asked, the semaphores at zero. -/
theorem run_main (h : BodyRuns m K) (h0 : ∀ c f6 f7, (K c).inv 0 f6 f7) :
    θ_run defs (onTc (τ := τ) (main (F := F))) (s₀ m ρ)
      (fun r => RDat.FramePost (cfgs 0) (fun c => (dats m K 0 c).toRRel outs (rel K c)) (V m) r ∧ r.2.sem = fun _ => 0) :=
  RDat.θ_run_frame_track (Q' := _) cfgs (0 : Fin 1) launch0 defs₀ 𝒱₀ (fun c => (dats m K 0 c).toRRel outs (rel K c)) m ρ main
    (hbody := fun c => (body_obligation h c).toRRel) (hshare := fun c => (dats m K 0 c).share_full fun _ => rfl)
    (howed := fun _ _ => rfl) (V := V m) (hmain := hmain0 m) (hA := fun _ _ => rfl)
    (hin := fun c => by
      show Pipeline.ΦA spec0 c ⊢ iprop(scr K c 0 ∗ ∃ r, prngReg c r)
      unfold Pipeline.ΦA scr
      rw [scopedRest0_eq]
      iintro ⟨⟨⟨%f0, S0⟩, ⟨%f1, S1⟩⟩, Hg⟩
      iframe Hg
      simp only [owns_whole_eq]
      iexists f0, f1
      isplitr
      · ipureintro; exact h0 _ _ _
      isplitl [S0]; · iexists f0; isplitr; · (ipureintro; rfl)
                      iexact S0
      iexists f1; isplitr; · (ipureintro; rfl)
      iexact S1)
    (hout := fun c => by
      show iprop(scr K c _ ∗ ∃ r, prngReg c r) ⊢ Pipeline.ΦA spec0 c
      unfold Pipeline.ΦA scr
      rw [scopedRest0_eq]
      simp only [owns_whole_eq]
      iintro ⟨⟨%e0, %e1, -, ⟨%f0, -, S0⟩, ⟨%f1, -, S1⟩⟩, Hg⟩
      iframe Hg
      isplitl [S0]; · iexists f0; iexact S0
      iexists f1; iexact S1)

end Cert.Proof.SI
-- ==== Proof.SI.Host.lean ====
/-
  What the host operations leave for the region of `SparseIdeal`, the tables the precondition gives the body, the frame, and
  what the result array holds after the run: in each column the sum over that column's entries.
-/
module

public import proofs.«01_k».proof.Proof.SI.Run
public import proofs.«01_k».proof.Proof.SparsePre
public import Idealize.ShloMosaic.Lib.KernelVsHost
public import Idealize.ShloMosaic.Lib.Pipeline.ArrRel
public import Idealize.ShloMosaic.Lib.Pipeline.ValueKit

@[expose] public section

noncomputable section

namespace Cert.Proof.SI

open Cert.SparseIdeal Cert.SparseIdeal.Gen
open Idealize.ShloMosaic hiding ix1 ix2 eq_ix1 eq_ix2
open Idealize.ShloMosaic.TcCoe Idealize.ShloMosaic.Tactic
open Idealize.ShloMosaic.StableHlo
open Idealize.ShloMosaic.ValueIdx
open Idealize.ShloMosaic.Pipeline (Dat RDat)
open Idealize.SL Idealize.SL.Sem

variable {F : FTy → Type} [FloatOps F]
variable (m : (ℓ : Loc nD τ sig) → Buf (Elt F) ℓ) (ρ : Dev nD → PrngReg)

theorem V_arg0 (c : Dev nD) : V m c main_arg0 = m ((c.tc : Thread nD τ).loc main_arg0) := by
  rw [V_def]
  simp only [hostAll, List.flatten_cons, List.flatten_nil, List.cons_append, List.nil_append, List.append_nil, hostOps0,
    hostOps0_1, hostOps0_2, hostOps0_3, hostOps0_4, TRef.unary, TRef.binary, TRef.toBuf, TRef.ofBuf, cast_eq]
  after_results_simp <;> rfl

theorem V_arg1 (c : Dev nD) : V m c main_arg1 = m ((c.tc : Thread nD τ).loc main_arg1) := by
  rw [V_def]
  simp only [hostAll, List.flatten_cons, List.flatten_nil, List.cons_append, List.nil_append, List.append_nil, hostOps0,
    hostOps0_1, hostOps0_2, hostOps0_3, hostOps0_4, TRef.unary, TRef.binary, TRef.toBuf, TRef.ofBuf, cast_eq]
  after_results_simp <;> rfl

theorem V_arg2 (c : Dev nD) : V m c main_arg2 = m ((c.tc : Thread nD τ).loc main_arg2) := by
  rw [V_def]
  simp only [hostAll, List.flatten_cons, List.flatten_nil, List.cons_append, List.nil_append, List.append_nil, hostOps0,
    hostOps0_1, hostOps0_2, hostOps0_3, hostOps0_4, TRef.unary, TRef.binary, TRef.toBuf, TRef.ofBuf, cast_eq]
  after_results_simp <;> rfl

theorem V_arg3 (c : Dev nD) : V m c main_arg3 = m ((c.tc : Thread nD τ).loc main_arg3) := by
  rw [V_def]
  simp only [hostAll, List.flatten_cons, List.flatten_nil, List.cons_append, List.nil_append, List.append_nil, hostOps0,
    hostOps0_1, hostOps0_2, hostOps0_3, hostOps0_4, TRef.unary, TRef.binary, TRef.toBuf, TRef.ofBuf, cast_eq]
  after_results_simp <;> rfl

/-- The activations' words as the host leaves them, -/
theorem V_v0 (c : Dev nD) : V m c main_v0 = shapeCast _ (m ((c.tc : Thread nD τ).loc main_arg0)) shapeCasts_S5x384x1536_S1920x1536 := by
  rw [V_def]
  simp only [hostAll, List.flatten_cons, List.flatten_nil, List.cons_append, List.nil_append, List.append_nil, hostOps0,
    hostOps0_1, hostOps0_2, hostOps0_3, hostOps0_4, TRef.unary, TRef.binary, TRef.toBuf, TRef.ofBuf, cast_eq]
  after_results_simp <;> rfl

/-- the addresses, -/
theorem V_v3 (c : Dev nD) : V m c main_v3 = pad S65024 ![0] ![3093] ![0]
    (muli (m ((c.tc : Thread nD τ).loc main_arg2)) (broadcastInDim S61931 ![] bcast_S_S61931 (constantI S_ 32 8#32)))
    (constantI S_ 32 0#32) pads_S61931_S65024_030930 h_S_ := by
  rw [V_def]
  simp only [hostAll, List.flatten_cons, List.flatten_nil, List.cons_append, List.nil_append, List.append_nil, hostOps0,
    hostOps0_1, hostOps0_2, hostOps0_3, hostOps0_4, TRef.unary, TRef.binary, TRef.toBuf, TRef.ofBuf, cast_eq]
  after_results_simp <;> rfl

/-- and the values. -/
theorem V_v10 (c : Dev nD) : V m c main_v10 = shapeCast _ (transpose S254x8x32 [0, 2, 1] (shapeCast S254x32x8 (pad S65024 ![0] ![3093] ![0]
    (muli (extui 32 (m ((c.tc : Thread nD τ).loc main_arg3)) natLt_16_32) (broadcastInDim S61931 ![] bcast_S_S61931 (constantI S_ 32 65537#32)))
    (constantI S_ 32 0#32) pads_S61931_S65024_030930 h_S_) shapeCasts_S65024_S254x32x8) transposes_S254x32x8_S254x8x32_0_2_1) shapeCasts_S254x8x32_S2032x32 := by
  rw [V_def]
  simp only [hostAll, List.flatten_cons, List.flatten_nil, List.cons_append, List.nil_append, List.append_nil, hostOps0,
    hostOps0_1, hostOps0_2, hostOps0_3, hostOps0_4, TRef.unary, TRef.binary, TRef.toBuf, TRef.ofBuf, cast_eq]
  after_results_simp <;> rfl

theorem index0 : ∀ t : Fin cfg0.N, win0_0.index t = ![0] := (by decide +kernel : ∀ t : Fin grid0.N, win0_0.index t = ![0])
theorem index1 : ∀ t : Fin cfg0.N, win0_1.index t = ![0] := (by decide +kernel : ∀ t : Fin grid0.N, win0_1.index t = ![0])
theorem index2 : ∀ t : Fin cfg0.N, win0_2.index t = ![0, 0] := (by decide +kernel : ∀ t : Fin grid0.N, win0_2.index t = ![0, 0])
theorem index3 : ∀ t : Fin cfg0.N, win0_3.index t = ![0, 0] := (by decide +kernel : ∀ t : Fin grid0.N, win0_3.index t = ![0, 0])
theorem index4 : ∀ t : Fin cfg0.N, win0_4.index t = ![0, t.val - 1] := (by decide +kernel : ∀ t : Fin grid0.N, win0_4.index t = ![0, t.val - 1])
theorem flush4 : ∀ t : Fin cfg0.N, (cfg0.win 4).flush t = true → 0 < t.val :=
  (by decide +kernel : ∀ t : Fin grid0.N, win0_4.flush t = true → 0 < t.val)
theorem coord_val : ∀ t : Fin cfg0.N, (grid0.coords t 0).val = t.val := (by decide +kernel : ∀ t : Fin grid0.N, (grid0.coords t 0).val = t.val)

/-! The body finds the whole arrays at every point. -/

theorem ins_x1 (c : Dev nD) (t : Fin cfg0.N) (n : Fin 8961) : (insAt m c t).x1 (ix1 n) = V m c main_arg1 (ix1 n) := by
  show iblk m c 0 t (ix1 n) = _
  blk_ext [iblk, index0]
theorem ins_x2 (c : Dev nD) (t : Fin cfg0.N) (n : Fin 65024) : (insAt m c t).x2 (ix1 n) = V m c main_v3 (ix1 n) := by
  show iblk m c 1 t (ix1 n) = _
  blk_ext [iblk, index1]
theorem ins_x3 (c : Dev nD) (t : Fin cfg0.N) (n : Fin 1920) (k : Fin 1536) : (insAt m c t).x3 (ix2 n k) = V m c main_v0 (ix2 n k) := by
  show iblk m c 2 t (ix2 n k) = _
  blk_ext [iblk, index2]
theorem ins_x4 (c : Dev nD) (t : Fin cfg0.N) (n : Fin 2032) (k : Fin 32) : (insAt m c t).x4 (ix2 n k) = V m c main_v10 (ix2 n k) := by
  show iblk m c 3 t (ix2 n k) = _
  blk_ext [iblk, index3]

/-- The arrays the body finds. -/
def ins (c : Dev nD) : Ins F where
  x1 := fun i => V m c main_arg1 i
  x2 := fun i => V m c main_v3 i
  x3 := fun i => V m c main_v0 i
  x4 := fun i => V m c main_v10 i

theorem insAt_eq (c : Dev nD) (t : Fin cfg0.N) : insAt m c t = ins m c := by
  have h1 : (insAt m c t).x1 = (ins m c).x1 := funext fun i => by rw [eq_ix1 i]; exact ins_x1 m c t _
  have h2 : (insAt m c t).x2 = (ins m c).x2 := funext fun i => by rw [eq_ix1 i]; exact ins_x2 m c t _
  have h3 : (insAt m c t).x3 = (ins m c).x3 := funext fun i => by rw [eq_ix2 i]; exact ins_x3 m c t _ _
  have h4 : (insAt m c t).x4 = (ins m c).x4 := funext fun i => by rw [eq_ix2 i]; exact ins_x4 m c t _ _
  calc insAt m c t = ⟨(insAt m c t).x1, (insAt m c t).x2, (insAt m c t).x3, (insAt m c t).x4⟩ := rfl
    _ = ins m c := by rw [h1, h2, h3, h4]

/-- The address of an entry: eight times its column, zero past the last entry. -/
theorem addr (c : Dev nD) (h : Tables (m ((c.tc : Thread nD τ).loc main_arg1)) (m ((c.tc : Thread nD τ).loc main_arg2))) (i : S65024.Idx) :
    if hi : (i 0).val < 61931 then (V m c main_v3 i : BitVec 32).toNat = 8 * (m ((c.tc : Thread nD τ).loc main_arg2) (ix1 ⟨(i 0).val, hi⟩) : BitVec 32).toNat
    else (V m c main_v3 i : BitVec 32).toNat = 0 := by
  rw [V_v3]
  have hmul : ∀ x : BitVec 32, x.toNat < 1536 → x.toNat * (8#32).toNat < 2 ^ 32 := fun x hx => by
    rw [show (8#32).toNat = 8 from rfl]; omega
  split
  · rename_i hi
    rw [pad_apply_of_inside _ _ _ _ _ _ _ i (ix1 ⟨(i 0).val, hi⟩)
      (fun a => by match a with | ⟨0, _⟩ => show (i 0).val = 0 + (i 0).val * (0 + 1); omega)]
    show (_ * 8#32 : BitVec 32).toNat = _
    rw [BitVec.toNat_mul, Nat.mod_eq_of_lt, Nat.mul_comm]
    · rfl
    · exact hmul _ (h.col_lt _)
  · rename_i hi
    rw [pad_apply_of_not_inside _ _ _ _ _ _ _ i 0 (fun hh => hi (by
      have : ((i 0).val - 0) / (0 + 1) < 61931 := hh.2.2
      rw [Nat.sub_zero, Nat.zero_add, Nat.div_one] at this; exact this))]
    rfl

/-- The tables of a run whose arguments satisfy the precondition are what the body needs. -/
theorem good_insAt (c : Dev nD) (t : Fin cfg0.N)
    (h : Tables (m ((c.tc : Thread nD τ).loc main_arg1)) (m ((c.tc : Thread nD τ).loc main_arg2))) : Good (insAt m c t) := by
  have h3 : ∀ i : S65024.Idx, 8 ∣ (V m c main_v3 i : BitVec 32).toNat ∧ (V m c main_v3 i : BitVec 32).toNat < 12288 := fun i => by
    have e := addr m c h i
    split at e
    · rw [e]; exact ⟨Nat.dvd_mul_right _ _, by have := h.col_lt (ix1 ⟨(i 0).val, by assumption⟩); omega⟩
    · rw [e]; exact ⟨Nat.dvd_zero _, by decide⟩
  rw [insAt_eq]
  exact ⟨fun i => by
      show (V m c main_arg1 _ : BitVec 32).toNat ≤ 61931
      rw [V_arg1]; exact h.rp_le _,
    fun i => (h3 i).1, fun i => (h3 i).2⟩

/-- What is kept along the grid: after a point the activations are packed and its half holds its block's sums; at every
    point but the first the output window is the sums of the point before. -/
def track (c : Dev nD) : Track F where
  inv t f6 f7 := ∀ u : Fin cfg0.N, u.val + 1 = t → XT (ins m c) (fun _ _ => True) f6
    ∧ ∀ k : Fin 256, At (par (grid0.coords u)) k (colsum (ins m c) (blk (grid0.coords u) * 256 + k.val)) f7
  y t Z := ∀ u : Fin cfg0.N, u.val + 1 = t → Out (fun k => colsum (ins m c) (blk (grid0.coords u) * 256 + k.val)) (fun _ _ => True) Z

/-- The body keeps it. -/
theorem bodyRuns (h : ∀ c : Dev nD, Tables (m ((c.tc : Thread nD τ).loc main_arg1)) (m ((c.tc : Thread nD τ).loc main_arg2))) :
    BodyRuns m (track m) := fun c t s hI => by
  have hG := good_insAt m c t (h c)
  rw [insAt_eq] at hG ⊢
  refine W_mono (body_w hG _ s fun h0 => ?_) fun _ s' hP => ⟨fun u hu => ?_, fun u hu => ?_⟩
  · rw [coord_val] at h0
    exact (hI ⟨t.val - 1, by have := t.isLt; omega⟩ (by show t.val - 1 + 1 = t.val; omega)).1
  · obtain rfl : u = t := Fin.ext (by omega)
    exact ⟨hP.1, hP.2.1⟩
  · refine hP.2.2 (by rw [coord_val]; omega) _ fun k => ?_
    have e : alt (par (grid0.coords t)) = par (grid0.coords u) := by
      apply Fin.ext
      show 1 - (grid0.coords t 0).val % 2 = (grid0.coords u 0).val % 2
      rw [coord_val, coord_val]; omega
    rw [e]
    exact (hI u hu).2 k

/-- Every buffer the claims read keeps its contents in a run that ends as the launch says. -/
theorem args_kept (K : Dev nD → Track F) {r : PUnit × MemSt nD τ sig (Elt F)}
    (h : RDat.FramePost (cfgs 0) (fun c => (dats m K 0 c).toRRel outs (rel K c)) (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  ⟨((h c).2 main_arg0 (Pipeline.mem_restRefs_of main_arg0 (by decide) (fun w => (by decide : ∀ w : Fin 5, (spec0 w).arr.view.ref ≠ main_arg0) w))).trans (V_arg0 m c),
    (RDat.FramePost.arr_in h c 0 rfl).trans (V_arg1 m c),
    ((h c).2 main_arg2 (Pipeline.mem_restRefs_of main_arg2 (by decide) (fun w => (by decide : ∀ w : Fin 5, (spec0 w).arr.view.ref ≠ main_arg2) w))).trans (V_arg2 m c),
    ((h c).2 main_arg3 (Pipeline.mem_restRefs_of main_arg3 (by decide) (fun w => (by decide : ∀ w : Fin 5, (spec0 w).arr.view.ref ≠ main_arg3) w))).trans (V_arg3 m c)⟩

/-- An element of the result. -/
def elt (c : Dev nD) (u : Fin 15) (a : Fin 128) (q : ℕ) : Elt F .f32 := colsum (ins m c) q (ix2 ⟨u.val, by omega⟩ a)

/-- The result array after the run, element by element. -/
theorem result {r : PUnit × MemSt nD τ sig (Elt F)}
    (h : RDat.FramePost (cfgs 0) (fun c => (dats m (track m) 0 c).toRRel outs (rel (track m) c)) (V m) r) (c : Dev nD)
    (u : Fin 15) (a : Fin 128) (q : Fin 8960) :
    r.2.mem ((c.tc : Thread nD τ).loc main_v11) (ix2 ⟨128 * u.val + a.val, by omega⟩ q) = elt m c u a q.val := by
  obtain ⟨after, hL, hA⟩ := RDat.FramePost.exists_exact h c
  have hM : r.2.mem ((c.tc : Thread nD τ).loc main_v11) = (((dats m (track m) 0 c).toRRel outs (rel (track m) c)).withAfter after).arrAt 4 cfg0.N := hA 4
  rw [hM]
  refine Dat.arrAt_forall_of_covers (cfg := cfg0) _ 4
    (fun i v => ∀ (u : Fin 15) (a : Fin 128) (q : Fin 8960), (i 0).val = 128 * u.val + a.val → (i 1).val = q.val → v = elt m c u a q.val)
    (by decide +kernel) (fun t hf y => ?_) (ix2 (⟨128 * u.val + a.val, by omega⟩ : Fin 1920) q) (Memref.isWhole_whole _) u a q rfl rfl
  intro u a q h0 h1
  have ht := flush4 t hf
  have hy := Dat.toRRel_leaves (dats m (track m) 0 c) (w := 4) (fgt := outs) rfl (hL 4 t hf)
    ⟨t.val - 1, by have := t.isLt; omega⟩ (by show t.val - 1 + 1 = t.val; omega)
  blk_simp [index4] at h0 h1
  blk_simp
  have hN : t.val < 36 := t.isLt
  have hy1 : (y 1).val < 256 := (y 1).isLt
  have ey : y = ix2 ⟨128 * u.val + a.val, by omega⟩ ⟨128 * ((y 1).val / 128) + (y 1).val % 128, by omega⟩ := by
    funext x
    apply Fin.ext
    match x with
    | ⟨0, _⟩ => exact h0
    | ⟨1, _⟩ => exact (Nat.div_add_mod _ _).symm
  have hfin := hy u ⟨(y 1).val / 128, by omega⟩ trivial a ⟨(y 1).val % 128, by omega⟩
  show after 4 t y = _
  rw [ey]
  refine hfin.trans ?_
  have hb : blk (grid0.coords (⟨t.val - 1, by omega⟩ : Fin cfg0.N)) * 256 + (128 * ((y 1).val / 128) + (y 1).val % 128) = q.val := by
    unfold blk
    rw [coord_val]
    show min (t.val - 1) 34 * 256 + _ = _
    omega
  show colsum _ (blk _ * 256 + (128 * ((y 1).val / 128) + (y 1).val % 128)) _ = _
  rw [hb]
  rfl

end Cert.Proof.SI
-- ==== Proof.SI.Term.lean ====
/-
  One entry's product and a column's sum over the extended reals.
-/
module

public import proofs.«01_k».proof.Proof.SI.Host
public import Idealize.ShloMosaic.Lib.Pointwise
public import Idealize.ShloMosaic.Lib.BitcastPair
public import Idealize.ShloMosaic.PureOps.Ideal.Laws

@[expose] public section

noncomputable section

namespace Cert.Proof.SI

open Cert.SparseIdeal Cert.SparseIdeal.Gen
open Idealize.ShloMosaic hiding ix1 ix2 ix3 eq_ix1 eq_ix2
open Idealize.ShloMosaic.TcCoe Idealize.ShloMosaic.Tactic
open Idealize.ShloMosaic.ValueIdx

theorem tn_app0 (v : BitVec 16) : (v ++ 0#16 : BitVec 32).toNat = v.toNat * 65536 := by
  rw [BitVec.toNat_append]
  simp [Nat.shiftLeft_eq]

/-- A bf16 pattern in the upper half of a word is the same value at f32. -/
theorem ofBits_widen (v : BitVec 16) : Ideal.ofBits .f32 (v ++ 0#16 : BitVec 32) = Ideal.ofBits .bf16 v := by
  have hv := v.isLt
  have hs : (v ++ 0#16 : BitVec 32).extractLsb' (8 + 23) 1 = v.extractLsb' (8 + 7) 1 := by
    apply BitVec.eq_of_toNat_eq
    rw [BitVec.extractLsb'_toNat, BitVec.extractLsb'_toNat, tn_app0, Nat.shiftRight_eq_div_pow, Nat.shiftRight_eq_div_pow]
    omega
  have he : ((v ++ 0#16 : BitVec 32).extractLsb' 23 8).toNat = (v.extractLsb' 7 8).toNat := by
    rw [BitVec.extractLsb'_toNat, BitVec.extractLsb'_toNat, tn_app0, Nat.shiftRight_eq_div_pow, Nat.shiftRight_eq_div_pow]
    omega
  have hf : ((v ++ 0#16 : BitVec 32).extractLsb' 0 23).toNat = (v.extractLsb' 0 7).toNat * 65536 := by
    rw [BitVec.extractLsb'_toNat, BitVec.extractLsb'_toNat, tn_app0, Nat.shiftRight_eq_div_pow, Nat.shiftRight_eq_div_pow]
    omega
  show Ideal.ieee 8 23 (v ++ 0#16 : BitVec 32) = Ideal.ieee 8 7 v
  unfold Ideal.ieee
  dsimp only
  rw [hs, he, hf]
  have h16 : (65536 : ℝ) = 2 ^ (16 : ℤ) := by norm_num
  generalize (v.extractLsb' 7 8).toNat = ex
  generalize (v.extractLsb' 0 7).toNat = fr
  generalize (v.extractLsb' (8 + 7) 1 == 1#1) = ng
  have hz : (fr * 65536 = 0) = (fr = 0) := by rw [eq_iff_iff]; omega
  simp only [hz]
  have e1 : ∀ (s : ℝ), s * ((fr * 65536 : ℕ) : ℝ) * (2 : ℝ) ^ (1 - (2 ^ (8 - 1) - 1) - (23 : ℕ) : ℤ) = s * (fr : ℝ) * (2 : ℝ) ^ (1 - (2 ^ (8 - 1) - 1) - (7 : ℕ) : ℤ) := fun s => by
    push_cast
    rw [h16, show (-133 : ℤ) = 16 + -149 by norm_num, zpow_add₀ (by norm_num)]
    ring
  have e2 : ∀ (s : ℝ), s * ((2 ^ 23 + fr * 65536 : ℕ) : ℝ) * (2 : ℝ) ^ ((ex : ℤ) - (2 ^ (8 - 1) - 1) - (23 : ℕ) : ℤ) = s * ((2 ^ 7 + fr : ℕ) : ℝ) * (2 : ℝ) ^ ((ex : ℤ) - (2 ^ (8 - 1) - 1) - (7 : ℕ) : ℤ) := fun s => by
    push_cast
    rw [show ((ex : ℤ) - 127 - 7 : ℤ) = 16 + ((ex : ℤ) - 127 - 23) by ring, zpow_add₀ (by norm_num)]
    norm_num
    ring
  rw [e1, e2]

/-- A value doubled into both halves of a word, its lower half cleared. -/
theorem doubled (v : BitVec 16) : (IntOp.andi (BitVec.setWidth 32 v * 65537#32) 4294901760#32 : BitVec 32) = v ++ 0#16 := by
  have h : (BitVec.setWidth 32 v * 65537#32 : BitVec 32) = v ++ v := by
    apply BitVec.eq_of_toNat_eq
    have hv := v.isLt
    rw [BitVec.toNat_append, ← Nat.shiftLeft_add_eq_or_of_lt hv, Nat.shiftLeft_eq, BitVec.toNat_mul, BitVec.toNat_setWidth,
      Nat.mod_eq_of_lt (show v.toNat < 2 ^ 32 by omega), show (65537#32).toNat = 65537 from rfl]
    omega
  rw [h]
  apply BitVec.eq_of_getLsbD_eq
  intro i hi'
  rw [app_bit]
  unfold IntOp.andi
  rw [BitVec.getLsbD_and, app_bit]
  interval_cases i <;> simp

/-- The halves of the words of a column. -/
theorem bitcast_row (v : S8x128.Idx → BitVec 32) (r : Fin 16) (l : Fin 128) :
    bitcast S16x128 16 v bitcasts_S8x128_w32_S16x128_w16 (ix2 r l)
      = (v (ix2 ⟨r.val / 2, by omega⟩ l)).extractLsb' (16 * (r.val % 2)) 16 := by
  rw [bitcast_32_16]
  have hr : S16x128.row (ix2 r l) = r.val := by unfold Shape.row; rw [dif_pos (by decide)]; rfl
  have hs : ∀ hp, bitcasts_S8x128_w32_S16x128_w16.srcIdx (ix2 r l) (S16x128.row (ix2 r l) / 2) hp = ix2 ⟨r.val / 2, by omega⟩ l := by
    intro hp
    funext a
    apply Fin.ext
    match a with
    | ⟨0, _⟩ => exact (Shape.Bitcasts.srcIdx_row _ _ _ _ _ rfl).trans (by rw [hr])
    | ⟨1, _⟩ => exact (Shape.Bitcasts.srcIdx_other _ _ _ _ _ (show ¬ (1 + 2 = 2) by decide))
  rw [hs, hr]

/-- One entry's product at an element. -/
theorem term_apply (v39 : Vec Ideal S1x32 .i32) (v58 : Vec Ideal S8x128 .i32) (a : BitVec 32) (r : Fin 16) (l : Fin 128) :
    term (F := Ideal) v39 v58 a (ix2 r l) = Ideal.ofBits .bf16 ((v58 (ix2 ⟨r.val / 2, by omega⟩ l) : BitVec 32).extractLsb' (16 * (r.val % 2)) 16)
      * ∑ k : Fin 32, Scalar.select (IntOp.cmpi .eq (BitVec.ofNat 32 k.val) (Scalar.shrui (Scalar.andi a 255#32) 3#32))
          (Ideal.ofBits .f32 (IntOp.andi (v39 (ix2 0 k)) 4294901760#32)) (0 : EReal) := by
  pointwise [term]
  refine congrArg₂ (· * ·) (congrArg (Ideal.ofBits .bf16) (bitcast_row v58 r l)) (Finset.sum_congr rfl fun k _ => ?_)
  refine congrArg (fun z => Scalar.select _ (Ideal.ofBits .f32 (IntOp.andi (v39 z) 4294901760#32)) (0 : EReal)) (ix2_eq_valueIdx _ _)

/-- The values' layout. -/
theorem vlay (P : S65024.Idx → BitVec 32) (r : Fin 2032) (k : Fin 32) :
    shapeCast S2032x32 (transpose S254x8x32 [0, 2, 1] (shapeCast S254x32x8 P shapeCasts_S65024_S254x32x8) transposes_S254x32x8_S254x8x32_0_2_1) shapeCasts_S254x8x32_S2032x32 (ix2 r k)
      = P (ix1 ⟨r.val / 8 * 256 + k.val * 8 + r.val % 8, by omega⟩) := by
  pointwise
  exact congrArg P (ix1_eq_valueIdx _)

/-- A half of a packed word is the activation's word of its row. -/
theorem half_xword (f : S1920x1536.Idx → BitVec 16) (k : Fin 1536) (r : Fin 15) (l : Fin 128) :
    (xword f k ⟨r.val / 2, by omega⟩ l).extractLsb' (16 * (r.val % 2)) 16 = f (ix2 ⟨128 * r.val + l.val, by omega⟩ k) := by
  have hlo : ∀ h l : BitVec 16, (h ++ l : BitVec 32).extractLsb' 0 16 = l := fun h l => by
    apply BitVec.eq_of_getLsbD_eq
    intro i hi
    rw [BitVec.getLsbD_extractLsb', app_bit]
    simp [hi]
  have hhi : ∀ h l : BitVec 16, (h ++ l : BitVec 32).extractLsb' 16 16 = h := fun h l => by
    apply BitVec.eq_of_getLsbD_eq
    intro i hi
    rw [BitVec.getLsbD_extractLsb', app_bit]
    simp [hi]
  have hr := r.isLt
  unfold xword
  rcases Nat.mod_two_eq_zero_or_one r.val with h0 | h1
  · rw [h0, Nat.mul_zero]
    split
    · rw [hlo]
      exact congrArg (fun z => f (ix2 z k)) (Fin.ext (by show 256 * (r.val / 2) + l.val = 128 * r.val + l.val; omega))
    · rw [hlo]
      exact congrArg (fun z => f (ix2 z k)) (Fin.ext (by show 256 * (r.val / 2) + l.val = 128 * r.val + l.val; omega))
  · rw [h1, Nat.mul_one, dif_pos (show r.val / 2 < 7 by omega), hhi]
    exact congrArg (fun z => f (ix2 z k)) (Fin.ext (by show 256 * (r.val / 2) + 128 + l.val = 128 * r.val + l.val; omega))

/-- The lane of an entry is the one picked. -/
theorem pick_lane (e : ℕ) (he : e < 65024) (g : Fin 32 → EReal) :
    ∑ k : Fin 32, Scalar.select (IntOp.cmpi .eq (BitVec.ofNat 32 k.val) (Scalar.shrui (Scalar.andi (BitVec.ofNat 32 e) 255#32) 3#32)) (g k) (0 : EReal)
      = g ⟨e % 256 / 8, by omega⟩ := by
  have hw : (Scalar.shrui (Scalar.andi (BitVec.ofNat 32 e) 255#32) 3#32).toNat = e % 256 / 8 := by
    rw [tn_shrui3, tn_and255, BitVec.toNat_ofNat]
    omega
  rw [Finset.sum_eq_single (⟨e % 256 / 8, by omega⟩ : Fin 32)]
  · have : IntOp.cmpi .eq (BitVec.ofNat 32 (e % 256 / 8)) (Scalar.shrui (Scalar.andi (BitVec.ofNat 32 e) 255#32) 3#32) = 1#1 := by
      rw [IntOp.cmpi_eq]
      apply BitVec.eq_of_toNat_eq
      rw [hw, BitVec.toNat_ofNat]
      omega
    show Scalar.select (IntOp.cmpi .eq (BitVec.ofNat 32 (e % 256 / 8)) _) _ _ = _
    rw [this]
    rfl
  · intro k _ hk
    have : IntOp.cmpi .eq (BitVec.ofNat 32 k.val) (Scalar.shrui (Scalar.andi (BitVec.ofNat 32 e) 255#32) 3#32) = 0#1 := by
      refine (BitVec.eq_zero_or_eq_one _).resolve_right fun h => hk (Fin.ext ?_)
      have h' := congrArg BitVec.toNat (IntOp.cmpi_eq.1 h)
      rw [hw, BitVec.toNat_ofNat] at h'
      have := k.isLt
      show k.val = e % 256 / 8
      omega
    rw [this]
    rfl
  · intro h
    exact absurd (Finset.mem_univ _) h

/-- An entry's product: the activation in its column, times its value; zero past the last entry. -/
def prod (x : S1920x1536.Idx → BitVec 16) (cols : IVec S61931 32) (vals : IVec S61931 16) (n : Fin 1920) (e : ℕ) : EReal :=
  if h : e < 61931 then Ideal.ofBits .bf16 (x (ix2 n ⟨(cols (ix1 ⟨e, h⟩)).toNat % 1536, Nat.mod_lt _ (by decide)⟩)) * Ideal.ofBits .bf16 (vals (ix1 ⟨e, h⟩))
  else 0

/-- A word of the row pointer. -/
def ptr (p : IVec S8961 32) (n : ℕ) : ℕ := (p (ix1 ⟨n % 8961, Nat.mod_lt _ (by decide)⟩)).toNat

/-- The result's mathematics: in each column the sum of the products of its entries. -/
def spec (x : S1920x1536.Idx → BitVec 16) (p : IVec S8961 32) (cols : IVec S61931 32) (vals : IVec S61931 16) (n : Fin 1920) (q : Fin 8960) : EReal :=
  ∑ i ∈ Finset.range (ptr p (q.val + 1) - ptr p q.val), prod x cols vals n (ptr p q.val + i)

section Values

variable (m : (ℓ : Loc nD τ sig) → Buf (Elt Ideal) ℓ) (c : Dev nD)

/-- The entry's value in the table of values. -/
theorem value (e : ℕ) (he : e < 61931) :
    vrow (ins m c) e (ix2 0 ⟨e % 256 / 8, by omega⟩) = BitVec.setWidth 32 (m ((c.tc : Thread nD τ).loc main_arg3) (ix1 ⟨e, he⟩) : BitVec 16) * 65537#32 := by
  show V m c main_v10 (ix2 ⟨(e / 256 * 8 + e % 8) % 2032, _⟩ ⟨e % 256 / 8, _⟩) = _
  rw [V_v10, vlay]
  have hix : (ix1 ⟨(e / 256 * 8 + e % 8) % 2032 / 8 * 256 + e % 256 / 8 * 8 + (e / 256 * 8 + e % 8) % 2032 % 8, by omega⟩ : S65024.Idx) = ix1 ⟨e, by omega⟩ :=
    congrArg ix1 (Fin.ext (by show (e / 256 * 8 + e % 8) % 2032 / 8 * 256 + e % 256 / 8 * 8 + (e / 256 * 8 + e % 8) % 2032 % 8 = e; omega))
  refine (congrArg _ hix).trans ?_
  rw [pad_apply_of_inside _ _ _ _ _ _ _ (ix1 ⟨e, by omega⟩ : S65024.Idx) (ix1 ⟨e, he⟩)
      (fun a => by match a with | ⟨0, _⟩ => show e = 0 + e * (0 + 1); omega)]
  rfl

/-- One entry's product, in closed form. -/
theorem tm_apply (h : Tables (m ((c.tc : Thread nD τ).loc main_arg1)) (m ((c.tc : Thread nD τ).loc main_arg2))) (e : ℕ) (he : e < 61931) (r : Fin 15) (l : Fin 128) :
    tm (ins m c) e (ix2 ⟨r.val, by omega⟩ l) = prod (V m c main_v0) (m ((c.tc : Thread nD τ).loc main_arg2)) (m ((c.tc : Thread nD τ).loc main_arg3)) ⟨128 * r.val + l.val, by omega⟩ e := by
  unfold tm prod
  rw [dif_pos he, term_apply, pick_lane e (by omega) (fun k => Ideal.ofBits .f32 (IntOp.andi (vrow (ins m c) e (ix2 0 k)) 4294901760#32)), value m c e he, doubled, ofBits_widen]
  refine congrArg (fun z => Ideal.ofBits .bf16 z * _) ?_
  refine (half_xword (ins m c).x3 _ r l).trans ?_
  show V m c main_v0 _ = V m c main_v0 _
  refine congrArg (fun z => V m c main_v0 (ix2 _ z)) (Fin.ext ?_)
  have ha := addr m c h (ix1 ⟨e % 65024, Nat.mod_lt _ (by decide)⟩)
  have hm : e % 65024 = e := Nat.mod_eq_of_lt (by omega)
  rw [dif_pos (show e % 65024 < 61931 by omega)] at ha
  have hix : (ix1 ⟨e % 65024, by omega⟩ : S61931.Idx) = ix1 ⟨e, he⟩ := congrArg ix1 (Fin.ext hm)
  show (V m c main_v3 (ix1 ⟨e % 65024, _⟩) : BitVec 32).toNat / 8 % 1536 = _
  rw [ha]
  show 8 * (m ((c.tc : Thread nD τ).loc main_arg2) (ix1 ⟨e % 65024, _⟩) : BitVec 32).toNat / 8 % 1536 = _
  rw [hix, Nat.mul_div_cancel_left _ (by decide)]

/-- A running sum is the sum of the products. -/
theorem sums_apply (X : Ins Ideal) (e n : ℕ) (j : S16x128.Idx) : sums X e n j = ∑ i ∈ Finset.range n, tm X (e + i) j := by
  induction n with
  | zero => exact Ideal.ofBits_zero_f32
  | succ n ih =>
    rw [Finset.sum_range_succ, ← ih]
    rfl

/-- An element of the result, in closed form. -/
theorem elt_apply (h : Tables (m ((c.tc : Thread nD τ).loc main_arg1)) (m ((c.tc : Thread nD τ).loc main_arg2))) (u : Fin 15) (a : Fin 128) (q : Fin 8960) :
    elt m c u a q.val = spec (V m c main_v0) (m ((c.tc : Thread nD τ).loc main_arg1)) (m ((c.tc : Thread nD τ).loc main_arg2)) (m ((c.tc : Thread nD τ).loc main_arg3)) ⟨128 * u.val + a.val, by omega⟩ q := by
  unfold elt colsum spec
  rw [sums_apply]
  have hp : ∀ n, rp (ins m c) n = ptr (m ((c.tc : Thread nD τ).loc main_arg1)) n := fun n => by
    show (V m c main_arg1 _ : BitVec 32).toNat = _
    rw [V_arg1]
    rfl
  have hle : ptr (m ((c.tc : Thread nD τ).loc main_arg1)) (q.val + 1) ≤ 61931 := h.rp_le _
  rw [hp, hp]
  refine Finset.sum_congr rfl fun i hi => tm_apply m c h _ ?_ u a
  have := Finset.mem_range.1 hi
  omega

end Values

end Cert.Proof.SI
-- ==== Proof.TI.Value.lean ====
/-
  The sums' reference over the extended reals, in closed form.
-/
module

public import proofs.«01_k».proof.Proof.SI.Term
public import proofs.«01_k».proof.Proof.Gen.SumsIdeal.Run
public import Idealize.ShloMosaic.Lib.StackMember

@[expose] public section

noncomputable section

namespace Cert.Proof.TI

open Cert.SumsIdeal
open Cert.SumsIdeal.Facts₀
open Idealize.ShloMosaic hiding ix1 ix2 ix3 eq_ix1 eq_ix2
open Idealize.ShloMosaic.TcCoe Idealize.ShloMosaic.Tactic
open Idealize.ShloMosaic.ValueIdx
open Idealize.SL.Sem

/-- The columns the gather reads. -/
def at_ (cols : IVec S61931 32) : IVec S61931 32 :=
  select (cmpi .slt cols (broadcastInDim S61931 ![] bcast_S_S61931 (constantI S_ 32 0#32))) (addi cols (broadcastInDim S61931 ![] bcast_S_S61931 (constantI S_ 32 1536#32))) cols

/-- The gathered activations. -/
def xs (x : FVec Ideal S1920x1536 .bf16) (cols : IVec S61931 32) : FVec Ideal S1920x61931 .bf16 :=
  Host.gather gather_S1920x1536_S61931x1_S1920x61931_0_1_n_n_1_1_19201 x (broadcastInDim S61931x1 ![0] bcast_S61931_S61931x1_0 (at_ cols))

/-- The entries' products. -/
def prods (x : FVec Ideal S1920x1536 .bf16) (cols : IVec S61931 32) (vals : IVec S61931 16) : FVec Ideal S1920x61931 .f32 :=
  mulf (extf .f32 (xs x cols) bitsLt_bf16_f32) (broadcastInDim S1920x61931 ![0, 1] bcast_S1x61931_S1920x61931_0_1 (broadcastInDim S1x61931 ![1] bcast_S61931_S1x61931_1 (extf .f32 (bitcastToFloat (F := Ideal) .bf16 vals) bitsLt_bf16_f32)))

/-- Which entry is in which column. -/
def member (p : IVec S8961 32) : IVec S61931x8960 1 :=
  andi (cmpi .sle (broadcastInDim S61931x8960 ![0, 1] bcast_S1x8960_S61931x8960_0_1 (broadcastInDim S1x8960 ![1] bcast_S8960_S1x8960_1 (extractStridedSlice S8960 ![0] p slices_S8961_S8960_0))) (broadcastInDim S61931x8960 ![0, 1] bcast_S61931x1_S61931x8960_0_1 (broadcastInDim S61931x1 ![0] bcast_S61931_S61931x1_0 (iotaInDim S61931 32 0))))
    (cmpi .slt (broadcastInDim S61931x8960 ![0, 1] bcast_S61931x1_S61931x8960_0_1 (broadcastInDim S61931x1 ![0] bcast_S61931_S61931x1_0 (iotaInDim S61931 32 0))) (broadcastInDim S61931x8960 ![0, 1] bcast_S1x8960_S61931x8960_0_1 (broadcastInDim S1x8960 ![1] bcast_S8960_S1x8960_1 (extractStridedSlice S8960 ![1] p slices_S8961_S8960_1))))

/-- The whole reference. -/
def whole (x : FVec Ideal S1920x1536 .bf16) (p : IVec S8961 32) (cols : IVec S61931 32) (vals : IVec S61931 16) : FVec Ideal S1920x8960 .f32 :=
  Host.dotGeneral dot_S1920x61931_S61931x8960_S1920x8960_1_0_0_1_n_n none (prods x cols vals) (uitofp (F := Ideal) .f32 (member p))

/-- The column the gather reads for an entry is the entry's own. -/
theorem at_apply (cols : IVec S61931 32) (e : Fin 61931) (h : (cols (ix1 e)).toNat < 1536) : at_ cols (ix1 e) = cols (ix1 e) := by
  have : IntOp.cmpi .slt (cols (ix1 e)) 0#32 = 0#1 := by
    refine (BitVec.eq_zero_or_eq_one _).resolve_right fun h' => ?_
    have h'' := IntOp.cmpi_slt.1 h'
    rw [BitVec.toInt_eq_toNat_of_lt (by omega)] at h''
    have : (0#32 : BitVec 32).toInt = 0 := by decide
    omega
  show Scalar.select (IntOp.cmpi .slt (cols (ix1 e)) 0#32) _ _ = _
  rw [this]
  rfl

/-- The gather of one column per entry. -/
theorem gather_col {α : Type} (x : S1920x1536.Idx → α) (idx : IVec S61931x1 32) (n : Fin 1920) (e : Fin 61931) (b : Fin 1536)
    (hb : (idx (ix2 e (0 : Fin 1))).toNat = b.val) :
    Host.gather gather_S1920x1536_S61931x1_S1920x61931_0_1_n_n_1_1_19201 x idx (ix2 n e) = x (ix2 n b) := by
  unfold Host.gather
  refine congrArg x (funext fun a => Fin.ext ?_)
  let d : GatherDims S1920x1536 S61931x1 S1920x61931 := gather_S1920x1536_S61931x1_S1920x61931_0_1_n_n_1_1_19201
  have hbN : ∀ a', a' ∉ d.operandBatchingDims := fun a' => List.not_mem_nil
  match a with
  | ⟨1, _⟩ =>
    have hk : (1 : Fin 2) ∉ d.sKept := fun h => ((d.mem_sKept 1).1 h).1 (List.mem_singleton.2 rfl)
    have hm : (1 : Fin 2) ∈ d.startIndexMap := List.mem_singleton.2 rfl
    show d.start (ix2 n e) idx 1 + d.batchCoord (ix2 n e) 1 + d.offCoord (ix2 n e) 1 = b.val
    rw [d.batchCoord_eq_zero _ _ (hbN 1), d.offCoord_eq_zero _ _ hk]
    simp only [Nat.add_zero]
    unfold GatherDims.start
    rw [dif_pos hm]
    have hsi : d.siIdx (ix2 n e) ⟨d.startIndexMap.idxOf 1, List.idxOf_lt_length_iff.2 hm⟩ = ix2 e (0 : Fin 1) := by
      funext b'
      apply Fin.ext
      match b' with
      | ⟨0, _⟩ => rfl
      | ⟨1, _⟩ => rfl
    have hbl := b.isLt
    rw [hsi, BitVec.toInt_eq_toNat_of_lt (by omega), hb]
    show min ((b.val : Int)).toNat 1535 = b.val
    omega
  | ⟨0, _⟩ =>
    have hk : (0 : Fin 2) ∈ d.sKept := (d.mem_sKept 0).2 ⟨by show (0 : Fin 2) ∉ [1]; decide, hbN 0⟩
    have hm : (0 : Fin 2) ∉ d.startIndexMap := by show (0 : Fin 2) ∉ [1]; decide
    show d.start (ix2 n e) idx 0 + d.batchCoord (ix2 n e) 0 + d.offCoord (ix2 n e) 0 = n.val
    rw [d.batchCoord_eq_zero _ _ (hbN 0), Nat.add_zero]
    unfold GatherDims.start GatherDims.offCoord
    rw [dif_neg hm, dif_pos hk, Nat.zero_add]
    rfl

theorem xs_apply (x : FVec Ideal S1920x1536 .bf16) (cols : IVec S61931 32) (n : Fin 1920) (e : Fin 61931) (h : (cols (ix1 e)).toNat < 1536) :
    xs x cols (ix2 n e) = x (ix2 n ⟨(cols (ix1 e)).toNat % 1536, Nat.mod_lt _ (by decide)⟩) := by
  refine gather_col x _ n e _ ?_
  have : broadcastInDim S61931x1 ![0] bcast_S61931_S61931x1_0 (at_ cols) (ix2 e (0 : Fin 1)) = at_ cols (ix1 e) := by
    pointwise
    exact congrArg _ (ix1_eq_valueIdx _)
  rw [this, at_apply cols e h]
  exact (Nat.mod_eq_of_lt h).symm

theorem prods_apply (x : FVec Ideal S1920x1536 .bf16) (cols : IVec S61931 32) (vals : IVec S61931 16) (n : Fin 1920) (e : Fin 61931) :
    prods x cols vals (ix2 n e) = xs x cols (ix2 n e) * Ideal.ofBits .bf16 (vals (ix1 e)) := by
  pointwise [prods]
  exact congrArg (fun z => xs x cols (ix2 n e) * Ideal.ofBits .bf16 (vals z)) (ix1_eq_valueIdx _)

theorem member_apply (p : IVec S8961 32) (e : Fin 61931) (q : Fin 8960) :
    member p (ix2 e q) = IntOp.andi (IntOp.cmpi .sle (p (ix1 ⟨q.val, by omega⟩)) (BitVec.ofNat 32 e.val)) (IntOp.cmpi .slt (BitVec.ofNat 32 e.val) (p (ix1 ⟨q.val + 1, by omega⟩))) := by
  pointwise [member]
  refine congrArg₂ IntOp.andi (congrArg (fun z => IntOp.cmpi .sle (p z) (BitVec.ofNat 32 e.val)) (ix1_eq_valueIdx _))
    (congrArg (fun z => IntOp.cmpi .slt (BitVec.ofNat 32 e.val) (p z)) ((ix1_eq_valueIdx _).trans (congrArg ix1 (Fin.ext (Nat.add_comm _ _)))))

theorem whole_sum (x : FVec Ideal S1920x1536 .bf16) (p : IVec S8961 32) (cols : IVec S61931 32) (vals : IVec S61931 16) (n : Fin 1920) (q : Fin 8960) :
    whole x p cols vals (ix2 n q) = ∑ e : Fin 61931, prods x cols vals (ix2 n e) * (((member p (ix2 e q)).toNat : ℝ) : EReal) := by
  exact StackMember.dotGeneral_plain_apply none (prods x cols vals) (uitofp (F := Ideal) .f32 (member p)) n q

/-- An entry counts in a column where it lies between the column's two pointers. -/
theorem member_val (p : IVec S8961 32) (hp : ∀ i, (p i).toNat ≤ 61931) (e : Fin 61931) (q : Fin 8960) :
    (((member p (ix2 e q)).toNat : ℝ) : EReal) = if SI.ptr p q.val ≤ e.val ∧ e.val < SI.ptr p (q.val + 1) then 1 else 0 := by
  rw [member_apply]
  have h0 : SI.ptr p q.val = (p (ix1 ⟨q.val, by omega⟩)).toNat :=
    congrArg (fun z => (p (ix1 z)).toNat) (Fin.ext (Nat.mod_eq_of_lt (by omega)))
  have h1 : SI.ptr p (q.val + 1) = (p (ix1 ⟨q.val + 1, by omega⟩)).toNat :=
    congrArg (fun z => (p (ix1 z)).toNat) (Fin.ext (Nat.mod_eq_of_lt (by omega)))
  have he : (BitVec.ofNat 32 e.val).toInt = e.val := by
    rw [toInt_of_le (n := 61931) (by decide) (by rw [BitVec.toNat_ofNat]; have := e.isLt; omega), BitVec.toNat_ofNat]
    have := e.isLt
    omega
  rw [h0, h1, show ∀ x y : BitVec 32, IntOp.cmpi .sle x y = BitVec.ofBool (decide (x.toInt ≤ y.toInt)) from fun _ _ => rfl,
    show ∀ x y : BitVec 32, IntOp.cmpi .slt x y = BitVec.ofBool (decide (x.toInt < y.toInt)) from fun _ _ => rfl, he, toInt_of_le (by decide) (hp _), toInt_of_le (by decide) (hp _)]
  by_cases a : (p (ix1 ⟨q.val, by omega⟩)).toNat ≤ e.val <;> by_cases b : e.val < (p (ix1 ⟨q.val + 1, by omega⟩)).toNat
  · rw [if_pos ⟨a, b⟩, decide_eq_true (Int.ofNat_le.2 a), decide_eq_true (Int.ofNat_lt.2 b)]
    show (((1 : ℕ) : ℝ) : EReal) = 1
    simp
  · rw [if_neg (fun h => b h.2), decide_eq_true (Int.ofNat_le.2 a), decide_eq_false (fun h => b (Int.ofNat_lt.1 h))]
    show (((0 : ℕ) : ℝ) : EReal) = 0
    simp
  · rw [if_neg (fun h => a h.1), decide_eq_false (fun h => a (Int.ofNat_le.1 h)), decide_eq_true (Int.ofNat_lt.2 b)]
    show (((0 : ℕ) : ℝ) : EReal) = 0
    simp
  · rw [if_neg (fun h => a h.1), decide_eq_false (fun h => a (Int.ofNat_le.1 h)), decide_eq_false (fun h => b (Int.ofNat_lt.1 h))]
    show (((0 : ℕ) : ℝ) : EReal) = 0
    simp

/-- A sum over all entries, each counted where it lies between two bounds, is the sum between the bounds. -/
theorem sum_between (f : ℕ → EReal) (n a b : ℕ) (hb : b ≤ n) :
    ∑ e : Fin n, f e.val * (if a ≤ e.val ∧ e.val < b then 1 else 0) = ∑ i ∈ Finset.range (b - a), f (a + i) := by
  rw [Fin.sum_univ_eq_sum_range (fun e => f e * (if a ≤ e ∧ e < b then 1 else 0)) n, ← Finset.sum_Ico_eq_sum_range]
  have hs : Finset.Ico a b = (Finset.range n).filter (fun e => a ≤ e ∧ e < b) := by
    ext e
    simp only [Finset.mem_Ico, Finset.mem_filter, Finset.mem_range]
    omega
  rw [hs, Finset.sum_filter]
  refine Finset.sum_congr rfl fun e _ => ?_
  split
  · rw [mul_one]
  · rw [mul_zero]

/-- The reference's result, in closed form. -/
theorem whole_apply (w : S1920x1536.Idx → BitVec 16) (p : IVec S8961 32) (cols : IVec S61931 32) (vals : IVec S61931 16) (h : Tables p cols) (n : Fin 1920) (q : Fin 8960) :
    whole (fun i => Ideal.ofBits .bf16 (w i)) p cols vals (ix2 n q) = SI.spec w p cols vals n q := by
  rw [whole_sum]
  unfold SI.spec
  rw [← sum_between (SI.prod w cols vals n) 61931 _ _ (show SI.ptr p (q.val + 1) ≤ 61931 from h.rp_le _)]
  refine Finset.sum_congr rfl fun e _ => ?_
  rw [member_val p h.rp_le, prods_apply, xs_apply _ _ _ _ (h.col_lt _)]
  unfold SI.prod
  rw [dif_pos e.isLt]

end Cert.Proof.TI
-- ==== Proof.TI.Same.lean ====
/-
  The sums' program and its reference leave the same result over the extended reals.
-/
module

public import proofs.«01_k».proof.Proof.TI.Value

@[expose] public section

noncomputable section

namespace Cert.Proof

open Idealize.ShloMosaic hiding ix1 ix2 ix3
open Idealize.ShloMosaic.TcCoe
open Idealize.ShloMosaic.ValueIdx
open Idealize.ShloMosaic.Pipeline (RDat)
open Idealize.SL.Sem

/-- The result both leave. -/
def commonSums (m : (ℓ : Loc Cert.SparseIdeal.nD Cert.SparseIdeal.τ Cert.SparseIdeal.sig) → Buf (Elt Ideal) ℓ) (c : Dev Cert.SparseIdeal.nD) :
    Buf (Elt Ideal) ((c.tc : Thread Cert.SparseIdeal.nD Cert.SparseIdeal.τ).loc Cert.SparseIdeal.main_v11) :=
  fun i => SI.spec (shapeCast Cert.SparseIdeal.S1920x1536 (m ((c.tc : Thread Cert.SparseIdeal.nD Cert.SparseIdeal.τ).loc Cert.SparseIdeal.main_arg0)) Cert.SparseIdeal.Facts₀.shapeCasts_S5x384x1536_S1920x1536)
    (m ((c.tc : Thread Cert.SparseIdeal.nD Cert.SparseIdeal.τ).loc Cert.SparseIdeal.main_arg1)) (m ((c.tc : Thread Cert.SparseIdeal.nD Cert.SparseIdeal.τ).loc Cert.SparseIdeal.main_arg2))
    (m ((c.tc : Thread Cert.SparseIdeal.nD Cert.SparseIdeal.τ).loc Cert.SparseIdeal.main_arg3)) (i 0) (i 1)

/-- The sums' program leaves it. -/
theorem sparse_result (m : (ℓ : Loc Cert.SparseIdeal.nD Cert.SparseIdeal.τ Cert.SparseIdeal.sig) → Buf (Elt Ideal) ℓ) {r : PUnit × MemSt Cert.SparseIdeal.nD Cert.SparseIdeal.τ Cert.SparseIdeal.sig (Elt Ideal)}
    (h : RDat.FramePost (Cert.SparseIdeal.cfgs 0) (fun c => (SI.dats m (SI.track m) 0 c).toRRel SI.outs (SI.rel (SI.track m) c)) (SI.V m) r)
    (ht : ∀ c : Dev Cert.SparseIdeal.nD, Tables (m ((c.tc : Thread Cert.SparseIdeal.nD Cert.SparseIdeal.τ).loc Cert.SparseIdeal.main_arg1)) (m ((c.tc : Thread Cert.SparseIdeal.nD Cert.SparseIdeal.τ).loc Cert.SparseIdeal.main_arg2)))
    (c : Dev Cert.SparseIdeal.nD) : r.2.mem ((c.tc : Thread Cert.SparseIdeal.nD Cert.SparseIdeal.τ).loc Cert.SparseIdeal.main_v11) = commonSums m c := by
  funext i
  have h0 : (i 0).val < 1920 := (i 0).isLt
  have h1 : (i 1).val < 8960 := (i 1).isLt
  have e : i = ix2 (⟨128 * ((i 0).val / 128) + (i 0).val % 128, by omega⟩ : Fin 1920) (⟨(i 1).val, h1⟩ : Fin 8960) := by
    funext a
    apply Fin.ext
    match a with
    | ⟨0, _⟩ => exact (Nat.div_add_mod _ _).symm
    | ⟨1, _⟩ => rfl
  rw [e]
  refine (SI.result m h c ⟨(i 0).val / 128, by omega⟩ ⟨(i 0).val % 128, by omega⟩ ⟨(i 1).val, h1⟩).trans ?_
  refine (SI.elt_apply m c (ht c) _ _ _).trans ?_
  rw [SI.V_v0]
  rfl

/-- The reference leaves it, from equal arguments. -/
theorem sums_result (m : (ℓ : Loc Cert.SparseIdeal.nD Cert.SparseIdeal.τ Cert.SparseIdeal.sig) → Buf (Elt Ideal) ℓ)
    (m' : (ℓ : Loc Cert.SumsIdeal.nD Cert.SumsIdeal.τ Cert.SumsIdeal.sig) → Buf (Elt Ideal) ℓ) (c : Dev Cert.SparseIdeal.nD)
    (ht : Tables (m ((c.tc : Thread Cert.SparseIdeal.nD Cert.SparseIdeal.τ).loc Cert.SparseIdeal.main_arg1)) (m ((c.tc : Thread Cert.SparseIdeal.nD Cert.SparseIdeal.τ).loc Cert.SparseIdeal.main_arg2)))
    (e0 : m' ((c.tc : Thread Cert.SumsIdeal.nD Cert.SumsIdeal.τ).loc Cert.SumsIdeal.main_arg0) = m ((c.tc : Thread Cert.SparseIdeal.nD Cert.SparseIdeal.τ).loc Cert.SparseIdeal.main_arg0))
    (e1 : m' ((c.tc : Thread Cert.SumsIdeal.nD Cert.SumsIdeal.τ).loc Cert.SumsIdeal.main_arg1) = m ((c.tc : Thread Cert.SparseIdeal.nD Cert.SparseIdeal.τ).loc Cert.SparseIdeal.main_arg1))
    (e2 : m' ((c.tc : Thread Cert.SumsIdeal.nD Cert.SumsIdeal.τ).loc Cert.SumsIdeal.main_arg2) = m ((c.tc : Thread Cert.SparseIdeal.nD Cert.SparseIdeal.τ).loc Cert.SparseIdeal.main_arg2))
    (e3 : m' ((c.tc : Thread Cert.SumsIdeal.nD Cert.SumsIdeal.τ).loc Cert.SumsIdeal.main_arg3) = m ((c.tc : Thread Cert.SparseIdeal.nD Cert.SparseIdeal.τ).loc Cert.SparseIdeal.main_arg3)) :
    TI.whole (shapeCast _ (bitcastToFloat (F := Ideal) .bf16 (m' ((c.tc : Thread Cert.SumsIdeal.nD Cert.SumsIdeal.τ).loc Cert.SumsIdeal.main_arg0))) Cert.SumsIdeal.Facts₀.shapeCasts_S5x384x1536_S1920x1536)
      (m' ((c.tc : Thread Cert.SumsIdeal.nD Cert.SumsIdeal.τ).loc Cert.SumsIdeal.main_arg1)) (m' ((c.tc : Thread Cert.SumsIdeal.nD Cert.SumsIdeal.τ).loc Cert.SumsIdeal.main_arg2))
      (m' ((c.tc : Thread Cert.SumsIdeal.nD Cert.SumsIdeal.τ).loc Cert.SumsIdeal.main_arg3)) = commonSums m c := by
  rw [e0, e1, e2, e3]
  funext i
  rw [ValueIdx.eq_ix2 i]
  exact TI.whole_apply _ _ _ _ ht _ _

end Cert.Proof
-- ==== Proof.lean ====
module

public import proofs.«01_k».proof.Proof.Gen.Sparse
public import proofs.«01_k».proof.Proof.Gen.SparseIdeal
public import proofs.«01_k».proof.Proof.Gen.SumsIdeal
public import proofs.«01_k».proof.Proof.Gen.SumsIdeal.Run
public import proofs.«01_k».proof.Proof.Gen.Pre_sparse_pre
public import proofs.«01_k».proof.Defs
public import proofs.«01_k».proof.Proof.Gen.Kernel
public import proofs.«01_k».proof.Proof.Gen.KernelIdeal
public import proofs.«01_k».proof.Proof.Gen.Dense
public import proofs.«01_k».proof.Proof.Gen.DenseIdeal
public import proofs.«01_k».proof.Proof.Gen.ReferenceIdeal
public import proofs.«01_k».proof.Proof.Gen.ReferenceIdeal.Run
public import proofs.«01_k».proof.Proof.Gen.Pre_pre
public import proofs.«01_k».proof.Proof.D.Run
public import proofs.«01_k».proof.Proof.DI.Run
public import proofs.«01_k».proof.Proof.RI.Same
public import proofs.«01_k».proof.Proof.K.Host
public import proofs.«01_k».proof.Proof.KI.Host
public import proofs.«01_k».proof.Proof.S.Host
public import proofs.«01_k».proof.Proof.SparsePre
public import proofs.«01_k».proof.Proof.TI.Same
public import Idealize.ShloMosaic.Adequacy
public import Idealize.ShloMosaic.Init

@[expose] public section

noncomputable section

namespace Cert.Proof

open Idealize.ShloMosaic Idealize.ShloMosaic.TcCoe Idealize.SL.Sem

/-- The kernel, on hardware floats, terminates with its arguments unchanged. -/
theorem quiescent_Kernel : Cert.quiescent_Kernel := fun m g hpre =>
  (θ_run _ _ _).mono (fun _ h => ⟨fun c => K.args_kept m _ h.1 c, h.2⟩)
    (K.run_main (m := m) g (K.bodyRuns0 m fun c => tables _ _ _ _ _ _ (hpre c)) fun _ _ _ _ _ => trivial)

/-- The kernel, on ideal floats, terminates with its arguments unchanged. -/
theorem quiescent_KernelIdeal : Cert.quiescent_KernelIdeal := fun m g hpre =>
  (θ_run _ _ _).mono (fun _ h => ⟨fun c => KI.args_kept m _ h.1 c, h.2⟩)
    (KI.run_main (m := m) g (KI.bodyRuns0 m fun c => tables _ _ _ _ _ _ (hpre c)) fun _ _ _ _ _ => trivial)

/-- The dense program, on hardware floats, terminates with its arguments unchanged. -/
theorem quiescent_Dense : Cert.quiescent_Dense := fun m g _ =>
  (θ_run _ _ _).mono (fun _ h => ⟨fun c => D.args_kept _ h.1 c, h.2⟩)
    (D.run_main (m := m) g D.bodyRuns0 fun _ _ => trivial)

/-- The dense program, on ideal floats, terminates with its arguments unchanged. -/
theorem quiescent_DenseIdeal : Cert.quiescent_DenseIdeal := fun m g _ =>
  (θ_run _ _ _).mono (fun _ h => ⟨fun c => DI.args_kept _ h.1 c, h.2⟩)
    (DI.run_main (m := m) g DI.bodyRuns0 fun _ _ => trivial)

/-- The reference, on ideal floats, terminates with its arguments unchanged. -/
theorem quiescent_ReferenceIdeal : Cert.quiescent_ReferenceIdeal := fun m g _ =>
  (θ_run _ _ _).mono (fun _ h => ⟨fun c => (h c).2, sem_eq_zero_of_no_sems (by decide) _⟩)
    (Cert.ReferenceIdeal.Value.run m g)

/-- From equal arguments the dense program and its reference leave the same result. -/
theorem algebraic : Cert.algebraic_DenseIdeal_ReferenceIdeal := fun m g m' g' _ hargs =>
  ⟨common m,
    (θ_run _ _ _).mono (fun _ h c => ⟨dense_result m h.1 c, DI.args_kept _ h.1 c⟩)
      (DI.run_main (m := m) g (DI.bodyRuns m) fun _ _ _ hu => absurd hu (Nat.succ_ne_zero _)),
    (θ_run _ _ _).mono (fun _ h c => ⟨(h c).1.trans (ref_result m m' c (hargs c).1 (hargs c).2.1 (hargs c).2.2.1 (hargs c).2.2.2), (h c).2⟩)
      (Cert.ReferenceIdeal.Value.run m' g')⟩

/-- The sums' program, on hardware floats, terminates with its arguments unchanged. -/
theorem quiescent_Sparse : Cert.quiescent_Sparse := fun m g hpre =>
  (θ_run _ _ _).mono (fun _ h => ⟨fun c => S.args_kept m _ h.1 c, h.2⟩)
    (S.run_main (m := m) g (S.bodyRuns m fun c => sparse_tables _ _ _ _ (hpre c)) fun _ _ _ _ hu => absurd hu (Nat.succ_ne_zero _))

/-- The sums' program, on ideal floats, terminates with its arguments unchanged. -/
theorem quiescent_SparseIdeal : Cert.quiescent_SparseIdeal := fun m g hpre =>
  (θ_run _ _ _).mono (fun _ h => ⟨fun c => SI.args_kept m _ h.1 c, h.2⟩)
    (SI.run_main (m := m) g (SI.bodyRuns m fun c => sparse_tables _ _ _ _ (hpre c)) fun _ _ _ _ hu => absurd hu (Nat.succ_ne_zero _))

/-- The sums' reference, on ideal floats, terminates with its arguments unchanged. -/
theorem quiescent_SumsIdeal : Cert.quiescent_SumsIdeal := fun m g _ =>
  (θ_run _ _ _).mono (fun _ h => ⟨fun c => (h c).2, sem_eq_zero_of_no_sems (by decide) _⟩)
    (Cert.SumsIdeal.Value.run m g)

/-- From equal arguments the sums' program and its reference leave the same result. -/
theorem algebraic_sums : Cert.algebraic_SparseIdeal_SumsIdeal := fun m g m' g' hpre hargs =>
  ⟨commonSums m,
    (θ_run _ _ _).mono (fun _ h c => ⟨sparse_result m h.1 (fun c => sparse_tables _ _ _ _ (hpre c)) c, SI.args_kept m _ h.1 c⟩)
      (SI.run_main (m := m) g (SI.bodyRuns m fun c => sparse_tables _ _ _ _ (hpre c)) fun _ _ _ _ hu => absurd hu (Nat.succ_ne_zero _)),
    (θ_run _ _ _).mono (fun _ h c => ⟨(h c).1.trans (sums_result m m' c (sparse_tables _ _ _ _ (hpre c)) (hargs c).1 (hargs c).2.1 (hargs c).2.2.1 (hargs c).2.2.2), (h c).2⟩)
      (Cert.SumsIdeal.Value.run m' g')⟩

/-- The certified claim. -/
theorem claim : Cert.Claim :=
  ⟨inferInstance, inferInstance, inferInstance, inferInstance, inferInstance, inferInstance, inferInstance, inferInstance, inferInstance, inferInstance,
    quiescent_Kernel, quiescent_KernelIdeal, quiescent_Dense, quiescent_DenseIdeal, quiescent_ReferenceIdeal, quiescent_Sparse, quiescent_SparseIdeal,
    quiescent_SumsIdeal, trivial, trivial, algebraic, trivial, algebraic_sums⟩

end Cert.Proof

end
